-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelRefIdeal (m : (ℓ : Loc Cert.KernelRefIdeal.nD Cert.KernelRefIdeal.τ Cert.KernelRefIdeal.sig) → Buf (Elt Ideal) ℓ) : Prop :=
  True

def Pre_Mlp2BwdX (m : (ℓ : Loc Cert.Mlp2BwdX.nD Cert.Mlp2BwdX.τ Cert.Mlp2BwdX.sig) → Buf (Elt Bits) ℓ) : Prop :=
  True

def Pre_Mlp2BwdXIdeal (m : (ℓ : Loc Cert.Mlp2BwdXIdeal.nD Cert.Mlp2BwdXIdeal.τ Cert.Mlp2BwdXIdeal.sig) → Buf (Elt Ideal) ℓ) : Prop :=
  True

def Pre_Mlp2BwdXRefIdeal (m : (ℓ : Loc Cert.Mlp2BwdXRefIdeal.nD Cert.Mlp2BwdXRefIdeal.τ Cert.Mlp2BwdXRefIdeal.sig) → Buf (Elt Ideal) ℓ) : Prop :=
  True

def Pre_Mlp2BwdW (m : (ℓ : Loc Cert.Mlp2BwdW.nD Cert.Mlp2BwdW.τ Cert.Mlp2BwdW.sig) → Buf (Elt Bits) ℓ) : Prop :=
  True

def Pre_Mlp2BwdWIdeal (m : (ℓ : Loc Cert.Mlp2BwdWIdeal.nD Cert.Mlp2BwdWIdeal.τ Cert.Mlp2BwdWIdeal.sig) → Buf (Elt Ideal) ℓ) : Prop :=
  True

def Pre_Mlp2BwdWRefIdeal (m : (ℓ : Loc Cert.Mlp2BwdWRefIdeal.nD Cert.Mlp2BwdWRefIdeal.τ Cert.Mlp2BwdWRefIdeal.sig) → Buf (Elt Ideal) ℓ) : Prop :=
  True

def Pre_Mlp1BwdX (m : (ℓ : Loc Cert.Mlp1BwdX.nD Cert.Mlp1BwdX.τ Cert.Mlp1BwdX.sig) → Buf (Elt Bits) ℓ) : Prop :=
  True

def Pre_Mlp1BwdXIdeal (m : (ℓ : Loc Cert.Mlp1BwdXIdeal.nD Cert.Mlp1BwdXIdeal.τ Cert.Mlp1BwdXIdeal.sig) → Buf (Elt Ideal) ℓ) : Prop :=
  True

def Pre_Mlp1BwdXRefIdeal (m : (ℓ : Loc Cert.Mlp1BwdXRefIdeal.nD Cert.Mlp1BwdXRefIdeal.τ Cert.Mlp1BwdXRefIdeal.sig) → Buf (Elt Ideal) ℓ) : Prop :=
  True

def Pre_Mlp1BwdW (m : (ℓ : Loc Cert.Mlp1BwdW.nD Cert.Mlp1BwdW.τ Cert.Mlp1BwdW.sig) → Buf (Elt Bits) ℓ) : Prop :=
  True

def Pre_Mlp1BwdWIdeal (m : (ℓ : Loc Cert.Mlp1BwdWIdeal.nD Cert.Mlp1BwdWIdeal.τ Cert.Mlp1BwdWIdeal.sig) → Buf (Elt Ideal) ℓ) : Prop :=
  True

def Pre_Mlp1BwdWRefIdeal (m : (ℓ : Loc Cert.Mlp1BwdWRefIdeal.nD Cert.Mlp1BwdWRefIdeal.τ Cert.Mlp1BwdWRefIdeal.sig) → Buf (Elt Ideal) ℓ) : Prop :=
  True

def Pre_InBwdX (m : (ℓ : Loc Cert.InBwdX.nD Cert.InBwdX.τ Cert.InBwdX.sig) → Buf (Elt Bits) ℓ) : Prop :=
  True

def Pre_InBwdXIdeal (m : (ℓ : Loc Cert.InBwdXIdeal.nD Cert.InBwdXIdeal.τ Cert.InBwdXIdeal.sig) → Buf (Elt Ideal) ℓ) : Prop :=
  True

def Pre_InBwdXRefIdeal (m : (ℓ : Loc Cert.InBwdXRefIdeal.nD Cert.InBwdXRefIdeal.τ Cert.InBwdXRefIdeal.sig) → Buf (Elt Ideal) ℓ) : Prop :=
  True

def Pre_InBwdW (m : (ℓ : Loc Cert.InBwdW.nD Cert.InBwdW.τ Cert.InBwdW.sig) → Buf (Elt Bits) ℓ) : Prop :=
  True

def Pre_InBwdWIdeal (m : (ℓ : Loc Cert.InBwdWIdeal.nD Cert.InBwdWIdeal.τ Cert.InBwdWIdeal.sig) → Buf (Elt Ideal) ℓ) : Prop :=
  True

def Pre_InBwdWRefIdeal (m : (ℓ : Loc Cert.InBwdWRefIdeal.nD Cert.InBwdWRefIdeal.τ Cert.InBwdWRefIdeal.sig) → Buf (Elt Ideal) ℓ) : Prop :=
  True

def Pre_OutBwdX (m : (ℓ : Loc Cert.OutBwdX.nD Cert.OutBwdX.τ Cert.OutBwdX.sig) → Buf (Elt Bits) ℓ) : Prop :=
  True

def Pre_OutBwdXIdeal (m : (ℓ : Loc Cert.OutBwdXIdeal.nD Cert.OutBwdXIdeal.τ Cert.OutBwdXIdeal.sig) → Buf (Elt Ideal) ℓ) : Prop :=
  True

def Pre_OutBwdXRefIdeal (m : (ℓ : Loc Cert.OutBwdXRefIdeal.nD Cert.OutBwdXRefIdeal.τ Cert.OutBwdXRefIdeal.sig) → Buf (Elt Ideal) ℓ) : Prop :=
  True

def Pre_OutBwdW (m : (ℓ : Loc Cert.OutBwdW.nD Cert.OutBwdW.τ Cert.OutBwdW.sig) → Buf (Elt Bits) ℓ) : Prop :=
  True

def Pre_OutBwdWIdeal (m : (ℓ : Loc Cert.OutBwdWIdeal.nD Cert.OutBwdWIdeal.τ Cert.OutBwdWIdeal.sig) → Buf (Elt Ideal) ℓ) : Prop :=
  True

def Pre_OutBwdWRefIdeal (m : (ℓ : Loc Cert.OutBwdWRefIdeal.nD Cert.OutBwdWRefIdeal.τ Cert.OutBwdWRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1RefIdeal (m : (ℓ : Loc Cert.Mlp1RefIdeal.nD Cert.Mlp1RefIdeal.τ Cert.Mlp1RefIdeal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2RefIdeal (m : (ℓ : Loc Cert.Mlp2RefIdeal.nD Cert.Mlp2RefIdeal.τ Cert.Mlp2RefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_DmodPrep (m : (ℓ : Loc Cert.DmodPrep.nD Cert.DmodPrep.τ Cert.DmodPrep.sig) → Buf (Elt Bits) ℓ) : Prop :=
  True

def Pre_DmodPrepIdeal (m : (ℓ : Loc Cert.DmodPrepIdeal.nD Cert.DmodPrepIdeal.τ Cert.DmodPrepIdeal.sig) → Buf (Elt Ideal) ℓ) : Prop :=
  True

def Pre_DmodPrepRefIdeal (m : (ℓ : Loc Cert.DmodPrepRefIdeal.nD Cert.DmodPrepRefIdeal.τ Cert.DmodPrepRefIdeal.sig) → Buf (Elt Ideal) ℓ) : Prop :=
  True

def Pre_ModBwdW (m : (ℓ : Loc Cert.ModBwdW.nD Cert.ModBwdW.τ Cert.ModBwdW.sig) → Buf (Elt Bits) ℓ) : Prop :=
  True

def Pre_ModBwdWIdeal (m : (ℓ : Loc Cert.ModBwdWIdeal.nD Cert.ModBwdWIdeal.τ Cert.ModBwdWIdeal.sig) → Buf (Elt Ideal) ℓ) : Prop :=
  True

def Pre_ModBwdWRefIdeal (m : (ℓ : Loc Cert.ModBwdWRefIdeal.nD Cert.ModBwdWRefIdeal.τ Cert.ModBwdWRefIdeal.sig) → Buf (Elt Ideal) ℓ) : Prop :=
  True

def Pre_ModBwdC (m : (ℓ : Loc Cert.ModBwdC.nD Cert.ModBwdC.τ Cert.ModBwdC.sig) → Buf (Elt Bits) ℓ) : Prop :=
  True

def Pre_ModBwdCIdeal (m : (ℓ : Loc Cert.ModBwdCIdeal.nD Cert.ModBwdCIdeal.τ Cert.ModBwdCIdeal.sig) → Buf (Elt Ideal) ℓ) : Prop :=
  True

def Pre_ModBwdCRefIdeal (m : (ℓ : Loc Cert.ModBwdCRefIdeal.nD Cert.ModBwdCRefIdeal.τ Cert.ModBwdCRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdRefIdeal (m : (ℓ : Loc Cert.LossBwdRefIdeal.nD Cert.LossBwdRefIdeal.τ Cert.LossBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelRefIdeal [hKernelRefIdeal : Cert.KernelRefIdeal.Facts] : Prop :=
  ∀ (m : (ℓ : Loc Cert.KernelRefIdeal.nD Cert.KernelRefIdeal.τ Cert.KernelRefIdeal.sig) → Buf (Elt Ideal) ℓ) (g : Dev Cert.KernelRefIdeal.nD → PrngReg), Pre_KernelRefIdeal m →
    θ_run (Cert.KernelRefIdeal.defs (F := Ideal)) (onTc (τ := Cert.KernelRefIdeal.τ) (Cert.KernelRefIdeal.main (F := Ideal))) ⟨m, fun _ => 0, g⟩ (fun r => (∀ c : Dev Cert.KernelRefIdeal.nD,
      r.2.mem ((c.tc : Thread Cert.KernelRefIdeal.nD Cert.KernelRefIdeal.τ).loc Cert.KernelRefIdeal.main_arg0) = m ((c.tc : Thread Cert.KernelRefIdeal.nD Cert.KernelRefIdeal.τ).loc Cert.KernelRefIdeal.main_arg0)
      ∧ r.2.mem ((c.tc : Thread Cert.KernelRefIdeal.nD Cert.KernelRefIdeal.τ).loc Cert.KernelRefIdeal.main_arg1) = m ((c.tc : Thread Cert.KernelRefIdeal.nD Cert.KernelRefIdeal.τ).loc Cert.KernelRefIdeal.main_arg1)
      ∧ r.2.mem ((c.tc : Thread Cert.KernelRefIdeal.nD Cert.KernelRefIdeal.τ).loc Cert.KernelRefIdeal.main_arg2) = m ((c.tc : Thread Cert.KernelRefIdeal.nD Cert.KernelRefIdeal.τ).loc Cert.KernelRefIdeal.main_arg2))
      ∧ r.2.sem = fun _ => 0)

def quiescent_Mlp2BwdX [hMlp2BwdX : Cert.Mlp2BwdX.Facts] : Prop :=
  ∀ (m : (ℓ : Loc Cert.Mlp2BwdX.nD Cert.Mlp2BwdX.τ Cert.Mlp2BwdX.sig) → Buf (Elt Bits) ℓ) (g : Dev Cert.Mlp2BwdX.nD → PrngReg), Pre_Mlp2BwdX m →
    θ_run (Cert.Mlp2BwdX.defs (F := Bits)) (onTc (τ := Cert.Mlp2BwdX.τ) (Cert.Mlp2BwdX.main (F := Bits))) ⟨m, fun _ => 0, g⟩ (fun r => (∀ c : Dev Cert.Mlp2BwdX.nD,
      r.2.mem ((c.tc : Thread Cert.Mlp2BwdX.nD Cert.Mlp2BwdX.τ).loc Cert.Mlp2BwdX.main_arg0) = m ((c.tc : Thread Cert.Mlp2BwdX.nD Cert.Mlp2BwdX.τ).loc Cert.Mlp2BwdX.main_arg0)
      ∧ r.2.mem ((c.tc : Thread Cert.Mlp2BwdX.nD Cert.Mlp2BwdX.τ).loc Cert.Mlp2BwdX.main_arg1) = m ((c.tc : Thread Cert.Mlp2BwdX.nD Cert.Mlp2BwdX.τ).loc Cert.Mlp2BwdX.main_arg1)
      ∧ r.2.mem ((c.tc : Thread Cert.Mlp2BwdX.nD Cert.Mlp2BwdX.τ).loc Cert.Mlp2BwdX.main_arg2) = m ((c.tc : Thread Cert.Mlp2BwdX.nD Cert.Mlp2BwdX.τ).loc Cert.Mlp2BwdX.main_arg2)
      ∧ r.2.mem ((c.tc : Thread Cert.Mlp2BwdX.nD Cert.Mlp2BwdX.τ).loc Cert.Mlp2BwdX.main_arg3) = m ((c.tc : Thread Cert.Mlp2BwdX.nD Cert.Mlp2BwdX.τ).loc Cert.Mlp2BwdX.main_arg3)
      ∧ r.2.mem ((c.tc : Thread Cert.Mlp2BwdX.nD Cert.Mlp2BwdX.τ).loc Cert.Mlp2BwdX.main_arg4) = m ((c.tc : Thread Cert.Mlp2BwdX.nD Cert.Mlp2BwdX.τ).loc Cert.Mlp2BwdX.main_arg4))
      ∧ r.2.sem = fun _ => 0)

def quiescent_Mlp2BwdXIdeal [hMlp2BwdXIdeal : Cert.Mlp2BwdXIdeal.Facts] : Prop :=
  ∀ (m : (ℓ : Loc Cert.Mlp2BwdXIdeal.nD Cert.Mlp2BwdXIdeal.τ Cert.Mlp2BwdXIdeal.sig) → Buf (Elt Ideal) ℓ) (g : Dev Cert.Mlp2BwdXIdeal.nD → PrngReg), Pre_Mlp2BwdXIdeal m →
    θ_run (Cert.Mlp2BwdXIdeal.defs (F := Ideal)) (onTc (τ := Cert.Mlp2BwdXIdeal.τ) (Cert.Mlp2BwdXIdeal.main (F := Ideal))) ⟨m, fun _ => 0, g⟩ (fun r => (∀ c : Dev Cert.Mlp2BwdXIdeal.nD,
      r.2.mem ((c.tc : Thread Cert.Mlp2BwdXIdeal.nD Cert.Mlp2BwdXIdeal.τ).loc Cert.Mlp2BwdXIdeal.main_arg0) = m ((c.tc : Thread Cert.Mlp2BwdXIdeal.nD Cert.Mlp2BwdXIdeal.τ).loc Cert.Mlp2BwdXIdeal.main_arg0)
      ∧ r.2.mem ((c.tc : Thread Cert.Mlp2BwdXIdeal.nD Cert.Mlp2BwdXIdeal.τ).loc Cert.Mlp2BwdXIdeal.main_arg1) = m ((c.tc : Thread Cert.Mlp2BwdXIdeal.nD Cert.Mlp2BwdXIdeal.τ).loc Cert.Mlp2BwdXIdeal.main_arg1)
      ∧ r.2.mem ((c.tc : Thread Cert.Mlp2BwdXIdeal.nD Cert.Mlp2BwdXIdeal.τ).loc Cert.Mlp2BwdXIdeal.main_arg2) = m ((c.tc : Thread Cert.Mlp2BwdXIdeal.nD Cert.Mlp2BwdXIdeal.τ).loc Cert.Mlp2BwdXIdeal.main_arg2)
      ∧ r.2.mem ((c.tc : Thread Cert.Mlp2BwdXIdeal.nD Cert.Mlp2BwdXIdeal.τ).loc Cert.Mlp2BwdXIdeal.main_arg3) = m ((c.tc : Thread Cert.Mlp2BwdXIdeal.nD Cert.Mlp2BwdXIdeal.τ).loc Cert.Mlp2BwdXIdeal.main_arg3)
      ∧ r.2.mem ((c.tc : Thread Cert.Mlp2BwdXIdeal.nD Cert.Mlp2BwdXIdeal.τ).loc Cert.Mlp2BwdXIdeal.main_arg4) = m ((c.tc : Thread Cert.Mlp2BwdXIdeal.nD Cert.Mlp2BwdXIdeal.τ).loc Cert.Mlp2BwdXIdeal.main_arg4))
      ∧ r.2.sem = fun _ => 0)

def quiescent_Mlp2BwdXRefIdeal [hMlp2BwdXRefIdeal : Cert.Mlp2BwdXRefIdeal.Facts] : Prop :=
  ∀ (m : (ℓ : Loc Cert.Mlp2BwdXRefIdeal.nD Cert.Mlp2BwdXRefIdeal.τ Cert.Mlp2BwdXRefIdeal.sig) → Buf (Elt Ideal) ℓ) (g : Dev Cert.Mlp2BwdXRefIdeal.nD → PrngReg), Pre_Mlp2BwdXRefIdeal m →
    θ_run (Cert.Mlp2BwdXRefIdeal.defs (F := Ideal)) (onTc (τ := Cert.Mlp2BwdXRefIdeal.τ) (Cert.Mlp2BwdXRefIdeal.main (F := Ideal))) ⟨m, fun _ => 0, g⟩ (fun r => (∀ c : Dev Cert.Mlp2BwdXRefIdeal.nD,
      r.2.mem ((c.tc : Thread Cert.Mlp2BwdXRefIdeal.nD Cert.Mlp2BwdXRefIdeal.τ).loc Cert.Mlp2BwdXRefIdeal.main_arg0) = m ((c.tc : Thread Cert.Mlp2BwdXRefIdeal.nD Cert.Mlp2BwdXRefIdeal.τ).loc Cert.Mlp2BwdXRefIdeal.main_arg0)
      ∧ r.2.mem ((c.tc : Thread Cert.Mlp2BwdXRefIdeal.nD Cert.Mlp2BwdXRefIdeal.τ).loc Cert.Mlp2BwdXRefIdeal.main_arg1) = m ((c.tc : Thread Cert.Mlp2BwdXRefIdeal.nD Cert.Mlp2BwdXRefIdeal.τ).loc Cert.Mlp2BwdXRefIdeal.main_arg1)
      ∧ r.2.mem ((c.tc : Thread Cert.Mlp2BwdXRefIdeal.nD Cert.Mlp2BwdXRefIdeal.τ).loc Cert.Mlp2BwdXRefIdeal.main_arg2) = m ((c.tc : Thread Cert.Mlp2BwdXRefIdeal.nD Cert.Mlp2BwdXRefIdeal.τ).loc Cert.Mlp2BwdXRefIdeal.main_arg2)
      ∧ r.2.mem ((c.tc : Thread Cert.Mlp2BwdXRefIdeal.nD Cert.Mlp2BwdXRefIdeal.τ).loc Cert.Mlp2BwdXRefIdeal.main_arg3) = m ((c.tc : Thread Cert.Mlp2BwdXRefIdeal.nD Cert.Mlp2BwdXRefIdeal.τ).loc Cert.Mlp2BwdXRefIdeal.main_arg3)
      ∧ r.2.mem ((c.tc : Thread Cert.Mlp2BwdXRefIdeal.nD Cert.Mlp2BwdXRefIdeal.τ).loc Cert.Mlp2BwdXRefIdeal.main_arg4) = m ((c.tc : Thread Cert.Mlp2BwdXRefIdeal.nD Cert.Mlp2BwdXRefIdeal.τ).loc Cert.Mlp2BwdXRefIdeal.main_arg4))
      ∧ r.2.sem = fun _ => 0)

def quiescent_Mlp2BwdW [hMlp2BwdW : Cert.Mlp2BwdW.Facts] : Prop :=
  ∀ (m : (ℓ : Loc Cert.Mlp2BwdW.nD Cert.Mlp2BwdW.τ Cert.Mlp2BwdW.sig) → Buf (Elt Bits) ℓ) (g : Dev Cert.Mlp2BwdW.nD → PrngReg), Pre_Mlp2BwdW m →
    θ_run (Cert.Mlp2BwdW.defs (F := Bits)) (onTc (τ := Cert.Mlp2BwdW.τ) (Cert.Mlp2BwdW.main (F := Bits))) ⟨m, fun _ => 0, g⟩ (fun r => (∀ c : Dev Cert.Mlp2BwdW.nD,
      r.2.mem ((c.tc : Thread Cert.Mlp2BwdW.nD Cert.Mlp2BwdW.τ).loc Cert.Mlp2BwdW.main_arg0) = m ((c.tc : Thread Cert.Mlp2BwdW.nD Cert.Mlp2BwdW.τ).loc Cert.Mlp2BwdW.main_arg0)
      ∧ r.2.mem ((c.tc : Thread Cert.Mlp2BwdW.nD Cert.Mlp2BwdW.τ).loc Cert.Mlp2BwdW.main_arg1) = m ((c.tc : Thread Cert.Mlp2BwdW.nD Cert.Mlp2BwdW.τ).loc Cert.Mlp2BwdW.main_arg1)
      ∧ r.2.mem ((c.tc : Thread Cert.Mlp2BwdW.nD Cert.Mlp2BwdW.τ).loc Cert.Mlp2BwdW.main_arg2) = m ((c.tc : Thread Cert.Mlp2BwdW.nD Cert.Mlp2BwdW.τ).loc Cert.Mlp2BwdW.main_arg2)
      ∧ r.2.mem ((c.tc : Thread Cert.Mlp2BwdW.nD Cert.Mlp2BwdW.τ).loc Cert.Mlp2BwdW.main_arg3) = m ((c.tc : Thread Cert.Mlp2BwdW.nD Cert.Mlp2BwdW.τ).loc Cert.Mlp2BwdW.main_arg3))
      ∧ r.2.sem = fun _ => 0)

def quiescent_Mlp2BwdWIdeal [hMlp2BwdWIdeal : Cert.Mlp2BwdWIdeal.Facts] : Prop :=
  ∀ (m : (ℓ : Loc Cert.Mlp2BwdWIdeal.nD Cert.Mlp2BwdWIdeal.τ Cert.Mlp2BwdWIdeal.sig) → Buf (Elt Ideal) ℓ) (g : Dev Cert.Mlp2BwdWIdeal.nD → PrngReg), Pre_Mlp2BwdWIdeal m →
    θ_run (Cert.Mlp2BwdWIdeal.defs (F := Ideal)) (onTc (τ := Cert.Mlp2BwdWIdeal.τ) (Cert.Mlp2BwdWIdeal.main (F := Ideal))) ⟨m, fun _ => 0, g⟩ (fun r => (∀ c : Dev Cert.Mlp2BwdWIdeal.nD,
      r.2.mem ((c.tc : Thread Cert.Mlp2BwdWIdeal.nD Cert.Mlp2BwdWIdeal.τ).loc Cert.Mlp2BwdWIdeal.main_arg0) = m ((c.tc : Thread Cert.Mlp2BwdWIdeal.nD Cert.Mlp2BwdWIdeal.τ).loc Cert.Mlp2BwdWIdeal.main_arg0)
      ∧ r.2.mem ((c.tc : Thread Cert.Mlp2BwdWIdeal.nD Cert.Mlp2BwdWIdeal.τ).loc Cert.Mlp2BwdWIdeal.main_arg1) = m ((c.tc : Thread Cert.Mlp2BwdWIdeal.nD Cert.Mlp2BwdWIdeal.τ).loc Cert.Mlp2BwdWIdeal.main_arg1)
      ∧ r.2.mem ((c.tc : Thread Cert.Mlp2BwdWIdeal.nD Cert.Mlp2BwdWIdeal.τ).loc Cert.Mlp2BwdWIdeal.main_arg2) = m ((c.tc : Thread Cert.Mlp2BwdWIdeal.nD Cert.Mlp2BwdWIdeal.τ).loc Cert.Mlp2BwdWIdeal.main_arg2)
      ∧ r.2.mem ((c.tc : Thread Cert.Mlp2BwdWIdeal.nD Cert.Mlp2BwdWIdeal.τ).loc Cert.Mlp2BwdWIdeal.main_arg3) = m ((c.tc : Thread Cert.Mlp2BwdWIdeal.nD Cert.Mlp2BwdWIdeal.τ).loc Cert.Mlp2BwdWIdeal.main_arg3))
      ∧ r.2.sem = fun _ => 0)

def quiescent_Mlp2BwdWRefIdeal [hMlp2BwdWRefIdeal : Cert.Mlp2BwdWRefIdeal.Facts] : Prop :=
  ∀ (m : (ℓ : Loc Cert.Mlp2BwdWRefIdeal.nD Cert.Mlp2BwdWRefIdeal.τ Cert.Mlp2BwdWRefIdeal.sig) → Buf (Elt Ideal) ℓ) (g : Dev Cert.Mlp2BwdWRefIdeal.nD → PrngReg), Pre_Mlp2BwdWRefIdeal m →
    θ_run (Cert.Mlp2BwdWRefIdeal.defs (F := Ideal)) (onTc (τ := Cert.Mlp2BwdWRefIdeal.τ) (Cert.Mlp2BwdWRefIdeal.main (F := Ideal))) ⟨m, fun _ => 0, g⟩ (fun r => (∀ c : Dev Cert.Mlp2BwdWRefIdeal.nD,
      r.2.mem ((c.tc : Thread Cert.Mlp2BwdWRefIdeal.nD Cert.Mlp2BwdWRefIdeal.τ).loc Cert.Mlp2BwdWRefIdeal.main_arg0) = m ((c.tc : Thread Cert.Mlp2BwdWRefIdeal.nD Cert.Mlp2BwdWRefIdeal.τ).loc Cert.Mlp2BwdWRefIdeal.main_arg0)
      ∧ r.2.mem ((c.tc : Thread Cert.Mlp2BwdWRefIdeal.nD Cert.Mlp2BwdWRefIdeal.τ).loc Cert.Mlp2BwdWRefIdeal.main_arg1) = m ((c.tc : Thread Cert.Mlp2BwdWRefIdeal.nD Cert.Mlp2BwdWRefIdeal.τ).loc Cert.Mlp2BwdWRefIdeal.main_arg1)
      ∧ r.2.mem ((c.tc : Thread Cert.Mlp2BwdWRefIdeal.nD Cert.Mlp2BwdWRefIdeal.τ).loc Cert.Mlp2BwdWRefIdeal.main_arg2) = m ((c.tc : Thread Cert.Mlp2BwdWRefIdeal.nD Cert.Mlp2BwdWRefIdeal.τ).loc Cert.Mlp2BwdWRefIdeal.main_arg2)
      ∧ r.2.mem ((c.tc : Thread Cert.Mlp2BwdWRefIdeal.nD Cert.Mlp2BwdWRefIdeal.τ).loc Cert.Mlp2BwdWRefIdeal.main_arg3) = m ((c.tc : Thread Cert.Mlp2BwdWRefIdeal.nD Cert.Mlp2BwdWRefIdeal.τ).loc Cert.Mlp2BwdWRefIdeal.main_arg3))
      ∧ r.2.sem = fun _ => 0)

def quiescent_Mlp1BwdX [hMlp1BwdX : Cert.Mlp1BwdX.Facts] : Prop :=
  ∀ (m : (ℓ : Loc Cert.Mlp1BwdX.nD Cert.Mlp1BwdX.τ Cert.Mlp1BwdX.sig) → Buf (Elt Bits) ℓ) (g : Dev Cert.Mlp1BwdX.nD → PrngReg), Pre_Mlp1BwdX m →
    θ_run (Cert.Mlp1BwdX.defs (F := Bits)) (onTc (τ := Cert.Mlp1BwdX.τ) (Cert.Mlp1BwdX.main (F := Bits))) ⟨m, fun _ => 0, g⟩ (fun r => (∀ c : Dev Cert.Mlp1BwdX.nD,
      r.2.mem ((c.tc : Thread Cert.Mlp1BwdX.nD Cert.Mlp1BwdX.τ).loc Cert.Mlp1BwdX.main_arg0) = m ((c.tc : Thread Cert.Mlp1BwdX.nD Cert.Mlp1BwdX.τ).loc Cert.Mlp1BwdX.main_arg0)
      ∧ r.2.mem ((c.tc : Thread Cert.Mlp1BwdX.nD Cert.Mlp1BwdX.τ).loc Cert.Mlp1BwdX.main_arg1) = m ((c.tc : Thread Cert.Mlp1BwdX.nD Cert.Mlp1BwdX.τ).loc Cert.Mlp1BwdX.main_arg1))
      ∧ r.2.sem = fun _ => 0)

def quiescent_Mlp1BwdXIdeal [hMlp1BwdXIdeal : Cert.Mlp1BwdXIdeal.Facts] : Prop :=
  ∀ (m : (ℓ : Loc Cert.Mlp1BwdXIdeal.nD Cert.Mlp1BwdXIdeal.τ Cert.Mlp1BwdXIdeal.sig) → Buf (Elt Ideal) ℓ) (g : Dev Cert.Mlp1BwdXIdeal.nD → PrngReg), Pre_Mlp1BwdXIdeal m →
    θ_run (Cert.Mlp1BwdXIdeal.defs (F := Ideal)) (onTc (τ := Cert.Mlp1BwdXIdeal.τ) (Cert.Mlp1BwdXIdeal.main (F := Ideal))) ⟨m, fun _ => 0, g⟩ (fun r => (∀ c : Dev Cert.Mlp1BwdXIdeal.nD,
      r.2.mem ((c.tc : Thread Cert.Mlp1BwdXIdeal.nD Cert.Mlp1BwdXIdeal.τ).loc Cert.Mlp1BwdXIdeal.main_arg0) = m ((c.tc : Thread Cert.Mlp1BwdXIdeal.nD Cert.Mlp1BwdXIdeal.τ).loc Cert.Mlp1BwdXIdeal.main_arg0)
      ∧ r.2.mem ((c.tc : Thread Cert.Mlp1BwdXIdeal.nD Cert.Mlp1BwdXIdeal.τ).loc Cert.Mlp1BwdXIdeal.main_arg1) = m ((c.tc : Thread Cert.Mlp1BwdXIdeal.nD Cert.Mlp1BwdXIdeal.τ).loc Cert.Mlp1BwdXIdeal.main_arg1))
      ∧ r.2.sem = fun _ => 0)

def quiescent_Mlp1BwdXRefIdeal [hMlp1BwdXRefIdeal : Cert.Mlp1BwdXRefIdeal.Facts] : Prop :=
  ∀ (m : (ℓ : Loc Cert.Mlp1BwdXRefIdeal.nD Cert.Mlp1BwdXRefIdeal.τ Cert.Mlp1BwdXRefIdeal.sig) → Buf (Elt Ideal) ℓ) (g : Dev Cert.Mlp1BwdXRefIdeal.nD → PrngReg), Pre_Mlp1BwdXRefIdeal m →
    θ_run (Cert.Mlp1BwdXRefIdeal.defs (F := Ideal)) (onTc (τ := Cert.Mlp1BwdXRefIdeal.τ) (Cert.Mlp1BwdXRefIdeal.main (F := Ideal))) ⟨m, fun _ => 0, g⟩ (fun r => (∀ c : Dev Cert.Mlp1BwdXRefIdeal.nD,
      r.2.mem ((c.tc : Thread Cert.Mlp1BwdXRefIdeal.nD Cert.Mlp1BwdXRefIdeal.τ).loc Cert.Mlp1BwdXRefIdeal.main_arg0) = m ((c.tc : Thread Cert.Mlp1BwdXRefIdeal.nD Cert.Mlp1BwdXRefIdeal.τ).loc Cert.Mlp1BwdXRefIdeal.main_arg0)
      ∧ r.2.mem ((c.tc : Thread Cert.Mlp1BwdXRefIdeal.nD Cert.Mlp1BwdXRefIdeal.τ).loc Cert.Mlp1BwdXRefIdeal.main_arg1) = m ((c.tc : Thread Cert.Mlp1BwdXRefIdeal.nD Cert.Mlp1BwdXRefIdeal.τ).loc Cert.Mlp1BwdXRefIdeal.main_arg1))
      ∧ r.2.sem = fun _ => 0)

def quiescent_Mlp1BwdW [hMlp1BwdW : Cert.Mlp1BwdW.Facts] : Prop :=
  ∀ (m : (ℓ : Loc Cert.Mlp1BwdW.nD Cert.Mlp1BwdW.τ Cert.Mlp1BwdW.sig) → Buf (Elt Bits) ℓ) (g : Dev Cert.Mlp1BwdW.nD → PrngReg), Pre_Mlp1BwdW m →
    θ_run (Cert.Mlp1BwdW.defs (F := Bits)) (onTc (τ := Cert.Mlp1BwdW.τ) (Cert.Mlp1BwdW.main (F := Bits))) ⟨m, fun _ => 0, g⟩ (fun r => (∀ c : Dev Cert.Mlp1BwdW.nD,
      r.2.mem ((c.tc : Thread Cert.Mlp1BwdW.nD Cert.Mlp1BwdW.τ).loc Cert.Mlp1BwdW.main_arg0) = m ((c.tc : Thread Cert.Mlp1BwdW.nD Cert.Mlp1BwdW.τ).loc Cert.Mlp1BwdW.main_arg0)
      ∧ r.2.mem ((c.tc : Thread Cert.Mlp1BwdW.nD Cert.Mlp1BwdW.τ).loc Cert.Mlp1BwdW.main_arg1) = m ((c.tc : Thread Cert.Mlp1BwdW.nD Cert.Mlp1BwdW.τ).loc Cert.Mlp1BwdW.main_arg1))
      ∧ r.2.sem = fun _ => 0)

def quiescent_Mlp1BwdWIdeal [hMlp1BwdWIdeal : Cert.Mlp1BwdWIdeal.Facts] : Prop :=
  ∀ (m : (ℓ : Loc Cert.Mlp1BwdWIdeal.nD Cert.Mlp1BwdWIdeal.τ Cert.Mlp1BwdWIdeal.sig) → Buf (Elt Ideal) ℓ) (g : Dev Cert.Mlp1BwdWIdeal.nD → PrngReg), Pre_Mlp1BwdWIdeal m →
    θ_run (Cert.Mlp1BwdWIdeal.defs (F := Ideal)) (onTc (τ := Cert.Mlp1BwdWIdeal.τ) (Cert.Mlp1BwdWIdeal.main (F := Ideal))) ⟨m, fun _ => 0, g⟩ (fun r => (∀ c : Dev Cert.Mlp1BwdWIdeal.nD,
      r.2.mem ((c.tc : Thread Cert.Mlp1BwdWIdeal.nD Cert.Mlp1BwdWIdeal.τ).loc Cert.Mlp1BwdWIdeal.main_arg0) = m ((c.tc : Thread Cert.Mlp1BwdWIdeal.nD Cert.Mlp1BwdWIdeal.τ).loc Cert.Mlp1BwdWIdeal.main_arg0)
      ∧ r.2.mem ((c.tc : Thread Cert.Mlp1BwdWIdeal.nD Cert.Mlp1BwdWIdeal.τ).loc Cert.Mlp1BwdWIdeal.main_arg1) = m ((c.tc : Thread Cert.Mlp1BwdWIdeal.nD Cert.Mlp1BwdWIdeal.τ).loc Cert.Mlp1BwdWIdeal.main_arg1))
      ∧ r.2.sem = fun _ => 0)

def quiescent_Mlp1BwdWRefIdeal [hMlp1BwdWRefIdeal : Cert.Mlp1BwdWRefIdeal.Facts] : Prop :=
  ∀ (m : (ℓ : Loc Cert.Mlp1BwdWRefIdeal.nD Cert.Mlp1BwdWRefIdeal.τ Cert.Mlp1BwdWRefIdeal.sig) → Buf (Elt Ideal) ℓ) (g : Dev Cert.Mlp1BwdWRefIdeal.nD → PrngReg), Pre_Mlp1BwdWRefIdeal m →
    θ_run (Cert.Mlp1BwdWRefIdeal.defs (F := Ideal)) (onTc (τ := Cert.Mlp1BwdWRefIdeal.τ) (Cert.Mlp1BwdWRefIdeal.main (F := Ideal))) ⟨m, fun _ => 0, g⟩ (fun r => (∀ c : Dev Cert.Mlp1BwdWRefIdeal.nD,
      r.2.mem ((c.tc : Thread Cert.Mlp1BwdWRefIdeal.nD Cert.Mlp1BwdWRefIdeal.τ).loc Cert.Mlp1BwdWRefIdeal.main_arg0) = m ((c.tc : Thread Cert.Mlp1BwdWRefIdeal.nD Cert.Mlp1BwdWRefIdeal.τ).loc Cert.Mlp1BwdWRefIdeal.main_arg0)
      ∧ r.2.mem ((c.tc : Thread Cert.Mlp1BwdWRefIdeal.nD Cert.Mlp1BwdWRefIdeal.τ).loc Cert.Mlp1BwdWRefIdeal.main_arg1) = m ((c.tc : Thread Cert.Mlp1BwdWRefIdeal.nD Cert.Mlp1BwdWRefIdeal.τ).loc Cert.Mlp1BwdWRefIdeal.main_arg1))
      ∧ r.2.sem = fun _ => 0)

def quiescent_InBwdX [hInBwdX : Cert.InBwdX.Facts] : Prop :=
  ∀ (m : (ℓ : Loc Cert.InBwdX.nD Cert.InBwdX.τ Cert.InBwdX.sig) → Buf (Elt Bits) ℓ) (g : Dev Cert.InBwdX.nD → PrngReg), Pre_InBwdX m →
    θ_run (Cert.InBwdX.defs (F := Bits)) (onTc (τ := Cert.InBwdX.τ) (Cert.InBwdX.main (F := Bits))) ⟨m, fun _ => 0, g⟩ (fun r => (∀ c : Dev Cert.InBwdX.nD,
      r.2.mem ((c.tc : Thread Cert.InBwdX.nD Cert.InBwdX.τ).loc Cert.InBwdX.main_arg0) = m ((c.tc : Thread Cert.InBwdX.nD Cert.InBwdX.τ).loc Cert.InBwdX.main_arg0)
      ∧ r.2.mem ((c.tc : Thread Cert.InBwdX.nD Cert.InBwdX.τ).loc Cert.InBwdX.main_arg1) = m ((c.tc : Thread Cert.InBwdX.nD Cert.InBwdX.τ).loc Cert.InBwdX.main_arg1))
      ∧ r.2.sem = fun _ => 0)

def quiescent_InBwdXIdeal [hInBwdXIdeal : Cert.InBwdXIdeal.Facts] : Prop :=
  ∀ (m : (ℓ : Loc Cert.InBwdXIdeal.nD Cert.InBwdXIdeal.τ Cert.InBwdXIdeal.sig) → Buf (Elt Ideal) ℓ) (g : Dev Cert.InBwdXIdeal.nD → PrngReg), Pre_InBwdXIdeal m →
    θ_run (Cert.InBwdXIdeal.defs (F := Ideal)) (onTc (τ := Cert.InBwdXIdeal.τ) (Cert.InBwdXIdeal.main (F := Ideal))) ⟨m, fun _ => 0, g⟩ (fun r => (∀ c : Dev Cert.InBwdXIdeal.nD,
      r.2.mem ((c.tc : Thread Cert.InBwdXIdeal.nD Cert.InBwdXIdeal.τ).loc Cert.InBwdXIdeal.main_arg0) = m ((c.tc : Thread Cert.InBwdXIdeal.nD Cert.InBwdXIdeal.τ).loc Cert.InBwdXIdeal.main_arg0)
      ∧ r.2.mem ((c.tc : Thread Cert.InBwdXIdeal.nD Cert.InBwdXIdeal.τ).loc Cert.InBwdXIdeal.main_arg1) = m ((c.tc : Thread Cert.InBwdXIdeal.nD Cert.InBwdXIdeal.τ).loc Cert.InBwdXIdeal.main_arg1))
      ∧ r.2.sem = fun _ => 0)

def quiescent_InBwdXRefIdeal [hInBwdXRefIdeal : Cert.InBwdXRefIdeal.Facts] : Prop :=
  ∀ (m : (ℓ : Loc Cert.InBwdXRefIdeal.nD Cert.InBwdXRefIdeal.τ Cert.InBwdXRefIdeal.sig) → Buf (Elt Ideal) ℓ) (g : Dev Cert.InBwdXRefIdeal.nD → PrngReg), Pre_InBwdXRefIdeal m →
    θ_run (Cert.InBwdXRefIdeal.defs (F := Ideal)) (onTc (τ := Cert.InBwdXRefIdeal.τ) (Cert.InBwdXRefIdeal.main (F := Ideal))) ⟨m, fun _ => 0, g⟩ (fun r => (∀ c : Dev Cert.InBwdXRefIdeal.nD,
      r.2.mem ((c.tc : Thread Cert.InBwdXRefIdeal.nD Cert.InBwdXRefIdeal.τ).loc Cert.InBwdXRefIdeal.main_arg0) = m ((c.tc : Thread Cert.InBwdXRefIdeal.nD Cert.InBwdXRefIdeal.τ).loc Cert.InBwdXRefIdeal.main_arg0)
      ∧ r.2.mem ((c.tc : Thread Cert.InBwdXRefIdeal.nD Cert.InBwdXRefIdeal.τ).loc Cert.InBwdXRefIdeal.main_arg1) = m ((c.tc : Thread Cert.InBwdXRefIdeal.nD Cert.InBwdXRefIdeal.τ).loc Cert.InBwdXRefIdeal.main_arg1))
      ∧ r.2.sem = fun _ => 0)

def quiescent_InBwdW [hInBwdW : Cert.InBwdW.Facts] : Prop :=
  ∀ (m : (ℓ : Loc Cert.InBwdW.nD Cert.InBwdW.τ Cert.InBwdW.sig) → Buf (Elt Bits) ℓ) (g : Dev Cert.InBwdW.nD → PrngReg), Pre_InBwdW m →
    θ_run (Cert.InBwdW.defs (F := Bits)) (onTc (τ := Cert.InBwdW.τ) (Cert.InBwdW.main (F := Bits))) ⟨m, fun _ => 0, g⟩ (fun r => (∀ c : Dev Cert.InBwdW.nD,
      r.2.mem ((c.tc : Thread Cert.InBwdW.nD Cert.InBwdW.τ).loc Cert.InBwdW.main_arg0) = m ((c.tc : Thread Cert.InBwdW.nD Cert.InBwdW.τ).loc Cert.InBwdW.main_arg0)
      ∧ r.2.mem ((c.tc : Thread Cert.InBwdW.nD Cert.InBwdW.τ).loc Cert.InBwdW.main_arg1) = m ((c.tc : Thread Cert.InBwdW.nD Cert.InBwdW.τ).loc Cert.InBwdW.main_arg1))
      ∧ r.2.sem = fun _ => 0)

def quiescent_InBwdWIdeal [hInBwdWIdeal : Cert.InBwdWIdeal.Facts] : Prop :=
  ∀ (m : (ℓ : Loc Cert.InBwdWIdeal.nD Cert.InBwdWIdeal.τ Cert.InBwdWIdeal.sig) → Buf (Elt Ideal) ℓ) (g : Dev Cert.InBwdWIdeal.nD → PrngReg), Pre_InBwdWIdeal m →
    θ_run (Cert.InBwdWIdeal.defs (F := Ideal)) (onTc (τ := Cert.InBwdWIdeal.τ) (Cert.InBwdWIdeal.main (F := Ideal))) ⟨m, fun _ => 0, g⟩ (fun r => (∀ c : Dev Cert.InBwdWIdeal.nD,
      r.2.mem ((c.tc : Thread Cert.InBwdWIdeal.nD Cert.InBwdWIdeal.τ).loc Cert.InBwdWIdeal.main_arg0) = m ((c.tc : Thread Cert.InBwdWIdeal.nD Cert.InBwdWIdeal.τ).loc Cert.InBwdWIdeal.main_arg0)
      ∧ r.2.mem ((c.tc : Thread Cert.InBwdWIdeal.nD Cert.InBwdWIdeal.τ).loc Cert.InBwdWIdeal.main_arg1) = m ((c.tc : Thread Cert.InBwdWIdeal.nD Cert.InBwdWIdeal.τ).loc Cert.InBwdWIdeal.main_arg1))
      ∧ r.2.sem = fun _ => 0)

def quiescent_InBwdWRefIdeal [hInBwdWRefIdeal : Cert.InBwdWRefIdeal.Facts] : Prop :=
  ∀ (m : (ℓ : Loc Cert.InBwdWRefIdeal.nD Cert.InBwdWRefIdeal.τ Cert.InBwdWRefIdeal.sig) → Buf (Elt Ideal) ℓ) (g : Dev Cert.InBwdWRefIdeal.nD → PrngReg), Pre_InBwdWRefIdeal m →
    θ_run (Cert.InBwdWRefIdeal.defs (F := Ideal)) (onTc (τ := Cert.InBwdWRefIdeal.τ) (Cert.InBwdWRefIdeal.main (F := Ideal))) ⟨m, fun _ => 0, g⟩ (fun r => (∀ c : Dev Cert.InBwdWRefIdeal.nD,
      r.2.mem ((c.tc : Thread Cert.InBwdWRefIdeal.nD Cert.InBwdWRefIdeal.τ).loc Cert.InBwdWRefIdeal.main_arg0) = m ((c.tc : Thread Cert.InBwdWRefIdeal.nD Cert.InBwdWRefIdeal.τ).loc Cert.InBwdWRefIdeal.main_arg0)
      ∧ r.2.mem ((c.tc : Thread Cert.InBwdWRefIdeal.nD Cert.InBwdWRefIdeal.τ).loc Cert.InBwdWRefIdeal.main_arg1) = m ((c.tc : Thread Cert.InBwdWRefIdeal.nD Cert.InBwdWRefIdeal.τ).loc Cert.InBwdWRefIdeal.main_arg1))
      ∧ r.2.sem = fun _ => 0)

def quiescent_OutBwdX [hOutBwdX : Cert.OutBwdX.Facts] : Prop :=
  ∀ (m : (ℓ : Loc Cert.OutBwdX.nD Cert.OutBwdX.τ Cert.OutBwdX.sig) → Buf (Elt Bits) ℓ) (g : Dev Cert.OutBwdX.nD → PrngReg), Pre_OutBwdX m →
    θ_run (Cert.OutBwdX.defs (F := Bits)) (onTc (τ := Cert.OutBwdX.τ) (Cert.OutBwdX.main (F := Bits))) ⟨m, fun _ => 0, g⟩ (fun r => (∀ c : Dev Cert.OutBwdX.nD,
      r.2.mem ((c.tc : Thread Cert.OutBwdX.nD Cert.OutBwdX.τ).loc Cert.OutBwdX.main_arg0) = m ((c.tc : Thread Cert.OutBwdX.nD Cert.OutBwdX.τ).loc Cert.OutBwdX.main_arg0)
      ∧ r.2.mem ((c.tc : Thread Cert.OutBwdX.nD Cert.OutBwdX.τ).loc Cert.OutBwdX.main_arg1) = m ((c.tc : Thread Cert.OutBwdX.nD Cert.OutBwdX.τ).loc Cert.OutBwdX.main_arg1))
      ∧ r.2.sem = fun _ => 0)

def quiescent_OutBwdXIdeal [hOutBwdXIdeal : Cert.OutBwdXIdeal.Facts] : Prop :=
  ∀ (m : (ℓ : Loc Cert.OutBwdXIdeal.nD Cert.OutBwdXIdeal.τ Cert.OutBwdXIdeal.sig) → Buf (Elt Ideal) ℓ) (g : Dev Cert.OutBwdXIdeal.nD → PrngReg), Pre_OutBwdXIdeal m →
    θ_run (Cert.OutBwdXIdeal.defs (F := Ideal)) (onTc (τ := Cert.OutBwdXIdeal.τ) (Cert.OutBwdXIdeal.main (F := Ideal))) ⟨m, fun _ => 0, g⟩ (fun r => (∀ c : Dev Cert.OutBwdXIdeal.nD,
      r.2.mem ((c.tc : Thread Cert.OutBwdXIdeal.nD Cert.OutBwdXIdeal.τ).loc Cert.OutBwdXIdeal.main_arg0) = m ((c.tc : Thread Cert.OutBwdXIdeal.nD Cert.OutBwdXIdeal.τ).loc Cert.OutBwdXIdeal.main_arg0)
      ∧ r.2.mem ((c.tc : Thread Cert.OutBwdXIdeal.nD Cert.OutBwdXIdeal.τ).loc Cert.OutBwdXIdeal.main_arg1) = m ((c.tc : Thread Cert.OutBwdXIdeal.nD Cert.OutBwdXIdeal.τ).loc Cert.OutBwdXIdeal.main_arg1))
      ∧ r.2.sem = fun _ => 0)

def quiescent_OutBwdXRefIdeal [hOutBwdXRefIdeal : Cert.OutBwdXRefIdeal.Facts] : Prop :=
  ∀ (m : (ℓ : Loc Cert.OutBwdXRefIdeal.nD Cert.OutBwdXRefIdeal.τ Cert.OutBwdXRefIdeal.sig) → Buf (Elt Ideal) ℓ) (g : Dev Cert.OutBwdXRefIdeal.nD → PrngReg), Pre_OutBwdXRefIdeal m →
    θ_run (Cert.OutBwdXRefIdeal.defs (F := Ideal)) (onTc (τ := Cert.OutBwdXRefIdeal.τ) (Cert.OutBwdXRefIdeal.main (F := Ideal))) ⟨m, fun _ => 0, g⟩ (fun r => (∀ c : Dev Cert.OutBwdXRefIdeal.nD,
      r.2.mem ((c.tc : Thread Cert.OutBwdXRefIdeal.nD Cert.OutBwdXRefIdeal.τ).loc Cert.OutBwdXRefIdeal.main_arg0) = m ((c.tc : Thread Cert.OutBwdXRefIdeal.nD Cert.OutBwdXRefIdeal.τ).loc Cert.OutBwdXRefIdeal.main_arg0)
      ∧ r.2.mem ((c.tc : Thread Cert.OutBwdXRefIdeal.nD Cert.OutBwdXRefIdeal.τ).loc Cert.OutBwdXRefIdeal.main_arg1) = m ((c.tc : Thread Cert.OutBwdXRefIdeal.nD Cert.OutBwdXRefIdeal.τ).loc Cert.OutBwdXRefIdeal.main_arg1))
      ∧ r.2.sem = fun _ => 0)

def quiescent_OutBwdW [hOutBwdW : Cert.OutBwdW.Facts] : Prop :=
  ∀ (m : (ℓ : Loc Cert.OutBwdW.nD Cert.OutBwdW.τ Cert.OutBwdW.sig) → Buf (Elt Bits) ℓ) (g : Dev Cert.OutBwdW.nD → PrngReg), Pre_OutBwdW m →
    θ_run (Cert.OutBwdW.defs (F := Bits)) (onTc (τ := Cert.OutBwdW.τ) (Cert.OutBwdW.main (F := Bits))) ⟨m, fun _ => 0, g⟩ (fun r => (∀ c : Dev Cert.OutBwdW.nD,
      r.2.mem ((c.tc : Thread Cert.OutBwdW.nD Cert.OutBwdW.τ).loc Cert.OutBwdW.main_arg0) = m ((c.tc : Thread Cert.OutBwdW.nD Cert.OutBwdW.τ).loc Cert.OutBwdW.main_arg0)
      ∧ r.2.mem ((c.tc : Thread Cert.OutBwdW.nD Cert.OutBwdW.τ).loc Cert.OutBwdW.main_arg1) = m ((c.tc : Thread Cert.OutBwdW.nD Cert.OutBwdW.τ).loc Cert.OutBwdW.main_arg1))
      ∧ r.2.sem = fun _ => 0)

def quiescent_OutBwdWIdeal [hOutBwdWIdeal : Cert.OutBwdWIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg), Pre_OutBwdWIdeal m →
    θ_run (Cert.OutBwdWIdeal.defs (F := Ideal)) (onTc (τ := Cert.OutBwdWIdeal.τ) (Cert.OutBwdWIdeal.main (F := Ideal))) ⟨m, fun _ => 0, g⟩ (fun r => (∀ c : Dev Cert.OutBwdWIdeal.nD,
      r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
      ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ r.2.sem = fun _ => 0)

def quiescent_OutBwdWRefIdeal [hOutBwdWRefIdeal : Cert.OutBwdWRefIdeal.Facts] : Prop :=
  ∀ (m : (ℓ : Loc Cert.OutBwdWRefIdeal.nD Cert.OutBwdWRefIdeal.τ Cert.OutBwdWRefIdeal.sig) → Buf (Elt Ideal) ℓ) (g : Dev Cert.OutBwdWRefIdeal.nD → PrngReg), Pre_OutBwdWRefIdeal m →
    θ_run (Cert.OutBwdWRefIdeal.defs (F := Ideal)) (onTc (τ := Cert.OutBwdWRefIdeal.τ) (Cert.OutBwdWRefIdeal.main (F := Ideal))) ⟨m, fun _ => 0, g⟩ (fun r => (∀ c : Dev Cert.OutBwdWRefIdeal.nD,
      r.2.mem ((c.tc : Thread Cert.OutBwdWRefIdeal.nD Cert.OutBwdWRefIdeal.τ).loc Cert.OutBwdWRefIdeal.main_arg0) = m ((c.tc : Thread Cert.OutBwdWRefIdeal.nD Cert.OutBwdWRefIdeal.τ).loc Cert.OutBwdWRefIdeal.main_arg0)
      ∧ r.2.mem ((c.tc : Thread Cert.OutBwdWRefIdeal.nD Cert.OutBwdWRefIdeal.τ).loc Cert.OutBwdWRefIdeal.main_arg1) = m ((c.tc : Thread Cert.OutBwdWRefIdeal.nD Cert.OutBwdWRefIdeal.τ).loc Cert.OutBwdWRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2))
      ∧ r.2.sem = fun _ => 0)

def quiescent_Mlp1RefIdeal [hMlp1RefIdeal : Cert.Mlp1RefIdeal.Facts] : Prop :=
  ∀ (m : (ℓ : Loc Cert.Mlp1RefIdeal.nD Cert.Mlp1RefIdeal.τ Cert.Mlp1RefIdeal.sig) → Buf (Elt Ideal) ℓ) (g : Dev Cert.Mlp1RefIdeal.nD → PrngReg), Pre_Mlp1RefIdeal m →
    θ_run (Cert.Mlp1RefIdeal.defs (F := Ideal)) (onTc (τ := Cert.Mlp1RefIdeal.τ) (Cert.Mlp1RefIdeal.main (F := Ideal))) ⟨m, fun _ => 0, g⟩ (fun r => (∀ c : Dev Cert.Mlp1RefIdeal.nD,
      r.2.mem ((c.tc : Thread Cert.Mlp1RefIdeal.nD Cert.Mlp1RefIdeal.τ).loc Cert.Mlp1RefIdeal.main_arg0) = m ((c.tc : Thread Cert.Mlp1RefIdeal.nD Cert.Mlp1RefIdeal.τ).loc Cert.Mlp1RefIdeal.main_arg0)
      ∧ r.2.mem ((c.tc : Thread Cert.Mlp1RefIdeal.nD Cert.Mlp1RefIdeal.τ).loc Cert.Mlp1RefIdeal.main_arg1) = m ((c.tc : Thread Cert.Mlp1RefIdeal.nD Cert.Mlp1RefIdeal.τ).loc Cert.Mlp1RefIdeal.main_arg1)
      ∧ r.2.mem ((c.tc : Thread Cert.Mlp1RefIdeal.nD Cert.Mlp1RefIdeal.τ).loc Cert.Mlp1RefIdeal.main_arg2) = m ((c.tc : Thread Cert.Mlp1RefIdeal.nD Cert.Mlp1RefIdeal.τ).loc Cert.Mlp1RefIdeal.main_arg2))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2)
      ∧ r.2.mem ((c.tc : Thread Cert.Mlp2.nD Cert.Mlp2.τ).loc Cert.Mlp2.main_arg3) = m ((c.tc : Thread Cert.Mlp2.nD Cert.Mlp2.τ).loc Cert.Mlp2.main_arg3)
      ∧ r.2.mem ((c.tc : Thread Cert.Mlp2.nD Cert.Mlp2.τ).loc Cert.Mlp2.main_arg4) = m ((c.tc : Thread Cert.Mlp2.nD Cert.Mlp2.τ).loc Cert.Mlp2.main_arg4))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
      ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
      ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4))
      ∧ r.2.sem = fun _ => 0)

def quiescent_Mlp2RefIdeal [hMlp2RefIdeal : Cert.Mlp2RefIdeal.Facts] : Prop :=
  ∀ (m : (ℓ : Loc Cert.Mlp2RefIdeal.nD Cert.Mlp2RefIdeal.τ Cert.Mlp2RefIdeal.sig) → Buf (Elt Ideal) ℓ) (g : Dev Cert.Mlp2RefIdeal.nD → PrngReg), Pre_Mlp2RefIdeal m →
    θ_run (Cert.Mlp2RefIdeal.defs (F := Ideal)) (onTc (τ := Cert.Mlp2RefIdeal.τ) (Cert.Mlp2RefIdeal.main (F := Ideal))) ⟨m, fun _ => 0, g⟩ (fun r => (∀ c : Dev Cert.Mlp2RefIdeal.nD,
      r.2.mem ((c.tc : Thread Cert.Mlp2RefIdeal.nD Cert.Mlp2RefIdeal.τ).loc Cert.Mlp2RefIdeal.main_arg0) = m ((c.tc : Thread Cert.Mlp2RefIdeal.nD Cert.Mlp2RefIdeal.τ).loc Cert.Mlp2RefIdeal.main_arg0)
      ∧ r.2.mem ((c.tc : Thread Cert.Mlp2RefIdeal.nD Cert.Mlp2RefIdeal.τ).loc Cert.Mlp2RefIdeal.main_arg1) = m ((c.tc : Thread Cert.Mlp2RefIdeal.nD Cert.Mlp2RefIdeal.τ).loc Cert.Mlp2RefIdeal.main_arg1)
      ∧ r.2.mem ((c.tc : Thread Cert.Mlp2RefIdeal.nD Cert.Mlp2RefIdeal.τ).loc Cert.Mlp2RefIdeal.main_arg2) = m ((c.tc : Thread Cert.Mlp2RefIdeal.nD Cert.Mlp2RefIdeal.τ).loc Cert.Mlp2RefIdeal.main_arg2)
      ∧ r.2.mem ((c.tc : Thread Cert.Mlp2RefIdeal.nD Cert.Mlp2RefIdeal.τ).loc Cert.Mlp2RefIdeal.main_arg3) = m ((c.tc : Thread Cert.Mlp2RefIdeal.nD Cert.Mlp2RefIdeal.τ).loc Cert.Mlp2RefIdeal.main_arg3)
      ∧ r.2.mem ((c.tc : Thread Cert.Mlp2RefIdeal.nD Cert.Mlp2RefIdeal.τ).loc Cert.Mlp2RefIdeal.main_arg4) = m ((c.tc : Thread Cert.Mlp2RefIdeal.nD Cert.Mlp2RefIdeal.τ).loc Cert.Mlp2RefIdeal.main_arg4))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51)
      ∧ r.2.mem ((c.tc : Thread Cert.AdamSmall.nD Cert.AdamSmall.τ).loc Cert.AdamSmall.main_arg52) = m ((c.tc : Thread Cert.AdamSmall.nD Cert.AdamSmall.τ).loc Cert.AdamSmall.main_arg52)
      ∧ r.2.mem ((c.tc : Thread Cert.AdamSmall.nD Cert.AdamSmall.τ).loc Cert.AdamSmall.main_arg53) = m ((c.tc : Thread Cert.AdamSmall.nD Cert.AdamSmall.τ).loc Cert.AdamSmall.main_arg53)
      ∧ r.2.mem ((c.tc : Thread Cert.AdamSmall.nD Cert.AdamSmall.τ).loc Cert.AdamSmall.main_arg54) = m ((c.tc : Thread Cert.AdamSmall.nD Cert.AdamSmall.τ).loc Cert.AdamSmall.main_arg54)
      ∧ r.2.mem ((c.tc : Thread Cert.AdamSmall.nD Cert.AdamSmall.τ).loc Cert.AdamSmall.main_arg55) = m ((c.tc : Thread Cert.AdamSmall.nD Cert.AdamSmall.τ).loc Cert.AdamSmall.main_arg55)
      ∧ r.2.mem ((c.tc : Thread Cert.AdamSmall.nD Cert.AdamSmall.τ).loc Cert.AdamSmall.main_arg56) = m ((c.tc : Thread Cert.AdamSmall.nD Cert.AdamSmall.τ).loc Cert.AdamSmall.main_arg56)
      ∧ r.2.mem ((c.tc : Thread Cert.AdamSmall.nD Cert.AdamSmall.τ).loc Cert.AdamSmall.main_arg57) = m ((c.tc : Thread Cert.AdamSmall.nD Cert.AdamSmall.τ).loc Cert.AdamSmall.main_arg57)
      ∧ r.2.mem ((c.tc : Thread Cert.AdamSmall.nD Cert.AdamSmall.τ).loc Cert.AdamSmall.main_arg58) = m ((c.tc : Thread Cert.AdamSmall.nD Cert.AdamSmall.τ).loc Cert.AdamSmall.main_arg58)
      ∧ r.2.mem ((c.tc : Thread Cert.AdamSmall.nD Cert.AdamSmall.τ).loc Cert.AdamSmall.main_arg59) = m ((c.tc : Thread Cert.AdamSmall.nD Cert.AdamSmall.τ).loc Cert.AdamSmall.main_arg59)
      ∧ r.2.mem ((c.tc : Thread Cert.AdamSmall.nD Cert.AdamSmall.τ).loc Cert.AdamSmall.main_arg60) = m ((c.tc : Thread Cert.AdamSmall.nD Cert.AdamSmall.τ).loc Cert.AdamSmall.main_arg60)
      ∧ r.2.mem ((c.tc : Thread Cert.AdamSmall.nD Cert.AdamSmall.τ).loc Cert.AdamSmall.main_arg61) = m ((c.tc : Thread Cert.AdamSmall.nD Cert.AdamSmall.τ).loc Cert.AdamSmall.main_arg61)
      ∧ r.2.mem ((c.tc : Thread Cert.AdamSmall.nD Cert.AdamSmall.τ).loc Cert.AdamSmall.main_arg62) = m ((c.tc : Thread Cert.AdamSmall.nD Cert.AdamSmall.τ).loc Cert.AdamSmall.main_arg62)
      ∧ r.2.mem ((c.tc : Thread Cert.AdamSmall.nD Cert.AdamSmall.τ).loc Cert.AdamSmall.main_arg63) = m ((c.tc : Thread Cert.AdamSmall.nD Cert.AdamSmall.τ).loc Cert.AdamSmall.main_arg63)
      ∧ r.2.mem ((c.tc : Thread Cert.AdamSmall.nD Cert.AdamSmall.τ).loc Cert.AdamSmall.main_arg64) = m ((c.tc : Thread Cert.AdamSmall.nD Cert.AdamSmall.τ).loc Cert.AdamSmall.main_arg64)
      ∧ r.2.mem ((c.tc : Thread Cert.AdamSmall.nD Cert.AdamSmall.τ).loc Cert.AdamSmall.main_arg65) = m ((c.tc : Thread Cert.AdamSmall.nD Cert.AdamSmall.τ).loc Cert.AdamSmall.main_arg65)
      ∧ r.2.mem ((c.tc : Thread Cert.AdamSmall.nD Cert.AdamSmall.τ).loc Cert.AdamSmall.main_arg66) = m ((c.tc : Thread Cert.AdamSmall.nD Cert.AdamSmall.τ).loc Cert.AdamSmall.main_arg66)
      ∧ r.2.mem ((c.tc : Thread Cert.AdamSmall.nD Cert.AdamSmall.τ).loc Cert.AdamSmall.main_arg67) = m ((c.tc : Thread Cert.AdamSmall.nD Cert.AdamSmall.τ).loc Cert.AdamSmall.main_arg67)
      ∧ r.2.mem ((c.tc : Thread Cert.AdamSmall.nD Cert.AdamSmall.τ).loc Cert.AdamSmall.main_arg68) = m ((c.tc : Thread Cert.AdamSmall.nD Cert.AdamSmall.τ).loc Cert.AdamSmall.main_arg68)
      ∧ r.2.mem ((c.tc : Thread Cert.AdamSmall.nD Cert.AdamSmall.τ).loc Cert.AdamSmall.main_arg69) = m ((c.tc : Thread Cert.AdamSmall.nD Cert.AdamSmall.τ).loc Cert.AdamSmall.main_arg69)
      ∧ r.2.mem ((c.tc : Thread Cert.AdamSmall.nD Cert.AdamSmall.τ).loc Cert.AdamSmall.main_arg70) = m ((c.tc : Thread Cert.AdamSmall.nD Cert.AdamSmall.τ).loc Cert.AdamSmall.main_arg70)
      ∧ r.2.mem ((c.tc : Thread Cert.AdamSmall.nD Cert.AdamSmall.τ).loc Cert.AdamSmall.main_arg71) = m ((c.tc : Thread Cert.AdamSmall.nD Cert.AdamSmall.τ).loc Cert.AdamSmall.main_arg71)
      ∧ r.2.mem ((c.tc : Thread Cert.AdamSmall.nD Cert.AdamSmall.τ).loc Cert.AdamSmall.main_arg72) = m ((c.tc : Thread Cert.AdamSmall.nD Cert.AdamSmall.τ).loc Cert.AdamSmall.main_arg72)
      ∧ r.2.mem ((c.tc : Thread Cert.AdamSmall.nD Cert.AdamSmall.τ).loc Cert.AdamSmall.main_arg73) = m ((c.tc : Thread Cert.AdamSmall.nD Cert.AdamSmall.τ).loc Cert.AdamSmall.main_arg73)
      ∧ r.2.mem ((c.tc : Thread Cert.AdamSmall.nD Cert.AdamSmall.τ).loc Cert.AdamSmall.main_arg74) = m ((c.tc : Thread Cert.AdamSmall.nD Cert.AdamSmall.τ).loc Cert.AdamSmall.main_arg74)
      ∧ r.2.mem ((c.tc : Thread Cert.AdamSmall.nD Cert.AdamSmall.τ).loc Cert.AdamSmall.main_arg75) = m ((c.tc : Thread Cert.AdamSmall.nD Cert.AdamSmall.τ).loc Cert.AdamSmall.main_arg75)
      ∧ r.2.mem ((c.tc : Thread Cert.AdamSmall.nD Cert.AdamSmall.τ).loc Cert.AdamSmall.main_arg76) = m ((c.tc : Thread Cert.AdamSmall.nD Cert.AdamSmall.τ).loc Cert.AdamSmall.main_arg76)
      ∧ r.2.mem ((c.tc : Thread Cert.AdamSmall.nD Cert.AdamSmall.τ).loc Cert.AdamSmall.main_arg77) = m ((c.tc : Thread Cert.AdamSmall.nD Cert.AdamSmall.τ).loc Cert.AdamSmall.main_arg77)
      ∧ r.2.mem ((c.tc : Thread Cert.AdamSmall.nD Cert.AdamSmall.τ).loc Cert.AdamSmall.main_arg78) = m ((c.tc : Thread Cert.AdamSmall.nD Cert.AdamSmall.τ).loc Cert.AdamSmall.main_arg78)
      ∧ r.2.mem ((c.tc : Thread Cert.AdamSmall.nD Cert.AdamSmall.τ).loc Cert.AdamSmall.main_arg79) = m ((c.tc : Thread Cert.AdamSmall.nD Cert.AdamSmall.τ).loc Cert.AdamSmall.main_arg79))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
      ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
      ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
      ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
      ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
      ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
      ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
      ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
      ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
      ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
      ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
      ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
      ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
      ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
      ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
      ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
      ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
      ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
      ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
      ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
      ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71)
      ∧ r.2.mem ((c.tc : Thread Cert.AdamSmallIdeal.nD Cert.AdamSmallIdeal.τ).loc Cert.AdamSmallIdeal.main_arg72) = m ((c.tc : Thread Cert.AdamSmallIdeal.nD Cert.AdamSmallIdeal.τ).loc Cert.AdamSmallIdeal.main_arg72)
      ∧ r.2.mem ((c.tc : Thread Cert.AdamSmallIdeal.nD Cert.AdamSmallIdeal.τ).loc Cert.AdamSmallIdeal.main_arg73) = m ((c.tc : Thread Cert.AdamSmallIdeal.nD Cert.AdamSmallIdeal.τ).loc Cert.AdamSmallIdeal.main_arg73)
      ∧ r.2.mem ((c.tc : Thread Cert.AdamSmallIdeal.nD Cert.AdamSmallIdeal.τ).loc Cert.AdamSmallIdeal.main_arg74) = m ((c.tc : Thread Cert.AdamSmallIdeal.nD Cert.AdamSmallIdeal.τ).loc Cert.AdamSmallIdeal.main_arg74)
      ∧ r.2.mem ((c.tc : Thread Cert.AdamSmallIdeal.nD Cert.AdamSmallIdeal.τ).loc Cert.AdamSmallIdeal.main_arg75) = m ((c.tc : Thread Cert.AdamSmallIdeal.nD Cert.AdamSmallIdeal.τ).loc Cert.AdamSmallIdeal.main_arg75)
      ∧ r.2.mem ((c.tc : Thread Cert.AdamSmallIdeal.nD Cert.AdamSmallIdeal.τ).loc Cert.AdamSmallIdeal.main_arg76) = m ((c.tc : Thread Cert.AdamSmallIdeal.nD Cert.AdamSmallIdeal.τ).loc Cert.AdamSmallIdeal.main_arg76)
      ∧ r.2.mem ((c.tc : Thread Cert.AdamSmallIdeal.nD Cert.AdamSmallIdeal.τ).loc Cert.AdamSmallIdeal.main_arg77) = m ((c.tc : Thread Cert.AdamSmallIdeal.nD Cert.AdamSmallIdeal.τ).loc Cert.AdamSmallIdeal.main_arg77)
      ∧ r.2.mem ((c.tc : Thread Cert.AdamSmallIdeal.nD Cert.AdamSmallIdeal.τ).loc Cert.AdamSmallIdeal.main_arg78) = m ((c.tc : Thread Cert.AdamSmallIdeal.nD Cert.AdamSmallIdeal.τ).loc Cert.AdamSmallIdeal.main_arg78)
      ∧ r.2.mem ((c.tc : Thread Cert.AdamSmallIdeal.nD Cert.AdamSmallIdeal.τ).loc Cert.AdamSmallIdeal.main_arg79) = m ((c.tc : Thread Cert.AdamSmallIdeal.nD Cert.AdamSmallIdeal.τ).loc Cert.AdamSmallIdeal.main_arg79))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51)
      ∧ r.2.mem ((c.tc : Thread Cert.AdamSmallRefIdeal.nD Cert.AdamSmallRefIdeal.τ).loc Cert.AdamSmallRefIdeal.main_arg52) = m ((c.tc : Thread Cert.AdamSmallRefIdeal.nD Cert.AdamSmallRefIdeal.τ).loc Cert.AdamSmallRefIdeal.main_arg52)
      ∧ r.2.mem ((c.tc : Thread Cert.AdamSmallRefIdeal.nD Cert.AdamSmallRefIdeal.τ).loc Cert.AdamSmallRefIdeal.main_arg53) = m ((c.tc : Thread Cert.AdamSmallRefIdeal.nD Cert.AdamSmallRefIdeal.τ).loc Cert.AdamSmallRefIdeal.main_arg53)
      ∧ r.2.mem ((c.tc : Thread Cert.AdamSmallRefIdeal.nD Cert.AdamSmallRefIdeal.τ).loc Cert.AdamSmallRefIdeal.main_arg54) = m ((c.tc : Thread Cert.AdamSmallRefIdeal.nD Cert.AdamSmallRefIdeal.τ).loc Cert.AdamSmallRefIdeal.main_arg54)
      ∧ r.2.mem ((c.tc : Thread Cert.AdamSmallRefIdeal.nD Cert.AdamSmallRefIdeal.τ).loc Cert.AdamSmallRefIdeal.main_arg55) = m ((c.tc : Thread Cert.AdamSmallRefIdeal.nD Cert.AdamSmallRefIdeal.τ).loc Cert.AdamSmallRefIdeal.main_arg55)
      ∧ r.2.mem ((c.tc : Thread Cert.AdamSmallRefIdeal.nD Cert.AdamSmallRefIdeal.τ).loc Cert.AdamSmallRefIdeal.main_arg56) = m ((c.tc : Thread Cert.AdamSmallRefIdeal.nD Cert.AdamSmallRefIdeal.τ).loc Cert.AdamSmallRefIdeal.main_arg56)
      ∧ r.2.mem ((c.tc : Thread Cert.AdamSmallRefIdeal.nD Cert.AdamSmallRefIdeal.τ).loc Cert.AdamSmallRefIdeal.main_arg57) = m ((c.tc : Thread Cert.AdamSmallRefIdeal.nD Cert.AdamSmallRefIdeal.τ).loc Cert.AdamSmallRefIdeal.main_arg57)
      ∧ r.2.mem ((c.tc : Thread Cert.AdamSmallRefIdeal.nD Cert.AdamSmallRefIdeal.τ).loc Cert.AdamSmallRefIdeal.main_arg58) = m ((c.tc : Thread Cert.AdamSmallRefIdeal.nD Cert.AdamSmallRefIdeal.τ).loc Cert.AdamSmallRefIdeal.main_arg58)
      ∧ r.2.mem ((c.tc : Thread Cert.AdamSmallRefIdeal.nD Cert.AdamSmallRefIdeal.τ).loc Cert.AdamSmallRefIdeal.main_arg59) = m ((c.tc : Thread Cert.AdamSmallRefIdeal.nD Cert.AdamSmallRefIdeal.τ).loc Cert.AdamSmallRefIdeal.main_arg59)
      ∧ r.2.mem ((c.tc : Thread Cert.AdamSmallRefIdeal.nD Cert.AdamSmallRefIdeal.τ).loc Cert.AdamSmallRefIdeal.main_arg60) = m ((c.tc : Thread Cert.AdamSmallRefIdeal.nD Cert.AdamSmallRefIdeal.τ).loc Cert.AdamSmallRefIdeal.main_arg60)
      ∧ r.2.mem ((c.tc : Thread Cert.AdamSmallRefIdeal.nD Cert.AdamSmallRefIdeal.τ).loc Cert.AdamSmallRefIdeal.main_arg61) = m ((c.tc : Thread Cert.AdamSmallRefIdeal.nD Cert.AdamSmallRefIdeal.τ).loc Cert.AdamSmallRefIdeal.main_arg61)
      ∧ r.2.mem ((c.tc : Thread Cert.AdamSmallRefIdeal.nD Cert.AdamSmallRefIdeal.τ).loc Cert.AdamSmallRefIdeal.main_arg62) = m ((c.tc : Thread Cert.AdamSmallRefIdeal.nD Cert.AdamSmallRefIdeal.τ).loc Cert.AdamSmallRefIdeal.main_arg62)
      ∧ r.2.mem ((c.tc : Thread Cert.AdamSmallRefIdeal.nD Cert.AdamSmallRefIdeal.τ).loc Cert.AdamSmallRefIdeal.main_arg63) = m ((c.tc : Thread Cert.AdamSmallRefIdeal.nD Cert.AdamSmallRefIdeal.τ).loc Cert.AdamSmallRefIdeal.main_arg63)
      ∧ r.2.mem ((c.tc : Thread Cert.AdamSmallRefIdeal.nD Cert.AdamSmallRefIdeal.τ).loc Cert.AdamSmallRefIdeal.main_arg64) = m ((c.tc : Thread Cert.AdamSmallRefIdeal.nD Cert.AdamSmallRefIdeal.τ).loc Cert.AdamSmallRefIdeal.main_arg64)
      ∧ r.2.mem ((c.tc : Thread Cert.AdamSmallRefIdeal.nD Cert.AdamSmallRefIdeal.τ).loc Cert.AdamSmallRefIdeal.main_arg65) = m ((c.tc : Thread Cert.AdamSmallRefIdeal.nD Cert.AdamSmallRefIdeal.τ).loc Cert.AdamSmallRefIdeal.main_arg65)
      ∧ r.2.mem ((c.tc : Thread Cert.AdamSmallRefIdeal.nD Cert.AdamSmallRefIdeal.τ).loc Cert.AdamSmallRefIdeal.main_arg66) = m ((c.tc : Thread Cert.AdamSmallRefIdeal.nD Cert.AdamSmallRefIdeal.τ).loc Cert.AdamSmallRefIdeal.main_arg66)
      ∧ r.2.mem ((c.tc : Thread Cert.AdamSmallRefIdeal.nD Cert.AdamSmallRefIdeal.τ).loc Cert.AdamSmallRefIdeal.main_arg67) = m ((c.tc : Thread Cert.AdamSmallRefIdeal.nD Cert.AdamSmallRefIdeal.τ).loc Cert.AdamSmallRefIdeal.main_arg67)
      ∧ r.2.mem ((c.tc : Thread Cert.AdamSmallRefIdeal.nD Cert.AdamSmallRefIdeal.τ).loc Cert.AdamSmallRefIdeal.main_arg68) = m ((c.tc : Thread Cert.AdamSmallRefIdeal.nD Cert.AdamSmallRefIdeal.τ).loc Cert.AdamSmallRefIdeal.main_arg68)
      ∧ r.2.mem ((c.tc : Thread Cert.AdamSmallRefIdeal.nD Cert.AdamSmallRefIdeal.τ).loc Cert.AdamSmallRefIdeal.main_arg69) = m ((c.tc : Thread Cert.AdamSmallRefIdeal.nD Cert.AdamSmallRefIdeal.τ).loc Cert.AdamSmallRefIdeal.main_arg69)
      ∧ r.2.mem ((c.tc : Thread Cert.AdamSmallRefIdeal.nD Cert.AdamSmallRefIdeal.τ).loc Cert.AdamSmallRefIdeal.main_arg70) = m ((c.tc : Thread Cert.AdamSmallRefIdeal.nD Cert.AdamSmallRefIdeal.τ).loc Cert.AdamSmallRefIdeal.main_arg70)
      ∧ r.2.mem ((c.tc : Thread Cert.AdamSmallRefIdeal.nD Cert.AdamSmallRefIdeal.τ).loc Cert.AdamSmallRefIdeal.main_arg71) = m ((c.tc : Thread Cert.AdamSmallRefIdeal.nD Cert.AdamSmallRefIdeal.τ).loc Cert.AdamSmallRefIdeal.main_arg71)
      ∧ r.2.mem ((c.tc : Thread Cert.AdamSmallRefIdeal.nD Cert.AdamSmallRefIdeal.τ).loc Cert.AdamSmallRefIdeal.main_arg72) = m ((c.tc : Thread Cert.AdamSmallRefIdeal.nD Cert.AdamSmallRefIdeal.τ).loc Cert.AdamSmallRefIdeal.main_arg72)
      ∧ r.2.mem ((c.tc : Thread Cert.AdamSmallRefIdeal.nD Cert.AdamSmallRefIdeal.τ).loc Cert.AdamSmallRefIdeal.main_arg73) = m ((c.tc : Thread Cert.AdamSmallRefIdeal.nD Cert.AdamSmallRefIdeal.τ).loc Cert.AdamSmallRefIdeal.main_arg73)
      ∧ r.2.mem ((c.tc : Thread Cert.AdamSmallRefIdeal.nD Cert.AdamSmallRefIdeal.τ).loc Cert.AdamSmallRefIdeal.main_arg74) = m ((c.tc : Thread Cert.AdamSmallRefIdeal.nD Cert.AdamSmallRefIdeal.τ).loc Cert.AdamSmallRefIdeal.main_arg74)
      ∧ r.2.mem ((c.tc : Thread Cert.AdamSmallRefIdeal.nD Cert.AdamSmallRefIdeal.τ).loc Cert.AdamSmallRefIdeal.main_arg75) = m ((c.tc : Thread Cert.AdamSmallRefIdeal.nD Cert.AdamSmallRefIdeal.τ).loc Cert.AdamSmallRefIdeal.main_arg75)
      ∧ r.2.mem ((c.tc : Thread Cert.AdamSmallRefIdeal.nD Cert.AdamSmallRefIdeal.τ).loc Cert.AdamSmallRefIdeal.main_arg76) = m ((c.tc : Thread Cert.AdamSmallRefIdeal.nD Cert.AdamSmallRefIdeal.τ).loc Cert.AdamSmallRefIdeal.main_arg76)
      ∧ r.2.mem ((c.tc : Thread Cert.AdamSmallRefIdeal.nD Cert.AdamSmallRefIdeal.τ).loc Cert.AdamSmallRefIdeal.main_arg77) = m ((c.tc : Thread Cert.AdamSmallRefIdeal.nD Cert.AdamSmallRefIdeal.τ).loc Cert.AdamSmallRefIdeal.main_arg77)
      ∧ r.2.mem ((c.tc : Thread Cert.AdamSmallRefIdeal.nD Cert.AdamSmallRefIdeal.τ).loc Cert.AdamSmallRefIdeal.main_arg78) = m ((c.tc : Thread Cert.AdamSmallRefIdeal.nD Cert.AdamSmallRefIdeal.τ).loc Cert.AdamSmallRefIdeal.main_arg78)
      ∧ r.2.mem ((c.tc : Thread Cert.AdamSmallRefIdeal.nD Cert.AdamSmallRefIdeal.τ).loc Cert.AdamSmallRefIdeal.main_arg79) = m ((c.tc : Thread Cert.AdamSmallRefIdeal.nD Cert.AdamSmallRefIdeal.τ).loc Cert.AdamSmallRefIdeal.main_arg79))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_DmodPrep [hDmodPrep : Cert.DmodPrep.Facts] : Prop :=
  ∀ (m : (ℓ : Loc Cert.DmodPrep.nD Cert.DmodPrep.τ Cert.DmodPrep.sig) → Buf (Elt Bits) ℓ) (g : Dev Cert.DmodPrep.nD → PrngReg), Pre_DmodPrep m →
    θ_run (Cert.DmodPrep.defs (F := Bits)) (onTc (τ := Cert.DmodPrep.τ) (Cert.DmodPrep.main (F := Bits))) ⟨m, fun _ => 0, g⟩ (fun r => (∀ c : Dev Cert.DmodPrep.nD,
      r.2.mem ((c.tc : Thread Cert.DmodPrep.nD Cert.DmodPrep.τ).loc Cert.DmodPrep.main_arg0) = m ((c.tc : Thread Cert.DmodPrep.nD Cert.DmodPrep.τ).loc Cert.DmodPrep.main_arg0))
      ∧ r.2.sem = fun _ => 0)

def quiescent_DmodPrepIdeal [hDmodPrepIdeal : Cert.DmodPrepIdeal.Facts] : Prop :=
  ∀ (m : (ℓ : Loc Cert.DmodPrepIdeal.nD Cert.DmodPrepIdeal.τ Cert.DmodPrepIdeal.sig) → Buf (Elt Ideal) ℓ) (g : Dev Cert.DmodPrepIdeal.nD → PrngReg), Pre_DmodPrepIdeal m →
    θ_run (Cert.DmodPrepIdeal.defs (F := Ideal)) (onTc (τ := Cert.DmodPrepIdeal.τ) (Cert.DmodPrepIdeal.main (F := Ideal))) ⟨m, fun _ => 0, g⟩ (fun r => (∀ c : Dev Cert.DmodPrepIdeal.nD,
      r.2.mem ((c.tc : Thread Cert.DmodPrepIdeal.nD Cert.DmodPrepIdeal.τ).loc Cert.DmodPrepIdeal.main_arg0) = m ((c.tc : Thread Cert.DmodPrepIdeal.nD Cert.DmodPrepIdeal.τ).loc Cert.DmodPrepIdeal.main_arg0))
      ∧ r.2.sem = fun _ => 0)

def quiescent_DmodPrepRefIdeal [hDmodPrepRefIdeal : Cert.DmodPrepRefIdeal.Facts] : Prop :=
  ∀ (m : (ℓ : Loc Cert.DmodPrepRefIdeal.nD Cert.DmodPrepRefIdeal.τ Cert.DmodPrepRefIdeal.sig) → Buf (Elt Ideal) ℓ) (g : Dev Cert.DmodPrepRefIdeal.nD → PrngReg), Pre_DmodPrepRefIdeal m →
    θ_run (Cert.DmodPrepRefIdeal.defs (F := Ideal)) (onTc (τ := Cert.DmodPrepRefIdeal.τ) (Cert.DmodPrepRefIdeal.main (F := Ideal))) ⟨m, fun _ => 0, g⟩ (fun r => (∀ c : Dev Cert.DmodPrepRefIdeal.nD,
      r.2.mem ((c.tc : Thread Cert.DmodPrepRefIdeal.nD Cert.DmodPrepRefIdeal.τ).loc Cert.DmodPrepRefIdeal.main_arg0) = m ((c.tc : Thread Cert.DmodPrepRefIdeal.nD Cert.DmodPrepRefIdeal.τ).loc Cert.DmodPrepRefIdeal.main_arg0))
      ∧ r.2.sem = fun _ => 0)

def quiescent_ModBwdW [hModBwdW : Cert.ModBwdW.Facts] : Prop :=
  ∀ (m : (ℓ : Loc Cert.ModBwdW.nD Cert.ModBwdW.τ Cert.ModBwdW.sig) → Buf (Elt Bits) ℓ) (g : Dev Cert.ModBwdW.nD → PrngReg), Pre_ModBwdW m →
    θ_run (Cert.ModBwdW.defs (F := Bits)) (onTc (τ := Cert.ModBwdW.τ) (Cert.ModBwdW.main (F := Bits))) ⟨m, fun _ => 0, g⟩ (fun r => (∀ c : Dev Cert.ModBwdW.nD,
      r.2.mem ((c.tc : Thread Cert.ModBwdW.nD Cert.ModBwdW.τ).loc Cert.ModBwdW.main_arg0) = m ((c.tc : Thread Cert.ModBwdW.nD Cert.ModBwdW.τ).loc Cert.ModBwdW.main_arg0)
      ∧ r.2.mem ((c.tc : Thread Cert.ModBwdW.nD Cert.ModBwdW.τ).loc Cert.ModBwdW.main_arg1) = m ((c.tc : Thread Cert.ModBwdW.nD Cert.ModBwdW.τ).loc Cert.ModBwdW.main_arg1))
      ∧ r.2.sem = fun _ => 0)

def quiescent_ModBwdWIdeal [hModBwdWIdeal : Cert.ModBwdWIdeal.Facts] : Prop :=
  ∀ (m : (ℓ : Loc Cert.ModBwdWIdeal.nD Cert.ModBwdWIdeal.τ Cert.ModBwdWIdeal.sig) → Buf (Elt Ideal) ℓ) (g : Dev Cert.ModBwdWIdeal.nD → PrngReg), Pre_ModBwdWIdeal m →
    θ_run (Cert.ModBwdWIdeal.defs (F := Ideal)) (onTc (τ := Cert.ModBwdWIdeal.τ) (Cert.ModBwdWIdeal.main (F := Ideal))) ⟨m, fun _ => 0, g⟩ (fun r => (∀ c : Dev Cert.ModBwdWIdeal.nD,
      r.2.mem ((c.tc : Thread Cert.ModBwdWIdeal.nD Cert.ModBwdWIdeal.τ).loc Cert.ModBwdWIdeal.main_arg0) = m ((c.tc : Thread Cert.ModBwdWIdeal.nD Cert.ModBwdWIdeal.τ).loc Cert.ModBwdWIdeal.main_arg0)
      ∧ r.2.mem ((c.tc : Thread Cert.ModBwdWIdeal.nD Cert.ModBwdWIdeal.τ).loc Cert.ModBwdWIdeal.main_arg1) = m ((c.tc : Thread Cert.ModBwdWIdeal.nD Cert.ModBwdWIdeal.τ).loc Cert.ModBwdWIdeal.main_arg1))
      ∧ r.2.sem = fun _ => 0)

def quiescent_ModBwdWRefIdeal [hModBwdWRefIdeal : Cert.ModBwdWRefIdeal.Facts] : Prop :=
  ∀ (m : (ℓ : Loc Cert.ModBwdWRefIdeal.nD Cert.ModBwdWRefIdeal.τ Cert.ModBwdWRefIdeal.sig) → Buf (Elt Ideal) ℓ) (g : Dev Cert.ModBwdWRefIdeal.nD → PrngReg), Pre_ModBwdWRefIdeal m →
    θ_run (Cert.ModBwdWRefIdeal.defs (F := Ideal)) (onTc (τ := Cert.ModBwdWRefIdeal.τ) (Cert.ModBwdWRefIdeal.main (F := Ideal))) ⟨m, fun _ => 0, g⟩ (fun r => (∀ c : Dev Cert.ModBwdWRefIdeal.nD,
      r.2.mem ((c.tc : Thread Cert.ModBwdWRefIdeal.nD Cert.ModBwdWRefIdeal.τ).loc Cert.ModBwdWRefIdeal.main_arg0) = m ((c.tc : Thread Cert.ModBwdWRefIdeal.nD Cert.ModBwdWRefIdeal.τ).loc Cert.ModBwdWRefIdeal.main_arg0)
      ∧ r.2.mem ((c.tc : Thread Cert.ModBwdWRefIdeal.nD Cert.ModBwdWRefIdeal.τ).loc Cert.ModBwdWRefIdeal.main_arg1) = m ((c.tc : Thread Cert.ModBwdWRefIdeal.nD Cert.ModBwdWRefIdeal.τ).loc Cert.ModBwdWRefIdeal.main_arg1))
      ∧ r.2.sem = fun _ => 0)

def quiescent_ModBwdC [hModBwdC : Cert.ModBwdC.Facts] : Prop :=
  ∀ (m : (ℓ : Loc Cert.ModBwdC.nD Cert.ModBwdC.τ Cert.ModBwdC.sig) → Buf (Elt Bits) ℓ) (g : Dev Cert.ModBwdC.nD → PrngReg), Pre_ModBwdC m →
    θ_run (Cert.ModBwdC.defs (F := Bits)) (onTc (τ := Cert.ModBwdC.τ) (Cert.ModBwdC.main (F := Bits))) ⟨m, fun _ => 0, g⟩ (fun r => (∀ c : Dev Cert.ModBwdC.nD,
      r.2.mem ((c.tc : Thread Cert.ModBwdC.nD Cert.ModBwdC.τ).loc Cert.ModBwdC.main_arg0) = m ((c.tc : Thread Cert.ModBwdC.nD Cert.ModBwdC.τ).loc Cert.ModBwdC.main_arg0)
      ∧ r.2.mem ((c.tc : Thread Cert.ModBwdC.nD Cert.ModBwdC.τ).loc Cert.ModBwdC.main_arg1) = m ((c.tc : Thread Cert.ModBwdC.nD Cert.ModBwdC.τ).loc Cert.ModBwdC.main_arg1))
      ∧ r.2.sem = fun _ => 0)

def quiescent_ModBwdCIdeal [hModBwdCIdeal : Cert.ModBwdCIdeal.Facts] : Prop :=
  ∀ (m : (ℓ : Loc Cert.ModBwdCIdeal.nD Cert.ModBwdCIdeal.τ Cert.ModBwdCIdeal.sig) → Buf (Elt Ideal) ℓ) (g : Dev Cert.ModBwdCIdeal.nD → PrngReg), Pre_ModBwdCIdeal m →
    θ_run (Cert.ModBwdCIdeal.defs (F := Ideal)) (onTc (τ := Cert.ModBwdCIdeal.τ) (Cert.ModBwdCIdeal.main (F := Ideal))) ⟨m, fun _ => 0, g⟩ (fun r => (∀ c : Dev Cert.ModBwdCIdeal.nD,
      r.2.mem ((c.tc : Thread Cert.ModBwdCIdeal.nD Cert.ModBwdCIdeal.τ).loc Cert.ModBwdCIdeal.main_arg0) = m ((c.tc : Thread Cert.ModBwdCIdeal.nD Cert.ModBwdCIdeal.τ).loc Cert.ModBwdCIdeal.main_arg0)
      ∧ r.2.mem ((c.tc : Thread Cert.ModBwdCIdeal.nD Cert.ModBwdCIdeal.τ).loc Cert.ModBwdCIdeal.main_arg1) = m ((c.tc : Thread Cert.ModBwdCIdeal.nD Cert.ModBwdCIdeal.τ).loc Cert.ModBwdCIdeal.main_arg1))
      ∧ r.2.sem = fun _ => 0)

def quiescent_ModBwdCRefIdeal [hModBwdCRefIdeal : Cert.ModBwdCRefIdeal.Facts] : Prop :=
  ∀ (m : (ℓ : Loc Cert.ModBwdCRefIdeal.nD Cert.ModBwdCRefIdeal.τ Cert.ModBwdCRefIdeal.sig) → Buf (Elt Ideal) ℓ) (g : Dev Cert.ModBwdCRefIdeal.nD → PrngReg), Pre_ModBwdCRefIdeal m →
    θ_run (Cert.ModBwdCRefIdeal.defs (F := Ideal)) (onTc (τ := Cert.ModBwdCRefIdeal.τ) (Cert.ModBwdCRefIdeal.main (F := Ideal))) ⟨m, fun _ => 0, g⟩ (fun r => (∀ c : Dev Cert.ModBwdCRefIdeal.nD,
      r.2.mem ((c.tc : Thread Cert.ModBwdCRefIdeal.nD Cert.ModBwdCRefIdeal.τ).loc Cert.ModBwdCRefIdeal.main_arg0) = m ((c.tc : Thread Cert.ModBwdCRefIdeal.nD Cert.ModBwdCRefIdeal.τ).loc Cert.ModBwdCRefIdeal.main_arg0)
      ∧ r.2.mem ((c.tc : Thread Cert.ModBwdCRefIdeal.nD Cert.ModBwdCRefIdeal.τ).loc Cert.ModBwdCRefIdeal.main_arg1) = m ((c.tc : Thread Cert.ModBwdCRefIdeal.nD Cert.ModBwdCRefIdeal.τ).loc Cert.ModBwdCRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5)
      ∧ r.2.mem ((c.tc : Thread Cert.GradX.nD Cert.GradX.τ).loc Cert.GradX.main_arg6) = m ((c.tc : Thread Cert.GradX.nD Cert.GradX.τ).loc Cert.GradX.main_arg6))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
      ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4)
      ∧ r.2.mem ((c.tc : Thread Cert.GradXRefIdeal.nD Cert.GradXRefIdeal.τ).loc Cert.GradXRefIdeal.main_arg5) = m ((c.tc : Thread Cert.GradXRefIdeal.nD Cert.GradXRefIdeal.τ).loc Cert.GradXRefIdeal.main_arg5)
      ∧ r.2.mem ((c.tc : Thread Cert.GradXRefIdeal.nD Cert.GradXRefIdeal.τ).loc Cert.GradXRefIdeal.main_arg6) = m ((c.tc : Thread Cert.GradXRefIdeal.nD Cert.GradXRefIdeal.τ).loc Cert.GradXRefIdeal.main_arg6))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4)
      ∧ r.2.mem ((c.tc : Thread Cert.LossBwdRefIdeal.nD Cert.LossBwdRefIdeal.τ).loc Cert.LossBwdRefIdeal.main_arg5) = m ((c.tc : Thread Cert.LossBwdRefIdeal.nD Cert.LossBwdRefIdeal.τ).loc Cert.LossBwdRefIdeal.main_arg5))
      ∧ r.2.sem = fun _ => 0)

def preserves_Kernel_KernelIdeal : Prop :=
  True

def algebraic_KernelIdeal_KernelRefIdeal [hKernelIdeal : Cert.KernelIdeal.Facts] [hKernelRefIdeal : Cert.KernelRefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.KernelRefIdeal.nD Cert.KernelRefIdeal.τ Cert.KernelRefIdeal.sig) → Buf (Elt Ideal) ℓ) (g' : Dev Cert.KernelRefIdeal.nD → PrngReg), Pre_KernelIdeal m →
    (∀ c : Dev Cert.KernelIdeal.nD,
      m' ((c.tc : Thread Cert.KernelRefIdeal.nD Cert.KernelRefIdeal.τ).loc Cert.KernelRefIdeal.main_arg0) = m ((c.tc : Thread Cert.KernelIdeal.nD Cert.KernelIdeal.τ).loc Cert.KernelIdeal.main_arg0)
      ∧ m' ((c.tc : Thread Cert.KernelRefIdeal.nD Cert.KernelRefIdeal.τ).loc Cert.KernelRefIdeal.main_arg1) = m ((c.tc : Thread Cert.KernelIdeal.nD Cert.KernelIdeal.τ).loc Cert.KernelIdeal.main_arg1)
      ∧ m' ((c.tc : Thread Cert.KernelRefIdeal.nD Cert.KernelRefIdeal.τ).loc Cert.KernelRefIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.KernelRefIdeal.defs (F := Ideal)) (onTc (τ := Cert.KernelRefIdeal.τ) (Cert.KernelRefIdeal.main (F := Ideal))) ⟨m', fun _ => 0, g'⟩ (fun r => ∀ c : Dev Cert.KernelRefIdeal.nD,
          r.2.mem ((c.tc : Thread Cert.KernelRefIdeal.nD Cert.KernelRefIdeal.τ).loc Cert.KernelRefIdeal.main_v583) = v0 c
          ∧ r.2.mem ((c.tc : Thread Cert.KernelRefIdeal.nD Cert.KernelRefIdeal.τ).loc Cert.KernelRefIdeal.main_v584) = v1 c
          ∧ r.2.mem ((c.tc : Thread Cert.KernelRefIdeal.nD Cert.KernelRefIdeal.τ).loc Cert.KernelRefIdeal.main_v574) = v2 c
          ∧ r.2.mem ((c.tc : Thread Cert.KernelRefIdeal.nD Cert.KernelRefIdeal.τ).loc Cert.KernelRefIdeal.main_arg0) = m' ((c.tc : Thread Cert.KernelRefIdeal.nD Cert.KernelRefIdeal.τ).loc Cert.KernelRefIdeal.main_arg0)
          ∧ r.2.mem ((c.tc : Thread Cert.KernelRefIdeal.nD Cert.KernelRefIdeal.τ).loc Cert.KernelRefIdeal.main_arg1) = m' ((c.tc : Thread Cert.KernelRefIdeal.nD Cert.KernelRefIdeal.τ).loc Cert.KernelRefIdeal.main_arg1)
          ∧ r.2.mem ((c.tc : Thread Cert.KernelRefIdeal.nD Cert.KernelRefIdeal.τ).loc Cert.KernelRefIdeal.main_arg2) = m' ((c.tc : Thread Cert.KernelRefIdeal.nD Cert.KernelRefIdeal.τ).loc Cert.KernelRefIdeal.main_arg2))

def preserves_Mlp2BwdX_Mlp2BwdXIdeal : Prop :=
  True

def algebraic_Mlp2BwdXIdeal_Mlp2BwdXRefIdeal [hMlp2BwdXIdeal : Cert.Mlp2BwdXIdeal.Facts] [hMlp2BwdXRefIdeal : Cert.Mlp2BwdXRefIdeal.Facts] : Prop :=
  ∀ (m : (ℓ : Loc Cert.Mlp2BwdXIdeal.nD Cert.Mlp2BwdXIdeal.τ Cert.Mlp2BwdXIdeal.sig) → Buf (Elt Ideal) ℓ) (g : Dev Cert.Mlp2BwdXIdeal.nD → PrngReg)
    (m' : (ℓ : Loc Cert.Mlp2BwdXRefIdeal.nD Cert.Mlp2BwdXRefIdeal.τ Cert.Mlp2BwdXRefIdeal.sig) → Buf (Elt Ideal) ℓ) (g' : Dev Cert.Mlp2BwdXRefIdeal.nD → PrngReg), Pre_Mlp2BwdXIdeal m →
    (∀ c : Dev Cert.Mlp2BwdXIdeal.nD,
      m' ((c.tc : Thread Cert.Mlp2BwdXRefIdeal.nD Cert.Mlp2BwdXRefIdeal.τ).loc Cert.Mlp2BwdXRefIdeal.main_arg0) = m ((c.tc : Thread Cert.Mlp2BwdXIdeal.nD Cert.Mlp2BwdXIdeal.τ).loc Cert.Mlp2BwdXIdeal.main_arg0)
      ∧ m' ((c.tc : Thread Cert.Mlp2BwdXRefIdeal.nD Cert.Mlp2BwdXRefIdeal.τ).loc Cert.Mlp2BwdXRefIdeal.main_arg1) = m ((c.tc : Thread Cert.Mlp2BwdXIdeal.nD Cert.Mlp2BwdXIdeal.τ).loc Cert.Mlp2BwdXIdeal.main_arg1)
      ∧ m' ((c.tc : Thread Cert.Mlp2BwdXRefIdeal.nD Cert.Mlp2BwdXRefIdeal.τ).loc Cert.Mlp2BwdXRefIdeal.main_arg2) = m ((c.tc : Thread Cert.Mlp2BwdXIdeal.nD Cert.Mlp2BwdXIdeal.τ).loc Cert.Mlp2BwdXIdeal.main_arg2)
      ∧ m' ((c.tc : Thread Cert.Mlp2BwdXRefIdeal.nD Cert.Mlp2BwdXRefIdeal.τ).loc Cert.Mlp2BwdXRefIdeal.main_arg3) = m ((c.tc : Thread Cert.Mlp2BwdXIdeal.nD Cert.Mlp2BwdXIdeal.τ).loc Cert.Mlp2BwdXIdeal.main_arg3)
      ∧ m' ((c.tc : Thread Cert.Mlp2BwdXRefIdeal.nD Cert.Mlp2BwdXRefIdeal.τ).loc Cert.Mlp2BwdXRefIdeal.main_arg4) = m ((c.tc : Thread Cert.Mlp2BwdXIdeal.nD Cert.Mlp2BwdXIdeal.τ).loc Cert.Mlp2BwdXIdeal.main_arg4)) →
    ∃ (v0 : (c : Dev Cert.Mlp2BwdXIdeal.nD) → Buf (Elt Ideal) ((c.tc : Thread Cert.Mlp2BwdXIdeal.nD Cert.Mlp2BwdXIdeal.τ).loc Cert.Mlp2BwdXIdeal.main_v8_0)) (v1 : (c : Dev Cert.Mlp2BwdXIdeal.nD) → Buf (Elt Ideal) ((c.tc : Thread Cert.Mlp2BwdXIdeal.nD Cert.Mlp2BwdXIdeal.τ).loc Cert.Mlp2BwdXIdeal.main_v8_1)),
      θ_run (Cert.Mlp2BwdXIdeal.defs (F := Ideal)) (onTc (τ := Cert.Mlp2BwdXIdeal.τ) (Cert.Mlp2BwdXIdeal.main (F := Ideal))) ⟨m, fun _ => 0, g⟩ (fun r => ∀ c : Dev Cert.Mlp2BwdXIdeal.nD,
          r.2.mem ((c.tc : Thread Cert.Mlp2BwdXIdeal.nD Cert.Mlp2BwdXIdeal.τ).loc Cert.Mlp2BwdXIdeal.main_v8_0) = v0 c
          ∧ r.2.mem ((c.tc : Thread Cert.Mlp2BwdXIdeal.nD Cert.Mlp2BwdXIdeal.τ).loc Cert.Mlp2BwdXIdeal.main_v8_1) = v1 c
          ∧ r.2.mem ((c.tc : Thread Cert.Mlp2BwdXIdeal.nD Cert.Mlp2BwdXIdeal.τ).loc Cert.Mlp2BwdXIdeal.main_arg0) = m ((c.tc : Thread Cert.Mlp2BwdXIdeal.nD Cert.Mlp2BwdXIdeal.τ).loc Cert.Mlp2BwdXIdeal.main_arg0)
          ∧ r.2.mem ((c.tc : Thread Cert.Mlp2BwdXIdeal.nD Cert.Mlp2BwdXIdeal.τ).loc Cert.Mlp2BwdXIdeal.main_arg1) = m ((c.tc : Thread Cert.Mlp2BwdXIdeal.nD Cert.Mlp2BwdXIdeal.τ).loc Cert.Mlp2BwdXIdeal.main_arg1)
          ∧ r.2.mem ((c.tc : Thread Cert.Mlp2BwdXIdeal.nD Cert.Mlp2BwdXIdeal.τ).loc Cert.Mlp2BwdXIdeal.main_arg2) = m ((c.tc : Thread Cert.Mlp2BwdXIdeal.nD Cert.Mlp2BwdXIdeal.τ).loc Cert.Mlp2BwdXIdeal.main_arg2)
          ∧ r.2.mem ((c.tc : Thread Cert.Mlp2BwdXIdeal.nD Cert.Mlp2BwdXIdeal.τ).loc Cert.Mlp2BwdXIdeal.main_arg3) = m ((c.tc : Thread Cert.Mlp2BwdXIdeal.nD Cert.Mlp2BwdXIdeal.τ).loc Cert.Mlp2BwdXIdeal.main_arg3)
          ∧ r.2.mem ((c.tc : Thread Cert.Mlp2BwdXIdeal.nD Cert.Mlp2BwdXIdeal.τ).loc Cert.Mlp2BwdXIdeal.main_arg4) = m ((c.tc : Thread Cert.Mlp2BwdXIdeal.nD Cert.Mlp2BwdXIdeal.τ).loc Cert.Mlp2BwdXIdeal.main_arg4))
      ∧ θ_run (Cert.Mlp2BwdXRefIdeal.defs (F := Ideal)) (onTc (τ := Cert.Mlp2BwdXRefIdeal.τ) (Cert.Mlp2BwdXRefIdeal.main (F := Ideal))) ⟨m', fun _ => 0, g'⟩ (fun r => ∀ c : Dev Cert.Mlp2BwdXRefIdeal.nD,
          r.2.mem ((c.tc : Thread Cert.Mlp2BwdXRefIdeal.nD Cert.Mlp2BwdXRefIdeal.τ).loc Cert.Mlp2BwdXRefIdeal.main_v19) = v0 c
          ∧ r.2.mem ((c.tc : Thread Cert.Mlp2BwdXRefIdeal.nD Cert.Mlp2BwdXRefIdeal.τ).loc Cert.Mlp2BwdXRefIdeal.main_v20) = v1 c
          ∧ r.2.mem ((c.tc : Thread Cert.Mlp2BwdXRefIdeal.nD Cert.Mlp2BwdXRefIdeal.τ).loc Cert.Mlp2BwdXRefIdeal.main_arg0) = m' ((c.tc : Thread Cert.Mlp2BwdXRefIdeal.nD Cert.Mlp2BwdXRefIdeal.τ).loc Cert.Mlp2BwdXRefIdeal.main_arg0)
          ∧ r.2.mem ((c.tc : Thread Cert.Mlp2BwdXRefIdeal.nD Cert.Mlp2BwdXRefIdeal.τ).loc Cert.Mlp2BwdXRefIdeal.main_arg1) = m' ((c.tc : Thread Cert.Mlp2BwdXRefIdeal.nD Cert.Mlp2BwdXRefIdeal.τ).loc Cert.Mlp2BwdXRefIdeal.main_arg1)
          ∧ r.2.mem ((c.tc : Thread Cert.Mlp2BwdXRefIdeal.nD Cert.Mlp2BwdXRefIdeal.τ).loc Cert.Mlp2BwdXRefIdeal.main_arg2) = m' ((c.tc : Thread Cert.Mlp2BwdXRefIdeal.nD Cert.Mlp2BwdXRefIdeal.τ).loc Cert.Mlp2BwdXRefIdeal.main_arg2)
          ∧ r.2.mem ((c.tc : Thread Cert.Mlp2BwdXRefIdeal.nD Cert.Mlp2BwdXRefIdeal.τ).loc Cert.Mlp2BwdXRefIdeal.main_arg3) = m' ((c.tc : Thread Cert.Mlp2BwdXRefIdeal.nD Cert.Mlp2BwdXRefIdeal.τ).loc Cert.Mlp2BwdXRefIdeal.main_arg3)
          ∧ r.2.mem ((c.tc : Thread Cert.Mlp2BwdXRefIdeal.nD Cert.Mlp2BwdXRefIdeal.τ).loc Cert.Mlp2BwdXRefIdeal.main_arg4) = m' ((c.tc : Thread Cert.Mlp2BwdXRefIdeal.nD Cert.Mlp2BwdXRefIdeal.τ).loc Cert.Mlp2BwdXRefIdeal.main_arg4))

def preserves_Mlp2BwdW_Mlp2BwdWIdeal : Prop :=
  True

def algebraic_Mlp2BwdWIdeal_Mlp2BwdWRefIdeal [hMlp2BwdWIdeal : Cert.Mlp2BwdWIdeal.Facts] [hMlp2BwdWRefIdeal : Cert.Mlp2BwdWRefIdeal.Facts] : Prop :=
  ∀ (m : (ℓ : Loc Cert.Mlp2BwdWIdeal.nD Cert.Mlp2BwdWIdeal.τ Cert.Mlp2BwdWIdeal.sig) → Buf (Elt Ideal) ℓ) (g : Dev Cert.Mlp2BwdWIdeal.nD → PrngReg)
    (m' : (ℓ : Loc Cert.Mlp2BwdWRefIdeal.nD Cert.Mlp2BwdWRefIdeal.τ Cert.Mlp2BwdWRefIdeal.sig) → Buf (Elt Ideal) ℓ) (g' : Dev Cert.Mlp2BwdWRefIdeal.nD → PrngReg), Pre_Mlp2BwdWIdeal m →
    (∀ c : Dev Cert.Mlp2BwdWIdeal.nD,
      m' ((c.tc : Thread Cert.Mlp2BwdWRefIdeal.nD Cert.Mlp2BwdWRefIdeal.τ).loc Cert.Mlp2BwdWRefIdeal.main_arg0) = m ((c.tc : Thread Cert.Mlp2BwdWIdeal.nD Cert.Mlp2BwdWIdeal.τ).loc Cert.Mlp2BwdWIdeal.main_arg0)
      ∧ m' ((c.tc : Thread Cert.Mlp2BwdWRefIdeal.nD Cert.Mlp2BwdWRefIdeal.τ).loc Cert.Mlp2BwdWRefIdeal.main_arg1) = m ((c.tc : Thread Cert.Mlp2BwdWIdeal.nD Cert.Mlp2BwdWIdeal.τ).loc Cert.Mlp2BwdWIdeal.main_arg1)
      ∧ m' ((c.tc : Thread Cert.Mlp2BwdWRefIdeal.nD Cert.Mlp2BwdWRefIdeal.τ).loc Cert.Mlp2BwdWRefIdeal.main_arg2) = m ((c.tc : Thread Cert.Mlp2BwdWIdeal.nD Cert.Mlp2BwdWIdeal.τ).loc Cert.Mlp2BwdWIdeal.main_arg2)
      ∧ m' ((c.tc : Thread Cert.Mlp2BwdWRefIdeal.nD Cert.Mlp2BwdWRefIdeal.τ).loc Cert.Mlp2BwdWRefIdeal.main_arg3) = m ((c.tc : Thread Cert.Mlp2BwdWIdeal.nD Cert.Mlp2BwdWIdeal.τ).loc Cert.Mlp2BwdWIdeal.main_arg3)) →
    ∃ (v0 : (c : Dev Cert.Mlp2BwdWIdeal.nD) → Buf (Elt Ideal) ((c.tc : Thread Cert.Mlp2BwdWIdeal.nD Cert.Mlp2BwdWIdeal.τ).loc Cert.Mlp2BwdWIdeal.main_v7)),
      θ_run (Cert.Mlp2BwdWIdeal.defs (F := Ideal)) (onTc (τ := Cert.Mlp2BwdWIdeal.τ) (Cert.Mlp2BwdWIdeal.main (F := Ideal))) ⟨m, fun _ => 0, g⟩ (fun r => ∀ c : Dev Cert.Mlp2BwdWIdeal.nD,
          r.2.mem ((c.tc : Thread Cert.Mlp2BwdWIdeal.nD Cert.Mlp2BwdWIdeal.τ).loc Cert.Mlp2BwdWIdeal.main_v7) = v0 c
          ∧ r.2.mem ((c.tc : Thread Cert.Mlp2BwdWIdeal.nD Cert.Mlp2BwdWIdeal.τ).loc Cert.Mlp2BwdWIdeal.main_arg0) = m ((c.tc : Thread Cert.Mlp2BwdWIdeal.nD Cert.Mlp2BwdWIdeal.τ).loc Cert.Mlp2BwdWIdeal.main_arg0)
          ∧ r.2.mem ((c.tc : Thread Cert.Mlp2BwdWIdeal.nD Cert.Mlp2BwdWIdeal.τ).loc Cert.Mlp2BwdWIdeal.main_arg1) = m ((c.tc : Thread Cert.Mlp2BwdWIdeal.nD Cert.Mlp2BwdWIdeal.τ).loc Cert.Mlp2BwdWIdeal.main_arg1)
          ∧ r.2.mem ((c.tc : Thread Cert.Mlp2BwdWIdeal.nD Cert.Mlp2BwdWIdeal.τ).loc Cert.Mlp2BwdWIdeal.main_arg2) = m ((c.tc : Thread Cert.Mlp2BwdWIdeal.nD Cert.Mlp2BwdWIdeal.τ).loc Cert.Mlp2BwdWIdeal.main_arg2)
          ∧ r.2.mem ((c.tc : Thread Cert.Mlp2BwdWIdeal.nD Cert.Mlp2BwdWIdeal.τ).loc Cert.Mlp2BwdWIdeal.main_arg3) = m ((c.tc : Thread Cert.Mlp2BwdWIdeal.nD Cert.Mlp2BwdWIdeal.τ).loc Cert.Mlp2BwdWIdeal.main_arg3))
      ∧ θ_run (Cert.Mlp2BwdWRefIdeal.defs (F := Ideal)) (onTc (τ := Cert.Mlp2BwdWRefIdeal.τ) (Cert.Mlp2BwdWRefIdeal.main (F := Ideal))) ⟨m', fun _ => 0, g'⟩ (fun r => ∀ c : Dev Cert.Mlp2BwdWRefIdeal.nD,
          r.2.mem ((c.tc : Thread Cert.Mlp2BwdWRefIdeal.nD Cert.Mlp2BwdWRefIdeal.τ).loc Cert.Mlp2BwdWRefIdeal.main_v9) = v0 c
          ∧ r.2.mem ((c.tc : Thread Cert.Mlp2BwdWRefIdeal.nD Cert.Mlp2BwdWRefIdeal.τ).loc Cert.Mlp2BwdWRefIdeal.main_arg0) = m' ((c.tc : Thread Cert.Mlp2BwdWRefIdeal.nD Cert.Mlp2BwdWRefIdeal.τ).loc Cert.Mlp2BwdWRefIdeal.main_arg0)
          ∧ r.2.mem ((c.tc : Thread Cert.Mlp2BwdWRefIdeal.nD Cert.Mlp2BwdWRefIdeal.τ).loc Cert.Mlp2BwdWRefIdeal.main_arg1) = m' ((c.tc : Thread Cert.Mlp2BwdWRefIdeal.nD Cert.Mlp2BwdWRefIdeal.τ).loc Cert.Mlp2BwdWRefIdeal.main_arg1)
          ∧ r.2.mem ((c.tc : Thread Cert.Mlp2BwdWRefIdeal.nD Cert.Mlp2BwdWRefIdeal.τ).loc Cert.Mlp2BwdWRefIdeal.main_arg2) = m' ((c.tc : Thread Cert.Mlp2BwdWRefIdeal.nD Cert.Mlp2BwdWRefIdeal.τ).loc Cert.Mlp2BwdWRefIdeal.main_arg2)
          ∧ r.2.mem ((c.tc : Thread Cert.Mlp2BwdWRefIdeal.nD Cert.Mlp2BwdWRefIdeal.τ).loc Cert.Mlp2BwdWRefIdeal.main_arg3) = m' ((c.tc : Thread Cert.Mlp2BwdWRefIdeal.nD Cert.Mlp2BwdWRefIdeal.τ).loc Cert.Mlp2BwdWRefIdeal.main_arg3))

def preserves_Mlp1BwdX_Mlp1BwdXIdeal : Prop :=
  True

def algebraic_Mlp1BwdXIdeal_Mlp1BwdXRefIdeal [hMlp1BwdXIdeal : Cert.Mlp1BwdXIdeal.Facts] [hMlp1BwdXRefIdeal : Cert.Mlp1BwdXRefIdeal.Facts] : Prop :=
  ∀ (m : (ℓ : Loc Cert.Mlp1BwdXIdeal.nD Cert.Mlp1BwdXIdeal.τ Cert.Mlp1BwdXIdeal.sig) → Buf (Elt Ideal) ℓ) (g : Dev Cert.Mlp1BwdXIdeal.nD → PrngReg)
    (m' : (ℓ : Loc Cert.Mlp1BwdXRefIdeal.nD Cert.Mlp1BwdXRefIdeal.τ Cert.Mlp1BwdXRefIdeal.sig) → Buf (Elt Ideal) ℓ) (g' : Dev Cert.Mlp1BwdXRefIdeal.nD → PrngReg), Pre_Mlp1BwdXIdeal m →
    (∀ c : Dev Cert.Mlp1BwdXIdeal.nD,
      m' ((c.tc : Thread Cert.Mlp1BwdXRefIdeal.nD Cert.Mlp1BwdXRefIdeal.τ).loc Cert.Mlp1BwdXRefIdeal.main_arg0) = m ((c.tc : Thread Cert.Mlp1BwdXIdeal.nD Cert.Mlp1BwdXIdeal.τ).loc Cert.Mlp1BwdXIdeal.main_arg0)
      ∧ m' ((c.tc : Thread Cert.Mlp1BwdXRefIdeal.nD Cert.Mlp1BwdXRefIdeal.τ).loc Cert.Mlp1BwdXRefIdeal.main_arg1) = m ((c.tc : Thread Cert.Mlp1BwdXIdeal.nD Cert.Mlp1BwdXIdeal.τ).loc Cert.Mlp1BwdXIdeal.main_arg1)) →
    ∃ (v0 : (c : Dev Cert.Mlp1BwdXIdeal.nD) → Buf (Elt Ideal) ((c.tc : Thread Cert.Mlp1BwdXIdeal.nD Cert.Mlp1BwdXIdeal.τ).loc Cert.Mlp1BwdXIdeal.main_v4)),
      θ_run (Cert.Mlp1BwdXIdeal.defs (F := Ideal)) (onTc (τ := Cert.Mlp1BwdXIdeal.τ) (Cert.Mlp1BwdXIdeal.main (F := Ideal))) ⟨m, fun _ => 0, g⟩ (fun r => ∀ c : Dev Cert.Mlp1BwdXIdeal.nD,
          r.2.mem ((c.tc : Thread Cert.Mlp1BwdXIdeal.nD Cert.Mlp1BwdXIdeal.τ).loc Cert.Mlp1BwdXIdeal.main_v4) = v0 c
          ∧ r.2.mem ((c.tc : Thread Cert.Mlp1BwdXIdeal.nD Cert.Mlp1BwdXIdeal.τ).loc Cert.Mlp1BwdXIdeal.main_arg0) = m ((c.tc : Thread Cert.Mlp1BwdXIdeal.nD Cert.Mlp1BwdXIdeal.τ).loc Cert.Mlp1BwdXIdeal.main_arg0)
          ∧ r.2.mem ((c.tc : Thread Cert.Mlp1BwdXIdeal.nD Cert.Mlp1BwdXIdeal.τ).loc Cert.Mlp1BwdXIdeal.main_arg1) = m ((c.tc : Thread Cert.Mlp1BwdXIdeal.nD Cert.Mlp1BwdXIdeal.τ).loc Cert.Mlp1BwdXIdeal.main_arg1))
      ∧ θ_run (Cert.Mlp1BwdXRefIdeal.defs (F := Ideal)) (onTc (τ := Cert.Mlp1BwdXRefIdeal.τ) (Cert.Mlp1BwdXRefIdeal.main (F := Ideal))) ⟨m', fun _ => 0, g'⟩ (fun r => ∀ c : Dev Cert.Mlp1BwdXRefIdeal.nD,
          r.2.mem ((c.tc : Thread Cert.Mlp1BwdXRefIdeal.nD Cert.Mlp1BwdXRefIdeal.τ).loc Cert.Mlp1BwdXRefIdeal.main_v2) = v0 c
          ∧ r.2.mem ((c.tc : Thread Cert.Mlp1BwdXRefIdeal.nD Cert.Mlp1BwdXRefIdeal.τ).loc Cert.Mlp1BwdXRefIdeal.main_arg0) = m' ((c.tc : Thread Cert.Mlp1BwdXRefIdeal.nD Cert.Mlp1BwdXRefIdeal.τ).loc Cert.Mlp1BwdXRefIdeal.main_arg0)
          ∧ r.2.mem ((c.tc : Thread Cert.Mlp1BwdXRefIdeal.nD Cert.Mlp1BwdXRefIdeal.τ).loc Cert.Mlp1BwdXRefIdeal.main_arg1) = m' ((c.tc : Thread Cert.Mlp1BwdXRefIdeal.nD Cert.Mlp1BwdXRefIdeal.τ).loc Cert.Mlp1BwdXRefIdeal.main_arg1))

def preserves_Mlp1BwdW_Mlp1BwdWIdeal : Prop :=
  True

def algebraic_Mlp1BwdWIdeal_Mlp1BwdWRefIdeal [hMlp1BwdWIdeal : Cert.Mlp1BwdWIdeal.Facts] [hMlp1BwdWRefIdeal : Cert.Mlp1BwdWRefIdeal.Facts] : Prop :=
  ∀ (m : (ℓ : Loc Cert.Mlp1BwdWIdeal.nD Cert.Mlp1BwdWIdeal.τ Cert.Mlp1BwdWIdeal.sig) → Buf (Elt Ideal) ℓ) (g : Dev Cert.Mlp1BwdWIdeal.nD → PrngReg)
    (m' : (ℓ : Loc Cert.Mlp1BwdWRefIdeal.nD Cert.Mlp1BwdWRefIdeal.τ Cert.Mlp1BwdWRefIdeal.sig) → Buf (Elt Ideal) ℓ) (g' : Dev Cert.Mlp1BwdWRefIdeal.nD → PrngReg), Pre_Mlp1BwdWIdeal m →
    (∀ c : Dev Cert.Mlp1BwdWIdeal.nD,
      m' ((c.tc : Thread Cert.Mlp1BwdWRefIdeal.nD Cert.Mlp1BwdWRefIdeal.τ).loc Cert.Mlp1BwdWRefIdeal.main_arg0) = m ((c.tc : Thread Cert.Mlp1BwdWIdeal.nD Cert.Mlp1BwdWIdeal.τ).loc Cert.Mlp1BwdWIdeal.main_arg0)
      ∧ m' ((c.tc : Thread Cert.Mlp1BwdWRefIdeal.nD Cert.Mlp1BwdWRefIdeal.τ).loc Cert.Mlp1BwdWRefIdeal.main_arg1) = m ((c.tc : Thread Cert.Mlp1BwdWIdeal.nD Cert.Mlp1BwdWIdeal.τ).loc Cert.Mlp1BwdWIdeal.main_arg1)) →
    ∃ (v0 : (c : Dev Cert.Mlp1BwdWIdeal.nD) → Buf (Elt Ideal) ((c.tc : Thread Cert.Mlp1BwdWIdeal.nD Cert.Mlp1BwdWIdeal.τ).loc Cert.Mlp1BwdWIdeal.main_v2)),
      θ_run (Cert.Mlp1BwdWIdeal.defs (F := Ideal)) (onTc (τ := Cert.Mlp1BwdWIdeal.τ) (Cert.Mlp1BwdWIdeal.main (F := Ideal))) ⟨m, fun _ => 0, g⟩ (fun r => ∀ c : Dev Cert.Mlp1BwdWIdeal.nD,
          r.2.mem ((c.tc : Thread Cert.Mlp1BwdWIdeal.nD Cert.Mlp1BwdWIdeal.τ).loc Cert.Mlp1BwdWIdeal.main_v2) = v0 c
          ∧ r.2.mem ((c.tc : Thread Cert.Mlp1BwdWIdeal.nD Cert.Mlp1BwdWIdeal.τ).loc Cert.Mlp1BwdWIdeal.main_arg0) = m ((c.tc : Thread Cert.Mlp1BwdWIdeal.nD Cert.Mlp1BwdWIdeal.τ).loc Cert.Mlp1BwdWIdeal.main_arg0)
          ∧ r.2.mem ((c.tc : Thread Cert.Mlp1BwdWIdeal.nD Cert.Mlp1BwdWIdeal.τ).loc Cert.Mlp1BwdWIdeal.main_arg1) = m ((c.tc : Thread Cert.Mlp1BwdWIdeal.nD Cert.Mlp1BwdWIdeal.τ).loc Cert.Mlp1BwdWIdeal.main_arg1))
      ∧ θ_run (Cert.Mlp1BwdWRefIdeal.defs (F := Ideal)) (onTc (τ := Cert.Mlp1BwdWRefIdeal.τ) (Cert.Mlp1BwdWRefIdeal.main (F := Ideal))) ⟨m', fun _ => 0, g'⟩ (fun r => ∀ c : Dev Cert.Mlp1BwdWRefIdeal.nD,
          r.2.mem ((c.tc : Thread Cert.Mlp1BwdWRefIdeal.nD Cert.Mlp1BwdWRefIdeal.τ).loc Cert.Mlp1BwdWRefIdeal.main_v5) = v0 c
          ∧ r.2.mem ((c.tc : Thread Cert.Mlp1BwdWRefIdeal.nD Cert.Mlp1BwdWRefIdeal.τ).loc Cert.Mlp1BwdWRefIdeal.main_arg0) = m' ((c.tc : Thread Cert.Mlp1BwdWRefIdeal.nD Cert.Mlp1BwdWRefIdeal.τ).loc Cert.Mlp1BwdWRefIdeal.main_arg0)
          ∧ r.2.mem ((c.tc : Thread Cert.Mlp1BwdWRefIdeal.nD Cert.Mlp1BwdWRefIdeal.τ).loc Cert.Mlp1BwdWRefIdeal.main_arg1) = m' ((c.tc : Thread Cert.Mlp1BwdWRefIdeal.nD Cert.Mlp1BwdWRefIdeal.τ).loc Cert.Mlp1BwdWRefIdeal.main_arg1))

def preserves_InBwdX_InBwdXIdeal : Prop :=
  True

def algebraic_InBwdXIdeal_InBwdXRefIdeal [hInBwdXIdeal : Cert.InBwdXIdeal.Facts] [hInBwdXRefIdeal : Cert.InBwdXRefIdeal.Facts] : Prop :=
  ∀ (m : (ℓ : Loc Cert.InBwdXIdeal.nD Cert.InBwdXIdeal.τ Cert.InBwdXIdeal.sig) → Buf (Elt Ideal) ℓ) (g : Dev Cert.InBwdXIdeal.nD → PrngReg)
    (m' : (ℓ : Loc Cert.InBwdXRefIdeal.nD Cert.InBwdXRefIdeal.τ Cert.InBwdXRefIdeal.sig) → Buf (Elt Ideal) ℓ) (g' : Dev Cert.InBwdXRefIdeal.nD → PrngReg), Pre_InBwdXIdeal m →
    (∀ c : Dev Cert.InBwdXIdeal.nD,
      m' ((c.tc : Thread Cert.InBwdXRefIdeal.nD Cert.InBwdXRefIdeal.τ).loc Cert.InBwdXRefIdeal.main_arg0) = m ((c.tc : Thread Cert.InBwdXIdeal.nD Cert.InBwdXIdeal.τ).loc Cert.InBwdXIdeal.main_arg0)
      ∧ m' ((c.tc : Thread Cert.InBwdXRefIdeal.nD Cert.InBwdXRefIdeal.τ).loc Cert.InBwdXRefIdeal.main_arg1) = m ((c.tc : Thread Cert.InBwdXIdeal.nD Cert.InBwdXIdeal.τ).loc Cert.InBwdXIdeal.main_arg1)) →
    ∃ (v0 : (c : Dev Cert.InBwdXIdeal.nD) → Buf (Elt Ideal) ((c.tc : Thread Cert.InBwdXIdeal.nD Cert.InBwdXIdeal.τ).loc Cert.InBwdXIdeal.main_v14)),
      θ_run (Cert.InBwdXIdeal.defs (F := Ideal)) (onTc (τ := Cert.InBwdXIdeal.τ) (Cert.InBwdXIdeal.main (F := Ideal))) ⟨m, fun _ => 0, g⟩ (fun r => ∀ c : Dev Cert.InBwdXIdeal.nD,
          r.2.mem ((c.tc : Thread Cert.InBwdXIdeal.nD Cert.InBwdXIdeal.τ).loc Cert.InBwdXIdeal.main_v14) = v0 c
          ∧ r.2.mem ((c.tc : Thread Cert.InBwdXIdeal.nD Cert.InBwdXIdeal.τ).loc Cert.InBwdXIdeal.main_arg0) = m ((c.tc : Thread Cert.InBwdXIdeal.nD Cert.InBwdXIdeal.τ).loc Cert.InBwdXIdeal.main_arg0)
          ∧ r.2.mem ((c.tc : Thread Cert.InBwdXIdeal.nD Cert.InBwdXIdeal.τ).loc Cert.InBwdXIdeal.main_arg1) = m ((c.tc : Thread Cert.InBwdXIdeal.nD Cert.InBwdXIdeal.τ).loc Cert.InBwdXIdeal.main_arg1))
      ∧ θ_run (Cert.InBwdXRefIdeal.defs (F := Ideal)) (onTc (τ := Cert.InBwdXRefIdeal.τ) (Cert.InBwdXRefIdeal.main (F := Ideal))) ⟨m', fun _ => 0, g'⟩ (fun r => ∀ c : Dev Cert.InBwdXRefIdeal.nD,
          r.2.mem ((c.tc : Thread Cert.InBwdXRefIdeal.nD Cert.InBwdXRefIdeal.τ).loc Cert.InBwdXRefIdeal.main_v2) = v0 c
          ∧ r.2.mem ((c.tc : Thread Cert.InBwdXRefIdeal.nD Cert.InBwdXRefIdeal.τ).loc Cert.InBwdXRefIdeal.main_arg0) = m' ((c.tc : Thread Cert.InBwdXRefIdeal.nD Cert.InBwdXRefIdeal.τ).loc Cert.InBwdXRefIdeal.main_arg0)
          ∧ r.2.mem ((c.tc : Thread Cert.InBwdXRefIdeal.nD Cert.InBwdXRefIdeal.τ).loc Cert.InBwdXRefIdeal.main_arg1) = m' ((c.tc : Thread Cert.InBwdXRefIdeal.nD Cert.InBwdXRefIdeal.τ).loc Cert.InBwdXRefIdeal.main_arg1))

def preserves_InBwdW_InBwdWIdeal : Prop :=
  True

def algebraic_InBwdWIdeal_InBwdWRefIdeal [hInBwdWIdeal : Cert.InBwdWIdeal.Facts] [hInBwdWRefIdeal : Cert.InBwdWRefIdeal.Facts] : Prop :=
  ∀ (m : (ℓ : Loc Cert.InBwdWIdeal.nD Cert.InBwdWIdeal.τ Cert.InBwdWIdeal.sig) → Buf (Elt Ideal) ℓ) (g : Dev Cert.InBwdWIdeal.nD → PrngReg)
    (m' : (ℓ : Loc Cert.InBwdWRefIdeal.nD Cert.InBwdWRefIdeal.τ Cert.InBwdWRefIdeal.sig) → Buf (Elt Ideal) ℓ) (g' : Dev Cert.InBwdWRefIdeal.nD → PrngReg), Pre_InBwdWIdeal m →
    (∀ c : Dev Cert.InBwdWIdeal.nD,
      m' ((c.tc : Thread Cert.InBwdWRefIdeal.nD Cert.InBwdWRefIdeal.τ).loc Cert.InBwdWRefIdeal.main_arg0) = m ((c.tc : Thread Cert.InBwdWIdeal.nD Cert.InBwdWIdeal.τ).loc Cert.InBwdWIdeal.main_arg0)
      ∧ m' ((c.tc : Thread Cert.InBwdWRefIdeal.nD Cert.InBwdWRefIdeal.τ).loc Cert.InBwdWRefIdeal.main_arg1) = m ((c.tc : Thread Cert.InBwdWIdeal.nD Cert.InBwdWIdeal.τ).loc Cert.InBwdWIdeal.main_arg1)) →
    ∃ (v0 : (c : Dev Cert.InBwdWIdeal.nD) → Buf (Elt Ideal) ((c.tc : Thread Cert.InBwdWIdeal.nD Cert.InBwdWIdeal.τ).loc Cert.InBwdWIdeal.main_v7)),
      θ_run (Cert.InBwdWIdeal.defs (F := Ideal)) (onTc (τ := Cert.InBwdWIdeal.τ) (Cert.InBwdWIdeal.main (F := Ideal))) ⟨m, fun _ => 0, g⟩ (fun r => ∀ c : Dev Cert.InBwdWIdeal.nD,
          r.2.mem ((c.tc : Thread Cert.InBwdWIdeal.nD Cert.InBwdWIdeal.τ).loc Cert.InBwdWIdeal.main_v7) = v0 c
          ∧ r.2.mem ((c.tc : Thread Cert.InBwdWIdeal.nD Cert.InBwdWIdeal.τ).loc Cert.InBwdWIdeal.main_arg0) = m ((c.tc : Thread Cert.InBwdWIdeal.nD Cert.InBwdWIdeal.τ).loc Cert.InBwdWIdeal.main_arg0)
          ∧ r.2.mem ((c.tc : Thread Cert.InBwdWIdeal.nD Cert.InBwdWIdeal.τ).loc Cert.InBwdWIdeal.main_arg1) = m ((c.tc : Thread Cert.InBwdWIdeal.nD Cert.InBwdWIdeal.τ).loc Cert.InBwdWIdeal.main_arg1))
      ∧ θ_run (Cert.InBwdWRefIdeal.defs (F := Ideal)) (onTc (τ := Cert.InBwdWRefIdeal.τ) (Cert.InBwdWRefIdeal.main (F := Ideal))) ⟨m', fun _ => 0, g'⟩ (fun r => ∀ c : Dev Cert.InBwdWRefIdeal.nD,
          r.2.mem ((c.tc : Thread Cert.InBwdWRefIdeal.nD Cert.InBwdWRefIdeal.τ).loc Cert.InBwdWRefIdeal.main_v9) = v0 c
          ∧ r.2.mem ((c.tc : Thread Cert.InBwdWRefIdeal.nD Cert.InBwdWRefIdeal.τ).loc Cert.InBwdWRefIdeal.main_arg0) = m' ((c.tc : Thread Cert.InBwdWRefIdeal.nD Cert.InBwdWRefIdeal.τ).loc Cert.InBwdWRefIdeal.main_arg0)
          ∧ r.2.mem ((c.tc : Thread Cert.InBwdWRefIdeal.nD Cert.InBwdWRefIdeal.τ).loc Cert.InBwdWRefIdeal.main_arg1) = m' ((c.tc : Thread Cert.InBwdWRefIdeal.nD Cert.InBwdWRefIdeal.τ).loc Cert.InBwdWRefIdeal.main_arg1))

def preserves_OutBwdX_OutBwdXIdeal : Prop :=
  True

def algebraic_OutBwdXIdeal_OutBwdXRefIdeal [hOutBwdXIdeal : Cert.OutBwdXIdeal.Facts] [hOutBwdXRefIdeal : Cert.OutBwdXRefIdeal.Facts] : Prop :=
  ∀ (m : (ℓ : Loc Cert.OutBwdXIdeal.nD Cert.OutBwdXIdeal.τ Cert.OutBwdXIdeal.sig) → Buf (Elt Ideal) ℓ) (g : Dev Cert.OutBwdXIdeal.nD → PrngReg)
    (m' : (ℓ : Loc Cert.OutBwdXRefIdeal.nD Cert.OutBwdXRefIdeal.τ Cert.OutBwdXRefIdeal.sig) → Buf (Elt Ideal) ℓ) (g' : Dev Cert.OutBwdXRefIdeal.nD → PrngReg), Pre_OutBwdXIdeal m →
    (∀ c : Dev Cert.OutBwdXIdeal.nD,
      m' ((c.tc : Thread Cert.OutBwdXRefIdeal.nD Cert.OutBwdXRefIdeal.τ).loc Cert.OutBwdXRefIdeal.main_arg0) = m ((c.tc : Thread Cert.OutBwdXIdeal.nD Cert.OutBwdXIdeal.τ).loc Cert.OutBwdXIdeal.main_arg0)
      ∧ m' ((c.tc : Thread Cert.OutBwdXRefIdeal.nD Cert.OutBwdXRefIdeal.τ).loc Cert.OutBwdXRefIdeal.main_arg1) = m ((c.tc : Thread Cert.OutBwdXIdeal.nD Cert.OutBwdXIdeal.τ).loc Cert.OutBwdXIdeal.main_arg1)) →
    ∃ (v0 : (c : Dev Cert.OutBwdXIdeal.nD) → Buf (Elt Ideal) ((c.tc : Thread Cert.OutBwdXIdeal.nD Cert.OutBwdXIdeal.τ).loc Cert.OutBwdXIdeal.main_v2)),
      θ_run (Cert.OutBwdXIdeal.defs (F := Ideal)) (onTc (τ := Cert.OutBwdXIdeal.τ) (Cert.OutBwdXIdeal.main (F := Ideal))) ⟨m, fun _ => 0, g⟩ (fun r => ∀ c : Dev Cert.OutBwdXIdeal.nD,
          r.2.mem ((c.tc : Thread Cert.OutBwdXIdeal.nD Cert.OutBwdXIdeal.τ).loc Cert.OutBwdXIdeal.main_v2) = v0 c
          ∧ r.2.mem ((c.tc : Thread Cert.OutBwdXIdeal.nD Cert.OutBwdXIdeal.τ).loc Cert.OutBwdXIdeal.main_arg0) = m ((c.tc : Thread Cert.OutBwdXIdeal.nD Cert.OutBwdXIdeal.τ).loc Cert.OutBwdXIdeal.main_arg0)
          ∧ r.2.mem ((c.tc : Thread Cert.OutBwdXIdeal.nD Cert.OutBwdXIdeal.τ).loc Cert.OutBwdXIdeal.main_arg1) = m ((c.tc : Thread Cert.OutBwdXIdeal.nD Cert.OutBwdXIdeal.τ).loc Cert.OutBwdXIdeal.main_arg1))
      ∧ θ_run (Cert.OutBwdXRefIdeal.defs (F := Ideal)) (onTc (τ := Cert.OutBwdXRefIdeal.τ) (Cert.OutBwdXRefIdeal.main (F := Ideal))) ⟨m', fun _ => 0, g'⟩ (fun r => ∀ c : Dev Cert.OutBwdXRefIdeal.nD,
          r.2.mem ((c.tc : Thread Cert.OutBwdXRefIdeal.nD Cert.OutBwdXRefIdeal.τ).loc Cert.OutBwdXRefIdeal.main_v2) = v0 c
          ∧ r.2.mem ((c.tc : Thread Cert.OutBwdXRefIdeal.nD Cert.OutBwdXRefIdeal.τ).loc Cert.OutBwdXRefIdeal.main_arg0) = m' ((c.tc : Thread Cert.OutBwdXRefIdeal.nD Cert.OutBwdXRefIdeal.τ).loc Cert.OutBwdXRefIdeal.main_arg0)
          ∧ r.2.mem ((c.tc : Thread Cert.OutBwdXRefIdeal.nD Cert.OutBwdXRefIdeal.τ).loc Cert.OutBwdXRefIdeal.main_arg1) = m' ((c.tc : Thread Cert.OutBwdXRefIdeal.nD Cert.OutBwdXRefIdeal.τ).loc Cert.OutBwdXRefIdeal.main_arg1))

def preserves_OutBwdW_OutBwdWIdeal : Prop :=
  True

def algebraic_OutBwdWIdeal_OutBwdWRefIdeal [hOutBwdWIdeal : Cert.OutBwdWIdeal.Facts] [hOutBwdWRefIdeal : Cert.OutBwdWRefIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg)
    (m' : (ℓ : Loc Cert.OutBwdWRefIdeal.nD Cert.OutBwdWRefIdeal.τ Cert.OutBwdWRefIdeal.sig) → Buf (Elt Ideal) ℓ) (g' : Dev Cert.OutBwdWRefIdeal.nD → PrngReg), Pre_OutBwdWIdeal m →
    (∀ c : Dev Cert.OutBwdWIdeal.nD,
      m' ((c.tc : Thread Cert.OutBwdWRefIdeal.nD Cert.OutBwdWRefIdeal.τ).loc Cert.OutBwdWRefIdeal.main_arg0) = m ((c.tc : Thread Cert.OutBwdWIdeal.nD Cert.OutBwdWIdeal.τ).loc Cert.OutBwdWIdeal.main_arg0)
      ∧ m' ((c.tc : Thread Cert.OutBwdWRefIdeal.nD Cert.OutBwdWRefIdeal.τ).loc Cert.OutBwdWRefIdeal.main_arg1) = m ((c.tc : Thread Cert.OutBwdWIdeal.nD Cert.OutBwdWIdeal.τ).loc Cert.OutBwdWIdeal.main_arg1)) →
    ∃ (v0 : (c : Dev Cert.OutBwdWIdeal.nD) → Buf (Elt Ideal) ((c.tc : Thread Cert.OutBwdWIdeal.nD Cert.OutBwdWIdeal.τ).loc Cert.OutBwdWIdeal.main_v2)),
      θ_run (Cert.OutBwdWIdeal.defs (F := Ideal)) (onTc (τ := Cert.OutBwdWIdeal.τ) (Cert.OutBwdWIdeal.main (F := Ideal))) ⟨m, fun _ => 0, g⟩ (fun r => ∀ c : Dev Cert.OutBwdWIdeal.nD,
          r.2.mem ((c.tc : Thread Cert.OutBwdWIdeal.nD Cert.OutBwdWIdeal.τ).loc Cert.OutBwdWIdeal.main_v2) = v0 c
          ∧ r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
          ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ θ_run (Cert.OutBwdWRefIdeal.defs (F := Ideal)) (onTc (τ := Cert.OutBwdWRefIdeal.τ) (Cert.OutBwdWRefIdeal.main (F := Ideal))) ⟨m', fun _ => 0, g'⟩ (fun r => ∀ c : Dev Cert.OutBwdWRefIdeal.nD,
          r.2.mem ((c.tc : Thread Cert.OutBwdWRefIdeal.nD Cert.OutBwdWRefIdeal.τ).loc Cert.OutBwdWRefIdeal.main_v3) = v0 c
          ∧ r.2.mem ((c.tc : Thread Cert.OutBwdWRefIdeal.nD Cert.OutBwdWRefIdeal.τ).loc Cert.OutBwdWRefIdeal.main_arg0) = m' ((c.tc : Thread Cert.OutBwdWRefIdeal.nD Cert.OutBwdWRefIdeal.τ).loc Cert.OutBwdWRefIdeal.main_arg0)
          ∧ r.2.mem ((c.tc : Thread Cert.OutBwdWRefIdeal.nD Cert.OutBwdWRefIdeal.τ).loc Cert.OutBwdWRefIdeal.main_arg1) = m' ((c.tc : Thread Cert.OutBwdWRefIdeal.nD Cert.OutBwdWRefIdeal.τ).loc Cert.OutBwdWRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Mlp1_Mlp1Ideal : Prop :=
  True

def algebraic_Mlp1Ideal_Mlp1RefIdeal [hMlp1Ideal : Cert.Mlp1Ideal.Facts] [hMlp1RefIdeal : Cert.Mlp1RefIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1RefIdeal.nD Cert.Mlp1RefIdeal.τ Cert.Mlp1RefIdeal.sig) → Buf (Elt Ideal) ℓ) (g' : Dev Cert.Mlp1RefIdeal.nD → PrngReg), Pre_Mlp1Ideal m →
    (∀ c : Dev Cert.Mlp1Ideal.nD,
      m' ((c.tc : Thread Cert.Mlp1RefIdeal.nD Cert.Mlp1RefIdeal.τ).loc Cert.Mlp1RefIdeal.main_arg0) = m ((c.tc : Thread Cert.Mlp1Ideal.nD Cert.Mlp1Ideal.τ).loc Cert.Mlp1Ideal.main_arg0)
      ∧ m' ((c.tc : Thread Cert.Mlp1RefIdeal.nD Cert.Mlp1RefIdeal.τ).loc Cert.Mlp1RefIdeal.main_arg1) = m ((c.tc : Thread Cert.Mlp1Ideal.nD Cert.Mlp1Ideal.τ).loc Cert.Mlp1Ideal.main_arg1)
      ∧ m' ((c.tc : Thread Cert.Mlp1RefIdeal.nD Cert.Mlp1RefIdeal.τ).loc Cert.Mlp1RefIdeal.main_arg2) = m ((c.tc : Thread Cert.Mlp1Ideal.nD Cert.Mlp1Ideal.τ).loc Cert.Mlp1Ideal.main_arg2)) →
    ∃ (v0 : (c : Dev Cert.Mlp1Ideal.nD) → Buf (Elt Ideal) ((c.tc : Thread Cert.Mlp1Ideal.nD Cert.Mlp1Ideal.τ).loc Cert.Mlp1Ideal.main_v5)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v5) = v0 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2))
      ∧ θ_run (Cert.Mlp1RefIdeal.defs (F := Ideal)) (onTc (τ := Cert.Mlp1RefIdeal.τ) (Cert.Mlp1RefIdeal.main (F := Ideal))) ⟨m', fun _ => 0, g'⟩ (fun r => ∀ c : Dev Cert.Mlp1RefIdeal.nD,
          r.2.mem ((c.tc : Thread Cert.Mlp1RefIdeal.nD Cert.Mlp1RefIdeal.τ).loc Cert.Mlp1RefIdeal.main_v5) = v0 c
          ∧ r.2.mem ((c.tc : Thread Cert.Mlp1RefIdeal.nD Cert.Mlp1RefIdeal.τ).loc Cert.Mlp1RefIdeal.main_arg0) = m' ((c.tc : Thread Cert.Mlp1RefIdeal.nD Cert.Mlp1RefIdeal.τ).loc Cert.Mlp1RefIdeal.main_arg0)
          ∧ r.2.mem ((c.tc : Thread Cert.Mlp1RefIdeal.nD Cert.Mlp1RefIdeal.τ).loc Cert.Mlp1RefIdeal.main_arg1) = m' ((c.tc : Thread Cert.Mlp1RefIdeal.nD Cert.Mlp1RefIdeal.τ).loc Cert.Mlp1RefIdeal.main_arg1)
          ∧ r.2.mem ((c.tc : Thread Cert.Mlp1RefIdeal.nD Cert.Mlp1RefIdeal.τ).loc Cert.Mlp1RefIdeal.main_arg2) = m' ((c.tc : Thread Cert.Mlp1RefIdeal.nD Cert.Mlp1RefIdeal.τ).loc Cert.Mlp1RefIdeal.main_arg2))

def preserves_Mlp2_Mlp2Ideal : Prop :=
  True

def algebraic_Mlp2Ideal_Mlp2RefIdeal [hMlp2Ideal : Cert.Mlp2Ideal.Facts] [hMlp2RefIdeal : Cert.Mlp2RefIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2RefIdeal.nD Cert.Mlp2RefIdeal.τ Cert.Mlp2RefIdeal.sig) → Buf (Elt Ideal) ℓ) (g' : Dev Cert.Mlp2RefIdeal.nD → PrngReg), Pre_Mlp2Ideal m →
    (∀ c : Dev Cert.Mlp2Ideal.nD,
      m' ((c.tc : Thread Cert.Mlp2RefIdeal.nD Cert.Mlp2RefIdeal.τ).loc Cert.Mlp2RefIdeal.main_arg0) = m ((c.tc : Thread Cert.Mlp2Ideal.nD Cert.Mlp2Ideal.τ).loc Cert.Mlp2Ideal.main_arg0)
      ∧ m' ((c.tc : Thread Cert.Mlp2RefIdeal.nD Cert.Mlp2RefIdeal.τ).loc Cert.Mlp2RefIdeal.main_arg1) = m ((c.tc : Thread Cert.Mlp2Ideal.nD Cert.Mlp2Ideal.τ).loc Cert.Mlp2Ideal.main_arg1)
      ∧ m' ((c.tc : Thread Cert.Mlp2RefIdeal.nD Cert.Mlp2RefIdeal.τ).loc Cert.Mlp2RefIdeal.main_arg2) = m ((c.tc : Thread Cert.Mlp2Ideal.nD Cert.Mlp2Ideal.τ).loc Cert.Mlp2Ideal.main_arg2)
      ∧ m' ((c.tc : Thread Cert.Mlp2RefIdeal.nD Cert.Mlp2RefIdeal.τ).loc Cert.Mlp2RefIdeal.main_arg3) = m ((c.tc : Thread Cert.Mlp2Ideal.nD Cert.Mlp2Ideal.τ).loc Cert.Mlp2Ideal.main_arg3)
      ∧ m' ((c.tc : Thread Cert.Mlp2RefIdeal.nD Cert.Mlp2RefIdeal.τ).loc Cert.Mlp2RefIdeal.main_arg4) = m ((c.tc : Thread Cert.Mlp2Ideal.nD Cert.Mlp2Ideal.τ).loc Cert.Mlp2Ideal.main_arg4)) →
    ∃ (v0 : (c : Dev Cert.Mlp2Ideal.nD) → Buf (Elt Ideal) ((c.tc : Thread Cert.Mlp2Ideal.nD Cert.Mlp2Ideal.τ).loc Cert.Mlp2Ideal.main_v8)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v8) = v0 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
          ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
          ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4))
      ∧ θ_run (Cert.Mlp2RefIdeal.defs (F := Ideal)) (onTc (τ := Cert.Mlp2RefIdeal.τ) (Cert.Mlp2RefIdeal.main (F := Ideal))) ⟨m', fun _ => 0, g'⟩ (fun r => ∀ c : Dev Cert.Mlp2RefIdeal.nD,
          r.2.mem ((c.tc : Thread Cert.Mlp2RefIdeal.nD Cert.Mlp2RefIdeal.τ).loc Cert.Mlp2RefIdeal.main_v9) = v0 c
          ∧ r.2.mem ((c.tc : Thread Cert.Mlp2RefIdeal.nD Cert.Mlp2RefIdeal.τ).loc Cert.Mlp2RefIdeal.main_arg0) = m' ((c.tc : Thread Cert.Mlp2RefIdeal.nD Cert.Mlp2RefIdeal.τ).loc Cert.Mlp2RefIdeal.main_arg0)
          ∧ r.2.mem ((c.tc : Thread Cert.Mlp2RefIdeal.nD Cert.Mlp2RefIdeal.τ).loc Cert.Mlp2RefIdeal.main_arg1) = m' ((c.tc : Thread Cert.Mlp2RefIdeal.nD Cert.Mlp2RefIdeal.τ).loc Cert.Mlp2RefIdeal.main_arg1)
          ∧ r.2.mem ((c.tc : Thread Cert.Mlp2RefIdeal.nD Cert.Mlp2RefIdeal.τ).loc Cert.Mlp2RefIdeal.main_arg2) = m' ((c.tc : Thread Cert.Mlp2RefIdeal.nD Cert.Mlp2RefIdeal.τ).loc Cert.Mlp2RefIdeal.main_arg2)
          ∧ r.2.mem ((c.tc : Thread Cert.Mlp2RefIdeal.nD Cert.Mlp2RefIdeal.τ).loc Cert.Mlp2RefIdeal.main_arg3) = m' ((c.tc : Thread Cert.Mlp2RefIdeal.nD Cert.Mlp2RefIdeal.τ).loc Cert.Mlp2RefIdeal.main_arg3)
          ∧ r.2.mem ((c.tc : Thread Cert.Mlp2RefIdeal.nD Cert.Mlp2RefIdeal.τ).loc Cert.Mlp2RefIdeal.main_arg4) = m' ((c.tc : Thread Cert.Mlp2RefIdeal.nD Cert.Mlp2RefIdeal.τ).loc Cert.Mlp2RefIdeal.main_arg4))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v1_0)) (v1 : (c : Dev Cert.AdamModIdeal.nD) → Buf (Elt Ideal) ((c.tc : Thread Cert.AdamModIdeal.nD Cert.AdamModIdeal.τ).loc Cert.AdamModIdeal.main_v1_1)) (v2 : (c : Dev Cert.AdamModIdeal.nD) → Buf (Elt Ideal) ((c.tc : Thread Cert.AdamModIdeal.nD Cert.AdamModIdeal.τ).loc Cert.AdamModIdeal.main_v1_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v1_0) = v0 c
          ∧ r.2.mem ((c.tc : Thread Cert.AdamModIdeal.nD Cert.AdamModIdeal.τ).loc Cert.AdamModIdeal.main_v1_1) = v1 c
          ∧ r.2.mem ((c.tc : Thread Cert.AdamModIdeal.nD Cert.AdamModIdeal.τ).loc Cert.AdamModIdeal.main_v1_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v24) = v0 c
          ∧ r.2.mem ((c.tc : Thread Cert.AdamModRefIdeal.nD Cert.AdamModRefIdeal.τ).loc Cert.AdamModRefIdeal.main_v5) = v1 c
          ∧ r.2.mem ((c.tc : Thread Cert.AdamModRefIdeal.nD Cert.AdamModRefIdeal.τ).loc Cert.AdamModRefIdeal.main_v11) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)) →
    ∃ (v0 : (c : Dev Cert.AdamMlpIdeal.nD) → Buf (Elt Ideal) ((c.tc : Thread Cert.AdamMlpIdeal.nD Cert.AdamMlpIdeal.τ).loc Cert.AdamMlpIdeal.main_v1_0)) (v1 : (c : Dev Cert.AdamMlpIdeal.nD) → Buf (Elt Ideal) ((c.tc : Thread Cert.AdamMlpIdeal.nD Cert.AdamMlpIdeal.τ).loc Cert.AdamMlpIdeal.main_v1_1)) (v2 : (c : Dev Cert.AdamMlpIdeal.nD) → Buf (Elt Ideal) ((c.tc : Thread Cert.AdamMlpIdeal.nD Cert.AdamMlpIdeal.τ).loc Cert.AdamMlpIdeal.main_v1_2)) (v3 : (c : Dev Cert.AdamMlpIdeal.nD) → Buf (Elt Ideal) ((c.tc : Thread Cert.AdamMlpIdeal.nD Cert.AdamMlpIdeal.τ).loc Cert.AdamMlpIdeal.main_v1_3)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v1_0) = v0 c
          ∧ r.2.mem ((c.tc : Thread Cert.AdamMlpIdeal.nD Cert.AdamMlpIdeal.τ).loc Cert.AdamMlpIdeal.main_v1_1) = v1 c
          ∧ r.2.mem ((c.tc : Thread Cert.AdamMlpIdeal.nD Cert.AdamMlpIdeal.τ).loc Cert.AdamMlpIdeal.main_v1_2) = v2 c
          ∧ r.2.mem ((c.tc : Thread Cert.AdamMlpIdeal.nD Cert.AdamMlpIdeal.τ).loc Cert.AdamMlpIdeal.main_v1_3) = v3 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v24) = v0 c
          ∧ r.2.mem ((c.tc : Thread Cert.AdamMlpRefIdeal.nD Cert.AdamMlpRefIdeal.τ).loc Cert.AdamMlpRefIdeal.main_v5) = v1 c
          ∧ r.2.mem ((c.tc : Thread Cert.AdamMlpRefIdeal.nD Cert.AdamMlpRefIdeal.τ).loc Cert.AdamMlpRefIdeal.main_v11) = v2 c
          ∧ r.2.mem ((c.tc : Thread Cert.AdamMlpRefIdeal.nD Cert.AdamMlpRefIdeal.τ).loc Cert.AdamMlpRefIdeal.main_v25) = v3 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v6_0)) (v1 : (c : Dev Cert.AdamInIdeal.nD) → Buf (Elt Ideal) ((c.tc : Thread Cert.AdamInIdeal.nD Cert.AdamInIdeal.τ).loc Cert.AdamInIdeal.main_v6_1)) (v2 : (c : Dev Cert.AdamInIdeal.nD) → Buf (Elt Ideal) ((c.tc : Thread Cert.AdamInIdeal.nD Cert.AdamInIdeal.τ).loc Cert.AdamInIdeal.main_v6_2)) (v3 : (c : Dev Cert.AdamInIdeal.nD) → Buf (Elt Ideal) ((c.tc : Thread Cert.AdamInIdeal.nD Cert.AdamInIdeal.τ).loc Cert.AdamInIdeal.main_v6_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v6_0) = v0 c
          ∧ r.2.mem ((c.tc : Thread Cert.AdamInIdeal.nD Cert.AdamInIdeal.τ).loc Cert.AdamInIdeal.main_v6_1) = v1 c
          ∧ r.2.mem ((c.tc : Thread Cert.AdamInIdeal.nD Cert.AdamInIdeal.τ).loc Cert.AdamInIdeal.main_v6_2) = v2 c
          ∧ r.2.mem ((c.tc : Thread Cert.AdamInIdeal.nD Cert.AdamInIdeal.τ).loc Cert.AdamInIdeal.main_v6_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v27) = v0 c
          ∧ r.2.mem ((c.tc : Thread Cert.AdamInRefIdeal.nD Cert.AdamInRefIdeal.τ).loc Cert.AdamInRefIdeal.main_v29) = v1 c
          ∧ r.2.mem ((c.tc : Thread Cert.AdamInRefIdeal.nD Cert.AdamInRefIdeal.τ).loc Cert.AdamInRefIdeal.main_v31) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v5) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v25) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)
      ∧ m' ((c.tc : Thread Cert.AdamSmallRefIdeal.nD Cert.AdamSmallRefIdeal.τ).loc Cert.AdamSmallRefIdeal.main_arg52) = m ((c.tc : Thread Cert.AdamSmallIdeal.nD Cert.AdamSmallIdeal.τ).loc Cert.AdamSmallIdeal.main_arg52)
      ∧ m' ((c.tc : Thread Cert.AdamSmallRefIdeal.nD Cert.AdamSmallRefIdeal.τ).loc Cert.AdamSmallRefIdeal.main_arg53) = m ((c.tc : Thread Cert.AdamSmallIdeal.nD Cert.AdamSmallIdeal.τ).loc Cert.AdamSmallIdeal.main_arg53)
      ∧ m' ((c.tc : Thread Cert.AdamSmallRefIdeal.nD Cert.AdamSmallRefIdeal.τ).loc Cert.AdamSmallRefIdeal.main_arg54) = m ((c.tc : Thread Cert.AdamSmallIdeal.nD Cert.AdamSmallIdeal.τ).loc Cert.AdamSmallIdeal.main_arg54)
      ∧ m' ((c.tc : Thread Cert.AdamSmallRefIdeal.nD Cert.AdamSmallRefIdeal.τ).loc Cert.AdamSmallRefIdeal.main_arg55) = m ((c.tc : Thread Cert.AdamSmallIdeal.nD Cert.AdamSmallIdeal.τ).loc Cert.AdamSmallIdeal.main_arg55)
      ∧ m' ((c.tc : Thread Cert.AdamSmallRefIdeal.nD Cert.AdamSmallRefIdeal.τ).loc Cert.AdamSmallRefIdeal.main_arg56) = m ((c.tc : Thread Cert.AdamSmallIdeal.nD Cert.AdamSmallIdeal.τ).loc Cert.AdamSmallIdeal.main_arg56)
      ∧ m' ((c.tc : Thread Cert.AdamSmallRefIdeal.nD Cert.AdamSmallRefIdeal.τ).loc Cert.AdamSmallRefIdeal.main_arg57) = m ((c.tc : Thread Cert.AdamSmallIdeal.nD Cert.AdamSmallIdeal.τ).loc Cert.AdamSmallIdeal.main_arg57)
      ∧ m' ((c.tc : Thread Cert.AdamSmallRefIdeal.nD Cert.AdamSmallRefIdeal.τ).loc Cert.AdamSmallRefIdeal.main_arg58) = m ((c.tc : Thread Cert.AdamSmallIdeal.nD Cert.AdamSmallIdeal.τ).loc Cert.AdamSmallIdeal.main_arg58)
      ∧ m' ((c.tc : Thread Cert.AdamSmallRefIdeal.nD Cert.AdamSmallRefIdeal.τ).loc Cert.AdamSmallRefIdeal.main_arg59) = m ((c.tc : Thread Cert.AdamSmallIdeal.nD Cert.AdamSmallIdeal.τ).loc Cert.AdamSmallIdeal.main_arg59)
      ∧ m' ((c.tc : Thread Cert.AdamSmallRefIdeal.nD Cert.AdamSmallRefIdeal.τ).loc Cert.AdamSmallRefIdeal.main_arg60) = m ((c.tc : Thread Cert.AdamSmallIdeal.nD Cert.AdamSmallIdeal.τ).loc Cert.AdamSmallIdeal.main_arg60)
      ∧ m' ((c.tc : Thread Cert.AdamSmallRefIdeal.nD Cert.AdamSmallRefIdeal.τ).loc Cert.AdamSmallRefIdeal.main_arg61) = m ((c.tc : Thread Cert.AdamSmallIdeal.nD Cert.AdamSmallIdeal.τ).loc Cert.AdamSmallIdeal.main_arg61)
      ∧ m' ((c.tc : Thread Cert.AdamSmallRefIdeal.nD Cert.AdamSmallRefIdeal.τ).loc Cert.AdamSmallRefIdeal.main_arg62) = m ((c.tc : Thread Cert.AdamSmallIdeal.nD Cert.AdamSmallIdeal.τ).loc Cert.AdamSmallIdeal.main_arg62)
      ∧ m' ((c.tc : Thread Cert.AdamSmallRefIdeal.nD Cert.AdamSmallRefIdeal.τ).loc Cert.AdamSmallRefIdeal.main_arg63) = m ((c.tc : Thread Cert.AdamSmallIdeal.nD Cert.AdamSmallIdeal.τ).loc Cert.AdamSmallIdeal.main_arg63)
      ∧ m' ((c.tc : Thread Cert.AdamSmallRefIdeal.nD Cert.AdamSmallRefIdeal.τ).loc Cert.AdamSmallRefIdeal.main_arg64) = m ((c.tc : Thread Cert.AdamSmallIdeal.nD Cert.AdamSmallIdeal.τ).loc Cert.AdamSmallIdeal.main_arg64)
      ∧ m' ((c.tc : Thread Cert.AdamSmallRefIdeal.nD Cert.AdamSmallRefIdeal.τ).loc Cert.AdamSmallRefIdeal.main_arg65) = m ((c.tc : Thread Cert.AdamSmallIdeal.nD Cert.AdamSmallIdeal.τ).loc Cert.AdamSmallIdeal.main_arg65)
      ∧ m' ((c.tc : Thread Cert.AdamSmallRefIdeal.nD Cert.AdamSmallRefIdeal.τ).loc Cert.AdamSmallRefIdeal.main_arg66) = m ((c.tc : Thread Cert.AdamSmallIdeal.nD Cert.AdamSmallIdeal.τ).loc Cert.AdamSmallIdeal.main_arg66)
      ∧ m' ((c.tc : Thread Cert.AdamSmallRefIdeal.nD Cert.AdamSmallRefIdeal.τ).loc Cert.AdamSmallRefIdeal.main_arg67) = m ((c.tc : Thread Cert.AdamSmallIdeal.nD Cert.AdamSmallIdeal.τ).loc Cert.AdamSmallIdeal.main_arg67)
      ∧ m' ((c.tc : Thread Cert.AdamSmallRefIdeal.nD Cert.AdamSmallRefIdeal.τ).loc Cert.AdamSmallRefIdeal.main_arg68) = m ((c.tc : Thread Cert.AdamSmallIdeal.nD Cert.AdamSmallIdeal.τ).loc Cert.AdamSmallIdeal.main_arg68)
      ∧ m' ((c.tc : Thread Cert.AdamSmallRefIdeal.nD Cert.AdamSmallRefIdeal.τ).loc Cert.AdamSmallRefIdeal.main_arg69) = m ((c.tc : Thread Cert.AdamSmallIdeal.nD Cert.AdamSmallIdeal.τ).loc Cert.AdamSmallIdeal.main_arg69)
      ∧ m' ((c.tc : Thread Cert.AdamSmallRefIdeal.nD Cert.AdamSmallRefIdeal.τ).loc Cert.AdamSmallRefIdeal.main_arg70) = m ((c.tc : Thread Cert.AdamSmallIdeal.nD Cert.AdamSmallIdeal.τ).loc Cert.AdamSmallIdeal.main_arg70)
      ∧ m' ((c.tc : Thread Cert.AdamSmallRefIdeal.nD Cert.AdamSmallRefIdeal.τ).loc Cert.AdamSmallRefIdeal.main_arg71) = m ((c.tc : Thread Cert.AdamSmallIdeal.nD Cert.AdamSmallIdeal.τ).loc Cert.AdamSmallIdeal.main_arg71)
      ∧ m' ((c.tc : Thread Cert.AdamSmallRefIdeal.nD Cert.AdamSmallRefIdeal.τ).loc Cert.AdamSmallRefIdeal.main_arg72) = m ((c.tc : Thread Cert.AdamSmallIdeal.nD Cert.AdamSmallIdeal.τ).loc Cert.AdamSmallIdeal.main_arg72)
      ∧ m' ((c.tc : Thread Cert.AdamSmallRefIdeal.nD Cert.AdamSmallRefIdeal.τ).loc Cert.AdamSmallRefIdeal.main_arg73) = m ((c.tc : Thread Cert.AdamSmallIdeal.nD Cert.AdamSmallIdeal.τ).loc Cert.AdamSmallIdeal.main_arg73)
      ∧ m' ((c.tc : Thread Cert.AdamSmallRefIdeal.nD Cert.AdamSmallRefIdeal.τ).loc Cert.AdamSmallRefIdeal.main_arg74) = m ((c.tc : Thread Cert.AdamSmallIdeal.nD Cert.AdamSmallIdeal.τ).loc Cert.AdamSmallIdeal.main_arg74)
      ∧ m' ((c.tc : Thread Cert.AdamSmallRefIdeal.nD Cert.AdamSmallRefIdeal.τ).loc Cert.AdamSmallRefIdeal.main_arg75) = m ((c.tc : Thread Cert.AdamSmallIdeal.nD Cert.AdamSmallIdeal.τ).loc Cert.AdamSmallIdeal.main_arg75)
      ∧ m' ((c.tc : Thread Cert.AdamSmallRefIdeal.nD Cert.AdamSmallRefIdeal.τ).loc Cert.AdamSmallRefIdeal.main_arg76) = m ((c.tc : Thread Cert.AdamSmallIdeal.nD Cert.AdamSmallIdeal.τ).loc Cert.AdamSmallIdeal.main_arg76)
      ∧ m' ((c.tc : Thread Cert.AdamSmallRefIdeal.nD Cert.AdamSmallRefIdeal.τ).loc Cert.AdamSmallRefIdeal.main_arg77) = m ((c.tc : Thread Cert.AdamSmallIdeal.nD Cert.AdamSmallIdeal.τ).loc Cert.AdamSmallIdeal.main_arg77)
      ∧ m' ((c.tc : Thread Cert.AdamSmallRefIdeal.nD Cert.AdamSmallRefIdeal.τ).loc Cert.AdamSmallRefIdeal.main_arg78) = m ((c.tc : Thread Cert.AdamSmallIdeal.nD Cert.AdamSmallIdeal.τ).loc Cert.AdamSmallIdeal.main_arg78)
      ∧ m' ((c.tc : Thread Cert.AdamSmallRefIdeal.nD Cert.AdamSmallRefIdeal.τ).loc Cert.AdamSmallRefIdeal.main_arg79) = m ((c.tc : Thread Cert.AdamSmallIdeal.nD Cert.AdamSmallIdeal.τ).loc Cert.AdamSmallIdeal.main_arg79)) →
    ∃ (v0 : (c : Dev Cert.AdamSmallIdeal.nD) → Buf (Elt Ideal) ((c.tc : Thread Cert.AdamSmallIdeal.nD Cert.AdamSmallIdeal.τ).loc Cert.AdamSmallIdeal.main_v88_0)) (v1 : (c : Dev Cert.AdamSmallIdeal.nD) → Buf (Elt Ideal) ((c.tc : Thread Cert.AdamSmallIdeal.nD Cert.AdamSmallIdeal.τ).loc Cert.AdamSmallIdeal.main_v88_1)) (v2 : (c : Dev Cert.AdamSmallIdeal.nD) → Buf (Elt Ideal) ((c.tc : Thread Cert.AdamSmallIdeal.nD Cert.AdamSmallIdeal.τ).loc Cert.AdamSmallIdeal.main_v88_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v88_0) = v0 c
          ∧ r.2.mem ((c.tc : Thread Cert.AdamSmallIdeal.nD Cert.AdamSmallIdeal.τ).loc Cert.AdamSmallIdeal.main_v88_1) = v1 c
          ∧ r.2.mem ((c.tc : Thread Cert.AdamSmallIdeal.nD Cert.AdamSmallIdeal.τ).loc Cert.AdamSmallIdeal.main_v88_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
          ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
          ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
          ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
          ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
          ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
          ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
          ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
          ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
          ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
          ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
          ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
          ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
          ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
          ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
          ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
          ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
          ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
          ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
          ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
          ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71)
          ∧ r.2.mem ((c.tc : Thread Cert.AdamSmallIdeal.nD Cert.AdamSmallIdeal.τ).loc Cert.AdamSmallIdeal.main_arg72) = m ((c.tc : Thread Cert.AdamSmallIdeal.nD Cert.AdamSmallIdeal.τ).loc Cert.AdamSmallIdeal.main_arg72)
          ∧ r.2.mem ((c.tc : Thread Cert.AdamSmallIdeal.nD Cert.AdamSmallIdeal.τ).loc Cert.AdamSmallIdeal.main_arg73) = m ((c.tc : Thread Cert.AdamSmallIdeal.nD Cert.AdamSmallIdeal.τ).loc Cert.AdamSmallIdeal.main_arg73)
          ∧ r.2.mem ((c.tc : Thread Cert.AdamSmallIdeal.nD Cert.AdamSmallIdeal.τ).loc Cert.AdamSmallIdeal.main_arg74) = m ((c.tc : Thread Cert.AdamSmallIdeal.nD Cert.AdamSmallIdeal.τ).loc Cert.AdamSmallIdeal.main_arg74)
          ∧ r.2.mem ((c.tc : Thread Cert.AdamSmallIdeal.nD Cert.AdamSmallIdeal.τ).loc Cert.AdamSmallIdeal.main_arg75) = m ((c.tc : Thread Cert.AdamSmallIdeal.nD Cert.AdamSmallIdeal.τ).loc Cert.AdamSmallIdeal.main_arg75)
          ∧ r.2.mem ((c.tc : Thread Cert.AdamSmallIdeal.nD Cert.AdamSmallIdeal.τ).loc Cert.AdamSmallIdeal.main_arg76) = m ((c.tc : Thread Cert.AdamSmallIdeal.nD Cert.AdamSmallIdeal.τ).loc Cert.AdamSmallIdeal.main_arg76)
          ∧ r.2.mem ((c.tc : Thread Cert.AdamSmallIdeal.nD Cert.AdamSmallIdeal.τ).loc Cert.AdamSmallIdeal.main_arg77) = m ((c.tc : Thread Cert.AdamSmallIdeal.nD Cert.AdamSmallIdeal.τ).loc Cert.AdamSmallIdeal.main_arg77)
          ∧ r.2.mem ((c.tc : Thread Cert.AdamSmallIdeal.nD Cert.AdamSmallIdeal.τ).loc Cert.AdamSmallIdeal.main_arg78) = m ((c.tc : Thread Cert.AdamSmallIdeal.nD Cert.AdamSmallIdeal.τ).loc Cert.AdamSmallIdeal.main_arg78)
          ∧ r.2.mem ((c.tc : Thread Cert.AdamSmallIdeal.nD Cert.AdamSmallIdeal.τ).loc Cert.AdamSmallIdeal.main_arg79) = m ((c.tc : Thread Cert.AdamSmallIdeal.nD Cert.AdamSmallIdeal.τ).loc Cert.AdamSmallIdeal.main_arg79))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v501) = v0 c
          ∧ r.2.mem ((c.tc : Thread Cert.AdamSmallRefIdeal.nD Cert.AdamSmallRefIdeal.τ).loc Cert.AdamSmallRefIdeal.main_v523) = v1 c
          ∧ r.2.mem ((c.tc : Thread Cert.AdamSmallRefIdeal.nD Cert.AdamSmallRefIdeal.τ).loc Cert.AdamSmallRefIdeal.main_v545) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51)
          ∧ r.2.mem ((c.tc : Thread Cert.AdamSmallRefIdeal.nD Cert.AdamSmallRefIdeal.τ).loc Cert.AdamSmallRefIdeal.main_arg52) = m' ((c.tc : Thread Cert.AdamSmallRefIdeal.nD Cert.AdamSmallRefIdeal.τ).loc Cert.AdamSmallRefIdeal.main_arg52)
          ∧ r.2.mem ((c.tc : Thread Cert.AdamSmallRefIdeal.nD Cert.AdamSmallRefIdeal.τ).loc Cert.AdamSmallRefIdeal.main_arg53) = m' ((c.tc : Thread Cert.AdamSmallRefIdeal.nD Cert.AdamSmallRefIdeal.τ).loc Cert.AdamSmallRefIdeal.main_arg53)
          ∧ r.2.mem ((c.tc : Thread Cert.AdamSmallRefIdeal.nD Cert.AdamSmallRefIdeal.τ).loc Cert.AdamSmallRefIdeal.main_arg54) = m' ((c.tc : Thread Cert.AdamSmallRefIdeal.nD Cert.AdamSmallRefIdeal.τ).loc Cert.AdamSmallRefIdeal.main_arg54)
          ∧ r.2.mem ((c.tc : Thread Cert.AdamSmallRefIdeal.nD Cert.AdamSmallRefIdeal.τ).loc Cert.AdamSmallRefIdeal.main_arg55) = m' ((c.tc : Thread Cert.AdamSmallRefIdeal.nD Cert.AdamSmallRefIdeal.τ).loc Cert.AdamSmallRefIdeal.main_arg55)
          ∧ r.2.mem ((c.tc : Thread Cert.AdamSmallRefIdeal.nD Cert.AdamSmallRefIdeal.τ).loc Cert.AdamSmallRefIdeal.main_arg56) = m' ((c.tc : Thread Cert.AdamSmallRefIdeal.nD Cert.AdamSmallRefIdeal.τ).loc Cert.AdamSmallRefIdeal.main_arg56)
          ∧ r.2.mem ((c.tc : Thread Cert.AdamSmallRefIdeal.nD Cert.AdamSmallRefIdeal.τ).loc Cert.AdamSmallRefIdeal.main_arg57) = m' ((c.tc : Thread Cert.AdamSmallRefIdeal.nD Cert.AdamSmallRefIdeal.τ).loc Cert.AdamSmallRefIdeal.main_arg57)
          ∧ r.2.mem ((c.tc : Thread Cert.AdamSmallRefIdeal.nD Cert.AdamSmallRefIdeal.τ).loc Cert.AdamSmallRefIdeal.main_arg58) = m' ((c.tc : Thread Cert.AdamSmallRefIdeal.nD Cert.AdamSmallRefIdeal.τ).loc Cert.AdamSmallRefIdeal.main_arg58)
          ∧ r.2.mem ((c.tc : Thread Cert.AdamSmallRefIdeal.nD Cert.AdamSmallRefIdeal.τ).loc Cert.AdamSmallRefIdeal.main_arg59) = m' ((c.tc : Thread Cert.AdamSmallRefIdeal.nD Cert.AdamSmallRefIdeal.τ).loc Cert.AdamSmallRefIdeal.main_arg59)
          ∧ r.2.mem ((c.tc : Thread Cert.AdamSmallRefIdeal.nD Cert.AdamSmallRefIdeal.τ).loc Cert.AdamSmallRefIdeal.main_arg60) = m' ((c.tc : Thread Cert.AdamSmallRefIdeal.nD Cert.AdamSmallRefIdeal.τ).loc Cert.AdamSmallRefIdeal.main_arg60)
          ∧ r.2.mem ((c.tc : Thread Cert.AdamSmallRefIdeal.nD Cert.AdamSmallRefIdeal.τ).loc Cert.AdamSmallRefIdeal.main_arg61) = m' ((c.tc : Thread Cert.AdamSmallRefIdeal.nD Cert.AdamSmallRefIdeal.τ).loc Cert.AdamSmallRefIdeal.main_arg61)
          ∧ r.2.mem ((c.tc : Thread Cert.AdamSmallRefIdeal.nD Cert.AdamSmallRefIdeal.τ).loc Cert.AdamSmallRefIdeal.main_arg62) = m' ((c.tc : Thread Cert.AdamSmallRefIdeal.nD Cert.AdamSmallRefIdeal.τ).loc Cert.AdamSmallRefIdeal.main_arg62)
          ∧ r.2.mem ((c.tc : Thread Cert.AdamSmallRefIdeal.nD Cert.AdamSmallRefIdeal.τ).loc Cert.AdamSmallRefIdeal.main_arg63) = m' ((c.tc : Thread Cert.AdamSmallRefIdeal.nD Cert.AdamSmallRefIdeal.τ).loc Cert.AdamSmallRefIdeal.main_arg63)
          ∧ r.2.mem ((c.tc : Thread Cert.AdamSmallRefIdeal.nD Cert.AdamSmallRefIdeal.τ).loc Cert.AdamSmallRefIdeal.main_arg64) = m' ((c.tc : Thread Cert.AdamSmallRefIdeal.nD Cert.AdamSmallRefIdeal.τ).loc Cert.AdamSmallRefIdeal.main_arg64)
          ∧ r.2.mem ((c.tc : Thread Cert.AdamSmallRefIdeal.nD Cert.AdamSmallRefIdeal.τ).loc Cert.AdamSmallRefIdeal.main_arg65) = m' ((c.tc : Thread Cert.AdamSmallRefIdeal.nD Cert.AdamSmallRefIdeal.τ).loc Cert.AdamSmallRefIdeal.main_arg65)
          ∧ r.2.mem ((c.tc : Thread Cert.AdamSmallRefIdeal.nD Cert.AdamSmallRefIdeal.τ).loc Cert.AdamSmallRefIdeal.main_arg66) = m' ((c.tc : Thread Cert.AdamSmallRefIdeal.nD Cert.AdamSmallRefIdeal.τ).loc Cert.AdamSmallRefIdeal.main_arg66)
          ∧ r.2.mem ((c.tc : Thread Cert.AdamSmallRefIdeal.nD Cert.AdamSmallRefIdeal.τ).loc Cert.AdamSmallRefIdeal.main_arg67) = m' ((c.tc : Thread Cert.AdamSmallRefIdeal.nD Cert.AdamSmallRefIdeal.τ).loc Cert.AdamSmallRefIdeal.main_arg67)
          ∧ r.2.mem ((c.tc : Thread Cert.AdamSmallRefIdeal.nD Cert.AdamSmallRefIdeal.τ).loc Cert.AdamSmallRefIdeal.main_arg68) = m' ((c.tc : Thread Cert.AdamSmallRefIdeal.nD Cert.AdamSmallRefIdeal.τ).loc Cert.AdamSmallRefIdeal.main_arg68)
          ∧ r.2.mem ((c.tc : Thread Cert.AdamSmallRefIdeal.nD Cert.AdamSmallRefIdeal.τ).loc Cert.AdamSmallRefIdeal.main_arg69) = m' ((c.tc : Thread Cert.AdamSmallRefIdeal.nD Cert.AdamSmallRefIdeal.τ).loc Cert.AdamSmallRefIdeal.main_arg69)
          ∧ r.2.mem ((c.tc : Thread Cert.AdamSmallRefIdeal.nD Cert.AdamSmallRefIdeal.τ).loc Cert.AdamSmallRefIdeal.main_arg70) = m' ((c.tc : Thread Cert.AdamSmallRefIdeal.nD Cert.AdamSmallRefIdeal.τ).loc Cert.AdamSmallRefIdeal.main_arg70)
          ∧ r.2.mem ((c.tc : Thread Cert.AdamSmallRefIdeal.nD Cert.AdamSmallRefIdeal.τ).loc Cert.AdamSmallRefIdeal.main_arg71) = m' ((c.tc : Thread Cert.AdamSmallRefIdeal.nD Cert.AdamSmallRefIdeal.τ).loc Cert.AdamSmallRefIdeal.main_arg71)
          ∧ r.2.mem ((c.tc : Thread Cert.AdamSmallRefIdeal.nD Cert.AdamSmallRefIdeal.τ).loc Cert.AdamSmallRefIdeal.main_arg72) = m' ((c.tc : Thread Cert.AdamSmallRefIdeal.nD Cert.AdamSmallRefIdeal.τ).loc Cert.AdamSmallRefIdeal.main_arg72)
          ∧ r.2.mem ((c.tc : Thread Cert.AdamSmallRefIdeal.nD Cert.AdamSmallRefIdeal.τ).loc Cert.AdamSmallRefIdeal.main_arg73) = m' ((c.tc : Thread Cert.AdamSmallRefIdeal.nD Cert.AdamSmallRefIdeal.τ).loc Cert.AdamSmallRefIdeal.main_arg73)
          ∧ r.2.mem ((c.tc : Thread Cert.AdamSmallRefIdeal.nD Cert.AdamSmallRefIdeal.τ).loc Cert.AdamSmallRefIdeal.main_arg74) = m' ((c.tc : Thread Cert.AdamSmallRefIdeal.nD Cert.AdamSmallRefIdeal.τ).loc Cert.AdamSmallRefIdeal.main_arg74)
          ∧ r.2.mem ((c.tc : Thread Cert.AdamSmallRefIdeal.nD Cert.AdamSmallRefIdeal.τ).loc Cert.AdamSmallRefIdeal.main_arg75) = m' ((c.tc : Thread Cert.AdamSmallRefIdeal.nD Cert.AdamSmallRefIdeal.τ).loc Cert.AdamSmallRefIdeal.main_arg75)
          ∧ r.2.mem ((c.tc : Thread Cert.AdamSmallRefIdeal.nD Cert.AdamSmallRefIdeal.τ).loc Cert.AdamSmallRefIdeal.main_arg76) = m' ((c.tc : Thread Cert.AdamSmallRefIdeal.nD Cert.AdamSmallRefIdeal.τ).loc Cert.AdamSmallRefIdeal.main_arg76)
          ∧ r.2.mem ((c.tc : Thread Cert.AdamSmallRefIdeal.nD Cert.AdamSmallRefIdeal.τ).loc Cert.AdamSmallRefIdeal.main_arg77) = m' ((c.tc : Thread Cert.AdamSmallRefIdeal.nD Cert.AdamSmallRefIdeal.τ).loc Cert.AdamSmallRefIdeal.main_arg77)
          ∧ r.2.mem ((c.tc : Thread Cert.AdamSmallRefIdeal.nD Cert.AdamSmallRefIdeal.τ).loc Cert.AdamSmallRefIdeal.main_arg78) = m' ((c.tc : Thread Cert.AdamSmallRefIdeal.nD Cert.AdamSmallRefIdeal.τ).loc Cert.AdamSmallRefIdeal.main_arg78)
          ∧ r.2.mem ((c.tc : Thread Cert.AdamSmallRefIdeal.nD Cert.AdamSmallRefIdeal.τ).loc Cert.AdamSmallRefIdeal.main_arg79) = m' ((c.tc : Thread Cert.AdamSmallRefIdeal.nD Cert.AdamSmallRefIdeal.τ).loc Cert.AdamSmallRefIdeal.main_arg79))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v1) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_DmodPrep_DmodPrepIdeal : Prop :=
  True

def algebraic_DmodPrepIdeal_DmodPrepRefIdeal [hDmodPrepIdeal : Cert.DmodPrepIdeal.Facts] [hDmodPrepRefIdeal : Cert.DmodPrepRefIdeal.Facts] : Prop :=
  ∀ (m : (ℓ : Loc Cert.DmodPrepIdeal.nD Cert.DmodPrepIdeal.τ Cert.DmodPrepIdeal.sig) → Buf (Elt Ideal) ℓ) (g : Dev Cert.DmodPrepIdeal.nD → PrngReg)
    (m' : (ℓ : Loc Cert.DmodPrepRefIdeal.nD Cert.DmodPrepRefIdeal.τ Cert.DmodPrepRefIdeal.sig) → Buf (Elt Ideal) ℓ) (g' : Dev Cert.DmodPrepRefIdeal.nD → PrngReg), Pre_DmodPrepIdeal m →
    (∀ c : Dev Cert.DmodPrepIdeal.nD,
      m' ((c.tc : Thread Cert.DmodPrepRefIdeal.nD Cert.DmodPrepRefIdeal.τ).loc Cert.DmodPrepRefIdeal.main_arg0) = m ((c.tc : Thread Cert.DmodPrepIdeal.nD Cert.DmodPrepIdeal.τ).loc Cert.DmodPrepIdeal.main_arg0)) →
    ∃ (v0 : (c : Dev Cert.DmodPrepIdeal.nD) → Buf (Elt Ideal) ((c.tc : Thread Cert.DmodPrepIdeal.nD Cert.DmodPrepIdeal.τ).loc Cert.DmodPrepIdeal.main_v0_0)) (v1 : (c : Dev Cert.DmodPrepIdeal.nD) → Buf (Elt Ideal) ((c.tc : Thread Cert.DmodPrepIdeal.nD Cert.DmodPrepIdeal.τ).loc Cert.DmodPrepIdeal.main_v0_1)),
      θ_run (Cert.DmodPrepIdeal.defs (F := Ideal)) (onTc (τ := Cert.DmodPrepIdeal.τ) (Cert.DmodPrepIdeal.main (F := Ideal))) ⟨m, fun _ => 0, g⟩ (fun r => ∀ c : Dev Cert.DmodPrepIdeal.nD,
          r.2.mem ((c.tc : Thread Cert.DmodPrepIdeal.nD Cert.DmodPrepIdeal.τ).loc Cert.DmodPrepIdeal.main_v0_0) = v0 c
          ∧ r.2.mem ((c.tc : Thread Cert.DmodPrepIdeal.nD Cert.DmodPrepIdeal.τ).loc Cert.DmodPrepIdeal.main_v0_1) = v1 c
          ∧ r.2.mem ((c.tc : Thread Cert.DmodPrepIdeal.nD Cert.DmodPrepIdeal.τ).loc Cert.DmodPrepIdeal.main_arg0) = m ((c.tc : Thread Cert.DmodPrepIdeal.nD Cert.DmodPrepIdeal.τ).loc Cert.DmodPrepIdeal.main_arg0))
      ∧ θ_run (Cert.DmodPrepRefIdeal.defs (F := Ideal)) (onTc (τ := Cert.DmodPrepRefIdeal.τ) (Cert.DmodPrepRefIdeal.main (F := Ideal))) ⟨m', fun _ => 0, g'⟩ (fun r => ∀ c : Dev Cert.DmodPrepRefIdeal.nD,
          r.2.mem ((c.tc : Thread Cert.DmodPrepRefIdeal.nD Cert.DmodPrepRefIdeal.τ).loc Cert.DmodPrepRefIdeal.main_v8) = v0 c
          ∧ r.2.mem ((c.tc : Thread Cert.DmodPrepRefIdeal.nD Cert.DmodPrepRefIdeal.τ).loc Cert.DmodPrepRefIdeal.main_v13) = v1 c
          ∧ r.2.mem ((c.tc : Thread Cert.DmodPrepRefIdeal.nD Cert.DmodPrepRefIdeal.τ).loc Cert.DmodPrepRefIdeal.main_arg0) = m' ((c.tc : Thread Cert.DmodPrepRefIdeal.nD Cert.DmodPrepRefIdeal.τ).loc Cert.DmodPrepRefIdeal.main_arg0))

def preserves_ModBwdW_ModBwdWIdeal : Prop :=
  True

def algebraic_ModBwdWIdeal_ModBwdWRefIdeal [hModBwdWIdeal : Cert.ModBwdWIdeal.Facts] [hModBwdWRefIdeal : Cert.ModBwdWRefIdeal.Facts] : Prop :=
  ∀ (m : (ℓ : Loc Cert.ModBwdWIdeal.nD Cert.ModBwdWIdeal.τ Cert.ModBwdWIdeal.sig) → Buf (Elt Ideal) ℓ) (g : Dev Cert.ModBwdWIdeal.nD → PrngReg)
    (m' : (ℓ : Loc Cert.ModBwdWRefIdeal.nD Cert.ModBwdWRefIdeal.τ Cert.ModBwdWRefIdeal.sig) → Buf (Elt Ideal) ℓ) (g' : Dev Cert.ModBwdWRefIdeal.nD → PrngReg), Pre_ModBwdWIdeal m →
    (∀ c : Dev Cert.ModBwdWIdeal.nD,
      m' ((c.tc : Thread Cert.ModBwdWRefIdeal.nD Cert.ModBwdWRefIdeal.τ).loc Cert.ModBwdWRefIdeal.main_arg0) = m ((c.tc : Thread Cert.ModBwdWIdeal.nD Cert.ModBwdWIdeal.τ).loc Cert.ModBwdWIdeal.main_arg0)
      ∧ m' ((c.tc : Thread Cert.ModBwdWRefIdeal.nD Cert.ModBwdWRefIdeal.τ).loc Cert.ModBwdWRefIdeal.main_arg1) = m ((c.tc : Thread Cert.ModBwdWIdeal.nD Cert.ModBwdWIdeal.τ).loc Cert.ModBwdWIdeal.main_arg1)) →
    ∃ (v0 : (c : Dev Cert.ModBwdWIdeal.nD) → Buf (Elt Ideal) ((c.tc : Thread Cert.ModBwdWIdeal.nD Cert.ModBwdWIdeal.τ).loc Cert.ModBwdWIdeal.main_v0)),
      θ_run (Cert.ModBwdWIdeal.defs (F := Ideal)) (onTc (τ := Cert.ModBwdWIdeal.τ) (Cert.ModBwdWIdeal.main (F := Ideal))) ⟨m, fun _ => 0, g⟩ (fun r => ∀ c : Dev Cert.ModBwdWIdeal.nD,
          r.2.mem ((c.tc : Thread Cert.ModBwdWIdeal.nD Cert.ModBwdWIdeal.τ).loc Cert.ModBwdWIdeal.main_v0) = v0 c
          ∧ r.2.mem ((c.tc : Thread Cert.ModBwdWIdeal.nD Cert.ModBwdWIdeal.τ).loc Cert.ModBwdWIdeal.main_arg0) = m ((c.tc : Thread Cert.ModBwdWIdeal.nD Cert.ModBwdWIdeal.τ).loc Cert.ModBwdWIdeal.main_arg0)
          ∧ r.2.mem ((c.tc : Thread Cert.ModBwdWIdeal.nD Cert.ModBwdWIdeal.τ).loc Cert.ModBwdWIdeal.main_arg1) = m ((c.tc : Thread Cert.ModBwdWIdeal.nD Cert.ModBwdWIdeal.τ).loc Cert.ModBwdWIdeal.main_arg1))
      ∧ θ_run (Cert.ModBwdWRefIdeal.defs (F := Ideal)) (onTc (τ := Cert.ModBwdWRefIdeal.τ) (Cert.ModBwdWRefIdeal.main (F := Ideal))) ⟨m', fun _ => 0, g'⟩ (fun r => ∀ c : Dev Cert.ModBwdWRefIdeal.nD,
          r.2.mem ((c.tc : Thread Cert.ModBwdWRefIdeal.nD Cert.ModBwdWRefIdeal.τ).loc Cert.ModBwdWRefIdeal.main_v4) = v0 c
          ∧ r.2.mem ((c.tc : Thread Cert.ModBwdWRefIdeal.nD Cert.ModBwdWRefIdeal.τ).loc Cert.ModBwdWRefIdeal.main_arg0) = m' ((c.tc : Thread Cert.ModBwdWRefIdeal.nD Cert.ModBwdWRefIdeal.τ).loc Cert.ModBwdWRefIdeal.main_arg0)
          ∧ r.2.mem ((c.tc : Thread Cert.ModBwdWRefIdeal.nD Cert.ModBwdWRefIdeal.τ).loc Cert.ModBwdWRefIdeal.main_arg1) = m' ((c.tc : Thread Cert.ModBwdWRefIdeal.nD Cert.ModBwdWRefIdeal.τ).loc Cert.ModBwdWRefIdeal.main_arg1))

def preserves_ModBwdC_ModBwdCIdeal : Prop :=
  True

def algebraic_ModBwdCIdeal_ModBwdCRefIdeal [hModBwdCIdeal : Cert.ModBwdCIdeal.Facts] [hModBwdCRefIdeal : Cert.ModBwdCRefIdeal.Facts] : Prop :=
  ∀ (m : (ℓ : Loc Cert.ModBwdCIdeal.nD Cert.ModBwdCIdeal.τ Cert.ModBwdCIdeal.sig) → Buf (Elt Ideal) ℓ) (g : Dev Cert.ModBwdCIdeal.nD → PrngReg)
    (m' : (ℓ : Loc Cert.ModBwdCRefIdeal.nD Cert.ModBwdCRefIdeal.τ Cert.ModBwdCRefIdeal.sig) → Buf (Elt Ideal) ℓ) (g' : Dev Cert.ModBwdCRefIdeal.nD → PrngReg), Pre_ModBwdCIdeal m →
    (∀ c : Dev Cert.ModBwdCIdeal.nD,
      m' ((c.tc : Thread Cert.ModBwdCRefIdeal.nD Cert.ModBwdCRefIdeal.τ).loc Cert.ModBwdCRefIdeal.main_arg0) = m ((c.tc : Thread Cert.ModBwdCIdeal.nD Cert.ModBwdCIdeal.τ).loc Cert.ModBwdCIdeal.main_arg0)
      ∧ m' ((c.tc : Thread Cert.ModBwdCRefIdeal.nD Cert.ModBwdCRefIdeal.τ).loc Cert.ModBwdCRefIdeal.main_arg1) = m ((c.tc : Thread Cert.ModBwdCIdeal.nD Cert.ModBwdCIdeal.τ).loc Cert.ModBwdCIdeal.main_arg1)) →
    ∃ (v0 : (c : Dev Cert.ModBwdCIdeal.nD) → Buf (Elt Ideal) ((c.tc : Thread Cert.ModBwdCIdeal.nD Cert.ModBwdCIdeal.τ).loc Cert.ModBwdCIdeal.main_v1)),
      θ_run (Cert.ModBwdCIdeal.defs (F := Ideal)) (onTc (τ := Cert.ModBwdCIdeal.τ) (Cert.ModBwdCIdeal.main (F := Ideal))) ⟨m, fun _ => 0, g⟩ (fun r => ∀ c : Dev Cert.ModBwdCIdeal.nD,
          r.2.mem ((c.tc : Thread Cert.ModBwdCIdeal.nD Cert.ModBwdCIdeal.τ).loc Cert.ModBwdCIdeal.main_v1) = v0 c
          ∧ r.2.mem ((c.tc : Thread Cert.ModBwdCIdeal.nD Cert.ModBwdCIdeal.τ).loc Cert.ModBwdCIdeal.main_arg0) = m ((c.tc : Thread Cert.ModBwdCIdeal.nD Cert.ModBwdCIdeal.τ).loc Cert.ModBwdCIdeal.main_arg0)
          ∧ r.2.mem ((c.tc : Thread Cert.ModBwdCIdeal.nD Cert.ModBwdCIdeal.τ).loc Cert.ModBwdCIdeal.main_arg1) = m ((c.tc : Thread Cert.ModBwdCIdeal.nD Cert.ModBwdCIdeal.τ).loc Cert.ModBwdCIdeal.main_arg1))
      ∧ θ_run (Cert.ModBwdCRefIdeal.defs (F := Ideal)) (onTc (τ := Cert.ModBwdCRefIdeal.τ) (Cert.ModBwdCRefIdeal.main (F := Ideal))) ⟨m', fun _ => 0, g'⟩ (fun r => ∀ c : Dev Cert.ModBwdCRefIdeal.nD,
          r.2.mem ((c.tc : Thread Cert.ModBwdCRefIdeal.nD Cert.ModBwdCRefIdeal.τ).loc Cert.ModBwdCRefIdeal.main_v3) = v0 c
          ∧ r.2.mem ((c.tc : Thread Cert.ModBwdCRefIdeal.nD Cert.ModBwdCRefIdeal.τ).loc Cert.ModBwdCRefIdeal.main_arg0) = m' ((c.tc : Thread Cert.ModBwdCRefIdeal.nD Cert.ModBwdCRefIdeal.τ).loc Cert.ModBwdCRefIdeal.main_arg0)
          ∧ r.2.mem ((c.tc : Thread Cert.ModBwdCRefIdeal.nD Cert.ModBwdCRefIdeal.τ).loc Cert.ModBwdCRefIdeal.main_arg1) = m' ((c.tc : Thread Cert.ModBwdCRefIdeal.nD Cert.ModBwdCRefIdeal.τ).loc Cert.ModBwdCRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)
      ∧ m' ((c.tc : Thread Cert.GradXRefIdeal.nD Cert.GradXRefIdeal.τ).loc Cert.GradXRefIdeal.main_arg5) = m ((c.tc : Thread Cert.GradXIdeal.nD Cert.GradXIdeal.τ).loc Cert.GradXIdeal.main_arg5)
      ∧ m' ((c.tc : Thread Cert.GradXRefIdeal.nD Cert.GradXRefIdeal.τ).loc Cert.GradXRefIdeal.main_arg6) = m ((c.tc : Thread Cert.GradXIdeal.nD Cert.GradXIdeal.τ).loc Cert.GradXIdeal.main_arg6)) →
    ∃ (v0 : (c : Dev Cert.GradXIdeal.nD) → Buf (Elt Ideal) ((c.tc : Thread Cert.GradXIdeal.nD Cert.GradXIdeal.τ).loc Cert.GradXIdeal.main_v3_0)) (v1 : (c : Dev Cert.GradXIdeal.nD) → Buf (Elt Ideal) ((c.tc : Thread Cert.GradXIdeal.nD Cert.GradXIdeal.τ).loc Cert.GradXIdeal.main_v3_1)) (v2 : (c : Dev Cert.GradXIdeal.nD) → Buf (Elt Ideal) ((c.tc : Thread Cert.GradXIdeal.nD Cert.GradXIdeal.τ).loc Cert.GradXIdeal.main_v3_2)) (v3 : (c : Dev Cert.GradXIdeal.nD) → Buf (Elt Ideal) ((c.tc : Thread Cert.GradXIdeal.nD Cert.GradXIdeal.τ).loc Cert.GradXIdeal.main_v3_3)) (v4 : (c : Dev Cert.GradXIdeal.nD) → Buf (Elt Ideal) ((c.tc : Thread Cert.GradXIdeal.nD Cert.GradXIdeal.τ).loc Cert.GradXIdeal.main_v3_4)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v3_0) = v0 c
          ∧ r.2.mem ((c.tc : Thread Cert.GradXIdeal.nD Cert.GradXIdeal.τ).loc Cert.GradXIdeal.main_v3_1) = v1 c
          ∧ r.2.mem ((c.tc : Thread Cert.GradXIdeal.nD Cert.GradXIdeal.τ).loc Cert.GradXIdeal.main_v3_2) = v2 c
          ∧ r.2.mem ((c.tc : Thread Cert.GradXIdeal.nD Cert.GradXIdeal.τ).loc Cert.GradXIdeal.main_v3_3) = v3 c
          ∧ r.2.mem ((c.tc : Thread Cert.GradXIdeal.nD Cert.GradXIdeal.τ).loc Cert.GradXIdeal.main_v3_4) = v4 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
          ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v72) = v0 c
          ∧ r.2.mem ((c.tc : Thread Cert.GradXRefIdeal.nD Cert.GradXRefIdeal.τ).loc Cert.GradXRefIdeal.main_v73) = v1 c
          ∧ r.2.mem ((c.tc : Thread Cert.GradXRefIdeal.nD Cert.GradXRefIdeal.τ).loc Cert.GradXRefIdeal.main_v74) = v2 c
          ∧ r.2.mem ((c.tc : Thread Cert.GradXRefIdeal.nD Cert.GradXRefIdeal.τ).loc Cert.GradXRefIdeal.main_v36) = v3 c
          ∧ r.2.mem ((c.tc : Thread Cert.GradXRefIdeal.nD Cert.GradXRefIdeal.τ).loc Cert.GradXRefIdeal.main_v39) = v4 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4)
          ∧ r.2.mem ((c.tc : Thread Cert.GradXRefIdeal.nD Cert.GradXRefIdeal.τ).loc Cert.GradXRefIdeal.main_arg5) = m' ((c.tc : Thread Cert.GradXRefIdeal.nD Cert.GradXRefIdeal.τ).loc Cert.GradXRefIdeal.main_arg5)
          ∧ r.2.mem ((c.tc : Thread Cert.GradXRefIdeal.nD Cert.GradXRefIdeal.τ).loc Cert.GradXRefIdeal.main_arg6) = m' ((c.tc : Thread Cert.GradXRefIdeal.nD Cert.GradXRefIdeal.τ).loc Cert.GradXRefIdeal.main_arg6))

def preserves_LossBwd_LossBwdIdeal : Prop :=
  True

def algebraic_LossBwdIdeal_LossBwdRefIdeal [hLossBwdIdeal : Cert.LossBwdIdeal.Facts] [hLossBwdRefIdeal : Cert.LossBwdRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)
      ∧ m' ((c.tc : Thread Cert.LossBwdRefIdeal.nD Cert.LossBwdRefIdeal.τ).loc Cert.LossBwdRefIdeal.main_arg3) = m ((c.tc : Thread Cert.LossBwdIdeal.nD Cert.LossBwdIdeal.τ).loc Cert.LossBwdIdeal.main_arg3)
      ∧ m' ((c.tc : Thread Cert.LossBwdRefIdeal.nD Cert.LossBwdRefIdeal.τ).loc Cert.LossBwdRefIdeal.main_arg4) = m ((c.tc : Thread Cert.LossBwdIdeal.nD Cert.LossBwdIdeal.τ).loc Cert.LossBwdIdeal.main_arg4)
      ∧ m' ((c.tc : Thread Cert.LossBwdRefIdeal.nD Cert.LossBwdRefIdeal.τ).loc Cert.LossBwdRefIdeal.main_arg5) = m ((c.tc : Thread Cert.LossBwdIdeal.nD Cert.LossBwdIdeal.τ).loc Cert.LossBwdIdeal.main_arg5)) →
    ∃ (v0 : (c : Dev Cert.LossBwdIdeal.nD) → Buf (Elt Ideal) ((c.tc : Thread Cert.LossBwdIdeal.nD Cert.LossBwdIdeal.τ).loc Cert.LossBwdIdeal.main_v1_0)) (v1 : (c : Dev Cert.LossBwdIdeal.nD) → Buf (Elt Ideal) ((c.tc : Thread Cert.LossBwdIdeal.nD Cert.LossBwdIdeal.τ).loc Cert.LossBwdIdeal.main_v1_1)) (v2 : (c : Dev Cert.LossBwdIdeal.nD) → Buf (Elt Ideal) ((c.tc : Thread Cert.LossBwdIdeal.nD Cert.LossBwdIdeal.τ).loc Cert.LossBwdIdeal.main_v1_2)) (v3 : (c : Dev Cert.LossBwdIdeal.nD) → Buf (Elt Ideal) ((c.tc : Thread Cert.LossBwdIdeal.nD Cert.LossBwdIdeal.τ).loc Cert.LossBwdIdeal.main_v1_3)) (v4 : (c : Dev Cert.LossBwdIdeal.nD) → Buf (Elt Ideal) ((c.tc : Thread Cert.LossBwdIdeal.nD Cert.LossBwdIdeal.τ).loc Cert.LossBwdIdeal.main_v1_4)) (v5 : (c : Dev Cert.LossBwdIdeal.nD) → Buf (Elt Ideal) ((c.tc : Thread Cert.LossBwdIdeal.nD Cert.LossBwdIdeal.τ).loc Cert.LossBwdIdeal.main_v1_5)) (v6 : (c : Dev Cert.LossBwdIdeal.nD) → Buf (Elt Ideal) ((c.tc : Thread Cert.LossBwdIdeal.nD Cert.LossBwdIdeal.τ).loc Cert.LossBwdIdeal.main_v1_6)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v1_0) = v0 c
          ∧ r.2.mem ((c.tc : Thread Cert.LossBwdIdeal.nD Cert.LossBwdIdeal.τ).loc Cert.LossBwdIdeal.main_v1_1) = v1 c
          ∧ r.2.mem ((c.tc : Thread Cert.LossBwdIdeal.nD Cert.LossBwdIdeal.τ).loc Cert.LossBwdIdeal.main_v1_2) = v2 c
          ∧ r.2.mem ((c.tc : Thread Cert.LossBwdIdeal.nD Cert.LossBwdIdeal.τ).loc Cert.LossBwdIdeal.main_v1_3) = v3 c
          ∧ r.2.mem ((c.tc : Thread Cert.LossBwdIdeal.nD Cert.LossBwdIdeal.τ).loc Cert.LossBwdIdeal.main_v1_4) = v4 c
          ∧ r.2.mem ((c.tc : Thread Cert.LossBwdIdeal.nD Cert.LossBwdIdeal.τ).loc Cert.LossBwdIdeal.main_v1_5) = v5 c
          ∧ r.2.mem ((c.tc : Thread Cert.LossBwdIdeal.nD Cert.LossBwdIdeal.τ).loc Cert.LossBwdIdeal.main_v1_6) = v6 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v85) = v0 c
          ∧ r.2.mem ((c.tc : Thread Cert.LossBwdRefIdeal.nD Cert.LossBwdRefIdeal.τ).loc Cert.LossBwdRefIdeal.main_v86) = v1 c
          ∧ r.2.mem ((c.tc : Thread Cert.LossBwdRefIdeal.nD Cert.LossBwdRefIdeal.τ).loc Cert.LossBwdRefIdeal.main_v87) = v2 c
          ∧ r.2.mem ((c.tc : Thread Cert.LossBwdRefIdeal.nD Cert.LossBwdRefIdeal.τ).loc Cert.LossBwdRefIdeal.main_v83) = v3 c
          ∧ r.2.mem ((c.tc : Thread Cert.LossBwdRefIdeal.nD Cert.LossBwdRefIdeal.τ).loc Cert.LossBwdRefIdeal.main_v88) = v4 c
          ∧ r.2.mem ((c.tc : Thread Cert.LossBwdRefIdeal.nD Cert.LossBwdRefIdeal.τ).loc Cert.LossBwdRefIdeal.main_v89) = v5 c
          ∧ r.2.mem ((c.tc : Thread Cert.LossBwdRefIdeal.nD Cert.LossBwdRefIdeal.τ).loc Cert.LossBwdRefIdeal.main_v91) = v6 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2)
          ∧ r.2.mem ((c.tc : Thread Cert.LossBwdRefIdeal.nD Cert.LossBwdRefIdeal.τ).loc Cert.LossBwdRefIdeal.main_arg3) = m' ((c.tc : Thread Cert.LossBwdRefIdeal.nD Cert.LossBwdRefIdeal.τ).loc Cert.LossBwdRefIdeal.main_arg3)
          ∧ r.2.mem ((c.tc : Thread Cert.LossBwdRefIdeal.nD Cert.LossBwdRefIdeal.τ).loc Cert.LossBwdRefIdeal.main_arg4) = m' ((c.tc : Thread Cert.LossBwdRefIdeal.nD Cert.LossBwdRefIdeal.τ).loc Cert.LossBwdRefIdeal.main_arg4)
          ∧ r.2.mem ((c.tc : Thread Cert.LossBwdRefIdeal.nD Cert.LossBwdRefIdeal.τ).loc Cert.LossBwdRefIdeal.main_arg5) = m' ((c.tc : Thread Cert.LossBwdRefIdeal.nD Cert.LossBwdRefIdeal.τ).loc Cert.LossBwdRefIdeal.main_arg5))

def Claim : Prop :=
  ∃ (hKernel : Cert.Kernel.Facts) (hKernelIdeal : Cert.KernelIdeal.Facts) (hKernelRefIdeal : Cert.KernelRefIdeal.Facts) (hMlp2BwdX : Cert.Mlp2BwdX.Facts) (hMlp2BwdXIdeal : Cert.Mlp2BwdXIdeal.Facts) (hMlp2BwdXRefIdeal : Cert.Mlp2BwdXRefIdeal.Facts) (hMlp2BwdW : Cert.Mlp2BwdW.Facts) (hMlp2BwdWIdeal : Cert.Mlp2BwdWIdeal.Facts) (hMlp2BwdWRefIdeal : Cert.Mlp2BwdWRefIdeal.Facts) (hMlp1BwdX : Cert.Mlp1BwdX.Facts) (hMlp1BwdXIdeal : Cert.Mlp1BwdXIdeal.Facts) (hMlp1BwdXRefIdeal : Cert.Mlp1BwdXRefIdeal.Facts) (hMlp1BwdW : Cert.Mlp1BwdW.Facts) (hMlp1BwdWIdeal : Cert.Mlp1BwdWIdeal.Facts) (hMlp1BwdWRefIdeal : Cert.Mlp1BwdWRefIdeal.Facts) (hInBwdX : Cert.InBwdX.Facts) (hInBwdXIdeal : Cert.InBwdXIdeal.Facts) (hInBwdXRefIdeal : Cert.InBwdXRefIdeal.Facts) (hInBwdW : Cert.InBwdW.Facts) (hInBwdWIdeal : Cert.InBwdWIdeal.Facts) (hInBwdWRefIdeal : Cert.InBwdWRefIdeal.Facts) (hOutBwdX : Cert.OutBwdX.Facts) (hOutBwdXIdeal : Cert.OutBwdXIdeal.Facts) (hOutBwdXRefIdeal : Cert.OutBwdXRefIdeal.Facts) (hOutBwdW : Cert.OutBwdW.Facts) (hOutBwdWIdeal : Cert.OutBwdWIdeal.Facts) (hOutBwdWRefIdeal : Cert.OutBwdWRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMlp1 : Cert.Mlp1.Facts) (hMlp1Ideal : Cert.Mlp1Ideal.Facts) (hMlp1RefIdeal : Cert.Mlp1RefIdeal.Facts) (hMlp2 : Cert.Mlp2.Facts) (hMlp2Ideal : Cert.Mlp2Ideal.Facts) (hMlp2RefIdeal : Cert.Mlp2RefIdeal.Facts) (hAdamMod : Cert.AdamMod.Facts) (hAdamModIdeal : Cert.AdamModIdeal.Facts) (hAdamModRefIdeal : Cert.AdamModRefIdeal.Facts) (hAdamMlp : Cert.AdamMlp.Facts) (hAdamMlpIdeal : Cert.AdamMlpIdeal.Facts) (hAdamMlpRefIdeal : Cert.AdamMlpRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hDmodPrep : Cert.DmodPrep.Facts) (hDmodPrepIdeal : Cert.DmodPrepIdeal.Facts) (hDmodPrepRefIdeal : Cert.DmodPrepRefIdeal.Facts) (hModBwdW : Cert.ModBwdW.Facts) (hModBwdWIdeal : Cert.ModBwdWIdeal.Facts) (hModBwdWRefIdeal : Cert.ModBwdWRefIdeal.Facts) (hModBwdC : Cert.ModBwdC.Facts) (hModBwdCIdeal : Cert.ModBwdCIdeal.Facts) (hModBwdCRefIdeal : Cert.ModBwdCRefIdeal.Facts) (hGradX : Cert.GradX.Facts) (hGradXIdeal : Cert.GradXIdeal.Facts) (hGradXRefIdeal : Cert.GradXRefIdeal.Facts) (hLossBwd : Cert.LossBwd.Facts) (hLossBwdIdeal : Cert.LossBwdIdeal.Facts) (hLossBwdRefIdeal : Cert.LossBwdRefIdeal.Facts),
    quiescent_Kernel (hKernel := hKernel)
    ∧ quiescent_KernelIdeal (hKernelIdeal := hKernelIdeal)
    ∧ quiescent_KernelRefIdeal (hKernelRefIdeal := hKernelRefIdeal)
    ∧ quiescent_Mlp2BwdX (hMlp2BwdX := hMlp2BwdX)
    ∧ quiescent_Mlp2BwdXIdeal (hMlp2BwdXIdeal := hMlp2BwdXIdeal)
    ∧ quiescent_Mlp2BwdXRefIdeal (hMlp2BwdXRefIdeal := hMlp2BwdXRefIdeal)
    ∧ quiescent_Mlp2BwdW (hMlp2BwdW := hMlp2BwdW)
    ∧ quiescent_Mlp2BwdWIdeal (hMlp2BwdWIdeal := hMlp2BwdWIdeal)
    ∧ quiescent_Mlp2BwdWRefIdeal (hMlp2BwdWRefIdeal := hMlp2BwdWRefIdeal)
    ∧ quiescent_Mlp1BwdX (hMlp1BwdX := hMlp1BwdX)
    ∧ quiescent_Mlp1BwdXIdeal (hMlp1BwdXIdeal := hMlp1BwdXIdeal)
    ∧ quiescent_Mlp1BwdXRefIdeal (hMlp1BwdXRefIdeal := hMlp1BwdXRefIdeal)
    ∧ quiescent_Mlp1BwdW (hMlp1BwdW := hMlp1BwdW)
    ∧ quiescent_Mlp1BwdWIdeal (hMlp1BwdWIdeal := hMlp1BwdWIdeal)
    ∧ quiescent_Mlp1BwdWRefIdeal (hMlp1BwdWRefIdeal := hMlp1BwdWRefIdeal)
    ∧ quiescent_InBwdX (hInBwdX := hInBwdX)
    ∧ quiescent_InBwdXIdeal (hInBwdXIdeal := hInBwdXIdeal)
    ∧ quiescent_InBwdXRefIdeal (hInBwdXRefIdeal := hInBwdXRefIdeal)
    ∧ quiescent_InBwdW (hInBwdW := hInBwdW)
    ∧ quiescent_InBwdWIdeal (hInBwdWIdeal := hInBwdWIdeal)
    ∧ quiescent_InBwdWRefIdeal (hInBwdWRefIdeal := hInBwdWRefIdeal)
    ∧ quiescent_OutBwdX (hOutBwdX := hOutBwdX)
    ∧ quiescent_OutBwdXIdeal (hOutBwdXIdeal := hOutBwdXIdeal)
    ∧ quiescent_OutBwdXRefIdeal (hOutBwdXRefIdeal := hOutBwdXRefIdeal)
    ∧ quiescent_OutBwdW (hOutBwdW := hOutBwdW)
    ∧ quiescent_OutBwdWIdeal (hOutBwdWIdeal := hOutBwdWIdeal)
    ∧ quiescent_OutBwdWRefIdeal (hOutBwdWRefIdeal := hOutBwdWRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Mlp1 (hMlp1 := hMlp1)
    ∧ quiescent_Mlp1Ideal (hMlp1Ideal := hMlp1Ideal)
    ∧ quiescent_Mlp1RefIdeal (hMlp1RefIdeal := hMlp1RefIdeal)
    ∧ quiescent_Mlp2 (hMlp2 := hMlp2)
    ∧ quiescent_Mlp2Ideal (hMlp2Ideal := hMlp2Ideal)
    ∧ quiescent_Mlp2RefIdeal (hMlp2RefIdeal := hMlp2RefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_DmodPrep (hDmodPrep := hDmodPrep)
    ∧ quiescent_DmodPrepIdeal (hDmodPrepIdeal := hDmodPrepIdeal)
    ∧ quiescent_DmodPrepRefIdeal (hDmodPrepRefIdeal := hDmodPrepRefIdeal)
    ∧ quiescent_ModBwdW (hModBwdW := hModBwdW)
    ∧ quiescent_ModBwdWIdeal (hModBwdWIdeal := hModBwdWIdeal)
    ∧ quiescent_ModBwdWRefIdeal (hModBwdWRefIdeal := hModBwdWRefIdeal)
    ∧ quiescent_ModBwdC (hModBwdC := hModBwdC)
    ∧ quiescent_ModBwdCIdeal (hModBwdCIdeal := hModBwdCIdeal)
    ∧ quiescent_ModBwdCRefIdeal (hModBwdCRefIdeal := hModBwdCRefIdeal)
    ∧ quiescent_GradX (hGradX := hGradX)
    ∧ quiescent_GradXIdeal (hGradXIdeal := hGradXIdeal)
    ∧ quiescent_GradXRefIdeal (hGradXRefIdeal := hGradXRefIdeal)
    ∧ quiescent_LossBwd (hLossBwd := hLossBwd)
    ∧ quiescent_LossBwdIdeal (hLossBwdIdeal := hLossBwdIdeal)
    ∧ quiescent_LossBwdRefIdeal (hLossBwdRefIdeal := hLossBwdRefIdeal)
    ∧ preserves_Kernel_KernelIdeal
    ∧ algebraic_KernelIdeal_KernelRefIdeal (hKernelIdeal := hKernelIdeal) (hKernelRefIdeal := hKernelRefIdeal)
    ∧ preserves_Mlp2BwdX_Mlp2BwdXIdeal
    ∧ algebraic_Mlp2BwdXIdeal_Mlp2BwdXRefIdeal (hMlp2BwdXIdeal := hMlp2BwdXIdeal) (hMlp2BwdXRefIdeal := hMlp2BwdXRefIdeal)
    ∧ preserves_Mlp2BwdW_Mlp2BwdWIdeal
    ∧ algebraic_Mlp2BwdWIdeal_Mlp2BwdWRefIdeal (hMlp2BwdWIdeal := hMlp2BwdWIdeal) (hMlp2BwdWRefIdeal := hMlp2BwdWRefIdeal)
    ∧ preserves_Mlp1BwdX_Mlp1BwdXIdeal
    ∧ algebraic_Mlp1BwdXIdeal_Mlp1BwdXRefIdeal (hMlp1BwdXIdeal := hMlp1BwdXIdeal) (hMlp1BwdXRefIdeal := hMlp1BwdXRefIdeal)
    ∧ preserves_Mlp1BwdW_Mlp1BwdWIdeal
    ∧ algebraic_Mlp1BwdWIdeal_Mlp1BwdWRefIdeal (hMlp1BwdWIdeal := hMlp1BwdWIdeal) (hMlp1BwdWRefIdeal := hMlp1BwdWRefIdeal)
    ∧ preserves_InBwdX_InBwdXIdeal
    ∧ algebraic_InBwdXIdeal_InBwdXRefIdeal (hInBwdXIdeal := hInBwdXIdeal) (hInBwdXRefIdeal := hInBwdXRefIdeal)
    ∧ preserves_InBwdW_InBwdWIdeal
    ∧ algebraic_InBwdWIdeal_InBwdWRefIdeal (hInBwdWIdeal := hInBwdWIdeal) (hInBwdWRefIdeal := hInBwdWRefIdeal)
    ∧ preserves_OutBwdX_OutBwdXIdeal
    ∧ algebraic_OutBwdXIdeal_OutBwdXRefIdeal (hOutBwdXIdeal := hOutBwdXIdeal) (hOutBwdXRefIdeal := hOutBwdXRefIdeal)
    ∧ preserves_OutBwdW_OutBwdWIdeal
    ∧ algebraic_OutBwdWIdeal_OutBwdWRefIdeal (hOutBwdWIdeal := hOutBwdWIdeal) (hOutBwdWRefIdeal := hOutBwdWRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Mlp1_Mlp1Ideal
    ∧ algebraic_Mlp1Ideal_Mlp1RefIdeal (hMlp1Ideal := hMlp1Ideal) (hMlp1RefIdeal := hMlp1RefIdeal)
    ∧ preserves_Mlp2_Mlp2Ideal
    ∧ algebraic_Mlp2Ideal_Mlp2RefIdeal (hMlp2Ideal := hMlp2Ideal) (hMlp2RefIdeal := hMlp2RefIdeal)
    ∧ preserves_AdamMod_AdamModIdeal
    ∧ algebraic_AdamModIdeal_AdamModRefIdeal (hAdamModIdeal := hAdamModIdeal) (hAdamModRefIdeal := hAdamModRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_DmodPrep_DmodPrepIdeal
    ∧ algebraic_DmodPrepIdeal_DmodPrepRefIdeal (hDmodPrepIdeal := hDmodPrepIdeal) (hDmodPrepRefIdeal := hDmodPrepRefIdeal)
    ∧ preserves_ModBwdW_ModBwdWIdeal
    ∧ algebraic_ModBwdWIdeal_ModBwdWRefIdeal (hModBwdWIdeal := hModBwdWIdeal) (hModBwdWRefIdeal := hModBwdWRefIdeal)
    ∧ preserves_ModBwdC_ModBwdCIdeal
    ∧ algebraic_ModBwdCIdeal_ModBwdCRefIdeal (hModBwdCIdeal := hModBwdCIdeal) (hModBwdCRefIdeal := hModBwdCRefIdeal)
    ∧ preserves_GradX_GradXIdeal
    ∧ algebraic_GradXIdeal_GradXRefIdeal (hGradXIdeal := hGradXIdeal) (hGradXRefIdeal := hGradXRefIdeal)
    ∧ preserves_LossBwd_LossBwdIdeal
    ∧ algebraic_LossBwdIdeal_LossBwdRefIdeal (hLossBwdIdeal := hLossBwdIdeal) (hLossBwdRefIdeal := hLossBwdRefIdeal)
-- ==== Kernel.lean ====
abbrev S4352x12352 : Shape := ⟨2, ![4352, 12352]⟩
abbrev S31x2048 : Shape := ⟨2, ![31, 2048]⟩
abbrev S4096x1024 : Shape := ⟨2, ![4096, 1024]⟩
abbrev S4352x8192 : Shape := ⟨2, ![4352, 8192]⟩
abbrev S4352x4096 : Shape := ⟨2, ![4352, 4096]⟩
abbrev S4352x64 : Shape := ⟨2, ![4352, 64]⟩
abbrev S_ : Shape := ⟨0, ![]⟩
abbrev S4352x448 : Shape := ⟨2, ![4352, 448]⟩
abbrev S4352x12800 : Shape := ⟨2, ![4352, 12800]⟩
abbrev S68x64x12800 : Shape := ⟨3, ![68, 64, 12800]⟩
abbrev S64x64x1024 : Shape := ⟨3, ![64, 64, 1024]⟩
abbrev S31x1024 : Shape := ⟨2, ![31, 1024]⟩
abbrev S64x64x128 : Shape := ⟨3, ![64, 64, 128]⟩
abbrev S31x128 : Shape := ⟨2, ![31, 128]⟩
abbrev S64x96x128 : Shape := ⟨3, ![64, 96, 128]⟩
abbrev S64x16x128 : Shape := ⟨3, ![64, 16, 128]⟩
abbrev S4x64x128 : Shape := ⟨3, ![4, 64, 128]⟩
abbrev S1x128 : Shape := ⟨2, ![1, 128]⟩
abbrev S1x1x128 : Shape := ⟨3, ![1, 1, 128]⟩
abbrev S64x128 : Shape := ⟨2, ![64, 128]⟩
abbrev S128 : Shape := ⟨1, ![128]⟩

abbrev nBuf : Space → Nat
  | .hbm => 14
  | .vmem => 16
  | .smem => 0
  | _ => 0

abbrev bufTy : (tb : Table) → Fin (tcTables nBuf tb) → BufTy
  | .hbm, ⟨0, _⟩ => ⟨S4352x12352, .f32⟩
  | .hbm, ⟨1, _⟩ => ⟨S31x2048, .f32⟩
  | .hbm, ⟨2, _⟩ => ⟨S4096x1024, .f32⟩
  | .hbm, ⟨3, _⟩ => ⟨S4352x8192, .f32⟩
  | .hbm, ⟨4, _⟩ => ⟨S4352x4096, .f32⟩
  | .hbm, ⟨5, _⟩ => ⟨S4352x64, .f32⟩
  | .hbm, ⟨6, _⟩ => ⟨S_, .f32⟩
  | .hbm, ⟨7, _⟩ => ⟨S4352x448, .f32⟩
  | .hbm, ⟨8, _⟩ => ⟨S4352x12800, .f32⟩
  | .hbm, ⟨9, _⟩ => ⟨S68x64x12800, .f32⟩
  | .hbm, ⟨10, _⟩ => ⟨S64x64x1024, .f32⟩
  | .hbm, ⟨11, _⟩ => ⟨S64x64x1024, .bf16⟩
  | .hbm, ⟨12, _⟩ => ⟨S64x64x1024, .bf16⟩
  | .hbm, ⟨13, _⟩ => ⟨S31x1024, .f32⟩
  | .local _ .vmem, ⟨0, _⟩ => ⟨S64x64x128, .f32⟩
  | .local _ .vmem, ⟨1, _⟩ => ⟨S64x64x128, .f32⟩
  | .local _ .vmem, ⟨2, _⟩ => ⟨S64x64x128, .f32⟩
  | .local _ .vmem, ⟨3, _⟩ => ⟨S64x64x128, .f32⟩
  | .local _ .vmem, ⟨4, _⟩ => ⟨S31x128, .f32⟩
  | .local _ .vmem, ⟨5, _⟩ => ⟨S31x128, .f32⟩
  | .local _ .vmem, ⟨6, _⟩ => ⟨S64x64x128, .f32⟩
  | .local _ .vmem, ⟨7, _⟩ => ⟨S64x64x128, .f32⟩
  | .local _ .vmem, ⟨8, _⟩ => ⟨S64x64x128, .bf16⟩
  | .local _ .vmem, ⟨9, _⟩ => ⟨S64x64x128, .bf16⟩
  | .local _ .vmem, ⟨10, _⟩ => ⟨S64x64x128, .bf16⟩
  | .local _ .vmem, ⟨11, _⟩ => ⟨S64x64x128, .bf16⟩
  | .local _ .vmem, ⟨12, _⟩ => ⟨S31x128, .f32⟩
  | .local _ .vmem, ⟨13, _⟩ => ⟨S31x128, .f32⟩
  | .local _ .vmem, ⟨14, _⟩ => ⟨S64x96x128, .f32⟩
  | .local _ .vmem, ⟨15, _⟩ => ⟨S64x96x128, .f32⟩
  | _, _ => ⟨S4352x12352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v30 : BitVec 32 := Scalar.addi c0_i32 c16_i32
  let c1_i32 : BitVec 32 := 1#32
  ⟨c0_i32, v30, c1_i32⟩
def k0_off1 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v220 : Index := Scalar.indexCast v217
  let c31 : Index := 31#32
  let c0_250 : Index := 0#32
  ![v220.toNat, 31, 0]
def k0_off2 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v227 : Index := Scalar.indexCast v217
  let c30_253 : Index := 30#32
  let c0_254 : Index := 0#32
  ![v227.toNat, 30, 0]
def k0_off3 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v234 : Index := Scalar.indexCast v217
  let c29_257 : Index := 29#32
  let c0_258 : Index := 0#32
  ![v234.toNat, 29, 0]
def k0_off4 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v241 : Index := Scalar.indexCast v217
  let c28_261 : Index := 28#32
  let c0_262 : Index := 0#32
  ![v241.toNat, 28, 0]
def k0_off5 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v248 : Index := Scalar.indexCast v217
  let c27_265 : Index := 27#32
  let c0_266 : Index := 0#32
  ![v248.toNat, 27, 0]
def k0_off6 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v255 : Index := Scalar.indexCast v217
  let c26_269 : Index := 26#32
  let c0_270 : Index := 0#32
  ![v255.toNat, 26, 0]
def k0_off7 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v262 : Index := Scalar.indexCast v217
  let c25_273 : Index := 25#32
  let c0_274 : Index := 0#32
  ![v262.toNat, 25, 0]
def k0_off8 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v269 : Index := Scalar.indexCast v217
  let c24_277 : Index := 24#32
  let c0_278 : Index := 0#32
  ![v269.toNat, 24, 0]
def k0_off9 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v276 : Index := Scalar.indexCast v217
  let c23_281 : Index := 23#32
  let c0_282 : Index := 0#32
  ![v276.toNat, 23, 0]
def k0_off10 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v283 : Index := Scalar.indexCast v217
  let c22_285 : Index := 22#32
  let c0_286 : Index := 0#32
  ![v283.toNat, 22, 0]
def k0_off11 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v290 : Index := Scalar.indexCast v217
  let c21_289 : Index := 21#32
  let c0_290 : Index := 0#32
  ![v290.toNat, 21, 0]
def k0_off12 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v297 : Index := Scalar.indexCast v217
  let c20_293 : Index := 20#32
  let c0_294 : Index := 0#32
  ![v297.toNat, 20, 0]
def k0_off13 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v304 : Index := Scalar.indexCast v217
  let c19_297 : Index := 19#32
  let c0_298 : Index := 0#32
  ![v304.toNat, 19, 0]
def k0_off14 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v311 : Index := Scalar.indexCast v217
  let c18_301 : Index := 18#32
  let c0_302 : Index := 0#32
  ![v311.toNat, 18, 0]
def k0_off15 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v318 : Index := Scalar.indexCast v217
  let c17_305 : Index := 17#32
  let c0_306 : Index := 0#32
  ![v318.toNat, 17, 0]
def k0_off16 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v325 : Index := Scalar.indexCast v217
  let c16_309 : Index := 16#32
  let c0_310 : Index := 0#32
  ![v325.toNat, 16, 0]
def k0_off17 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v332 : Index := Scalar.indexCast v217
  let c15_313 : Index := 15#32
  let c0_314 : Index := 0#32
  ![v332.toNat, 15, 0]
def k0_off18 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v339 : Index := Scalar.indexCast v217
  let c14_317 : Index := 14#32
  let c0_318 : Index := 0#32
  ![v339.toNat, 14, 0]
def k0_off19 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v346 : Index := Scalar.indexCast v217
  let c13_321 : Index := 13#32
  let c0_322 : Index := 0#32
  ![v346.toNat, 13, 0]
def k0_off20 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v353 : Index := Scalar.indexCast v217
  let c12_325 : Index := 12#32
  let c0_326 : Index := 0#32
  ![v353.toNat, 12, 0]
def k0_off21 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v360 : Index := Scalar.indexCast v217
  let c11_329 : Index := 11#32
  let c0_330 : Index := 0#32
  ![v360.toNat, 11, 0]
def k0_off22 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v367 : Index := Scalar.indexCast v217
  let c10_333 : Index := 10#32
  let c0_334 : Index := 0#32
  ![v367.toNat, 10, 0]
def k0_off23 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v374 : Index := Scalar.indexCast v217
  let c9_337 : Index := 9#32
  let c0_338 : Index := 0#32
  ![v374.toNat, 9, 0]
def k0_off24 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v381 : Index := Scalar.indexCast v217
  let c8_341 : Index := 8#32
  let c0_342 : Index := 0#32
  ![v381.toNat, 8, 0]
def k0_off25 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v388 : Index := Scalar.indexCast v217
  let c7_345 : Index := 7#32
  let c0_346 : Index := 0#32
  ![v388.toNat, 7, 0]
def k0_off26 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v395 : Index := Scalar.indexCast v217
  let c6_349 : Index := 6#32
  let c0_350 : Index := 0#32
  ![v395.toNat, 6, 0]
def k0_off27 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v402 : Index := Scalar.indexCast v217
  let c5_353 : Index := 5#32
  let c0_354 : Index := 0#32
  ![v402.toNat, 5, 0]
def k0_off28 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v409 : Index := Scalar.indexCast v217
  let c4_357 : Index := 4#32
  let c0_358 : Index := 0#32
  ![v409.toNat, 4, 0]
def k0_off29 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v416 : Index := Scalar.indexCast v217
  let c3_361 : Index := 3#32
  let c0_362 : Index := 0#32
  ![v416.toNat, 3, 0]
def k0_off30 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v423 : Index := Scalar.indexCast v217
  let c2_365 : Index := 2#32
  let c0_366 : Index := 0#32
  ![v423.toNat, 2, 0]
def k0_off31 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v430 : Index := Scalar.indexCast v217
  let c1_369 : Index := 1#32
  let c0_370 : Index := 0#32
  ![v430.toNat, 1, 0]
def k0_off32 (k0_t1 : Fin k0_t1_loop.trips) : Fin 3 → Nat :=
  let c0_i32 : BitVec 32 := 0#32
  let c1_i32 : BitVec 32 := 1#32
  let arg10 : BitVec 32 := Scf.iv c0_i32 c1_i32 k0_t1
  let c4_i32 : BitVec 32 := 4#32
  let v217 : BitVec 32 := Scalar.muli arg10 c4_i32
  let v436 : Index := Scalar.indexCast v217
  let c0_371 : Index := 0#32
  let c0_372 : Index := 0#32
  ![v436.toNat, 0, 0]
@[reducible] def k0_t2_loop : Scf.Loop 32 :=
  let c0_i32_29 : BitVec 32 := 0#32
  let c16_i32_30 : BitVec 32 := 16#32
  let v32 : BitVec 32 := Scalar.addi c0_i32_29 c16_i32_30
  let c1_i32_31 : BitVec 32 := 1#32
  ⟨c0_i32_29, v32, c1_i32_31⟩
def k0_off33 (k0_t2 : Fin k0_t2_loop.trips) : Fin 3 → Nat :=
  let c0_i32_29 : BitVec 32 := 0#32
  let c1_i32_31 : BitVec 32 := 1#32
  let arg10 : BitVec 32 := Scf.iv c0_i32_29 c1_i32_31 k0_t2
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off34 (k0_t2 : Fin k0_t2_loop.trips) : Fin 3 → Nat :=
  let c0_i32_29 : BitVec 32 := 0#32
  let c1_i32_31 : BitVec 32 := 1#32
  let arg10 : BitVec 32 := Scf.iv c0_i32_29 c1_i32_31 k0_t2
  let c4_i32 : BitVec 32 := 4#32
  let v217 : BitVec 32 := Scalar.muli arg10 c4_i32
  let v221 : Index := Scalar.indexCast v217
  let c1_249 : Index := 1#32
  let c0_250 : Index := 0#32
  ![v221.toNat, 1, 0]
@[reducible] def k0_t3_loop : Scf.Loop 32 :=
  let c0_i32_37 : BitVec 32 := 0#32
  let c16_i32_38 : BitVec 32 := 16#32
  let v38 : BitVec 32 := Scalar.addi c0_i32_37 c16_i32_38
  let c1_i32_39 : BitVec 32 := 1#32
  ⟨c0_i32_37, v38, c1_i32_39⟩
def k0_off35 (k0_t3 : Fin k0_t3_loop.trips) : Fin 3 → Nat :=
  let c0_i32_37 : BitVec 32 := 0#32
  let c1_i32_39 : BitVec 32 := 1#32
  let arg10 : BitVec 32 := Scf.iv c0_i32_37 c1_i32_39 k0_t3
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off36 (k0_t3 : Fin k0_t3_loop.trips) : Fin 3 → Nat :=
  let c0_i32_37 : BitVec 32 := 0#32
  let c1_i32_39 : BitVec 32 := 1#32
  let arg10 : BitVec 32 := Scf.iv c0_i32_37 c1_i32_39 k0_t3
  let c4_i32 : BitVec 32 := 4#32
  let v217 : BitVec 32 := Scalar.muli arg10 c4_i32
  let v221 : Index := Scalar.indexCast v217
  let c2_249 : Index := 2#32
  let c0_250 : Index := 0#32
  ![v221.toNat, 2, 0]
@[reducible] def k0_t4_loop : Scf.Loop 32 :=
  let c0_i32_44 : BitVec 32 := 0#32
  let c16_i32_45 : BitVec 32 := 16#32
  let v44 : BitVec 32 := Scalar.addi c0_i32_44 c16_i32_45
  let c1_i32_46 : BitVec 32 := 1#32
  ⟨c0_i32_44, v44, c1_i32_46⟩
def k0_off37 (k0_t4 : Fin k0_t4_loop.trips) : Fin 3 → Nat :=
  let c0_i32_44 : BitVec 32 := 0#32
  let c1_i32_46 : BitVec 32 := 1#32
  let arg10 : BitVec 32 := Scf.iv c0_i32_44 c1_i32_46 k0_t4
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off38 (k0_t4 : Fin k0_t4_loop.trips) : Fin 3 → Nat :=
  let c0_i32_44 : BitVec 32 := 0#32
  let c1_i32_46 : BitVec 32 := 1#32
  let arg10 : BitVec 32 := Scf.iv c0_i32_44 c1_i32_46 k0_t4
  let c4_i32 : BitVec 32 := 4#32
  let v217 : BitVec 32 := Scalar.muli arg10 c4_i32
  let v221 : Index := Scalar.indexCast v217
  let c3_249 : Index := 3#32
  let c0_250 : Index := 0#32
  ![v221.toNat, 3, 0]
@[reducible] def k0_t5_loop : Scf.Loop 32 :=
  let c0_i32_51 : BitVec 32 := 0#32
  let c16_i32_52 : BitVec 32 := 16#32
  let v50 : BitVec 32 := Scalar.addi c0_i32_51 c16_i32_52
  let c1_i32_53 : BitVec 32 := 1#32
  ⟨c0_i32_51, v50, c1_i32_53⟩
def k0_off39 (k0_t5 : Fin k0_t5_loop.trips) : Fin 3 → Nat :=
  let c0_i32_51 : BitVec 32 := 0#32
  let c1_i32_53 : BitVec 32 := 1#32
  let arg10 : BitVec 32 := Scf.iv c0_i32_51 c1_i32_53 k0_t5
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off40 (k0_t5 : Fin k0_t5_loop.trips) : Fin 3 → Nat :=
  let c0_i32_51 : BitVec 32 := 0#32
  let c1_i32_53 : BitVec 32 := 1#32
  let arg10 : BitVec 32 := Scf.iv c0_i32_51 c1_i32_53 k0_t5
  let c4_i32 : BitVec 32 := 4#32
  let v217 : BitVec 32 := Scalar.muli arg10 c4_i32
  let v221 : Index := Scalar.indexCast v217
  let c4_249 : Index := 4#32
  let c0_250 : Index := 0#32
  ![v221.toNat, 4, 0]
@[reducible] def k0_t6_loop : Scf.Loop 32 :=
  let c0_i32_58 : BitVec 32 := 0#32
  let c16_i32_59 : BitVec 32 := 16#32
  let v56 : BitVec 32 := Scalar.addi c0_i32_58 c16_i32_59
  let c1_i32_60 : BitVec 32 := 1#32
  ⟨c0_i32_58, v56, c1_i32_60⟩
def k0_off41 (k0_t6 : Fin k0_t6_loop.trips) : Fin 3 → Nat :=
  let c0_i32_58 : BitVec 32 := 0#32
  let c1_i32_60 : BitVec 32 := 1#32
  let arg10 : BitVec 32 := Scf.iv c0_i32_58 c1_i32_60 k0_t6
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off42 (k0_t6 : Fin k0_t6_loop.trips) : Fin 3 → Nat :=
  let c0_i32_58 : BitVec 32 := 0#32
  let c1_i32_60 : BitVec 32 := 1#32
  let arg10 : BitVec 32 := Scf.iv c0_i32_58 c1_i32_60 k0_t6
  let c4_i32 : BitVec 32 := 4#32
  let v217 : BitVec 32 := Scalar.muli arg10 c4_i32
  let v221 : Index := Scalar.indexCast v217
  let c5_249 : Index := 5#32
  let c0_250 : Index := 0#32
  ![v221.toNat, 5, 0]
@[reducible] def k0_t7_loop : Scf.Loop 32 :=
  let c0_i32_65 : BitVec 32 := 0#32
  let c16_i32_66 : BitVec 32 := 16#32
  let v62 : BitVec 32 := Scalar.addi c0_i32_65 c16_i32_66
  let c1_i32_67 : BitVec 32 := 1#32
  ⟨c0_i32_65, v62, c1_i32_67⟩
def k0_off43 (k0_t7 : Fin k0_t7_loop.trips) : Fin 3 → Nat :=
  let c0_i32_65 : BitVec 32 := 0#32
  let c1_i32_67 : BitVec 32 := 1#32
  let arg10 : BitVec 32 := Scf.iv c0_i32_65 c1_i32_67 k0_t7
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off44 (k0_t7 : Fin k0_t7_loop.trips) : Fin 3 → Nat :=
  let c0_i32_65 : BitVec 32 := 0#32
  let c1_i32_67 : BitVec 32 := 1#32
  let arg10 : BitVec 32 := Scf.iv c0_i32_65 c1_i32_67 k0_t7
  let c4_i32 : BitVec 32 := 4#32
  let v217 : BitVec 32 := Scalar.muli arg10 c4_i32
  let v221 : Index := Scalar.indexCast v217
  let c6_249 : Index := 6#32
  let c0_250 : Index := 0#32
  ![v221.toNat, 6, 0]
@[reducible] def k0_t8_loop : Scf.Loop 32 :=
  let c0_i32_72 : BitVec 32 := 0#32
  let c16_i32_73 : BitVec 32 := 16#32
  let v68 : BitVec 32 := Scalar.addi c0_i32_72 c16_i32_73
  let c1_i32_74 : BitVec 32 := 1#32
  ⟨c0_i32_72, v68, c1_i32_74⟩
def k0_off45 (k0_t8 : Fin k0_t8_loop.trips) : Fin 3 → Nat :=
  let c0_i32_72 : BitVec 32 := 0#32
  let c1_i32_74 : BitVec 32 := 1#32
  let arg10 : BitVec 32 := Scf.iv c0_i32_72 c1_i32_74 k0_t8
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off46 (k0_t8 : Fin k0_t8_loop.trips) : Fin 3 → Nat :=
  let c0_i32_72 : BitVec 32 := 0#32
  let c1_i32_74 : BitVec 32 := 1#32
  let arg10 : BitVec 32 := Scf.iv c0_i32_72 c1_i32_74 k0_t8
  let c4_i32 : BitVec 32 := 4#32
  let v217 : BitVec 32 := Scalar.muli arg10 c4_i32
  let v221 : Index := Scalar.indexCast v217
  let c7_249 : Index := 7#32
  let c0_250 : Index := 0#32
  ![v221.toNat, 7, 0]
@[reducible] def k0_t9_loop : Scf.Loop 32 :=
  let c0_i32_79 : BitVec 32 := 0#32
  let c16_i32_80 : BitVec 32 := 16#32
  let v74 : BitVec 32 := Scalar.addi c0_i32_79 c16_i32_80
  let c1_i32_81 : BitVec 32 := 1#32
  ⟨c0_i32_79, v74, c1_i32_81⟩
def k0_off47 (k0_t9 : Fin k0_t9_loop.trips) : Fin 3 → Nat :=
  let c0_i32_79 : BitVec 32 := 0#32
  let c1_i32_81 : BitVec 32 := 1#32
  let arg10 : BitVec 32 := Scf.iv c0_i32_79 c1_i32_81 k0_t9
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off48 (k0_t9 : Fin k0_t9_loop.trips) : Fin 3 → Nat :=
  let c0_i32_79 : BitVec 32 := 0#32
  let c1_i32_81 : BitVec 32 := 1#32
  let arg10 : BitVec 32 := Scf.iv c0_i32_79 c1_i32_81 k0_t9
  let c4_i32 : BitVec 32 := 4#32
  let v217 : BitVec 32 := Scalar.muli arg10 c4_i32
  let v221 : Index := Scalar.indexCast v217
  let c8_249 : Index := 8#32
  let c0_250 : Index := 0#32
  ![v221.toNat, 8, 0]
@[reducible] def k0_t10_loop : Scf.Loop 32 :=
  let c0_i32_86 : BitVec 32 := 0#32
  let c16_i32_87 : BitVec 32 := 16#32
  let v80 : BitVec 32 := Scalar.addi c0_i32_86 c16_i32_87
  let c1_i32_88 : BitVec 32 := 1#32
  ⟨c0_i32_86, v80, c1_i32_88⟩
def k0_off49 (k0_t10 : Fin k0_t10_loop.trips) : Fin 3 → Nat :=
  let c0_i32_86 : BitVec 32 := 0#32
  let c1_i32_88 : BitVec 32 := 1#32
  let arg10 : BitVec 32 := Scf.iv c0_i32_86 c1_i32_88 k0_t10
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off50 (k0_t10 : Fin k0_t10_loop.trips) : Fin 3 → Nat :=
  let c0_i32_86 : BitVec 32 := 0#32
  let c1_i32_88 : BitVec 32 := 1#32
  let arg10 : BitVec 32 := Scf.iv c0_i32_86 c1_i32_88 k0_t10
  let c4_i32 : BitVec 32 := 4#32
  let v217 : BitVec 32 := Scalar.muli arg10 c4_i32
  let v221 : Index := Scalar.indexCast v217
  let c9_249 : Index := 9#32
  let c0_250 : Index := 0#32
  ![v221.toNat, 9, 0]
@[reducible] def k0_t11_loop : Scf.Loop 32 :=
  let c0_i32_93 : BitVec 32 := 0#32
  let c16_i32_94 : BitVec 32 := 16#32
  let v86 : BitVec 32 := Scalar.addi c0_i32_93 c16_i32_94
  let c1_i32_95 : BitVec 32 := 1#32
  ⟨c0_i32_93, v86, c1_i32_95⟩
def k0_off51 (k0_t11 : Fin k0_t11_loop.trips) : Fin 3 → Nat :=
  let c0_i32_93 : BitVec 32 := 0#32
  let c1_i32_95 : BitVec 32 := 1#32
  let arg10 : BitVec 32 := Scf.iv c0_i32_93 c1_i32_95 k0_t11
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off52 (k0_t11 : Fin k0_t11_loop.trips) : Fin 3 → Nat :=
  let c0_i32_93 : BitVec 32 := 0#32
  let c1_i32_95 : BitVec 32 := 1#32
  let arg10 : BitVec 32 := Scf.iv c0_i32_93 c1_i32_95 k0_t11
  let c4_i32 : BitVec 32 := 4#32
  let v217 : BitVec 32 := Scalar.muli arg10 c4_i32
  let v221 : Index := Scalar.indexCast v217
  let c10_249 : Index := 10#32
  let c0_250 : Index := 0#32
  ![v221.toNat, 10, 0]
@[reducible] def k0_t12_loop : Scf.Loop 32 :=
  let c0_i32_100 : BitVec 32 := 0#32
  let c16_i32_101 : BitVec 32 := 16#32
  let v92 : BitVec 32 := Scalar.addi c0_i32_100 c16_i32_101
  let c1_i32_102 : BitVec 32 := 1#32
  ⟨c0_i32_100, v92, c1_i32_102⟩
def k0_off53 (k0_t12 : Fin k0_t12_loop.trips) : Fin 3 → Nat :=
  let c0_i32_100 : BitVec 32 := 0#32
  let c1_i32_102 : BitVec 32 := 1#32
  let arg10 : BitVec 32 := Scf.iv c0_i32_100 c1_i32_102 k0_t12
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off54 (k0_t12 : Fin k0_t12_loop.trips) : Fin 3 → Nat :=
  let c0_i32_100 : BitVec 32 := 0#32
  let c1_i32_102 : BitVec 32 := 1#32
  let arg10 : BitVec 32 := Scf.iv c0_i32_100 c1_i32_102 k0_t12
  let c4_i32 : BitVec 32 := 4#32
  let v217 : BitVec 32 := Scalar.muli arg10 c4_i32
  let v221 : Index := Scalar.indexCast v217
  let c11_249 : Index := 11#32
  let c0_250 : Index := 0#32
  ![v221.toNat, 11, 0]
@[reducible] def k0_t13_loop : Scf.Loop 32 :=
  let c0_i32_107 : BitVec 32 := 0#32
  let c16_i32_108 : BitVec 32 := 16#32
  let v98 : BitVec 32 := Scalar.addi c0_i32_107 c16_i32_108
  let c1_i32_109 : BitVec 32 := 1#32
  ⟨c0_i32_107, v98, c1_i32_109⟩
def k0_off55 (k0_t13 : Fin k0_t13_loop.trips) : Fin 3 → Nat :=
  let c0_i32_107 : BitVec 32 := 0#32
  let c1_i32_109 : BitVec 32 := 1#32
  let arg10 : BitVec 32 := Scf.iv c0_i32_107 c1_i32_109 k0_t13
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off56 (k0_t13 : Fin k0_t13_loop.trips) : Fin 3 → Nat :=
  let c0_i32_107 : BitVec 32 := 0#32
  let c1_i32_109 : BitVec 32 := 1#32
  let arg10 : BitVec 32 := Scf.iv c0_i32_107 c1_i32_109 k0_t13
  let c4_i32 : BitVec 32 := 4#32
  let v217 : BitVec 32 := Scalar.muli arg10 c4_i32
  let v221 : Index := Scalar.indexCast v217
  let c12_249 : Index := 12#32
  let c0_250 : Index := 0#32
  ![v221.toNat, 12, 0]
@[reducible] def k0_t14_loop : Scf.Loop 32 :=
  let c0_i32_114 : BitVec 32 := 0#32
  let c16_i32_115 : BitVec 32 := 16#32
  let v104 : BitVec 32 := Scalar.addi c0_i32_114 c16_i32_115
  let c1_i32_116 : BitVec 32 := 1#32
  ⟨c0_i32_114, v104, c1_i32_116⟩
def k0_off57 (k0_t14 : Fin k0_t14_loop.trips) : Fin 3 → Nat :=
  let c0_i32_114 : BitVec 32 := 0#32
  let c1_i32_116 : BitVec 32 := 1#32
  let arg10 : BitVec 32 := Scf.iv c0_i32_114 c1_i32_116 k0_t14
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off58 (k0_t14 : Fin k0_t14_loop.trips) : Fin 3 → Nat :=
  let c0_i32_114 : BitVec 32 := 0#32
  let c1_i32_116 : BitVec 32 := 1#32
  let arg10 : BitVec 32 := Scf.iv c0_i32_114 c1_i32_116 k0_t14
  let c4_i32 : BitVec 32 := 4#32
  let v217 : BitVec 32 := Scalar.muli arg10 c4_i32
  let v221 : Index := Scalar.indexCast v217
  let c13_249 : Index := 13#32
  let c0_250 : Index := 0#32
  ![v221.toNat, 13, 0]
@[reducible] def k0_t15_loop : Scf.Loop 32 :=
  let c0_i32_121 : BitVec 32 := 0#32
  let c16_i32_122 : BitVec 32 := 16#32
  let v110 : BitVec 32 := Scalar.addi c0_i32_121 c16_i32_122
  let c1_i32_123 : BitVec 32 := 1#32
  ⟨c0_i32_121, v110, c1_i32_123⟩
def k0_off59 (k0_t15 : Fin k0_t15_loop.trips) : Fin 3 → Nat :=
  let c0_i32_121 : BitVec 32 := 0#32
  let c1_i32_123 : BitVec 32 := 1#32
  let arg10 : BitVec 32 := Scf.iv c0_i32_121 c1_i32_123 k0_t15
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off60 (k0_t15 : Fin k0_t15_loop.trips) : Fin 3 → Nat :=
  let c0_i32_121 : BitVec 32 := 0#32
  let c1_i32_123 : BitVec 32 := 1#32
  let arg10 : BitVec 32 := Scf.iv c0_i32_121 c1_i32_123 k0_t15
  let c4_i32 : BitVec 32 := 4#32
  let v217 : BitVec 32 := Scalar.muli arg10 c4_i32
  let v221 : Index := Scalar.indexCast v217
  let c14_249 : Index := 14#32
  let c0_250 : Index := 0#32
  ![v221.toNat, 14, 0]
@[reducible] def k0_t16_loop : Scf.Loop 32 :=
  let c0_i32_128 : BitVec 32 := 0#32
  let c16_i32_129 : BitVec 32 := 16#32
  let v116 : BitVec 32 := Scalar.addi c0_i32_128 c16_i32_129
  let c1_i32_130 : BitVec 32 := 1#32
  ⟨c0_i32_128, v116, c1_i32_130⟩
def k0_off61 (k0_t16 : Fin k0_t16_loop.trips) : Fin 3 → Nat :=
  let c0_i32_128 : BitVec 32 := 0#32
  let c1_i32_130 : BitVec 32 := 1#32
  let arg10 : BitVec 32 := Scf.iv c0_i32_128 c1_i32_130 k0_t16
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off62 (k0_t16 : Fin k0_t16_loop.trips) : Fin 3 → Nat :=
  let c0_i32_128 : BitVec 32 := 0#32
  let c1_i32_130 : BitVec 32 := 1#32
  let arg10 : BitVec 32 := Scf.iv c0_i32_128 c1_i32_130 k0_t16
  let c4_i32 : BitVec 32 := 4#32
  let v217 : BitVec 32 := Scalar.muli arg10 c4_i32
  let v221 : Index := Scalar.indexCast v217
  let c15_249 : Index := 15#32
  let c0_250 : Index := 0#32
  ![v221.toNat, 15, 0]
@[reducible] def k0_t17_loop : Scf.Loop 32 :=
  let c0_i32_135 : BitVec 32 := 0#32
  let c16_i32_136 : BitVec 32 := 16#32
  let v122 : BitVec 32 := Scalar.addi c0_i32_135 c16_i32_136
  let c1_i32_137 : BitVec 32 := 1#32
  ⟨c0_i32_135, v122, c1_i32_137⟩
def k0_off63 (k0_t17 : Fin k0_t17_loop.trips) : Fin 3 → Nat :=
  let c0_i32_135 : BitVec 32 := 0#32
  let c1_i32_137 : BitVec 32 := 1#32
  let arg10 : BitVec 32 := Scf.iv c0_i32_135 c1_i32_137 k0_t17
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off64 (k0_t17 : Fin k0_t17_loop.trips) : Fin 3 → Nat :=
  let c0_i32_135 : BitVec 32 := 0#32
  let c1_i32_137 : BitVec 32 := 1#32
  let arg10 : BitVec 32 := Scf.iv c0_i32_135 c1_i32_137 k0_t17
  let c4_i32 : BitVec 32 := 4#32
  let v217 : BitVec 32 := Scalar.muli arg10 c4_i32
  let v221 : Index := Scalar.indexCast v217
  let c16_249 : Index := 16#32
  let c0_250 : Index := 0#32
  ![v221.toNat, 16, 0]
@[reducible] def k0_t18_loop : Scf.Loop 32 :=
  let c0_i32_142 : BitVec 32 := 0#32
  let c16_i32_143 : BitVec 32 := 16#32
  let v128 : BitVec 32 := Scalar.addi c0_i32_142 c16_i32_143
  let c1_i32_144 : BitVec 32 := 1#32
  ⟨c0_i32_142, v128, c1_i32_144⟩
def k0_off65 (k0_t18 : Fin k0_t18_loop.trips) : Fin 3 → Nat :=
  let c0_i32_142 : BitVec 32 := 0#32
  let c1_i32_144 : BitVec 32 := 1#32
  let arg10 : BitVec 32 := Scf.iv c0_i32_142 c1_i32_144 k0_t18
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off66 (k0_t18 : Fin k0_t18_loop.trips) : Fin 3 → Nat :=
  let c0_i32_142 : BitVec 32 := 0#32
  let c1_i32_144 : BitVec 32 := 1#32
  let arg10 : BitVec 32 := Scf.iv c0_i32_142 c1_i32_144 k0_t18
  let c4_i32 : BitVec 32 := 4#32
  let v217 : BitVec 32 := Scalar.muli arg10 c4_i32
  let v221 : Index := Scalar.indexCast v217
  let c17_249 : Index := 17#32
  let c0_250 : Index := 0#32
  ![v221.toNat, 17, 0]
@[reducible] def k0_t19_loop : Scf.Loop 32 :=
  let c0_i32_150 : BitVec 32 := 0#32
  let c16_i32_151 : BitVec 32 := 16#32
  let v134 : BitVec 32 := Scalar.addi c0_i32_150 c16_i32_151
  let c1_i32_152 : BitVec 32 := 1#32
  ⟨c0_i32_150, v134, c1_i32_152⟩
def k0_off67 (k0_t19 : Fin k0_t19_loop.trips) : Fin 3 → Nat :=
  let c0_i32_150 : BitVec 32 := 0#32
  let c1_i32_152 : BitVec 32 := 1#32
  let arg10 : BitVec 32 := Scf.iv c0_i32_150 c1_i32_152 k0_t19
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off68 (k0_t19 : Fin k0_t19_loop.trips) : Fin 3 → Nat :=
  let c0_i32_150 : BitVec 32 := 0#32
  let c1_i32_152 : BitVec 32 := 1#32
  let arg10 : BitVec 32 := Scf.iv c0_i32_150 c1_i32_152 k0_t19
  let c4_i32 : BitVec 32 := 4#32
  let v217 : BitVec 32 := Scalar.muli arg10 c4_i32
  let v221 : Index := Scalar.indexCast v217
  let c18_249 : Index := 18#32
  let c0_250 : Index := 0#32
  ![v221.toNat, 18, 0]
@[reducible] def k0_t20_loop : Scf.Loop 32 :=
  let c0_i32_157 : BitVec 32 := 0#32
  let c16_i32_158 : BitVec 32 := 16#32
  let v140 : BitVec 32 := Scalar.addi c0_i32_157 c16_i32_158
  let c1_i32_159 : BitVec 32 := 1#32
  ⟨c0_i32_157, v140, c1_i32_159⟩
def k0_off69 (k0_t20 : Fin k0_t20_loop.trips) : Fin 3 → Nat :=
  let c0_i32_157 : BitVec 32 := 0#32
  let c1_i32_159 : BitVec 32 := 1#32
  let arg10 : BitVec 32 := Scf.iv c0_i32_157 c1_i32_159 k0_t20
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off70 (k0_t20 : Fin k0_t20_loop.trips) : Fin 3 → Nat :=
  let c0_i32_157 : BitVec 32 := 0#32
  let c1_i32_159 : BitVec 32 := 1#32
  let arg10 : BitVec 32 := Scf.iv c0_i32_157 c1_i32_159 k0_t20
  let c4_i32 : BitVec 32 := 4#32
  let v217 : BitVec 32 := Scalar.muli arg10 c4_i32
  let v221 : Index := Scalar.indexCast v217
  let c19_249 : Index := 19#32
  let c0_250 : Index := 0#32
  ![v221.toNat, 19, 0]
@[reducible] def k0_t21_loop : Scf.Loop 32 :=
  let c0_i32_164 : BitVec 32 := 0#32
  let c16_i32_165 : BitVec 32 := 16#32
  let v146 : BitVec 32 := Scalar.addi c0_i32_164 c16_i32_165
  let c1_i32_166 : BitVec 32 := 1#32
  ⟨c0_i32_164, v146, c1_i32_166⟩
def k0_off71 (k0_t21 : Fin k0_t21_loop.trips) : Fin 3 → Nat :=
  let c0_i32_164 : BitVec 32 := 0#32
  let c1_i32_166 : BitVec 32 := 1#32
  let arg10 : BitVec 32 := Scf.iv c0_i32_164 c1_i32_166 k0_t21
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off72 (k0_t21 : Fin k0_t21_loop.trips) : Fin 3 → Nat :=
  let c0_i32_164 : BitVec 32 := 0#32
  let c1_i32_166 : BitVec 32 := 1#32
  let arg10 : BitVec 32 := Scf.iv c0_i32_164 c1_i32_166 k0_t21
  let c4_i32 : BitVec 32 := 4#32
  let v217 : BitVec 32 := Scalar.muli arg10 c4_i32
  let v221 : Index := Scalar.indexCast v217
  let c20_249 : Index := 20#32
  let c0_250 : Index := 0#32
  ![v221.toNat, 20, 0]
@[reducible] def k0_t22_loop : Scf.Loop 32 :=
  let c0_i32_171 : BitVec 32 := 0#32
  let c16_i32_172 : BitVec 32 := 16#32
  let v152 : BitVec 32 := Scalar.addi c0_i32_171 c16_i32_172
  let c1_i32_173 : BitVec 32 := 1#32
  ⟨c0_i32_171, v152, c1_i32_173⟩
def k0_off73 (k0_t22 : Fin k0_t22_loop.trips) : Fin 3 → Nat :=
  let c0_i32_171 : BitVec 32 := 0#32
  let c1_i32_173 : BitVec 32 := 1#32
  let arg10 : BitVec 32 := Scf.iv c0_i32_171 c1_i32_173 k0_t22
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off74 (k0_t22 : Fin k0_t22_loop.trips) : Fin 3 → Nat :=
  let c0_i32_171 : BitVec 32 := 0#32
  let c1_i32_173 : BitVec 32 := 1#32
  let arg10 : BitVec 32 := Scf.iv c0_i32_171 c1_i32_173 k0_t22
  let c4_i32 : BitVec 32 := 4#32
  let v217 : BitVec 32 := Scalar.muli arg10 c4_i32
  let v221 : Index := Scalar.indexCast v217
  let c21_249 : Index := 21#32
  let c0_250 : Index := 0#32
  ![v221.toNat, 21, 0]
@[reducible] def k0_t23_loop : Scf.Loop 32 :=
  let c0_i32_178 : BitVec 32 := 0#32
  let c16_i32_179 : BitVec 32 := 16#32
  let v158 : BitVec 32 := Scalar.addi c0_i32_178 c16_i32_179
  let c1_i32_180 : BitVec 32 := 1#32
  ⟨c0_i32_178, v158, c1_i32_180⟩
def k0_off75 (k0_t23 : Fin k0_t23_loop.trips) : Fin 3 → Nat :=
  let c0_i32_178 : BitVec 32 := 0#32
  let c1_i32_180 : BitVec 32 := 1#32
  let arg10 : BitVec 32 := Scf.iv c0_i32_178 c1_i32_180 k0_t23
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off76 (k0_t23 : Fin k0_t23_loop.trips) : Fin 3 → Nat :=
  let c0_i32_178 : BitVec 32 := 0#32
  let c1_i32_180 : BitVec 32 := 1#32
  let arg10 : BitVec 32 := Scf.iv c0_i32_178 c1_i32_180 k0_t23
  let c4_i32 : BitVec 32 := 4#32
  let v217 : BitVec 32 := Scalar.muli arg10 c4_i32
  let v221 : Index := Scalar.indexCast v217
  let c22_249 : Index := 22#32
  let c0_250 : Index := 0#32
  ![v221.toNat, 22, 0]
@[reducible] def k0_t24_loop : Scf.Loop 32 :=
  let c0_i32_185 : BitVec 32 := 0#32
  let c16_i32_186 : BitVec 32 := 16#32
  let v164 : BitVec 32 := Scalar.addi c0_i32_185 c16_i32_186
  let c1_i32_187 : BitVec 32 := 1#32
  ⟨c0_i32_185, v164, c1_i32_187⟩
def k0_off77 (k0_t24 : Fin k0_t24_loop.trips) : Fin 3 → Nat :=
  let c0_i32_185 : BitVec 32 := 0#32
  let c1_i32_187 : BitVec 32 := 1#32
  let arg10 : BitVec 32 := Scf.iv c0_i32_185 c1_i32_187 k0_t24
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off78 (k0_t24 : Fin k0_t24_loop.trips) : Fin 3 → Nat :=
  let c0_i32_185 : BitVec 32 := 0#32
  let c1_i32_187 : BitVec 32 := 1#32
  let arg10 : BitVec 32 := Scf.iv c0_i32_185 c1_i32_187 k0_t24
  let c4_i32 : BitVec 32 := 4#32
  let v217 : BitVec 32 := Scalar.muli arg10 c4_i32
  let v221 : Index := Scalar.indexCast v217
  let c23_249 : Index := 23#32
  let c0_250 : Index := 0#32
  ![v221.toNat, 23, 0]
@[reducible] def k0_t25_loop : Scf.Loop 32 :=
  let c0_i32_192 : BitVec 32 := 0#32
  let c16_i32_193 : BitVec 32 := 16#32
  let v170 : BitVec 32 := Scalar.addi c0_i32_192 c16_i32_193
  let c1_i32_194 : BitVec 32 := 1#32
  ⟨c0_i32_192, v170, c1_i32_194⟩
def k0_off79 (k0_t25 : Fin k0_t25_loop.trips) : Fin 3 → Nat :=
  let c0_i32_192 : BitVec 32 := 0#32
  let c1_i32_194 : BitVec 32 := 1#32
  let arg10 : BitVec 32 := Scf.iv c0_i32_192 c1_i32_194 k0_t25
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off80 (k0_t25 : Fin k0_t25_loop.trips) : Fin 3 → Nat :=
  let c0_i32_192 : BitVec 32 := 0#32
  let c1_i32_194 : BitVec 32 := 1#32
  let arg10 : BitVec 32 := Scf.iv c0_i32_192 c1_i32_194 k0_t25
  let c4_i32 : BitVec 32 := 4#32
  let v217 : BitVec 32 := Scalar.muli arg10 c4_i32
  let v221 : Index := Scalar.indexCast v217
  let c24_249 : Index := 24#32
  let c0_250 : Index := 0#32
  ![v221.toNat, 24, 0]
@[reducible] def k0_t26_loop : Scf.Loop 32 :=
  let c0_i32_199 : BitVec 32 := 0#32
  let c16_i32_200 : BitVec 32 := 16#32
  let v176 : BitVec 32 := Scalar.addi c0_i32_199 c16_i32_200
  let c1_i32_201 : BitVec 32 := 1#32
  ⟨c0_i32_199, v176, c1_i32_201⟩
def k0_off81 (k0_t26 : Fin k0_t26_loop.trips) : Fin 3 → Nat :=
  let c0_i32_199 : BitVec 32 := 0#32
  let c1_i32_201 : BitVec 32 := 1#32
  let arg10 : BitVec 32 := Scf.iv c0_i32_199 c1_i32_201 k0_t26
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off82 (k0_t26 : Fin k0_t26_loop.trips) : Fin 3 → Nat :=
  let c0_i32_199 : BitVec 32 := 0#32
  let c1_i32_201 : BitVec 32 := 1#32
  let arg10 : BitVec 32 := Scf.iv c0_i32_199 c1_i32_201 k0_t26
  let c4_i32 : BitVec 32 := 4#32
  let v217 : BitVec 32 := Scalar.muli arg10 c4_i32
  let v221 : Index := Scalar.indexCast v217
  let c25_249 : Index := 25#32
  let c0_250 : Index := 0#32
  ![v221.toNat, 25, 0]
@[reducible] def k0_t27_loop : Scf.Loop 32 :=
  let c0_i32_206 : BitVec 32 := 0#32
  let c16_i32_207 : BitVec 32 := 16#32
  let v182 : BitVec 32 := Scalar.addi c0_i32_206 c16_i32_207
  let c1_i32_208 : BitVec 32 := 1#32
  ⟨c0_i32_206, v182, c1_i32_208⟩
def k0_off83 (k0_t27 : Fin k0_t27_loop.trips) : Fin 3 → Nat :=
  let c0_i32_206 : BitVec 32 := 0#32
  let c1_i32_208 : BitVec 32 := 1#32
  let arg10 : BitVec 32 := Scf.iv c0_i32_206 c1_i32_208 k0_t27
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off84 (k0_t27 : Fin k0_t27_loop.trips) : Fin 3 → Nat :=
  let c0_i32_206 : BitVec 32 := 0#32
  let c1_i32_208 : BitVec 32 := 1#32
  let arg10 : BitVec 32 := Scf.iv c0_i32_206 c1_i32_208 k0_t27
  let c4_i32 : BitVec 32 := 4#32
  let v217 : BitVec 32 := Scalar.muli arg10 c4_i32
  let v221 : Index := Scalar.indexCast v217
  let c26_249 : Index := 26#32
  let c0_250 : Index := 0#32
  ![v221.toNat, 26, 0]
@[reducible] def k0_t28_loop : Scf.Loop 32 :=
  let c0_i32_213 : BitVec 32 := 0#32
  let c16_i32_214 : BitVec 32 := 16#32
  let v188 : BitVec 32 := Scalar.addi c0_i32_213 c16_i32_214
  let c1_i32_215 : BitVec 32 := 1#32
  ⟨c0_i32_213, v188, c1_i32_215⟩
def k0_off85 (k0_t28 : Fin k0_t28_loop.trips) : Fin 3 → Nat :=
  let c0_i32_213 : BitVec 32 := 0#32
  let c1_i32_215 : BitVec 32 := 1#32
  let arg10 : BitVec 32 := Scf.iv c0_i32_213 c1_i32_215 k0_t28
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off86 (k0_t28 : Fin k0_t28_loop.trips) : Fin 3 → Nat :=
  let c0_i32_213 : BitVec 32 := 0#32
  let c1_i32_215 : BitVec 32 := 1#32
  let arg10 : BitVec 32 := Scf.iv c0_i32_213 c1_i32_215 k0_t28
  let c4_i32 : BitVec 32 := 4#32
  let v217 : BitVec 32 := Scalar.muli arg10 c4_i32
  let v221 : Index := Scalar.indexCast v217
  let c27_249 : Index := 27#32
  let c0_250 : Index := 0#32
  ![v221.toNat, 27, 0]
@[reducible] def k0_t29_loop : Scf.Loop 32 :=
  let c0_i32_220 : BitVec 32 := 0#32
  let c16_i32_221 : BitVec 32 := 16#32
  let v194 : BitVec 32 := Scalar.addi c0_i32_220 c16_i32_221
  let c1_i32_222 : BitVec 32 := 1#32
  ⟨c0_i32_220, v194, c1_i32_222⟩
def k0_off87 (k0_t29 : Fin k0_t29_loop.trips) : Fin 3 → Nat :=
  let c0_i32_220 : BitVec 32 := 0#32
  let c1_i32_222 : BitVec 32 := 1#32
  let arg10 : BitVec 32 := Scf.iv c0_i32_220 c1_i32_222 k0_t29
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off88 (k0_t29 : Fin k0_t29_loop.trips) : Fin 3 → Nat :=
  let c0_i32_220 : BitVec 32 := 0#32
  let c1_i32_222 : BitVec 32 := 1#32
  let arg10 : BitVec 32 := Scf.iv c0_i32_220 c1_i32_222 k0_t29
  let c4_i32 : BitVec 32 := 4#32
  let v217 : BitVec 32 := Scalar.muli arg10 c4_i32
  let v221 : Index := Scalar.indexCast v217
  let c28_249 : Index := 28#32
  let c0_250 : Index := 0#32
  ![v221.toNat, 28, 0]
@[reducible] def k0_t30_loop : Scf.Loop 32 :=
  let c0_i32_227 : BitVec 32 := 0#32
  let c16_i32_228 : BitVec 32 := 16#32
  let v200 : BitVec 32 := Scalar.addi c0_i32_227 c16_i32_228
  let c1_i32_229 : BitVec 32 := 1#32
  ⟨c0_i32_227, v200, c1_i32_229⟩
def k0_off89 (k0_t30 : Fin k0_t30_loop.trips) : Fin 3 → Nat :=
  let c0_i32_227 : BitVec 32 := 0#32
  let c1_i32_229 : BitVec 32 := 1#32
  let arg10 : BitVec 32 := Scf.iv c0_i32_227 c1_i32_229 k0_t30
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off90 (k0_t30 : Fin k0_t30_loop.trips) : Fin 3 → Nat :=
  let c0_i32_227 : BitVec 32 := 0#32
  let c1_i32_229 : BitVec 32 := 1#32
  let arg10 : BitVec 32 := Scf.iv c0_i32_227 c1_i32_229 k0_t30
  let c4_i32 : BitVec 32 := 4#32
  let v217 : BitVec 32 := Scalar.muli arg10 c4_i32
  let v221 : Index := Scalar.indexCast v217
  let c29_249 : Index := 29#32
  let c0_250 : Index := 0#32
  ![v221.toNat, 29, 0]
@[reducible] def k0_t31_loop : Scf.Loop 32 :=
  let c0_i32_234 : BitVec 32 := 0#32
  let c16_i32_235 : BitVec 32 := 16#32
  let v206 : BitVec 32 := Scalar.addi c0_i32_234 c16_i32_235
  let c1_i32_236 : BitVec 32 := 1#32
  ⟨c0_i32_234, v206, c1_i32_236⟩
def k0_off91 (k0_t31 : Fin k0_t31_loop.trips) : Fin 3 → Nat :=
  let c0_i32_234 : BitVec 32 := 0#32
  let c1_i32_236 : BitVec 32 := 1#32
  let arg10 : BitVec 32 := Scf.iv c0_i32_234 c1_i32_236 k0_t31
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off92 (k0_t31 : Fin k0_t31_loop.trips) : Fin 3 → Nat :=
  let c0_i32_234 : BitVec 32 := 0#32
  let c1_i32_236 : BitVec 32 := 1#32
  let arg10 : BitVec 32 := Scf.iv c0_i32_234 c1_i32_236 k0_t31
  let c4_i32 : BitVec 32 := 4#32
  let v217 : BitVec 32 := Scalar.muli arg10 c4_i32
  let v221 : Index := Scalar.indexCast v217
  let c30_249 : Index := 30#32
  let c0_250 : Index := 0#32
  ![v221.toNat, 30, 0]
@[reducible] def k0_t32_loop : Scf.Loop 32 :=
  let c0_i32_241 : BitVec 32 := 0#32
  let c16_i32_242 : BitVec 32 := 16#32
  let v212 : BitVec 32 := Scalar.addi c0_i32_241 c16_i32_242
  let c1_i32_243 : BitVec 32 := 1#32
  ⟨c0_i32_241, v212, c1_i32_243⟩
def k0_off93 (k0_t32 : Fin k0_t32_loop.trips) : Fin 3 → Nat :=
  let c0_i32_241 : BitVec 32 := 0#32
  let c1_i32_243 : BitVec 32 := 1#32
  let arg10 : BitVec 32 := Scf.iv c0_i32_241 c1_i32_243 k0_t32
  let c4_i32 : BitVec 32 := 4#32
  let v217 : BitVec 32 := Scalar.muli arg10 c4_i32
  let v218 : Index := Scalar.indexCast v217
  let c0_247 : Index := 0#32
  let c0_248 : Index := 0#32
  ![v218.toNat, 0, 0]
def k0_off94 (k0_t32 : Fin k0_t32_loop.trips) : Fin 3 → Nat :=
  let c0_i32_241 : BitVec 32 := 0#32
  let c1_i32_243 : BitVec 32 := 1#32
  let arg10 : BitVec 32 := Scf.iv c0_i32_241 c1_i32_243 k0_t32
  let c4_i32 : BitVec 32 := 4#32
  let v217 : BitVec 32 := Scalar.muli arg10 c4_i32
  let v221 : Index := Scalar.indexCast v217
  let c31 : Index := 31#32
  let c0_249 : Index := 0#32
  ![v221.toNat, 31, 0]
def cc0_transform_0 (i : grid0.Coords) : Fin 3 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelRefIdeal.lean ====
abbrev S4352x12352 : Shape := ⟨2, ![4352, 12352]⟩
abbrev S31x2048 : Shape := ⟨2, ![31, 2048]⟩
abbrev S4096x1024 : Shape := ⟨2, ![4096, 1024]⟩
abbrev S64x64x1024 : Shape := ⟨3, ![64, 64, 1024]⟩
abbrev S31x1024 : Shape := ⟨2, ![31, 1024]⟩
abbrev S_ : Shape := ⟨0, ![]⟩
abbrev S64x15x1024 : Shape := ⟨3, ![64, 15, 1024]⟩
abbrev S64x94x1024 : Shape := ⟨3, ![64, 94, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 719
  | .vmem => 0
  | .smem => 0
  | _ => 0

abbrev hbmTy0_0 (i : Nat) : BufTy := match i % 128 with
  | 0 => ⟨S4352x12352, .f32⟩
  | 1 => ⟨S31x2048, .f32⟩
  | 2 => ⟨S4096x1024, .f32⟩
  | 3 => ⟨S4096x1024, .f32⟩
  | 4 => ⟨S64x64x1024, .f32⟩
  | 5 => ⟨S4096x1024, .f32⟩
  | 6 => ⟨S64x64x1024, .f32⟩
  | 7 => ⟨S31x1024, .f32⟩
  | 8 => ⟨S64x64x1024, .f32⟩
  | 9 => ⟨S64x64x1024, .f32⟩
  | 10 => ⟨S_, .f32⟩
  | 11 => ⟨S64x64x1024, .f32⟩
  | 12 => ⟨S64x64x1024, .f32⟩
  | 13 => ⟨S_, .f32⟩
  | 14 => ⟨S64x64x1024, .f32⟩
  | 15 => ⟨S64x64x1024, .f32⟩
  | 16 => ⟨S_, .f32⟩
  | 17 => ⟨S64x64x1024, .f32⟩
  | 18 => ⟨S64x64x1024, .f32⟩
  | 19 => ⟨S64x64x1024, .f32⟩
  | 20 => ⟨S64x64x1024, .f32⟩
  | 21 => ⟨S_, .f32⟩
  | 22 => ⟨S64x15x1024, .f32⟩
  | 23 => ⟨S64x94x1024, .f32⟩
  | 24 => ⟨S_, .f32⟩
  | 25 => ⟨S64x15x1024, .f32⟩
  | 26 => ⟨S_, .f32⟩
  | 27 => ⟨S64x15x1024, .f32⟩
  | 28 => ⟨S64x64x1024, .f32⟩
  | 29 => ⟨S1x1024, .f32⟩
  | 30 => ⟨S1024, .f32⟩
  | 31 => ⟨S1x1x1024, .f32⟩
  | 32 => ⟨S64x64x1024, .f32⟩
  | 33 => ⟨S64x64x1024, .f32⟩
  | 34 => ⟨S_, .f32⟩
  | 35 => ⟨S64x64x1024, .f32⟩
  | 36 => ⟨S64x64x1024, .f32⟩
  | 37 => ⟨S64x64x1024, .f32⟩
  | 38 => ⟨S1x1024, .f32⟩
  | 39 => ⟨S1024, .f32⟩
  | 40 => ⟨S1x1x1024, .f32⟩
  | 41 => ⟨S64x64x1024, .f32⟩
  | 42 => ⟨S64x64x1024, .f32⟩
  | 43 => ⟨S64x64x1024, .f32⟩
  | 44 => ⟨S64x64x1024, .f32⟩
  | 45 => ⟨S1x1024, .f32⟩
  | 46 => ⟨S1024, .f32⟩
  | 47 => ⟨S1x1x1024, .f32⟩
  | 48 => ⟨S64x64x1024, .f32⟩
  | 49 => ⟨S64x64x1024, .f32⟩
  | 50 => ⟨S64x64x1024, .f32⟩
  | 51 => ⟨S64x64x1024, .f32⟩
  | 52 => ⟨S1x1024, .f32⟩
  | 53 => ⟨S1024, .f32⟩
  | 54 => ⟨S1x1x1024, .f32⟩
  | 55 => ⟨S64x64x1024, .f32⟩
  | 56 => ⟨S64x64x1024, .f32⟩
  | 57 => ⟨S64x64x1024, .f32⟩
  | 58 => ⟨S64x64x1024, .f32⟩
  | 59 => ⟨S1x1024, .f32⟩
  | 60 => ⟨S1024, .f32⟩
  | 61 => ⟨S1x1x1024, .f32⟩
  | 62 => ⟨S64x64x1024, .f32⟩
  | 63 => ⟨S64x64x1024, .f32⟩
  | 64 => ⟨S64x64x1024, .f32⟩
  | 65 => ⟨S64x64x1024, .f32⟩
  | 66 => ⟨S1x1024, .f32⟩
  | 67 => ⟨S1024, .f32⟩
  | 68 => ⟨S1x1x1024, .f32⟩
  | 69 => ⟨S64x64x1024, .f32⟩
  | 70 => ⟨S64x64x1024, .f32⟩
  | 71 => ⟨S64x64x1024, .f32⟩
  | 72 => ⟨S64x64x1024, .f32⟩
  | 73 => ⟨S1x1024, .f32⟩
  | 74 => ⟨S1024, .f32⟩
  | 75 => ⟨S1x1x1024, .f32⟩
  | 76 => ⟨S64x64x1024, .f32⟩
  | 77 => ⟨S64x64x1024, .f32⟩
  | 78 => ⟨S64x64x1024, .f32⟩
  | 79 => ⟨S64x64x1024, .f32⟩
  | 80 => ⟨S1x1024, .f32⟩
  | 81 => ⟨S1024, .f32⟩
  | 82 => ⟨S1x1x1024, .f32⟩
  | 83 => ⟨S64x64x1024, .f32⟩
  | 84 => ⟨S64x64x1024, .f32⟩
  | 85 => ⟨S64x64x1024, .f32⟩
  | 86 => ⟨S64x64x1024, .f32⟩
  | 87 => ⟨S1x1024, .f32⟩
  | 88 => ⟨S1024, .f32⟩
  | 89 => ⟨S1x1x1024, .f32⟩
  | 90 => ⟨S64x64x1024, .f32⟩
  | 91 => ⟨S64x64x1024, .f32⟩
  | 92 => ⟨S64x64x1024, .f32⟩
  | 93 => ⟨S64x64x1024, .f32⟩
  | 94 => ⟨S1x1024, .f32⟩
  | 95 => ⟨S1024, .f32⟩
  | 96 => ⟨S1x1x1024, .f32⟩
  | 97 => ⟨S64x64x1024, .f32⟩
  | 98 => ⟨S64x64x1024, .f32⟩
  | 99 => ⟨S64x64x1024, .f32⟩
  | 100 => ⟨S64x64x1024, .f32⟩
  | 101 => ⟨S1x1024, .f32⟩
  | 102 => ⟨S1024, .f32⟩
  | 103 => ⟨S1x1x1024, .f32⟩
  | 104 => ⟨S64x64x1024, .f32⟩
  | 105 => ⟨S64x64x1024, .f32⟩
  | 106 => ⟨S64x64x1024, .f32⟩
  | 107 => ⟨S64x64x1024, .f32⟩
  | 108 => ⟨S1x1024, .f32⟩
  | 109 => ⟨S1024, .f32⟩
  | 110 => ⟨S1x1x1024, .f32⟩
  | 111 => ⟨S64x64x1024, .f32⟩
  | 112 => ⟨S64x64x1024, .f32⟩
  | 113 => ⟨S64x64x1024, .f32⟩
  | 114 => ⟨S64x64x1024, .f32⟩
  | 115 => ⟨S1x1024, .f32⟩
  | 116 => ⟨S1024, .f32⟩
  | 117 => ⟨S1x1x1024, .f32⟩
  | 118 => ⟨S64x64x1024, .f32⟩
  | 119 => ⟨S64x64x1024, .f32⟩
  | 120 => ⟨S64x64x1024, .f32⟩
  | 121 => ⟨S64x64x1024, .f32⟩
  | 122 => ⟨S1x1024, .f32⟩
  | 123 => ⟨S1024, .f32⟩
  | 124 => ⟨S1x1x1024, .f32⟩
  | 125 => ⟨S64x64x1024, .f32⟩
  | 126 => ⟨S64x64x1024, .f32⟩
  | 127 => ⟨S64x64x1024, .f32⟩
  | _ => ⟨S4352x12352, .f32⟩

abbrev hbmTy0_1 (i : Nat) : BufTy := match i % 128 with
  | 0 => ⟨S64x64x1024, .f32⟩
  | 1 => ⟨S1x1024, .f32⟩
  | 2 => ⟨S1024, .f32⟩
  | 3 => ⟨S1x1x1024, .f32⟩
  | 4 => ⟨S64x64x1024, .f32⟩
  | 5 => ⟨S64x64x1024, .f32⟩
  | 6 => ⟨S64x64x1024, .f32⟩
  | 7 => ⟨S64x64x1024, .f32⟩
  | 8 => ⟨S1x1024, .f32⟩
  | 9 => ⟨S1024, .f32⟩
  | 10 => ⟨S1x1x1024, .f32⟩
  | 11 => ⟨S64x64x1024, .f32⟩
  | 12 => ⟨S64x64x1024, .f32⟩
  | 13 => ⟨S64x64x1024, .f32⟩
  | 14 => ⟨S64x64x1024, .f32⟩
  | 15 => ⟨S1x1024, .f32⟩
  | 16 => ⟨S1024, .f32⟩
  | 17 => ⟨S1x1x1024, .f32⟩
  | 18 => ⟨S64x64x1024, .f32⟩
  | 19 => ⟨S64x64x1024, .f32⟩
  | 20 => ⟨S64x64x1024, .f32⟩
  | 21 => ⟨S64x64x1024, .f32⟩
  | 22 => ⟨S1x1024, .f32⟩
  | 23 => ⟨S1024, .f32⟩
  | 24 => ⟨S1x1x1024, .f32⟩
  | 25 => ⟨S64x64x1024, .f32⟩
  | 26 => ⟨S64x64x1024, .f32⟩
  | 27 => ⟨S64x64x1024, .f32⟩
  | 28 => ⟨S64x64x1024, .f32⟩
  | 29 => ⟨S1x1024, .f32⟩
  | 30 => ⟨S1024, .f32⟩
  | 31 => ⟨S1x1x1024, .f32⟩
  | 32 => ⟨S64x64x1024, .f32⟩
  | 33 => ⟨S64x64x1024, .f32⟩
  | 34 => ⟨S64x64x1024, .f32⟩
  | 35 => ⟨S64x64x1024, .f32⟩
  | 36 => ⟨S1x1024, .f32⟩
  | 37 => ⟨S1024, .f32⟩
  | 38 => ⟨S1x1x1024, .f32⟩
  | 39 => ⟨S64x64x1024, .f32⟩
  | 40 => ⟨S64x64x1024, .f32⟩
  | 41 => ⟨S64x64x1024, .f32⟩
  | 42 => ⟨S64x64x1024, .f32⟩
  | 43 => ⟨S1x1024, .f32⟩
  | 44 => ⟨S1024, .f32⟩
  | 45 => ⟨S1x1x1024, .f32⟩
  | 46 => ⟨S64x64x1024, .f32⟩
  | 47 => ⟨S64x64x1024, .f32⟩
  | 48 => ⟨S64x64x1024, .f32⟩
  | 49 => ⟨S64x64x1024, .f32⟩
  | 50 => ⟨S1x1024, .f32⟩
  | 51 => ⟨S1024, .f32⟩
  | 52 => ⟨S1x1x1024, .f32⟩
  | 53 => ⟨S64x64x1024, .f32⟩
  | 54 => ⟨S64x64x1024, .f32⟩
  | 55 => ⟨S64x64x1024, .f32⟩
  | 56 => ⟨S64x64x1024, .f32⟩
  | 57 => ⟨S1x1024, .f32⟩
  | 58 => ⟨S1024, .f32⟩
  | 59 => ⟨S1x1x1024, .f32⟩
  | 60 => ⟨S64x64x1024, .f32⟩
  | 61 => ⟨S64x64x1024, .f32⟩
  | 62 => ⟨S64x64x1024, .f32⟩
  | 63 => ⟨S64x64x1024, .f32⟩
  | 64 => ⟨S1x1024, .f32⟩
  | 65 => ⟨S1024, .f32⟩
  | 66 => ⟨S1x1x1024, .f32⟩
  | 67 => ⟨S64x64x1024, .f32⟩
  | 68 => ⟨S64x64x1024, .f32⟩
  | 69 => ⟨S64x64x1024, .f32⟩
  | 70 => ⟨S64x64x1024, .f32⟩
  | 71 => ⟨S1x1024, .f32⟩
  | 72 => ⟨S1024, .f32⟩
  | 73 => ⟨S1x1x1024, .f32⟩
  | 74 => ⟨S64x64x1024, .f32⟩
  | 75 => ⟨S64x64x1024, .f32⟩
  | 76 => ⟨S64x64x1024, .f32⟩
  | 77 => ⟨S64x64x1024, .f32⟩
  | 78 => ⟨S1x1024, .f32⟩
  | 79 => ⟨S1024, .f32⟩
  | 80 => ⟨S1x1x1024, .f32⟩
  | 81 => ⟨S64x64x1024, .f32⟩
  | 82 => ⟨S64x64x1024, .f32⟩
  | 83 => ⟨S64x64x1024, .f32⟩
  | 84 => ⟨S64x64x1024, .f32⟩
  | 85 => ⟨S1x1024, .f32⟩
  | 86 => ⟨S1024, .f32⟩
  | 87 => ⟨S1x1x1024, .f32⟩
  | 88 => ⟨S64x64x1024, .f32⟩
  | 89 => ⟨S64x64x1024, .f32⟩
  | 90 => ⟨S64x64x1024, .f32⟩
  | 91 => ⟨S64x64x1024, .f32⟩
  | 92 => ⟨S1x1024, .f32⟩
  | 93 => ⟨S1024, .f32⟩
  | 94 => ⟨S1x1x1024, .f32⟩
  | 95 => ⟨S64x64x1024, .f32⟩
  | 96 => ⟨S64x64x1024, .f32⟩
  | 97 => ⟨S64x64x1024, .f32⟩
  | 98 => ⟨S64x64x1024, .f32⟩
  | 99 => ⟨S1x1024, .f32⟩
  | 100 => ⟨S1024, .f32⟩
  | 101 => ⟨S1x1x1024, .f32⟩
  | 102 => ⟨S64x64x1024, .f32⟩
  | 103 => ⟨S64x64x1024, .f32⟩
  | 104 => ⟨S64x64x1024, .f32⟩
  | 105 => ⟨S64x64x1024, .f32⟩
  | 106 => ⟨S1x1024, .f32⟩
  | 107 => ⟨S1024, .f32⟩
  | 108 => ⟨S1x1x1024, .f32⟩
  | 109 => ⟨S64x64x1024, .f32⟩
  | 110 => ⟨S64x64x1024, .f32⟩
  | 111 => ⟨S64x64x1024, .f32⟩
  | 112 => ⟨S64x64x1024, .f32⟩
  | 113 => ⟨S1x1024, .f32⟩
  | 114 => ⟨S1024, .f32⟩
  | 115 => ⟨S1x1x1024, .f32⟩
  | 116 => ⟨S64x64x1024, .f32⟩
  | 117 => ⟨S64x64x1024, .f32⟩
  | 118 => ⟨S64x64x1024, .f32⟩
  | 119 => ⟨S64x64x1024, .f32⟩
  | 120 => ⟨S64x64x1024, .f32⟩
  | 121 => ⟨S_, .f32⟩
  | 122 => ⟨S1024, .f32⟩
  | 123 => ⟨S1x1x1024, .f32⟩
  | 124 => ⟨S64x64x1024, .f32⟩
  | 125 => ⟨S64x64x1024, .f32⟩
  | 126 => ⟨S_, .f32⟩
  | 127 => ⟨S1024, .f32⟩
  | _ => ⟨S4352x12352, .f32⟩

abbrev hbmTy0_2 (i : Nat) : BufTy := match i % 128 with
  | 0 => ⟨S1x1024, .f32⟩
  | 1 => ⟨S_, .f32⟩
  | 2 => ⟨S31x1024, .f32⟩
  | 3 => ⟨S_, .f32⟩
  | 4 => ⟨S64x94x1024, .f32⟩
  | 5 => ⟨S64x64x1024, .f32⟩
  | 6 => ⟨S_, .f32⟩
  | 7 => ⟨S1024, .f32⟩
  | 8 => ⟨S1x1x1024, .f32⟩
  | 9 => ⟨S64x64x1024, .f32⟩
  | 10 => ⟨S64x64x1024, .f32⟩
  | 11 => ⟨S_, .f32⟩
  | 12 => ⟨S1024, .f32⟩
  | 13 => ⟨S1x1024, .f32⟩
  | 14 => ⟨S_, .f32⟩
  | 15 => ⟨S31x1024, .f32⟩
  | 16 => ⟨S31x1024, .f32⟩
  | 17 => ⟨S_, .f32⟩
  | 18 => ⟨S64x94x1024, .f32⟩
  | 19 => ⟨S64x94x1024, .f32⟩
  | 20 => ⟨S64x64x1024, .f32⟩
  | 21 => ⟨S_, .f32⟩
  | 22 => ⟨S1024, .f32⟩
  | 23 => ⟨S1x1x1024, .f32⟩
  | 24 => ⟨S64x64x1024, .f32⟩
  | 25 => ⟨S64x64x1024, .f32⟩
  | 26 => ⟨S_, .f32⟩
  | 27 => ⟨S1024, .f32⟩
  | 28 => ⟨S1x1024, .f32⟩
  | 29 => ⟨S_, .f32⟩
  | 30 => ⟨S31x1024, .f32⟩
  | 31 => ⟨S31x1024, .f32⟩
  | 32 => ⟨S_, .f32⟩
  | 33 => ⟨S64x94x1024, .f32⟩
  | 34 => ⟨S64x94x1024, .f32⟩
  | 35 => ⟨S64x64x1024, .f32⟩
  | 36 => ⟨S_, .f32⟩
  | 37 => ⟨S1024, .f32⟩
  | 38 => ⟨S1x1x1024, .f32⟩
  | 39 => ⟨S64x64x1024, .f32⟩
  | 40 => ⟨S64x64x1024, .f32⟩
  | 41 => ⟨S_, .f32⟩
  | 42 => ⟨S1024, .f32⟩
  | 43 => ⟨S1x1024, .f32⟩
  | 44 => ⟨S_, .f32⟩
  | 45 => ⟨S31x1024, .f32⟩
  | 46 => ⟨S31x1024, .f32⟩
  | 47 => ⟨S_, .f32⟩
  | 48 => ⟨S64x94x1024, .f32⟩
  | 49 => ⟨S64x94x1024, .f32⟩
  | 50 => ⟨S64x64x1024, .f32⟩
  | 51 => ⟨S_, .f32⟩
  | 52 => ⟨S1024, .f32⟩
  | 53 => ⟨S1x1x1024, .f32⟩
  | 54 => ⟨S64x64x1024, .f32⟩
  | 55 => ⟨S64x64x1024, .f32⟩
  | 56 => ⟨S_, .f32⟩
  | 57 => ⟨S1024, .f32⟩
  | 58 => ⟨S1x1024, .f32⟩
  | 59 => ⟨S_, .f32⟩
  | 60 => ⟨S31x1024, .f32⟩
  | 61 => ⟨S31x1024, .f32⟩
  | 62 => ⟨S_, .f32⟩
  | 63 => ⟨S64x94x1024, .f32⟩
  | 64 => ⟨S64x94x1024, .f32⟩
  | 65 => ⟨S64x64x1024, .f32⟩
  | 66 => ⟨S_, .f32⟩
  | 67 => ⟨S1024, .f32⟩
  | 68 => ⟨S1x1x1024, .f32⟩
  | 69 => ⟨S64x64x1024, .f32⟩
  | 70 => ⟨S64x64x1024, .f32⟩
  | 71 => ⟨S_, .f32⟩
  | 72 => ⟨S1024, .f32⟩
  | 73 => ⟨S1x1024, .f32⟩
  | 74 => ⟨S_, .f32⟩
  | 75 => ⟨S31x1024, .f32⟩
  | 76 => ⟨S31x1024, .f32⟩
  | 77 => ⟨S_, .f32⟩
  | 78 => ⟨S64x94x1024, .f32⟩
  | 79 => ⟨S64x94x1024, .f32⟩
  | 80 => ⟨S64x64x1024, .f32⟩
  | 81 => ⟨S_, .f32⟩
  | 82 => ⟨S1024, .f32⟩
  | 83 => ⟨S1x1x1024, .f32⟩
  | 84 => ⟨S64x64x1024, .f32⟩
  | 85 => ⟨S64x64x1024, .f32⟩
  | 86 => ⟨S_, .f32⟩
  | 87 => ⟨S1024, .f32⟩
  | 88 => ⟨S1x1024, .f32⟩
  | 89 => ⟨S_, .f32⟩
  | 90 => ⟨S31x1024, .f32⟩
  | 91 => ⟨S31x1024, .f32⟩
  | 92 => ⟨S_, .f32⟩
  | 93 => ⟨S64x94x1024, .f32⟩
  | 94 => ⟨S64x94x1024, .f32⟩
  | 95 => ⟨S64x64x1024, .f32⟩
  | 96 => ⟨S_, .f32⟩
  | 97 => ⟨S1024, .f32⟩
  | 98 => ⟨S1x1x1024, .f32⟩
  | 99 => ⟨S64x64x1024, .f32⟩
  | 100 => ⟨S64x64x1024, .f32⟩
  | 101 => ⟨S_, .f32⟩
  | 102 => ⟨S1024, .f32⟩
  | 103 => ⟨S1x1024, .f32⟩
  | 104 => ⟨S_, .f32⟩
  | 105 => ⟨S31x1024, .f32⟩
  | 106 => ⟨S31x1024, .f32⟩
  | 107 => ⟨S_, .f32⟩
  | 108 => ⟨S64x94x1024, .f32⟩
  | 109 => ⟨S64x94x1024, .f32⟩
  | 110 => ⟨S64x64x1024, .f32⟩
  | 111 => ⟨S_, .f32⟩
  | 112 => ⟨S1024, .f32⟩
  | 113 => ⟨S1x1x1024, .f32⟩
  | 114 => ⟨S64x64x1024, .f32⟩
  | 115 => ⟨S64x64x1024, .f32⟩
  | 116 => ⟨S_, .f32⟩
  | 117 => ⟨S1024, .f32⟩
  | 118 => ⟨S1x1024, .f32⟩
  | 119 => ⟨S_, .f32⟩
  | 120 => ⟨S31x1024, .f32⟩
  | 121 => ⟨S31x1024, .f32⟩
  | 122 => ⟨S_, .f32⟩
  | 123 => ⟨S64x94x1024, .f32⟩
  | 124 => ⟨S64x94x1024, .f32⟩
  | 125 => ⟨S64x64x1024, .f32⟩
  | 126 => ⟨S_, .f32⟩
  | 127 => ⟨S1024, .f32⟩
  | _ => ⟨S4352x12352, .f32⟩

abbrev hbmTy0_3 (i : Nat) : BufTy := match i % 128 with
  | 0 => ⟨S1x1x1024, .f32⟩
  | 1 => ⟨S64x64x1024, .f32⟩
  | 2 => ⟨S64x64x1024, .f32⟩
  | 3 => ⟨S_, .f32⟩
  | 4 => ⟨S1024, .f32⟩
  | 5 => ⟨S1x1024, .f32⟩
  | 6 => ⟨S_, .f32⟩
  | 7 => ⟨S31x1024, .f32⟩
  | 8 => ⟨S31x1024, .f32⟩
  | 9 => ⟨S_, .f32⟩
  | 10 => ⟨S64x94x1024, .f32⟩
  | 11 => ⟨S64x94x1024, .f32⟩
  | 12 => ⟨S64x64x1024, .f32⟩
  | 13 => ⟨S_, .f32⟩
  | 14 => ⟨S1024, .f32⟩
  | 15 => ⟨S1x1x1024, .f32⟩
  | 16 => ⟨S64x64x1024, .f32⟩
  | 17 => ⟨S64x64x1024, .f32⟩
  | 18 => ⟨S_, .f32⟩
  | 19 => ⟨S1024, .f32⟩
  | 20 => ⟨S1x1024, .f32⟩
  | 21 => ⟨S_, .f32⟩
  | 22 => ⟨S31x1024, .f32⟩
  | 23 => ⟨S31x1024, .f32⟩
  | 24 => ⟨S_, .f32⟩
  | 25 => ⟨S64x94x1024, .f32⟩
  | 26 => ⟨S64x94x1024, .f32⟩
  | 27 => ⟨S64x64x1024, .f32⟩
  | 28 => ⟨S_, .f32⟩
  | 29 => ⟨S1024, .f32⟩
  | 30 => ⟨S1x1x1024, .f32⟩
  | 31 => ⟨S64x64x1024, .f32⟩
  | 32 => ⟨S64x64x1024, .f32⟩
  | 33 => ⟨S_, .f32⟩
  | 34 => ⟨S1024, .f32⟩
  | 35 => ⟨S1x1024, .f32⟩
  | 36 => ⟨S_, .f32⟩
  | 37 => ⟨S31x1024, .f32⟩
  | 38 => ⟨S31x1024, .f32⟩
  | 39 => ⟨S_, .f32⟩
  | 40 => ⟨S64x94x1024, .f32⟩
  | 41 => ⟨S64x94x1024, .f32⟩
  | 42 => ⟨S64x64x1024, .f32⟩
  | 43 => ⟨S_, .f32⟩
  | 44 => ⟨S1024, .f32⟩
  | 45 => ⟨S1x1x1024, .f32⟩
  | 46 => ⟨S64x64x1024, .f32⟩
  | 47 => ⟨S64x64x1024, .f32⟩
  | 48 => ⟨S_, .f32⟩
  | 49 => ⟨S1024, .f32⟩
  | 50 => ⟨S1x1024, .f32⟩
  | 51 => ⟨S_, .f32⟩
  | 52 => ⟨S31x1024, .f32⟩
  | 53 => ⟨S31x1024, .f32⟩
  | 54 => ⟨S_, .f32⟩
  | 55 => ⟨S64x94x1024, .f32⟩
  | 56 => ⟨S64x94x1024, .f32⟩
  | 57 => ⟨S64x64x1024, .f32⟩
  | 58 => ⟨S_, .f32⟩
  | 59 => ⟨S1024, .f32⟩
  | 60 => ⟨S1x1x1024, .f32⟩
  | 61 => ⟨S64x64x1024, .f32⟩
  | 62 => ⟨S64x64x1024, .f32⟩
  | 63 => ⟨S_, .f32⟩
  | 64 => ⟨S1024, .f32⟩
  | 65 => ⟨S1x1024, .f32⟩
  | 66 => ⟨S_, .f32⟩
  | 67 => ⟨S31x1024, .f32⟩
  | 68 => ⟨S31x1024, .f32⟩
  | 69 => ⟨S_, .f32⟩
  | 70 => ⟨S64x94x1024, .f32⟩
  | 71 => ⟨S64x94x1024, .f32⟩
  | 72 => ⟨S64x64x1024, .f32⟩
  | 73 => ⟨S_, .f32⟩
  | 74 => ⟨S1024, .f32⟩
  | 75 => ⟨S1x1x1024, .f32⟩
  | 76 => ⟨S64x64x1024, .f32⟩
  | 77 => ⟨S64x64x1024, .f32⟩
  | 78 => ⟨S_, .f32⟩
  | 79 => ⟨S1024, .f32⟩
  | 80 => ⟨S1x1024, .f32⟩
  | 81 => ⟨S_, .f32⟩
  | 82 => ⟨S31x1024, .f32⟩
  | 83 => ⟨S31x1024, .f32⟩
  | 84 => ⟨S_, .f32⟩
  | 85 => ⟨S64x94x1024, .f32⟩
  | 86 => ⟨S64x94x1024, .f32⟩
  | 87 => ⟨S64x64x1024, .f32⟩
  | 88 => ⟨S_, .f32⟩
  | 89 => ⟨S1024, .f32⟩
  | 90 => ⟨S1x1x1024, .f32⟩
  | 91 => ⟨S64x64x1024, .f32⟩
  | 92 => ⟨S64x64x1024, .f32⟩
  | 93 => ⟨S_, .f32⟩
  | 94 => ⟨S1024, .f32⟩
  | 95 => ⟨S1x1024, .f32⟩
  | 96 => ⟨S_, .f32⟩
  | 97 => ⟨S31x1024, .f32⟩
  | 98 => ⟨S31x1024, .f32⟩
  | 99 => ⟨S_, .f32⟩
  | 100 => ⟨S64x94x1024, .f32⟩
  | 101 => ⟨S64x94x1024, .f32⟩
  | 102 => ⟨S64x64x1024, .f32⟩
  | 103 => ⟨S_, .f32⟩
  | 104 => ⟨S1024, .f32⟩
  | 105 => ⟨S1x1x1024, .f32⟩
  | 106 => ⟨S64x64x1024, .f32⟩
  | 107 => ⟨S64x64x1024, .f32⟩
  | 108 => ⟨S_, .f32⟩
  | 109 => ⟨S1024, .f32⟩
  | 110 => ⟨S1x1024, .f32⟩
  | 111 => ⟨S_, .f32⟩
  | 112 => ⟨S31x1024, .f32⟩
  | 113 => ⟨S31x1024, .f32⟩
  | 114 => ⟨S_, .f32⟩
  | 115 => ⟨S64x94x1024, .f32⟩
  | 116 => ⟨S64x94x1024, .f32⟩
  | 117 => ⟨S64x64x1024, .f32⟩
  | 118 => ⟨S_, .f32⟩
  | 119 => ⟨S1024, .f32⟩
  | 120 => ⟨S1x1x1024, .f32⟩
  | 121 => ⟨S64x64x1024, .f32⟩
  | 122 => ⟨S64x64x1024, .f32⟩
  | 123 => ⟨S_, .f32⟩
  | 124 => ⟨S1024, .f32⟩
  | 125 => ⟨S1x1024, .f32⟩
  | 126 => ⟨S_, .f32⟩
  | 127 => ⟨S31x1024, .f32⟩
  | _ => ⟨S4352x12352, .f32⟩

abbrev hbmTy0_4 (i : Nat) : BufTy := match i % 128 with
  | 0 => ⟨S31x1024, .f32⟩
  | 1 => ⟨S_, .f32⟩
  | 2 => ⟨S64x94x1024, .f32⟩
  | 3 => ⟨S64x94x1024, .f32⟩
  | 4 => ⟨S64x64x1024, .f32⟩
  | 5 => ⟨S_, .f32⟩
  | 6 => ⟨S1024, .f32⟩
  | 7 => ⟨S1x1x1024, .f32⟩
  | 8 => ⟨S64x64x1024, .f32⟩
  | 9 => ⟨S64x64x1024, .f32⟩
  | 10 => ⟨S_, .f32⟩
  | 11 => ⟨S1024, .f32⟩
  | 12 => ⟨S1x1024, .f32⟩
  | 13 => ⟨S_, .f32⟩
  | 14 => ⟨S31x1024, .f32⟩
  | 15 => ⟨S31x1024, .f32⟩
  | 16 => ⟨S_, .f32⟩
  | 17 => ⟨S64x94x1024, .f32⟩
  | 18 => ⟨S64x94x1024, .f32⟩
  | 19 => ⟨S64x64x1024, .f32⟩
  | 20 => ⟨S_, .f32⟩
  | 21 => ⟨S1024, .f32⟩
  | 22 => ⟨S1x1x1024, .f32⟩
  | 23 => ⟨S64x64x1024, .f32⟩
  | 24 => ⟨S64x64x1024, .f32⟩
  | 25 => ⟨S_, .f32⟩
  | 26 => ⟨S1024, .f32⟩
  | 27 => ⟨S1x1024, .f32⟩
  | 28 => ⟨S_, .f32⟩
  | 29 => ⟨S31x1024, .f32⟩
  | 30 => ⟨S31x1024, .f32⟩
  | 31 => ⟨S_, .f32⟩
  | 32 => ⟨S64x94x1024, .f32⟩
  | 33 => ⟨S64x94x1024, .f32⟩
  | 34 => ⟨S64x64x1024, .f32⟩
  | 35 => ⟨S_, .f32⟩
  | 36 => ⟨S1024, .f32⟩
  | 37 => ⟨S1x1x1024, .f32⟩
  | 38 => ⟨S64x64x1024, .f32⟩
  | 39 => ⟨S64x64x1024, .f32⟩
  | 40 => ⟨S_, .f32⟩
  | 41 => ⟨S1024, .f32⟩
  | 42 => ⟨S1x1024, .f32⟩
  | 43 => ⟨S_, .f32⟩
  | 44 => ⟨S31x1024, .f32⟩
  | 45 => ⟨S31x1024, .f32⟩
  | 46 => ⟨S_, .f32⟩
  | 47 => ⟨S64x94x1024, .f32⟩
  | 48 => ⟨S64x94x1024, .f32⟩
  | 49 => ⟨S64x64x1024, .f32⟩
  | 50 => ⟨S_, .f32⟩
  | 51 => ⟨S1024, .f32⟩
  | 52 => ⟨S1x1x1024, .f32⟩
  | 53 => ⟨S64x64x1024, .f32⟩
  | 54 => ⟨S64x64x1024, .f32⟩
  | 55 => ⟨S_, .f32⟩
  | 56 => ⟨S1024, .f32⟩
  | 57 => ⟨S1x1024, .f32⟩
  | 58 => ⟨S_, .f32⟩
  | 59 => ⟨S31x1024, .f32⟩
  | 60 => ⟨S31x1024, .f32⟩
  | 61 => ⟨S_, .f32⟩
  | 62 => ⟨S64x94x1024, .f32⟩
  | 63 => ⟨S64x94x1024, .f32⟩
  | 64 => ⟨S64x64x1024, .f32⟩
  | 65 => ⟨S_, .f32⟩
  | 66 => ⟨S1024, .f32⟩
  | 67 => ⟨S1x1x1024, .f32⟩
  | 68 => ⟨S64x64x1024, .f32⟩
  | 69 => ⟨S64x64x1024, .f32⟩
  | 70 => ⟨S_, .f32⟩
  | 71 => ⟨S1024, .f32⟩
  | 72 => ⟨S1x1024, .f32⟩
  | 73 => ⟨S_, .f32⟩
  | 74 => ⟨S31x1024, .f32⟩
  | 75 => ⟨S31x1024, .f32⟩
  | 76 => ⟨S_, .f32⟩
  | 77 => ⟨S64x94x1024, .f32⟩
  | 78 => ⟨S64x94x1024, .f32⟩
  | 79 => ⟨S64x64x1024, .f32⟩
  | 80 => ⟨S_, .f32⟩
  | 81 => ⟨S1024, .f32⟩
  | 82 => ⟨S1x1x1024, .f32⟩
  | 83 => ⟨S64x64x1024, .f32⟩
  | 84 => ⟨S64x64x1024, .f32⟩
  | 85 => ⟨S_, .f32⟩
  | 86 => ⟨S1024, .f32⟩
  | 87 => ⟨S1x1024, .f32⟩
  | 88 => ⟨S_, .f32⟩
  | 89 => ⟨S31x1024, .f32⟩
  | 90 => ⟨S31x1024, .f32⟩
  | 91 => ⟨S_, .f32⟩
  | 92 => ⟨S64x94x1024, .f32⟩
  | 93 => ⟨S64x94x1024, .f32⟩
  | 94 => ⟨S64x64x1024, .f32⟩
  | 95 => ⟨S_, .f32⟩
  | 96 => ⟨S1024, .f32⟩
  | 97 => ⟨S1x1x1024, .f32⟩
  | 98 => ⟨S64x64x1024, .f32⟩
  | 99 => ⟨S64x64x1024, .f32⟩
  | 100 => ⟨S_, .f32⟩
  | 101 => ⟨S1024, .f32⟩
  | 102 => ⟨S1x1024, .f32⟩
  | 103 => ⟨S_, .f32⟩
  | 104 => ⟨S31x1024, .f32⟩
  | 105 => ⟨S31x1024, .f32⟩
  | 106 => ⟨S_, .f32⟩
  | 107 => ⟨S64x94x1024, .f32⟩
  | 108 => ⟨S64x94x1024, .f32⟩
  | 109 => ⟨S64x64x1024, .f32⟩
  | 110 => ⟨S_, .f32⟩
  | 111 => ⟨S1024, .f32⟩
  | 112 => ⟨S1x1x1024, .f32⟩
  | 113 => ⟨S64x64x1024, .f32⟩
  | 114 => ⟨S64x64x1024, .f32⟩
  | 115 => ⟨S_, .f32⟩
  | 116 => ⟨S1024, .f32⟩
  | 117 => ⟨S1x1024, .f32⟩
  | 118 => ⟨S_, .f32⟩
  | 119 => ⟨S31x1024, .f32⟩
  | 120 => ⟨S31x1024, .f32⟩
  | 121 => ⟨S_, .f32⟩
  | 122 => ⟨S64x94x1024, .f32⟩
  | 123 => ⟨S64x94x1024, .f32⟩
  | 124 => ⟨S64x64x1024, .f32⟩
  | 125 => ⟨S_, .f32⟩
  | 126 => ⟨S1024, .f32⟩
  | 127 => ⟨S1x1x1024, .f32⟩
  | _ => ⟨S4352x12352, .f32⟩

abbrev hbmTy0_5 (i : Nat) : BufTy := match i % 128 with
  | 0 => ⟨S64x64x1024, .f32⟩
  | 1 => ⟨S64x64x1024, .f32⟩
  | 2 => ⟨S_, .f32⟩
  | 3 => ⟨S1024, .f32⟩
  | 4 => ⟨S1x1024, .f32⟩
  | 5 => ⟨S_, .f32⟩
  | 6 => ⟨S31x1024, .f32⟩
  | 7 => ⟨S31x1024, .f32⟩
  | 8 => ⟨S_, .f32⟩
  | 9 => ⟨S64x94x1024, .f32⟩
  | 10 => ⟨S64x94x1024, .f32⟩
  | 11 => ⟨S64x64x1024, .f32⟩
  | 12 => ⟨S_, .f32⟩
  | 13 => ⟨S1024, .f32⟩
  | 14 => ⟨S1x1x1024, .f32⟩
  | 15 => ⟨S64x64x1024, .f32⟩
  | 16 => ⟨S64x64x1024, .f32⟩
  | 17 => ⟨S_, .f32⟩
  | 18 => ⟨S1024, .f32⟩
  | 19 => ⟨S1x1024, .f32⟩
  | 20 => ⟨S_, .f32⟩
  | 21 => ⟨S31x1024, .f32⟩
  | 22 => ⟨S31x1024, .f32⟩
  | 23 => ⟨S_, .f32⟩
  | 24 => ⟨S64x94x1024, .f32⟩
  | 25 => ⟨S64x94x1024, .f32⟩
  | 26 => ⟨S64x64x1024, .f32⟩
  | 27 => ⟨S_, .f32⟩
  | 28 => ⟨S1024, .f32⟩
  | 29 => ⟨S1x1x1024, .f32⟩
  | 30 => ⟨S64x64x1024, .f32⟩
  | 31 => ⟨S64x64x1024, .f32⟩
  | 32 => ⟨S_, .f32⟩
  | 33 => ⟨S1024, .f32⟩
  | 34 => ⟨S1x1024, .f32⟩
  | 35 => ⟨S_, .f32⟩
  | 36 => ⟨S31x1024, .f32⟩
  | 37 => ⟨S31x1024, .f32⟩
  | 38 => ⟨S_, .f32⟩
  | 39 => ⟨S64x94x1024, .f32⟩
  | 40 => ⟨S64x94x1024, .f32⟩
  | 41 => ⟨S64x64x1024, .f32⟩
  | 42 => ⟨S_, .f32⟩
  | 43 => ⟨S1024, .f32⟩
  | 44 => ⟨S1x1x1024, .f32⟩
  | 45 => ⟨S64x64x1024, .f32⟩
  | 46 => ⟨S64x64x1024, .f32⟩
  | 47 => ⟨S_, .f32⟩
  | 48 => ⟨S1024, .f32⟩
  | 49 => ⟨S1x1024, .f32⟩
  | 50 => ⟨S_, .f32⟩
  | 51 => ⟨S31x1024, .f32⟩
  | 52 => ⟨S31x1024, .f32⟩
  | 53 => ⟨S_, .f32⟩
  | 54 => ⟨S64x94x1024, .f32⟩
  | 55 => ⟨S64x94x1024, .f32⟩
  | 56 => ⟨S64x64x1024, .f32⟩
  | 57 => ⟨S_, .f32⟩
  | 58 => ⟨S1024, .f32⟩
  | 59 => ⟨S1x1x1024, .f32⟩
  | 60 => ⟨S64x64x1024, .f32⟩
  | 61 => ⟨S64x64x1024, .f32⟩
  | 62 => ⟨S_, .f32⟩
  | 63 => ⟨S1024, .f32⟩
  | 64 => ⟨S1x1024, .f32⟩
  | 65 => ⟨S_, .f32⟩
  | 66 => ⟨S31x1024, .f32⟩
  | 67 => ⟨S31x1024, .f32⟩
  | 68 => ⟨S_, .f32⟩
  | 69 => ⟨S64x94x1024, .f32⟩
  | 70 => ⟨S64x94x1024, .f32⟩
  | 71 => ⟨S64x15x1024, .f32⟩
  | 72 => ⟨S64x64x1024, .f32⟩
  | 73 => ⟨S64x15x1024, .f32⟩
  | 74 => ⟨S64x64x1024, .f32⟩
  | 75 => ⟨S64x64x1024, .f32⟩
  | 76 => ⟨S64x64x1024, .f32⟩
  | 77 => ⟨S64x64x1024, .bf16⟩
  | 78 => ⟨S64x64x1024, .bf16⟩
  | _ => ⟨S4352x12352, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4352x12352, .f32⟩

abbrev bufTy : (tb : Table) → Fin (tcTables nBuf tb) → BufTy
  | .hbm, ⟨i, _⟩ => hbmTy i
  | _, _ => ⟨S4352x12352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_cst_6 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_cst_7 : Ref sig .tc := ⟨.hbm, 254, rfl⟩
abbrev main_v243 : Ref sig .tc := ⟨.hbm, 255, rfl⟩
abbrev main_v244 : Ref sig .tc := ⟨.hbm, 256, rfl⟩
abbrev main_cst_8 : Ref sig .tc := ⟨.hbm, 257, rfl⟩
abbrev main_v245 : Ref sig .tc := ⟨.hbm, 258, rfl⟩
abbrev main_cst_9 : Ref sig .tc := ⟨.hbm, 259, rfl⟩
abbrev main_v246 : Ref sig .tc := ⟨.hbm, 260, rfl⟩
abbrev main_v247 : Ref sig .tc := ⟨.hbm, 261, rfl⟩
abbrev main_cst_10 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_cst_11 : Ref sig .tc := ⟨.hbm, 267, rfl⟩
abbrev main_v252 : Ref sig .tc := ⟨.hbm, 268, rfl⟩
abbrev main_v253 : Ref sig .tc := ⟨.hbm, 269, rfl⟩
abbrev main_cst_12 : Ref sig .tc := ⟨.hbm, 270, rfl⟩
abbrev main_v254 : Ref sig .tc := ⟨.hbm, 271, rfl⟩
abbrev main_v255 : Ref sig .tc := ⟨.hbm, 272, rfl⟩
abbrev main_cst_13 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_cst_14 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_cst_15 : Ref sig .tc := ⟨.hbm, 282, rfl⟩
abbrev main_v263 : Ref sig .tc := ⟨.hbm, 283, rfl⟩
abbrev main_v264 : Ref sig .tc := ⟨.hbm, 284, rfl⟩
abbrev main_cst_16 : Ref sig .tc := ⟨.hbm, 285, rfl⟩
abbrev main_v265 : Ref sig .tc := ⟨.hbm, 286, rfl⟩
abbrev main_v266 : Ref sig .tc := ⟨.hbm, 287, rfl⟩
abbrev main_cst_17 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_cst_18 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_cst_19 : Ref sig .tc := ⟨.hbm, 297, rfl⟩
abbrev main_v274 : Ref sig .tc := ⟨.hbm, 298, rfl⟩
abbrev main_v275 : Ref sig .tc := ⟨.hbm, 299, rfl⟩
abbrev main_cst_20 : Ref sig .tc := ⟨.hbm, 300, rfl⟩
abbrev main_v276 : Ref sig .tc := ⟨.hbm, 301, rfl⟩
abbrev main_v277 : Ref sig .tc := ⟨.hbm, 302, rfl⟩
abbrev main_cst_21 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_cst_22 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_cst_23 : Ref sig .tc := ⟨.hbm, 312, rfl⟩
abbrev main_v285 : Ref sig .tc := ⟨.hbm, 313, rfl⟩
abbrev main_v286 : Ref sig .tc := ⟨.hbm, 314, rfl⟩
abbrev main_cst_24 : Ref sig .tc := ⟨.hbm, 315, rfl⟩
abbrev main_v287 : Ref sig .tc := ⟨.hbm, 316, rfl⟩
abbrev main_v288 : Ref sig .tc := ⟨.hbm, 317, rfl⟩
abbrev main_cst_25 : Ref sig .tc := ⟨.hbm, 318, rfl⟩
abbrev main_v289 : Ref sig .tc := ⟨.hbm, 319, rfl⟩
abbrev main_v290 : Ref sig .tc := ⟨.hbm, 320, rfl⟩
abbrev main_v291 : Ref sig .tc := ⟨.hbm, 321, rfl⟩
abbrev main_cst_26 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_cst_27 : Ref sig .tc := ⟨.hbm, 327, rfl⟩
abbrev main_v296 : Ref sig .tc := ⟨.hbm, 328, rfl⟩
abbrev main_v297 : Ref sig .tc := ⟨.hbm, 329, rfl⟩
abbrev main_cst_28 : Ref sig .tc := ⟨.hbm, 330, rfl⟩
abbrev main_v298 : Ref sig .tc := ⟨.hbm, 331, rfl⟩
abbrev main_v299 : Ref sig .tc := ⟨.hbm, 332, rfl⟩
abbrev main_cst_29 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_cst_30 : Ref sig .tc := ⟨.hbm, 337, rfl⟩
abbrev main_v303 : Ref sig .tc := ⟨.hbm, 338, rfl⟩
abbrev main_v304 : Ref sig .tc := ⟨.hbm, 339, rfl⟩
abbrev main_v305 : Ref sig .tc := ⟨.hbm, 340, rfl⟩
abbrev main_v306 : Ref sig .tc := ⟨.hbm, 341, rfl⟩
abbrev main_cst_31 : Ref sig .tc := ⟨.hbm, 342, rfl⟩
abbrev main_v307 : Ref sig .tc := ⟨.hbm, 343, rfl⟩
abbrev main_v308 : Ref sig .tc := ⟨.hbm, 344, rfl⟩
abbrev main_cst_32 : Ref sig .tc := ⟨.hbm, 345, rfl⟩
abbrev main_v309 : Ref sig .tc := ⟨.hbm, 346, rfl⟩
abbrev main_v310 : Ref sig .tc := ⟨.hbm, 347, rfl⟩
abbrev main_cst_33 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_cst_34 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_cst_35 : Ref sig .tc := ⟨.hbm, 357, rfl⟩
abbrev main_v318 : Ref sig .tc := ⟨.hbm, 358, rfl⟩
abbrev main_v319 : Ref sig .tc := ⟨.hbm, 359, rfl⟩
abbrev main_cst_36 : Ref sig .tc := ⟨.hbm, 360, rfl⟩
abbrev main_v320 : Ref sig .tc := ⟨.hbm, 361, rfl⟩
abbrev main_v321 : Ref sig .tc := ⟨.hbm, 362, rfl⟩
abbrev main_cst_37 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_cst_38 : Ref sig .tc := ⟨.hbm, 367, rfl⟩
abbrev main_v325 : Ref sig .tc := ⟨.hbm, 368, rfl⟩
abbrev main_v326 : Ref sig .tc := ⟨.hbm, 369, rfl⟩
abbrev main_v327 : Ref sig .tc := ⟨.hbm, 370, rfl⟩
abbrev main_v328 : Ref sig .tc := ⟨.hbm, 371, rfl⟩
abbrev main_cst_39 : Ref sig .tc := ⟨.hbm, 372, rfl⟩
abbrev main_v329 : Ref sig .tc := ⟨.hbm, 373, rfl⟩
abbrev main_v330 : Ref sig .tc := ⟨.hbm, 374, rfl⟩
abbrev main_cst_40 : Ref sig .tc := ⟨.hbm, 375, rfl⟩
abbrev main_v331 : Ref sig .tc := ⟨.hbm, 376, rfl⟩
abbrev main_v332 : Ref sig .tc := ⟨.hbm, 377, rfl⟩
abbrev main_cst_41 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_cst_42 : Ref sig .tc := ⟨.hbm, 382, rfl⟩
abbrev main_v336 : Ref sig .tc := ⟨.hbm, 383, rfl⟩
abbrev main_v337 : Ref sig .tc := ⟨.hbm, 384, rfl⟩
abbrev main_v338 : Ref sig .tc := ⟨.hbm, 385, rfl⟩
abbrev main_v339 : Ref sig .tc := ⟨.hbm, 386, rfl⟩
abbrev main_cst_43 : Ref sig .tc := ⟨.hbm, 387, rfl⟩
abbrev main_v340 : Ref sig .tc := ⟨.hbm, 388, rfl⟩
abbrev main_v341 : Ref sig .tc := ⟨.hbm, 389, rfl⟩
abbrev main_cst_44 : Ref sig .tc := ⟨.hbm, 390, rfl⟩
abbrev main_v342 : Ref sig .tc := ⟨.hbm, 391, rfl⟩
abbrev main_v343 : Ref sig .tc := ⟨.hbm, 392, rfl⟩
abbrev main_cst_45 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_cst_46 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_v350 : Ref sig .tc := ⟨.hbm, 401, rfl⟩
abbrev main_cst_47 : Ref sig .tc := ⟨.hbm, 402, rfl⟩
abbrev main_v351 : Ref sig .tc := ⟨.hbm, 403, rfl⟩
abbrev main_v352 : Ref sig .tc := ⟨.hbm, 404, rfl⟩
abbrev main_cst_48 : Ref sig .tc := ⟨.hbm, 405, rfl⟩
abbrev main_v353 : Ref sig .tc := ⟨.hbm, 406, rfl⟩
abbrev main_v354 : Ref sig .tc := ⟨.hbm, 407, rfl⟩
abbrev main_cst_49 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_cst_50 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_cst_51 : Ref sig .tc := ⟨.hbm, 417, rfl⟩
abbrev main_v362 : Ref sig .tc := ⟨.hbm, 418, rfl⟩
abbrev main_v363 : Ref sig .tc := ⟨.hbm, 419, rfl⟩
abbrev main_cst_52 : Ref sig .tc := ⟨.hbm, 420, rfl⟩
abbrev main_v364 : Ref sig .tc := ⟨.hbm, 421, rfl⟩
abbrev main_v365 : Ref sig .tc := ⟨.hbm, 422, rfl⟩
abbrev main_cst_53 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_cst_54 : Ref sig .tc := ⟨.hbm, 427, rfl⟩
abbrev main_v369 : Ref sig .tc := ⟨.hbm, 428, rfl⟩
abbrev main_v370 : Ref sig .tc := ⟨.hbm, 429, rfl⟩
abbrev main_v371 : Ref sig .tc := ⟨.hbm, 430, rfl⟩
abbrev main_v372 : Ref sig .tc := ⟨.hbm, 431, rfl⟩
abbrev main_cst_55 : Ref sig .tc := ⟨.hbm, 432, rfl⟩
abbrev main_v373 : Ref sig .tc := ⟨.hbm, 433, rfl⟩
abbrev main_v374 : Ref sig .tc := ⟨.hbm, 434, rfl⟩
abbrev main_cst_56 : Ref sig .tc := ⟨.hbm, 435, rfl⟩
abbrev main_v375 : Ref sig .tc := ⟨.hbm, 436, rfl⟩
abbrev main_v376 : Ref sig .tc := ⟨.hbm, 437, rfl⟩
abbrev main_cst_57 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_cst_58 : Ref sig .tc := ⟨.hbm, 442, rfl⟩
abbrev main_v380 : Ref sig .tc := ⟨.hbm, 443, rfl⟩
abbrev main_v381 : Ref sig .tc := ⟨.hbm, 444, rfl⟩
abbrev main_v382 : Ref sig .tc := ⟨.hbm, 445, rfl⟩
abbrev main_v383 : Ref sig .tc := ⟨.hbm, 446, rfl⟩
abbrev main_cst_59 : Ref sig .tc := ⟨.hbm, 447, rfl⟩
abbrev main_v384 : Ref sig .tc := ⟨.hbm, 448, rfl⟩
abbrev main_v385 : Ref sig .tc := ⟨.hbm, 449, rfl⟩
abbrev main_cst_60 : Ref sig .tc := ⟨.hbm, 450, rfl⟩
abbrev main_v386 : Ref sig .tc := ⟨.hbm, 451, rfl⟩
abbrev main_v387 : Ref sig .tc := ⟨.hbm, 452, rfl⟩
abbrev main_cst_61 : Ref sig .tc := ⟨.hbm, 453, rfl⟩
abbrev main_v388 : Ref sig .tc := ⟨.hbm, 454, rfl⟩
abbrev main_v389 : Ref sig .tc := ⟨.hbm, 455, rfl⟩
abbrev main_v390 : Ref sig .tc := ⟨.hbm, 456, rfl⟩
abbrev main_cst_62 : Ref sig .tc := ⟨.hbm, 457, rfl⟩
abbrev main_v391 : Ref sig .tc := ⟨.hbm, 458, rfl⟩
abbrev main_v392 : Ref sig .tc := ⟨.hbm, 459, rfl⟩
abbrev main_v393 : Ref sig .tc := ⟨.hbm, 460, rfl⟩
abbrev main_v394 : Ref sig .tc := ⟨.hbm, 461, rfl⟩
abbrev main_cst_63 : Ref sig .tc := ⟨.hbm, 462, rfl⟩
abbrev main_v395 : Ref sig .tc := ⟨.hbm, 463, rfl⟩
abbrev main_v396 : Ref sig .tc := ⟨.hbm, 464, rfl⟩
abbrev main_cst_64 : Ref sig .tc := ⟨.hbm, 465, rfl⟩
abbrev main_v397 : Ref sig .tc := ⟨.hbm, 466, rfl⟩
abbrev main_v398 : Ref sig .tc := ⟨.hbm, 467, rfl⟩
abbrev main_cst_65 : Ref sig .tc := ⟨.hbm, 468, rfl⟩
abbrev main_v399 : Ref sig .tc := ⟨.hbm, 469, rfl⟩
abbrev main_v400 : Ref sig .tc := ⟨.hbm, 470, rfl⟩
abbrev main_v401 : Ref sig .tc := ⟨.hbm, 471, rfl⟩
abbrev main_cst_66 : Ref sig .tc := ⟨.hbm, 472, rfl⟩
abbrev main_v402 : Ref sig .tc := ⟨.hbm, 473, rfl⟩
abbrev main_v403 : Ref sig .tc := ⟨.hbm, 474, rfl⟩
abbrev main_v404 : Ref sig .tc := ⟨.hbm, 475, rfl⟩
abbrev main_v405 : Ref sig .tc := ⟨.hbm, 476, rfl⟩
abbrev main_cst_67 : Ref sig .tc := ⟨.hbm, 477, rfl⟩
abbrev main_v406 : Ref sig .tc := ⟨.hbm, 478, rfl⟩
abbrev main_v407 : Ref sig .tc := ⟨.hbm, 479, rfl⟩
abbrev main_cst_68 : Ref sig .tc := ⟨.hbm, 480, rfl⟩
abbrev main_v408 : Ref sig .tc := ⟨.hbm, 481, rfl⟩
abbrev main_v409 : Ref sig .tc := ⟨.hbm, 482, rfl⟩
abbrev main_cst_69 : Ref sig .tc := ⟨.hbm, 483, rfl⟩
abbrev main_v410 : Ref sig .tc := ⟨.hbm, 484, rfl⟩
abbrev main_v411 : Ref sig .tc := ⟨.hbm, 485, rfl⟩
abbrev main_v412 : Ref sig .tc := ⟨.hbm, 486, rfl⟩
abbrev main_cst_70 : Ref sig .tc := ⟨.hbm, 487, rfl⟩
abbrev main_v413 : Ref sig .tc := ⟨.hbm, 488, rfl⟩
abbrev main_v414 : Ref sig .tc := ⟨.hbm, 489, rfl⟩
abbrev main_v415 : Ref sig .tc := ⟨.hbm, 490, rfl⟩
abbrev main_v416 : Ref sig .tc := ⟨.hbm, 491, rfl⟩
abbrev main_cst_71 : Ref sig .tc := ⟨.hbm, 492, rfl⟩
abbrev main_v417 : Ref sig .tc := ⟨.hbm, 493, rfl⟩
abbrev main_v418 : Ref sig .tc := ⟨.hbm, 494, rfl⟩
abbrev main_cst_72 : Ref sig .tc := ⟨.hbm, 495, rfl⟩
abbrev main_v419 : Ref sig .tc := ⟨.hbm, 496, rfl⟩
abbrev main_v420 : Ref sig .tc := ⟨.hbm, 497, rfl⟩
abbrev main_cst_73 : Ref sig .tc := ⟨.hbm, 498, rfl⟩
abbrev main_v421 : Ref sig .tc := ⟨.hbm, 499, rfl⟩
abbrev main_v422 : Ref sig .tc := ⟨.hbm, 500, rfl⟩
abbrev main_v423 : Ref sig .tc := ⟨.hbm, 501, rfl⟩
abbrev main_cst_74 : Ref sig .tc := ⟨.hbm, 502, rfl⟩
abbrev main_v424 : Ref sig .tc := ⟨.hbm, 503, rfl⟩
abbrev main_v425 : Ref sig .tc := ⟨.hbm, 504, rfl⟩
abbrev main_v426 : Ref sig .tc := ⟨.hbm, 505, rfl⟩
abbrev main_v427 : Ref sig .tc := ⟨.hbm, 506, rfl⟩
abbrev main_cst_75 : Ref sig .tc := ⟨.hbm, 507, rfl⟩
abbrev main_v428 : Ref sig .tc := ⟨.hbm, 508, rfl⟩
abbrev main_v429 : Ref sig .tc := ⟨.hbm, 509, rfl⟩
abbrev main_cst_76 : Ref sig .tc := ⟨.hbm, 510, rfl⟩
abbrev main_v430 : Ref sig .tc := ⟨.hbm, 511, rfl⟩
abbrev main_v431 : Ref sig .tc := ⟨.hbm, 512, rfl⟩
abbrev main_cst_77 : Ref sig .tc := ⟨.hbm, 513, rfl⟩
abbrev main_v432 : Ref sig .tc := ⟨.hbm, 514, rfl⟩
abbrev main_v433 : Ref sig .tc := ⟨.hbm, 515, rfl⟩
abbrev main_v434 : Ref sig .tc := ⟨.hbm, 516, rfl⟩
abbrev main_cst_78 : Ref sig .tc := ⟨.hbm, 517, rfl⟩
abbrev main_v435 : Ref sig .tc := ⟨.hbm, 518, rfl⟩
abbrev main_v436 : Ref sig .tc := ⟨.hbm, 519, rfl⟩
abbrev main_v437 : Ref sig .tc := ⟨.hbm, 520, rfl⟩
abbrev main_v438 : Ref sig .tc := ⟨.hbm, 521, rfl⟩
abbrev main_cst_79 : Ref sig .tc := ⟨.hbm, 522, rfl⟩
abbrev main_v439 : Ref sig .tc := ⟨.hbm, 523, rfl⟩
abbrev main_v440 : Ref sig .tc := ⟨.hbm, 524, rfl⟩
abbrev main_cst_80 : Ref sig .tc := ⟨.hbm, 525, rfl⟩
abbrev main_v441 : Ref sig .tc := ⟨.hbm, 526, rfl⟩
abbrev main_v442 : Ref sig .tc := ⟨.hbm, 527, rfl⟩
abbrev main_cst_81 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_cst_82 : Ref sig .tc := ⟨.hbm, 532, rfl⟩
abbrev main_v446 : Ref sig .tc := ⟨.hbm, 533, rfl⟩
abbrev main_v447 : Ref sig .tc := ⟨.hbm, 534, rfl⟩
abbrev main_v448 : Ref sig .tc := ⟨.hbm, 535, rfl⟩
abbrev main_v449 : Ref sig .tc := ⟨.hbm, 536, rfl⟩
abbrev main_cst_83 : Ref sig .tc := ⟨.hbm, 537, rfl⟩
abbrev main_v450 : Ref sig .tc := ⟨.hbm, 538, rfl⟩
abbrev main_v451 : Ref sig .tc := ⟨.hbm, 539, rfl⟩
abbrev main_cst_84 : Ref sig .tc := ⟨.hbm, 540, rfl⟩
abbrev main_v452 : Ref sig .tc := ⟨.hbm, 541, rfl⟩
abbrev main_v453 : Ref sig .tc := ⟨.hbm, 542, rfl⟩
abbrev main_cst_85 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_cst_86 : Ref sig .tc := ⟨.hbm, 547, rfl⟩
abbrev main_v457 : Ref sig .tc := ⟨.hbm, 548, rfl⟩
abbrev main_v458 : Ref sig .tc := ⟨.hbm, 549, rfl⟩
abbrev main_v459 : Ref sig .tc := ⟨.hbm, 550, rfl⟩
abbrev main_v460 : Ref sig .tc := ⟨.hbm, 551, rfl⟩
abbrev main_cst_87 : Ref sig .tc := ⟨.hbm, 552, rfl⟩
abbrev main_v461 : Ref sig .tc := ⟨.hbm, 553, rfl⟩
abbrev main_v462 : Ref sig .tc := ⟨.hbm, 554, rfl⟩
abbrev main_cst_88 : Ref sig .tc := ⟨.hbm, 555, rfl⟩
abbrev main_v463 : Ref sig .tc := ⟨.hbm, 556, rfl⟩
abbrev main_v464 : Ref sig .tc := ⟨.hbm, 557, rfl⟩
abbrev main_cst_89 : Ref sig .tc := ⟨.hbm, 558, rfl⟩
abbrev main_v465 : Ref sig .tc := ⟨.hbm, 559, rfl⟩
abbrev main_v466 : Ref sig .tc := ⟨.hbm, 560, rfl⟩
abbrev main_v467 : Ref sig .tc := ⟨.hbm, 561, rfl⟩
abbrev main_cst_90 : Ref sig .tc := ⟨.hbm, 562, rfl⟩
abbrev main_v468 : Ref sig .tc := ⟨.hbm, 563, rfl⟩
abbrev main_v469 : Ref sig .tc := ⟨.hbm, 564, rfl⟩
abbrev main_v470 : Ref sig .tc := ⟨.hbm, 565, rfl⟩
abbrev main_v471 : Ref sig .tc := ⟨.hbm, 566, rfl⟩
abbrev main_cst_91 : Ref sig .tc := ⟨.hbm, 567, rfl⟩
abbrev main_v472 : Ref sig .tc := ⟨.hbm, 568, rfl⟩
abbrev main_v473 : Ref sig .tc := ⟨.hbm, 569, rfl⟩
abbrev main_cst_92 : Ref sig .tc := ⟨.hbm, 570, rfl⟩
abbrev main_v474 : Ref sig .tc := ⟨.hbm, 571, rfl⟩
abbrev main_v475 : Ref sig .tc := ⟨.hbm, 572, rfl⟩
abbrev main_cst_93 : Ref sig .tc := ⟨.hbm, 573, rfl⟩
abbrev main_v476 : Ref sig .tc := ⟨.hbm, 574, rfl⟩
abbrev main_v477 : Ref sig .tc := ⟨.hbm, 575, rfl⟩
abbrev main_v478 : Ref sig .tc := ⟨.hbm, 576, rfl⟩
abbrev main_cst_94 : Ref sig .tc := ⟨.hbm, 577, rfl⟩
abbrev main_v479 : Ref sig .tc := ⟨.hbm, 578, rfl⟩
abbrev main_v480 : Ref sig .tc := ⟨.hbm, 579, rfl⟩
abbrev main_v481 : Ref sig .tc := ⟨.hbm, 580, rfl⟩
abbrev main_v482 : Ref sig .tc := ⟨.hbm, 581, rfl⟩
abbrev main_cst_95 : Ref sig .tc := ⟨.hbm, 582, rfl⟩
abbrev main_v483 : Ref sig .tc := ⟨.hbm, 583, rfl⟩
abbrev main_v484 : Ref sig .tc := ⟨.hbm, 584, rfl⟩
abbrev main_cst_96 : Ref sig .tc := ⟨.hbm, 585, rfl⟩
abbrev main_v485 : Ref sig .tc := ⟨.hbm, 586, rfl⟩
abbrev main_v486 : Ref sig .tc := ⟨.hbm, 587, rfl⟩
abbrev main_cst_97 : Ref sig .tc := ⟨.hbm, 588, rfl⟩
abbrev main_v487 : Ref sig .tc := ⟨.hbm, 589, rfl⟩
abbrev main_v488 : Ref sig .tc := ⟨.hbm, 590, rfl⟩
abbrev main_v489 : Ref sig .tc := ⟨.hbm, 591, rfl⟩
abbrev main_cst_98 : Ref sig .tc := ⟨.hbm, 592, rfl⟩
abbrev main_v490 : Ref sig .tc := ⟨.hbm, 593, rfl⟩
abbrev main_v491 : Ref sig .tc := ⟨.hbm, 594, rfl⟩
abbrev main_v492 : Ref sig .tc := ⟨.hbm, 595, rfl⟩
abbrev main_v493 : Ref sig .tc := ⟨.hbm, 596, rfl⟩
abbrev main_cst_99 : Ref sig .tc := ⟨.hbm, 597, rfl⟩
abbrev main_v494 : Ref sig .tc := ⟨.hbm, 598, rfl⟩
abbrev main_v495 : Ref sig .tc := ⟨.hbm, 599, rfl⟩
abbrev main_cst_100 : Ref sig .tc := ⟨.hbm, 600, rfl⟩
abbrev main_v496 : Ref sig .tc := ⟨.hbm, 601, rfl⟩
abbrev main_v497 : Ref sig .tc := ⟨.hbm, 602, rfl⟩
abbrev main_cst_101 : Ref sig .tc := ⟨.hbm, 603, rfl⟩
abbrev main_v498 : Ref sig .tc := ⟨.hbm, 604, rfl⟩
abbrev main_v499 : Ref sig .tc := ⟨.hbm, 605, rfl⟩
abbrev main_v500 : Ref sig .tc := ⟨.hbm, 606, rfl⟩
abbrev main_cst_102 : Ref sig .tc := ⟨.hbm, 607, rfl⟩
abbrev main_v501 : Ref sig .tc := ⟨.hbm, 608, rfl⟩
abbrev main_v502 : Ref sig .tc := ⟨.hbm, 609, rfl⟩
abbrev main_v503 : Ref sig .tc := ⟨.hbm, 610, rfl⟩
abbrev main_v504 : Ref sig .tc := ⟨.hbm, 611, rfl⟩
abbrev main_cst_103 : Ref sig .tc := ⟨.hbm, 612, rfl⟩
abbrev main_v505 : Ref sig .tc := ⟨.hbm, 613, rfl⟩
abbrev main_v506 : Ref sig .tc := ⟨.hbm, 614, rfl⟩
abbrev main_cst_104 : Ref sig .tc := ⟨.hbm, 615, rfl⟩
abbrev main_v507 : Ref sig .tc := ⟨.hbm, 616, rfl⟩
abbrev main_v508 : Ref sig .tc := ⟨.hbm, 617, rfl⟩
abbrev main_cst_105 : Ref sig .tc := ⟨.hbm, 618, rfl⟩
abbrev main_v509 : Ref sig .tc := ⟨.hbm, 619, rfl⟩
abbrev main_v510 : Ref sig .tc := ⟨.hbm, 620, rfl⟩
abbrev main_v511 : Ref sig .tc := ⟨.hbm, 621, rfl⟩
abbrev main_cst_106 : Ref sig .tc := ⟨.hbm, 622, rfl⟩
abbrev main_v512 : Ref sig .tc := ⟨.hbm, 623, rfl⟩
abbrev main_v513 : Ref sig .tc := ⟨.hbm, 624, rfl⟩
abbrev main_v514 : Ref sig .tc := ⟨.hbm, 625, rfl⟩
abbrev main_v515 : Ref sig .tc := ⟨.hbm, 626, rfl⟩
abbrev main_cst_107 : Ref sig .tc := ⟨.hbm, 627, rfl⟩
abbrev main_v516 : Ref sig .tc := ⟨.hbm, 628, rfl⟩
abbrev main_v517 : Ref sig .tc := ⟨.hbm, 629, rfl⟩
abbrev main_cst_108 : Ref sig .tc := ⟨.hbm, 630, rfl⟩
abbrev main_v518 : Ref sig .tc := ⟨.hbm, 631, rfl⟩
abbrev main_v519 : Ref sig .tc := ⟨.hbm, 632, rfl⟩
abbrev main_cst_109 : Ref sig .tc := ⟨.hbm, 633, rfl⟩
abbrev main_v520 : Ref sig .tc := ⟨.hbm, 634, rfl⟩
abbrev main_v521 : Ref sig .tc := ⟨.hbm, 635, rfl⟩
abbrev main_v522 : Ref sig .tc := ⟨.hbm, 636, rfl⟩
abbrev main_cst_110 : Ref sig .tc := ⟨.hbm, 637, rfl⟩
abbrev main_v523 : Ref sig .tc := ⟨.hbm, 638, rfl⟩
abbrev main_v524 : Ref sig .tc := ⟨.hbm, 639, rfl⟩
abbrev main_v525 : Ref sig .tc := ⟨.hbm, 640, rfl⟩
abbrev main_v526 : Ref sig .tc := ⟨.hbm, 641, rfl⟩
abbrev main_cst_111 : Ref sig .tc := ⟨.hbm, 642, rfl⟩
abbrev main_v527 : Ref sig .tc := ⟨.hbm, 643, rfl⟩
abbrev main_v528 : Ref sig .tc := ⟨.hbm, 644, rfl⟩
abbrev main_cst_112 : Ref sig .tc := ⟨.hbm, 645, rfl⟩
abbrev main_v529 : Ref sig .tc := ⟨.hbm, 646, rfl⟩
abbrev main_v530 : Ref sig .tc := ⟨.hbm, 647, rfl⟩
abbrev main_cst_113 : Ref sig .tc := ⟨.hbm, 648, rfl⟩
abbrev main_v531 : Ref sig .tc := ⟨.hbm, 649, rfl⟩
abbrev main_v532 : Ref sig .tc := ⟨.hbm, 650, rfl⟩
abbrev main_v533 : Ref sig .tc := ⟨.hbm, 651, rfl⟩
abbrev main_cst_114 : Ref sig .tc := ⟨.hbm, 652, rfl⟩
abbrev main_v534 : Ref sig .tc := ⟨.hbm, 653, rfl⟩
abbrev main_v535 : Ref sig .tc := ⟨.hbm, 654, rfl⟩
abbrev main_v536 : Ref sig .tc := ⟨.hbm, 655, rfl⟩
abbrev main_v537 : Ref sig .tc := ⟨.hbm, 656, rfl⟩
abbrev main_cst_115 : Ref sig .tc := ⟨.hbm, 657, rfl⟩
abbrev main_v538 : Ref sig .tc := ⟨.hbm, 658, rfl⟩
abbrev main_v539 : Ref sig .tc := ⟨.hbm, 659, rfl⟩
abbrev main_cst_116 : Ref sig .tc := ⟨.hbm, 660, rfl⟩
abbrev main_v540 : Ref sig .tc := ⟨.hbm, 661, rfl⟩
abbrev main_v541 : Ref sig .tc := ⟨.hbm, 662, rfl⟩
abbrev main_cst_117 : Ref sig .tc := ⟨.hbm, 663, rfl⟩
abbrev main_v542 : Ref sig .tc := ⟨.hbm, 664, rfl⟩
abbrev main_v543 : Ref sig .tc := ⟨.hbm, 665, rfl⟩
abbrev main_v544 : Ref sig .tc := ⟨.hbm, 666, rfl⟩
abbrev main_cst_118 : Ref sig .tc := ⟨.hbm, 667, rfl⟩
abbrev main_v545 : Ref sig .tc := ⟨.hbm, 668, rfl⟩
abbrev main_v546 : Ref sig .tc := ⟨.hbm, 669, rfl⟩
abbrev main_v547 : Ref sig .tc := ⟨.hbm, 670, rfl⟩
abbrev main_v548 : Ref sig .tc := ⟨.hbm, 671, rfl⟩
abbrev main_cst_119 : Ref sig .tc := ⟨.hbm, 672, rfl⟩
abbrev main_v549 : Ref sig .tc := ⟨.hbm, 673, rfl⟩
abbrev main_v550 : Ref sig .tc := ⟨.hbm, 674, rfl⟩
abbrev main_cst_120 : Ref sig .tc := ⟨.hbm, 675, rfl⟩
abbrev main_v551 : Ref sig .tc := ⟨.hbm, 676, rfl⟩
abbrev main_v552 : Ref sig .tc := ⟨.hbm, 677, rfl⟩
abbrev main_cst_121 : Ref sig .tc := ⟨.hbm, 678, rfl⟩
abbrev main_v553 : Ref sig .tc := ⟨.hbm, 679, rfl⟩
abbrev main_v554 : Ref sig .tc := ⟨.hbm, 680, rfl⟩
abbrev main_v555 : Ref sig .tc := ⟨.hbm, 681, rfl⟩
abbrev main_cst_122 : Ref sig .tc := ⟨.hbm, 682, rfl⟩
abbrev main_v556 : Ref sig .tc := ⟨.hbm, 683, rfl⟩
abbrev main_v557 : Ref sig .tc := ⟨.hbm, 684, rfl⟩
abbrev main_v558 : Ref sig .tc := ⟨.hbm, 685, rfl⟩
abbrev main_v559 : Ref sig .tc := ⟨.hbm, 686, rfl⟩
abbrev main_cst_123 : Ref sig .tc := ⟨.hbm, 687, rfl⟩
abbrev main_v560 : Ref sig .tc := ⟨.hbm, 688, rfl⟩
abbrev main_v561 : Ref sig .tc := ⟨.hbm, 689, rfl⟩
abbrev main_cst_124 : Ref sig .tc := ⟨.hbm, 690, rfl⟩
abbrev main_v562 : Ref sig .tc := ⟨.hbm, 691, rfl⟩
abbrev main_v563 : Ref sig .tc := ⟨.hbm, 692, rfl⟩
abbrev main_cst_125 : Ref sig .tc := ⟨.hbm, 693, rfl⟩
abbrev main_v564 : Ref sig .tc := ⟨.hbm, 694, rfl⟩
abbrev main_v565 : Ref sig .tc := ⟨.hbm, 695, rfl⟩
abbrev main_v566 : Ref sig .tc := ⟨.hbm, 696, rfl⟩
abbrev main_cst_126 : Ref sig .tc := ⟨.hbm, 697, rfl⟩
abbrev main_v567 : Ref sig .tc := ⟨.hbm, 698, rfl⟩
abbrev main_v568 : Ref sig .tc := ⟨.hbm, 699, rfl⟩
abbrev main_v569 : Ref sig .tc := ⟨.hbm, 700, rfl⟩
abbrev main_v570 : Ref sig .tc := ⟨.hbm, 701, rfl⟩
abbrev main_cst_127 : Ref sig .tc := ⟨.hbm, 702, rfl⟩
abbrev main_v571 : Ref sig .tc := ⟨.hbm, 703, rfl⟩
abbrev main_v572 : Ref sig .tc := ⟨.hbm, 704, rfl⟩
abbrev main_cst_128 : Ref sig .tc := ⟨.hbm, 705, rfl⟩
abbrev main_v573 : Ref sig .tc := ⟨.hbm, 706, rfl⟩
abbrev main_v574 : Ref sig .tc := ⟨.hbm, 707, rfl⟩
abbrev main_cst_129 : Ref sig .tc := ⟨.hbm, 708, rfl⟩
abbrev main_v575 : Ref sig .tc := ⟨.hbm, 709, rfl⟩
abbrev main_v576 : Ref sig .tc := ⟨.hbm, 710, rfl⟩
abbrev main_v577 : Ref sig .tc := ⟨.hbm, 711, rfl⟩
abbrev main_v578 : Ref sig .tc := ⟨.hbm, 712, rfl⟩
abbrev main_v579 : Ref sig .tc := ⟨.hbm, 713, rfl⟩
abbrev main_v580 : Ref sig .tc := ⟨.hbm, 714, rfl⟩
abbrev main_v581 : Ref sig .tc := ⟨.hbm, 715, rfl⟩
abbrev main_v582 : Ref sig .tc := ⟨.hbm, 716, rfl⟩
abbrev main_v583 : Ref sig .tc := ⟨.hbm, 717, rfl⟩
abbrev main_v584 : Ref sig .tc := ⟨.hbm, 718, rfl⟩

abbrev nD : Nat := 1
abbrev τ : Topo := Topo.v7x

variable {F : FTy → Type} [FloatOps F]
-- ==== Mlp2BwdX.lean ====
abbrev S4096x4096 : Shape := ⟨2, ![4096, 4096]⟩
abbrev S4096x16384 : Shape := ⟨2, ![4096, 16384]⟩
abbrev S16384 : Shape := ⟨1, ![16384]⟩
abbrev S16384x4096 : Shape := ⟨2, ![16384, 4096]⟩
abbrev S1x16384 : Shape := ⟨2, ![1, 16384]⟩
abbrev S_ : Shape := ⟨0, ![]⟩
abbrev S1024x4096 : Shape := ⟨2, ![1024, 4096]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 17
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096x4096, .f32⟩
  | .hbm, ⟨5, _⟩ => ⟨S4096x16384, .f32⟩
  | .hbm, ⟨6, _⟩ => ⟨S1x16384, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S4096x16384, .bf16⟩
  | .hbm, ⟨13, _⟩ => ⟨S4096x4096, .bf16⟩
  | .hbm, ⟨14, _⟩ => ⟨S16384x4096, .bf16⟩
  | .hbm, ⟨15, _⟩ => ⟨S4096x16384, .bf16⟩
  | .hbm, ⟨16, _⟩ => ⟨S1x16384, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_10 : BitVec 32 := 0#32
  let v18 : BitVec 1 := Scalar.cmpi .eq arg1 c0_i32_10
  let v19 : BitVec 32 := Scalar.extui v18
  let c0_i32_11 : BitVec 32 := 0#32
  let v20 : BitVec 1 := Scalar.cmpi .ne v19 c0_i32_11
  v20

def k0_cond3 (i : grid0.Coords) : BitVec 1 :=
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Mlp2BwdXRefIdeal.lean ====
abbrev S4096x4096 : Shape := ⟨2, ![4096, 4096]⟩
abbrev S4096x16384 : Shape := ⟨2, ![4096, 16384]⟩
abbrev S16384 : Shape := ⟨1, ![16384]⟩
abbrev S16384x4096 : Shape := ⟨2, ![16384, 4096]⟩
abbrev S1x16384 : Shape := ⟨2, ![1, 16384]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096x4096, .f32⟩
  | .hbm, ⟨5, _⟩ => ⟨S4096x16384, .f32⟩
  | .hbm, ⟨6, _⟩ => ⟨S1x16384, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096x16384, .f32⟩
  | .hbm, ⟨14, _⟩ => ⟨S4096x16384, .i1⟩
  | .hbm, ⟨15, _⟩ => ⟨S_, .f32⟩
  | .hbm, ⟨16, _⟩ => ⟨S4096x16384, .f32⟩
  | .hbm, ⟨17, _⟩ => ⟨S4096x16384, .f32⟩
  | .hbm, ⟨18, _⟩ => ⟨S_, .f32⟩
  | .hbm, ⟨19, _⟩ => ⟨S4096x16384, .f32⟩
  | .hbm, ⟨20, _⟩ => ⟨S4096x16384, .f32⟩
  | .hbm, ⟨21, _⟩ => ⟨S4096x4096, .f32⟩
  | .hbm, ⟨22, _⟩ => ⟨S4096x16384, .f32⟩
  | .hbm, ⟨23, _⟩ => ⟨S4096x16384, .f32⟩
  | .hbm, ⟨24, _⟩ => ⟨S_, .f32⟩
  | .hbm, ⟨25, _⟩ => ⟨S4096x16384, .f32⟩
  | .hbm, ⟨26, _⟩ => ⟨S4096x16384, .f32⟩
  | .hbm, ⟨27, _⟩ => ⟨S_, .f32⟩
  | .hbm, ⟨28, _⟩ => ⟨S16384, .f32⟩
  | .hbm, ⟨29, _⟩ => ⟨S1x16384, .f32⟩
  | .hbm, ⟨30, _⟩ => ⟨S_, .f32⟩
  | .hbm, ⟨31, _⟩ => ⟨S16384, .f32⟩
  | .hbm, ⟨32, _⟩ => ⟨S4096x16384, .bf16⟩
  | .hbm, ⟨33, _⟩ => ⟨S1x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Mlp2BwdW.lean ====
abbrev S4096x4096 : Shape := ⟨2, ![4096, 4096]⟩
abbrev S4096x16384 : Shape := ⟨2, ![4096, 16384]⟩
abbrev S16384 : Shape := ⟨1, ![16384]⟩
abbrev S1x16384 : Shape := ⟨2, ![1, 16384]⟩
abbrev S_ : Shape := ⟨0, ![]⟩
abbrev S16384x4096 : Shape := ⟨2, ![16384, 4096]⟩
abbrev S4096x1024 : Shape := ⟨2, ![4096, 1024]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384, .f32⟩
  | .hbm, ⟨3, _⟩ => ⟨S4096x4096, .f32⟩
  | .hbm, ⟨4, _⟩ => ⟨S4096x16384, .f32⟩
  | .hbm, ⟨5, _⟩ => ⟨S1x16384, .f32⟩
  | .hbm, ⟨6, _⟩ => ⟨S4096x16384, .f32⟩
  | .hbm, ⟨7, _⟩ => ⟨S4096x16384, .f32⟩
  | .hbm, ⟨8, _⟩ => ⟨S_, .f32⟩
  | .hbm, ⟨9, _⟩ => ⟨S4096x16384, .f32⟩
  | .hbm, ⟨10, _⟩ => ⟨S4096x16384, .f32⟩
  | .hbm, ⟨11, _⟩ => ⟨S4096x16384, .bf16⟩
  | .hbm, ⟨12, _⟩ => ⟨S4096x4096, .bf16⟩
  | .hbm, ⟨13, _⟩ => ⟨S16384x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def k0_cond1 (i : grid0.Coords) : BitVec 1 :=
  let arg2 : BitVec 32 := BitVec.ofNat 32 (i 2).val
  let c0_i32 : BitVec 32 := 0#32
  let v9 : BitVec 1 := Scalar.cmpi .eq arg2 c0_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp2BwdWRefIdeal.lean ====
abbrev S4096x4096 : Shape := ⟨2, ![4096, 4096]⟩
abbrev S4096x16384 : Shape := ⟨2, ![4096, 16384]⟩
abbrev S16384 : Shape := ⟨1, ![16384]⟩
abbrev S_ : Shape := ⟨0, ![]⟩
abbrev S16384x4096 : Shape := ⟨2, ![16384, 4096]⟩
abbrev S1x16384 : Shape := ⟨2, ![1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384, .f32⟩
  | .hbm, ⟨3, _⟩ => ⟨S4096x4096, .f32⟩
  | .hbm, ⟨4, _⟩ => ⟨S_, .f32⟩
  | .hbm, ⟨5, _⟩ => ⟨S16384x4096, .f32⟩
  | .hbm, ⟨6, _⟩ => ⟨S4096x16384, .f32⟩
  | .hbm, ⟨7, _⟩ => ⟨S1x16384, .f32⟩
  | .hbm, ⟨8, _⟩ => ⟨S4096x16384, .f32⟩
  | .hbm, ⟨9, _⟩ => ⟨S4096x16384, .f32⟩
  | .hbm, ⟨10, _⟩ => ⟨S_, .f32⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S4096x4096, .f32⟩
  | .hbm, ⟨15, _⟩ => ⟨S4096x16384, .f32⟩
  | .hbm, ⟨16, _⟩ => ⟨S16384x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Mlp1BwdX.lean ====
abbrev S4096x16384 : Shape := ⟨2, ![4096, 16384]⟩
abbrev S4096x4x4096 : Shape := ⟨3, ![4096, 4, 4096]⟩
abbrev S4x4096x4096 : Shape := ⟨3, ![4, 4096, 4096]⟩
abbrev S4096x4096 : Shape := ⟨2, ![4096, 4096]⟩
abbrev S1024x4096 : Shape := ⟨2, ![1024, 4096]⟩
abbrev S1x1024x4096 : Shape := ⟨3, ![1, 1024, 4096]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S4096x16384, .bf16⟩
  | .hbm, ⟨3, _⟩ => ⟨S4096x16384, .bf16⟩
  | .hbm, ⟨4, _⟩ => ⟨S4096x4x4096, .bf16⟩
  | .hbm, ⟨5, _⟩ => ⟨S4x4096x4096, .bf16⟩
  | .hbm, ⟨6, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1BwdXRefIdeal.lean ====
abbrev S4096x16384 : Shape := ⟨2, ![4096, 16384]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S_, .f32⟩
  | .hbm, ⟨3, _⟩ => ⟨S4096x4096, .f32⟩
  | .hbm, ⟨4, _⟩ => ⟨S4096x16384, .f32⟩
  | .hbm, ⟨5, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Mlp1BwdW.lean ====
abbrev S4096x4096 : Shape := ⟨2, ![4096, 4096]⟩
abbrev S4096x16384 : Shape := ⟨2, ![4096, 16384]⟩
abbrev S4x4096x4096 : Shape := ⟨3, ![4, 4096, 4096]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S4096x4096, .bf16⟩
  | .hbm, ⟨3, _⟩ => ⟨S4096x16384, .bf16⟩
  | .hbm, ⟨4, _⟩ => ⟨S4x4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1BwdWRefIdeal.lean ====
abbrev S4096x4096 : Shape := ⟨2, ![4096, 4096]⟩
abbrev S4096x16384 : Shape := ⟨2, ![4096, 16384]⟩
abbrev S_ : Shape := ⟨0, ![]⟩
abbrev S16384x4096 : Shape := ⟨2, ![16384, 4096]⟩
abbrev S4096x4x4096 : Shape := ⟨3, ![4096, 4, 4096]⟩
abbrev S4x4096x4096 : Shape := ⟨3, ![4, 4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S_, .f32⟩
  | .hbm, ⟨3, _⟩ => ⟨S4096x16384, .f32⟩
  | .hbm, ⟨4, _⟩ => ⟨S4096x16384, .f32⟩
  | .hbm, ⟨5, _⟩ => ⟨S16384x4096, .f32⟩
  | .hbm, ⟨6, _⟩ => ⟨S4096x16384, .f32⟩
  | .hbm, ⟨7, _⟩ => ⟨S4096x4x4096, .f32⟩
  | .hbm, ⟨8, _⟩ => ⟨S4x4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InBwdX.lean ====
abbrev S4096x12352 : Shape := ⟨2, ![4096, 12352]⟩
abbrev S4352x12352 : Shape := ⟨2, ![4352, 12352]⟩
abbrev S12352x4096 : Shape := ⟨2, ![12352, 4096]⟩
abbrev S8192x4096 : Shape := ⟨2, ![8192, 4096]⟩
abbrev S4096x4096 : Shape := ⟨2, ![4096, 4096]⟩
abbrev S64x4096 : Shape := ⟨2, ![64, 4096]⟩
abbrev S_ : Shape := ⟨0, ![]⟩
abbrev S448x4096 : Shape := ⟨2, ![448, 4096]⟩
abbrev S12800x4096 : Shape := ⟨2, ![12800, 4096]⟩
abbrev S4352x8192 : Shape := ⟨2, ![4352, 8192]⟩
abbrev S4352x4096 : Shape := ⟨2, ![4352, 4096]⟩
abbrev S4352x64 : Shape := ⟨2, ![4352, 64]⟩
abbrev S4352x448 : Shape := ⟨2, ![4352, 448]⟩
abbrev S4352x12800 : Shape := ⟨2, ![4352, 12800]⟩
abbrev S1x4096 : Shape := ⟨2, ![1, 4096]⟩
abbrev S1088x2560 : Shape := ⟨2, ![1088, 2560]⟩
abbrev S2560x1024 : Shape := ⟨2, ![2560, 1024]⟩
abbrev S1x1024 : Shape := ⟨2, ![1, 1024]⟩
abbrev S1088x1024 : Shape := ⟨2, ![1088, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4096x12352, .f32⟩
  | .hbm, ⟨1, _⟩ => ⟨S4352x12352, .f32⟩
  | .hbm, ⟨2, _⟩ => ⟨S12352x4096, .f32⟩
  | .hbm, ⟨3, _⟩ => ⟨S12352x4096, .bf16⟩
  | .hbm, ⟨4, _⟩ => ⟨S8192x4096, .bf16⟩
  | .hbm, ⟨5, _⟩ => ⟨S4096x4096, .bf16⟩
  | .hbm, ⟨6, _⟩ => ⟨S64x4096, .bf16⟩
  | .hbm, ⟨7, _⟩ => ⟨S_, .bf16⟩
  | .hbm, ⟨8, _⟩ => ⟨S448x4096, .bf16⟩
  | .hbm, ⟨9, _⟩ => ⟨S12800x4096, .bf16⟩
  | .hbm, ⟨10, _⟩ => ⟨S4352x12352, .bf16⟩
  | .hbm, ⟨11, _⟩ => ⟨S4352x8192, .bf16⟩
  | .hbm, ⟨12, _⟩ => ⟨S4352x4096, .bf16⟩
  | .hbm, ⟨13, _⟩ => ⟨S4352x64, .bf16⟩
  | .hbm, ⟨14, _⟩ => ⟨S_, .bf16⟩
  | .hbm, ⟨15, _⟩ => ⟨S4352x448, .bf16⟩
  | .hbm, ⟨16, _⟩ => ⟨S4352x12800, .bf16⟩
  | .hbm, ⟨17, _⟩ => ⟨S_, .f32⟩
  | .hbm, ⟨18, _⟩ => ⟨S1x4096, .f32⟩
  | .hbm, ⟨19, _⟩ => ⟨S4352x4096, .f32⟩
  | .local _ .vmem, ⟨0, _⟩ => ⟨S1088x2560, .bf16⟩
  | .local _ .vmem, ⟨1, _⟩ => ⟨S1088x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1x1024, .f32⟩
  | .local _ .vmem, ⟨5, _⟩ => ⟨S1x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S4096x12352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 5], ![false, false, false]⟩

def k0_cond3 (i : grid0.Coords) : BitVec 1 :=
  let arg2 : BitVec 32 := BitVec.ofNat 32 (i 2).val
  let c4_i32_6 : BitVec 32 := 4#32
  let v13 : BitVec 1 := Scalar.cmpi .eq arg2 c4_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBwdXRefIdeal.lean ====
abbrev S4096x12352 : Shape := ⟨2, ![4096, 12352]⟩
abbrev S4352x12352 : Shape := ⟨2, ![4352, 12352]⟩
abbrev S_ : Shape := ⟨0, ![]⟩
abbrev S4352x4096 : Shape := ⟨2, ![4352, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x12352, .f32⟩
  | .hbm, ⟨1, _⟩ => ⟨S4352x12352, .f32⟩
  | .hbm, ⟨2, _⟩ => ⟨S_, .f32⟩
  | .hbm, ⟨3, _⟩ => ⟨S4352x4096, .f32⟩
  | .hbm, ⟨4, _⟩ => ⟨S4352x12352, .f32⟩
  | .hbm, ⟨5, _⟩ => ⟨S4352x4096, .f32⟩
  | _, _ => ⟨S4096x12352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InBwdW.lean ====
abbrev S4352x4096 : Shape := ⟨2, ![4352, 4096]⟩
abbrev S4352x12352 : Shape := ⟨2, ![4352, 12352]⟩
abbrev S4352x8192 : Shape := ⟨2, ![4352, 8192]⟩
abbrev S4352x64 : Shape := ⟨2, ![4352, 64]⟩
abbrev S_ : Shape := ⟨0, ![]⟩
abbrev S4352x448 : Shape := ⟨2, ![4352, 448]⟩
abbrev S4352x12800 : Shape := ⟨2, ![4352, 12800]⟩
abbrev S12800x4096 : Shape := ⟨2, ![12800, 4096]⟩
abbrev S4352x640 : Shape := ⟨2, ![4352, 640]⟩
abbrev S4352x1024 : Shape := ⟨2, ![4352, 1024]⟩
abbrev S640x1024 : Shape := ⟨2, ![640, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4352x4096, .f32⟩
  | .hbm, ⟨1, _⟩ => ⟨S4352x12352, .f32⟩
  | .hbm, ⟨2, _⟩ => ⟨S4352x12352, .bf16⟩
  | .hbm, ⟨3, _⟩ => ⟨S4352x8192, .bf16⟩
  | .hbm, ⟨4, _⟩ => ⟨S4352x4096, .bf16⟩
  | .hbm, ⟨5, _⟩ => ⟨S4352x64, .bf16⟩
  | .hbm, ⟨6, _⟩ => ⟨S_, .bf16⟩
  | .hbm, ⟨7, _⟩ => ⟨S4352x448, .bf16⟩
  | .hbm, ⟨8, _⟩ => ⟨S4352x12800, .bf16⟩
  | .hbm, ⟨9, _⟩ => ⟨S4352x4096, .bf16⟩
  | .hbm, ⟨10, _⟩ => ⟨S12800x4096, .f32⟩
  | .local _ .vmem, ⟨0, _⟩ => ⟨S4352x640, .bf16⟩
  | .local _ .vmem, ⟨1, _⟩ => ⟨S4352x640, .bf16⟩
  | .local _ .vmem, ⟨2, _⟩ => ⟨S4352x1024, .bf16⟩
  | .local _ .vmem, ⟨3, _⟩ => ⟨S4352x1024, .bf16⟩
  | .local _ .vmem, ⟨4, _⟩ => ⟨S640x1024, .f32⟩
  | .local _ .vmem, ⟨5, _⟩ => ⟨S640x1024, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 20, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4352x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBwdWRefIdeal.lean ====
abbrev S4352x4096 : Shape := ⟨2, ![4352, 4096]⟩
abbrev S4352x12352 : Shape := ⟨2, ![4352, 12352]⟩
abbrev S_ : Shape := ⟨0, ![]⟩
abbrev S4096x12352 : Shape := ⟨2, ![4096, 12352]⟩
abbrev S12352x4096 : Shape := ⟨2, ![12352, 4096]⟩
abbrev S8192x4096 : Shape := ⟨2, ![8192, 4096]⟩
abbrev S4096x4096 : Shape := ⟨2, ![4096, 4096]⟩
abbrev S64x4096 : Shape := ⟨2, ![64, 4096]⟩
abbrev S448x4096 : Shape := ⟨2, ![448, 4096]⟩
abbrev S12800x4096 : Shape := ⟨2, ![12800, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4352x12352, .f32⟩
  | .hbm, ⟨2, _⟩ => ⟨S_, .f32⟩
  | .hbm, ⟨3, _⟩ => ⟨S4096x12352, .f32⟩
  | .hbm, ⟨4, _⟩ => ⟨S4352x12352, .f32⟩
  | .hbm, ⟨5, _⟩ => ⟨S12352x4096, .f32⟩
  | .hbm, ⟨6, _⟩ => ⟨S4096x12352, .f32⟩
  | .hbm, ⟨7, _⟩ => ⟨S12352x4096, .f32⟩
  | .hbm, ⟨8, _⟩ => ⟨S8192x4096, .f32⟩
  | .hbm, ⟨9, _⟩ => ⟨S4096x4096, .f32⟩
  | .hbm, ⟨10, _⟩ => ⟨S64x4096, .f32⟩
  | .hbm, ⟨11, _⟩ => ⟨S_, .f32⟩
  | .hbm, ⟨12, _⟩ => ⟨S448x4096, .f32⟩
  | .hbm, ⟨13, _⟩ => ⟨S12800x4096, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== OutBwdX.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdXRefIdeal.lean ====
abbrev S4096x4096 : Shape := ⟨2, ![4096, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutBwdW.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdWRefIdeal.lean ====
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S4352x4096 : Shape := ⟨2, ![4352, 4096]⟩
abbrev S4096x12352 : Shape := ⟨2, ![4096, 12352]⟩
abbrev S12352x4096 : Shape := ⟨2, ![12352, 4096]⟩
abbrev S8192x4096 : Shape := ⟨2, ![8192, 4096]⟩
abbrev S4096x4096 : Shape := ⟨2, ![4096, 4096]⟩
abbrev S64x4096 : Shape := ⟨2, ![64, 4096]⟩
abbrev S_ : Shape := ⟨0, ![]⟩
abbrev S448x4096 : Shape := ⟨2, ![448, 4096]⟩
abbrev S12800x4096 : Shape := ⟨2, ![12800, 4096]⟩
abbrev S1x12800 : Shape := ⟨2, ![1, 12800]⟩
abbrev S4352x12800 : Shape := ⟨2, ![4352, 12800]⟩
abbrev S1088x2048 : Shape := ⟨2, ![1088, 2048]⟩
abbrev S1280x2048 : Shape := ⟨2, ![1280, 2048]⟩
abbrev S1x1280 : Shape := ⟨2, ![1, 1280]⟩
abbrev S1088x1280 : Shape := ⟨2, ![1088, 1280]⟩

abbrev nBuf : Space → Nat
  | .hbm => 14
  | .vmem => 9
  | .smem => 0
  | _ => 0

abbrev bufTy : (tb : Table) → Fin (tcTables nBuf tb) → BufTy
  | .hbm, ⟨0, _⟩ => ⟨S4352x4096, .f32⟩
  | .hbm, ⟨1, _⟩ => ⟨S4096x12352, .f32⟩
  | .hbm, ⟨2, _⟩ => ⟨S12352x4096, .f32⟩
  | .hbm, ⟨3, _⟩ => ⟨S12352x4096, .bf16⟩
  | .hbm, ⟨4, _⟩ => ⟨S8192x4096, .bf16⟩
  | .hbm, ⟨5, _⟩ => ⟨S4096x4096, .bf16⟩
  | .hbm, ⟨6, _⟩ => ⟨S64x4096, .bf16⟩
  | .hbm, ⟨7, _⟩ => ⟨S_, .bf16⟩
  | .hbm, ⟨8, _⟩ => ⟨S448x4096, .bf16⟩
  | .hbm, ⟨9, _⟩ => ⟨S12800x4096, .bf16⟩
  | .hbm, ⟨10, _⟩ => ⟨S4352x4096, .bf16⟩
  | .hbm, ⟨11, _⟩ => ⟨S_, .f32⟩
  | .hbm, ⟨12, _⟩ => ⟨S1x12800, .f32⟩
  | .hbm, ⟨13, _⟩ => ⟨S4352x12800, .f32⟩
  | .local _ .vmem, ⟨0, _⟩ => ⟨S1088x2048, .bf16⟩
  | .local _ .vmem, ⟨1, _⟩ => ⟨S1088x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1x1280, .f32⟩
  | .local _ .vmem, ⟨5, _⟩ => ⟨S1x1280, .f32⟩
  | .local _ .vmem, ⟨6, _⟩ => ⟨S1088x1280, .f32⟩
  | .local _ .vmem, ⟨7, _⟩ => ⟨S1088x1280, .f32⟩
  | .local _ .vmem, ⟨8, _⟩ => ⟨S1088x1280, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 4, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1088x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjRefIdeal.lean ====
abbrev S4352x4096 : Shape := ⟨2, ![4352, 4096]⟩
abbrev S4096x12352 : Shape := ⟨2, ![4096, 12352]⟩
abbrev S4352x12352 : Shape := ⟨2, ![4352, 12352]⟩
abbrev S4352x8192 : Shape := ⟨2, ![4352, 8192]⟩
abbrev S4352x64 : Shape := ⟨2, ![4352, 64]⟩
abbrev S_ : Shape := ⟨0, ![]⟩
abbrev S4352x448 : Shape := ⟨2, ![4352, 448]⟩
abbrev S4352x12800 : Shape := ⟨2, ![4352, 12800]⟩

abbrev nBuf : Space → Nat
  | .hbm => 9
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4096x12352, .f32⟩
  | .hbm, ⟨2, _⟩ => ⟨S4352x12352, .f32⟩
  | .hbm, ⟨3, _⟩ => ⟨S4352x8192, .f32⟩
  | .hbm, ⟨4, _⟩ => ⟨S4352x4096, .f32⟩
  | .hbm, ⟨5, _⟩ => ⟨S4352x64, .f32⟩
  | .hbm, ⟨6, _⟩ => ⟨S_, .f32⟩
  | .hbm, ⟨7, _⟩ => ⟨S4352x448, .f32⟩
  | .hbm, ⟨8, _⟩ => ⟨S4352x12800, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S4096x4096 : Shape := ⟨2, ![4096, 4096]⟩
abbrev S_ : Shape := ⟨0, ![]⟩
abbrev S1x4096 : Shape := ⟨2, ![1, 4096]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S_, .f32⟩
  | .hbm, ⟨5, _⟩ => ⟨S1x4096, .f32⟩
  | .hbm, ⟨6, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mlp1.lean ====
abbrev S4096x4096 : Shape := ⟨2, ![4096, 4096]⟩
abbrev S4096x16384 : Shape := ⟨2, ![4096, 16384]⟩
abbrev S16384 : Shape := ⟨1, ![16384]⟩
abbrev S4096x4x4096 : Shape := ⟨3, ![4096, 4, 4096]⟩
abbrev S4x4096x4096 : Shape := ⟨3, ![4, 4096, 4096]⟩
abbrev S1x16384 : Shape := ⟨2, ![1, 16384]⟩
abbrev S1024x4096 : Shape := ⟨2, ![1024, 4096]⟩
abbrev S1x4096x1024 : Shape := ⟨3, ![1, 4096, 1024]⟩
abbrev S1x1024 : Shape := ⟨2, ![1, 1024]⟩
abbrev S1024x1024 : Shape := ⟨2, ![1024, 1024]⟩
abbrev S4096x1024 : Shape := ⟨2, ![4096, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384, .f32⟩
  | .hbm, ⟨3, _⟩ => ⟨S4096x4096, .bf16⟩
  | .hbm, ⟨4, _⟩ => ⟨S4096x16384, .bf16⟩
  | .hbm, ⟨5, _⟩ => ⟨S4096x4x4096, .bf16⟩
  | .hbm, ⟨6, _⟩ => ⟨S4x4096x4096, .bf16⟩
  | .hbm, ⟨7, _⟩ => ⟨S1x16384, .f32⟩
  | .hbm, ⟨8, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Mlp1RefIdeal.lean ====
abbrev S4096x4096 : Shape := ⟨2, ![4096, 4096]⟩
abbrev S4096x16384 : Shape := ⟨2, ![4096, 16384]⟩
abbrev S16384 : Shape := ⟨1, ![16384]⟩
abbrev S1x16384 : Shape := ⟨2, ![1, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384, .f32⟩
  | .hbm, ⟨3, _⟩ => ⟨S4096x16384, .f32⟩
  | .hbm, ⟨4, _⟩ => ⟨S1x16384, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S4096x16384, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Mlp2.lean ====
abbrev S4096x4096 : Shape := ⟨2, ![4096, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S1x16384 : Shape := ⟨2, ![1, 16384]⟩
abbrev S_ : Shape := ⟨0, ![]⟩
abbrev S1x4096 : Shape := ⟨2, ![1, 4096]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4096x16384, .f32⟩
  | .hbm, ⟨6, _⟩ => ⟨S1x16384, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S4096x16384, .bf16⟩
  | .hbm, ⟨13, _⟩ => ⟨S16384x4096, .bf16⟩
  | .hbm, ⟨14, _⟩ => ⟨S1x4096, .f32⟩
  | .hbm, ⟨15, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v17 : BitVec 1 := Scalar.cmpi .eq arg2 c3_i32_6
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Mlp2RefIdeal.lean ====
abbrev S4096x4096 : Shape := ⟨2, ![4096, 4096]⟩
abbrev S4096x16384 : Shape := ⟨2, ![4096, 16384]⟩
abbrev S16384 : Shape := ⟨1, ![16384]⟩
abbrev S16384x4096 : Shape := ⟨2, ![16384, 4096]⟩
abbrev S4096 : Shape := ⟨1, ![4096]⟩
abbrev S1x16384 : Shape := ⟨2, ![1, 16384]⟩
abbrev S_ : Shape := ⟨0, ![]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16384, .f32⟩
  | .hbm, ⟨2, _⟩ => ⟨S16384, .f32⟩
  | .hbm, ⟨3, _⟩ => ⟨S16384x4096, .f32⟩
  | .hbm, ⟨4, _⟩ => ⟨S4096, .f32⟩
  | .hbm, ⟨5, _⟩ => ⟨S4096x16384, .f32⟩
  | .hbm, ⟨6, _⟩ => ⟨S1x16384, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S4096x16384, .f32⟩
  | .hbm, ⟨13, _⟩ => ⟨S4096x4096, .f32⟩
  | .hbm, ⟨14, _⟩ => ⟨S1x4096, .f32⟩
  | .hbm, ⟨15, _⟩ => ⟨S4096x4096, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== AdamMod.lean ====
abbrev S1x4096x6144 : Shape := ⟨3, ![1, 4096, 6144]⟩
abbrev S4096x6144 : Shape := ⟨2, ![4096, 6144]⟩
abbrev S1x64x6144 : Shape := ⟨3, ![1, 64, 6144]⟩
abbrev S64x6144 : Shape := ⟨2, ![64, 6144]⟩

abbrev nBuf : Space → Nat
  | .hbm => 8
  | .vmem => 14
  | .smem => 0
  | _ => 0

abbrev bufTy : (tb : Table) → Fin (tcTables nBuf tb) → BufTy
  | .hbm, ⟨0, _⟩ => ⟨S1x4096x6144, .f32⟩
  | .hbm, ⟨1, _⟩ => ⟨S4096x6144, .f32⟩
  | .hbm, ⟨2, _⟩ => ⟨S1x4096x6144, .f32⟩
  | .hbm, ⟨3, _⟩ => ⟨S1x4096x6144, .f32⟩
  | .hbm, ⟨4, _⟩ => ⟨S1x4096x6144, .f32⟩
  | .hbm, ⟨5, _⟩ => ⟨S1x4096x6144, .f32⟩
  | .hbm, ⟨6, _⟩ => ⟨S1x4096x6144, .f32⟩
  | .hbm, ⟨7, _⟩ => ⟨S1x4096x6144, .f32⟩
  | .local _ .vmem, ⟨0, _⟩ => ⟨S1x64x6144, .f32⟩
  | .local _ .vmem, ⟨1, _⟩ => ⟨S1x64x6144, .f32⟩
  | .local _ .vmem, ⟨2, _⟩ => ⟨S1x64x6144, .f32⟩
  | .local _ .vmem, ⟨3, _⟩ => ⟨S1x64x6144, .f32⟩
  | .local _ .vmem, ⟨4, _⟩ => ⟨S1x64x6144, .f32⟩
  | .local _ .vmem, ⟨5, _⟩ => ⟨S1x64x6144, .f32⟩
  | .local _ .vmem, ⟨6, _⟩ => ⟨S1x64x6144, .f32⟩
  | .local _ .vmem, ⟨7, _⟩ => ⟨S1x64x6144, .f32⟩
  | .local _ .vmem, ⟨8, _⟩ => ⟨S1x64x6144, .f32⟩
  | .local _ .vmem, ⟨9, _⟩ => ⟨S1x64x6144, .f32⟩
  | .local _ .vmem, ⟨10, _⟩ => ⟨S1x64x6144, .f32⟩
  | .local _ .vmem, ⟨11, _⟩ => ⟨S1x64x6144, .f32⟩
  | .local _ .vmem, ⟨12, _⟩ => ⟨S1x64x6144, .f32⟩
  | .local _ .vmem, ⟨13, _⟩ => ⟨S1x64x6144, .f32⟩
  | _, _ => ⟨S1x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModRefIdeal.lean ====
abbrev S1x4096x6144 : Shape := ⟨3, ![1, 4096, 6144]⟩
abbrev S4096x6144 : Shape := ⟨2, ![4096, 6144]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x4096x6144, .f32⟩
  | .hbm, ⟨1, _⟩ => ⟨S4096x6144, .f32⟩
  | .hbm, ⟨2, _⟩ => ⟨S1x4096x6144, .f32⟩
  | .hbm, ⟨3, _⟩ => ⟨S1x4096x6144, .f32⟩
  | .hbm, ⟨4, _⟩ => ⟨S1x4096x6144, .f32⟩
  | .hbm, ⟨5, _⟩ => ⟨S_, .f32⟩
  | .hbm, ⟨6, _⟩ => ⟨S1x4096x6144, .f32⟩
  | .hbm, ⟨7, _⟩ => ⟨S1x4096x6144, .f32⟩
  | .hbm, ⟨8, _⟩ => ⟨S_, .f32⟩
  | .hbm, ⟨9, _⟩ => ⟨S1x4096x6144, .f32⟩
  | .hbm, ⟨10, _⟩ => ⟨S1x4096x6144, .f32⟩
  | .hbm, ⟨11, _⟩ => ⟨S1x4096x6144, .f32⟩
  | .hbm, ⟨12, _⟩ => ⟨S_, .f32⟩
  | .hbm, ⟨13, _⟩ => ⟨S1x4096x6144, .f32⟩
  | .hbm, ⟨14, _⟩ => ⟨S1x4096x6144, .f32⟩
  | .hbm, ⟨15, _⟩ => ⟨S1x4096x6144, .f32⟩
  | .hbm, ⟨16, _⟩ => ⟨S_, .f32⟩
  | .hbm, ⟨17, _⟩ => ⟨S1x4096x6144, .f32⟩
  | .hbm, ⟨18, _⟩ => ⟨S1x4096x6144, .f32⟩
  | .hbm, ⟨19, _⟩ => ⟨S1x4096x6144, .f32⟩
  | .hbm, ⟨20, _⟩ => ⟨S_, .f32⟩
  | .hbm, ⟨21, _⟩ => ⟨S1x4096x6144, .f32⟩
  | .hbm, ⟨22, _⟩ => ⟨S1x4096x6144, .f32⟩
  | .hbm, ⟨23, _⟩ => ⟨S_, .f32⟩
  | .hbm, ⟨24, _⟩ => ⟨S1x4096x6144, .f32⟩
  | .hbm, ⟨25, _⟩ => ⟨S1x4096x6144, .f32⟩
  | .hbm, ⟨26, _⟩ => ⟨S1x4096x6144, .f32⟩
  | .hbm, ⟨27, _⟩ => ⟨S_, .f32⟩
  | .hbm, ⟨28, _⟩ => ⟨S1x4096x6144, .f32⟩
  | .hbm, ⟨29, _⟩ => ⟨S1x4096x6144, .f32⟩
  | .hbm, ⟨30, _⟩ => ⟨S1x4096x6144, .f32⟩
  | .hbm, ⟨31, _⟩ => ⟨S_, .f32⟩
  | .hbm, ⟨32, _⟩ => ⟨S1x4096x6144, .f32⟩
  | .hbm, ⟨33, _⟩ => ⟨S1x4096x6144, .f32⟩
  | .hbm, ⟨34, _⟩ => ⟨S1x4096x6144, .f32⟩
  | .hbm, ⟨35, _⟩ => ⟨S_, .f32⟩
  | .hbm, ⟨36, _⟩ => ⟨S1x4096x6144, .f32⟩
  | .hbm, ⟨37, _⟩ => ⟨S1x4096x6144, .f32⟩
  | _, _ => ⟨S1x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamMlp.lean ====
abbrev S1x4096x4096 : Shape := ⟨3, ![1, 4096, 4096]⟩
abbrev S4096x4096 : Shape := ⟨2, ![4096, 4096]⟩
abbrev S1x128x4096 : Shape := ⟨3, ![1, 128, 4096]⟩
abbrev S128x4096 : Shape := ⟨2, ![128, 4096]⟩

abbrev nBuf : Space → Nat
  | .hbm => 9
  | .vmem => 16
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S1x4096x4096, .f32⟩
  | .hbm, ⟨3, _⟩ => ⟨S1x4096x4096, .f32⟩
  | .hbm, ⟨4, _⟩ => ⟨S1x4096x4096, .f32⟩
  | .hbm, ⟨5, _⟩ => ⟨S1x4096x4096, .f32⟩
  | .hbm, ⟨6, _⟩ => ⟨S1x4096x4096, .f32⟩
  | .hbm, ⟨7, _⟩ => ⟨S1x4096x4096, .f32⟩
  | .hbm, ⟨8, _⟩ => ⟨S1x4096x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S1x128x4096, .f32⟩
  | .local _ .vmem, ⟨7, _⟩ => ⟨S1x128x4096, .f32⟩
  | .local _ .vmem, ⟨8, _⟩ => ⟨S1x128x4096, .f32⟩
  | .local _ .vmem, ⟨9, _⟩ => ⟨S1x128x4096, .f32⟩
  | .local _ .vmem, ⟨10, _⟩ => ⟨S1x128x4096, .f32⟩
  | .local _ .vmem, ⟨11, _⟩ => ⟨S1x128x4096, .f32⟩
  | .local _ .vmem, ⟨12, _⟩ => ⟨S1x128x4096, .f32⟩
  | .local _ .vmem, ⟨13, _⟩ => ⟨S1x128x4096, .f32⟩
  | .local _ .vmem, ⟨14, _⟩ => ⟨S1x128x4096, .f32⟩
  | .local _ .vmem, ⟨15, _⟩ => ⟨S1x128x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlpRefIdeal.lean ====
abbrev S1x4096x4096 : Shape := ⟨3, ![1, 4096, 4096]⟩
abbrev S4096x4096 : Shape := ⟨2, ![4096, 4096]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S1x4096x4096, .f32⟩
  | .hbm, ⟨3, _⟩ => ⟨S1x4096x4096, .f32⟩
  | .hbm, ⟨4, _⟩ => ⟨S1x4096x4096, .f32⟩
  | .hbm, ⟨5, _⟩ => ⟨S_, .f32⟩
  | .hbm, ⟨6, _⟩ => ⟨S1x4096x4096, .f32⟩
  | .hbm, ⟨7, _⟩ => ⟨S1x4096x4096, .f32⟩
  | .hbm, ⟨8, _⟩ => ⟨S_, .f32⟩
  | .hbm, ⟨9, _⟩ => ⟨S1x4096x4096, .f32⟩
  | .hbm, ⟨10, _⟩ => ⟨S1x4096x4096, .f32⟩
  | .hbm, ⟨11, _⟩ => ⟨S1x4096x4096, .f32⟩
  | .hbm, ⟨12, _⟩ => ⟨S_, .f32⟩
  | .hbm, ⟨13, _⟩ => ⟨S1x4096x4096, .f32⟩
  | .hbm, ⟨14, _⟩ => ⟨S1x4096x4096, .f32⟩
  | .hbm, ⟨15, _⟩ => ⟨S1x4096x4096, .f32⟩
  | .hbm, ⟨16, _⟩ => ⟨S_, .f32⟩
  | .hbm, ⟨17, _⟩ => ⟨S1x4096x4096, .f32⟩
  | .hbm, ⟨18, _⟩ => ⟨S1x4096x4096, .f32⟩
  | .hbm, ⟨19, _⟩ => ⟨S1x4096x4096, .f32⟩
  | .hbm, ⟨20, _⟩ => ⟨S_, .f32⟩
  | .hbm, ⟨21, _⟩ => ⟨S1x4096x4096, .f32⟩
  | .hbm, ⟨22, _⟩ => ⟨S1x4096x4096, .f32⟩
  | .hbm, ⟨23, _⟩ => ⟨S_, .f32⟩
  | .hbm, ⟨24, _⟩ => ⟨S1x4096x4096, .f32⟩
  | .hbm, ⟨25, _⟩ => ⟨S1x4096x4096, .f32⟩
  | .hbm, ⟨26, _⟩ => ⟨S1x4096x4096, .f32⟩
  | .hbm, ⟨27, _⟩ => ⟨S_, .f32⟩
  | .hbm, ⟨28, _⟩ => ⟨S1x4096x4096, .f32⟩
  | .hbm, ⟨29, _⟩ => ⟨S1x4096x4096, .f32⟩
  | .hbm, ⟨30, _⟩ => ⟨S1x4096x4096, .f32⟩
  | .hbm, ⟨31, _⟩ => ⟨S_, .f32⟩
  | .hbm, ⟨32, _⟩ => ⟨S1x4096x4096, .f32⟩
  | .hbm, ⟨33, _⟩ => ⟨S1x4096x4096, .f32⟩
  | .hbm, ⟨34, _⟩ => ⟨S1x4096x4096, .f32⟩
  | .hbm, ⟨35, _⟩ => ⟨S_, .f32⟩
  | .hbm, ⟨36, _⟩ => ⟨S1x4096x4096, .f32⟩
  | .hbm, ⟨37, _⟩ => ⟨S1x4096x4096, .f32⟩
  | .hbm, ⟨38, _⟩ => ⟨S1x4096x4096, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamIn.lean ====
abbrev S1x4096x3088 : Shape := ⟨3, ![1, 4096, 3088]⟩
abbrev S3088x4096 : Shape := ⟨2, ![3088, 4096]⟩
abbrev S4096x3088 : Shape := ⟨2, ![4096, 3088]⟩
abbrev S3088x128 : Shape := ⟨2, ![3088, 128]⟩

abbrev nBuf : Space → Nat
  | .hbm => 14
  | .vmem => 16
  | .smem => 0
  | _ => 0

abbrev bufTy : (tb : Table) → Fin (tcTables nBuf tb) → BufTy
  | .hbm, ⟨0, _⟩ => ⟨S1x4096x3088, .f32⟩
  | .hbm, ⟨1, _⟩ => ⟨S3088x4096, .f32⟩
  | .hbm, ⟨2, _⟩ => ⟨S1x4096x3088, .f32⟩
  | .hbm, ⟨3, _⟩ => ⟨S1x4096x3088, .f32⟩
  | .hbm, ⟨4, _⟩ => ⟨S4096x3088, .f32⟩
  | .hbm, ⟨5, _⟩ => ⟨S3088x4096, .f32⟩
  | .hbm, ⟨6, _⟩ => ⟨S4096x3088, .f32⟩
  | .hbm, ⟨7, _⟩ => ⟨S3088x4096, .f32⟩
  | .hbm, ⟨8, _⟩ => ⟨S4096x3088, .f32⟩
  | .hbm, ⟨9, _⟩ => ⟨S3088x4096, .f32⟩
  | .hbm, ⟨10, _⟩ => ⟨S3088x4096, .f32⟩
  | .hbm, ⟨11, _⟩ => ⟨S3088x4096, .f32⟩
  | .hbm, ⟨12, _⟩ => ⟨S3088x4096, .f32⟩
  | .hbm, ⟨13, _⟩ => ⟨S3088x4096, .f32⟩
  | .local _ .vmem, ⟨0, _⟩ => ⟨S3088x128, .f32⟩
  | .local _ .vmem, ⟨1, _⟩ => ⟨S3088x128, .f32⟩
  | .local _ .vmem, ⟨2, _⟩ => ⟨S3088x128, .f32⟩
  | .local _ .vmem, ⟨3, _⟩ => ⟨S3088x128, .f32⟩
  | .local _ .vmem, ⟨4, _⟩ => ⟨S3088x128, .f32⟩
  | .local _ .vmem, ⟨5, _⟩ => ⟨S3088x128, .f32⟩
  | .local _ .vmem, ⟨6, _⟩ => ⟨S3088x128, .f32⟩
  | .local _ .vmem, ⟨7, _⟩ => ⟨S3088x128, .f32⟩
  | .local _ .vmem, ⟨8, _⟩ => ⟨S3088x128, .f32⟩
  | .local _ .vmem, ⟨9, _⟩ => ⟨S3088x128, .f32⟩
  | .local _ .vmem, ⟨10, _⟩ => ⟨S3088x128, .f32⟩
  | .local _ .vmem, ⟨11, _⟩ => ⟨S3088x128, .f32⟩
  | .local _ .vmem, ⟨12, _⟩ => ⟨S3088x128, .f32⟩
  | .local _ .vmem, ⟨13, _⟩ => ⟨S3088x128, .f32⟩
  | .local _ .vmem, ⟨14, _⟩ => ⟨S3088x128, .f32⟩
  | .local _ .vmem, ⟨15, _⟩ => ⟨S3088x128, .f32⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3088x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3088x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1x4096x3088 : Shape := ⟨3, ![1, 4096, 3088]⟩
abbrev S3088x4096 : Shape := ⟨2, ![3088, 4096]⟩
abbrev S4096x3088 : Shape := ⟨2, ![4096, 3088]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x4096x3088, .f32⟩
  | .hbm, ⟨1, _⟩ => ⟨S3088x4096, .f32⟩
  | .hbm, ⟨2, _⟩ => ⟨S1x4096x3088, .f32⟩
  | .hbm, ⟨3, _⟩ => ⟨S1x4096x3088, .f32⟩
  | .hbm, ⟨4, _⟩ => ⟨S4096x3088, .f32⟩
  | .hbm, ⟨5, _⟩ => ⟨S1x4096x3088, .f32⟩
  | .hbm, ⟨6, _⟩ => ⟨S_, .f32⟩
  | .hbm, ⟨7, _⟩ => ⟨S1x4096x3088, .f32⟩
  | .hbm, ⟨8, _⟩ => ⟨S1x4096x3088, .f32⟩
  | .hbm, ⟨9, _⟩ => ⟨S_, .f32⟩
  | .hbm, ⟨10, _⟩ => ⟨S1x4096x3088, .f32⟩
  | .hbm, ⟨11, _⟩ => ⟨S1x4096x3088, .f32⟩
  | .hbm, ⟨12, _⟩ => ⟨S1x4096x3088, .f32⟩
  | .hbm, ⟨13, _⟩ => ⟨S_, .f32⟩
  | .hbm, ⟨14, _⟩ => ⟨S1x4096x3088, .f32⟩
  | .hbm, ⟨15, _⟩ => ⟨S1x4096x3088, .f32⟩
  | .hbm, ⟨16, _⟩ => ⟨S1x4096x3088, .f32⟩
  | .hbm, ⟨17, _⟩ => ⟨S_, .f32⟩
  | .hbm, ⟨18, _⟩ => ⟨S1x4096x3088, .f32⟩
  | .hbm, ⟨19, _⟩ => ⟨S1x4096x3088, .f32⟩
  | .hbm, ⟨20, _⟩ => ⟨S1x4096x3088, .f32⟩
  | .hbm, ⟨21, _⟩ => ⟨S_, .f32⟩
  | .hbm, ⟨22, _⟩ => ⟨S1x4096x3088, .f32⟩
  | .hbm, ⟨23, _⟩ => ⟨S1x4096x3088, .f32⟩
  | .hbm, ⟨24, _⟩ => ⟨S_, .f32⟩
  | .hbm, ⟨25, _⟩ => ⟨S1x4096x3088, .f32⟩
  | .hbm, ⟨26, _⟩ => ⟨S1x4096x3088, .f32⟩
  | .hbm, ⟨27, _⟩ => ⟨S1x4096x3088, .f32⟩
  | .hbm, ⟨28, _⟩ => ⟨S_, .f32⟩
  | .hbm, ⟨29, _⟩ => ⟨S1x4096x3088, .f32⟩
  | .hbm, ⟨30, _⟩ => ⟨S1x4096x3088, .f32⟩
  | .hbm, ⟨31, _⟩ => ⟨S1x4096x3088, .f32⟩
  | .hbm, ⟨32, _⟩ => ⟨S_, .f32⟩
  | .hbm, ⟨33, _⟩ => ⟨S1x4096x3088, .f32⟩
  | .hbm, ⟨34, _⟩ => ⟨S1x4096x3088, .f32⟩
  | .hbm, ⟨35, _⟩ => ⟨S1x4096x3088, .f32⟩
  | .hbm, ⟨36, _⟩ => ⟨S_, .f32⟩
  | .hbm, ⟨37, _⟩ => ⟨S1x4096x3088, .f32⟩
  | .hbm, ⟨38, _⟩ => ⟨S1x4096x3088, .f32⟩
  | .hbm, ⟨39, _⟩ => ⟨S4096x3088, .f32⟩
  | .hbm, ⟨40, _⟩ => ⟨S3088x4096, .f32⟩
  | .hbm, ⟨41, _⟩ => ⟨S4096x3088, .f32⟩
  | .hbm, ⟨42, _⟩ => ⟨S3088x4096, .f32⟩
  | .hbm, ⟨43, _⟩ => ⟨S4096x3088, .f32⟩
  | .hbm, ⟨44, _⟩ => ⟨S3088x4096, .f32⟩
  | _, _ => ⟨S1x4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== AdamOut.lean ====
abbrev S1x1024x4096 : Shape := ⟨3, ![1, 1024, 4096]⟩
abbrev S1024x4096 : Shape := ⟨2, ![1024, 4096]⟩
abbrev S1x128x4096 : Shape := ⟨3, ![1, 128, 4096]⟩
abbrev S128x4096 : Shape := ⟨2, ![128, 4096]⟩

abbrev nBuf : Space → Nat
  | .hbm => 9
  | .vmem => 16
  | .smem => 0
  | _ => 0

abbrev bufTy : (tb : Table) → Fin (tcTables nBuf tb) → BufTy
  | .hbm, ⟨0, _⟩ => ⟨S1x1024x4096, .f32⟩
  | .hbm, ⟨1, _⟩ => ⟨S1024x4096, .f32⟩
  | .hbm, ⟨2, _⟩ => ⟨S1x1024x4096, .f32⟩
  | .hbm, ⟨3, _⟩ => ⟨S1x1024x4096, .f32⟩
  | .hbm, ⟨4, _⟩ => ⟨S1x1024x4096, .f32⟩
  | .hbm, ⟨5, _⟩ => ⟨S1x1024x4096, .f32⟩
  | .hbm, ⟨6, _⟩ => ⟨S1x1024x4096, .f32⟩
  | .hbm, ⟨7, _⟩ => ⟨S1x1024x4096, .f32⟩
  | .hbm, ⟨8, _⟩ => ⟨S1x1024x4096, .f32⟩
  | .local _ .vmem, ⟨0, _⟩ => ⟨S1x128x4096, .f32⟩
  | .local _ .vmem, ⟨1, _⟩ => ⟨S1x128x4096, .f32⟩
  | .local _ .vmem, ⟨2, _⟩ => ⟨S1x128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S1x128x4096, .f32⟩
  | .local _ .vmem, ⟨7, _⟩ => ⟨S1x128x4096, .f32⟩
  | .local _ .vmem, ⟨8, _⟩ => ⟨S1x128x4096, .f32⟩
  | .local _ .vmem, ⟨9, _⟩ => ⟨S1x128x4096, .f32⟩
  | .local _ .vmem, ⟨10, _⟩ => ⟨S1x128x4096, .f32⟩
  | .local _ .vmem, ⟨11, _⟩ => ⟨S1x128x4096, .f32⟩
  | .local _ .vmem, ⟨12, _⟩ => ⟨S1x128x4096, .f32⟩
  | .local _ .vmem, ⟨13, _⟩ => ⟨S1x128x4096, .f32⟩
  | .local _ .vmem, ⟨14, _⟩ => ⟨S1x128x4096, .f32⟩
  | .local _ .vmem, ⟨15, _⟩ => ⟨S1x128x4096, .f32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S1x1024x4096 : Shape := ⟨3, ![1, 1024, 4096]⟩
abbrev S1024x4096 : Shape := ⟨2, ![1024, 4096]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x4096, .f32⟩
  | .hbm, ⟨1, _⟩ => ⟨S1024x4096, .f32⟩
  | .hbm, ⟨2, _⟩ => ⟨S1x1024x4096, .f32⟩
  | .hbm, ⟨3, _⟩ => ⟨S1x1024x4096, .f32⟩
  | .hbm, ⟨4, _⟩ => ⟨S1x1024x4096, .f32⟩
  | .hbm, ⟨5, _⟩ => ⟨S_, .f32⟩
  | .hbm, ⟨6, _⟩ => ⟨S1x1024x4096, .f32⟩
  | .hbm, ⟨7, _⟩ => ⟨S1x1024x4096, .f32⟩
  | .hbm, ⟨8, _⟩ => ⟨S_, .f32⟩
  | .hbm, ⟨9, _⟩ => ⟨S1x1024x4096, .f32⟩
  | .hbm, ⟨10, _⟩ => ⟨S1x1024x4096, .f32⟩
  | .hbm, ⟨11, _⟩ => ⟨S1x1024x4096, .f32⟩
  | .hbm, ⟨12, _⟩ => ⟨S_, .f32⟩
  | .hbm, ⟨13, _⟩ => ⟨S1x1024x4096, .f32⟩
  | .hbm, ⟨14, _⟩ => ⟨S1x1024x4096, .f32⟩
  | .hbm, ⟨15, _⟩ => ⟨S1x1024x4096, .f32⟩
  | .hbm, ⟨16, _⟩ => ⟨S_, .f32⟩
  | .hbm, ⟨17, _⟩ => ⟨S1x1024x4096, .f32⟩
  | .hbm, ⟨18, _⟩ => ⟨S1x1024x4096, .f32⟩
  | .hbm, ⟨19, _⟩ => ⟨S1x1024x4096, .f32⟩
  | .hbm, ⟨20, _⟩ => ⟨S_, .f32⟩
  | .hbm, ⟨21, _⟩ => ⟨S1x1024x4096, .f32⟩
  | .hbm, ⟨22, _⟩ => ⟨S1x1024x4096, .f32⟩
  | .hbm, ⟨23, _⟩ => ⟨S_, .f32⟩
  | .hbm, ⟨24, _⟩ => ⟨S1x1024x4096, .f32⟩
  | .hbm, ⟨25, _⟩ => ⟨S1x1024x4096, .f32⟩
  | .hbm, ⟨26, _⟩ => ⟨S1x1024x4096, .f32⟩
  | .hbm, ⟨27, _⟩ => ⟨S_, .f32⟩
  | .hbm, ⟨28, _⟩ => ⟨S1x1024x4096, .f32⟩
  | .hbm, ⟨29, _⟩ => ⟨S1x1024x4096, .f32⟩
  | .hbm, ⟨30, _⟩ => ⟨S1x1024x4096, .f32⟩
  | .hbm, ⟨31, _⟩ => ⟨S_, .f32⟩
  | .hbm, ⟨32, _⟩ => ⟨S1x1024x4096, .f32⟩
  | .hbm, ⟨33, _⟩ => ⟨S1x1024x4096, .f32⟩
  | .hbm, ⟨34, _⟩ => ⟨S1x1024x4096, .f32⟩
  | .hbm, ⟨35, _⟩ => ⟨S_, .f32⟩
  | .hbm, ⟨36, _⟩ => ⟨S1x1024x4096, .f32⟩
  | .hbm, ⟨37, _⟩ => ⟨S1x1024x4096, .f32⟩
  | .hbm, ⟨38, _⟩ => ⟨S1x1024x4096, .f32⟩
  | _, _ => ⟨S1x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamSmall.lean ====
abbrev S4096 : Shape := ⟨1, ![4096]⟩
abbrev S1x24576 : Shape := ⟨2, ![1, 24576]⟩
abbrev S1x7x1536 : Shape := ⟨3, ![1, 7, 1536]⟩
abbrev S1x16 : Shape := ⟨2, ![1, 16]⟩
abbrev S1x128 : Shape := ⟨2, ![1, 128]⟩
abbrev S1x31x512 : Shape := ⟨3, ![1, 31, 512]⟩
abbrev S1x2048 : Shape := ⟨2, ![1, 2048]⟩
abbrev S1x4096 : Shape := ⟨2, ![1, 4096]⟩
abbrev S1x16384 : Shape := ⟨2, ![1, 16384]⟩
abbrev S24576 : Shape := ⟨1, ![24576]⟩
abbrev S10752 : Shape := ⟨1, ![10752]⟩
abbrev S16 : Shape := ⟨1, ![16]⟩
abbrev S128 : Shape := ⟨1, ![128]⟩
abbrev S15872 : Shape := ⟨1, ![15872]⟩
abbrev S2048 : Shape := ⟨1, ![2048]⟩
abbrev S16384 : Shape := ⟨1, ![16384]⟩
abbrev S78016 : Shape := ⟨1, ![78016]⟩
abbrev S28672 : Shape := ⟨1, ![28672]⟩
abbrev S106688 : Shape := ⟨1, ![106688]⟩
abbrev S_ : Shape := ⟨0, ![]⟩
abbrev S107520 : Shape := ⟨1, ![107520]⟩
abbrev S8x13440 : Shape := ⟨2, ![8, 13440]⟩

abbrev nBuf : Space → Nat
  | .hbm => 179
  | .vmem => 7
  | .smem => 0
  | _ => 0

abbrev hbmTy0_0 (i : Nat) : BufTy := match i % 128 with
  | 0 => ⟨S4096, .f32⟩
  | 1 => ⟨S4096, .f32⟩
  | 2 => ⟨S4096, .f32⟩
  | 3 => ⟨S1x24576, .f32⟩
  | 4 => ⟨S1x7x1536, .f32⟩
  | 5 => ⟨S1x16, .f32⟩
  | 6 => ⟨S1x16, .f32⟩
  | 7 => ⟨S1x16, .f32⟩
  | 8 => ⟨S1x16, .f32⟩
  | 9 => ⟨S1x128, .f32⟩
  | 10 => ⟨S1x31x512, .f32⟩
  | 11 => ⟨S1x2048, .f32⟩
  | 12 => ⟨S1x2048, .f32⟩
  | 13 => ⟨S1x2048, .f32⟩
  | 14 => ⟨S1x4096, .f32⟩
  | 15 => ⟨S1x4096, .f32⟩
  | 16 => ⟨S1x16384, .f32⟩
  | 17 => ⟨S1x4096, .f32⟩
  | 18 => ⟨S1x4096, .f32⟩
  | 19 => ⟨S1x4096, .f32⟩
  | 20 => ⟨S4096, .f32⟩
  | 21 => ⟨S4096, .f32⟩
  | 22 => ⟨S4096, .f32⟩
  | 23 => ⟨S1x24576, .f32⟩
  | 24 => ⟨S1x7x1536, .f32⟩
  | 25 => ⟨S1x16, .f32⟩
  | 26 => ⟨S1x16, .f32⟩
  | 27 => ⟨S1x16, .f32⟩
  | 28 => ⟨S1x16, .f32⟩
  | 29 => ⟨S1x128, .f32⟩
  | 30 => ⟨S1x31x512, .f32⟩
  | 31 => ⟨S1x2048, .f32⟩
  | 32 => ⟨S1x2048, .f32⟩
  | 33 => ⟨S1x2048, .f32⟩
  | 34 => ⟨S1x4096, .f32⟩
  | 35 => ⟨S1x4096, .f32⟩
  | 36 => ⟨S1x16384, .f32⟩
  | 37 => ⟨S1x4096, .f32⟩
  | 38 => ⟨S1x4096, .f32⟩
  | 39 => ⟨S1x4096, .f32⟩
  | 40 => ⟨S4096, .f32⟩
  | 41 => ⟨S4096, .f32⟩
  | 42 => ⟨S4096, .f32⟩
  | 43 => ⟨S1x24576, .f32⟩
  | 44 => ⟨S1x7x1536, .f32⟩
  | 45 => ⟨S1x16, .f32⟩
  | 46 => ⟨S1x16, .f32⟩
  | 47 => ⟨S1x16, .f32⟩
  | 48 => ⟨S1x16, .f32⟩
  | 49 => ⟨S1x128, .f32⟩
  | 50 => ⟨S1x31x512, .f32⟩
  | 51 => ⟨S1x2048, .f32⟩
  | 52 => ⟨S1x2048, .f32⟩
  | 53 => ⟨S1x2048, .f32⟩
  | 54 => ⟨S1x4096, .f32⟩
  | 55 => ⟨S1x4096, .f32⟩
  | 56 => ⟨S1x16384, .f32⟩
  | 57 => ⟨S1x4096, .f32⟩
  | 58 => ⟨S1x4096, .f32⟩
  | 59 => ⟨S1x4096, .f32⟩
  | 60 => ⟨S4096, .f32⟩
  | 61 => ⟨S4096, .f32⟩
  | 62 => ⟨S4096, .f32⟩
  | 63 => ⟨S1x24576, .f32⟩
  | 64 => ⟨S1x7x1536, .f32⟩
  | 65 => ⟨S1x16, .f32⟩
  | 66 => ⟨S1x16, .f32⟩
  | 67 => ⟨S1x16, .f32⟩
  | 68 => ⟨S1x16, .f32⟩
  | 69 => ⟨S1x128, .f32⟩
  | 70 => ⟨S1x31x512, .f32⟩
  | 71 => ⟨S1x2048, .f32⟩
  | 72 => ⟨S1x2048, .f32⟩
  | 73 => ⟨S1x2048, .f32⟩
  | 74 => ⟨S1x4096, .f32⟩
  | 75 => ⟨S1x4096, .f32⟩
  | 76 => ⟨S1x16384, .f32⟩
  | 77 => ⟨S1x4096, .f32⟩
  | 78 => ⟨S1x4096, .f32⟩
  | 79 => ⟨S1x4096, .f32⟩
  | 80 => ⟨S24576, .f32⟩
  | 81 => ⟨S10752, .f32⟩
  | 82 => ⟨S16, .f32⟩
  | 83 => ⟨S16, .f32⟩
  | 84 => ⟨S16, .f32⟩
  | 85 => ⟨S16, .f32⟩
  | 86 => ⟨S128, .f32⟩
  | 87 => ⟨S15872, .f32⟩
  | 88 => ⟨S2048, .f32⟩
  | 89 => ⟨S2048, .f32⟩
  | 90 => ⟨S2048, .f32⟩
  | 91 => ⟨S4096, .f32⟩
  | 92 => ⟨S4096, .f32⟩
  | 93 => ⟨S16384, .f32⟩
  | 94 => ⟨S4096, .f32⟩
  | 95 => ⟨S4096, .f32⟩
  | 96 => ⟨S4096, .f32⟩
  | 97 => ⟨S78016, .f32⟩
  | 98 => ⟨S28672, .f32⟩
  | 99 => ⟨S106688, .f32⟩
  | 100 => ⟨S_, .i32⟩
  | 101 => ⟨S_, .f32⟩
  | 102 => ⟨S107520, .f32⟩
  | 103 => ⟨S8x13440, .f32⟩
  | 104 => ⟨S24576, .f32⟩
  | 105 => ⟨S10752, .f32⟩
  | 106 => ⟨S16, .f32⟩
  | 107 => ⟨S16, .f32⟩
  | 108 => ⟨S16, .f32⟩
  | 109 => ⟨S16, .f32⟩
  | 110 => ⟨S128, .f32⟩
  | 111 => ⟨S15872, .f32⟩
  | 112 => ⟨S2048, .f32⟩
  | 113 => ⟨S2048, .f32⟩
  | 114 => ⟨S2048, .f32⟩
  | 115 => ⟨S4096, .f32⟩
  | 116 => ⟨S4096, .f32⟩
  | 117 => ⟨S16384, .f32⟩
  | 118 => ⟨S4096, .f32⟩
  | 119 => ⟨S4096, .f32⟩
  | 120 => ⟨S4096, .f32⟩
  | 121 => ⟨S78016, .f32⟩
  | 122 => ⟨S28672, .f32⟩
  | 123 => ⟨S106688, .f32⟩
  | 124 => ⟨S_, .i32⟩
  | 125 => ⟨S_, .f32⟩
  | 126 => ⟨S107520, .f32⟩
  | 127 => ⟨S8x13440, .f32⟩
  | _ => ⟨S4096, .f32⟩

abbrev hbmTy0_1 (i : Nat) : BufTy := match i % 128 with
  | 0 => ⟨S24576, .f32⟩
  | 1 => ⟨S10752, .f32⟩
  | 2 => ⟨S16, .f32⟩
  | 3 => ⟨S16, .f32⟩
  | 4 => ⟨S16, .f32⟩
  | 5 => ⟨S16, .f32⟩
  | 6 => ⟨S128, .f32⟩
  | 7 => ⟨S15872, .f32⟩
  | 8 => ⟨S2048, .f32⟩
  | 9 => ⟨S2048, .f32⟩
  | 10 => ⟨S2048, .f32⟩
  | 11 => ⟨S4096, .f32⟩
  | 12 => ⟨S4096, .f32⟩
  | 13 => ⟨S16384, .f32⟩
  | 14 => ⟨S4096, .f32⟩
  | 15 => ⟨S4096, .f32⟩
  | 16 => ⟨S4096, .f32⟩
  | 17 => ⟨S78016, .f32⟩
  | 18 => ⟨S28672, .f32⟩
  | 19 => ⟨S106688, .f32⟩
  | 20 => ⟨S_, .i32⟩
  | 21 => ⟨S_, .f32⟩
  | 22 => ⟨S107520, .f32⟩
  | 23 => ⟨S8x13440, .f32⟩
  | 24 => ⟨S24576, .f32⟩
  | 25 => ⟨S10752, .f32⟩
  | 26 => ⟨S16, .f32⟩
  | 27 => ⟨S16, .f32⟩
  | 28 => ⟨S16, .f32⟩
  | 29 => ⟨S16, .f32⟩
  | 30 => ⟨S128, .f32⟩
  | 31 => ⟨S15872, .f32⟩
  | 32 => ⟨S2048, .f32⟩
  | 33 => ⟨S2048, .f32⟩
  | 34 => ⟨S2048, .f32⟩
  | 35 => ⟨S4096, .f32⟩
  | 36 => ⟨S4096, .f32⟩
  | 37 => ⟨S16384, .f32⟩
  | 38 => ⟨S4096, .f32⟩
  | 39 => ⟨S4096, .f32⟩
  | 40 => ⟨S4096, .f32⟩
  | 41 => ⟨S78016, .f32⟩
  | 42 => ⟨S28672, .f32⟩
  | 43 => ⟨S106688, .f32⟩
  | 44 => ⟨S_, .i32⟩
  | 45 => ⟨S_, .f32⟩
  | 46 => ⟨S107520, .f32⟩
  | 47 => ⟨S8x13440, .f32⟩
  | 48 => ⟨S8x13440, .f32⟩
  | 49 => ⟨S8x13440, .f32⟩
  | 50 => ⟨S8x13440, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | .local _ .vmem, ⟨0, _⟩ => ⟨S8x13440, .f32⟩
  | .local _ .vmem, ⟨1, _⟩ => ⟨S8x13440, .f32⟩
  | .local _ .vmem, ⟨2, _⟩ => ⟨S8x13440, .f32⟩
  | .local _ .vmem, ⟨3, _⟩ => ⟨S8x13440, .f32⟩
  | .local _ .vmem, ⟨4, _⟩ => ⟨S8x13440, .f32⟩
  | .local _ .vmem, ⟨5, _⟩ => ⟨S8x13440, .f32⟩
  | .local _ .vmem, ⟨6, _⟩ => ⟨S8x13440, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_v0 : Ref sig .tc := ⟨.hbm, 80, rfl⟩
abbrev main_v1 : Ref sig .tc := ⟨.hbm, 81, rfl⟩
abbrev main_v2 : Ref sig .tc := ⟨.hbm, 82, rfl⟩
abbrev main_v3 : Ref sig .tc := ⟨.hbm, 83, rfl⟩
abbrev main_v4 : Ref sig .tc := ⟨.hbm, 84, rfl⟩
abbrev main_v5 : Ref sig .tc := ⟨.hbm, 85, rfl⟩
abbrev main_v6 : Ref sig .tc := ⟨.hbm, 86, rfl⟩
abbrev main_v7 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_c : Ref sig .tc := ⟨.hbm, 100, rfl⟩
abbrev main_call0_v0 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_c_0 : Ref sig .tc := ⟨.hbm, 124, rfl⟩
abbrev main_call1_v0 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_c_1 : Ref sig .tc := ⟨.hbm, 148, rfl⟩
abbrev main_call2_v0 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_c_2 : Ref sig .tc := ⟨.hbm, 172, rfl⟩
abbrev main_call3_v0 : Ref sig .tc := ⟨.hbm, 173, rfl⟩
abbrev main_v86 : Ref sig .tc := ⟨.hbm, 174, rfl⟩
abbrev main_v87 : Ref sig .tc := ⟨.hbm, 175, rfl⟩
abbrev main_v88_0 : Ref sig .tc := ⟨.hbm, 176, rfl⟩
abbrev main_v88_1 : Ref sig .tc := ⟨.hbm, 177, rfl⟩
abbrev main_v88_2 : Ref sig .tc := ⟨.hbm, 178, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x13440 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x13440 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x13440 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x13440 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x13440 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x13440 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x13440 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S4096 : Shape := ⟨1, ![4096]⟩
abbrev S1x24576 : Shape := ⟨2, ![1, 24576]⟩
abbrev S1x7x1536 : Shape := ⟨3, ![1, 7, 1536]⟩
abbrev S1x16 : Shape := ⟨2, ![1, 16]⟩
abbrev S1x128 : Shape := ⟨2, ![1, 128]⟩
abbrev S1x31x512 : Shape := ⟨3, ![1, 31, 512]⟩
abbrev S1x2048 : Shape := ⟨2, ![1, 2048]⟩
abbrev S1x4096 : Shape := ⟨2, ![1, 4096]⟩
abbrev S1x16384 : Shape := ⟨2, ![1, 16384]⟩
abbrev S_ : Shape := ⟨0, ![]⟩
abbrev S24576 : Shape := ⟨1, ![24576]⟩
abbrev S10752 : Shape := ⟨1, ![10752]⟩
abbrev S16 : Shape := ⟨1, ![16]⟩
abbrev S128 : Shape := ⟨1, ![128]⟩
abbrev S15872 : Shape := ⟨1, ![15872]⟩
abbrev S2048 : Shape := ⟨1, ![2048]⟩
abbrev S16384 : Shape := ⟨1, ![16384]⟩
abbrev S832 : Shape := ⟨1, ![832]⟩
abbrev S78016 : Shape := ⟨1, ![78016]⟩
abbrev S29504 : Shape := ⟨1, ![29504]⟩
abbrev S107520 : Shape := ⟨1, ![107520]⟩
abbrev S8x13440 : Shape := ⟨2, ![8, 13440]⟩

abbrev nBuf : Space → Nat
  | .hbm => 809
  | .vmem => 0
  | .smem => 0
  | _ => 0

abbrev hbmTy0_0 (i : Nat) : BufTy := match i % 128 with
  | 0 => ⟨S4096, .f32⟩
  | 1 => ⟨S4096, .f32⟩
  | 2 => ⟨S4096, .f32⟩
  | 3 => ⟨S1x24576, .f32⟩
  | 4 => ⟨S1x7x1536, .f32⟩
  | 5 => ⟨S1x16, .f32⟩
  | 6 => ⟨S1x16, .f32⟩
  | 7 => ⟨S1x16, .f32⟩
  | 8 => ⟨S1x16, .f32⟩
  | 9 => ⟨S1x128, .f32⟩
  | 10 => ⟨S1x31x512, .f32⟩
  | 11 => ⟨S1x2048, .f32⟩
  | 12 => ⟨S1x2048, .f32⟩
  | 13 => ⟨S1x2048, .f32⟩
  | 14 => ⟨S1x4096, .f32⟩
  | 15 => ⟨S1x4096, .f32⟩
  | 16 => ⟨S1x16384, .f32⟩
  | 17 => ⟨S1x4096, .f32⟩
  | 18 => ⟨S1x4096, .f32⟩
  | 19 => ⟨S1x4096, .f32⟩
  | 20 => ⟨S4096, .f32⟩
  | 21 => ⟨S4096, .f32⟩
  | 22 => ⟨S4096, .f32⟩
  | 23 => ⟨S1x24576, .f32⟩
  | 24 => ⟨S1x7x1536, .f32⟩
  | 25 => ⟨S1x16, .f32⟩
  | 26 => ⟨S1x16, .f32⟩
  | 27 => ⟨S1x16, .f32⟩
  | 28 => ⟨S1x16, .f32⟩
  | 29 => ⟨S1x128, .f32⟩
  | 30 => ⟨S1x31x512, .f32⟩
  | 31 => ⟨S1x2048, .f32⟩
  | 32 => ⟨S1x2048, .f32⟩
  | 33 => ⟨S1x2048, .f32⟩
  | 34 => ⟨S1x4096, .f32⟩
  | 35 => ⟨S1x4096, .f32⟩
  | 36 => ⟨S1x16384, .f32⟩
  | 37 => ⟨S1x4096, .f32⟩
  | 38 => ⟨S1x4096, .f32⟩
  | 39 => ⟨S1x4096, .f32⟩
  | 40 => ⟨S4096, .f32⟩
  | 41 => ⟨S4096, .f32⟩
  | 42 => ⟨S4096, .f32⟩
  | 43 => ⟨S1x24576, .f32⟩
  | 44 => ⟨S1x7x1536, .f32⟩
  | 45 => ⟨S1x16, .f32⟩
  | 46 => ⟨S1x16, .f32⟩
  | 47 => ⟨S1x16, .f32⟩
  | 48 => ⟨S1x16, .f32⟩
  | 49 => ⟨S1x128, .f32⟩
  | 50 => ⟨S1x31x512, .f32⟩
  | 51 => ⟨S1x2048, .f32⟩
  | 52 => ⟨S1x2048, .f32⟩
  | 53 => ⟨S1x2048, .f32⟩
  | 54 => ⟨S1x4096, .f32⟩
  | 55 => ⟨S1x4096, .f32⟩
  | 56 => ⟨S1x16384, .f32⟩
  | 57 => ⟨S1x4096, .f32⟩
  | 58 => ⟨S1x4096, .f32⟩
  | 59 => ⟨S1x4096, .f32⟩
  | 60 => ⟨S4096, .f32⟩
  | 61 => ⟨S4096, .f32⟩
  | 62 => ⟨S4096, .f32⟩
  | 63 => ⟨S1x24576, .f32⟩
  | 64 => ⟨S1x7x1536, .f32⟩
  | 65 => ⟨S1x16, .f32⟩
  | 66 => ⟨S1x16, .f32⟩
  | 67 => ⟨S1x16, .f32⟩
  | 68 => ⟨S1x16, .f32⟩
  | 69 => ⟨S1x128, .f32⟩
  | 70 => ⟨S1x31x512, .f32⟩
  | 71 => ⟨S1x2048, .f32⟩
  | 72 => ⟨S1x2048, .f32⟩
  | 73 => ⟨S1x2048, .f32⟩
  | 74 => ⟨S1x4096, .f32⟩
  | 75 => ⟨S1x4096, .f32⟩
  | 76 => ⟨S1x16384, .f32⟩
  | 77 => ⟨S1x4096, .f32⟩
  | 78 => ⟨S1x4096, .f32⟩
  | 79 => ⟨S1x4096, .f32⟩
  | 80 => ⟨S_, .f32⟩
  | 81 => ⟨S4096, .f32⟩
  | 82 => ⟨S4096, .f32⟩
  | 83 => ⟨S_, .f32⟩
  | 84 => ⟨S4096, .f32⟩
  | 85 => ⟨S4096, .f32⟩
  | 86 => ⟨S4096, .f32⟩
  | 87 => ⟨S_, .f32⟩
  | 88 => ⟨S4096, .f32⟩
  | 89 => ⟨S4096, .f32⟩
  | 90 => ⟨S4096, .f32⟩
  | 91 => ⟨S_, .f32⟩
  | 92 => ⟨S4096, .f32⟩
  | 93 => ⟨S4096, .f32⟩
  | 94 => ⟨S4096, .f32⟩
  | 95 => ⟨S_, .f32⟩
  | 96 => ⟨S4096, .f32⟩
  | 97 => ⟨S4096, .f32⟩
  | 98 => ⟨S_, .f32⟩
  | 99 => ⟨S4096, .f32⟩
  | 100 => ⟨S4096, .f32⟩
  | 101 => ⟨S4096, .f32⟩
  | 102 => ⟨S_, .f32⟩
  | 103 => ⟨S4096, .f32⟩
  | 104 => ⟨S4096, .f32⟩
  | 105 => ⟨S4096, .f32⟩
  | 106 => ⟨S_, .f32⟩
  | 107 => ⟨S4096, .f32⟩
  | 108 => ⟨S4096, .f32⟩
  | 109 => ⟨S4096, .f32⟩
  | 110 => ⟨S_, .f32⟩
  | 111 => ⟨S4096, .f32⟩
  | 112 => ⟨S4096, .f32⟩
  | 113 => ⟨S_, .f32⟩
  | 114 => ⟨S4096, .f32⟩
  | 115 => ⟨S4096, .f32⟩
  | 116 => ⟨S_, .f32⟩
  | 117 => ⟨S4096, .f32⟩
  | 118 => ⟨S4096, .f32⟩
  | 119 => ⟨S4096, .f32⟩
  | 120 => ⟨S_, .f32⟩
  | 121 => ⟨S4096, .f32⟩
  | 122 => ⟨S4096, .f32⟩
  | 123 => ⟨S4096, .f32⟩
  | 124 => ⟨S_, .f32⟩
  | 125 => ⟨S4096, .f32⟩
  | 126 => ⟨S4096, .f32⟩
  | 127 => ⟨S4096, .f32⟩
  | _ => ⟨S4096, .f32⟩

abbrev hbmTy0_1 (i : Nat) : BufTy := match i % 128 with
  | 0 => ⟨S_, .f32⟩
  | 1 => ⟨S4096, .f32⟩
  | 2 => ⟨S4096, .f32⟩
  | 3 => ⟨S_, .f32⟩
  | 4 => ⟨S4096, .f32⟩
  | 5 => ⟨S4096, .f32⟩
  | 6 => ⟨S4096, .f32⟩
  | 7 => ⟨S_, .f32⟩
  | 8 => ⟨S4096, .f32⟩
  | 9 => ⟨S4096, .f32⟩
  | 10 => ⟨S4096, .f32⟩
  | 11 => ⟨S_, .f32⟩
  | 12 => ⟨S4096, .f32⟩
  | 13 => ⟨S4096, .f32⟩
  | 14 => ⟨S4096, .f32⟩
  | 15 => ⟨S_, .f32⟩
  | 16 => ⟨S4096, .f32⟩
  | 17 => ⟨S4096, .f32⟩
  | 18 => ⟨S_, .f32⟩
  | 19 => ⟨S4096, .f32⟩
  | 20 => ⟨S4096, .f32⟩
  | 21 => ⟨S_, .f32⟩
  | 22 => ⟨S4096, .f32⟩
  | 23 => ⟨S4096, .f32⟩
  | 24 => ⟨S4096, .f32⟩
  | 25 => ⟨S_, .f32⟩
  | 26 => ⟨S4096, .f32⟩
  | 27 => ⟨S4096, .f32⟩
  | 28 => ⟨S4096, .f32⟩
  | 29 => ⟨S_, .f32⟩
  | 30 => ⟨S4096, .f32⟩
  | 31 => ⟨S4096, .f32⟩
  | 32 => ⟨S4096, .f32⟩
  | 33 => ⟨S_, .f32⟩
  | 34 => ⟨S4096, .f32⟩
  | 35 => ⟨S4096, .f32⟩
  | 36 => ⟨S_, .f32⟩
  | 37 => ⟨S4096, .f32⟩
  | 38 => ⟨S4096, .f32⟩
  | 39 => ⟨S4096, .f32⟩
  | 40 => ⟨S_, .f32⟩
  | 41 => ⟨S4096, .f32⟩
  | 42 => ⟨S4096, .f32⟩
  | 43 => ⟨S4096, .f32⟩
  | 44 => ⟨S_, .f32⟩
  | 45 => ⟨S4096, .f32⟩
  | 46 => ⟨S4096, .f32⟩
  | 47 => ⟨S4096, .f32⟩
  | 48 => ⟨S_, .f32⟩
  | 49 => ⟨S4096, .f32⟩
  | 50 => ⟨S4096, .f32⟩
  | 51 => ⟨S_, .f32⟩
  | 52 => ⟨S1x24576, .f32⟩
  | 53 => ⟨S1x24576, .f32⟩
  | 54 => ⟨S_, .f32⟩
  | 55 => ⟨S1x24576, .f32⟩
  | 56 => ⟨S1x24576, .f32⟩
  | 57 => ⟨S1x24576, .f32⟩
  | 58 => ⟨S_, .f32⟩
  | 59 => ⟨S1x24576, .f32⟩
  | 60 => ⟨S1x24576, .f32⟩
  | 61 => ⟨S1x24576, .f32⟩
  | 62 => ⟨S_, .f32⟩
  | 63 => ⟨S1x24576, .f32⟩
  | 64 => ⟨S1x24576, .f32⟩
  | 65 => ⟨S1x24576, .f32⟩
  | 66 => ⟨S_, .f32⟩
  | 67 => ⟨S1x24576, .f32⟩
  | 68 => ⟨S1x24576, .f32⟩
  | 69 => ⟨S_, .f32⟩
  | 70 => ⟨S1x24576, .f32⟩
  | 71 => ⟨S1x24576, .f32⟩
  | 72 => ⟨S1x24576, .f32⟩
  | 73 => ⟨S_, .f32⟩
  | 74 => ⟨S1x24576, .f32⟩
  | 75 => ⟨S1x24576, .f32⟩
  | 76 => ⟨S1x24576, .f32⟩
  | 77 => ⟨S_, .f32⟩
  | 78 => ⟨S1x24576, .f32⟩
  | 79 => ⟨S1x24576, .f32⟩
  | 80 => ⟨S1x24576, .f32⟩
  | 81 => ⟨S_, .f32⟩
  | 82 => ⟨S1x24576, .f32⟩
  | 83 => ⟨S1x24576, .f32⟩
  | 84 => ⟨S_, .f32⟩
  | 85 => ⟨S1x7x1536, .f32⟩
  | 86 => ⟨S1x7x1536, .f32⟩
  | 87 => ⟨S_, .f32⟩
  | 88 => ⟨S1x7x1536, .f32⟩
  | 89 => ⟨S1x7x1536, .f32⟩
  | 90 => ⟨S1x7x1536, .f32⟩
  | 91 => ⟨S_, .f32⟩
  | 92 => ⟨S1x7x1536, .f32⟩
  | 93 => ⟨S1x7x1536, .f32⟩
  | 94 => ⟨S1x7x1536, .f32⟩
  | 95 => ⟨S_, .f32⟩
  | 96 => ⟨S1x7x1536, .f32⟩
  | 97 => ⟨S1x7x1536, .f32⟩
  | 98 => ⟨S1x7x1536, .f32⟩
  | 99 => ⟨S_, .f32⟩
  | 100 => ⟨S1x7x1536, .f32⟩
  | 101 => ⟨S1x7x1536, .f32⟩
  | 102 => ⟨S_, .f32⟩
  | 103 => ⟨S1x7x1536, .f32⟩
  | 104 => ⟨S1x7x1536, .f32⟩
  | 105 => ⟨S1x7x1536, .f32⟩
  | 106 => ⟨S_, .f32⟩
  | 107 => ⟨S1x7x1536, .f32⟩
  | 108 => ⟨S1x7x1536, .f32⟩
  | 109 => ⟨S1x7x1536, .f32⟩
  | 110 => ⟨S_, .f32⟩
  | 111 => ⟨S1x7x1536, .f32⟩
  | 112 => ⟨S1x7x1536, .f32⟩
  | 113 => ⟨S1x7x1536, .f32⟩
  | 114 => ⟨S_, .f32⟩
  | 115 => ⟨S1x7x1536, .f32⟩
  | 116 => ⟨S1x7x1536, .f32⟩
  | 117 => ⟨S_, .f32⟩
  | 118 => ⟨S1x16, .f32⟩
  | 119 => ⟨S1x16, .f32⟩
  | 120 => ⟨S_, .f32⟩
  | 121 => ⟨S1x16, .f32⟩
  | 122 => ⟨S1x16, .f32⟩
  | 123 => ⟨S1x16, .f32⟩
  | 124 => ⟨S_, .f32⟩
  | 125 => ⟨S1x16, .f32⟩
  | 126 => ⟨S1x16, .f32⟩
  | 127 => ⟨S1x16, .f32⟩
  | _ => ⟨S4096, .f32⟩

abbrev hbmTy0_2 (i : Nat) : BufTy := match i % 128 with
  | 0 => ⟨S_, .f32⟩
  | 1 => ⟨S1x16, .f32⟩
  | 2 => ⟨S1x16, .f32⟩
  | 3 => ⟨S1x16, .f32⟩
  | 4 => ⟨S_, .f32⟩
  | 5 => ⟨S1x16, .f32⟩
  | 6 => ⟨S1x16, .f32⟩
  | 7 => ⟨S_, .f32⟩
  | 8 => ⟨S1x16, .f32⟩
  | 9 => ⟨S1x16, .f32⟩
  | 10 => ⟨S1x16, .f32⟩
  | 11 => ⟨S_, .f32⟩
  | 12 => ⟨S1x16, .f32⟩
  | 13 => ⟨S1x16, .f32⟩
  | 14 => ⟨S1x16, .f32⟩
  | 15 => ⟨S_, .f32⟩
  | 16 => ⟨S1x16, .f32⟩
  | 17 => ⟨S1x16, .f32⟩
  | 18 => ⟨S1x16, .f32⟩
  | 19 => ⟨S_, .f32⟩
  | 20 => ⟨S1x16, .f32⟩
  | 21 => ⟨S1x16, .f32⟩
  | 22 => ⟨S_, .f32⟩
  | 23 => ⟨S1x16, .f32⟩
  | 24 => ⟨S1x16, .f32⟩
  | 25 => ⟨S_, .f32⟩
  | 26 => ⟨S1x16, .f32⟩
  | 27 => ⟨S1x16, .f32⟩
  | 28 => ⟨S1x16, .f32⟩
  | 29 => ⟨S_, .f32⟩
  | 30 => ⟨S1x16, .f32⟩
  | 31 => ⟨S1x16, .f32⟩
  | 32 => ⟨S1x16, .f32⟩
  | 33 => ⟨S_, .f32⟩
  | 34 => ⟨S1x16, .f32⟩
  | 35 => ⟨S1x16, .f32⟩
  | 36 => ⟨S1x16, .f32⟩
  | 37 => ⟨S_, .f32⟩
  | 38 => ⟨S1x16, .f32⟩
  | 39 => ⟨S1x16, .f32⟩
  | 40 => ⟨S_, .f32⟩
  | 41 => ⟨S1x16, .f32⟩
  | 42 => ⟨S1x16, .f32⟩
  | 43 => ⟨S1x16, .f32⟩
  | 44 => ⟨S_, .f32⟩
  | 45 => ⟨S1x16, .f32⟩
  | 46 => ⟨S1x16, .f32⟩
  | 47 => ⟨S1x16, .f32⟩
  | 48 => ⟨S_, .f32⟩
  | 49 => ⟨S1x16, .f32⟩
  | 50 => ⟨S1x16, .f32⟩
  | 51 => ⟨S1x16, .f32⟩
  | 52 => ⟨S_, .f32⟩
  | 53 => ⟨S1x16, .f32⟩
  | 54 => ⟨S1x16, .f32⟩
  | 55 => ⟨S_, .f32⟩
  | 56 => ⟨S1x16, .f32⟩
  | 57 => ⟨S1x16, .f32⟩
  | 58 => ⟨S_, .f32⟩
  | 59 => ⟨S1x16, .f32⟩
  | 60 => ⟨S1x16, .f32⟩
  | 61 => ⟨S1x16, .f32⟩
  | 62 => ⟨S_, .f32⟩
  | 63 => ⟨S1x16, .f32⟩
  | 64 => ⟨S1x16, .f32⟩
  | 65 => ⟨S1x16, .f32⟩
  | 66 => ⟨S_, .f32⟩
  | 67 => ⟨S1x16, .f32⟩
  | 68 => ⟨S1x16, .f32⟩
  | 69 => ⟨S1x16, .f32⟩
  | 70 => ⟨S_, .f32⟩
  | 71 => ⟨S1x16, .f32⟩
  | 72 => ⟨S1x16, .f32⟩
  | 73 => ⟨S_, .f32⟩
  | 74 => ⟨S1x16, .f32⟩
  | 75 => ⟨S1x16, .f32⟩
  | 76 => ⟨S1x16, .f32⟩
  | 77 => ⟨S_, .f32⟩
  | 78 => ⟨S1x16, .f32⟩
  | 79 => ⟨S1x16, .f32⟩
  | 80 => ⟨S1x16, .f32⟩
  | 81 => ⟨S_, .f32⟩
  | 82 => ⟨S1x16, .f32⟩
  | 83 => ⟨S1x16, .f32⟩
  | 84 => ⟨S1x16, .f32⟩
  | 85 => ⟨S_, .f32⟩
  | 86 => ⟨S1x16, .f32⟩
  | 87 => ⟨S1x16, .f32⟩
  | 88 => ⟨S_, .f32⟩
  | 89 => ⟨S1x16, .f32⟩
  | 90 => ⟨S1x16, .f32⟩
  | 91 => ⟨S_, .f32⟩
  | 92 => ⟨S1x16, .f32⟩
  | 93 => ⟨S1x16, .f32⟩
  | 94 => ⟨S1x16, .f32⟩
  | 95 => ⟨S_, .f32⟩
  | 96 => ⟨S1x16, .f32⟩
  | 97 => ⟨S1x16, .f32⟩
  | 98 => ⟨S1x16, .f32⟩
  | 99 => ⟨S_, .f32⟩
  | 100 => ⟨S1x16, .f32⟩
  | 101 => ⟨S1x16, .f32⟩
  | 102 => ⟨S1x16, .f32⟩
  | 103 => ⟨S_, .f32⟩
  | 104 => ⟨S1x16, .f32⟩
  | 105 => ⟨S1x16, .f32⟩
  | 106 => ⟨S_, .f32⟩
  | 107 => ⟨S1x16, .f32⟩
  | 108 => ⟨S1x16, .f32⟩
  | 109 => ⟨S1x16, .f32⟩
  | 110 => ⟨S_, .f32⟩
  | 111 => ⟨S1x16, .f32⟩
  | 112 => ⟨S1x16, .f32⟩
  | 113 => ⟨S1x16, .f32⟩
  | 114 => ⟨S_, .f32⟩
  | 115 => ⟨S1x16, .f32⟩
  | 116 => ⟨S1x16, .f32⟩
  | 117 => ⟨S1x16, .f32⟩
  | 118 => ⟨S_, .f32⟩
  | 119 => ⟨S1x16, .f32⟩
  | 120 => ⟨S1x16, .f32⟩
  | 121 => ⟨S_, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S4096, .f32⟩

abbrev hbmTy0_3 (i : Nat) : BufTy := match i % 128 with
  | 0 => ⟨S_, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S1x128, .f32⟩
  | 15 => ⟨S_, .f32⟩
  | 16 => ⟨S1x128, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S_, .f32⟩
  | 24 => ⟨S1x128, .f32⟩
  | 25 => ⟨S1x128, .f32⟩
  | 26 => ⟨S_, .f32⟩
  | 27 => ⟨S1x31x512, .f32⟩
  | 28 => ⟨S1x31x512, .f32⟩
  | 29 => ⟨S_, .f32⟩
  | 30 => ⟨S1x31x512, .f32⟩
  | 31 => ⟨S1x31x512, .f32⟩
  | 32 => ⟨S1x31x512, .f32⟩
  | 33 => ⟨S_, .f32⟩
  | 34 => ⟨S1x31x512, .f32⟩
  | 35 => ⟨S1x31x512, .f32⟩
  | 36 => ⟨S1x31x512, .f32⟩
  | 37 => ⟨S_, .f32⟩
  | 38 => ⟨S1x31x512, .f32⟩
  | 39 => ⟨S1x31x512, .f32⟩
  | 40 => ⟨S1x31x512, .f32⟩
  | 41 => ⟨S_, .f32⟩
  | 42 => ⟨S1x31x512, .f32⟩
  | 43 => ⟨S1x31x512, .f32⟩
  | 44 => ⟨S_, .f32⟩
  | 45 => ⟨S1x31x512, .f32⟩
  | 46 => ⟨S1x31x512, .f32⟩
  | 47 => ⟨S1x31x512, .f32⟩
  | 48 => ⟨S_, .f32⟩
  | 49 => ⟨S1x31x512, .f32⟩
  | 50 => ⟨S1x31x512, .f32⟩
  | 51 => ⟨S1x31x512, .f32⟩
  | 52 => ⟨S_, .f32⟩
  | 53 => ⟨S1x31x512, .f32⟩
  | 54 => ⟨S1x31x512, .f32⟩
  | 55 => ⟨S1x31x512, .f32⟩
  | 56 => ⟨S_, .f32⟩
  | 57 => ⟨S1x31x512, .f32⟩
  | 58 => ⟨S1x31x512, .f32⟩
  | 59 => ⟨S_, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S_, .f32⟩
  | 78 => ⟨S1x2048, .f32⟩
  | 79 => ⟨S1x2048, .f32⟩
  | 80 => ⟨S1x2048, .f32⟩
  | 81 => ⟨S_, .f32⟩
  | 82 => ⟨S1x2048, .f32⟩
  | 83 => ⟨S1x2048, .f32⟩
  | 84 => ⟨S1x2048, .f32⟩
  | 85 => ⟨S_, .f32⟩
  | 86 => ⟨S1x2048, .f32⟩
  | 87 => ⟨S1x2048, .f32⟩
  | 88 => ⟨S1x2048, .f32⟩
  | 89 => ⟨S_, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S_, .f32⟩
  | 111 => ⟨S1x2048, .f32⟩
  | 112 => ⟨S1x2048, .f32⟩
  | 113 => ⟨S1x2048, .f32⟩
  | 114 => ⟨S_, .f32⟩
  | 115 => ⟨S1x2048, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S1x2048, .f32⟩
  | 122 => ⟨S_, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S4096, .f32⟩

abbrev hbmTy0_4 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S_, .f32⟩
  | 16 => ⟨S1x2048, .f32⟩
  | 17 => ⟨S1x2048, .f32⟩
  | 18 => ⟨S1x2048, .f32⟩
  | 19 => ⟨S_, .f32⟩
  | 20 => ⟨S1x2048, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S1x2048, .f32⟩
  | 27 => ⟨S_, .f32⟩
  | 28 => ⟨S1x2048, .f32⟩
  | 29 => ⟨S1x2048, .f32⟩
  | 30 => ⟨S_, .f32⟩
  | 31 => ⟨S1x4096, .f32⟩
  | 32 => ⟨S1x4096, .f32⟩
  | 33 => ⟨S_, .f32⟩
  | 34 => ⟨S1x4096, .f32⟩
  | 35 => ⟨S1x4096, .f32⟩
  | 36 => ⟨S1x4096, .f32⟩
  | 37 => ⟨S_, .f32⟩
  | 38 => ⟨S1x4096, .f32⟩
  | 39 => ⟨S1x4096, .f32⟩
  | 40 => ⟨S1x4096, .f32⟩
  | 41 => ⟨S_, .f32⟩
  | 42 => ⟨S1x4096, .f32⟩
  | 43 => ⟨S1x4096, .f32⟩
  | 44 => ⟨S1x4096, .f32⟩
  | 45 => ⟨S_, .f32⟩
  | 46 => ⟨S1x4096, .f32⟩
  | 47 => ⟨S1x4096, .f32⟩
  | 48 => ⟨S_, .f32⟩
  | 49 => ⟨S1x4096, .f32⟩
  | 50 => ⟨S1x4096, .f32⟩
  | 51 => ⟨S1x4096, .f32⟩
  | 52 => ⟨S_, .f32⟩
  | 53 => ⟨S1x4096, .f32⟩
  | 54 => ⟨S1x4096, .f32⟩
  | 55 => ⟨S1x4096, .f32⟩
  | 56 => ⟨S_, .f32⟩
  | 57 => ⟨S1x4096, .f32⟩
  | 58 => ⟨S1x4096, .f32⟩
  | 59 => ⟨S1x4096, .f32⟩
  | 60 => ⟨S_, .f32⟩
  | 61 => ⟨S1x4096, .f32⟩
  | 62 => ⟨S1x4096, .f32⟩
  | 63 => ⟨S_, .f32⟩
  | 64 => ⟨S1x4096, .f32⟩
  | 65 => ⟨S1x4096, .f32⟩
  | 66 => ⟨S_, .f32⟩
  | 67 => ⟨S1x4096, .f32⟩
  | 68 => ⟨S1x4096, .f32⟩
  | 69 => ⟨S1x4096, .f32⟩
  | 70 => ⟨S_, .f32⟩
  | 71 => ⟨S1x4096, .f32⟩
  | 72 => ⟨S1x4096, .f32⟩
  | 73 => ⟨S1x4096, .f32⟩
  | 74 => ⟨S_, .f32⟩
  | 75 => ⟨S1x4096, .f32⟩
  | 76 => ⟨S1x4096, .f32⟩
  | 77 => ⟨S1x4096, .f32⟩
  | 78 => ⟨S_, .f32⟩
  | 79 => ⟨S1x4096, .f32⟩
  | 80 => ⟨S1x4096, .f32⟩
  | 81 => ⟨S_, .f32⟩
  | 82 => ⟨S1x4096, .f32⟩
  | 83 => ⟨S1x4096, .f32⟩
  | 84 => ⟨S1x4096, .f32⟩
  | 85 => ⟨S_, .f32⟩
  | 86 => ⟨S1x4096, .f32⟩
  | 87 => ⟨S1x4096, .f32⟩
  | 88 => ⟨S1x4096, .f32⟩
  | 89 => ⟨S_, .f32⟩
  | 90 => ⟨S1x4096, .f32⟩
  | 91 => ⟨S1x4096, .f32⟩
  | 92 => ⟨S1x4096, .f32⟩
  | 93 => ⟨S_, .f32⟩
  | 94 => ⟨S1x4096, .f32⟩
  | 95 => ⟨S1x4096, .f32⟩
  | 96 => ⟨S_, .f32⟩
  | 97 => ⟨S1x16384, .f32⟩
  | 98 => ⟨S1x16384, .f32⟩
  | 99 => ⟨S_, .f32⟩
  | 100 => ⟨S1x16384, .f32⟩
  | 101 => ⟨S1x16384, .f32⟩
  | 102 => ⟨S1x16384, .f32⟩
  | 103 => ⟨S_, .f32⟩
  | 104 => ⟨S1x16384, .f32⟩
  | 105 => ⟨S1x16384, .f32⟩
  | 106 => ⟨S1x16384, .f32⟩
  | 107 => ⟨S_, .f32⟩
  | 108 => ⟨S1x16384, .f32⟩
  | 109 => ⟨S1x16384, .f32⟩
  | 110 => ⟨S1x16384, .f32⟩
  | 111 => ⟨S_, .f32⟩
  | 112 => ⟨S1x16384, .f32⟩
  | 113 => ⟨S1x16384, .f32⟩
  | 114 => ⟨S_, .f32⟩
  | 115 => ⟨S1x16384, .f32⟩
  | 116 => ⟨S1x16384, .f32⟩
  | 117 => ⟨S1x16384, .f32⟩
  | 118 => ⟨S_, .f32⟩
  | 119 => ⟨S1x16384, .f32⟩
  | 120 => ⟨S1x16384, .f32⟩
  | 121 => ⟨S1x16384, .f32⟩
  | 122 => ⟨S_, .f32⟩
  | 123 => ⟨S1x16384, .f32⟩
  | 124 => ⟨S1x16384, .f32⟩
  | 125 => ⟨S1x16384, .f32⟩
  | 126 => ⟨S_, .f32⟩
  | 127 => ⟨S1x16384, .f32⟩
  | _ => ⟨S4096, .f32⟩

abbrev hbmTy0_5 (i : Nat) : BufTy := match i % 128 with
  | 0 => ⟨S1x16384, .f32⟩
  | 1 => ⟨S_, .f32⟩
  | 2 => ⟨S1x4096, .f32⟩
  | 3 => ⟨S1x4096, .f32⟩
  | 4 => ⟨S_, .f32⟩
  | 5 => ⟨S1x4096, .f32⟩
  | 6 => ⟨S1x4096, .f32⟩
  | 7 => ⟨S1x4096, .f32⟩
  | 8 => ⟨S_, .f32⟩
  | 9 => ⟨S1x4096, .f32⟩
  | 10 => ⟨S1x4096, .f32⟩
  | 11 => ⟨S1x4096, .f32⟩
  | 12 => ⟨S_, .f32⟩
  | 13 => ⟨S1x4096, .f32⟩
  | 14 => ⟨S1x4096, .f32⟩
  | 15 => ⟨S1x4096, .f32⟩
  | 16 => ⟨S_, .f32⟩
  | 17 => ⟨S1x4096, .f32⟩
  | 18 => ⟨S1x4096, .f32⟩
  | 19 => ⟨S_, .f32⟩
  | 20 => ⟨S1x4096, .f32⟩
  | 21 => ⟨S1x4096, .f32⟩
  | 22 => ⟨S1x4096, .f32⟩
  | 23 => ⟨S_, .f32⟩
  | 24 => ⟨S1x4096, .f32⟩
  | 25 => ⟨S1x4096, .f32⟩
  | 26 => ⟨S1x4096, .f32⟩
  | 27 => ⟨S_, .f32⟩
  | 28 => ⟨S1x4096, .f32⟩
  | 29 => ⟨S1x4096, .f32⟩
  | 30 => ⟨S1x4096, .f32⟩
  | 31 => ⟨S_, .f32⟩
  | 32 => ⟨S1x4096, .f32⟩
  | 33 => ⟨S1x4096, .f32⟩
  | 34 => ⟨S_, .f32⟩
  | 35 => ⟨S1x4096, .f32⟩
  | 36 => ⟨S1x4096, .f32⟩
  | 37 => ⟨S_, .f32⟩
  | 38 => ⟨S1x4096, .f32⟩
  | 39 => ⟨S1x4096, .f32⟩
  | 40 => ⟨S1x4096, .f32⟩
  | 41 => ⟨S_, .f32⟩
  | 42 => ⟨S1x4096, .f32⟩
  | 43 => ⟨S1x4096, .f32⟩
  | 44 => ⟨S1x4096, .f32⟩
  | 45 => ⟨S_, .f32⟩
  | 46 => ⟨S1x4096, .f32⟩
  | 47 => ⟨S1x4096, .f32⟩
  | 48 => ⟨S1x4096, .f32⟩
  | 49 => ⟨S_, .f32⟩
  | 50 => ⟨S1x4096, .f32⟩
  | 51 => ⟨S1x4096, .f32⟩
  | 52 => ⟨S_, .f32⟩
  | 53 => ⟨S1x4096, .f32⟩
  | 54 => ⟨S1x4096, .f32⟩
  | 55 => ⟨S1x4096, .f32⟩
  | 56 => ⟨S_, .f32⟩
  | 57 => ⟨S1x4096, .f32⟩
  | 58 => ⟨S1x4096, .f32⟩
  | 59 => ⟨S1x4096, .f32⟩
  | 60 => ⟨S_, .f32⟩
  | 61 => ⟨S1x4096, .f32⟩
  | 62 => ⟨S1x4096, .f32⟩
  | 63 => ⟨S1x4096, .f32⟩
  | 64 => ⟨S_, .f32⟩
  | 65 => ⟨S1x4096, .f32⟩
  | 66 => ⟨S1x4096, .f32⟩
  | 67 => ⟨S_, .f32⟩
  | 68 => ⟨S1x4096, .f32⟩
  | 69 => ⟨S1x4096, .f32⟩
  | 70 => ⟨S_, .f32⟩
  | 71 => ⟨S1x4096, .f32⟩
  | 72 => ⟨S1x4096, .f32⟩
  | 73 => ⟨S1x4096, .f32⟩
  | 74 => ⟨S_, .f32⟩
  | 75 => ⟨S1x4096, .f32⟩
  | 76 => ⟨S1x4096, .f32⟩
  | 77 => ⟨S1x4096, .f32⟩
  | 78 => ⟨S_, .f32⟩
  | 79 => ⟨S1x4096, .f32⟩
  | 80 => ⟨S1x4096, .f32⟩
  | 81 => ⟨S1x4096, .f32⟩
  | 82 => ⟨S_, .f32⟩
  | 83 => ⟨S1x4096, .f32⟩
  | 84 => ⟨S1x4096, .f32⟩
  | 85 => ⟨S_, .f32⟩
  | 86 => ⟨S1x4096, .f32⟩
  | 87 => ⟨S1x4096, .f32⟩
  | 88 => ⟨S1x4096, .f32⟩
  | 89 => ⟨S_, .f32⟩
  | 90 => ⟨S1x4096, .f32⟩
  | 91 => ⟨S1x4096, .f32⟩
  | 92 => ⟨S1x4096, .f32⟩
  | 93 => ⟨S_, .f32⟩
  | 94 => ⟨S1x4096, .f32⟩
  | 95 => ⟨S1x4096, .f32⟩
  | 96 => ⟨S1x4096, .f32⟩
  | 97 => ⟨S_, .f32⟩
  | 98 => ⟨S1x4096, .f32⟩
  | 99 => ⟨S1x4096, .f32⟩
  | 100 => ⟨S24576, .f32⟩
  | 101 => ⟨S10752, .f32⟩
  | 102 => ⟨S16, .f32⟩
  | 103 => ⟨S16, .f32⟩
  | 104 => ⟨S16, .f32⟩
  | 105 => ⟨S16, .f32⟩
  | 106 => ⟨S128, .f32⟩
  | 107 => ⟨S15872, .f32⟩
  | 108 => ⟨S2048, .f32⟩
  | 109 => ⟨S2048, .f32⟩
  | 110 => ⟨S2048, .f32⟩
  | 111 => ⟨S4096, .f32⟩
  | 112 => ⟨S4096, .f32⟩
  | 113 => ⟨S16384, .f32⟩
  | 114 => ⟨S4096, .f32⟩
  | 115 => ⟨S4096, .f32⟩
  | 116 => ⟨S4096, .f32⟩
  | 117 => ⟨S_, .f32⟩
  | 118 => ⟨S832, .f32⟩
  | 119 => ⟨S78016, .f32⟩
  | 120 => ⟨S29504, .f32⟩
  | 121 => ⟨S107520, .f32⟩
  | 122 => ⟨S8x13440, .f32⟩
  | 123 => ⟨S24576, .f32⟩
  | 124 => ⟨S10752, .f32⟩
  | 125 => ⟨S16, .f32⟩
  | 126 => ⟨S16, .f32⟩
  | 127 => ⟨S16, .f32⟩
  | _ => ⟨S4096, .f32⟩

abbrev hbmTy0_6 (i : Nat) : BufTy := match i % 128 with
  | 0 => ⟨S16, .f32⟩
  | 1 => ⟨S128, .f32⟩
  | 2 => ⟨S15872, .f32⟩
  | 3 => ⟨S2048, .f32⟩
  | 4 => ⟨S2048, .f32⟩
  | 5 => ⟨S2048, .f32⟩
  | 6 => ⟨S4096, .f32⟩
  | 7 => ⟨S4096, .f32⟩
  | 8 => ⟨S16384, .f32⟩
  | 9 => ⟨S4096, .f32⟩
  | 10 => ⟨S4096, .f32⟩
  | 11 => ⟨S4096, .f32⟩
  | 12 => ⟨S_, .f32⟩
  | 13 => ⟨S832, .f32⟩
  | 14 => ⟨S78016, .f32⟩
  | 15 => ⟨S29504, .f32⟩
  | 16 => ⟨S107520, .f32⟩
  | 17 => ⟨S8x13440, .f32⟩
  | 18 => ⟨S24576, .f32⟩
  | 19 => ⟨S10752, .f32⟩
  | 20 => ⟨S16, .f32⟩
  | 21 => ⟨S16, .f32⟩
  | 22 => ⟨S16, .f32⟩
  | 23 => ⟨S16, .f32⟩
  | 24 => ⟨S128, .f32⟩
  | 25 => ⟨S15872, .f32⟩
  | 26 => ⟨S2048, .f32⟩
  | 27 => ⟨S2048, .f32⟩
  | 28 => ⟨S2048, .f32⟩
  | 29 => ⟨S4096, .f32⟩
  | 30 => ⟨S4096, .f32⟩
  | 31 => ⟨S16384, .f32⟩
  | 32 => ⟨S4096, .f32⟩
  | 33 => ⟨S4096, .f32⟩
  | 34 => ⟨S4096, .f32⟩
  | 35 => ⟨S_, .f32⟩
  | 36 => ⟨S832, .f32⟩
  | 37 => ⟨S78016, .f32⟩
  | 38 => ⟨S29504, .f32⟩
  | 39 => ⟨S107520, .f32⟩
  | 40 => ⟨S8x13440, .f32⟩
  | _ => ⟨S4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096, .f32⟩

abbrev bufTy : (tb : Table) → Fin (tcTables nBuf tb) → BufTy
  | .hbm, ⟨i, _⟩ => hbmTy i
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_cst : Ref sig .tc := ⟨.hbm, 80, rfl⟩
abbrev main_v0 : Ref sig .tc := ⟨.hbm, 81, rfl⟩
abbrev main_v1 : Ref sig .tc := ⟨.hbm, 82, rfl⟩
abbrev main_cst_0 : Ref sig .tc := ⟨.hbm, 83, rfl⟩
abbrev main_v2 : Ref sig .tc := ⟨.hbm, 84, rfl⟩
abbrev main_v3 : Ref sig .tc := ⟨.hbm, 85, rfl⟩
abbrev main_v4 : Ref sig .tc := ⟨.hbm, 86, rfl⟩
abbrev main_cst_1 : Ref sig .tc := ⟨.hbm, 87, rfl⟩
abbrev main_v5 : Ref sig .tc := ⟨.hbm, 88, rfl⟩
abbrev main_v6 : Ref sig .tc := ⟨.hbm, 89, rfl⟩
abbrev main_v7 : Ref sig .tc := ⟨.hbm, 90, rfl⟩
abbrev main_cst_2 : Ref sig .tc := ⟨.hbm, 91, rfl⟩
abbrev main_v8 : Ref sig .tc := ⟨.hbm, 92, rfl⟩
abbrev main_v9 : Ref sig .tc := ⟨.hbm, 93, rfl⟩
abbrev main_v10 : Ref sig .tc := ⟨.hbm, 94, rfl⟩
abbrev main_cst_3 : Ref sig .tc := ⟨.hbm, 95, rfl⟩
abbrev main_v11 : Ref sig .tc := ⟨.hbm, 96, rfl⟩
abbrev main_v12 : Ref sig .tc := ⟨.hbm, 97, rfl⟩
abbrev main_cst_4 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_cst_5 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_cst_6 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_cst_7 : Ref sig .tc := ⟨.hbm, 110, rfl⟩
abbrev main_v22 : Ref sig .tc := ⟨.hbm, 111, rfl⟩
abbrev main_v23 : Ref sig .tc := ⟨.hbm, 112, rfl⟩
abbrev main_cst_8 : Ref sig .tc := ⟨.hbm, 113, rfl⟩
abbrev main_v24 : Ref sig .tc := ⟨.hbm, 114, rfl⟩
abbrev main_v25 : Ref sig .tc := ⟨.hbm, 115, rfl⟩
abbrev main_cst_9 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_cst_10 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_cst_11 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_12 : Ref sig .tc := ⟨.hbm, 128, rfl⟩
abbrev main_v35 : Ref sig .tc := ⟨.hbm, 129, rfl⟩
abbrev main_v36 : Ref sig .tc := ⟨.hbm, 130, rfl⟩
abbrev main_cst_13 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_cst_14 : Ref sig .tc := ⟨.hbm, 135, rfl⟩
abbrev main_v40 : Ref sig .tc := ⟨.hbm, 136, rfl⟩
abbrev main_v41 : Ref sig .tc := ⟨.hbm, 137, rfl⟩
abbrev main_v42 : Ref sig .tc := ⟨.hbm, 138, rfl⟩
abbrev main_cst_15 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_cst_16 : Ref sig .tc := ⟨.hbm, 143, rfl⟩
abbrev main_v46 : Ref sig .tc := ⟨.hbm, 144, rfl⟩
abbrev main_v47 : Ref sig .tc := ⟨.hbm, 145, rfl⟩
abbrev main_cst_17 : Ref sig .tc := ⟨.hbm, 146, rfl⟩
abbrev main_v48 : Ref sig .tc := ⟨.hbm, 147, rfl⟩
abbrev main_v49 : Ref sig .tc := ⟨.hbm, 148, rfl⟩
abbrev main_cst_18 : Ref sig .tc := ⟨.hbm, 149, rfl⟩
abbrev main_v50 : Ref sig .tc := ⟨.hbm, 150, rfl⟩
abbrev main_v51 : Ref sig .tc := ⟨.hbm, 151, rfl⟩
abbrev main_v52 : Ref sig .tc := ⟨.hbm, 152, rfl⟩
abbrev main_cst_19 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_cst_20 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_cst_21 : Ref sig .tc := ⟨.hbm, 161, rfl⟩
abbrev main_v59 : Ref sig .tc := ⟨.hbm, 162, rfl⟩
abbrev main_v60 : Ref sig .tc := ⟨.hbm, 163, rfl⟩
abbrev main_cst_22 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_cst_23 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_cst_24 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_cst_25 : Ref sig .tc := ⟨.hbm, 176, rfl⟩
abbrev main_v70 : Ref sig .tc := ⟨.hbm, 177, rfl⟩
abbrev main_v71 : Ref sig .tc := ⟨.hbm, 178, rfl⟩
abbrev main_cst_26 : Ref sig .tc := ⟨.hbm, 179, rfl⟩
abbrev main_v72 : Ref sig .tc := ⟨.hbm, 180, rfl⟩
abbrev main_v73 : Ref sig .tc := ⟨.hbm, 181, rfl⟩
abbrev main_cst_27 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_cst_28 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_cst_29 : Ref sig .tc := ⟨.hbm, 190, rfl⟩
abbrev main_v80 : Ref sig .tc := ⟨.hbm, 191, rfl⟩
abbrev main_v81 : Ref sig .tc := ⟨.hbm, 192, rfl⟩
abbrev main_v82 : Ref sig .tc := ⟨.hbm, 193, rfl⟩
abbrev main_cst_30 : Ref sig .tc := ⟨.hbm, 194, rfl⟩
abbrev main_v83 : Ref sig .tc := ⟨.hbm, 195, rfl⟩
abbrev main_v84 : Ref sig .tc := ⟨.hbm, 196, rfl⟩
abbrev main_cst_31 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_cst_32 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_cst_33 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_cst_34 : Ref sig .tc := ⟨.hbm, 209, rfl⟩
abbrev main_v94 : Ref sig .tc := ⟨.hbm, 210, rfl⟩
abbrev main_v95 : Ref sig .tc := ⟨.hbm, 211, rfl⟩
abbrev main_cst_35 : Ref sig .tc := ⟨.hbm, 212, rfl⟩
abbrev main_v96 : Ref sig .tc := ⟨.hbm, 213, rfl⟩
abbrev main_v97 : Ref sig .tc := ⟨.hbm, 214, rfl⟩
abbrev main_cst_36 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_cst_37 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_cst_38 : Ref sig .tc := ⟨.hbm, 223, rfl⟩
abbrev main_v104 : Ref sig .tc := ⟨.hbm, 224, rfl⟩
abbrev main_v105 : Ref sig .tc := ⟨.hbm, 225, rfl⟩
abbrev main_v106 : Ref sig .tc := ⟨.hbm, 226, rfl⟩
abbrev main_cst_39 : Ref sig .tc := ⟨.hbm, 227, rfl⟩
abbrev main_v107 : Ref sig .tc := ⟨.hbm, 228, rfl⟩
abbrev main_v108 : Ref sig .tc := ⟨.hbm, 229, rfl⟩
abbrev main_cst_40 : Ref sig .tc := ⟨.hbm, 230, rfl⟩
abbrev main_v109 : Ref sig .tc := ⟨.hbm, 231, rfl⟩
abbrev main_v110 : Ref sig .tc := ⟨.hbm, 232, rfl⟩
abbrev main_v111 : Ref sig .tc := ⟨.hbm, 233, rfl⟩
abbrev main_cst_41 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_cst_42 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_cst_43 : Ref sig .tc := ⟨.hbm, 242, rfl⟩
abbrev main_v118 : Ref sig .tc := ⟨.hbm, 243, rfl⟩
abbrev main_v119 : Ref sig .tc := ⟨.hbm, 244, rfl⟩
abbrev main_cst_44 : Ref sig .tc := ⟨.hbm, 245, rfl⟩
abbrev main_v120 : Ref sig .tc := ⟨.hbm, 246, rfl⟩
abbrev main_v121 : Ref sig .tc := ⟨.hbm, 247, rfl⟩
abbrev main_cst_45 : Ref sig .tc := ⟨.hbm, 248, rfl⟩
abbrev main_v122 : Ref sig .tc := ⟨.hbm, 249, rfl⟩
abbrev main_v123 : Ref sig .tc := ⟨.hbm, 250, rfl⟩
abbrev main_v124 : Ref sig .tc := ⟨.hbm, 251, rfl⟩
abbrev main_cst_46 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_cst_47 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_cst_48 : Ref sig .tc := ⟨.hbm, 260, rfl⟩
abbrev main_v131 : Ref sig .tc := ⟨.hbm, 261, rfl⟩
abbrev main_v132 : Ref sig .tc := ⟨.hbm, 262, rfl⟩
abbrev main_cst_49 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_cst_50 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_cst_51 : Ref sig .tc := ⟨.hbm, 271, rfl⟩
abbrev main_v139 : Ref sig .tc := ⟨.hbm, 272, rfl⟩
abbrev main_v140 : Ref sig .tc := ⟨.hbm, 273, rfl⟩
abbrev main_v141 : Ref sig .tc := ⟨.hbm, 274, rfl⟩
abbrev main_cst_52 : Ref sig .tc := ⟨.hbm, 275, rfl⟩
abbrev main_v142 : Ref sig .tc := ⟨.hbm, 276, rfl⟩
abbrev main_v143 : Ref sig .tc := ⟨.hbm, 277, rfl⟩
abbrev main_cst_53 : Ref sig .tc := ⟨.hbm, 278, rfl⟩
abbrev main_v144 : Ref sig .tc := ⟨.hbm, 279, rfl⟩
abbrev main_v145 : Ref sig .tc := ⟨.hbm, 280, rfl⟩
abbrev main_cst_54 : Ref sig .tc := ⟨.hbm, 281, rfl⟩
abbrev main_v146 : Ref sig .tc := ⟨.hbm, 282, rfl⟩
abbrev main_v147 : Ref sig .tc := ⟨.hbm, 283, rfl⟩
abbrev main_v148 : Ref sig .tc := ⟨.hbm, 284, rfl⟩
abbrev main_cst_55 : Ref sig .tc := ⟨.hbm, 285, rfl⟩
abbrev main_v149 : Ref sig .tc := ⟨.hbm, 286, rfl⟩
abbrev main_v150 : Ref sig .tc := ⟨.hbm, 287, rfl⟩
abbrev main_v151 : Ref sig .tc := ⟨.hbm, 288, rfl⟩
abbrev main_cst_56 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_cst_57 : Ref sig .tc := ⟨.hbm, 293, rfl⟩
abbrev main_v155 : Ref sig .tc := ⟨.hbm, 294, rfl⟩
abbrev main_v156 : Ref sig .tc := ⟨.hbm, 295, rfl⟩
abbrev main_cst_58 : Ref sig .tc := ⟨.hbm, 296, rfl⟩
abbrev main_v157 : Ref sig .tc := ⟨.hbm, 297, rfl⟩
abbrev main_v158 : Ref sig .tc := ⟨.hbm, 298, rfl⟩
abbrev main_v159 : Ref sig .tc := ⟨.hbm, 299, rfl⟩
abbrev main_cst_59 : Ref sig .tc := ⟨.hbm, 300, rfl⟩
abbrev main_v160 : Ref sig .tc := ⟨.hbm, 301, rfl⟩
abbrev main_v161 : Ref sig .tc := ⟨.hbm, 302, rfl⟩
abbrev main_v162 : Ref sig .tc := ⟨.hbm, 303, rfl⟩
abbrev main_cst_60 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_cst_61 : Ref sig .tc := ⟨.hbm, 308, rfl⟩
abbrev main_v166 : Ref sig .tc := ⟨.hbm, 309, rfl⟩
abbrev main_v167 : Ref sig .tc := ⟨.hbm, 310, rfl⟩
abbrev main_cst_62 : Ref sig .tc := ⟨.hbm, 311, rfl⟩
abbrev main_v168 : Ref sig .tc := ⟨.hbm, 312, rfl⟩
abbrev main_v169 : Ref sig .tc := ⟨.hbm, 313, rfl⟩
abbrev main_cst_63 : Ref sig .tc := ⟨.hbm, 314, rfl⟩
abbrev main_v170 : Ref sig .tc := ⟨.hbm, 315, rfl⟩
abbrev main_v171 : Ref sig .tc := ⟨.hbm, 316, rfl⟩
abbrev main_v172 : Ref sig .tc := ⟨.hbm, 317, rfl⟩
abbrev main_cst_64 : Ref sig .tc := ⟨.hbm, 318, rfl⟩
abbrev main_v173 : Ref sig .tc := ⟨.hbm, 319, rfl⟩
abbrev main_v174 : Ref sig .tc := ⟨.hbm, 320, rfl⟩
abbrev main_v175 : Ref sig .tc := ⟨.hbm, 321, rfl⟩
abbrev main_cst_65 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_cst_66 : Ref sig .tc := ⟨.hbm, 326, rfl⟩
abbrev main_v179 : Ref sig .tc := ⟨.hbm, 327, rfl⟩
abbrev main_v180 : Ref sig .tc := ⟨.hbm, 328, rfl⟩
abbrev main_cst_67 : Ref sig .tc := ⟨.hbm, 329, rfl⟩
abbrev main_v181 : Ref sig .tc := ⟨.hbm, 330, rfl⟩
abbrev main_v182 : Ref sig .tc := ⟨.hbm, 331, rfl⟩
abbrev main_v183 : Ref sig .tc := ⟨.hbm, 332, rfl⟩
abbrev main_cst_68 : Ref sig .tc := ⟨.hbm, 333, rfl⟩
abbrev main_v184 : Ref sig .tc := ⟨.hbm, 334, rfl⟩
abbrev main_v185 : Ref sig .tc := ⟨.hbm, 335, rfl⟩
abbrev main_v186 : Ref sig .tc := ⟨.hbm, 336, rfl⟩
abbrev main_cst_69 : Ref sig .tc := ⟨.hbm, 337, rfl⟩
abbrev main_v187 : Ref sig .tc := ⟨.hbm, 338, rfl⟩
abbrev main_v188 : Ref sig .tc := ⟨.hbm, 339, rfl⟩
abbrev main_v189 : Ref sig .tc := ⟨.hbm, 340, rfl⟩
abbrev main_cst_70 : Ref sig .tc := ⟨.hbm, 341, rfl⟩
abbrev main_v190 : Ref sig .tc := ⟨.hbm, 342, rfl⟩
abbrev main_v191 : Ref sig .tc := ⟨.hbm, 343, rfl⟩
abbrev main_cst_71 : Ref sig .tc := ⟨.hbm, 344, rfl⟩
abbrev main_v192 : Ref sig .tc := ⟨.hbm, 345, rfl⟩
abbrev main_v193 : Ref sig .tc := ⟨.hbm, 346, rfl⟩
abbrev main_cst_72 : Ref sig .tc := ⟨.hbm, 347, rfl⟩
abbrev main_v194 : Ref sig .tc := ⟨.hbm, 348, rfl⟩
abbrev main_v195 : Ref sig .tc := ⟨.hbm, 349, rfl⟩
abbrev main_v196 : Ref sig .tc := ⟨.hbm, 350, rfl⟩
abbrev main_cst_73 : Ref sig .tc := ⟨.hbm, 351, rfl⟩
abbrev main_v197 : Ref sig .tc := ⟨.hbm, 352, rfl⟩
abbrev main_v198 : Ref sig .tc := ⟨.hbm, 353, rfl⟩
abbrev main_v199 : Ref sig .tc := ⟨.hbm, 354, rfl⟩
abbrev main_cst_74 : Ref sig .tc := ⟨.hbm, 355, rfl⟩
abbrev main_v200 : Ref sig .tc := ⟨.hbm, 356, rfl⟩
abbrev main_v201 : Ref sig .tc := ⟨.hbm, 357, rfl⟩
abbrev main_v202 : Ref sig .tc := ⟨.hbm, 358, rfl⟩
abbrev main_cst_75 : Ref sig .tc := ⟨.hbm, 359, rfl⟩
abbrev main_v203 : Ref sig .tc := ⟨.hbm, 360, rfl⟩
abbrev main_v204 : Ref sig .tc := ⟨.hbm, 361, rfl⟩
abbrev main_cst_76 : Ref sig .tc := ⟨.hbm, 362, rfl⟩
abbrev main_v205 : Ref sig .tc := ⟨.hbm, 363, rfl⟩
abbrev main_v206 : Ref sig .tc := ⟨.hbm, 364, rfl⟩
abbrev main_v207 : Ref sig .tc := ⟨.hbm, 365, rfl⟩
abbrev main_cst_77 : Ref sig .tc := ⟨.hbm, 366, rfl⟩
abbrev main_v208 : Ref sig .tc := ⟨.hbm, 367, rfl⟩
abbrev main_v209 : Ref sig .tc := ⟨.hbm, 368, rfl⟩
abbrev main_v210 : Ref sig .tc := ⟨.hbm, 369, rfl⟩
abbrev main_cst_78 : Ref sig .tc := ⟨.hbm, 370, rfl⟩
abbrev main_v211 : Ref sig .tc := ⟨.hbm, 371, rfl⟩
abbrev main_v212 : Ref sig .tc := ⟨.hbm, 372, rfl⟩
abbrev main_v213 : Ref sig .tc := ⟨.hbm, 373, rfl⟩
abbrev main_cst_79 : Ref sig .tc := ⟨.hbm, 374, rfl⟩
abbrev main_v214 : Ref sig .tc := ⟨.hbm, 375, rfl⟩
abbrev main_v215 : Ref sig .tc := ⟨.hbm, 376, rfl⟩
abbrev main_cst_80 : Ref sig .tc := ⟨.hbm, 377, rfl⟩
abbrev main_v216 : Ref sig .tc := ⟨.hbm, 378, rfl⟩
abbrev main_v217 : Ref sig .tc := ⟨.hbm, 379, rfl⟩
abbrev main_cst_81 : Ref sig .tc := ⟨.hbm, 380, rfl⟩
abbrev main_v218 : Ref sig .tc := ⟨.hbm, 381, rfl⟩
abbrev main_v219 : Ref sig .tc := ⟨.hbm, 382, rfl⟩
abbrev main_v220 : Ref sig .tc := ⟨.hbm, 383, rfl⟩
abbrev main_cst_82 : Ref sig .tc := ⟨.hbm, 384, rfl⟩
abbrev main_v221 : Ref sig .tc := ⟨.hbm, 385, rfl⟩
abbrev main_v222 : Ref sig .tc := ⟨.hbm, 386, rfl⟩
abbrev main_v223 : Ref sig .tc := ⟨.hbm, 387, rfl⟩
abbrev main_cst_83 : Ref sig .tc := ⟨.hbm, 388, rfl⟩
abbrev main_v224 : Ref sig .tc := ⟨.hbm, 389, rfl⟩
abbrev main_v225 : Ref sig .tc := ⟨.hbm, 390, rfl⟩
abbrev main_v226 : Ref sig .tc := ⟨.hbm, 391, rfl⟩
abbrev main_cst_84 : Ref sig .tc := ⟨.hbm, 392, rfl⟩
abbrev main_v227 : Ref sig .tc := ⟨.hbm, 393, rfl⟩
abbrev main_v228 : Ref sig .tc := ⟨.hbm, 394, rfl⟩
abbrev main_cst_85 : Ref sig .tc := ⟨.hbm, 395, rfl⟩
abbrev main_v229 : Ref sig .tc := ⟨.hbm, 396, rfl⟩
abbrev main_v230 : Ref sig .tc := ⟨.hbm, 397, rfl⟩
abbrev main_v231 : Ref sig .tc := ⟨.hbm, 398, rfl⟩
abbrev main_cst_86 : Ref sig .tc := ⟨.hbm, 399, rfl⟩
abbrev main_v232 : Ref sig .tc := ⟨.hbm, 400, rfl⟩
abbrev main_v233 : Ref sig .tc := ⟨.hbm, 401, rfl⟩
abbrev main_v234 : Ref sig .tc := ⟨.hbm, 402, rfl⟩
abbrev main_cst_87 : Ref sig .tc := ⟨.hbm, 403, rfl⟩
abbrev main_v235 : Ref sig .tc := ⟨.hbm, 404, rfl⟩
abbrev main_v236 : Ref sig .tc := ⟨.hbm, 405, rfl⟩
abbrev main_v237 : Ref sig .tc := ⟨.hbm, 406, rfl⟩
abbrev main_cst_88 : Ref sig .tc := ⟨.hbm, 407, rfl⟩
abbrev main_v238 : Ref sig .tc := ⟨.hbm, 408, rfl⟩
abbrev main_v239 : Ref sig .tc := ⟨.hbm, 409, rfl⟩
abbrev main_cst_89 : Ref sig .tc := ⟨.hbm, 410, rfl⟩
abbrev main_v240 : Ref sig .tc := ⟨.hbm, 411, rfl⟩
abbrev main_v241 : Ref sig .tc := ⟨.hbm, 412, rfl⟩
abbrev main_cst_90 : Ref sig .tc := ⟨.hbm, 413, rfl⟩
abbrev main_v242 : Ref sig .tc := ⟨.hbm, 414, rfl⟩
abbrev main_v243 : Ref sig .tc := ⟨.hbm, 415, rfl⟩
abbrev main_v244 : Ref sig .tc := ⟨.hbm, 416, rfl⟩
abbrev main_cst_91 : Ref sig .tc := ⟨.hbm, 417, rfl⟩
abbrev main_v245 : Ref sig .tc := ⟨.hbm, 418, rfl⟩
abbrev main_v246 : Ref sig .tc := ⟨.hbm, 419, rfl⟩
abbrev main_v247 : Ref sig .tc := ⟨.hbm, 420, rfl⟩
abbrev main_cst_92 : Ref sig .tc := ⟨.hbm, 421, rfl⟩
abbrev main_v248 : Ref sig .tc := ⟨.hbm, 422, rfl⟩
abbrev main_v249 : Ref sig .tc := ⟨.hbm, 423, rfl⟩
abbrev main_v250 : Ref sig .tc := ⟨.hbm, 424, rfl⟩
abbrev main_cst_93 : Ref sig .tc := ⟨.hbm, 425, rfl⟩
abbrev main_v251 : Ref sig .tc := ⟨.hbm, 426, rfl⟩
abbrev main_v252 : Ref sig .tc := ⟨.hbm, 427, rfl⟩
abbrev main_cst_94 : Ref sig .tc := ⟨.hbm, 428, rfl⟩
abbrev main_v253 : Ref sig .tc := ⟨.hbm, 429, rfl⟩
abbrev main_v254 : Ref sig .tc := ⟨.hbm, 430, rfl⟩
abbrev main_v255 : Ref sig .tc := ⟨.hbm, 431, rfl⟩
abbrev main_cst_95 : Ref sig .tc := ⟨.hbm, 432, rfl⟩
abbrev main_v256 : Ref sig .tc := ⟨.hbm, 433, rfl⟩
abbrev main_v257 : Ref sig .tc := ⟨.hbm, 434, rfl⟩
abbrev main_v258 : Ref sig .tc := ⟨.hbm, 435, rfl⟩
abbrev main_cst_96 : Ref sig .tc := ⟨.hbm, 436, rfl⟩
abbrev main_v259 : Ref sig .tc := ⟨.hbm, 437, rfl⟩
abbrev main_v260 : Ref sig .tc := ⟨.hbm, 438, rfl⟩
abbrev main_v261 : Ref sig .tc := ⟨.hbm, 439, rfl⟩
abbrev main_cst_97 : Ref sig .tc := ⟨.hbm, 440, rfl⟩
abbrev main_v262 : Ref sig .tc := ⟨.hbm, 441, rfl⟩
abbrev main_v263 : Ref sig .tc := ⟨.hbm, 442, rfl⟩
abbrev main_cst_98 : Ref sig .tc := ⟨.hbm, 443, rfl⟩
abbrev main_v264 : Ref sig .tc := ⟨.hbm, 444, rfl⟩
abbrev main_v265 : Ref sig .tc := ⟨.hbm, 445, rfl⟩
abbrev main_cst_99 : Ref sig .tc := ⟨.hbm, 446, rfl⟩
abbrev main_v266 : Ref sig .tc := ⟨.hbm, 447, rfl⟩
abbrev main_v267 : Ref sig .tc := ⟨.hbm, 448, rfl⟩
abbrev main_v268 : Ref sig .tc := ⟨.hbm, 449, rfl⟩
abbrev main_cst_100 : Ref sig .tc := ⟨.hbm, 450, rfl⟩
abbrev main_v269 : Ref sig .tc := ⟨.hbm, 451, rfl⟩
abbrev main_v270 : Ref sig .tc := ⟨.hbm, 452, rfl⟩
abbrev main_v271 : Ref sig .tc := ⟨.hbm, 453, rfl⟩
abbrev main_cst_101 : Ref sig .tc := ⟨.hbm, 454, rfl⟩
abbrev main_v272 : Ref sig .tc := ⟨.hbm, 455, rfl⟩
abbrev main_v273 : Ref sig .tc := ⟨.hbm, 456, rfl⟩
abbrev main_v274 : Ref sig .tc := ⟨.hbm, 457, rfl⟩
abbrev main_cst_102 : Ref sig .tc := ⟨.hbm, 458, rfl⟩
abbrev main_v275 : Ref sig .tc := ⟨.hbm, 459, rfl⟩
abbrev main_v276 : Ref sig .tc := ⟨.hbm, 460, rfl⟩
abbrev main_cst_103 : Ref sig .tc := ⟨.hbm, 461, rfl⟩
abbrev main_v277 : Ref sig .tc := ⟨.hbm, 462, rfl⟩
abbrev main_v278 : Ref sig .tc := ⟨.hbm, 463, rfl⟩
abbrev main_v279 : Ref sig .tc := ⟨.hbm, 464, rfl⟩
abbrev main_cst_104 : Ref sig .tc := ⟨.hbm, 465, rfl⟩
abbrev main_v280 : Ref sig .tc := ⟨.hbm, 466, rfl⟩
abbrev main_v281 : Ref sig .tc := ⟨.hbm, 467, rfl⟩
abbrev main_v282 : Ref sig .tc := ⟨.hbm, 468, rfl⟩
abbrev main_cst_105 : Ref sig .tc := ⟨.hbm, 469, rfl⟩
abbrev main_v283 : Ref sig .tc := ⟨.hbm, 470, rfl⟩
abbrev main_v284 : Ref sig .tc := ⟨.hbm, 471, rfl⟩
abbrev main_v285 : Ref sig .tc := ⟨.hbm, 472, rfl⟩
abbrev main_cst_106 : Ref sig .tc := ⟨.hbm, 473, rfl⟩
abbrev main_v286 : Ref sig .tc := ⟨.hbm, 474, rfl⟩
abbrev main_v287 : Ref sig .tc := ⟨.hbm, 475, rfl⟩
abbrev main_cst_107 : Ref sig .tc := ⟨.hbm, 476, rfl⟩
abbrev main_v288 : Ref sig .tc := ⟨.hbm, 477, rfl⟩
abbrev main_v289 : Ref sig .tc := ⟨.hbm, 478, rfl⟩
abbrev main_cst_108 : Ref sig .tc := ⟨.hbm, 479, rfl⟩
abbrev main_v290 : Ref sig .tc := ⟨.hbm, 480, rfl⟩
abbrev main_v291 : Ref sig .tc := ⟨.hbm, 481, rfl⟩
abbrev main_v292 : Ref sig .tc := ⟨.hbm, 482, rfl⟩
abbrev main_cst_109 : Ref sig .tc := ⟨.hbm, 483, rfl⟩
abbrev main_v293 : Ref sig .tc := ⟨.hbm, 484, rfl⟩
abbrev main_v294 : Ref sig .tc := ⟨.hbm, 485, rfl⟩
abbrev main_v295 : Ref sig .tc := ⟨.hbm, 486, rfl⟩
abbrev main_cst_110 : Ref sig .tc := ⟨.hbm, 487, rfl⟩
abbrev main_v296 : Ref sig .tc := ⟨.hbm, 488, rfl⟩
abbrev main_v297 : Ref sig .tc := ⟨.hbm, 489, rfl⟩
abbrev main_v298 : Ref sig .tc := ⟨.hbm, 490, rfl⟩
abbrev main_cst_111 : Ref sig .tc := ⟨.hbm, 491, rfl⟩
abbrev main_v299 : Ref sig .tc := ⟨.hbm, 492, rfl⟩
abbrev main_v300 : Ref sig .tc := ⟨.hbm, 493, rfl⟩
abbrev main_cst_112 : Ref sig .tc := ⟨.hbm, 494, rfl⟩
abbrev main_v301 : Ref sig .tc := ⟨.hbm, 495, rfl⟩
abbrev main_v302 : Ref sig .tc := ⟨.hbm, 496, rfl⟩
abbrev main_v303 : Ref sig .tc := ⟨.hbm, 497, rfl⟩
abbrev main_cst_113 : Ref sig .tc := ⟨.hbm, 498, rfl⟩
abbrev main_v304 : Ref sig .tc := ⟨.hbm, 499, rfl⟩
abbrev main_v305 : Ref sig .tc := ⟨.hbm, 500, rfl⟩
abbrev main_v306 : Ref sig .tc := ⟨.hbm, 501, rfl⟩
abbrev main_cst_114 : Ref sig .tc := ⟨.hbm, 502, rfl⟩
abbrev main_v307 : Ref sig .tc := ⟨.hbm, 503, rfl⟩
abbrev main_v308 : Ref sig .tc := ⟨.hbm, 504, rfl⟩
abbrev main_v309 : Ref sig .tc := ⟨.hbm, 505, rfl⟩
abbrev main_cst_115 : Ref sig .tc := ⟨.hbm, 506, rfl⟩
abbrev main_v310 : Ref sig .tc := ⟨.hbm, 507, rfl⟩
abbrev main_v311 : Ref sig .tc := ⟨.hbm, 508, rfl⟩
abbrev main_cst_116 : Ref sig .tc := ⟨.hbm, 509, rfl⟩
abbrev main_v312 : Ref sig .tc := ⟨.hbm, 510, rfl⟩
abbrev main_v313 : Ref sig .tc := ⟨.hbm, 511, rfl⟩
abbrev main_cst_117 : Ref sig .tc := ⟨.hbm, 512, rfl⟩
abbrev main_v314 : Ref sig .tc := ⟨.hbm, 513, rfl⟩
abbrev main_v315 : Ref sig .tc := ⟨.hbm, 514, rfl⟩
abbrev main_v316 : Ref sig .tc := ⟨.hbm, 515, rfl⟩
abbrev main_cst_118 : Ref sig .tc := ⟨.hbm, 516, rfl⟩
abbrev main_v317 : Ref sig .tc := ⟨.hbm, 517, rfl⟩
abbrev main_v318 : Ref sig .tc := ⟨.hbm, 518, rfl⟩
abbrev main_v319 : Ref sig .tc := ⟨.hbm, 519, rfl⟩
abbrev main_cst_119 : Ref sig .tc := ⟨.hbm, 520, rfl⟩
abbrev main_v320 : Ref sig .tc := ⟨.hbm, 521, rfl⟩
abbrev main_v321 : Ref sig .tc := ⟨.hbm, 522, rfl⟩
abbrev main_v322 : Ref sig .tc := ⟨.hbm, 523, rfl⟩
abbrev main_cst_120 : Ref sig .tc := ⟨.hbm, 524, rfl⟩
abbrev main_v323 : Ref sig .tc := ⟨.hbm, 525, rfl⟩
abbrev main_v324 : Ref sig .tc := ⟨.hbm, 526, rfl⟩
abbrev main_cst_121 : Ref sig .tc := ⟨.hbm, 527, rfl⟩
abbrev main_v325 : Ref sig .tc := ⟨.hbm, 528, rfl⟩
abbrev main_v326 : Ref sig .tc := ⟨.hbm, 529, rfl⟩
abbrev main_v327 : Ref sig .tc := ⟨.hbm, 530, rfl⟩
abbrev main_cst_122 : Ref sig .tc := ⟨.hbm, 531, rfl⟩
abbrev main_v328 : Ref sig .tc := ⟨.hbm, 532, rfl⟩
abbrev main_v329 : Ref sig .tc := ⟨.hbm, 533, rfl⟩
abbrev main_v330 : Ref sig .tc := ⟨.hbm, 534, rfl⟩
abbrev main_cst_123 : Ref sig .tc := ⟨.hbm, 535, rfl⟩
abbrev main_v331 : Ref sig .tc := ⟨.hbm, 536, rfl⟩
abbrev main_v332 : Ref sig .tc := ⟨.hbm, 537, rfl⟩
abbrev main_v333 : Ref sig .tc := ⟨.hbm, 538, rfl⟩
abbrev main_cst_124 : Ref sig .tc := ⟨.hbm, 539, rfl⟩
abbrev main_v334 : Ref sig .tc := ⟨.hbm, 540, rfl⟩
abbrev main_v335 : Ref sig .tc := ⟨.hbm, 541, rfl⟩
abbrev main_cst_125 : Ref sig .tc := ⟨.hbm, 542, rfl⟩
abbrev main_v336 : Ref sig .tc := ⟨.hbm, 543, rfl⟩
abbrev main_v337 : Ref sig .tc := ⟨.hbm, 544, rfl⟩
abbrev main_cst_126 : Ref sig .tc := ⟨.hbm, 545, rfl⟩
abbrev main_v338 : Ref sig .tc := ⟨.hbm, 546, rfl⟩
abbrev main_v339 : Ref sig .tc := ⟨.hbm, 547, rfl⟩
abbrev main_v340 : Ref sig .tc := ⟨.hbm, 548, rfl⟩
abbrev main_cst_127 : Ref sig .tc := ⟨.hbm, 549, rfl⟩
abbrev main_v341 : Ref sig .tc := ⟨.hbm, 550, rfl⟩
abbrev main_v342 : Ref sig .tc := ⟨.hbm, 551, rfl⟩
abbrev main_v343 : Ref sig .tc := ⟨.hbm, 552, rfl⟩
abbrev main_cst_128 : Ref sig .tc := ⟨.hbm, 553, rfl⟩
abbrev main_v344 : Ref sig .tc := ⟨.hbm, 554, rfl⟩
abbrev main_v345 : Ref sig .tc := ⟨.hbm, 555, rfl⟩
abbrev main_v346 : Ref sig .tc := ⟨.hbm, 556, rfl⟩
abbrev main_cst_129 : Ref sig .tc := ⟨.hbm, 557, rfl⟩
abbrev main_v347 : Ref sig .tc := ⟨.hbm, 558, rfl⟩
abbrev main_v348 : Ref sig .tc := ⟨.hbm, 559, rfl⟩
abbrev main_cst_130 : Ref sig .tc := ⟨.hbm, 560, rfl⟩
abbrev main_v349 : Ref sig .tc := ⟨.hbm, 561, rfl⟩
abbrev main_v350 : Ref sig .tc := ⟨.hbm, 562, rfl⟩
abbrev main_v351 : Ref sig .tc := ⟨.hbm, 563, rfl⟩
abbrev main_cst_131 : Ref sig .tc := ⟨.hbm, 564, rfl⟩
abbrev main_v352 : Ref sig .tc := ⟨.hbm, 565, rfl⟩
abbrev main_v353 : Ref sig .tc := ⟨.hbm, 566, rfl⟩
abbrev main_v354 : Ref sig .tc := ⟨.hbm, 567, rfl⟩
abbrev main_cst_132 : Ref sig .tc := ⟨.hbm, 568, rfl⟩
abbrev main_v355 : Ref sig .tc := ⟨.hbm, 569, rfl⟩
abbrev main_v356 : Ref sig .tc := ⟨.hbm, 570, rfl⟩
abbrev main_v357 : Ref sig .tc := ⟨.hbm, 571, rfl⟩
abbrev main_cst_133 : Ref sig .tc := ⟨.hbm, 572, rfl⟩
abbrev main_v358 : Ref sig .tc := ⟨.hbm, 573, rfl⟩
abbrev main_v359 : Ref sig .tc := ⟨.hbm, 574, rfl⟩
abbrev main_cst_134 : Ref sig .tc := ⟨.hbm, 575, rfl⟩
abbrev main_v360 : Ref sig .tc := ⟨.hbm, 576, rfl⟩
abbrev main_v361 : Ref sig .tc := ⟨.hbm, 577, rfl⟩
abbrev main_cst_135 : Ref sig .tc := ⟨.hbm, 578, rfl⟩
abbrev main_v362 : Ref sig .tc := ⟨.hbm, 579, rfl⟩
abbrev main_v363 : Ref sig .tc := ⟨.hbm, 580, rfl⟩
abbrev main_v364 : Ref sig .tc := ⟨.hbm, 581, rfl⟩
abbrev main_cst_136 : Ref sig .tc := ⟨.hbm, 582, rfl⟩
abbrev main_v365 : Ref sig .tc := ⟨.hbm, 583, rfl⟩
abbrev main_v366 : Ref sig .tc := ⟨.hbm, 584, rfl⟩
abbrev main_v367 : Ref sig .tc := ⟨.hbm, 585, rfl⟩
abbrev main_cst_137 : Ref sig .tc := ⟨.hbm, 586, rfl⟩
abbrev main_v368 : Ref sig .tc := ⟨.hbm, 587, rfl⟩
abbrev main_v369 : Ref sig .tc := ⟨.hbm, 588, rfl⟩
abbrev main_v370 : Ref sig .tc := ⟨.hbm, 589, rfl⟩
abbrev main_cst_138 : Ref sig .tc := ⟨.hbm, 590, rfl⟩
abbrev main_v371 : Ref sig .tc := ⟨.hbm, 591, rfl⟩
abbrev main_v372 : Ref sig .tc := ⟨.hbm, 592, rfl⟩
abbrev main_cst_139 : Ref sig .tc := ⟨.hbm, 593, rfl⟩
abbrev main_v373 : Ref sig .tc := ⟨.hbm, 594, rfl⟩
abbrev main_v374 : Ref sig .tc := ⟨.hbm, 595, rfl⟩
abbrev main_v375 : Ref sig .tc := ⟨.hbm, 596, rfl⟩
abbrev main_cst_140 : Ref sig .tc := ⟨.hbm, 597, rfl⟩
abbrev main_v376 : Ref sig .tc := ⟨.hbm, 598, rfl⟩
abbrev main_v377 : Ref sig .tc := ⟨.hbm, 599, rfl⟩
abbrev main_v378 : Ref sig .tc := ⟨.hbm, 600, rfl⟩
abbrev main_cst_141 : Ref sig .tc := ⟨.hbm, 601, rfl⟩
abbrev main_v379 : Ref sig .tc := ⟨.hbm, 602, rfl⟩
abbrev main_v380 : Ref sig .tc := ⟨.hbm, 603, rfl⟩
abbrev main_v381 : Ref sig .tc := ⟨.hbm, 604, rfl⟩
abbrev main_cst_142 : Ref sig .tc := ⟨.hbm, 605, rfl⟩
abbrev main_v382 : Ref sig .tc := ⟨.hbm, 606, rfl⟩
abbrev main_v383 : Ref sig .tc := ⟨.hbm, 607, rfl⟩
abbrev main_cst_143 : Ref sig .tc := ⟨.hbm, 608, rfl⟩
abbrev main_v384 : Ref sig .tc := ⟨.hbm, 609, rfl⟩
abbrev main_v385 : Ref sig .tc := ⟨.hbm, 610, rfl⟩
abbrev main_cst_144 : Ref sig .tc := ⟨.hbm, 611, rfl⟩
abbrev main_v386 : Ref sig .tc := ⟨.hbm, 612, rfl⟩
abbrev main_v387 : Ref sig .tc := ⟨.hbm, 613, rfl⟩
abbrev main_v388 : Ref sig .tc := ⟨.hbm, 614, rfl⟩
abbrev main_cst_145 : Ref sig .tc := ⟨.hbm, 615, rfl⟩
abbrev main_v389 : Ref sig .tc := ⟨.hbm, 616, rfl⟩
abbrev main_v390 : Ref sig .tc := ⟨.hbm, 617, rfl⟩
abbrev main_v391 : Ref sig .tc := ⟨.hbm, 618, rfl⟩
abbrev main_cst_146 : Ref sig .tc := ⟨.hbm, 619, rfl⟩
abbrev main_v392 : Ref sig .tc := ⟨.hbm, 620, rfl⟩
abbrev main_v393 : Ref sig .tc := ⟨.hbm, 621, rfl⟩
abbrev main_v394 : Ref sig .tc := ⟨.hbm, 622, rfl⟩
abbrev main_cst_147 : Ref sig .tc := ⟨.hbm, 623, rfl⟩
abbrev main_v395 : Ref sig .tc := ⟨.hbm, 624, rfl⟩
abbrev main_v396 : Ref sig .tc := ⟨.hbm, 625, rfl⟩
abbrev main_cst_148 : Ref sig .tc := ⟨.hbm, 626, rfl⟩
abbrev main_v397 : Ref sig .tc := ⟨.hbm, 627, rfl⟩
abbrev main_v398 : Ref sig .tc := ⟨.hbm, 628, rfl⟩
abbrev main_v399 : Ref sig .tc := ⟨.hbm, 629, rfl⟩
abbrev main_cst_149 : Ref sig .tc := ⟨.hbm, 630, rfl⟩
abbrev main_v400 : Ref sig .tc := ⟨.hbm, 631, rfl⟩
abbrev main_v401 : Ref sig .tc := ⟨.hbm, 632, rfl⟩
abbrev main_v402 : Ref sig .tc := ⟨.hbm, 633, rfl⟩
abbrev main_cst_150 : Ref sig .tc := ⟨.hbm, 634, rfl⟩
abbrev main_v403 : Ref sig .tc := ⟨.hbm, 635, rfl⟩
abbrev main_v404 : Ref sig .tc := ⟨.hbm, 636, rfl⟩
abbrev main_v405 : Ref sig .tc := ⟨.hbm, 637, rfl⟩
abbrev main_cst_151 : Ref sig .tc := ⟨.hbm, 638, rfl⟩
abbrev main_v406 : Ref sig .tc := ⟨.hbm, 639, rfl⟩
abbrev main_v407 : Ref sig .tc := ⟨.hbm, 640, rfl⟩
abbrev main_cst_152 : Ref sig .tc := ⟨.hbm, 641, rfl⟩
abbrev main_v408 : Ref sig .tc := ⟨.hbm, 642, rfl⟩
abbrev main_v409 : Ref sig .tc := ⟨.hbm, 643, rfl⟩
abbrev main_cst_153 : Ref sig .tc := ⟨.hbm, 644, rfl⟩
abbrev main_v410 : Ref sig .tc := ⟨.hbm, 645, rfl⟩
abbrev main_v411 : Ref sig .tc := ⟨.hbm, 646, rfl⟩
abbrev main_v412 : Ref sig .tc := ⟨.hbm, 647, rfl⟩
abbrev main_cst_154 : Ref sig .tc := ⟨.hbm, 648, rfl⟩
abbrev main_v413 : Ref sig .tc := ⟨.hbm, 649, rfl⟩
abbrev main_v414 : Ref sig .tc := ⟨.hbm, 650, rfl⟩
abbrev main_v415 : Ref sig .tc := ⟨.hbm, 651, rfl⟩
abbrev main_cst_155 : Ref sig .tc := ⟨.hbm, 652, rfl⟩
abbrev main_v416 : Ref sig .tc := ⟨.hbm, 653, rfl⟩
abbrev main_v417 : Ref sig .tc := ⟨.hbm, 654, rfl⟩
abbrev main_v418 : Ref sig .tc := ⟨.hbm, 655, rfl⟩
abbrev main_cst_156 : Ref sig .tc := ⟨.hbm, 656, rfl⟩
abbrev main_v419 : Ref sig .tc := ⟨.hbm, 657, rfl⟩
abbrev main_v420 : Ref sig .tc := ⟨.hbm, 658, rfl⟩
abbrev main_cst_157 : Ref sig .tc := ⟨.hbm, 659, rfl⟩
abbrev main_v421 : Ref sig .tc := ⟨.hbm, 660, rfl⟩
abbrev main_v422 : Ref sig .tc := ⟨.hbm, 661, rfl⟩
abbrev main_v423 : Ref sig .tc := ⟨.hbm, 662, rfl⟩
abbrev main_cst_158 : Ref sig .tc := ⟨.hbm, 663, rfl⟩
abbrev main_v424 : Ref sig .tc := ⟨.hbm, 664, rfl⟩
abbrev main_v425 : Ref sig .tc := ⟨.hbm, 665, rfl⟩
abbrev main_v426 : Ref sig .tc := ⟨.hbm, 666, rfl⟩
abbrev main_cst_159 : Ref sig .tc := ⟨.hbm, 667, rfl⟩
abbrev main_v427 : Ref sig .tc := ⟨.hbm, 668, rfl⟩
abbrev main_v428 : Ref sig .tc := ⟨.hbm, 669, rfl⟩
abbrev main_v429 : Ref sig .tc := ⟨.hbm, 670, rfl⟩
abbrev main_cst_160 : Ref sig .tc := ⟨.hbm, 671, rfl⟩
abbrev main_v430 : Ref sig .tc := ⟨.hbm, 672, rfl⟩
abbrev main_v431 : Ref sig .tc := ⟨.hbm, 673, rfl⟩
abbrev main_cst_161 : Ref sig .tc := ⟨.hbm, 674, rfl⟩
abbrev main_v432 : Ref sig .tc := ⟨.hbm, 675, rfl⟩
abbrev main_v433 : Ref sig .tc := ⟨.hbm, 676, rfl⟩
abbrev main_cst_162 : Ref sig .tc := ⟨.hbm, 677, rfl⟩
abbrev main_v434 : Ref sig .tc := ⟨.hbm, 678, rfl⟩
abbrev main_v435 : Ref sig .tc := ⟨.hbm, 679, rfl⟩
abbrev main_v436 : Ref sig .tc := ⟨.hbm, 680, rfl⟩
abbrev main_cst_163 : Ref sig .tc := ⟨.hbm, 681, rfl⟩
abbrev main_v437 : Ref sig .tc := ⟨.hbm, 682, rfl⟩
abbrev main_v438 : Ref sig .tc := ⟨.hbm, 683, rfl⟩
abbrev main_v439 : Ref sig .tc := ⟨.hbm, 684, rfl⟩
abbrev main_cst_164 : Ref sig .tc := ⟨.hbm, 685, rfl⟩
abbrev main_v440 : Ref sig .tc := ⟨.hbm, 686, rfl⟩
abbrev main_v441 : Ref sig .tc := ⟨.hbm, 687, rfl⟩
abbrev main_v442 : Ref sig .tc := ⟨.hbm, 688, rfl⟩
abbrev main_cst_165 : Ref sig .tc := ⟨.hbm, 689, rfl⟩
abbrev main_v443 : Ref sig .tc := ⟨.hbm, 690, rfl⟩
abbrev main_v444 : Ref sig .tc := ⟨.hbm, 691, rfl⟩
abbrev main_cst_166 : Ref sig .tc := ⟨.hbm, 692, rfl⟩
abbrev main_v445 : Ref sig .tc := ⟨.hbm, 693, rfl⟩
abbrev main_v446 : Ref sig .tc := ⟨.hbm, 694, rfl⟩
abbrev main_v447 : Ref sig .tc := ⟨.hbm, 695, rfl⟩
abbrev main_cst_167 : Ref sig .tc := ⟨.hbm, 696, rfl⟩
abbrev main_v448 : Ref sig .tc := ⟨.hbm, 697, rfl⟩
abbrev main_v449 : Ref sig .tc := ⟨.hbm, 698, rfl⟩
abbrev main_v450 : Ref sig .tc := ⟨.hbm, 699, rfl⟩
abbrev main_cst_168 : Ref sig .tc := ⟨.hbm, 700, rfl⟩
abbrev main_v451 : Ref sig .tc := ⟨.hbm, 701, rfl⟩
abbrev main_v452 : Ref sig .tc := ⟨.hbm, 702, rfl⟩
abbrev main_v453 : Ref sig .tc := ⟨.hbm, 703, rfl⟩
abbrev main_cst_169 : Ref sig .tc := ⟨.hbm, 704, rfl⟩
abbrev main_v454 : Ref sig .tc := ⟨.hbm, 705, rfl⟩
abbrev main_v455 : Ref sig .tc := ⟨.hbm, 706, rfl⟩
abbrev main_cst_170 : Ref sig .tc := ⟨.hbm, 707, rfl⟩
abbrev main_v456 : Ref sig .tc := ⟨.hbm, 708, rfl⟩
abbrev main_v457 : Ref sig .tc := ⟨.hbm, 709, rfl⟩
abbrev main_cst_171 : Ref sig .tc := ⟨.hbm, 710, rfl⟩
abbrev main_v458 : Ref sig .tc := ⟨.hbm, 711, rfl⟩
abbrev main_v459 : Ref sig .tc := ⟨.hbm, 712, rfl⟩
abbrev main_v460 : Ref sig .tc := ⟨.hbm, 713, rfl⟩
abbrev main_cst_172 : Ref sig .tc := ⟨.hbm, 714, rfl⟩
abbrev main_v461 : Ref sig .tc := ⟨.hbm, 715, rfl⟩
abbrev main_v462 : Ref sig .tc := ⟨.hbm, 716, rfl⟩
abbrev main_v463 : Ref sig .tc := ⟨.hbm, 717, rfl⟩
abbrev main_cst_173 : Ref sig .tc := ⟨.hbm, 718, rfl⟩
abbrev main_v464 : Ref sig .tc := ⟨.hbm, 719, rfl⟩
abbrev main_v465 : Ref sig .tc := ⟨.hbm, 720, rfl⟩
abbrev main_v466 : Ref sig .tc := ⟨.hbm, 721, rfl⟩
abbrev main_cst_174 : Ref sig .tc := ⟨.hbm, 722, rfl⟩
abbrev main_v467 : Ref sig .tc := ⟨.hbm, 723, rfl⟩
abbrev main_v468 : Ref sig .tc := ⟨.hbm, 724, rfl⟩
abbrev main_cst_175 : Ref sig .tc := ⟨.hbm, 725, rfl⟩
abbrev main_v469 : Ref sig .tc := ⟨.hbm, 726, rfl⟩
abbrev main_v470 : Ref sig .tc := ⟨.hbm, 727, rfl⟩
abbrev main_v471 : Ref sig .tc := ⟨.hbm, 728, rfl⟩
abbrev main_cst_176 : Ref sig .tc := ⟨.hbm, 729, rfl⟩
abbrev main_v472 : Ref sig .tc := ⟨.hbm, 730, rfl⟩
abbrev main_v473 : Ref sig .tc := ⟨.hbm, 731, rfl⟩
abbrev main_v474 : Ref sig .tc := ⟨.hbm, 732, rfl⟩
abbrev main_cst_177 : Ref sig .tc := ⟨.hbm, 733, rfl⟩
abbrev main_v475 : Ref sig .tc := ⟨.hbm, 734, rfl⟩
abbrev main_v476 : Ref sig .tc := ⟨.hbm, 735, rfl⟩
abbrev main_v477 : Ref sig .tc := ⟨.hbm, 736, rfl⟩
abbrev main_cst_178 : Ref sig .tc := ⟨.hbm, 737, rfl⟩
abbrev main_v478 : Ref sig .tc := ⟨.hbm, 738, rfl⟩
abbrev main_v479 : Ref sig .tc := ⟨.hbm, 739, rfl⟩
abbrev main_v480 : Ref sig .tc := ⟨.hbm, 740, rfl⟩
abbrev main_v481 : Ref sig .tc := ⟨.hbm, 741, rfl⟩
abbrev main_v482 : Ref sig .tc := ⟨.hbm, 742, rfl⟩
abbrev main_v483 : Ref sig .tc := ⟨.hbm, 743, rfl⟩
abbrev main_v484 : Ref sig .tc := ⟨.hbm, 744, rfl⟩
abbrev main_v485 : Ref sig .tc := ⟨.hbm, 745, rfl⟩
abbrev main_v486 : Ref sig .tc := ⟨.hbm, 746, rfl⟩
abbrev main_v487 : Ref sig .tc := ⟨.hbm, 747, rfl⟩
abbrev main_v488 : Ref sig .tc := ⟨.hbm, 748, rfl⟩
abbrev main_v489 : Ref sig .tc := ⟨.hbm, 749, rfl⟩
abbrev main_v490 : Ref sig .tc := ⟨.hbm, 750, rfl⟩
abbrev main_v491 : Ref sig .tc := ⟨.hbm, 751, rfl⟩
abbrev main_v492 : Ref sig .tc := ⟨.hbm, 752, rfl⟩
abbrev main_v493 : Ref sig .tc := ⟨.hbm, 753, rfl⟩
abbrev main_v494 : Ref sig .tc := ⟨.hbm, 754, rfl⟩
abbrev main_v495 : Ref sig .tc := ⟨.hbm, 755, rfl⟩
abbrev main_v496 : Ref sig .tc := ⟨.hbm, 756, rfl⟩
abbrev main_cst_179 : Ref sig .tc := ⟨.hbm, 757, rfl⟩
abbrev main_v497 : Ref sig .tc := ⟨.hbm, 758, rfl⟩
abbrev main_v498 : Ref sig .tc := ⟨.hbm, 759, rfl⟩
abbrev main_v499 : Ref sig .tc := ⟨.hbm, 760, rfl⟩
abbrev main_v500 : Ref sig .tc := ⟨.hbm, 761, rfl⟩
abbrev main_v501 : Ref sig .tc := ⟨.hbm, 762, rfl⟩
abbrev main_v502 : Ref sig .tc := ⟨.hbm, 763, rfl⟩
abbrev main_v503 : Ref sig .tc := ⟨.hbm, 764, rfl⟩
abbrev main_v504 : Ref sig .tc := ⟨.hbm, 765, rfl⟩
abbrev main_v505 : Ref sig .tc := ⟨.hbm, 766, rfl⟩
abbrev main_v506 : Ref sig .tc := ⟨.hbm, 767, rfl⟩
abbrev main_v507 : Ref sig .tc := ⟨.hbm, 768, rfl⟩
abbrev main_v508 : Ref sig .tc := ⟨.hbm, 769, rfl⟩
abbrev main_v509 : Ref sig .tc := ⟨.hbm, 770, rfl⟩
abbrev main_v510 : Ref sig .tc := ⟨.hbm, 771, rfl⟩
abbrev main_v511 : Ref sig .tc := ⟨.hbm, 772, rfl⟩
abbrev main_v512 : Ref sig .tc := ⟨.hbm, 773, rfl⟩
abbrev main_v513 : Ref sig .tc := ⟨.hbm, 774, rfl⟩
abbrev main_v514 : Ref sig .tc := ⟨.hbm, 775, rfl⟩
abbrev main_v515 : Ref sig .tc := ⟨.hbm, 776, rfl⟩
abbrev main_v516 : Ref sig .tc := ⟨.hbm, 777, rfl⟩
abbrev main_v517 : Ref sig .tc := ⟨.hbm, 778, rfl⟩
abbrev main_v518 : Ref sig .tc := ⟨.hbm, 779, rfl⟩
abbrev main_cst_180 : Ref sig .tc := ⟨.hbm, 780, rfl⟩
abbrev main_v519 : Ref sig .tc := ⟨.hbm, 781, rfl⟩
abbrev main_v520 : Ref sig .tc := ⟨.hbm, 782, rfl⟩
abbrev main_v521 : Ref sig .tc := ⟨.hbm, 783, rfl⟩
abbrev main_v522 : Ref sig .tc := ⟨.hbm, 784, rfl⟩
abbrev main_v523 : Ref sig .tc := ⟨.hbm, 785, rfl⟩
abbrev main_v524 : Ref sig .tc := ⟨.hbm, 786, rfl⟩
abbrev main_v525 : Ref sig .tc := ⟨.hbm, 787, rfl⟩
abbrev main_v526 : Ref sig .tc := ⟨.hbm, 788, rfl⟩
abbrev main_v527 : Ref sig .tc := ⟨.hbm, 789, rfl⟩
abbrev main_v528 : Ref sig .tc := ⟨.hbm, 790, rfl⟩
abbrev main_v529 : Ref sig .tc := ⟨.hbm, 791, rfl⟩
abbrev main_v530 : Ref sig .tc := ⟨.hbm, 792, rfl⟩
abbrev main_v531 : Ref sig .tc := ⟨.hbm, 793, rfl⟩
abbrev main_v532 : Ref sig .tc := ⟨.hbm, 794, rfl⟩
abbrev main_v533 : Ref sig .tc := ⟨.hbm, 795, rfl⟩
abbrev main_v534 : Ref sig .tc := ⟨.hbm, 796, rfl⟩
abbrev main_v535 : Ref sig .tc := ⟨.hbm, 797, rfl⟩
abbrev main_v536 : Ref sig .tc := ⟨.hbm, 798, rfl⟩
abbrev main_v537 : Ref sig .tc := ⟨.hbm, 799, rfl⟩
abbrev main_v538 : Ref sig .tc := ⟨.hbm, 800, rfl⟩
abbrev main_v539 : Ref sig .tc := ⟨.hbm, 801, rfl⟩
abbrev main_v540 : Ref sig .tc := ⟨.hbm, 802, rfl⟩
abbrev main_cst_181 : Ref sig .tc := ⟨.hbm, 803, rfl⟩
abbrev main_v541 : Ref sig .tc := ⟨.hbm, 804, rfl⟩
abbrev main_v542 : Ref sig .tc := ⟨.hbm, 805, rfl⟩
abbrev main_v543 : Ref sig .tc := ⟨.hbm, 806, rfl⟩
abbrev main_v544 : Ref sig .tc := ⟨.hbm, 807, rfl⟩
abbrev main_v545 : Ref sig .tc := ⟨.hbm, 808, rfl⟩

abbrev nD : Nat := 1
abbrev τ : Topo := Topo.v7x

variable {F : FTy → Type} [FloatOps F]
-- ==== SumSmall.lean ====
abbrev S64x20352 : Shape := ⟨2, ![64, 20352]⟩
abbrev S8x20352 : Shape := ⟨2, ![8, 20352]⟩

abbrev nBuf : Space → Nat
  | .hbm => 2
  | .vmem => 2
  | .smem => 0
  | _ => 0

abbrev bufTy : (tb : Table) → Fin (tcTables nBuf tb) → BufTy
  | .hbm, ⟨0, _⟩ => ⟨S64x20352, .f32⟩
  | .hbm, ⟨1, _⟩ => ⟨S8x20352, .f32⟩
  | .local _ .vmem, ⟨0, _⟩ => ⟨S64x20352, .f32⟩
  | .local _ .vmem, ⟨1, _⟩ => ⟨S8x20352, .f32⟩
  | _, _ => ⟨S64x20352, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x20352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x20352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S64x20352 : Shape := ⟨2, ![64, 20352]⟩
abbrev S8x8x20352 : Shape := ⟨3, ![8, 8, 20352]⟩
abbrev S_ : Shape := ⟨0, ![]⟩
abbrev S8x20352 : Shape := ⟨2, ![8, 20352]⟩

abbrev nBuf : Space → Nat
  | .hbm => 4
  | .vmem => 0
  | .smem => 0
  | _ => 0

abbrev bufTy : (tb : Table) → Fin (tcTables nBuf tb) → BufTy
  | .hbm, ⟨0, _⟩ => ⟨S64x20352, .f32⟩
  | .hbm, ⟨1, _⟩ => ⟨S8x8x20352, .f32⟩
  | .hbm, ⟨2, _⟩ => ⟨S_, .f32⟩
  | .hbm, ⟨3, _⟩ => ⟨S8x20352, .f32⟩
  | _, _ => ⟨S64x20352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DmodPrep.lean ====
abbrev S64x24576 : Shape := ⟨2, ![64, 24576]⟩
abbrev S16x24576 : Shape := ⟨2, ![16, 24576]⟩
abbrev S1x24576 : Shape := ⟨2, ![1, 24576]⟩
abbrev S64x2048 : Shape := ⟨2, ![64, 2048]⟩
abbrev S16x2048 : Shape := ⟨2, ![16, 2048]⟩
abbrev S1x2048 : Shape := ⟨2, ![1, 2048]⟩
abbrev S7x2048 : Shape := ⟨2, ![7, 2048]⟩

abbrev nBuf : Space → Nat
  | .hbm => 3
  | .vmem => 6
  | .smem => 0
  | _ => 0

abbrev bufTy : (tb : Table) → Fin (tcTables nBuf tb) → BufTy
  | .hbm, ⟨0, _⟩ => ⟨S64x24576, .f32⟩
  | .hbm, ⟨1, _⟩ => ⟨S16x24576, .f32⟩
  | .hbm, ⟨2, _⟩ => ⟨S1x24576, .f32⟩
  | .local _ .vmem, ⟨0, _⟩ => ⟨S64x2048, .f32⟩
  | .local _ .vmem, ⟨1, _⟩ => ⟨S64x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048, .f32⟩
  | _, _ => ⟨S64x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DmodPrepRefIdeal.lean ====
abbrev S64x24576 : Shape := ⟨2, ![64, 24576]⟩
abbrev S8x8x24576 : Shape := ⟨3, ![8, 8, 24576]⟩
abbrev S8x1x24576 : Shape := ⟨3, ![8, 1, 24576]⟩
abbrev S8x24576 : Shape := ⟨2, ![8, 24576]⟩
abbrev S_ : Shape := ⟨0, ![]⟩
abbrev S24576 : Shape := ⟨1, ![24576]⟩
abbrev S1x24576 : Shape := ⟨2, ![1, 24576]⟩
abbrev S7x24576 : Shape := ⟨2, ![7, 24576]⟩
abbrev S16x24576 : Shape := ⟨2, ![16, 24576]⟩

abbrev nBuf : Space → Nat
  | .hbm => 18
  | .vmem => 0
  | .smem => 0
  | _ => 0

abbrev bufTy : (tb : Table) → Fin (tcTables nBuf tb) → BufTy
  | .hbm, ⟨0, _⟩ => ⟨S64x24576, .f32⟩
  | .hbm, ⟨1, _⟩ => ⟨S8x8x24576, .f32⟩
  | .hbm, ⟨2, _⟩ => ⟨S8x1x24576, .f32⟩
  | .hbm, ⟨3, _⟩ => ⟨S8x24576, .f32⟩
  | .hbm, ⟨4, _⟩ => ⟨S_, .f32⟩
  | .hbm, ⟨5, _⟩ => ⟨S24576, .f32⟩
  | .hbm, ⟨6, _⟩ => ⟨S1x24576, .f32⟩
  | .hbm, ⟨7, _⟩ => ⟨S8x1x24576, .f32⟩
  | .hbm, ⟨8, _⟩ => ⟨S8x24576, .f32⟩
  | .hbm, ⟨9, _⟩ => ⟨S_, .f32⟩
  | .hbm, ⟨10, _⟩ => ⟨S7x24576, .f32⟩
  | .hbm, ⟨11, _⟩ => ⟨S16x24576, .f32⟩
  | .hbm, ⟨12, _⟩ => ⟨S8x1x24576, .f32⟩
  | .hbm, ⟨13, _⟩ => ⟨S8x24576, .f32⟩
  | .hbm, ⟨14, _⟩ => ⟨S_, .f32⟩
  | .hbm, ⟨15, _⟩ => ⟨S24576, .f32⟩
  | .hbm, ⟨16, _⟩ => ⟨S1x24576, .f32⟩
  | .hbm, ⟨17, _⟩ => ⟨S1x24576, .f32⟩
  | _, _ => ⟨S64x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== ModBwdW.lean ====
abbrev S16x4096 : Shape := ⟨2, ![16, 4096]⟩
abbrev S16x6144 : Shape := ⟨2, ![16, 6144]⟩
abbrev S4096x6144 : Shape := ⟨2, ![4096, 6144]⟩
abbrev S16x512 : Shape := ⟨2, ![16, 512]⟩
abbrev S16x1024 : Shape := ⟨2, ![16, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x4096, .f32⟩
  | .hbm, ⟨1, _⟩ => ⟨S16x6144, .f32⟩
  | .hbm, ⟨2, _⟩ => ⟨S4096x6144, .f32⟩
  | .local _ .vmem, ⟨0, _⟩ => ⟨S16x512, .f32⟩
  | .local _ .vmem, ⟨1, _⟩ => ⟨S16x512, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModBwdWRefIdeal.lean ====
abbrev S16x4096 : Shape := ⟨2, ![16, 4096]⟩
abbrev S16x6144 : Shape := ⟨2, ![16, 6144]⟩
abbrev S_ : Shape := ⟨0, ![]⟩
abbrev S4096x6144 : Shape := ⟨2, ![4096, 6144]⟩
abbrev S6144x4096 : Shape := ⟨2, ![6144, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x6144, .f32⟩
  | .hbm, ⟨2, _⟩ => ⟨S_, .f32⟩
  | .hbm, ⟨3, _⟩ => ⟨S4096x6144, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S_, .f32⟩
  | .hbm, ⟨10, _⟩ => ⟨S16x4096, .f32⟩
  | .hbm, ⟨11, _⟩ => ⟨S16x4096, .f32⟩
  | .hbm, ⟨12, _⟩ => ⟨S16x4096, .f32⟩
  | .hbm, ⟨13, _⟩ => ⟨S16x6144, .f32⟩
  | .hbm, ⟨14, _⟩ => ⟨S6144x4096, .f32⟩
  | .hbm, ⟨15, _⟩ => ⟨S4096x6144, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== ModBwdC.lean ====
abbrev S16x6144 : Shape := ⟨2, ![16, 6144]⟩
abbrev S1x4096x6144 : Shape := ⟨3, ![1, 4096, 6144]⟩
abbrev S4096x6144 : Shape := ⟨2, ![4096, 6144]⟩
abbrev S16x4096 : Shape := ⟨2, ![16, 4096]⟩
abbrev S16x1024 : Shape := ⟨2, ![16, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16x6144, .f32⟩
  | .hbm, ⟨1, _⟩ => ⟨S1x4096x6144, .f32⟩
  | .hbm, ⟨2, _⟩ => ⟨S4096x6144, .f32⟩
  | .hbm, ⟨3, _⟩ => ⟨S16x4096, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond3 (i : grid0.Coords) : BitVec 1 :=
  let arg2 : BitVec 32 := BitVec.ofNat 32 (i 2).val
  let c5_i32_6 : BitVec 32 := 5#32
  let v14 : BitVec 1 := Scalar.cmpi .eq arg2 c5_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModBwdCRefIdeal.lean ====
abbrev S16x6144 : Shape := ⟨2, ![16, 6144]⟩
abbrev S1x4096x6144 : Shape := ⟨3, ![1, 4096, 6144]⟩
abbrev S_ : Shape := ⟨0, ![]⟩
abbrev S16x4096 : Shape := ⟨2, ![16, 4096]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16x6144, .f32⟩
  | .hbm, ⟨1, _⟩ => ⟨S1x4096x6144, .f32⟩
  | .hbm, ⟨2, _⟩ => ⟨S_, .f32⟩
  | .hbm, ⟨3, _⟩ => ⟨S16x4096, .f32⟩
  | .hbm, ⟨4, _⟩ => ⟨S4096x6144, .f32⟩
  | .hbm, ⟨5, _⟩ => ⟨S16x6144, .f32⟩
  | .hbm, ⟨6, _⟩ => ⟨S16x4096, .f32⟩
  | _, _ => ⟨S16x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradX.lean ====
abbrev S1x4096x4096 : Shape := ⟨3, ![1, 4096, 4096]⟩
abbrev S4352x4096 : Shape := ⟨2, ![4352, 4096]⟩
abbrev S4096x4096 : Shape := ⟨2, ![4096, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 15
  | .vmem => 16
  | .smem => 0
  | _ => 0

abbrev bufTy : (tb : Table) → Fin (tcTables nBuf tb) → BufTy
  | .hbm, ⟨0, _⟩ => ⟨S1x4096x4096, .f32⟩
  | .hbm, ⟨1, _⟩ => ⟨S4352x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S1x4096, .f32⟩
  | .hbm, ⟨9, _⟩ => ⟨S1x4096, .f32⟩
  | .hbm, ⟨10, _⟩ => ⟨S4096x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | .local _ .vmem, ⟨15, _⟩ => ⟨S1x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_30 : BitVec 32 := 0#32
  let v79 : BitVec 1 := Scalar.cmpi .ne v78 c0_i32_30
  v79

def k0_cond2 (i : grid0.Coords) : BitVec 1 :=
  let arg0 : BitVec 32 := BitVec.ofNat 32 (i 0).val
  let c0_i32 : BitVec 32 := 0#32
  let v77 : BitVec 1 := Scalar.cmpi .eq arg0 c0_i32
  let v_true : BitVec 1 := 1#1
  let v80 : BitVec 1 := Scalar.xori v77 v_true
  let v81 : BitVec 32 := Scalar.extui v80
  let c0_i32_31 : BitVec 32 := 0#32
  let v82 : BitVec 1 := Scalar.cmpi .ne v81 c0_i32_31
  v82

def k0_cond3 (i : grid0.Coords) : BitVec 1 :=
  let arg0 : BitVec 32 := BitVec.ofNat 32 (i 0).val
  let c0_i32 : BitVec 32 := 0#32
  let v77 : BitVec 1 := Scalar.cmpi .eq arg0 c0_i32
  let v83 : BitVec 32 := Scalar.extui v77
  let c0_i32_32 : BitVec 32 := 0#32
  let v84 : BitVec 1 := Scalar.cmpi .ne v83 c0_i32_32
  v84

def k0_cond4 (i : grid0.Coords) : BitVec 1 :=
  let arg0 : BitVec 32 := BitVec.ofNat 32 (i 0).val
  let c0_i32 : BitVec 32 := 0#32
  let v77 : BitVec 1 := Scalar.cmpi .eq arg0 c0_i32
  let true_33 : BitVec 1 := 1#1
  let v85 : BitVec 1 := Scalar.xori v77 true_33
  let v86 : BitVec 32 := Scalar.extui v85
  let c0_i32_34 : BitVec 32 := 0#32
  let v87 : BitVec 1 := Scalar.cmpi .ne v86 c0_i32_34
  v87

def k0_cond5 (i : grid0.Coords) : BitVec 1 :=
  let arg0 : BitVec 32 := BitVec.ofNat 32 (i 0).val
  let c0_i32 : BitVec 32 := 0#32
  let v77 : BitVec 1 := Scalar.cmpi .eq arg0 c0_i32
  let v88 : BitVec 32 := Scalar.extui v77
  let c0_i32_35 : BitVec 32 := 0#32
  let v89 : BitVec 1 := Scalar.cmpi .ne v88 c0_i32_35
  v89

def k0_cond6 (i : grid0.Coords) : BitVec 1 :=
  let arg0 : BitVec 32 := BitVec.ofNat 32 (i 0).val
  let c0_i32 : BitVec 32 := 0#32
  let v77 : BitVec 1 := Scalar.cmpi .eq arg0 c0_i32
  let true_36 : BitVec 1 := 1#1
  let v90 : BitVec 1 := Scalar.xori v77 true_36
  let v91 : BitVec 32 := Scalar.extui v90
  let c0_i32_37 : BitVec 32 := 0#32
  let v92 : BitVec 1 := Scalar.cmpi .ne v91 c0_i32_37
  v92

def k0_cond7 (i : grid0.Coords) : BitVec 1 :=
  let arg0 : BitVec 32 := BitVec.ofNat 32 (i 0).val
  let c0_i32 : BitVec 32 := 0#32
  let v77 : BitVec 1 := Scalar.cmpi .eq arg0 c0_i32
  let v93 : BitVec 32 := Scalar.extui v77
  let c0_i32_38 : BitVec 32 := 0#32
  let v94 : BitVec 1 := Scalar.cmpi .ne v93 c0_i32_38
  v94

def k0_cond8 (i : grid0.Coords) : BitVec 1 :=
  let arg0 : BitVec 32 := BitVec.ofNat 32 (i 0).val
  let c0_i32 : BitVec 32 := 0#32
  let v77 : BitVec 1 := Scalar.cmpi .eq arg0 c0_i32
  let true_39 : BitVec 1 := 1#1
  let v95 : BitVec 1 := Scalar.xori v77 true_39
  let v96 : BitVec 32 := Scalar.extui v95
  let c0_i32_40 : BitVec 32 := 0#32
  let v97 : BitVec 1 := Scalar.cmpi .ne v96 c0_i32_40
  v97

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GradXRefIdeal.lean ====
abbrev S1x4096x4096 : Shape := ⟨3, ![1, 4096, 4096]⟩
abbrev S4352x4096 : Shape := ⟨2, ![4352, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S4096x1 : Shape := ⟨2, ![4096, 1]⟩

abbrev nBuf : Space → Nat
  | .hbm => 102
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4352x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S1x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S1x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096, .f32⟩
  | .hbm, ⟨63, _⟩ => ⟨S1x4096, .f32⟩
  | .hbm, ⟨64, _⟩ => ⟨S_, .f32⟩
  | .hbm, ⟨65, _⟩ => ⟨S4096, .f32⟩
  | .hbm, ⟨66, _⟩ => ⟨S4096x4096, .f32⟩
  | .hbm, ⟨67, _⟩ => ⟨S_, .f32⟩
  | .hbm, ⟨68, _⟩ => ⟨S4096, .f32⟩
  | .hbm, ⟨69, _⟩ => ⟨S1x4096, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096, .f32⟩
  | .hbm, ⟨74, _⟩ => ⟨S4096x4096, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x4096, .f32⟩
  | .hbm, ⟨79, _⟩ => ⟨S4096x4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x4096, .f32⟩
  | .hbm, ⟨99, _⟩ => ⟨S4096x4096, .f32⟩
  | .hbm, ⟨100, _⟩ => ⟨S1x4096, .f32⟩
  | .hbm, ⟨101, _⟩ => ⟨S1x4096, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_cst_18 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== LossBwd.lean ====
abbrev S4096x4096 : Shape := ⟨2, ![4096, 4096]⟩
abbrev S1x4096x4096 : Shape := ⟨3, ![1, 4096, 4096]⟩
abbrev S1x4096 : Shape := ⟨2, ![1, 4096]⟩
abbrev S1x128 : Shape := ⟨2, ![1, 128]⟩
abbrev S128x4096 : Shape := ⟨2, ![128, 4096]⟩
abbrev S128 : Shape := ⟨1, ![128]⟩
abbrev S128x1 : Shape := ⟨2, ![128, 1]⟩
abbrev S1x128x4096 : Shape := ⟨3, ![1, 128, 4096]⟩
abbrev S1 : Shape := ⟨1, ![1]⟩
abbrev S1x1x1 : Shape := ⟨3, ![1, 1, 1]⟩
abbrev S4096 : Shape := ⟨1, ![4096]⟩
abbrev S1x1 : Shape := ⟨2, ![1, 1]⟩

abbrev nBuf : Space → Nat
  | .hbm => 14
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S1x128, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .bf16⟩
  | .local _ .vmem, ⟨12, _⟩ => ⟨S128x4096, .bf16⟩
  | .local _ .vmem, ⟨13, _⟩ => ⟨S1x128, .f32⟩
  | .local _ .vmem, ⟨14, _⟩ => ⟨S1x4096, .f32⟩
  | .local _ .vmem, ⟨15, _⟩ => ⟨S1x4096, .f32⟩
  | .local _ .vmem, ⟨16, _⟩ => ⟨S1x4096, .f32⟩
  | .local _ .vmem, ⟨17, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v1_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v92 : BitVec 1 := Scalar.cmpi .eq arg0 c0_i32
  let v95 : BitVec 32 := Scalar.extui v92
  let c0_i32_38 : BitVec 32 := 0#32
  let v96 : BitVec 1 := Scalar.cmpi .ne v95 c0_i32_38
  v96

def k0_cond2 (i : grid0.Coords) : BitVec 1 :=
  let arg0 : BitVec 32 := BitVec.ofNat 32 (i 0).val
  let c0_i32 : BitVec 32 := 0#32
  let v92 : BitVec 1 := Scalar.cmpi .eq arg0 c0_i32
  let v_true : BitVec 1 := 1#1
  let v97 : BitVec 1 := Scalar.xori v92 v_true
  let v98 : BitVec 32 := Scalar.extui v97
  let c0_i32_39 : BitVec 32 := 0#32
  let v99 : BitVec 1 := Scalar.cmpi .ne v98 c0_i32_39
  v99

def k0_cond3 (i : grid0.Coords) : BitVec 1 :=
  let arg0 : BitVec 32 := BitVec.ofNat 32 (i 0).val
  let c0_i32 : BitVec 32 := 0#32
  let v92 : BitVec 1 := Scalar.cmpi .eq arg0 c0_i32
  let v100 : BitVec 32 := Scalar.extui v92
  let c0_i32_40 : BitVec 32 := 0#32
  let v101 : BitVec 1 := Scalar.cmpi .ne v100 c0_i32_40
  v101

def k0_cond4 (i : grid0.Coords) : BitVec 1 :=
  let arg0 : BitVec 32 := BitVec.ofNat 32 (i 0).val
  let c0_i32 : BitVec 32 := 0#32
  let v92 : BitVec 1 := Scalar.cmpi .eq arg0 c0_i32
  let true_41 : BitVec 1 := 1#1
  let v102 : BitVec 1 := Scalar.xori v92 true_41
  let v103 : BitVec 32 := Scalar.extui v102
  let c0_i32_42 : BitVec 32 := 0#32
  let v104 : BitVec 1 := Scalar.cmpi .ne v103 c0_i32_42
  v104

def k0_cond5 (i : grid0.Coords) : BitVec 1 :=
  let arg0 : BitVec 32 := BitVec.ofNat 32 (i 0).val
  let c0_i32 : BitVec 32 := 0#32
  let v92 : BitVec 1 := Scalar.cmpi .eq arg0 c0_i32
  let v105 : BitVec 32 := Scalar.extui v92
  let c0_i32_43 : BitVec 32 := 0#32
  let v106 : BitVec 1 := Scalar.cmpi .ne v105 c0_i32_43
  v106

def k0_cond6 (i : grid0.Coords) : BitVec 1 :=
  let arg0 : BitVec 32 := BitVec.ofNat 32 (i 0).val
  let c0_i32 : BitVec 32 := 0#32
  let v92 : BitVec 1 := Scalar.cmpi .eq arg0 c0_i32
  let true_44 : BitVec 1 := 1#1
  let v107 : BitVec 1 := Scalar.xori v92 true_44
  let v108 : BitVec 32 := Scalar.extui v107
  let c0_i32_45 : BitVec 32 := 0#32
  let v109 : BitVec 1 := Scalar.cmpi .ne v108 c0_i32_45
  v109

def k0_cond7 (i : grid0.Coords) : BitVec 1 :=
  let arg0 : BitVec 32 := BitVec.ofNat 32 (i 0).val
  let c0_i32 : BitVec 32 := 0#32
  let v92 : BitVec 1 := Scalar.cmpi .eq arg0 c0_i32
  let v110 : BitVec 32 := Scalar.extui v92
  let c0_i32_46 : BitVec 32 := 0#32
  let v111 : BitVec 1 := Scalar.cmpi .ne v110 c0_i32_46
  v111

def k0_cond8 (i : grid0.Coords) : BitVec 1 :=
  let arg0 : BitVec 32 := BitVec.ofNat 32 (i 0).val
  let c0_i32 : BitVec 32 := 0#32
  let v92 : BitVec 1 := Scalar.cmpi .eq arg0 c0_i32
  let true_47 : BitVec 1 := 1#1
  let v112 : BitVec 1 := Scalar.xori v92 true_47
  let v113 : BitVec 32 := Scalar.extui v112
  let c0_i32_48 : BitVec 32 := 0#32
  let v114 : BitVec 1 := Scalar.cmpi .ne v113 c0_i32_48
  v114

def k0_cond9 (i : grid0.Coords) : BitVec 1 :=
  let arg0 : BitVec 32 := BitVec.ofNat 32 (i 0).val
  let c0_i32 : BitVec 32 := 0#32
  let v92 : BitVec 1 := Scalar.cmpi .eq arg0 c0_i32
  let v115 : BitVec 32 := Scalar.extui v92
  let c0_i32_49 : BitVec 32 := 0#32
  let v116 : BitVec 1 := Scalar.cmpi .ne v115 c0_i32_49
  v116

def k0_cond10 (i : grid0.Coords) : BitVec 1 :=
  let arg0 : BitVec 32 := BitVec.ofNat 32 (i 0).val
  let c0_i32 : BitVec 32 := 0#32
  let v92 : BitVec 1 := Scalar.cmpi .eq arg0 c0_i32
  let true_50 : BitVec 1 := 1#1
  let v117 : BitVec 1 := Scalar.xori v92 true_50
  let v118 : BitVec 32 := Scalar.extui v117
  let c0_i32_51 : BitVec 32 := 0#32
  let v119 : BitVec 1 := Scalar.cmpi .ne v118 c0_i32_51
  v119

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LossBwdRefIdeal.lean ====
abbrev S4096x4096 : Shape := ⟨2, ![4096, 4096]⟩
abbrev S1x4096x4096 : Shape := ⟨3, ![1, 4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S1x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096, .f32⟩
  | .hbm, ⟨74, _⟩ => ⟨S1x4096, .f32⟩
  | .hbm, ⟨75, _⟩ => ⟨S_, .f32⟩
  | .hbm, ⟨76, _⟩ => ⟨S4096, .f32⟩
  | .hbm, ⟨77, _⟩ => ⟨S4096x4096, .f32⟩
  | .hbm, ⟨78, _⟩ => ⟨S_, .f32⟩
  | .hbm, ⟨79, _⟩ => ⟨S4096, .f32⟩
  | .hbm, ⟨80, _⟩ => ⟨S1x4096, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S4096, .f32⟩
  | .hbm, ⟨85, _⟩ => ⟨S4096x4096, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x4096, .f32⟩
  | .hbm, ⟨90, _⟩ => ⟨S4096x4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x4096, .f32⟩
  | .hbm, ⟨98, _⟩ => ⟨S4096x4096, .f32⟩
  | .hbm, ⟨99, _⟩ => ⟨S4096x4096, .f32⟩
  | .hbm, ⟨100, _⟩ => ⟨S4096x4096, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x4096, .f32⟩
  | .hbm, ⟨110, _⟩ => ⟨S4096x4096, .f32⟩
  | .hbm, ⟨111, _⟩ => ⟨S4096x4096, .f32⟩
  | .hbm, ⟨112, _⟩ => ⟨S4096x4096, .f32⟩
  | .hbm, ⟨113, _⟩ => ⟨S4096x4096, .f32⟩
  | .hbm, ⟨114, _⟩ => ⟨S_, .f32⟩
  | .hbm, ⟨115, _⟩ => ⟨S4096, .f32⟩
  | .hbm, ⟨116, _⟩ => ⟨S1x4096, .f32⟩
  | .hbm, ⟨117, _⟩ => ⟨S_, .f32⟩
  | .hbm, ⟨118, _⟩ => ⟨S4096x4096, .f32⟩
  | .hbm, ⟨119, _⟩ => ⟨S4096x4096, .f32⟩
  | .hbm, ⟨120, _⟩ => ⟨S4096x4096, .bf16⟩
  | .hbm, ⟨121, _⟩ => ⟨S1x128, .f32⟩
  | .hbm, ⟨122, _⟩ => ⟨S1x4096, .f32⟩
  | .hbm, ⟨123, _⟩ => ⟨S1x4096, .f32⟩
  | .hbm, ⟨124, _⟩ => ⟨S_, .f32⟩
  | .hbm, ⟨125, _⟩ => ⟨S4096, .f32⟩
  | .hbm, ⟨126, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_cst_12 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_cst_17 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_20 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_22 : Ref sig .tc := ⟨.hbm, 101, rfl⟩
abbrev main_v72 : Ref sig .tc := ⟨.hbm, 102, rfl⟩
abbrev main_v73 : Ref sig .tc := ⟨.hbm, 103, rfl⟩
abbrev main_cst_23 : Ref sig .tc := ⟨.hbm, 104, rfl⟩
abbrev main_v74 : Ref sig .tc := ⟨.hbm, 105, rfl⟩
abbrev main_v75 : Ref sig .tc := ⟨.hbm, 106, rfl⟩
abbrev main_cst_24 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_25 : Ref sig .tc := ⟨.hbm, 114, rfl⟩
abbrev main_v82 : Ref sig .tc := ⟨.hbm, 115, rfl⟩
abbrev main_v83 : Ref sig .tc := ⟨.hbm, 116, rfl⟩
abbrev main_cst_26 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_27 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]
-- ==== Proof.KernelRef.lean ====
/-
  The reference of the Conformer convolution's gradient, read at an index: the cotangent of the bordered rows is one sum
  over the thirty-one weights, the cotangent of a weight one sum over the rows.
-/
module

public import proofs.«01_k».proof.Proof.Gen.KernelRefIdeal.Run
public import proofs.«01_k».proof.Proof.Gen.KernelRefIdeal.Read
public import Idealize.ShloMosaic.Lib.Pipeline.ValueKit
public import Idealize.ShloMosaic.Lib.IdealHost
public import Idealize.ShloMosaic.Lib.Claim

@[expose] public section

set_option maxRecDepth 16384

noncomputable section

open Idealize.ShloMosaic Idealize.ShloMosaic.TcCoe Idealize.SL.Sem

namespace Cert.ConvRef

open Cert.KernelRefIdeal Cert.KernelRefIdeal.Gen Cert.KernelRefIdeal.Read

/-- A row of sixty-four numbers standing at columns 16 to 80 of a longer row of zeros. -/
def sh (f : Fin 64 → EReal) (P : ℕ) : EReal := if h : 16 ≤ P ∧ P < 80 then f ⟨P - 16, by omega⟩ else 0

theorem sh_in (f : Fin 64 → EReal) (a : Fin 64) (P : ℕ) (h : P = 16 + a.val) : sh f P = f a := by
  have := a.isLt
  unfold sh
  rw [dif_pos (by omega)]
  congr 1; apply Fin.ext; show P - 16 = a.val; omega

theorem sh_out (f : Fin 64 → EReal) (P : ℕ) (h : P < 16 ∨ 80 ≤ P) : sh f P = 0 := dif_neg (by omega)

/-- Thirty-one numbers added from the last down to the first are their sum. -/
theorem down (f : ℕ → EReal) : f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 = ∑ k : Fin 31, f k := by
  have h := Finset.sum_range_reflect f 31
  rw [Finset.sum_range f] at h
  rw [← h]
  simp [Finset.sum_range_succ]

/-- The same from the first up. -/
theorem up (f : ℕ → EReal) : f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 = ∑ k : Fin 31, f k := by
  rw [← Finset.sum_range f]
  simp [Finset.sum_range_succ]

/-- The host's sum over the two leading axes of a rank-3 array. -/
theorem planes {n0 n1 n2 : ℕ} (h : (⟨3, ![n0, n1, n2]⟩ : Shape).ReducesTo [0, 1] ⟨1, ![n2]⟩) (x : (⟨3, ![n0, n1, n2]⟩ : Shape).Idx → EReal)
    (b : EReal) (c : Fin n2) : Ideal.hostReduceAdd h x b (ix1 c) = b + ∑ i : Fin n0, ∑ a : Fin n1, x (ix3 i a c) := by
  unfold Ideal.hostReduceAdd
  congr 1
  rw [Finset.sum_filter_eq_sum_of_fiber (fun i => h.drop i = ix1 c) (fun k : Fin n0 × Fin n1 => ix3 k.1 k.2 c)
    (fun _ _ e => Prod.ext (congrFun e 0) (congrFun e 1)) ?_ x, Fintype.sum_prod_type]
  intro i
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext a; apply Fin.ext
    match a with
    | ⟨0, _⟩ => rfl

variable (x0 : FVec Ideal S4352x12352 .f32) (x1 : FVec Ideal S31x2048 .f32) (x2 : FVec Ideal S4096x1024 .f32)

/-- The k-th weight of a channel, the cotangent's row and the gated value's row. -/
def wt (c : Fin 1024) (k : ℕ) : EReal := x1 (ix2 ⟨k % 31, Nat.mod_lt _ (by decide)⟩ ⟨c.val, by omega⟩)
def ct (i : Fin 64) (c : Fin 1024) : Fin 64 → EReal := fun p => val_main_v237 (F := Ideal) x2 (ix3 i p c)
def gv (i : Fin 64) (c : Fin 1024) : Fin 64 → EReal := fun p => val_main_v14 (F := Ideal) x0 (ix3 i p c)

/-- The gated value between its zero borders. -/
theorem bordered (i : Fin 64) (q : Fin 94) (c : Fin 1024) : (val_main_v16 (F := Ideal) x0 (ix3 i q c) : EReal) = sh (gv x0 i c) (q.val + 1) := by
  pointwise [val_main_v16, val_main_v15]
  by_cases h : q.val < 15
  · rw [dif_pos h, sh_out _ _ (by omega)]
    exact Ideal.ofBits_zero_f32
  · by_cases h' : q.val - 15 < 64
    · rw [dif_neg h, dif_pos h', sh_in _ ⟨q.val - 15, h'⟩ _ (by show _ = 16 + (q.val - 15); omega)]
      rfl
    · rw [dif_neg h, dif_neg h', sh_out _ _ (by omega)]
      exact Ideal.ofBits_zero_f32

/-- One weight's contribution to the cotangent of a shifted row. -/
theorem shifted (f : Fin 64 → EReal) (w z : EReal) (hz : z = 0) (a k : ℕ) (hk : k ≤ 30) (ha : a < 64) (e : EReal)
    (h1 : ∀ h : k ≤ a + 15 ∧ a + 15 - k < 64, e = f ⟨a + 15 - k, h.2⟩ * w) (h2 : ¬(k ≤ a + 15 ∧ a + 15 - k < 64) → e = z) :
    e = sh f (a + 31 - k) * w := by
  by_cases h : k ≤ a + 15 ∧ a + 15 - k < 64
  · rw [h1 h, sh_in f ⟨a + 15 - k, h.2⟩ (a + 31 - k) (by show _ = 16 + (a + 15 - k); omega)]
  · rw [h2 h, hz, sh_out f _ (by omega), zero_mul]

theorem dx30 (i : Fin 64) (a : Fin 64) (c : Fin 1024) (h : a.val + 15 < 94) :
    (val_main_v246 (F := Ideal) x1 x2 (ix3 i ⟨a.val + 15, h⟩ c) : EReal) = sh (ct x2 i c) (a.val + 31 - 30) * wt x1 c 30 := by
  have ha := a.isLt
  unfold val_main_v246
  pointwise [val_main_v242, val_main_v241, val_main_v233, val_main_v232, val_main_v231, val_main_v4]
  refine shifted _ _ _ (by exact Ideal.ofBits_zero_f32) a.val 30 (by omega) ha _ (fun h => ?_) (fun h => ?_)
  · rw [dif_pos (by omega)]; rfl
  · rw [dif_neg (by omega)]; rfl

theorem dx29 (i : Fin 64) (a : Fin 64) (c : Fin 1024) (h : a.val + 15 < 94) :
    (val_main_v256 (F := Ideal) x1 x2 (ix3 i ⟨a.val + 15, h⟩ c) : EReal) = sh (ct x2 i c) (a.val + 31 - 29) * wt x1 c 29 := by
  have ha := a.isLt
  unfold val_main_v256
  pointwise [val_main_v251, val_main_v250, val_main_v226, val_main_v225, val_main_v224, val_main_v4]
  refine shifted _ _ _ (by exact Ideal.ofBits_zero_f32) a.val 29 (by omega) ha _ (fun h => ?_) (fun h => ?_)
  · rw [dif_pos (by omega)]; rfl
  · rw [dif_neg (by omega)]; rfl

theorem dx28 (i : Fin 64) (a : Fin 64) (c : Fin 1024) (h : a.val + 15 < 94) :
    (val_main_v267 (F := Ideal) x1 x2 (ix3 i ⟨a.val + 15, h⟩ c) : EReal) = sh (ct x2 i c) (a.val + 31 - 28) * wt x1 c 28 := by
  have ha := a.isLt
  unfold val_main_v267
  pointwise [val_main_v262, val_main_v261, val_main_v219, val_main_v218, val_main_v217, val_main_v4]
  refine shifted _ _ _ (by exact Ideal.ofBits_zero_f32) a.val 28 (by omega) ha _ (fun h => ?_) (fun h => ?_)
  · rw [dif_pos (by omega)]; rfl
  · rw [dif_neg (by omega)]; rfl

theorem dx27 (i : Fin 64) (a : Fin 64) (c : Fin 1024) (h : a.val + 15 < 94) :
    (val_main_v278 (F := Ideal) x1 x2 (ix3 i ⟨a.val + 15, h⟩ c) : EReal) = sh (ct x2 i c) (a.val + 31 - 27) * wt x1 c 27 := by
  have ha := a.isLt
  unfold val_main_v278
  pointwise [val_main_v273, val_main_v272, val_main_v212, val_main_v211, val_main_v210, val_main_v4]
  refine shifted _ _ _ (by exact Ideal.ofBits_zero_f32) a.val 27 (by omega) ha _ (fun h => ?_) (fun h => ?_)
  · rw [dif_pos (by omega)]; rfl
  · rw [dif_neg (by omega)]; rfl

theorem dx26 (i : Fin 64) (a : Fin 64) (c : Fin 1024) (h : a.val + 15 < 94) :
    (val_main_v289 (F := Ideal) x1 x2 (ix3 i ⟨a.val + 15, h⟩ c) : EReal) = sh (ct x2 i c) (a.val + 31 - 26) * wt x1 c 26 := by
  have ha := a.isLt
  unfold val_main_v289
  pointwise [val_main_v284, val_main_v283, val_main_v205, val_main_v204, val_main_v203, val_main_v4]
  refine shifted _ _ _ (by exact Ideal.ofBits_zero_f32) a.val 26 (by omega) ha _ (fun h => ?_) (fun h => ?_)
  · rw [dif_pos (by omega)]; rfl
  · rw [dif_neg (by omega)]; rfl

theorem dx25 (i : Fin 64) (a : Fin 64) (c : Fin 1024) (h : a.val + 15 < 94) :
    (val_main_v300 (F := Ideal) x1 x2 (ix3 i ⟨a.val + 15, h⟩ c) : EReal) = sh (ct x2 i c) (a.val + 31 - 25) * wt x1 c 25 := by
  have ha := a.isLt
  unfold val_main_v300
  pointwise [val_main_v295, val_main_v294, val_main_v198, val_main_v197, val_main_v196, val_main_v4]
  refine shifted _ _ _ (by exact Ideal.ofBits_zero_f32) a.val 25 (by omega) ha _ (fun h => ?_) (fun h => ?_)
  · rw [dif_pos (by omega)]; rfl
  · rw [dif_neg (by omega)]; rfl

theorem dx24 (i : Fin 64) (a : Fin 64) (c : Fin 1024) (h : a.val + 15 < 94) :
    (val_main_v311 (F := Ideal) x1 x2 (ix3 i ⟨a.val + 15, h⟩ c) : EReal) = sh (ct x2 i c) (a.val + 31 - 24) * wt x1 c 24 := by
  have ha := a.isLt
  unfold val_main_v311
  pointwise [val_main_v306, val_main_v305, val_main_v191, val_main_v190, val_main_v189, val_main_v4]
  refine shifted _ _ _ (by exact Ideal.ofBits_zero_f32) a.val 24 (by omega) ha _ (fun h => ?_) (fun h => ?_)
  · rw [dif_pos (by omega)]; rfl
  · rw [dif_neg (by omega)]; rfl

theorem dx23 (i : Fin 64) (a : Fin 64) (c : Fin 1024) (h : a.val + 15 < 94) :
    (val_main_v322 (F := Ideal) x1 x2 (ix3 i ⟨a.val + 15, h⟩ c) : EReal) = sh (ct x2 i c) (a.val + 31 - 23) * wt x1 c 23 := by
  have ha := a.isLt
  unfold val_main_v322
  pointwise [val_main_v317, val_main_v316, val_main_v184, val_main_v183, val_main_v182, val_main_v4]
  refine shifted _ _ _ (by exact Ideal.ofBits_zero_f32) a.val 23 (by omega) ha _ (fun h => ?_) (fun h => ?_)
  · rw [dif_pos (by omega)]; rfl
  · rw [dif_neg (by omega)]; rfl

theorem dx22 (i : Fin 64) (a : Fin 64) (c : Fin 1024) (h : a.val + 15 < 94) :
    (val_main_v333 (F := Ideal) x1 x2 (ix3 i ⟨a.val + 15, h⟩ c) : EReal) = sh (ct x2 i c) (a.val + 31 - 22) * wt x1 c 22 := by
  have ha := a.isLt
  unfold val_main_v333
  pointwise [val_main_v328, val_main_v327, val_main_v177, val_main_v176, val_main_v175, val_main_v4]
  refine shifted _ _ _ (by exact Ideal.ofBits_zero_f32) a.val 22 (by omega) ha _ (fun h => ?_) (fun h => ?_)
  · rw [dif_pos (by omega)]; rfl
  · rw [dif_neg (by omega)]; rfl

theorem dx21 (i : Fin 64) (a : Fin 64) (c : Fin 1024) (h : a.val + 15 < 94) :
    (val_main_v344 (F := Ideal) x1 x2 (ix3 i ⟨a.val + 15, h⟩ c) : EReal) = sh (ct x2 i c) (a.val + 31 - 21) * wt x1 c 21 := by
  have ha := a.isLt
  unfold val_main_v344
  pointwise [val_main_v339, val_main_v338, val_main_v170, val_main_v169, val_main_v168, val_main_v4]
  refine shifted _ _ _ (by exact Ideal.ofBits_zero_f32) a.val 21 (by omega) ha _ (fun h => ?_) (fun h => ?_)
  · rw [dif_pos (by omega)]; rfl
  · rw [dif_neg (by omega)]; rfl

theorem dx20 (i : Fin 64) (a : Fin 64) (c : Fin 1024) (h : a.val + 15 < 94) :
    (val_main_v355 (F := Ideal) x1 x2 (ix3 i ⟨a.val + 15, h⟩ c) : EReal) = sh (ct x2 i c) (a.val + 31 - 20) * wt x1 c 20 := by
  have ha := a.isLt
  unfold val_main_v355
  pointwise [val_main_v350, val_main_v349, val_main_v163, val_main_v162, val_main_v161, val_main_v4]
  refine shifted _ _ _ (by exact Ideal.ofBits_zero_f32) a.val 20 (by omega) ha _ (fun h => ?_) (fun h => ?_)
  · rw [dif_pos (by omega)]; rfl
  · rw [dif_neg (by omega)]; rfl

theorem dx19 (i : Fin 64) (a : Fin 64) (c : Fin 1024) (h : a.val + 15 < 94) :
    (val_main_v366 (F := Ideal) x1 x2 (ix3 i ⟨a.val + 15, h⟩ c) : EReal) = sh (ct x2 i c) (a.val + 31 - 19) * wt x1 c 19 := by
  have ha := a.isLt
  unfold val_main_v366
  pointwise [val_main_v361, val_main_v360, val_main_v156, val_main_v155, val_main_v154, val_main_v4]
  refine shifted _ _ _ (by exact Ideal.ofBits_zero_f32) a.val 19 (by omega) ha _ (fun h => ?_) (fun h => ?_)
  · rw [dif_pos (by omega)]; rfl
  · rw [dif_neg (by omega)]; rfl

theorem dx18 (i : Fin 64) (a : Fin 64) (c : Fin 1024) (h : a.val + 15 < 94) :
    (val_main_v377 (F := Ideal) x1 x2 (ix3 i ⟨a.val + 15, h⟩ c) : EReal) = sh (ct x2 i c) (a.val + 31 - 18) * wt x1 c 18 := by
  have ha := a.isLt
  unfold val_main_v377
  pointwise [val_main_v372, val_main_v371, val_main_v149, val_main_v148, val_main_v147, val_main_v4]
  refine shifted _ _ _ (by exact Ideal.ofBits_zero_f32) a.val 18 (by omega) ha _ (fun h => ?_) (fun h => ?_)
  · rw [dif_pos (by omega)]; rfl
  · rw [dif_neg (by omega)]; rfl

theorem dx17 (i : Fin 64) (a : Fin 64) (c : Fin 1024) (h : a.val + 15 < 94) :
    (val_main_v388 (F := Ideal) x1 x2 (ix3 i ⟨a.val + 15, h⟩ c) : EReal) = sh (ct x2 i c) (a.val + 31 - 17) * wt x1 c 17 := by
  have ha := a.isLt
  unfold val_main_v388
  pointwise [val_main_v383, val_main_v382, val_main_v142, val_main_v141, val_main_v140, val_main_v4]
  refine shifted _ _ _ (by exact Ideal.ofBits_zero_f32) a.val 17 (by omega) ha _ (fun h => ?_) (fun h => ?_)
  · rw [dif_pos (by omega)]; rfl
  · rw [dif_neg (by omega)]; rfl

theorem dx16 (i : Fin 64) (a : Fin 64) (c : Fin 1024) (h : a.val + 15 < 94) :
    (val_main_v399 (F := Ideal) x1 x2 (ix3 i ⟨a.val + 15, h⟩ c) : EReal) = sh (ct x2 i c) (a.val + 31 - 16) * wt x1 c 16 := by
  have ha := a.isLt
  unfold val_main_v399
  pointwise [val_main_v394, val_main_v393, val_main_v135, val_main_v134, val_main_v133, val_main_v4]
  refine shifted _ _ _ (by exact Ideal.ofBits_zero_f32) a.val 16 (by omega) ha _ (fun h => ?_) (fun h => ?_)
  · rw [dif_pos (by omega)]; rfl
  · rw [dif_neg (by omega)]; rfl

theorem dx15 (i : Fin 64) (a : Fin 64) (c : Fin 1024) (h : a.val + 15 < 94) :
    (val_main_v410 (F := Ideal) x1 x2 (ix3 i ⟨a.val + 15, h⟩ c) : EReal) = sh (ct x2 i c) (a.val + 31 - 15) * wt x1 c 15 := by
  have ha := a.isLt
  unfold val_main_v410
  pointwise [val_main_v405, val_main_v404, val_main_v128, val_main_v127, val_main_v126, val_main_v4]
  refine shifted _ _ _ (by exact Ideal.ofBits_zero_f32) a.val 15 (by omega) ha _ (fun h => ?_) (fun h => ?_)
  · rw [dif_pos (by omega)]; rfl
  · rw [dif_neg (by omega)]; rfl

theorem dx14 (i : Fin 64) (a : Fin 64) (c : Fin 1024) (h : a.val + 15 < 94) :
    (val_main_v421 (F := Ideal) x1 x2 (ix3 i ⟨a.val + 15, h⟩ c) : EReal) = sh (ct x2 i c) (a.val + 31 - 14) * wt x1 c 14 := by
  have ha := a.isLt
  unfold val_main_v421
  pointwise [val_main_v416, val_main_v415, val_main_v121, val_main_v120, val_main_v119, val_main_v4]
  refine shifted _ _ _ (by exact Ideal.ofBits_zero_f32) a.val 14 (by omega) ha _ (fun h => ?_) (fun h => ?_)
  · rw [dif_pos (by omega)]; rfl
  · rw [dif_neg (by omega)]; rfl

theorem dx13 (i : Fin 64) (a : Fin 64) (c : Fin 1024) (h : a.val + 15 < 94) :
    (val_main_v432 (F := Ideal) x1 x2 (ix3 i ⟨a.val + 15, h⟩ c) : EReal) = sh (ct x2 i c) (a.val + 31 - 13) * wt x1 c 13 := by
  have ha := a.isLt
  unfold val_main_v432
  pointwise [val_main_v427, val_main_v426, val_main_v114, val_main_v113, val_main_v112, val_main_v4]
  refine shifted _ _ _ (by exact Ideal.ofBits_zero_f32) a.val 13 (by omega) ha _ (fun h => ?_) (fun h => ?_)
  · rw [dif_pos (by omega)]; rfl
  · rw [dif_neg (by omega)]; rfl

theorem dx12 (i : Fin 64) (a : Fin 64) (c : Fin 1024) (h : a.val + 15 < 94) :
    (val_main_v443 (F := Ideal) x1 x2 (ix3 i ⟨a.val + 15, h⟩ c) : EReal) = sh (ct x2 i c) (a.val + 31 - 12) * wt x1 c 12 := by
  have ha := a.isLt
  unfold val_main_v443
  pointwise [val_main_v438, val_main_v437, val_main_v107, val_main_v106, val_main_v105, val_main_v4]
  refine shifted _ _ _ (by exact Ideal.ofBits_zero_f32) a.val 12 (by omega) ha _ (fun h => ?_) (fun h => ?_)
  · rw [dif_pos (by omega)]; rfl
  · rw [dif_neg (by omega)]; rfl

theorem dx11 (i : Fin 64) (a : Fin 64) (c : Fin 1024) (h : a.val + 15 < 94) :
    (val_main_v454 (F := Ideal) x1 x2 (ix3 i ⟨a.val + 15, h⟩ c) : EReal) = sh (ct x2 i c) (a.val + 31 - 11) * wt x1 c 11 := by
  have ha := a.isLt
  unfold val_main_v454
  pointwise [val_main_v449, val_main_v448, val_main_v100, val_main_v99, val_main_v98, val_main_v4]
  refine shifted _ _ _ (by exact Ideal.ofBits_zero_f32) a.val 11 (by omega) ha _ (fun h => ?_) (fun h => ?_)
  · rw [dif_pos (by omega)]; rfl
  · rw [dif_neg (by omega)]; rfl

theorem dx10 (i : Fin 64) (a : Fin 64) (c : Fin 1024) (h : a.val + 15 < 94) :
    (val_main_v465 (F := Ideal) x1 x2 (ix3 i ⟨a.val + 15, h⟩ c) : EReal) = sh (ct x2 i c) (a.val + 31 - 10) * wt x1 c 10 := by
  have ha := a.isLt
  unfold val_main_v465
  pointwise [val_main_v460, val_main_v459, val_main_v93, val_main_v92, val_main_v91, val_main_v4]
  refine shifted _ _ _ (by exact Ideal.ofBits_zero_f32) a.val 10 (by omega) ha _ (fun h => ?_) (fun h => ?_)
  · rw [dif_pos (by omega)]; rfl
  · rw [dif_neg (by omega)]; rfl

theorem dx9 (i : Fin 64) (a : Fin 64) (c : Fin 1024) (h : a.val + 15 < 94) :
    (val_main_v476 (F := Ideal) x1 x2 (ix3 i ⟨a.val + 15, h⟩ c) : EReal) = sh (ct x2 i c) (a.val + 31 - 9) * wt x1 c 9 := by
  have ha := a.isLt
  unfold val_main_v476
  pointwise [val_main_v471, val_main_v470, val_main_v86, val_main_v85, val_main_v84, val_main_v4]
  refine shifted _ _ _ (by exact Ideal.ofBits_zero_f32) a.val 9 (by omega) ha _ (fun h => ?_) (fun h => ?_)
  · rw [dif_pos (by omega)]; rfl
  · rw [dif_neg (by omega)]; rfl

theorem dx8 (i : Fin 64) (a : Fin 64) (c : Fin 1024) (h : a.val + 15 < 94) :
    (val_main_v487 (F := Ideal) x1 x2 (ix3 i ⟨a.val + 15, h⟩ c) : EReal) = sh (ct x2 i c) (a.val + 31 - 8) * wt x1 c 8 := by
  have ha := a.isLt
  unfold val_main_v487
  pointwise [val_main_v482, val_main_v481, val_main_v79, val_main_v78, val_main_v77, val_main_v4]
  refine shifted _ _ _ (by exact Ideal.ofBits_zero_f32) a.val 8 (by omega) ha _ (fun h => ?_) (fun h => ?_)
  · rw [dif_pos (by omega)]; rfl
  · rw [dif_neg (by omega)]; rfl

theorem dx7 (i : Fin 64) (a : Fin 64) (c : Fin 1024) (h : a.val + 15 < 94) :
    (val_main_v498 (F := Ideal) x1 x2 (ix3 i ⟨a.val + 15, h⟩ c) : EReal) = sh (ct x2 i c) (a.val + 31 - 7) * wt x1 c 7 := by
  have ha := a.isLt
  unfold val_main_v498
  pointwise [val_main_v493, val_main_v492, val_main_v72, val_main_v71, val_main_v70, val_main_v4]
  refine shifted _ _ _ (by exact Ideal.ofBits_zero_f32) a.val 7 (by omega) ha _ (fun h => ?_) (fun h => ?_)
  · rw [dif_pos (by omega)]; rfl
  · rw [dif_neg (by omega)]; rfl

theorem dx6 (i : Fin 64) (a : Fin 64) (c : Fin 1024) (h : a.val + 15 < 94) :
    (val_main_v509 (F := Ideal) x1 x2 (ix3 i ⟨a.val + 15, h⟩ c) : EReal) = sh (ct x2 i c) (a.val + 31 - 6) * wt x1 c 6 := by
  have ha := a.isLt
  unfold val_main_v509
  pointwise [val_main_v504, val_main_v503, val_main_v65, val_main_v64, val_main_v63, val_main_v4]
  refine shifted _ _ _ (by exact Ideal.ofBits_zero_f32) a.val 6 (by omega) ha _ (fun h => ?_) (fun h => ?_)
  · rw [dif_pos (by omega)]; rfl
  · rw [dif_neg (by omega)]; rfl

theorem dx5 (i : Fin 64) (a : Fin 64) (c : Fin 1024) (h : a.val + 15 < 94) :
    (val_main_v520 (F := Ideal) x1 x2 (ix3 i ⟨a.val + 15, h⟩ c) : EReal) = sh (ct x2 i c) (a.val + 31 - 5) * wt x1 c 5 := by
  have ha := a.isLt
  unfold val_main_v520
  pointwise [val_main_v515, val_main_v514, val_main_v58, val_main_v57, val_main_v56, val_main_v4]
  refine shifted _ _ _ (by exact Ideal.ofBits_zero_f32) a.val 5 (by omega) ha _ (fun h => ?_) (fun h => ?_)
  · rw [dif_pos (by omega)]; rfl
  · rw [dif_neg (by omega)]; rfl

theorem dx4 (i : Fin 64) (a : Fin 64) (c : Fin 1024) (h : a.val + 15 < 94) :
    (val_main_v531 (F := Ideal) x1 x2 (ix3 i ⟨a.val + 15, h⟩ c) : EReal) = sh (ct x2 i c) (a.val + 31 - 4) * wt x1 c 4 := by
  have ha := a.isLt
  unfold val_main_v531
  pointwise [val_main_v526, val_main_v525, val_main_v51, val_main_v50, val_main_v49, val_main_v4]
  refine shifted _ _ _ (by exact Ideal.ofBits_zero_f32) a.val 4 (by omega) ha _ (fun h => ?_) (fun h => ?_)
  · rw [dif_pos (by omega)]; rfl
  · rw [dif_neg (by omega)]; rfl

theorem dx3 (i : Fin 64) (a : Fin 64) (c : Fin 1024) (h : a.val + 15 < 94) :
    (val_main_v542 (F := Ideal) x1 x2 (ix3 i ⟨a.val + 15, h⟩ c) : EReal) = sh (ct x2 i c) (a.val + 31 - 3) * wt x1 c 3 := by
  have ha := a.isLt
  unfold val_main_v542
  pointwise [val_main_v537, val_main_v536, val_main_v44, val_main_v43, val_main_v42, val_main_v4]
  refine shifted _ _ _ (by exact Ideal.ofBits_zero_f32) a.val 3 (by omega) ha _ (fun h => ?_) (fun h => ?_)
  · rw [dif_pos (by omega)]; rfl
  · rw [dif_neg (by omega)]; rfl

theorem dx2 (i : Fin 64) (a : Fin 64) (c : Fin 1024) (h : a.val + 15 < 94) :
    (val_main_v553 (F := Ideal) x1 x2 (ix3 i ⟨a.val + 15, h⟩ c) : EReal) = sh (ct x2 i c) (a.val + 31 - 2) * wt x1 c 2 := by
  have ha := a.isLt
  unfold val_main_v553
  pointwise [val_main_v548, val_main_v547, val_main_v37, val_main_v36, val_main_v35, val_main_v4]
  refine shifted _ _ _ (by exact Ideal.ofBits_zero_f32) a.val 2 (by omega) ha _ (fun h => ?_) (fun h => ?_)
  · rw [dif_pos (by omega)]; rfl
  · rw [dif_neg (by omega)]; rfl

theorem dx1 (i : Fin 64) (a : Fin 64) (c : Fin 1024) (h : a.val + 15 < 94) :
    (val_main_v564 (F := Ideal) x1 x2 (ix3 i ⟨a.val + 15, h⟩ c) : EReal) = sh (ct x2 i c) (a.val + 31 - 1) * wt x1 c 1 := by
  have ha := a.isLt
  unfold val_main_v564
  pointwise [val_main_v559, val_main_v558, val_main_v30, val_main_v29, val_main_v28, val_main_v4]
  refine shifted _ _ _ (by exact Ideal.ofBits_zero_f32) a.val 1 (by omega) ha _ (fun h => ?_) (fun h => ?_)
  · rw [dif_pos (by omega)]; rfl
  · rw [dif_neg (by omega)]; rfl

theorem dx0 (i : Fin 64) (a : Fin 64) (c : Fin 1024) (h : a.val + 15 < 94) :
    (val_main_v575 (F := Ideal) x1 x2 (ix3 i ⟨a.val + 15, h⟩ c) : EReal) = sh (ct x2 i c) (a.val + 31 - 0) * wt x1 c 0 := by
  have ha := a.isLt
  unfold val_main_v575
  pointwise [val_main_v570, val_main_v569, val_main_v22, val_main_v21, val_main_v20, val_main_v4]
  refine shifted _ _ _ (by exact Ideal.ofBits_zero_f32) a.val 0 (by omega) ha _ (fun h => ?_) (fun h => ?_)
  · rw [dif_pos (by omega)]; rfl
  · rw [dif_neg (by omega)]; rfl

/-- The sum over the rows of the gated value, shifted, times the cotangent. -/
def corr (c : Fin 1024) (k : ℕ) : EReal := ∑ i : Fin 64, ∑ a : Fin 64, sh (gv x0 i c) (a.val + k + 1) * ct x2 i c a

/-- A number that stands in one of thirty-one rows. -/
theorem row_of (r : Fin 31) (k : ℕ) (S z e : EReal) (hz : z = 0) (h1 : r.val = k → e = S) (h2 : r.val ≠ k → e = z) : e = if r.val = k then S else 0 := by
  by_cases h : r.val = k
  · rw [if_pos h, h1 h]
  · rw [if_neg h, h2 h, hz]

/-- Of thirty-one numbers each in its own row, the one of a row is left. -/
theorem pick (r : Fin 31) (S : ℕ → EReal) : (∑ k : Fin 31, if r.val = k.val then S k else 0) = S r := by
  rw [Finset.sum_eq_single r (fun b _ hb => if_neg fun h => hb (Fin.ext h.symm)) (fun h => absurd (Finset.mem_univ r) h), if_pos rfl]

theorem dwsum30 (c : Fin 1024) : (val_main_v243 (F := Ideal) x0 x2 (ix1 c) : EReal) = corr x0 x2 c 30 := by
  have e0 : (val_main_v239 (F := Ideal) x0 x2 (ix1 c) : EReal) = corr x0 x2 c 30 := by
    unfold val_main_v239
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v238, val_main_v230]
    rw [bordered]
    exact congrArg (fun q => sh (gv x0 i c) (q + 1) * ct x2 i c a) (by first | exact Nat.add_comm _ _ | rfl)
  unfold val_main_v243
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v240]

theorem dw30 (r : Fin 31) (c : Fin 1024) : (val_main_v245 (F := Ideal) x0 x2 (ix2 r c) : EReal) = if r.val = 30 then corr x0 x2 c 30 else 0 := by
  have hr := r.isLt
  unfold val_main_v245
  pointwise [val_main_v244]
  refine row_of r _ _ _ _ (by exact Ideal.ofBits_zero_f32) (fun h => ?_) (fun h => ?_)
  · rw [dif_pos (by omega), dwsum30]
  · rw [dif_neg (by omega)]; rfl

theorem dwsum29 (c : Fin 1024) : (val_main_v252 (F := Ideal) x0 x2 (ix1 c) : EReal) = corr x0 x2 c 29 := by
  have e0 : (val_main_v248 (F := Ideal) x0 x2 (ix1 c) : EReal) = corr x0 x2 c 29 := by
    unfold val_main_v248
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v247, val_main_v223]
    rw [bordered]
    exact congrArg (fun q => sh (gv x0 i c) (q + 1) * ct x2 i c a) (by first | exact Nat.add_comm _ _ | rfl)
  unfold val_main_v252
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v249]

theorem dw29 (r : Fin 31) (c : Fin 1024) : (val_main_v254 (F := Ideal) x0 x2 (ix2 r c) : EReal) = if r.val = 29 then corr x0 x2 c 29 else 0 := by
  have hr := r.isLt
  unfold val_main_v254
  pointwise [val_main_v253]
  refine row_of r _ _ _ _ (by exact Ideal.ofBits_zero_f32) (fun h => ?_) (fun h => ?_)
  · rw [dif_pos (by omega), dwsum29]
  · rw [dif_neg (by omega)]; rfl

theorem dwsum28 (c : Fin 1024) : (val_main_v263 (F := Ideal) x0 x2 (ix1 c) : EReal) = corr x0 x2 c 28 := by
  have e0 : (val_main_v259 (F := Ideal) x0 x2 (ix1 c) : EReal) = corr x0 x2 c 28 := by
    unfold val_main_v259
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v258, val_main_v216]
    rw [bordered]
    exact congrArg (fun q => sh (gv x0 i c) (q + 1) * ct x2 i c a) (by first | exact Nat.add_comm _ _ | rfl)
  unfold val_main_v263
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v260]

theorem dw28 (r : Fin 31) (c : Fin 1024) : (val_main_v265 (F := Ideal) x0 x2 (ix2 r c) : EReal) = if r.val = 28 then corr x0 x2 c 28 else 0 := by
  have hr := r.isLt
  unfold val_main_v265
  pointwise [val_main_v264]
  refine row_of r _ _ _ _ (by exact Ideal.ofBits_zero_f32) (fun h => ?_) (fun h => ?_)
  · rw [dif_pos (by omega), dwsum28]
  · rw [dif_neg (by omega)]; rfl

theorem dwsum27 (c : Fin 1024) : (val_main_v274 (F := Ideal) x0 x2 (ix1 c) : EReal) = corr x0 x2 c 27 := by
  have e0 : (val_main_v270 (F := Ideal) x0 x2 (ix1 c) : EReal) = corr x0 x2 c 27 := by
    unfold val_main_v270
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v269, val_main_v209]
    rw [bordered]
    exact congrArg (fun q => sh (gv x0 i c) (q + 1) * ct x2 i c a) (by first | exact Nat.add_comm _ _ | rfl)
  unfold val_main_v274
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v271]

theorem dw27 (r : Fin 31) (c : Fin 1024) : (val_main_v276 (F := Ideal) x0 x2 (ix2 r c) : EReal) = if r.val = 27 then corr x0 x2 c 27 else 0 := by
  have hr := r.isLt
  unfold val_main_v276
  pointwise [val_main_v275]
  refine row_of r _ _ _ _ (by exact Ideal.ofBits_zero_f32) (fun h => ?_) (fun h => ?_)
  · rw [dif_pos (by omega), dwsum27]
  · rw [dif_neg (by omega)]; rfl

theorem dwsum26 (c : Fin 1024) : (val_main_v285 (F := Ideal) x0 x2 (ix1 c) : EReal) = corr x0 x2 c 26 := by
  have e0 : (val_main_v281 (F := Ideal) x0 x2 (ix1 c) : EReal) = corr x0 x2 c 26 := by
    unfold val_main_v281
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v280, val_main_v202]
    rw [bordered]
    exact congrArg (fun q => sh (gv x0 i c) (q + 1) * ct x2 i c a) (by first | exact Nat.add_comm _ _ | rfl)
  unfold val_main_v285
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v282]

theorem dw26 (r : Fin 31) (c : Fin 1024) : (val_main_v287 (F := Ideal) x0 x2 (ix2 r c) : EReal) = if r.val = 26 then corr x0 x2 c 26 else 0 := by
  have hr := r.isLt
  unfold val_main_v287
  pointwise [val_main_v286]
  refine row_of r _ _ _ _ (by exact Ideal.ofBits_zero_f32) (fun h => ?_) (fun h => ?_)
  · rw [dif_pos (by omega), dwsum26]
  · rw [dif_neg (by omega)]; rfl

theorem dwsum25 (c : Fin 1024) : (val_main_v296 (F := Ideal) x0 x2 (ix1 c) : EReal) = corr x0 x2 c 25 := by
  have e0 : (val_main_v292 (F := Ideal) x0 x2 (ix1 c) : EReal) = corr x0 x2 c 25 := by
    unfold val_main_v292
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v291, val_main_v195]
    rw [bordered]
    exact congrArg (fun q => sh (gv x0 i c) (q + 1) * ct x2 i c a) (by first | exact Nat.add_comm _ _ | rfl)
  unfold val_main_v296
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v293]

theorem dw25 (r : Fin 31) (c : Fin 1024) : (val_main_v298 (F := Ideal) x0 x2 (ix2 r c) : EReal) = if r.val = 25 then corr x0 x2 c 25 else 0 := by
  have hr := r.isLt
  unfold val_main_v298
  pointwise [val_main_v297]
  refine row_of r _ _ _ _ (by exact Ideal.ofBits_zero_f32) (fun h => ?_) (fun h => ?_)
  · rw [dif_pos (by omega), dwsum25]
  · rw [dif_neg (by omega)]; rfl

theorem dwsum24 (c : Fin 1024) : (val_main_v307 (F := Ideal) x0 x2 (ix1 c) : EReal) = corr x0 x2 c 24 := by
  have e0 : (val_main_v303 (F := Ideal) x0 x2 (ix1 c) : EReal) = corr x0 x2 c 24 := by
    unfold val_main_v303
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v302, val_main_v188]
    rw [bordered]
    exact congrArg (fun q => sh (gv x0 i c) (q + 1) * ct x2 i c a) (by first | exact Nat.add_comm _ _ | rfl)
  unfold val_main_v307
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v304]

theorem dw24 (r : Fin 31) (c : Fin 1024) : (val_main_v309 (F := Ideal) x0 x2 (ix2 r c) : EReal) = if r.val = 24 then corr x0 x2 c 24 else 0 := by
  have hr := r.isLt
  unfold val_main_v309
  pointwise [val_main_v308]
  refine row_of r _ _ _ _ (by exact Ideal.ofBits_zero_f32) (fun h => ?_) (fun h => ?_)
  · rw [dif_pos (by omega), dwsum24]
  · rw [dif_neg (by omega)]; rfl

theorem dwsum23 (c : Fin 1024) : (val_main_v318 (F := Ideal) x0 x2 (ix1 c) : EReal) = corr x0 x2 c 23 := by
  have e0 : (val_main_v314 (F := Ideal) x0 x2 (ix1 c) : EReal) = corr x0 x2 c 23 := by
    unfold val_main_v314
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v313, val_main_v181]
    rw [bordered]
    exact congrArg (fun q => sh (gv x0 i c) (q + 1) * ct x2 i c a) (by first | exact Nat.add_comm _ _ | rfl)
  unfold val_main_v318
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v315]

theorem dw23 (r : Fin 31) (c : Fin 1024) : (val_main_v320 (F := Ideal) x0 x2 (ix2 r c) : EReal) = if r.val = 23 then corr x0 x2 c 23 else 0 := by
  have hr := r.isLt
  unfold val_main_v320
  pointwise [val_main_v319]
  refine row_of r _ _ _ _ (by exact Ideal.ofBits_zero_f32) (fun h => ?_) (fun h => ?_)
  · rw [dif_pos (by omega), dwsum23]
  · rw [dif_neg (by omega)]; rfl

theorem dwsum22 (c : Fin 1024) : (val_main_v329 (F := Ideal) x0 x2 (ix1 c) : EReal) = corr x0 x2 c 22 := by
  have e0 : (val_main_v325 (F := Ideal) x0 x2 (ix1 c) : EReal) = corr x0 x2 c 22 := by
    unfold val_main_v325
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v324, val_main_v174]
    rw [bordered]
    exact congrArg (fun q => sh (gv x0 i c) (q + 1) * ct x2 i c a) (by first | exact Nat.add_comm _ _ | rfl)
  unfold val_main_v329
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v326]

theorem dw22 (r : Fin 31) (c : Fin 1024) : (val_main_v331 (F := Ideal) x0 x2 (ix2 r c) : EReal) = if r.val = 22 then corr x0 x2 c 22 else 0 := by
  have hr := r.isLt
  unfold val_main_v331
  pointwise [val_main_v330]
  refine row_of r _ _ _ _ (by exact Ideal.ofBits_zero_f32) (fun h => ?_) (fun h => ?_)
  · rw [dif_pos (by omega), dwsum22]
  · rw [dif_neg (by omega)]; rfl

theorem dwsum21 (c : Fin 1024) : (val_main_v340 (F := Ideal) x0 x2 (ix1 c) : EReal) = corr x0 x2 c 21 := by
  have e0 : (val_main_v336 (F := Ideal) x0 x2 (ix1 c) : EReal) = corr x0 x2 c 21 := by
    unfold val_main_v336
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v335, val_main_v167]
    rw [bordered]
    exact congrArg (fun q => sh (gv x0 i c) (q + 1) * ct x2 i c a) (by first | exact Nat.add_comm _ _ | rfl)
  unfold val_main_v340
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v337]

theorem dw21 (r : Fin 31) (c : Fin 1024) : (val_main_v342 (F := Ideal) x0 x2 (ix2 r c) : EReal) = if r.val = 21 then corr x0 x2 c 21 else 0 := by
  have hr := r.isLt
  unfold val_main_v342
  pointwise [val_main_v341]
  refine row_of r _ _ _ _ (by exact Ideal.ofBits_zero_f32) (fun h => ?_) (fun h => ?_)
  · rw [dif_pos (by omega), dwsum21]
  · rw [dif_neg (by omega)]; rfl

theorem dwsum20 (c : Fin 1024) : (val_main_v351 (F := Ideal) x0 x2 (ix1 c) : EReal) = corr x0 x2 c 20 := by
  have e0 : (val_main_v347 (F := Ideal) x0 x2 (ix1 c) : EReal) = corr x0 x2 c 20 := by
    unfold val_main_v347
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v346, val_main_v160]
    rw [bordered]
    exact congrArg (fun q => sh (gv x0 i c) (q + 1) * ct x2 i c a) (by first | exact Nat.add_comm _ _ | rfl)
  unfold val_main_v351
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v348]

theorem dw20 (r : Fin 31) (c : Fin 1024) : (val_main_v353 (F := Ideal) x0 x2 (ix2 r c) : EReal) = if r.val = 20 then corr x0 x2 c 20 else 0 := by
  have hr := r.isLt
  unfold val_main_v353
  pointwise [val_main_v352]
  refine row_of r _ _ _ _ (by exact Ideal.ofBits_zero_f32) (fun h => ?_) (fun h => ?_)
  · rw [dif_pos (by omega), dwsum20]
  · rw [dif_neg (by omega)]; rfl

theorem dwsum19 (c : Fin 1024) : (val_main_v362 (F := Ideal) x0 x2 (ix1 c) : EReal) = corr x0 x2 c 19 := by
  have e0 : (val_main_v358 (F := Ideal) x0 x2 (ix1 c) : EReal) = corr x0 x2 c 19 := by
    unfold val_main_v358
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v357, val_main_v153]
    rw [bordered]
    exact congrArg (fun q => sh (gv x0 i c) (q + 1) * ct x2 i c a) (by first | exact Nat.add_comm _ _ | rfl)
  unfold val_main_v362
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v359]

theorem dw19 (r : Fin 31) (c : Fin 1024) : (val_main_v364 (F := Ideal) x0 x2 (ix2 r c) : EReal) = if r.val = 19 then corr x0 x2 c 19 else 0 := by
  have hr := r.isLt
  unfold val_main_v364
  pointwise [val_main_v363]
  refine row_of r _ _ _ _ (by exact Ideal.ofBits_zero_f32) (fun h => ?_) (fun h => ?_)
  · rw [dif_pos (by omega), dwsum19]
  · rw [dif_neg (by omega)]; rfl

theorem dwsum18 (c : Fin 1024) : (val_main_v373 (F := Ideal) x0 x2 (ix1 c) : EReal) = corr x0 x2 c 18 := by
  have e0 : (val_main_v369 (F := Ideal) x0 x2 (ix1 c) : EReal) = corr x0 x2 c 18 := by
    unfold val_main_v369
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v368, val_main_v146]
    rw [bordered]
    exact congrArg (fun q => sh (gv x0 i c) (q + 1) * ct x2 i c a) (by first | exact Nat.add_comm _ _ | rfl)
  unfold val_main_v373
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v370]

theorem dw18 (r : Fin 31) (c : Fin 1024) : (val_main_v375 (F := Ideal) x0 x2 (ix2 r c) : EReal) = if r.val = 18 then corr x0 x2 c 18 else 0 := by
  have hr := r.isLt
  unfold val_main_v375
  pointwise [val_main_v374]
  refine row_of r _ _ _ _ (by exact Ideal.ofBits_zero_f32) (fun h => ?_) (fun h => ?_)
  · rw [dif_pos (by omega), dwsum18]
  · rw [dif_neg (by omega)]; rfl

theorem dwsum17 (c : Fin 1024) : (val_main_v384 (F := Ideal) x0 x2 (ix1 c) : EReal) = corr x0 x2 c 17 := by
  have e0 : (val_main_v380 (F := Ideal) x0 x2 (ix1 c) : EReal) = corr x0 x2 c 17 := by
    unfold val_main_v380
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v379, val_main_v139]
    rw [bordered]
    exact congrArg (fun q => sh (gv x0 i c) (q + 1) * ct x2 i c a) (by first | exact Nat.add_comm _ _ | rfl)
  unfold val_main_v384
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v381]

theorem dw17 (r : Fin 31) (c : Fin 1024) : (val_main_v386 (F := Ideal) x0 x2 (ix2 r c) : EReal) = if r.val = 17 then corr x0 x2 c 17 else 0 := by
  have hr := r.isLt
  unfold val_main_v386
  pointwise [val_main_v385]
  refine row_of r _ _ _ _ (by exact Ideal.ofBits_zero_f32) (fun h => ?_) (fun h => ?_)
  · rw [dif_pos (by omega), dwsum17]
  · rw [dif_neg (by omega)]; rfl

theorem dwsum16 (c : Fin 1024) : (val_main_v395 (F := Ideal) x0 x2 (ix1 c) : EReal) = corr x0 x2 c 16 := by
  have e0 : (val_main_v391 (F := Ideal) x0 x2 (ix1 c) : EReal) = corr x0 x2 c 16 := by
    unfold val_main_v391
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v390, val_main_v132]
    rw [bordered]
    exact congrArg (fun q => sh (gv x0 i c) (q + 1) * ct x2 i c a) (by first | exact Nat.add_comm _ _ | rfl)
  unfold val_main_v395
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v392]

theorem dw16 (r : Fin 31) (c : Fin 1024) : (val_main_v397 (F := Ideal) x0 x2 (ix2 r c) : EReal) = if r.val = 16 then corr x0 x2 c 16 else 0 := by
  have hr := r.isLt
  unfold val_main_v397
  pointwise [val_main_v396]
  refine row_of r _ _ _ _ (by exact Ideal.ofBits_zero_f32) (fun h => ?_) (fun h => ?_)
  · rw [dif_pos (by omega), dwsum16]
  · rw [dif_neg (by omega)]; rfl

theorem dwsum15 (c : Fin 1024) : (val_main_v406 (F := Ideal) x0 x2 (ix1 c) : EReal) = corr x0 x2 c 15 := by
  have e0 : (val_main_v402 (F := Ideal) x0 x2 (ix1 c) : EReal) = corr x0 x2 c 15 := by
    unfold val_main_v402
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v401, val_main_v125]
    rw [bordered]
    exact congrArg (fun q => sh (gv x0 i c) (q + 1) * ct x2 i c a) (by first | exact Nat.add_comm _ _ | rfl)
  unfold val_main_v406
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v403]

theorem dw15 (r : Fin 31) (c : Fin 1024) : (val_main_v408 (F := Ideal) x0 x2 (ix2 r c) : EReal) = if r.val = 15 then corr x0 x2 c 15 else 0 := by
  have hr := r.isLt
  unfold val_main_v408
  pointwise [val_main_v407]
  refine row_of r _ _ _ _ (by exact Ideal.ofBits_zero_f32) (fun h => ?_) (fun h => ?_)
  · rw [dif_pos (by omega), dwsum15]
  · rw [dif_neg (by omega)]; rfl

theorem dwsum14 (c : Fin 1024) : (val_main_v417 (F := Ideal) x0 x2 (ix1 c) : EReal) = corr x0 x2 c 14 := by
  have e0 : (val_main_v413 (F := Ideal) x0 x2 (ix1 c) : EReal) = corr x0 x2 c 14 := by
    unfold val_main_v413
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v412, val_main_v118]
    rw [bordered]
    exact congrArg (fun q => sh (gv x0 i c) (q + 1) * ct x2 i c a) (by first | exact Nat.add_comm _ _ | rfl)
  unfold val_main_v417
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v414]

theorem dw14 (r : Fin 31) (c : Fin 1024) : (val_main_v419 (F := Ideal) x0 x2 (ix2 r c) : EReal) = if r.val = 14 then corr x0 x2 c 14 else 0 := by
  have hr := r.isLt
  unfold val_main_v419
  pointwise [val_main_v418]
  refine row_of r _ _ _ _ (by exact Ideal.ofBits_zero_f32) (fun h => ?_) (fun h => ?_)
  · rw [dif_pos (by omega), dwsum14]
  · rw [dif_neg (by omega)]; rfl

theorem dwsum13 (c : Fin 1024) : (val_main_v428 (F := Ideal) x0 x2 (ix1 c) : EReal) = corr x0 x2 c 13 := by
  have e0 : (val_main_v424 (F := Ideal) x0 x2 (ix1 c) : EReal) = corr x0 x2 c 13 := by
    unfold val_main_v424
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v423, val_main_v111]
    rw [bordered]
    exact congrArg (fun q => sh (gv x0 i c) (q + 1) * ct x2 i c a) (by first | exact Nat.add_comm _ _ | rfl)
  unfold val_main_v428
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v425]

theorem dw13 (r : Fin 31) (c : Fin 1024) : (val_main_v430 (F := Ideal) x0 x2 (ix2 r c) : EReal) = if r.val = 13 then corr x0 x2 c 13 else 0 := by
  have hr := r.isLt
  unfold val_main_v430
  pointwise [val_main_v429]
  refine row_of r _ _ _ _ (by exact Ideal.ofBits_zero_f32) (fun h => ?_) (fun h => ?_)
  · rw [dif_pos (by omega), dwsum13]
  · rw [dif_neg (by omega)]; rfl

theorem dwsum12 (c : Fin 1024) : (val_main_v439 (F := Ideal) x0 x2 (ix1 c) : EReal) = corr x0 x2 c 12 := by
  have e0 : (val_main_v435 (F := Ideal) x0 x2 (ix1 c) : EReal) = corr x0 x2 c 12 := by
    unfold val_main_v435
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v434, val_main_v104]
    rw [bordered]
    exact congrArg (fun q => sh (gv x0 i c) (q + 1) * ct x2 i c a) (by first | exact Nat.add_comm _ _ | rfl)
  unfold val_main_v439
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v436]

theorem dw12 (r : Fin 31) (c : Fin 1024) : (val_main_v441 (F := Ideal) x0 x2 (ix2 r c) : EReal) = if r.val = 12 then corr x0 x2 c 12 else 0 := by
  have hr := r.isLt
  unfold val_main_v441
  pointwise [val_main_v440]
  refine row_of r _ _ _ _ (by exact Ideal.ofBits_zero_f32) (fun h => ?_) (fun h => ?_)
  · rw [dif_pos (by omega), dwsum12]
  · rw [dif_neg (by omega)]; rfl

theorem dwsum11 (c : Fin 1024) : (val_main_v450 (F := Ideal) x0 x2 (ix1 c) : EReal) = corr x0 x2 c 11 := by
  have e0 : (val_main_v446 (F := Ideal) x0 x2 (ix1 c) : EReal) = corr x0 x2 c 11 := by
    unfold val_main_v446
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v445, val_main_v97]
    rw [bordered]
    exact congrArg (fun q => sh (gv x0 i c) (q + 1) * ct x2 i c a) (by first | exact Nat.add_comm _ _ | rfl)
  unfold val_main_v450
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v447]

theorem dw11 (r : Fin 31) (c : Fin 1024) : (val_main_v452 (F := Ideal) x0 x2 (ix2 r c) : EReal) = if r.val = 11 then corr x0 x2 c 11 else 0 := by
  have hr := r.isLt
  unfold val_main_v452
  pointwise [val_main_v451]
  refine row_of r _ _ _ _ (by exact Ideal.ofBits_zero_f32) (fun h => ?_) (fun h => ?_)
  · rw [dif_pos (by omega), dwsum11]
  · rw [dif_neg (by omega)]; rfl

theorem dwsum10 (c : Fin 1024) : (val_main_v461 (F := Ideal) x0 x2 (ix1 c) : EReal) = corr x0 x2 c 10 := by
  have e0 : (val_main_v457 (F := Ideal) x0 x2 (ix1 c) : EReal) = corr x0 x2 c 10 := by
    unfold val_main_v457
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v456, val_main_v90]
    rw [bordered]
    exact congrArg (fun q => sh (gv x0 i c) (q + 1) * ct x2 i c a) (by first | exact Nat.add_comm _ _ | rfl)
  unfold val_main_v461
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v458]

theorem dw10 (r : Fin 31) (c : Fin 1024) : (val_main_v463 (F := Ideal) x0 x2 (ix2 r c) : EReal) = if r.val = 10 then corr x0 x2 c 10 else 0 := by
  have hr := r.isLt
  unfold val_main_v463
  pointwise [val_main_v462]
  refine row_of r _ _ _ _ (by exact Ideal.ofBits_zero_f32) (fun h => ?_) (fun h => ?_)
  · rw [dif_pos (by omega), dwsum10]
  · rw [dif_neg (by omega)]; rfl

theorem dwsum9 (c : Fin 1024) : (val_main_v472 (F := Ideal) x0 x2 (ix1 c) : EReal) = corr x0 x2 c 9 := by
  have e0 : (val_main_v468 (F := Ideal) x0 x2 (ix1 c) : EReal) = corr x0 x2 c 9 := by
    unfold val_main_v468
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v467, val_main_v83]
    rw [bordered]
    exact congrArg (fun q => sh (gv x0 i c) (q + 1) * ct x2 i c a) (by first | exact Nat.add_comm _ _ | rfl)
  unfold val_main_v472
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v469]

theorem dw9 (r : Fin 31) (c : Fin 1024) : (val_main_v474 (F := Ideal) x0 x2 (ix2 r c) : EReal) = if r.val = 9 then corr x0 x2 c 9 else 0 := by
  have hr := r.isLt
  unfold val_main_v474
  pointwise [val_main_v473]
  refine row_of r _ _ _ _ (by exact Ideal.ofBits_zero_f32) (fun h => ?_) (fun h => ?_)
  · rw [dif_pos (by omega), dwsum9]
  · rw [dif_neg (by omega)]; rfl

theorem dwsum8 (c : Fin 1024) : (val_main_v483 (F := Ideal) x0 x2 (ix1 c) : EReal) = corr x0 x2 c 8 := by
  have e0 : (val_main_v479 (F := Ideal) x0 x2 (ix1 c) : EReal) = corr x0 x2 c 8 := by
    unfold val_main_v479
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v478, val_main_v76]
    rw [bordered]
    exact congrArg (fun q => sh (gv x0 i c) (q + 1) * ct x2 i c a) (by first | exact Nat.add_comm _ _ | rfl)
  unfold val_main_v483
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v480]

theorem dw8 (r : Fin 31) (c : Fin 1024) : (val_main_v485 (F := Ideal) x0 x2 (ix2 r c) : EReal) = if r.val = 8 then corr x0 x2 c 8 else 0 := by
  have hr := r.isLt
  unfold val_main_v485
  pointwise [val_main_v484]
  refine row_of r _ _ _ _ (by exact Ideal.ofBits_zero_f32) (fun h => ?_) (fun h => ?_)
  · rw [dif_pos (by omega), dwsum8]
  · rw [dif_neg (by omega)]; rfl

theorem dwsum7 (c : Fin 1024) : (val_main_v494 (F := Ideal) x0 x2 (ix1 c) : EReal) = corr x0 x2 c 7 := by
  have e0 : (val_main_v490 (F := Ideal) x0 x2 (ix1 c) : EReal) = corr x0 x2 c 7 := by
    unfold val_main_v490
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v489, val_main_v69]
    rw [bordered]
    exact congrArg (fun q => sh (gv x0 i c) (q + 1) * ct x2 i c a) (by first | exact Nat.add_comm _ _ | rfl)
  unfold val_main_v494
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v491]

theorem dw7 (r : Fin 31) (c : Fin 1024) : (val_main_v496 (F := Ideal) x0 x2 (ix2 r c) : EReal) = if r.val = 7 then corr x0 x2 c 7 else 0 := by
  have hr := r.isLt
  unfold val_main_v496
  pointwise [val_main_v495]
  refine row_of r _ _ _ _ (by exact Ideal.ofBits_zero_f32) (fun h => ?_) (fun h => ?_)
  · rw [dif_pos (by omega), dwsum7]
  · rw [dif_neg (by omega)]; rfl

theorem dwsum6 (c : Fin 1024) : (val_main_v505 (F := Ideal) x0 x2 (ix1 c) : EReal) = corr x0 x2 c 6 := by
  have e0 : (val_main_v501 (F := Ideal) x0 x2 (ix1 c) : EReal) = corr x0 x2 c 6 := by
    unfold val_main_v501
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v500, val_main_v62]
    rw [bordered]
    exact congrArg (fun q => sh (gv x0 i c) (q + 1) * ct x2 i c a) (by first | exact Nat.add_comm _ _ | rfl)
  unfold val_main_v505
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v502]

theorem dw6 (r : Fin 31) (c : Fin 1024) : (val_main_v507 (F := Ideal) x0 x2 (ix2 r c) : EReal) = if r.val = 6 then corr x0 x2 c 6 else 0 := by
  have hr := r.isLt
  unfold val_main_v507
  pointwise [val_main_v506]
  refine row_of r _ _ _ _ (by exact Ideal.ofBits_zero_f32) (fun h => ?_) (fun h => ?_)
  · rw [dif_pos (by omega), dwsum6]
  · rw [dif_neg (by omega)]; rfl

theorem dwsum5 (c : Fin 1024) : (val_main_v516 (F := Ideal) x0 x2 (ix1 c) : EReal) = corr x0 x2 c 5 := by
  have e0 : (val_main_v512 (F := Ideal) x0 x2 (ix1 c) : EReal) = corr x0 x2 c 5 := by
    unfold val_main_v512
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v511, val_main_v55]
    rw [bordered]
    exact congrArg (fun q => sh (gv x0 i c) (q + 1) * ct x2 i c a) (by first | exact Nat.add_comm _ _ | rfl)
  unfold val_main_v516
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v513]

theorem dw5 (r : Fin 31) (c : Fin 1024) : (val_main_v518 (F := Ideal) x0 x2 (ix2 r c) : EReal) = if r.val = 5 then corr x0 x2 c 5 else 0 := by
  have hr := r.isLt
  unfold val_main_v518
  pointwise [val_main_v517]
  refine row_of r _ _ _ _ (by exact Ideal.ofBits_zero_f32) (fun h => ?_) (fun h => ?_)
  · rw [dif_pos (by omega), dwsum5]
  · rw [dif_neg (by omega)]; rfl

theorem dwsum4 (c : Fin 1024) : (val_main_v527 (F := Ideal) x0 x2 (ix1 c) : EReal) = corr x0 x2 c 4 := by
  have e0 : (val_main_v523 (F := Ideal) x0 x2 (ix1 c) : EReal) = corr x0 x2 c 4 := by
    unfold val_main_v523
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v522, val_main_v48]
    rw [bordered]
    exact congrArg (fun q => sh (gv x0 i c) (q + 1) * ct x2 i c a) (by first | exact Nat.add_comm _ _ | rfl)
  unfold val_main_v527
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v524]

theorem dw4 (r : Fin 31) (c : Fin 1024) : (val_main_v529 (F := Ideal) x0 x2 (ix2 r c) : EReal) = if r.val = 4 then corr x0 x2 c 4 else 0 := by
  have hr := r.isLt
  unfold val_main_v529
  pointwise [val_main_v528]
  refine row_of r _ _ _ _ (by exact Ideal.ofBits_zero_f32) (fun h => ?_) (fun h => ?_)
  · rw [dif_pos (by omega), dwsum4]
  · rw [dif_neg (by omega)]; rfl

theorem dwsum3 (c : Fin 1024) : (val_main_v538 (F := Ideal) x0 x2 (ix1 c) : EReal) = corr x0 x2 c 3 := by
  have e0 : (val_main_v534 (F := Ideal) x0 x2 (ix1 c) : EReal) = corr x0 x2 c 3 := by
    unfold val_main_v534
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v533, val_main_v41]
    rw [bordered]
    exact congrArg (fun q => sh (gv x0 i c) (q + 1) * ct x2 i c a) (by first | exact Nat.add_comm _ _ | rfl)
  unfold val_main_v538
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v535]

theorem dw3 (r : Fin 31) (c : Fin 1024) : (val_main_v540 (F := Ideal) x0 x2 (ix2 r c) : EReal) = if r.val = 3 then corr x0 x2 c 3 else 0 := by
  have hr := r.isLt
  unfold val_main_v540
  pointwise [val_main_v539]
  refine row_of r _ _ _ _ (by exact Ideal.ofBits_zero_f32) (fun h => ?_) (fun h => ?_)
  · rw [dif_pos (by omega), dwsum3]
  · rw [dif_neg (by omega)]; rfl

theorem dwsum2 (c : Fin 1024) : (val_main_v549 (F := Ideal) x0 x2 (ix1 c) : EReal) = corr x0 x2 c 2 := by
  have e0 : (val_main_v545 (F := Ideal) x0 x2 (ix1 c) : EReal) = corr x0 x2 c 2 := by
    unfold val_main_v545
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v544, val_main_v34]
    rw [bordered]
    exact congrArg (fun q => sh (gv x0 i c) (q + 1) * ct x2 i c a) (by first | exact Nat.add_comm _ _ | rfl)
  unfold val_main_v549
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v546]

theorem dw2 (r : Fin 31) (c : Fin 1024) : (val_main_v551 (F := Ideal) x0 x2 (ix2 r c) : EReal) = if r.val = 2 then corr x0 x2 c 2 else 0 := by
  have hr := r.isLt
  unfold val_main_v551
  pointwise [val_main_v550]
  refine row_of r _ _ _ _ (by exact Ideal.ofBits_zero_f32) (fun h => ?_) (fun h => ?_)
  · rw [dif_pos (by omega), dwsum2]
  · rw [dif_neg (by omega)]; rfl

theorem dwsum1 (c : Fin 1024) : (val_main_v560 (F := Ideal) x0 x2 (ix1 c) : EReal) = corr x0 x2 c 1 := by
  have e0 : (val_main_v556 (F := Ideal) x0 x2 (ix1 c) : EReal) = corr x0 x2 c 1 := by
    unfold val_main_v556
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v555, val_main_v27]
    rw [bordered]
    exact congrArg (fun q => sh (gv x0 i c) (q + 1) * ct x2 i c a) (by first | exact Nat.add_comm _ _ | rfl)
  unfold val_main_v560
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v557]

theorem dw1 (r : Fin 31) (c : Fin 1024) : (val_main_v562 (F := Ideal) x0 x2 (ix2 r c) : EReal) = if r.val = 1 then corr x0 x2 c 1 else 0 := by
  have hr := r.isLt
  unfold val_main_v562
  pointwise [val_main_v561]
  refine row_of r _ _ _ _ (by exact Ideal.ofBits_zero_f32) (fun h => ?_) (fun h => ?_)
  · rw [dif_pos (by omega), dwsum1]
  · rw [dif_neg (by omega)]; rfl

theorem dwsum0 (c : Fin 1024) : (val_main_v571 (F := Ideal) x0 x2 (ix1 c) : EReal) = corr x0 x2 c 0 := by
  have e0 : (val_main_v567 (F := Ideal) x0 x2 (ix1 c) : EReal) = corr x0 x2 c 0 := by
    unfold val_main_v567
    rw [ValueIdx.hostReduceAdd_apply]
    refine (planes _ _ _ c).trans ?_
    refine (congrArg (· + _) (show _ = (0 : EReal) from Ideal.ofBits_zero_f32)).trans ?_
    rw [zero_add]
    refine Finset.sum_congr rfl fun i _ => Finset.sum_congr rfl fun a _ => ?_
    pointwise [val_main_v566, val_main_v19]
    rw [bordered]
    exact congrArg (fun q => sh (gv x0 i c) (q + 1) * ct x2 i c a) (by first | exact Nat.add_comm _ _ | rfl)
  unfold val_main_v571
  rw [ValueIdx.hostReduceAdd_apply]
  refine (planes _ _ _ c).trans ?_
  refine (congrArg (· + _) (show _ = (0 : EReal) from Ideal.ofBits_zero_f32)).trans ?_
  rw [zero_add, Fin.sum_univ_one, Fin.sum_univ_one, ← e0]
  pointwise [val_main_v568]

theorem dw0 (r : Fin 31) (c : Fin 1024) : (val_main_v573 (F := Ideal) x0 x2 (ix2 r c) : EReal) = if r.val = 0 then corr x0 x2 c 0 else 0 := by
  have hr := r.isLt
  unfold val_main_v573
  pointwise [val_main_v572]
  refine row_of r _ _ _ _ (by exact Ideal.ofBits_zero_f32) (fun h => ?_) (fun h => ?_)
  · rw [dif_pos (by omega), dwsum0]
  · rw [dif_neg (by omega)]; rfl

/-- The cotangent of the bordered rows, at the rows' own columns. -/
theorem dx_at (i : Fin 64) (a : Fin 64) (c : Fin 1024) :
    (val_main_v578 (F := Ideal) x1 x2 (ix3 i a c) : EReal) = ∑ k : Fin 31, sh (ct x2 i c) (a.val + 31 - k) * wt x1 c k := by
  have h : a.val + 15 < 94 := by omega
  have e : (val_main_v578 (F := Ideal) x1 x2 (ix3 i a c) : EReal) = val_main_v576 (F := Ideal) x1 x2 (ix3 i ⟨a.val + 15, h⟩ c) := by
    pointwise [val_main_v578]
    exact congrArg _ (congrArg (fun q => ix3 i q c) (Fin.ext (Nat.add_comm 15 a.val)))
  rw [e, ← down (fun k => sh (ct x2 i c) (a.val + 31 - k) * wt x1 c k)]
  simp only [val_main_v576_apply, val_main_v565_apply, val_main_v554_apply, val_main_v543_apply, val_main_v532_apply, val_main_v521_apply, val_main_v510_apply, val_main_v499_apply, val_main_v488_apply, val_main_v477_apply, val_main_v466_apply, val_main_v455_apply, val_main_v444_apply, val_main_v433_apply, val_main_v422_apply, val_main_v411_apply, val_main_v400_apply, val_main_v389_apply, val_main_v378_apply, val_main_v367_apply, val_main_v356_apply, val_main_v345_apply, val_main_v334_apply, val_main_v323_apply, val_main_v312_apply, val_main_v301_apply, val_main_v290_apply, val_main_v279_apply, val_main_v268_apply, val_main_v257_apply]
  rw [dx30, dx29, dx28, dx27, dx26, dx25, dx24, dx23, dx22, dx21, dx20, dx19, dx18, dx17, dx16, dx15, dx14, dx13, dx12, dx11, dx10, dx9, dx8, dx7, dx6, dx5, dx4, dx3, dx2, dx1, dx0]
  rfl

/-- The cotangent of the weights. -/
theorem dw_at (r : Fin 31) (c : Fin 1024) : (val_main_v574 (F := Ideal) x0 x2 (ix2 r c) : EReal) = corr x0 x2 c r := by
  rw [← pick r (corr x0 x2 c), ← down (fun k => if r.val = k then corr x0 x2 c k else 0)]
  simp only [val_main_v574_apply, val_main_v563_apply, val_main_v552_apply, val_main_v541_apply, val_main_v530_apply, val_main_v519_apply, val_main_v508_apply, val_main_v497_apply, val_main_v486_apply, val_main_v475_apply, val_main_v464_apply, val_main_v453_apply, val_main_v442_apply, val_main_v431_apply, val_main_v420_apply, val_main_v409_apply, val_main_v398_apply, val_main_v387_apply, val_main_v376_apply, val_main_v365_apply, val_main_v354_apply, val_main_v343_apply, val_main_v332_apply, val_main_v321_apply, val_main_v310_apply, val_main_v299_apply, val_main_v288_apply, val_main_v277_apply, val_main_v266_apply, val_main_v255_apply]
  rw [dw30, dw29, dw28, dw27, dw26, dw25, dw24, dw23, dw22, dw21, dw20, dw19, dw18, dw17, dw16, dw15, dw14, dw13, dw12, dw11, dw10, dw9, dw8, dw7, dw6, dw5, dw4, dw3, dw2, dw1, dw0]
  rfl

/-- The value's and the gate's rows. -/
def vl (i : Fin 64) (a : Fin 64) (c : Fin 1024) : EReal := x0 (ix2 ⟨i.val * 64 + a.val, by omega⟩ ⟨8256 + c.val, by omega⟩)
def gt (i : Fin 64) (a : Fin 64) (c : Fin 1024) : EReal := Ideal.div 1 (1 + Ideal.exp (-x0 (ix2 ⟨i.val * 64 + a.val, by omega⟩ ⟨10304 + c.val, by omega⟩)))

theorem ct_at (i a : Fin 64) (c : Fin 1024) : ct x2 i c a = x2 (ix2 ⟨i.val * 64 + a.val, by omega⟩ c) := by
  unfold ct
  pointwise [val_main_v237]

theorem gv_at (i a : Fin 64) (c : Fin 1024) : gv x0 i c a = vl x0 i a c * gt x0 i a c := by
  unfold gv vl gt
  pointwise [val_main_v14, val_main_v1, val_main_v0, val_main_v10, val_main_v9, val_main_v8, val_main_v7, val_main_v6, val_main_v5, val_main_v3, val_main_v2, val_main_cst, val_main_cst_0, val_main_cst_1]

theorem v583_at (i a : Fin 64) (c : Fin 1024) : (val_main_v583 (F := Ideal) x0 x1 x2 (ix3 i a c) : EReal)
    = (∑ k : Fin 31, sh (ct x2 i c) (a.val + 31 - k) * wt x1 c k) * gt x0 i a c := by
  rw [← dx_at]
  unfold gt
  pointwise [val_main_v583, val_main_v581, val_main_v10, val_main_v9, val_main_v8, val_main_v7, val_main_v6, val_main_v5, val_main_v3, val_main_v2, val_main_cst, val_main_cst_0, val_main_cst_1]

theorem v584_at (i a : Fin 64) (c : Fin 1024) : (val_main_v584 (F := Ideal) x0 x1 x2 (ix3 i a c) : EReal)
    = (vl x0 i a c * (∑ k : Fin 31, sh (ct x2 i c) (a.val + 31 - k) * wt x1 c k)) * (gt x0 i a c * (1 - gt x0 i a c)) := by
  rw [← dx_at]
  unfold vl gt
  pointwise [val_main_v584, val_main_v582, val_main_v580, val_main_v13, val_main_v10, val_main_v9, val_main_v8, val_main_v7, val_main_v6, val_main_v5, val_main_v3, val_main_v2, val_main_v12, val_main_v11, val_main_v1, val_main_v0, val_main_cst, val_main_cst_0, val_main_cst_1]

end Cert.ConvRef
end
-- ==== Proof.KernelLoops.lean ====
/-
The thirty-one loops that make the gradient of a depthwise convolution's weights. The loop for weight `k`
goes over the sixty-four rows in steps of four, adds up the products of the gated rows with the cotangent's
rows moved by `k`, and stores the sum over the columns: `loop0` to `loop30` say so.
-/
module

public import proofs.«01_k».proof.Proof.Gen.KernelIdeal.Value
public import proofs.«01_k».proof.Proof.Gen.KernelRefIdeal.Run
public import proofs.«01_k».proof.Proof.Gen.KernelRefIdeal.Read
public import Idealize.ShloMosaic.Lib.Pipeline.ValueKit
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

open Cert.KernelRefIdeal.Read

/-- Sixteen steps of four rows each add up all sixty-four. -/
theorem fold_rows (f : ℕ → EReal) (g : Fin 64 → EReal) (h0 : f 0 = 0)
    (hs : ∀ (k : ℕ) (hk : k < 16), f (k + 1) = f k + ∑ r : Fin 4, g ⟨4 * k + r.val, by omega⟩) : f 16 = ∑ i, g i := by
  have h : ∀ n, (hn : n ≤ 16) → f n = ∑ i : Fin (4 * n), g ⟨i.val, by omega⟩ := by
    intro n
    induction n with
    | zero => intro _; rw [h0]; rfl
    | succ k ih =>
      intro hn
      rw [hs k (by omega), ih (by omega)]
      exact (Fin.sum_univ_add (a := 4 * k) (b := 4) (fun i : Fin (4 * k + 4) => g ⟨i.val, by omega⟩)).symm
  exact h 16 le_rfl

/-- One step of a weight's loop at an index: the running sum and four rows' products. -/
theorem step_at (acc : FVec Ideal S64x128 .f32) (d y : FVec Ideal S4x64x128 .f32) (a : Fin 64) (b : Fin 128) :
    (k0_pay22 acc d y (ix2 a b) : EReal) = acc (ix2 a b) + ∑ r : Fin 4, d (ix3 r a b) * y (ix3 r a b) := by
  pointwise [k0_pay22]

/-- What a weight's loop stores: the sum over the columns. -/
theorem stored_at (acc : FVec Ideal S64x128 .f32) (b : Fin 128) : (k0_pay23 acc (ix2 0 b) : EReal) = ∑ a : Fin 64, acc (ix2 a b) := by
  pointwise [k0_pay23]

/-- Four rows loaded from an array of 64 columns, and from one of 96. -/
theorem ld64 (X : Vec Ideal S64x64x128 .f32) (off : Fin 3 → ℕ) (inb : ∀ a, off a + S4x64x128.size a ≤ S64x64x128.size a) (r : Fin 4) (a : Fin 64) (b : Fin 128) (k : ℕ) (hk : k < 16)
    (h : off = ![4 * k, 0, 0]) : (View.ld X (Rect.unit (s := S64x64x128) off S4x64x128.size inb) (ix3 r a b) : EReal) = X (ix3 ⟨4 * k + r.val, by omega⟩ a b) := by
  subst h
  exact View.ld_unit_apply_of X _ _ inb (ix3 r a b) _ (fun x => by
    match x with
    | ⟨0, _⟩ => rfl
    | ⟨1, _⟩ => exact (Nat.zero_add _).symm
    | ⟨2, _⟩ => exact (Nat.zero_add _).symm)
theorem ld96 (X : Vec Ideal S64x96x128 .f32) (off : Fin 3 → ℕ) (inb : ∀ a, off a + S4x64x128.size a ≤ S64x96x128.size a) (r : Fin 4) (a : Fin 64) (b : Fin 128) (k q : ℕ) (hk : k < 16) (hq : q ≤ 32)
    (h : off = ![4 * k, q, 0]) : (View.ld X (Rect.unit (s := S64x96x128) off S4x64x128.size inb) (ix3 r a b) : EReal) = X (ix3 ⟨4 * k + r.val, by omega⟩ ⟨q + a.val, by omega⟩ b) := by
  subst h
  exact View.ld_unit_apply_of X _ _ inb (ix3 r a b) _ (fun x => by
    match x with
    | ⟨0, _⟩ => rfl
    | ⟨1, _⟩ => rfl
    | ⟨2, _⟩ => exact (Nat.zero_add _).symm)

section
variable (𝒱 : Variants) (c : Dev nD) (bd : Option 𝒱.V) (i : grid0.Coords) (arg1 : Memref sig .tc .vmem S64x64x128 .f32) (harg1 : arg1.IsWhole) (arg2 : Memref sig .tc .vmem S64x64x128 .f32) (harg2 : arg2.IsWhole) (arg3 : Memref sig .tc .vmem S31x128 .f32) (harg3 : arg3.IsWhole) (arg4 : Memref sig .tc .vmem S64x64x128 .f32) (harg4 : arg4.IsWhole) (arg5 : Memref sig .tc .vmem S64x64x128 .bf16) (harg5 : arg5.IsWhole) (arg6 : Memref sig .tc .vmem S64x64x128 .bf16) (harg6 : arg6.IsWhole) (arg7 : Memref sig .tc .vmem S31x128 .f32) (harg7 : arg7.IsWhole) (arg8 : Memref sig .tc .vmem S64x96x128 .f32) (harg8 : arg8.IsWhole) (arg9 : Memref sig .tc .vmem S64x96x128 .f32) (harg9 : arg9.IsWhole)
variable (X_arg4 : BufTy.Contents (Elt Ideal) arg4.view.ty) (X_arg8 : BufTy.Contents (Elt Ideal) arg8.view.ty) (init : FVec Ideal S64x128 .f32) (hinit : ∀ a b, (init (ix2 a b) : EReal) = 0)

theorem off_d0 : ∀ k : Fin k0_t2_loop.trips, k0_off33 k = ![4 * k.val, 0, 0] := by decide +kernel
theorem off_y0 : ∀ k : Fin k0_t2_loop.trips, k0_off34 k = ![4 * k.val, 1, 0] := by decide +kernel
include hinit in
theorem loop0 (v18 : FVec Ideal S64x64x128 .f32) (v26 : FVec Ideal S64x16x128 .f32) (b : Fin 128) :
    (k0_pay23 (st_k0_t2 𝒱 c bd i arg1 harg1 arg2 harg2 arg3 harg3 arg4 harg4 arg5 harg5 arg6 harg6 arg7 harg7 arg8 harg8 arg9 harg9 v18 v26 X_arg4 X_arg8 init (Scf.trips k0_t2_loop.lb k0_t2_loop.ub k0_t2_loop.st)) (ix2 0 b) : EReal)
      = ∑ a : Fin 64, ∑ i : Fin 64, (arg4.view.read (Elt Ideal) X_arg4 (ix3 i a b) : EReal) * arg8.view.read (Elt Ideal) X_arg8 (ix3 i ⟨1 + a.val, by omega⟩ b) := by
  refine (stored_at _ b).trans (Finset.sum_congr rfl fun a _ => ?_)
  refine fold_rows (fun n => st_k0_t2 𝒱 c bd i arg1 harg1 arg2 harg2 arg3 harg3 arg4 harg4 arg5 harg5 arg6 harg6 arg7 harg7 arg8 harg8 arg9 harg9 v18 v26 X_arg4 X_arg8 init n (ix2 a b)) _ (hinit a b) (fun k hk => ?_)
  have e := congrFun (st_k0_t2_succ 𝒱 c bd i arg1 harg1 arg2 harg2 arg3 harg3 arg4 harg4 arg5 harg5 arg6 harg6 arg7 harg7 arg8 harg8 arg9 harg9 v18 v26 X_arg4 X_arg8 init ⟨k, hk⟩) (ix2 a b)
  refine e.trans ?_
  unfold tripR_k0_t2 trip_k0_t2
  dsimp only
  refine (step_at _ _ _ a b).trans (congrArg _ (Finset.sum_congr rfl fun r _ => ?_))
  exact congrArg₂ (fun x y : EReal => x * y) (ld64 _ _ _ r a b k hk (off_d0 ⟨k, hk⟩)) (ld96 _ _ _ r a b k 1 hk (by decide) (off_y0 ⟨k, hk⟩))

theorem off_d1 : ∀ k : Fin k0_t3_loop.trips, k0_off35 k = ![4 * k.val, 0, 0] := by decide +kernel
theorem off_y1 : ∀ k : Fin k0_t3_loop.trips, k0_off36 k = ![4 * k.val, 2, 0] := by decide +kernel
include hinit in
theorem loop1 (v18 : FVec Ideal S64x64x128 .f32) (v26 : FVec Ideal S64x16x128 .f32) (b : Fin 128) :
    (k0_pay26 (st_k0_t3 𝒱 c bd i arg1 harg1 arg2 harg2 arg3 harg3 arg4 harg4 arg5 harg5 arg6 harg6 arg7 harg7 arg8 harg8 arg9 harg9 v18 v26 X_arg4 X_arg8 init (Scf.trips k0_t3_loop.lb k0_t3_loop.ub k0_t3_loop.st)) (ix2 0 b) : EReal)
      = ∑ a : Fin 64, ∑ i : Fin 64, (arg4.view.read (Elt Ideal) X_arg4 (ix3 i a b) : EReal) * arg8.view.read (Elt Ideal) X_arg8 (ix3 i ⟨2 + a.val, by omega⟩ b) := by
  refine (stored_at _ b).trans (Finset.sum_congr rfl fun a _ => ?_)
  refine fold_rows (fun n => st_k0_t3 𝒱 c bd i arg1 harg1 arg2 harg2 arg3 harg3 arg4 harg4 arg5 harg5 arg6 harg6 arg7 harg7 arg8 harg8 arg9 harg9 v18 v26 X_arg4 X_arg8 init n (ix2 a b)) _ (hinit a b) (fun k hk => ?_)
  have e := congrFun (st_k0_t3_succ 𝒱 c bd i arg1 harg1 arg2 harg2 arg3 harg3 arg4 harg4 arg5 harg5 arg6 harg6 arg7 harg7 arg8 harg8 arg9 harg9 v18 v26 X_arg4 X_arg8 init ⟨k, hk⟩) (ix2 a b)
  refine e.trans ?_
  unfold tripR_k0_t3 trip_k0_t3
  dsimp only
  refine (step_at _ _ _ a b).trans (congrArg _ (Finset.sum_congr rfl fun r _ => ?_))
  exact congrArg₂ (fun x y : EReal => x * y) (ld64 _ _ _ r a b k hk (off_d1 ⟨k, hk⟩)) (ld96 _ _ _ r a b k 2 hk (by decide) (off_y1 ⟨k, hk⟩))

theorem off_d2 : ∀ k : Fin k0_t4_loop.trips, k0_off37 k = ![4 * k.val, 0, 0] := by decide +kernel
theorem off_y2 : ∀ k : Fin k0_t4_loop.trips, k0_off38 k = ![4 * k.val, 3, 0] := by decide +kernel
include hinit in
theorem loop2 (v18 : FVec Ideal S64x64x128 .f32) (v26 : FVec Ideal S64x16x128 .f32) (b : Fin 128) :
    (k0_pay29 (st_k0_t4 𝒱 c bd i arg1 harg1 arg2 harg2 arg3 harg3 arg4 harg4 arg5 harg5 arg6 harg6 arg7 harg7 arg8 harg8 arg9 harg9 v18 v26 X_arg4 X_arg8 init (Scf.trips k0_t4_loop.lb k0_t4_loop.ub k0_t4_loop.st)) (ix2 0 b) : EReal)
      = ∑ a : Fin 64, ∑ i : Fin 64, (arg4.view.read (Elt Ideal) X_arg4 (ix3 i a b) : EReal) * arg8.view.read (Elt Ideal) X_arg8 (ix3 i ⟨3 + a.val, by omega⟩ b) := by
  refine (stored_at _ b).trans (Finset.sum_congr rfl fun a _ => ?_)
  refine fold_rows (fun n => st_k0_t4 𝒱 c bd i arg1 harg1 arg2 harg2 arg3 harg3 arg4 harg4 arg5 harg5 arg6 harg6 arg7 harg7 arg8 harg8 arg9 harg9 v18 v26 X_arg4 X_arg8 init n (ix2 a b)) _ (hinit a b) (fun k hk => ?_)
  have e := congrFun (st_k0_t4_succ 𝒱 c bd i arg1 harg1 arg2 harg2 arg3 harg3 arg4 harg4 arg5 harg5 arg6 harg6 arg7 harg7 arg8 harg8 arg9 harg9 v18 v26 X_arg4 X_arg8 init ⟨k, hk⟩) (ix2 a b)
  refine e.trans ?_
  unfold tripR_k0_t4 trip_k0_t4
  dsimp only
  refine (step_at _ _ _ a b).trans (congrArg _ (Finset.sum_congr rfl fun r _ => ?_))
  exact congrArg₂ (fun x y : EReal => x * y) (ld64 _ _ _ r a b k hk (off_d2 ⟨k, hk⟩)) (ld96 _ _ _ r a b k 3 hk (by decide) (off_y2 ⟨k, hk⟩))

theorem off_d3 : ∀ k : Fin k0_t5_loop.trips, k0_off39 k = ![4 * k.val, 0, 0] := by decide +kernel
theorem off_y3 : ∀ k : Fin k0_t5_loop.trips, k0_off40 k = ![4 * k.val, 4, 0] := by decide +kernel
include hinit in
theorem loop3 (z : Ideal .f32) (b : Fin 128) :
    (k0_pay32 (st_k0_t5 𝒱 c bd i arg1 harg1 arg2 harg2 arg3 harg3 arg4 harg4 arg5 harg5 arg6 harg6 arg7 harg7 arg8 harg8 arg9 harg9 z X_arg4 X_arg8 init (Scf.trips k0_t5_loop.lb k0_t5_loop.ub k0_t5_loop.st)) (ix2 0 b) : EReal)
      = ∑ a : Fin 64, ∑ i : Fin 64, (arg4.view.read (Elt Ideal) X_arg4 (ix3 i a b) : EReal) * arg8.view.read (Elt Ideal) X_arg8 (ix3 i ⟨4 + a.val, by omega⟩ b) := by
  refine (stored_at _ b).trans (Finset.sum_congr rfl fun a _ => ?_)
  refine fold_rows (fun n => st_k0_t5 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t5_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t5 trip_k0_t5
  dsimp only
  refine (step_at _ _ _ a b).trans (congrArg _ (Finset.sum_congr rfl fun r _ => ?_))
  exact congrArg₂ (fun x y : EReal => x * y) (ld64 _ _ _ r a b k hk (off_d3 ⟨k, hk⟩)) (ld96 _ _ _ r a b k 4 hk (by decide) (off_y3 ⟨k, hk⟩))

theorem off_d4 : ∀ k : Fin k0_t6_loop.trips, k0_off41 k = ![4 * k.val, 0, 0] := by decide +kernel
theorem off_y4 : ∀ k : Fin k0_t6_loop.trips, k0_off42 k = ![4 * k.val, 5, 0] := by decide +kernel
include hinit in
theorem loop4 (z : Ideal .f32) (b : Fin 128) :
    (k0_pay35 (st_k0_t6 𝒱 c bd i arg1 harg1 arg2 harg2 arg3 harg3 arg4 harg4 arg5 harg5 arg6 harg6 arg7 harg7 arg8 harg8 arg9 harg9 z X_arg4 X_arg8 init (Scf.trips k0_t6_loop.lb k0_t6_loop.ub k0_t6_loop.st)) (ix2 0 b) : EReal)
      = ∑ a : Fin 64, ∑ i : Fin 64, (arg4.view.read (Elt Ideal) X_arg4 (ix3 i a b) : EReal) * arg8.view.read (Elt Ideal) X_arg8 (ix3 i ⟨5 + a.val, by omega⟩ b) := by
  refine (stored_at _ b).trans (Finset.sum_congr rfl fun a _ => ?_)
  refine fold_rows (fun n => st_k0_t6 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t6_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t6 trip_k0_t6
  dsimp only
  refine (step_at _ _ _ a b).trans (congrArg _ (Finset.sum_congr rfl fun r _ => ?_))
  exact congrArg₂ (fun x y : EReal => x * y) (ld64 _ _ _ r a b k hk (off_d4 ⟨k, hk⟩)) (ld96 _ _ _ r a b k 5 hk (by decide) (off_y4 ⟨k, hk⟩))

theorem off_d5 : ∀ k : Fin k0_t7_loop.trips, k0_off43 k = ![4 * k.val, 0, 0] := by decide +kernel
theorem off_y5 : ∀ k : Fin k0_t7_loop.trips, k0_off44 k = ![4 * k.val, 6, 0] := by decide +kernel
include hinit in
theorem loop5 (z : Ideal .f32) (b : Fin 128) :
    (k0_pay38 (st_k0_t7 𝒱 c bd i arg1 harg1 arg2 harg2 arg3 harg3 arg4 harg4 arg5 harg5 arg6 harg6 arg7 harg7 arg8 harg8 arg9 harg9 z X_arg4 X_arg8 init (Scf.trips k0_t7_loop.lb k0_t7_loop.ub k0_t7_loop.st)) (ix2 0 b) : EReal)
      = ∑ a : Fin 64, ∑ i : Fin 64, (arg4.view.read (Elt Ideal) X_arg4 (ix3 i a b) : EReal) * arg8.view.read (Elt Ideal) X_arg8 (ix3 i ⟨6 + a.val, by omega⟩ b) := by
  refine (stored_at _ b).trans (Finset.sum_congr rfl fun a _ => ?_)
  refine fold_rows (fun n => st_k0_t7 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t7_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t7 trip_k0_t7
  dsimp only
  refine (step_at _ _ _ a b).trans (congrArg _ (Finset.sum_congr rfl fun r _ => ?_))
  exact congrArg₂ (fun x y : EReal => x * y) (ld64 _ _ _ r a b k hk (off_d5 ⟨k, hk⟩)) (ld96 _ _ _ r a b k 6 hk (by decide) (off_y5 ⟨k, hk⟩))

theorem off_d6 : ∀ k : Fin k0_t8_loop.trips, k0_off45 k = ![4 * k.val, 0, 0] := by decide +kernel
theorem off_y6 : ∀ k : Fin k0_t8_loop.trips, k0_off46 k = ![4 * k.val, 7, 0] := by decide +kernel
include hinit in
theorem loop6 (z : Ideal .f32) (b : Fin 128) :
    (k0_pay41 (st_k0_t8 𝒱 c bd i arg1 harg1 arg2 harg2 arg3 harg3 arg4 harg4 arg5 harg5 arg6 harg6 arg7 harg7 arg8 harg8 arg9 harg9 z X_arg4 X_arg8 init (Scf.trips k0_t8_loop.lb k0_t8_loop.ub k0_t8_loop.st)) (ix2 0 b) : EReal)
      = ∑ a : Fin 64, ∑ i : Fin 64, (arg4.view.read (Elt Ideal) X_arg4 (ix3 i a b) : EReal) * arg8.view.read (Elt Ideal) X_arg8 (ix3 i ⟨7 + a.val, by omega⟩ b) := by
  refine (stored_at _ b).trans (Finset.sum_congr rfl fun a _ => ?_)
  refine fold_rows (fun n => st_k0_t8 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t8_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t8 trip_k0_t8
  dsimp only
  refine (step_at _ _ _ a b).trans (congrArg _ (Finset.sum_congr rfl fun r _ => ?_))
  exact congrArg₂ (fun x y : EReal => x * y) (ld64 _ _ _ r a b k hk (off_d6 ⟨k, hk⟩)) (ld96 _ _ _ r a b k 7 hk (by decide) (off_y6 ⟨k, hk⟩))

theorem off_d7 : ∀ k : Fin k0_t9_loop.trips, k0_off47 k = ![4 * k.val, 0, 0] := by decide +kernel
theorem off_y7 : ∀ k : Fin k0_t9_loop.trips, k0_off48 k = ![4 * k.val, 8, 0] := by decide +kernel
include hinit in
theorem loop7 (z : Ideal .f32) (b : Fin 128) :
    (k0_pay44 (st_k0_t9 𝒱 c bd i arg1 harg1 arg2 harg2 arg3 harg3 arg4 harg4 arg5 harg5 arg6 harg6 arg7 harg7 arg8 harg8 arg9 harg9 z X_arg4 X_arg8 init (Scf.trips k0_t9_loop.lb k0_t9_loop.ub k0_t9_loop.st)) (ix2 0 b) : EReal)
      = ∑ a : Fin 64, ∑ i : Fin 64, (arg4.view.read (Elt Ideal) X_arg4 (ix3 i a b) : EReal) * arg8.view.read (Elt Ideal) X_arg8 (ix3 i ⟨8 + a.val, by omega⟩ b) := by
  refine (stored_at _ b).trans (Finset.sum_congr rfl fun a _ => ?_)
  refine fold_rows (fun n => st_k0_t9 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t9_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t9 trip_k0_t9
  dsimp only
  refine (step_at _ _ _ a b).trans (congrArg _ (Finset.sum_congr rfl fun r _ => ?_))
  exact congrArg₂ (fun x y : EReal => x * y) (ld64 _ _ _ r a b k hk (off_d7 ⟨k, hk⟩)) (ld96 _ _ _ r a b k 8 hk (by decide) (off_y7 ⟨k, hk⟩))

theorem off_d8 : ∀ k : Fin k0_t10_loop.trips, k0_off49 k = ![4 * k.val, 0, 0] := by decide +kernel
theorem off_y8 : ∀ k : Fin k0_t10_loop.trips, k0_off50 k = ![4 * k.val, 9, 0] := by decide +kernel
include hinit in
theorem loop8 (z : Ideal .f32) (b : Fin 128) :
    (k0_pay47 (st_k0_t10 𝒱 c bd i arg1 harg1 arg2 harg2 arg3 harg3 arg4 harg4 arg5 harg5 arg6 harg6 arg7 harg7 arg8 harg8 arg9 harg9 z X_arg4 X_arg8 init (Scf.trips k0_t10_loop.lb k0_t10_loop.ub k0_t10_loop.st)) (ix2 0 b) : EReal)
      = ∑ a : Fin 64, ∑ i : Fin 64, (arg4.view.read (Elt Ideal) X_arg4 (ix3 i a b) : EReal) * arg8.view.read (Elt Ideal) X_arg8 (ix3 i ⟨9 + a.val, by omega⟩ b) := by
  refine (stored_at _ b).trans (Finset.sum_congr rfl fun a _ => ?_)
  refine fold_rows (fun n => st_k0_t10 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t10_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t10 trip_k0_t10
  dsimp only
  refine (step_at _ _ _ a b).trans (congrArg _ (Finset.sum_congr rfl fun r _ => ?_))
  exact congrArg₂ (fun x y : EReal => x * y) (ld64 _ _ _ r a b k hk (off_d8 ⟨k, hk⟩)) (ld96 _ _ _ r a b k 9 hk (by decide) (off_y8 ⟨k, hk⟩))

theorem off_d9 : ∀ k : Fin k0_t11_loop.trips, k0_off51 k = ![4 * k.val, 0, 0] := by decide +kernel
theorem off_y9 : ∀ k : Fin k0_t11_loop.trips, k0_off52 k = ![4 * k.val, 10, 0] := by decide +kernel
include hinit in
theorem loop9 (z : Ideal .f32) (b : Fin 128) :
    (k0_pay50 (st_k0_t11 𝒱 c bd i arg1 harg1 arg2 harg2 arg3 harg3 arg4 harg4 arg5 harg5 arg6 harg6 arg7 harg7 arg8 harg8 arg9 harg9 z X_arg4 X_arg8 init (Scf.trips k0_t11_loop.lb k0_t11_loop.ub k0_t11_loop.st)) (ix2 0 b) : EReal)
      = ∑ a : Fin 64, ∑ i : Fin 64, (arg4.view.read (Elt Ideal) X_arg4 (ix3 i a b) : EReal) * arg8.view.read (Elt Ideal) X_arg8 (ix3 i ⟨10 + a.val, by omega⟩ b) := by
  refine (stored_at _ b).trans (Finset.sum_congr rfl fun a _ => ?_)
  refine fold_rows (fun n => st_k0_t11 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t11_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t11 trip_k0_t11
  dsimp only
  refine (step_at _ _ _ a b).trans (congrArg _ (Finset.sum_congr rfl fun r _ => ?_))
  exact congrArg₂ (fun x y : EReal => x * y) (ld64 _ _ _ r a b k hk (off_d9 ⟨k, hk⟩)) (ld96 _ _ _ r a b k 10 hk (by decide) (off_y9 ⟨k, hk⟩))

theorem off_d10 : ∀ k : Fin k0_t12_loop.trips, k0_off53 k = ![4 * k.val, 0, 0] := by decide +kernel
theorem off_y10 : ∀ k : Fin k0_t12_loop.trips, k0_off54 k = ![4 * k.val, 11, 0] := by decide +kernel
include hinit in
theorem loop10 (z : Ideal .f32) (b : Fin 128) :
    (k0_pay53 (st_k0_t12 𝒱 c bd i arg1 harg1 arg2 harg2 arg3 harg3 arg4 harg4 arg5 harg5 arg6 harg6 arg7 harg7 arg8 harg8 arg9 harg9 z X_arg4 X_arg8 init (Scf.trips k0_t12_loop.lb k0_t12_loop.ub k0_t12_loop.st)) (ix2 0 b) : EReal)
      = ∑ a : Fin 64, ∑ i : Fin 64, (arg4.view.read (Elt Ideal) X_arg4 (ix3 i a b) : EReal) * arg8.view.read (Elt Ideal) X_arg8 (ix3 i ⟨11 + a.val, by omega⟩ b) := by
  refine (stored_at _ b).trans (Finset.sum_congr rfl fun a _ => ?_)
  refine fold_rows (fun n => st_k0_t12 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t12_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t12 trip_k0_t12
  dsimp only
  refine (step_at _ _ _ a b).trans (congrArg _ (Finset.sum_congr rfl fun r _ => ?_))
  exact congrArg₂ (fun x y : EReal => x * y) (ld64 _ _ _ r a b k hk (off_d10 ⟨k, hk⟩)) (ld96 _ _ _ r a b k 11 hk (by decide) (off_y10 ⟨k, hk⟩))

theorem off_d11 : ∀ k : Fin k0_t13_loop.trips, k0_off55 k = ![4 * k.val, 0, 0] := by decide +kernel
theorem off_y11 : ∀ k : Fin k0_t13_loop.trips, k0_off56 k = ![4 * k.val, 12, 0] := by decide +kernel
include hinit in
theorem loop11 (z : Ideal .f32) (b : Fin 128) :
    (k0_pay56 (st_k0_t13 𝒱 c bd i arg1 harg1 arg2 harg2 arg3 harg3 arg4 harg4 arg5 harg5 arg6 harg6 arg7 harg7 arg8 harg8 arg9 harg9 z X_arg4 X_arg8 init (Scf.trips k0_t13_loop.lb k0_t13_loop.ub k0_t13_loop.st)) (ix2 0 b) : EReal)
      = ∑ a : Fin 64, ∑ i : Fin 64, (arg4.view.read (Elt Ideal) X_arg4 (ix3 i a b) : EReal) * arg8.view.read (Elt Ideal) X_arg8 (ix3 i ⟨12 + a.val, by omega⟩ b) := by
  refine (stored_at _ b).trans (Finset.sum_congr rfl fun a _ => ?_)
  refine fold_rows (fun n => st_k0_t13 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t13_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t13 trip_k0_t13
  dsimp only
  refine (step_at _ _ _ a b).trans (congrArg _ (Finset.sum_congr rfl fun r _ => ?_))
  exact congrArg₂ (fun x y : EReal => x * y) (ld64 _ _ _ r a b k hk (off_d11 ⟨k, hk⟩)) (ld96 _ _ _ r a b k 12 hk (by decide) (off_y11 ⟨k, hk⟩))

theorem off_d12 : ∀ k : Fin k0_t14_loop.trips, k0_off57 k = ![4 * k.val, 0, 0] := by decide +kernel
theorem off_y12 : ∀ k : Fin k0_t14_loop.trips, k0_off58 k = ![4 * k.val, 13, 0] := by decide +kernel
include hinit in
theorem loop12 (z : Ideal .f32) (b : Fin 128) :
    (k0_pay59 (st_k0_t14 𝒱 c bd i arg1 harg1 arg2 harg2 arg3 harg3 arg4 harg4 arg5 harg5 arg6 harg6 arg7 harg7 arg8 harg8 arg9 harg9 z X_arg4 X_arg8 init (Scf.trips k0_t14_loop.lb k0_t14_loop.ub k0_t14_loop.st)) (ix2 0 b) : EReal)
      = ∑ a : Fin 64, ∑ i : Fin 64, (arg4.view.read (Elt Ideal) X_arg4 (ix3 i a b) : EReal) * arg8.view.read (Elt Ideal) X_arg8 (ix3 i ⟨13 + a.val, by omega⟩ b) := by
  refine (stored_at _ b).trans (Finset.sum_congr rfl fun a _ => ?_)
  refine fold_rows (fun n => st_k0_t14 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t14_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t14 trip_k0_t14
  dsimp only
  refine (step_at _ _ _ a b).trans (congrArg _ (Finset.sum_congr rfl fun r _ => ?_))
  exact congrArg₂ (fun x y : EReal => x * y) (ld64 _ _ _ r a b k hk (off_d12 ⟨k, hk⟩)) (ld96 _ _ _ r a b k 13 hk (by decide) (off_y12 ⟨k, hk⟩))

theorem off_d13 : ∀ k : Fin k0_t15_loop.trips, k0_off59 k = ![4 * k.val, 0, 0] := by decide +kernel
theorem off_y13 : ∀ k : Fin k0_t15_loop.trips, k0_off60 k = ![4 * k.val, 14, 0] := by decide +kernel
include hinit in
theorem loop13 (z : Ideal .f32) (b : Fin 128) :
    (k0_pay62 (st_k0_t15 𝒱 c bd i arg1 harg1 arg2 harg2 arg3 harg3 arg4 harg4 arg5 harg5 arg6 harg6 arg7 harg7 arg8 harg8 arg9 harg9 z X_arg4 X_arg8 init (Scf.trips k0_t15_loop.lb k0_t15_loop.ub k0_t15_loop.st)) (ix2 0 b) : EReal)
      = ∑ a : Fin 64, ∑ i : Fin 64, (arg4.view.read (Elt Ideal) X_arg4 (ix3 i a b) : EReal) * arg8.view.read (Elt Ideal) X_arg8 (ix3 i ⟨14 + a.val, by omega⟩ b) := by
  refine (stored_at _ b).trans (Finset.sum_congr rfl fun a _ => ?_)
  refine fold_rows (fun n => st_k0_t15 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t15_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t15 trip_k0_t15
  dsimp only
  refine (step_at _ _ _ a b).trans (congrArg _ (Finset.sum_congr rfl fun r _ => ?_))
  exact congrArg₂ (fun x y : EReal => x * y) (ld64 _ _ _ r a b k hk (off_d13 ⟨k, hk⟩)) (ld96 _ _ _ r a b k 14 hk (by decide) (off_y13 ⟨k, hk⟩))

theorem off_d14 : ∀ k : Fin k0_t16_loop.trips, k0_off61 k = ![4 * k.val, 0, 0] := by decide +kernel
theorem off_y14 : ∀ k : Fin k0_t16_loop.trips, k0_off62 k = ![4 * k.val, 15, 0] := by decide +kernel
include hinit in
theorem loop14 (z : Ideal .f32) (b : Fin 128) :
    (k0_pay65 (st_k0_t16 𝒱 c bd i arg1 harg1 arg2 harg2 arg3 harg3 arg4 harg4 arg5 harg5 arg6 harg6 arg7 harg7 arg8 harg8 arg9 harg9 z X_arg4 X_arg8 init (Scf.trips k0_t16_loop.lb k0_t16_loop.ub k0_t16_loop.st)) (ix2 0 b) : EReal)
      = ∑ a : Fin 64, ∑ i : Fin 64, (arg4.view.read (Elt Ideal) X_arg4 (ix3 i a b) : EReal) * arg8.view.read (Elt Ideal) X_arg8 (ix3 i ⟨15 + a.val, by omega⟩ b) := by
  refine (stored_at _ b).trans (Finset.sum_congr rfl fun a _ => ?_)
  refine fold_rows (fun n => st_k0_t16 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t16_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t16 trip_k0_t16
  dsimp only
  refine (step_at _ _ _ a b).trans (congrArg _ (Finset.sum_congr rfl fun r _ => ?_))
  exact congrArg₂ (fun x y : EReal => x * y) (ld64 _ _ _ r a b k hk (off_d14 ⟨k, hk⟩)) (ld96 _ _ _ r a b k 15 hk (by decide) (off_y14 ⟨k, hk⟩))

theorem off_d15 : ∀ k : Fin k0_t17_loop.trips, k0_off63 k = ![4 * k.val, 0, 0] := by decide +kernel
theorem off_y15 : ∀ k : Fin k0_t17_loop.trips, k0_off64 k = ![4 * k.val, 16, 0] := by decide +kernel
include hinit in
theorem loop15 (z : Ideal .f32) (b : Fin 128) :
    (k0_pay68 (st_k0_t17 𝒱 c bd i arg1 harg1 arg2 harg2 arg3 harg3 arg4 harg4 arg5 harg5 arg6 harg6 arg7 harg7 arg8 harg8 arg9 harg9 z X_arg4 X_arg8 init (Scf.trips k0_t17_loop.lb k0_t17_loop.ub k0_t17_loop.st)) (ix2 0 b) : EReal)
      = ∑ a : Fin 64, ∑ i : Fin 64, (arg4.view.read (Elt Ideal) X_arg4 (ix3 i a b) : EReal) * arg8.view.read (Elt Ideal) X_arg8 (ix3 i ⟨16 + a.val, by omega⟩ b) := by
  refine (stored_at _ b).trans (Finset.sum_congr rfl fun a _ => ?_)
  refine fold_rows (fun n => st_k0_t17 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t17_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t17 trip_k0_t17
  dsimp only
  refine (step_at _ _ _ a b).trans (congrArg _ (Finset.sum_congr rfl fun r _ => ?_))
  exact congrArg₂ (fun x y : EReal => x * y) (ld64 _ _ _ r a b k hk (off_d15 ⟨k, hk⟩)) (ld96 _ _ _ r a b k 16 hk (by decide) (off_y15 ⟨k, hk⟩))

theorem off_d16 : ∀ k : Fin k0_t18_loop.trips, k0_off65 k = ![4 * k.val, 0, 0] := by decide +kernel
theorem off_y16 : ∀ k : Fin k0_t18_loop.trips, k0_off66 k = ![4 * k.val, 17, 0] := by decide +kernel
include hinit in
theorem loop16 (z : Ideal .f32) (b : Fin 128) :
    (k0_pay71 (st_k0_t18 𝒱 c bd i arg1 harg1 arg2 harg2 arg3 harg3 arg4 harg4 arg5 harg5 arg6 harg6 arg7 harg7 arg8 harg8 arg9 harg9 z X_arg4 X_arg8 init (Scf.trips k0_t18_loop.lb k0_t18_loop.ub k0_t18_loop.st)) (ix2 0 b) : EReal)
      = ∑ a : Fin 64, ∑ i : Fin 64, (arg4.view.read (Elt Ideal) X_arg4 (ix3 i a b) : EReal) * arg8.view.read (Elt Ideal) X_arg8 (ix3 i ⟨17 + a.val, by omega⟩ b) := by
  refine (stored_at _ b).trans (Finset.sum_congr rfl fun a _ => ?_)
  refine fold_rows (fun n => st_k0_t18 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t18_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t18 trip_k0_t18
  dsimp only
  refine (step_at _ _ _ a b).trans (congrArg _ (Finset.sum_congr rfl fun r _ => ?_))
  exact congrArg₂ (fun x y : EReal => x * y) (ld64 _ _ _ r a b k hk (off_d16 ⟨k, hk⟩)) (ld96 _ _ _ r a b k 17 hk (by decide) (off_y16 ⟨k, hk⟩))

theorem off_d17 : ∀ k : Fin k0_t19_loop.trips, k0_off67 k = ![4 * k.val, 0, 0] := by decide +kernel
theorem off_y17 : ∀ k : Fin k0_t19_loop.trips, k0_off68 k = ![4 * k.val, 18, 0] := by decide +kernel
include hinit in
theorem loop17 (z : Ideal .f32) (b : Fin 128) :
    (k0_pay74 (st_k0_t19 𝒱 c bd i arg1 harg1 arg2 harg2 arg3 harg3 arg4 harg4 arg5 harg5 arg6 harg6 arg7 harg7 arg8 harg8 arg9 harg9 z X_arg4 X_arg8 init (Scf.trips k0_t19_loop.lb k0_t19_loop.ub k0_t19_loop.st)) (ix2 0 b) : EReal)
      = ∑ a : Fin 64, ∑ i : Fin 64, (arg4.view.read (Elt Ideal) X_arg4 (ix3 i a b) : EReal) * arg8.view.read (Elt Ideal) X_arg8 (ix3 i ⟨18 + a.val, by omega⟩ b) := by
  refine (stored_at _ b).trans (Finset.sum_congr rfl fun a _ => ?_)
  refine fold_rows (fun n => st_k0_t19 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t19_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t19 trip_k0_t19
  dsimp only
  refine (step_at _ _ _ a b).trans (congrArg _ (Finset.sum_congr rfl fun r _ => ?_))
  exact congrArg₂ (fun x y : EReal => x * y) (ld64 _ _ _ r a b k hk (off_d17 ⟨k, hk⟩)) (ld96 _ _ _ r a b k 18 hk (by decide) (off_y17 ⟨k, hk⟩))

theorem off_d18 : ∀ k : Fin k0_t20_loop.trips, k0_off69 k = ![4 * k.val, 0, 0] := by decide +kernel
theorem off_y18 : ∀ k : Fin k0_t20_loop.trips, k0_off70 k = ![4 * k.val, 19, 0] := by decide +kernel
include hinit in
theorem loop18 (z : Ideal .f32) (b : Fin 128) :
    (k0_pay77 (st_k0_t20 𝒱 c bd i arg1 harg1 arg2 harg2 arg3 harg3 arg4 harg4 arg5 harg5 arg6 harg6 arg7 harg7 arg8 harg8 arg9 harg9 z X_arg4 X_arg8 init (Scf.trips k0_t20_loop.lb k0_t20_loop.ub k0_t20_loop.st)) (ix2 0 b) : EReal)
      = ∑ a : Fin 64, ∑ i : Fin 64, (arg4.view.read (Elt Ideal) X_arg4 (ix3 i a b) : EReal) * arg8.view.read (Elt Ideal) X_arg8 (ix3 i ⟨19 + a.val, by omega⟩ b) := by
  refine (stored_at _ b).trans (Finset.sum_congr rfl fun a _ => ?_)
  refine fold_rows (fun n => st_k0_t20 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t20_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t20 trip_k0_t20
  dsimp only
  refine (step_at _ _ _ a b).trans (congrArg _ (Finset.sum_congr rfl fun r _ => ?_))
  exact congrArg₂ (fun x y : EReal => x * y) (ld64 _ _ _ r a b k hk (off_d18 ⟨k, hk⟩)) (ld96 _ _ _ r a b k 19 hk (by decide) (off_y18 ⟨k, hk⟩))

theorem off_d19 : ∀ k : Fin k0_t21_loop.trips, k0_off71 k = ![4 * k.val, 0, 0] := by decide +kernel
theorem off_y19 : ∀ k : Fin k0_t21_loop.trips, k0_off72 k = ![4 * k.val, 20, 0] := by decide +kernel
include hinit in
theorem loop19 (z : Ideal .f32) (b : Fin 128) :
    (k0_pay80 (st_k0_t21 𝒱 c bd i arg1 harg1 arg2 harg2 arg3 harg3 arg4 harg4 arg5 harg5 arg6 harg6 arg7 harg7 arg8 harg8 arg9 harg9 z X_arg4 X_arg8 init (Scf.trips k0_t21_loop.lb k0_t21_loop.ub k0_t21_loop.st)) (ix2 0 b) : EReal)
      = ∑ a : Fin 64, ∑ i : Fin 64, (arg4.view.read (Elt Ideal) X_arg4 (ix3 i a b) : EReal) * arg8.view.read (Elt Ideal) X_arg8 (ix3 i ⟨20 + a.val, by omega⟩ b) := by
  refine (stored_at _ b).trans (Finset.sum_congr rfl fun a _ => ?_)
  refine fold_rows (fun n => st_k0_t21 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t21_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t21 trip_k0_t21
  dsimp only
  refine (step_at _ _ _ a b).trans (congrArg _ (Finset.sum_congr rfl fun r _ => ?_))
  exact congrArg₂ (fun x y : EReal => x * y) (ld64 _ _ _ r a b k hk (off_d19 ⟨k, hk⟩)) (ld96 _ _ _ r a b k 20 hk (by decide) (off_y19 ⟨k, hk⟩))

theorem off_d20 : ∀ k : Fin k0_t22_loop.trips, k0_off73 k = ![4 * k.val, 0, 0] := by decide +kernel
theorem off_y20 : ∀ k : Fin k0_t22_loop.trips, k0_off74 k = ![4 * k.val, 21, 0] := by decide +kernel
include hinit in
theorem loop20 (z : Ideal .f32) (b : Fin 128) :
    (k0_pay83 (st_k0_t22 𝒱 c bd i arg1 harg1 arg2 harg2 arg3 harg3 arg4 harg4 arg5 harg5 arg6 harg6 arg7 harg7 arg8 harg8 arg9 harg9 z X_arg4 X_arg8 init (Scf.trips k0_t22_loop.lb k0_t22_loop.ub k0_t22_loop.st)) (ix2 0 b) : EReal)
      = ∑ a : Fin 64, ∑ i : Fin 64, (arg4.view.read (Elt Ideal) X_arg4 (ix3 i a b) : EReal) * arg8.view.read (Elt Ideal) X_arg8 (ix3 i ⟨21 + a.val, by omega⟩ b) := by
  refine (stored_at _ b).trans (Finset.sum_congr rfl fun a _ => ?_)
  refine fold_rows (fun n => st_k0_t22 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t22_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t22 trip_k0_t22
  dsimp only
  refine (step_at _ _ _ a b).trans (congrArg _ (Finset.sum_congr rfl fun r _ => ?_))
  exact congrArg₂ (fun x y : EReal => x * y) (ld64 _ _ _ r a b k hk (off_d20 ⟨k, hk⟩)) (ld96 _ _ _ r a b k 21 hk (by decide) (off_y20 ⟨k, hk⟩))

theorem off_d21 : ∀ k : Fin k0_t23_loop.trips, k0_off75 k = ![4 * k.val, 0, 0] := by decide +kernel
theorem off_y21 : ∀ k : Fin k0_t23_loop.trips, k0_off76 k = ![4 * k.val, 22, 0] := by decide +kernel
include hinit in
theorem loop21 (z : Ideal .f32) (b : Fin 128) :
    (k0_pay86 (st_k0_t23 𝒱 c bd i arg1 harg1 arg2 harg2 arg3 harg3 arg4 harg4 arg5 harg5 arg6 harg6 arg7 harg7 arg8 harg8 arg9 harg9 z X_arg4 X_arg8 init (Scf.trips k0_t23_loop.lb k0_t23_loop.ub k0_t23_loop.st)) (ix2 0 b) : EReal)
      = ∑ a : Fin 64, ∑ i : Fin 64, (arg4.view.read (Elt Ideal) X_arg4 (ix3 i a b) : EReal) * arg8.view.read (Elt Ideal) X_arg8 (ix3 i ⟨22 + a.val, by omega⟩ b) := by
  refine (stored_at _ b).trans (Finset.sum_congr rfl fun a _ => ?_)
  refine fold_rows (fun n => st_k0_t23 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t23_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t23 trip_k0_t23
  dsimp only
  refine (step_at _ _ _ a b).trans (congrArg _ (Finset.sum_congr rfl fun r _ => ?_))
  exact congrArg₂ (fun x y : EReal => x * y) (ld64 _ _ _ r a b k hk (off_d21 ⟨k, hk⟩)) (ld96 _ _ _ r a b k 22 hk (by decide) (off_y21 ⟨k, hk⟩))

theorem off_d22 : ∀ k : Fin k0_t24_loop.trips, k0_off77 k = ![4 * k.val, 0, 0] := by decide +kernel
theorem off_y22 : ∀ k : Fin k0_t24_loop.trips, k0_off78 k = ![4 * k.val, 23, 0] := by decide +kernel
include hinit in
theorem loop22 (z : Ideal .f32) (b : Fin 128) :
    (k0_pay89 (st_k0_t24 𝒱 c bd i arg1 harg1 arg2 harg2 arg3 harg3 arg4 harg4 arg5 harg5 arg6 harg6 arg7 harg7 arg8 harg8 arg9 harg9 z X_arg4 X_arg8 init (Scf.trips k0_t24_loop.lb k0_t24_loop.ub k0_t24_loop.st)) (ix2 0 b) : EReal)
      = ∑ a : Fin 64, ∑ i : Fin 64, (arg4.view.read (Elt Ideal) X_arg4 (ix3 i a b) : EReal) * arg8.view.read (Elt Ideal) X_arg8 (ix3 i ⟨23 + a.val, by omega⟩ b) := by
  refine (stored_at _ b).trans (Finset.sum_congr rfl fun a _ => ?_)
  refine fold_rows (fun n => st_k0_t24 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t24_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t24 trip_k0_t24
  dsimp only
  refine (step_at _ _ _ a b).trans (congrArg _ (Finset.sum_congr rfl fun r _ => ?_))
  exact congrArg₂ (fun x y : EReal => x * y) (ld64 _ _ _ r a b k hk (off_d22 ⟨k, hk⟩)) (ld96 _ _ _ r a b k 23 hk (by decide) (off_y22 ⟨k, hk⟩))

theorem off_d23 : ∀ k : Fin k0_t25_loop.trips, k0_off79 k = ![4 * k.val, 0, 0] := by decide +kernel
theorem off_y23 : ∀ k : Fin k0_t25_loop.trips, k0_off80 k = ![4 * k.val, 24, 0] := by decide +kernel
include hinit in
theorem loop23 (z : Ideal .f32) (b : Fin 128) :
    (k0_pay92 (st_k0_t25 𝒱 c bd i arg1 harg1 arg2 harg2 arg3 harg3 arg4 harg4 arg5 harg5 arg6 harg6 arg7 harg7 arg8 harg8 arg9 harg9 z X_arg4 X_arg8 init (Scf.trips k0_t25_loop.lb k0_t25_loop.ub k0_t25_loop.st)) (ix2 0 b) : EReal)
      = ∑ a : Fin 64, ∑ i : Fin 64, (arg4.view.read (Elt Ideal) X_arg4 (ix3 i a b) : EReal) * arg8.view.read (Elt Ideal) X_arg8 (ix3 i ⟨24 + a.val, by omega⟩ b) := by
  refine (stored_at _ b).trans (Finset.sum_congr rfl fun a _ => ?_)
  refine fold_rows (fun n => st_k0_t25 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t25_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t25 trip_k0_t25
  dsimp only
  refine (step_at _ _ _ a b).trans (congrArg _ (Finset.sum_congr rfl fun r _ => ?_))
  exact congrArg₂ (fun x y : EReal => x * y) (ld64 _ _ _ r a b k hk (off_d23 ⟨k, hk⟩)) (ld96 _ _ _ r a b k 24 hk (by decide) (off_y23 ⟨k, hk⟩))

theorem off_d24 : ∀ k : Fin k0_t26_loop.trips, k0_off81 k = ![4 * k.val, 0, 0] := by decide +kernel
theorem off_y24 : ∀ k : Fin k0_t26_loop.trips, k0_off82 k = ![4 * k.val, 25, 0] := by decide +kernel
include hinit in
theorem loop24 (z : Ideal .f32) (b : Fin 128) :
    (k0_pay95 (st_k0_t26 𝒱 c bd i arg1 harg1 arg2 harg2 arg3 harg3 arg4 harg4 arg5 harg5 arg6 harg6 arg7 harg7 arg8 harg8 arg9 harg9 z X_arg4 X_arg8 init (Scf.trips k0_t26_loop.lb k0_t26_loop.ub k0_t26_loop.st)) (ix2 0 b) : EReal)
      = ∑ a : Fin 64, ∑ i : Fin 64, (arg4.view.read (Elt Ideal) X_arg4 (ix3 i a b) : EReal) * arg8.view.read (Elt Ideal) X_arg8 (ix3 i ⟨25 + a.val, by omega⟩ b) := by
  refine (stored_at _ b).trans (Finset.sum_congr rfl fun a _ => ?_)
  refine fold_rows (fun n => st_k0_t26 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t26_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t26 trip_k0_t26
  dsimp only
  refine (step_at _ _ _ a b).trans (congrArg _ (Finset.sum_congr rfl fun r _ => ?_))
  exact congrArg₂ (fun x y : EReal => x * y) (ld64 _ _ _ r a b k hk (off_d24 ⟨k, hk⟩)) (ld96 _ _ _ r a b k 25 hk (by decide) (off_y24 ⟨k, hk⟩))

theorem off_d25 : ∀ k : Fin k0_t27_loop.trips, k0_off83 k = ![4 * k.val, 0, 0] := by decide +kernel
theorem off_y25 : ∀ k : Fin k0_t27_loop.trips, k0_off84 k = ![4 * k.val, 26, 0] := by decide +kernel
include hinit in
theorem loop25 (z : Ideal .f32) (b : Fin 128) :
    (k0_pay98 (st_k0_t27 𝒱 c bd i arg1 harg1 arg2 harg2 arg3 harg3 arg4 harg4 arg5 harg5 arg6 harg6 arg7 harg7 arg8 harg8 arg9 harg9 z X_arg4 X_arg8 init (Scf.trips k0_t27_loop.lb k0_t27_loop.ub k0_t27_loop.st)) (ix2 0 b) : EReal)
      = ∑ a : Fin 64, ∑ i : Fin 64, (arg4.view.read (Elt Ideal) X_arg4 (ix3 i a b) : EReal) * arg8.view.read (Elt Ideal) X_arg8 (ix3 i ⟨26 + a.val, by omega⟩ b) := by
  refine (stored_at _ b).trans (Finset.sum_congr rfl fun a _ => ?_)
  refine fold_rows (fun n => st_k0_t27 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t27_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t27 trip_k0_t27
  dsimp only
  refine (step_at _ _ _ a b).trans (congrArg _ (Finset.sum_congr rfl fun r _ => ?_))
  exact congrArg₂ (fun x y : EReal => x * y) (ld64 _ _ _ r a b k hk (off_d25 ⟨k, hk⟩)) (ld96 _ _ _ r a b k 26 hk (by decide) (off_y25 ⟨k, hk⟩))

theorem off_d26 : ∀ k : Fin k0_t28_loop.trips, k0_off85 k = ![4 * k.val, 0, 0] := by decide +kernel
theorem off_y26 : ∀ k : Fin k0_t28_loop.trips, k0_off86 k = ![4 * k.val, 27, 0] := by decide +kernel
include hinit in
theorem loop26 (z : Ideal .f32) (b : Fin 128) :
    (k0_pay101 (st_k0_t28 𝒱 c bd i arg1 harg1 arg2 harg2 arg3 harg3 arg4 harg4 arg5 harg5 arg6 harg6 arg7 harg7 arg8 harg8 arg9 harg9 z X_arg4 X_arg8 init (Scf.trips k0_t28_loop.lb k0_t28_loop.ub k0_t28_loop.st)) (ix2 0 b) : EReal)
      = ∑ a : Fin 64, ∑ i : Fin 64, (arg4.view.read (Elt Ideal) X_arg4 (ix3 i a b) : EReal) * arg8.view.read (Elt Ideal) X_arg8 (ix3 i ⟨27 + a.val, by omega⟩ b) := by
  refine (stored_at _ b).trans (Finset.sum_congr rfl fun a _ => ?_)
  refine fold_rows (fun n => st_k0_t28 𝒱 c bd i arg1 harg1 arg2 harg2 arg3 harg3 arg4 harg4 arg5 harg5 arg6 harg6 arg7 harg7 arg8 harg8 arg9 harg9 z X_arg4 X_arg8 init n (ix2 a b)) _ (hinit a b) (fun k hk => ?_)
  have e := congrFun (st_k0_t28_succ 𝒱 c bd i arg1 harg1 arg2 harg2 arg3 harg3 arg4 harg4 arg5 harg5 arg6 harg6 arg7 harg7 arg8 harg8 arg9 harg9 z X_arg4 X_arg8 init ⟨k, hk⟩) (ix2 a b)
  refine e.trans ?_
  unfold tripR_k0_t28 trip_k0_t28
  dsimp only
  refine (step_at _ _ _ a b).trans (congrArg _ (Finset.sum_congr rfl fun r _ => ?_))
  exact congrArg₂ (fun x y : EReal => x * y) (ld64 _ _ _ r a b k hk (off_d26 ⟨k, hk⟩)) (ld96 _ _ _ r a b k 27 hk (by decide) (off_y26 ⟨k, hk⟩))

theorem off_d27 : ∀ k : Fin k0_t29_loop.trips, k0_off87 k = ![4 * k.val, 0, 0] := by decide +kernel
theorem off_y27 : ∀ k : Fin k0_t29_loop.trips, k0_off88 k = ![4 * k.val, 28, 0] := by decide +kernel
include hinit in
theorem loop27  (b : Fin 128) :
    (k0_pay104 (st_k0_t29 𝒱 c bd i arg1 harg1 arg2 harg2 arg3 harg3 arg4 harg4 arg5 harg5 arg6 harg6 arg7 harg7 arg8 harg8 arg9 harg9  X_arg4 X_arg8 init (Scf.trips k0_t29_loop.lb k0_t29_loop.ub k0_t29_loop.st)) (ix2 0 b) : EReal)
      = ∑ a : Fin 64, ∑ i : Fin 64, (arg4.view.read (Elt Ideal) X_arg4 (ix3 i a b) : EReal) * arg8.view.read (Elt Ideal) X_arg8 (ix3 i ⟨28 + a.val, by omega⟩ b) := by
  refine (stored_at _ b).trans (Finset.sum_congr rfl fun a _ => ?_)
  refine fold_rows (fun n => st_k0_t29 𝒱 c bd i arg1 harg1 arg2 harg2 arg3 harg3 arg4 harg4 arg5 harg5 arg6 harg6 arg7 harg7 arg8 harg8 arg9 harg9  X_arg4 X_arg8 init n (ix2 a b)) _ (hinit a b) (fun k hk => ?_)
  have e := congrFun (st_k0_t29_succ 𝒱 c bd i arg1 harg1 arg2 harg2 arg3 harg3 arg4 harg4 arg5 harg5 arg6 harg6 arg7 harg7 arg8 harg8 arg9 harg9  X_arg4 X_arg8 init ⟨k, hk⟩) (ix2 a b)
  refine e.trans ?_
  unfold tripR_k0_t29 trip_k0_t29
  dsimp only
  refine (step_at _ _ _ a b).trans (congrArg _ (Finset.sum_congr rfl fun r _ => ?_))
  exact congrArg₂ (fun x y : EReal => x * y) (ld64 _ _ _ r a b k hk (off_d27 ⟨k, hk⟩)) (ld96 _ _ _ r a b k 28 hk (by decide) (off_y27 ⟨k, hk⟩))

theorem off_d28 : ∀ k : Fin k0_t30_loop.trips, k0_off89 k = ![4 * k.val, 0, 0] := by decide +kernel
theorem off_y28 : ∀ k : Fin k0_t30_loop.trips, k0_off90 k = ![4 * k.val, 29, 0] := by decide +kernel
include hinit in
theorem loop28  (b : Fin 128) :
    (k0_pay107 (st_k0_t30 𝒱 c bd i arg1 harg1 arg2 harg2 arg3 harg3 arg4 harg4 arg5 harg5 arg6 harg6 arg7 harg7 arg8 harg8 arg9 harg9  X_arg4 X_arg8 init (Scf.trips k0_t30_loop.lb k0_t30_loop.ub k0_t30_loop.st)) (ix2 0 b) : EReal)
      = ∑ a : Fin 64, ∑ i : Fin 64, (arg4.view.read (Elt Ideal) X_arg4 (ix3 i a b) : EReal) * arg8.view.read (Elt Ideal) X_arg8 (ix3 i ⟨29 + a.val, by omega⟩ b) := by
  refine (stored_at _ b).trans (Finset.sum_congr rfl fun a _ => ?_)
  refine fold_rows (fun n => st_k0_t30 𝒱 c bd i arg1 harg1 arg2 harg2 arg3 harg3 arg4 harg4 arg5 harg5 arg6 harg6 arg7 harg7 arg8 harg8 arg9 harg9  X_arg4 X_arg8 init n (ix2 a b)) _ (hinit a b) (fun k hk => ?_)
  have e := congrFun (st_k0_t30_succ 𝒱 c bd i arg1 harg1 arg2 harg2 arg3 harg3 arg4 harg4 arg5 harg5 arg6 harg6 arg7 harg7 arg8 harg8 arg9 harg9  X_arg4 X_arg8 init ⟨k, hk⟩) (ix2 a b)
  refine e.trans ?_
  unfold tripR_k0_t30 trip_k0_t30
  dsimp only
  refine (step_at _ _ _ a b).trans (congrArg _ (Finset.sum_congr rfl fun r _ => ?_))
  exact congrArg₂ (fun x y : EReal => x * y) (ld64 _ _ _ r a b k hk (off_d28 ⟨k, hk⟩)) (ld96 _ _ _ r a b k 29 hk (by decide) (off_y28 ⟨k, hk⟩))

theorem off_d29 : ∀ k : Fin k0_t31_loop.trips, k0_off91 k = ![4 * k.val, 0, 0] := by decide +kernel
theorem off_y29 : ∀ k : Fin k0_t31_loop.trips, k0_off92 k = ![4 * k.val, 30, 0] := by decide +kernel
include hinit in
theorem loop29  (b : Fin 128) :
    (k0_pay110 (st_k0_t31 𝒱 c bd i arg1 harg1 arg2 harg2 arg3 harg3 arg4 harg4 arg5 harg5 arg6 harg6 arg7 harg7 arg8 harg8 arg9 harg9  X_arg4 X_arg8 init (Scf.trips k0_t31_loop.lb k0_t31_loop.ub k0_t31_loop.st)) (ix2 0 b) : EReal)
      = ∑ a : Fin 64, ∑ i : Fin 64, (arg4.view.read (Elt Ideal) X_arg4 (ix3 i a b) : EReal) * arg8.view.read (Elt Ideal) X_arg8 (ix3 i ⟨30 + a.val, by omega⟩ b) := by
  refine (stored_at _ b).trans (Finset.sum_congr rfl fun a _ => ?_)
  refine fold_rows (fun n => st_k0_t31 𝒱 c bd i arg1 harg1 arg2 harg2 arg3 harg3 arg4 harg4 arg5 harg5 arg6 harg6 arg7 harg7 arg8 harg8 arg9 harg9  X_arg4 X_arg8 init n (ix2 a b)) _ (hinit a b) (fun k hk => ?_)
  have e := congrFun (st_k0_t31_succ 𝒱 c bd i arg1 harg1 arg2 harg2 arg3 harg3 arg4 harg4 arg5 harg5 arg6 harg6 arg7 harg7 arg8 harg8 arg9 harg9  X_arg4 X_arg8 init ⟨k, hk⟩) (ix2 a b)
  refine e.trans ?_
  unfold tripR_k0_t31 trip_k0_t31
  dsimp only
  refine (step_at _ _ _ a b).trans (congrArg _ (Finset.sum_congr rfl fun r _ => ?_))
  exact congrArg₂ (fun x y : EReal => x * y) (ld64 _ _ _ r a b k hk (off_d29 ⟨k, hk⟩)) (ld96 _ _ _ r a b k 30 hk (by decide) (off_y29 ⟨k, hk⟩))

theorem off_d30 : ∀ k : Fin k0_t32_loop.trips, k0_off93 k = ![4 * k.val, 0, 0] := by decide +kernel
theorem off_y30 : ∀ k : Fin k0_t32_loop.trips, k0_off94 k = ![4 * k.val, 31, 0] := by decide +kernel
include hinit in
theorem loop30  (b : Fin 128) :
    (k0_pay1 (st_k0_t32 𝒱 c bd i arg1 harg1 arg2 harg2 arg3 harg3 arg4 harg4 arg5 harg5 arg6 harg6 arg7 harg7 arg8 harg8 arg9 harg9  X_arg4 X_arg8 init (Scf.trips k0_t32_loop.lb k0_t32_loop.ub k0_t32_loop.st)) (ix2 0 b) : EReal)
      = ∑ a : Fin 64, ∑ i : Fin 64, (arg4.view.read (Elt Ideal) X_arg4 (ix3 i a b) : EReal) * arg8.view.read (Elt Ideal) X_arg8 (ix3 i ⟨31 + a.val, by omega⟩ b) := by
  refine (stored_at _ b).trans (Finset.sum_congr rfl fun a _ => ?_)
  refine fold_rows (fun n => st_k0_t32 𝒱 c bd i arg1 harg1 arg2 harg2 arg3 harg3 arg4 harg4 arg5 harg5 arg6 harg6 arg7 harg7 arg8 harg8 arg9 harg9  X_arg4 X_arg8 init n (ix2 a b)) _ (hinit a b) (fun k hk => ?_)
  have e := congrFun (st_k0_t32_succ 𝒱 c bd i arg1 harg1 arg2 harg2 arg3 harg3 arg4 harg4 arg5 harg5 arg6 harg6 arg7 harg7 arg8 harg8 arg9 harg9  X_arg4 X_arg8 init ⟨k, hk⟩) (ix2 a b)
  refine e.trans ?_
  unfold tripR_k0_t32 trip_k0_t32
  dsimp only
  refine (step_at _ _ _ a b).trans (congrArg _ (Finset.sum_congr rfl fun r _ => ?_))
  exact congrArg₂ (fun x y : EReal => x * y) (ld64 _ _ _ r a b k hk (off_d30 ⟨k, hk⟩)) (ld96 _ _ _ r a b k 31 hk (by decide) (off_y30 ⟨k, hk⟩))

end

end Cert.KernelIdeal.Final
end
-- ==== Proof.KernelRows.lean ====
/-
Rows between zero borders, sixteen blocks of rows in one array, and which numbers of the arguments the blocks of
the convolution's gradient hold at each point of the grid.
-/
module

public import proofs.«01_k».proof.Proof.Gen.KernelIdeal.Value
public import proofs.«01_k».proof.Proof.Gen.KernelRefIdeal.Run
public import proofs.«01_k».proof.Proof.Gen.KernelRefIdeal.Read
public import Idealize.ShloMosaic.Lib.Pipeline.ValueKit
public import proofs.«01_k».proof.Proof.KernelRef
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

open Cert.KernelRefIdeal.Read
open Cert.ConvRef

/-- Three pieces of a row: sixty-four numbers between two borders of zeros. -/
theorem bordered_at (A : FVec Ideal S64x64x128 .f32) (Z Z' : FVec Ideal S64x16x128 .f32) (hZ : ∀ x, (Z x : EReal) = 0) (hZ' : ∀ x, (Z' x : EReal) = 0) (inb : ∀ a, (![0, 16, 0] : Fin 3 → ℕ) a + S64x64x128.size a ≤ S64x96x128.size a)
    (inb' : ∀ a, (![0, 80, 0] : Fin 3 → ℕ) a + S64x16x128.size a ≤ S64x96x128.size a) (inb'' : ∀ a, (![0, 0, 0] : Fin 3 → ℕ) a + S64x16x128.size a ≤ S64x96x128.size a)
    (i : Fin 64) (p : Fin 96) (b : Fin 128) :
    (View.canon (Val := Elt Ideal) (s := S64x96x128) (e := .f32) [⟨Rect.unit ![0, 16, 0] S64x64x128.size inb, A⟩, ⟨Rect.unit ![0, 80, 0] S64x16x128.size inb', Z⟩, ⟨Rect.unit ![0, 0, 0] S64x16x128.size inb'', Z'⟩] (ix3 i p b) : EReal)
      = sh (fun q => A (ix3 i q b)) p.val := by
  have hp := p.isLt
  by_cases h : 16 ≤ p.val ∧ p.val < 80
  · rw [sh_in _ ⟨p.val - 16, by omega⟩ p.val (by show _ = 16 + (p.val - 16); omega)]
    have e : (Rect.unit (s := S64x96x128) ![0, 16, 0] S64x64x128.size inb).emb (ix3 i ⟨p.val - 16, by omega⟩ b) = ix3 i p b :=
      Rect.emb_eq_of_coords _ _ _ (fun x => by
        match x with
        | ⟨0, _⟩ => show i.val = 0 + 1 * i.val; omega
        | ⟨1, _⟩ => show p.val = 16 + 1 * (p.val - 16); omega
        | ⟨2, _⟩ => show b.val = 0 + 1 * b.val; omega)
    rw [← e]
    exact View.canon_cons_emb _ _ _ _
  · rw [sh_out _ _ (by omega), View.canon_cons_of_not_mem _ _ (Rect.not_mem_set_of_axis _ _ 1 16 64 rfl rfl rfl (by show p.val < 16 ∨ 16 + 64 ≤ p.val; omega))]
    by_cases h' : 80 ≤ p.val
    · have e : (Rect.unit (s := S64x96x128) ![0, 80, 0] S64x16x128.size inb').emb (ix3 i ⟨p.val - 80, by omega⟩ b) = ix3 i p b :=
        Rect.emb_eq_of_coords _ _ _ (fun x => by
          match x with
          | ⟨0, _⟩ => show i.val = 0 + 1 * i.val; omega
          | ⟨1, _⟩ => show p.val = 80 + 1 * (p.val - 80); omega
          | ⟨2, _⟩ => show b.val = 0 + 1 * b.val; omega)
      rw [← e]
      exact (View.canon_cons_emb _ _ _ _).trans (hZ _)
    · rw [View.canon_cons_of_not_mem _ _ (Rect.not_mem_set_of_axis _ _ 1 80 16 rfl rfl rfl (by show p.val < 80 ∨ 80 + 16 ≤ p.val; omega))]
      have e : (Rect.unit (s := S64x96x128) ![0, 0, 0] S64x16x128.size inb'').emb (ix3 i ⟨p.val, by omega⟩ b) = ix3 i p b :=
        Rect.emb_eq_of_coords _ _ _ (fun x => by
          match x with
          | ⟨0, _⟩ => show i.val = 0 + 1 * i.val; omega
          | ⟨1, _⟩ => show p.val = 0 + 1 * p.val; omega
          | ⟨2, _⟩ => show b.val = 0 + 1 * b.val; omega)
      rw [← e]
      exact (View.canon_cons_emb _ _ _ _).trans (hZ' _)

/-- Sixteen blocks of four rows written one after the other: each row is its block's. -/
theorem canon_rows (L : ℕ → List (View.Piece (Elt Ideal) S64x64x128 .bf16)) (off : Fin 16 → Fin 3 → ℕ) (hoff : ∀ k, off k = ![4 * k.val, 0, 0])
    (inb : ∀ k a, off k a + S4x64x128.size a ≤ S64x64x128.size a) (w : Fin 16 → S4x64x128.Idx → EReal)
    (hs : ∀ k : Fin 16, L (k.val + 1) = ⟨Rect.unit (off k) S4x64x128.size (inb k), w k⟩ :: L k.val)
    (k : Fin 16) (r : Fin 4) (a : Fin 64) (b : Fin 128) : (View.canon (L 16) (ix3 ⟨4 * k.val + r.val, by omega⟩ a b) : EReal) = w k (ix3 r a b) := by
  have h : ∀ n, n ≤ 16 → k.val < n → (View.canon (L n) (ix3 ⟨4 * k.val + r.val, by omega⟩ a b) : EReal) = w k (ix3 r a b) := by
    intro n
    induction n with
    | zero => intro _ h; exact absurd h (by omega)
    | succ n ih =>
      intro hn hk
      rw [hs ⟨n, by omega⟩]
      have ho := hoff ⟨n, by omega⟩
      by_cases hkn : k.val = n
      · have e : (Rect.unit (s := S64x64x128) (off ⟨n, by omega⟩) S4x64x128.size (inb ⟨n, by omega⟩)).emb (ix3 r a b) = ix3 ⟨4 * k.val + r.val, by omega⟩ a b :=
          Rect.emb_eq_of_coords _ _ _ (fun x => by
            match x with
            | ⟨0, _⟩ => show 4 * k.val + r.val = off ⟨n, _⟩ 0 + 1 * r.val; rw [ho]; show 4 * k.val + r.val = 4 * n + 1 * r.val; omega
            | ⟨1, _⟩ => show a.val = off ⟨n, _⟩ 1 + 1 * a.val; rw [ho]; show a.val = 0 + 1 * a.val; omega
            | ⟨2, _⟩ => show b.val = off ⟨n, _⟩ 2 + 1 * b.val; rw [ho]; show b.val = 0 + 1 * b.val; omega)
        rw [← e]
        refine (View.canon_cons_emb _ _ _ _).trans ?_
        exact congrArg (fun z => w z (ix3 r a b)) (Fin.ext hkn.symm)
      · rw [View.canon_cons_of_not_mem _ _ (Rect.not_mem_set_of_axis _ _ 0 (4 * n) 4 (by show off ⟨n, _⟩ 0 = _; rw [ho]; rfl) rfl rfl
          (by show 4 * k.val + r.val < 4 * n ∨ 4 * n + 4 ≤ 4 * k.val + r.val; omega))]
        exact ih (by omega) (by omega)
  exact h 16 le_rfl k.isLt

/-! ## The windows' blocks -/

/-- Which block each window takes at a point of the grid. -/
theorem idx : ∀ t : Fin cfg0.N, win0_0.index t = ![0, 0, 64 + t.val] ∧ win0_1.index t = ![0, 0, 80 + t.val] ∧ win0_2.index t = ![0, t.val]
    ∧ win0_3.index t = ![0, 0, t.val] ∧ win0_4.index t = ![0, 0, t.val] ∧ win0_5.index t = ![0, 0, t.val] ∧ win0_6.index t = ![0, t.val] :=
  (by decide +kernel : ∀ t : Fin grid0.N, _)

/-- The arguments. -/
abbrev A0 (c : Dev nD) : FVec Ideal S4352x12352 .f32 := m ((c : Thread nD τ).loc main_arg0)
abbrev A1 (c : Dev nD) : FVec Ideal S31x2048 .f32 := m ((c : Thread nD τ).loc main_arg1)
abbrev A2 (c : Dev nD) : FVec Ideal S4096x1024 .f32 := m ((c : Thread nD τ).loc main_arg2)

/-- The projection with its columns packed by slicing and joining. -/
def pkc (x : FVec Ideal S4352x12352 .f32) : FVec Ideal S4352x12800 .f32 :=
  concatenate S4352x12800 1 [⟨S4352x8192, extractStridedSlice S4352x8192 ![0, 0] x slices_S4352x12352_S4352x8192_0_0⟩,
    ⟨S4352x4096, extractStridedSlice S4352x4096 ![0, 8256] x slices_S4352x12352_S4352x4096_0_8256⟩,
    ⟨S4352x64, extractStridedSlice S4352x64 ![0, 8192] x slices_S4352x12352_S4352x64_0_8192⟩,
    ⟨S4352x448, broadcastInDim S4352x448 ![] bcast_S_S4352x448 (constant (F := Ideal) S_ .f32 0x00000000#32)⟩]
    concatenates_S4352x8192_S4352x4096_S4352x64_S4352x448_S4352x12800_d1

/-- A column of the second piece. -/
theorem pkc_at (x : FVec Ideal S4352x12352 .f32) (s : Fin 4352) (q : Fin 12800) (hq : 8192 ≤ q.val) (hq' : q.val < 12288) :
    (pkc x (ix2 s q) : EReal) = x (ix2 s ⟨8256 + (q.val - 8192), by omega⟩) := by
  unfold pkc
  pointwise
  rw [dif_neg (by omega), dif_pos (by omega)]

/-- What the first two windows read: the packed projection in planes of sixty-four rows. -/
theorem entry0_fun (c : Dev nD) : (V m c main_v5 : S68x64x12800.Idx → EReal) = shapeCast S68x64x12800 (pkc (A0 m c)) shapeCasts_S4352x12800_S68x64x12800 := by
  unfold V; after_results
  rfl

/-- The packed projection at a place of the second piece. -/
theorem entry0 (c : Dev nD) (i : Fin 68) (p : Fin 64) (q : Fin 12800) (hq : 8192 ≤ q.val) (hq' : q.val < 12288) :
    (V m c main_v5 (ix3 i p q) : EReal) = A0 m c (ix2 ⟨i.val * 64 + p.val, by omega⟩ ⟨8256 + (q.val - 8192), by omega⟩) := by
  refine (congrFun (entry0_fun m c) (ix3 i p q)).trans (Eq.trans ?_ (pkc_at (A0 m c) ⟨i.val * 64 + p.val, by omega⟩ q hq hq'))
  pointwise

/-- What the third window reads: the weights. -/
theorem entry2 (c : Dev nD) (q : Fin 31) (b : Fin 2048) : (V m c main_arg1 (ix2 q b) : EReal) = A1 m c (ix2 q b) := by
  unfold V; after_results <;> rfl

/-- What the fourth window reads: the cotangent in planes. -/
theorem entry3 (c : Dev nD) (i p : Fin 64) (b : Fin 1024) : (V m c main_v6 (ix3 i p b) : EReal) = A2 m c (ix2 ⟨i.val * 64 + p.val, by omega⟩ b) := by
  unfold V; after_results
  pointwise

/-- A block of the weights. -/
theorem blk2 (c : Dev nD) (t : Fin cfg0.N) (q : Fin 31) (b : Fin 128) (h : t.val * 128 + b.val < 2048) :
    (iblk m c 2 t (ix2 q b) : EReal) = A1 m c (ix2 q ⟨t.val * 128 + b.val, h⟩) := by
  rw [← entry2 m c]
  blk_ext [iblk, idx t]

/-- A block of the cotangent. -/
theorem blk3 (c : Dev nD) (t : Fin cfg0.N) (i p : Fin 64) (b : Fin 128) (h : t.val * 128 + b.val < 1024) :
    (iblk m c 3 t (ix3 i p b) : EReal) = A2 m c (ix2 ⟨i.val * 64 + p.val, by omega⟩ ⟨t.val * 128 + b.val, h⟩) := by
  rw [← entry3 m c]
  blk_ext [iblk, idx t]

/-- A block of the value's columns of the projection. -/
theorem blk0 (c : Dev nD) (t : Fin cfg0.N) (i p : Fin 64) (b : Fin 128) (h : t.val * 128 + b.val < 1024) :
    (X0_0 m c t (ix3 i p b) : EReal) = A0 m c (ix2 ⟨i.val * 64 + p.val, by omega⟩ ⟨8256 + (t.val * 128 + b.val), by omega⟩) := by
  have e := entry0 m c ⟨i.val, by omega⟩ p ⟨(64 + t.val) * 128 + b.val, by omega⟩ (by show 8192 ≤ (64 + t.val) * 128 + b.val; omega) (by show (64 + t.val) * 128 + b.val < 12288; omega)
  unfold X0_0 Pipeline.Window.fill
  rw [dif_pos (moved0_0 t _)]
  refine Eq.trans ?_ (e.trans ?_)
  · blk_ext [iblk, idx t]
  · exact congrArg (fun z => A0 m c (ix2 ⟨i.val * 64 + p.val, by omega⟩ z)) (Fin.ext (by show 8256 + ((64 + t.val) * 128 + b.val - 8192) = 8256 + (t.val * 128 + b.val); omega))

/-- A block of the gate's columns. -/
theorem blk1 (c : Dev nD) (t : Fin cfg0.N) (i p : Fin 64) (b : Fin 128) (h : t.val * 128 + b.val < 1024) :
    (X0_1 m c t (ix3 i p b) : EReal) = A0 m c (ix2 ⟨i.val * 64 + p.val, by omega⟩ ⟨10304 + (t.val * 128 + b.val), by omega⟩) := by
  have e := entry0 m c ⟨i.val, by omega⟩ p ⟨(80 + t.val) * 128 + b.val, by omega⟩ (by show 8192 ≤ (80 + t.val) * 128 + b.val; omega) (by show (80 + t.val) * 128 + b.val < 12288; omega)
  unfold X0_1 Pipeline.Window.fill
  rw [dif_pos (moved0_1 t _)]
  refine Eq.trans ?_ (e.trans ?_)
  · blk_ext [iblk, idx t]
  · exact congrArg (fun z => A0 m c (ix2 ⟨i.val * 64 + p.val, by omega⟩ z)) (Fin.ext (by show 8256 + ((80 + t.val) * 128 + b.val - 8192) = 10304 + (t.val * 128 + b.val); omega))

end Cert.KernelIdeal.Final
end
-- ==== Proof.Kernel.lean ====
/-
The gradient of the depthwise convolution and its gate: the three result arrays of the kernel hold what the reference
computes. The first two are made by a loop over blocks of four rows, the third by the thirty-one loops of the weights.
-/
module

public import proofs.«01_k».proof.Proof.Gen.KernelIdeal.Value
public import proofs.«01_k».proof.Proof.Gen.KernelRefIdeal.Run
public import proofs.«01_k».proof.Proof.Gen.KernelRefIdeal.Read
public import Idealize.ShloMosaic.Lib.Pipeline.ValueKit
public import proofs.«01_k».proof.Proof.KernelRef
public import proofs.«01_k».proof.Proof.KernelLoops
public import proofs.«01_k».proof.Proof.KernelRows
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

open Cert.KernelRefIdeal.Read
open Cert.ConvRef

/-- A row of weights loaded. -/
theorem ldw (X : Vec Ideal S31x128 .f32) (q : ℕ) (hq : q < 31) (inb : ∀ a, (![q, 0] : Fin 2 → ℕ) a + S1x128.size a ≤ S31x128.size a) (b : Fin 128) :
    (View.ld X (Rect.unit (s := S31x128) ![q, 0] S1x128.size inb) (ix2 0 b) : EReal) = X (ix2 ⟨q, hq⟩ b) :=
  View.ld_unit_apply_of X _ _ inb (ix2 0 b) _ (fun x => by
    match x with
    | ⟨0, _⟩ => rfl
    | ⟨1, _⟩ => exact (Nat.zero_add _).symm)

/-- Where the loop over the rows reads and writes. -/
theorem off0 : ∀ k : Fin k0_t1_loop.trips, k0_off1 k = ![4 * k.val, 31, 0] := by decide +kernel
theorem off1 : ∀ k : Fin k0_t1_loop.trips, k0_off2 k = ![4 * k.val, 30, 0] := by decide +kernel
theorem off2 : ∀ k : Fin k0_t1_loop.trips, k0_off3 k = ![4 * k.val, 29, 0] := by decide +kernel
theorem off3 : ∀ k : Fin k0_t1_loop.trips, k0_off4 k = ![4 * k.val, 28, 0] := by decide +kernel
theorem off4 : ∀ k : Fin k0_t1_loop.trips, k0_off5 k = ![4 * k.val, 27, 0] := by decide +kernel
theorem off5 : ∀ k : Fin k0_t1_loop.trips, k0_off6 k = ![4 * k.val, 26, 0] := by decide +kernel
theorem off6 : ∀ k : Fin k0_t1_loop.trips, k0_off7 k = ![4 * k.val, 25, 0] := by decide +kernel
theorem off7 : ∀ k : Fin k0_t1_loop.trips, k0_off8 k = ![4 * k.val, 24, 0] := by decide +kernel
theorem off8 : ∀ k : Fin k0_t1_loop.trips, k0_off9 k = ![4 * k.val, 23, 0] := by decide +kernel
theorem off9 : ∀ k : Fin k0_t1_loop.trips, k0_off10 k = ![4 * k.val, 22, 0] := by decide +kernel
theorem off10 : ∀ k : Fin k0_t1_loop.trips, k0_off11 k = ![4 * k.val, 21, 0] := by decide +kernel
theorem off11 : ∀ k : Fin k0_t1_loop.trips, k0_off12 k = ![4 * k.val, 20, 0] := by decide +kernel
theorem off12 : ∀ k : Fin k0_t1_loop.trips, k0_off13 k = ![4 * k.val, 19, 0] := by decide +kernel
theorem off13 : ∀ k : Fin k0_t1_loop.trips, k0_off14 k = ![4 * k.val, 18, 0] := by decide +kernel
theorem off14 : ∀ k : Fin k0_t1_loop.trips, k0_off15 k = ![4 * k.val, 17, 0] := by decide +kernel
theorem off15 : ∀ k : Fin k0_t1_loop.trips, k0_off16 k = ![4 * k.val, 16, 0] := by decide +kernel
theorem off16 : ∀ k : Fin k0_t1_loop.trips, k0_off17 k = ![4 * k.val, 15, 0] := by decide +kernel
theorem off17 : ∀ k : Fin k0_t1_loop.trips, k0_off18 k = ![4 * k.val, 14, 0] := by decide +kernel
theorem off18 : ∀ k : Fin k0_t1_loop.trips, k0_off19 k = ![4 * k.val, 13, 0] := by decide +kernel
theorem off19 : ∀ k : Fin k0_t1_loop.trips, k0_off20 k = ![4 * k.val, 12, 0] := by decide +kernel
theorem off20 : ∀ k : Fin k0_t1_loop.trips, k0_off21 k = ![4 * k.val, 11, 0] := by decide +kernel
theorem off21 : ∀ k : Fin k0_t1_loop.trips, k0_off22 k = ![4 * k.val, 10, 0] := by decide +kernel
theorem off22 : ∀ k : Fin k0_t1_loop.trips, k0_off23 k = ![4 * k.val, 9, 0] := by decide +kernel
theorem off23 : ∀ k : Fin k0_t1_loop.trips, k0_off24 k = ![4 * k.val, 8, 0] := by decide +kernel
theorem off24 : ∀ k : Fin k0_t1_loop.trips, k0_off25 k = ![4 * k.val, 7, 0] := by decide +kernel
theorem off25 : ∀ k : Fin k0_t1_loop.trips, k0_off26 k = ![4 * k.val, 6, 0] := by decide +kernel
theorem off26 : ∀ k : Fin k0_t1_loop.trips, k0_off27 k = ![4 * k.val, 5, 0] := by decide +kernel
theorem off27 : ∀ k : Fin k0_t1_loop.trips, k0_off28 k = ![4 * k.val, 4, 0] := by decide +kernel
theorem off28 : ∀ k : Fin k0_t1_loop.trips, k0_off29 k = ![4 * k.val, 3, 0] := by decide +kernel
theorem off29 : ∀ k : Fin k0_t1_loop.trips, k0_off30 k = ![4 * k.val, 2, 0] := by decide +kernel
theorem off30 : ∀ k : Fin k0_t1_loop.trips, k0_off31 k = ![4 * k.val, 1, 0] := by decide +kernel
theorem off31 : ∀ k : Fin k0_t1_loop.trips, k0_off32 k = ![4 * k.val, 0, 0] := by decide +kernel

section
variable (𝒱 : Variants) (c : Dev nD) (bd : Option 𝒱.V) (i : grid0.Coords) (arg1 : Memref sig .tc .vmem S64x64x128 .f32) (harg1 : arg1.IsWhole) (arg2 : Memref sig .tc .vmem S64x64x128 .f32) (harg2 : arg2.IsWhole) (arg3 : Memref sig .tc .vmem S31x128 .f32) (harg3 : arg3.IsWhole) (arg4 : Memref sig .tc .vmem S64x64x128 .f32) (harg4 : arg4.IsWhole) (arg5 : Memref sig .tc .vmem S64x64x128 .bf16) (harg5 : arg5.IsWhole) (arg6 : Memref sig .tc .vmem S64x64x128 .bf16) (harg6 : arg6.IsWhole) (arg7 : Memref sig .tc .vmem S31x128 .f32) (harg7 : arg7.IsWhole) (arg8 : Memref sig .tc .vmem S64x96x128 .f32) (harg8 : arg8.IsWhole) (arg9 : Memref sig .tc .vmem S64x96x128 .f32) (harg9 : arg9.IsWhole) (v18 : FVec Ideal S64x64x128 .f32) (v26 : FVec Ideal S64x16x128 .f32) (X_arg1 : BufTy.Contents (Elt Ideal) arg1.view.ty) (X_arg2 : BufTy.Contents (Elt Ideal) arg2.view.ty) (X_arg3 : BufTy.Contents (Elt Ideal) arg3.view.ty) (X_arg9 : BufTy.Contents (Elt Ideal) arg9.view.ty)
variable (f : Fin 64 → Fin 128 → Fin 64 → EReal) (w : ℕ → Fin 128 → EReal)
variable (hP : ∀ i p b, (arg9.view.read (Elt Ideal) X_arg9 (ix3 i p b) : EReal) = sh (f i b) p.val) (hW : ∀ q b, (arg3.view.read (Elt Ideal) X_arg3 (ix2 q b) : EReal) = w q.val b)

include hP hW in
/-- One of the thirty-one products of a block of four rows. -/
theorem product (k : ℕ) (hk : k < 16) (r : Fin 4) (a : Fin 64) (b : Fin 128) (q p : ℕ) (hq : q < 31) (hp : p = 31 - q) (off : Fin 3 → ℕ) (inb inb')
    (h : off = ![4 * k, p, 0]) :
    ((View.ld (arg3.view.read (Elt Ideal) X_arg3) (Rect.unit (s := S31x128) ![q, 0] S1x128.size inb) (ix2 0 b) : EReal)
      * View.ld (arg9.view.read (Elt Ideal) X_arg9) (Rect.unit (s := S64x96x128) off S4x64x128.size inb') (ix3 r a b))
      = sh (f ⟨4 * k + r.val, by omega⟩ b) (a.val + 31 - q) * w q b := by
  rw [ldw _ q hq inb b, hW, ld96 _ off inb' r a b k p hk (by omega) h, hP, mul_comm]
  exact congrArg (fun x => sh (f ⟨4 * k + r.val, by omega⟩ b) x * w q b) (by show p + a.val = _; omega)

include hP hW in
/-- The cotangent of four rows: one sum over the weights. -/
theorem acc_at (k : ℕ) (hk : k < 16) (r : Fin 4) (a : Fin 64) (b : Fin 128) :
    (trip_k0_t1.sl.r_10 arg3 arg9 X_arg3 X_arg9 ⟨k, hk⟩ (ix3 r a b) : EReal)
      = ∑ q : Fin 31, sh (f ⟨4 * k + r.val, by omega⟩ b) (a.val + 31 - q) * w q b := by
  sl_unfold_run_names
  pointwise [k0_pay9, k0_pay8, k0_pay7, k0_pay6, k0_pay5, k0_pay4, k0_pay3, k0_pay2]
  refine Eq.trans ?_ (up (fun q => sh (f ⟨4 * k + r.val, by omega⟩ b) (a.val + 31 - q) * w q b))
  refine congrArg₂ (· + ·) ?_ (product _ _ _ _ f w hP hW k hk r a b 30 1 (by decide) rfl _ _ _ (off30 ⟨k, hk⟩))
  refine congrArg₂ (· + ·) ?_ (product _ _ _ _ f w hP hW k hk r a b 29 2 (by decide) rfl _ _ _ (off29 ⟨k, hk⟩))
  refine congrArg₂ (· + ·) ?_ (product _ _ _ _ f w hP hW k hk r a b 28 3 (by decide) rfl _ _ _ (off28 ⟨k, hk⟩))
  refine congrArg₂ (· + ·) ?_ (product _ _ _ _ f w hP hW k hk r a b 27 4 (by decide) rfl _ _ _ (off27 ⟨k, hk⟩))
  refine congrArg₂ (· + ·) ?_ (product _ _ _ _ f w hP hW k hk r a b 26 5 (by decide) rfl _ _ _ (off26 ⟨k, hk⟩))
  refine congrArg₂ (· + ·) ?_ (product _ _ _ _ f w hP hW k hk r a b 25 6 (by decide) rfl _ _ _ (off25 ⟨k, hk⟩))
  refine congrArg₂ (· + ·) ?_ (product _ _ _ _ f w hP hW k hk r a b 24 7 (by decide) rfl _ _ _ (off24 ⟨k, hk⟩))
  refine congrArg₂ (· + ·) ?_ (product _ _ _ _ f w hP hW k hk r a b 23 8 (by decide) rfl _ _ _ (off23 ⟨k, hk⟩))
  refine congrArg₂ (· + ·) ?_ (product _ _ _ _ f w hP hW k hk r a b 22 9 (by decide) rfl _ _ _ (off22 ⟨k, hk⟩))
  refine congrArg₂ (· + ·) ?_ (product _ _ _ _ f w hP hW k hk r a b 21 10 (by decide) rfl _ _ _ (off21 ⟨k, hk⟩))
  refine congrArg₂ (· + ·) ?_ (product _ _ _ _ f w hP hW k hk r a b 20 11 (by decide) rfl _ _ _ (off20 ⟨k, hk⟩))
  refine congrArg₂ (· + ·) ?_ (product _ _ _ _ f w hP hW k hk r a b 19 12 (by decide) rfl _ _ _ (off19 ⟨k, hk⟩))
  refine congrArg₂ (· + ·) ?_ (product _ _ _ _ f w hP hW k hk r a b 18 13 (by decide) rfl _ _ _ (off18 ⟨k, hk⟩))
  refine congrArg₂ (· + ·) ?_ (product _ _ _ _ f w hP hW k hk r a b 17 14 (by decide) rfl _ _ _ (off17 ⟨k, hk⟩))
  refine congrArg₂ (· + ·) ?_ (product _ _ _ _ f w hP hW k hk r a b 16 15 (by decide) rfl _ _ _ (off16 ⟨k, hk⟩))
  refine congrArg₂ (· + ·) ?_ (product _ _ _ _ f w hP hW k hk r a b 15 16 (by decide) rfl _ _ _ (off15 ⟨k, hk⟩))
  refine congrArg₂ (· + ·) ?_ (product _ _ _ _ f w hP hW k hk r a b 14 17 (by decide) rfl _ _ _ (off14 ⟨k, hk⟩))
  refine congrArg₂ (· + ·) ?_ (product _ _ _ _ f w hP hW k hk r a b 13 18 (by decide) rfl _ _ _ (off13 ⟨k, hk⟩))
  refine congrArg₂ (· + ·) ?_ (product _ _ _ _ f w hP hW k hk r a b 12 19 (by decide) rfl _ _ _ (off12 ⟨k, hk⟩))
  refine congrArg₂ (· + ·) ?_ (product _ _ _ _ f w hP hW k hk r a b 11 20 (by decide) rfl _ _ _ (off11 ⟨k, hk⟩))
  refine congrArg₂ (· + ·) ?_ (product _ _ _ _ f w hP hW k hk r a b 10 21 (by decide) rfl _ _ _ (off10 ⟨k, hk⟩))
  refine congrArg₂ (· + ·) ?_ (product _ _ _ _ f w hP hW k hk r a b 9 22 (by decide) rfl _ _ _ (off9 ⟨k, hk⟩))
  refine congrArg₂ (· + ·) ?_ (product _ _ _ _ f w hP hW k hk r a b 8 23 (by decide) rfl _ _ _ (off8 ⟨k, hk⟩))
  refine congrArg₂ (· + ·) ?_ (product _ _ _ _ f w hP hW k hk r a b 7 24 (by decide) rfl _ _ _ (off7 ⟨k, hk⟩))
  refine congrArg₂ (· + ·) ?_ (product _ _ _ _ f w hP hW k hk r a b 6 25 (by decide) rfl _ _ _ (off6 ⟨k, hk⟩))
  refine congrArg₂ (· + ·) ?_ (product _ _ _ _ f w hP hW k hk r a b 5 26 (by decide) rfl _ _ _ (off5 ⟨k, hk⟩))
  refine congrArg₂ (· + ·) ?_ (product _ _ _ _ f w hP hW k hk r a b 4 27 (by decide) rfl _ _ _ (off4 ⟨k, hk⟩))
  refine congrArg₂ (· + ·) ?_ (product _ _ _ _ f w hP hW k hk r a b 3 28 (by decide) rfl _ _ _ (off3 ⟨k, hk⟩))
  refine congrArg₂ (· + ·) ?_ (product _ _ _ _ f w hP hW k hk r a b 2 29 (by decide) rfl _ _ _ (off2 ⟨k, hk⟩))
  refine congrArg₂ (· + ·) ?_ (product _ _ _ _ f w hP hW k hk r a b 1 30 (by decide) rfl _ _ _ (off1 ⟨k, hk⟩))
  exact product _ _ _ _ f w hP hW k hk r a b 0 31 (by decide) rfl _ _ _ (off0 ⟨k, hk⟩)

/-- A cotangent times its gate. -/
theorem gated_at (acc g : FVec Ideal S4x64x128 .f32) (j : S4x64x128.Idx) :
    (truncf .bf16 (mulf acc (k0_pay11 g)) bitsLt_bf16_f32 j : EReal) = acc j * Ideal.logistic (g j) := by
  pointwise [k0_pay11]

include hP hW in
/-- The cotangent of four rows through the gate. -/
theorem val_at (k : ℕ) (hk : k < 16) (r : Fin 4) (a : Fin 64) (b : Fin 128) :
    (trip_k0_t1.sl.r_13 arg2 arg3 arg9 X_arg2 X_arg3 X_arg9 ⟨k, hk⟩ (ix3 r a b) : EReal)
      = (∑ q : Fin 31, sh (f ⟨4 * k + r.val, by omega⟩ b) (a.val + 31 - q) * w q b)
        * Ideal.logistic (arg2.view.read (Elt Ideal) X_arg2 (ix3 ⟨4 * k + r.val, by omega⟩ a b)) := by
  have e1 := acc_at _ _ _ _ f w hP hW k hk r a b
  have e2 := ld64 (arg2.view.read (Elt Ideal) X_arg2) _ (k0_off32_inb (⟨k, hk⟩ : Fin k0_t1_loop.trips)) r a b k hk (off31 ⟨k, hk⟩)
  rw [← e1, ← e2]
  exact gated_at _ _ _

/-- The last products of a block: the cotangent, the value, the gate and one minus the gate. -/
theorem slope_at (acc x g : FVec Ideal S4x64x128 .f32) (j : S4x64x128.Idx) :
    (k0_pay20 acc (k0_pay10 x) (k0_pay11 g) j : EReal) = acc j * x j * Ideal.logistic (g j) * (1 - Ideal.logistic (g j)) := by
  pointwise [k0_pay20, k0_pay10, k0_pay11]

include hP hW in
/-- The cotangent of four rows through the value and the gate's slope. -/
theorem gate_at (k : ℕ) (hk : k < 16) (r : Fin 4) (a : Fin 64) (b : Fin 128) :
    (k0_pay20 (trip_k0_t1.sl.r_10 arg3 arg9 X_arg3 X_arg9 ⟨k, hk⟩) (trip_k0_t1.sl.r_11 arg1 X_arg1 ⟨k, hk⟩) (trip_k0_t1.sl.r_12 arg2 X_arg2 ⟨k, hk⟩) (ix3 r a b) : EReal)
      = (∑ q : Fin 31, sh (f ⟨4 * k + r.val, by omega⟩ b) (a.val + 31 - q) * w q b)
        * arg1.view.read (Elt Ideal) X_arg1 (ix3 ⟨4 * k + r.val, by omega⟩ a b)
        * Ideal.logistic (arg2.view.read (Elt Ideal) X_arg2 (ix3 ⟨4 * k + r.val, by omega⟩ a b))
        * (1 - Ideal.logistic (arg2.view.read (Elt Ideal) X_arg2 (ix3 ⟨4 * k + r.val, by omega⟩ a b))) := by
  have e1 := acc_at _ _ _ _ f w hP hW k hk r a b
  have e2 := ld64 (arg2.view.read (Elt Ideal) X_arg2) _ (k0_off32_inb (⟨k, hk⟩ : Fin k0_t1_loop.trips)) r a b k hk (off31 ⟨k, hk⟩)
  have e3 := ld64 (arg1.view.read (Elt Ideal) X_arg1) _ (k0_off32_inb (⟨k, hk⟩ : Fin k0_t1_loop.trips)) r a b k hk (off31 ⟨k, hk⟩)
  rw [← e1, ← e2, ← e3]
  exact slope_at _ _ _ _

/-- The first output's pieces grow by a block of four rows. -/
theorem rows4_succ (k : Fin 16) : (pb_k0_t1 𝒱 c bd i arg1 harg1 arg2 harg2 arg3 harg3 arg4 harg4 arg5 harg5 arg6 harg6 arg7 harg7 arg8 harg8 arg9 harg9 v18 v26 X_arg1 X_arg2 X_arg3 X_arg9 (k.val + 1)).1
    = ⟨Rect.unit (s := S64x64x128) (k0_off32 k) S4x64x128.size (k0_off32_inb k), trip_k0_t1.sl.r_13 arg2 arg3 arg9 X_arg2 X_arg3 X_arg9 k⟩
      :: (pb_k0_t1 𝒱 c bd i arg1 harg1 arg2 harg2 arg3 harg3 arg4 harg4 arg5 harg5 arg6 harg6 arg7 harg7 arg8 harg8 arg9 harg9 v18 v26 X_arg1 X_arg2 X_arg3 X_arg9 k.val).1 := by
  refine (congrArg Prod.fst (pb_k0_t1_succ 𝒱 c bd i arg1 harg1 arg2 harg2 arg3 harg3 arg4 harg4 arg5 harg5 arg6 harg6 arg7 harg7 arg8 harg8 arg9 harg9 v18 v26 X_arg1 X_arg2 X_arg3 X_arg9 k)).trans ?_
  unfold tripL_k0_t1 trip_k0_t1
  rfl

/-- The second output's pieces grow by a block of four rows. -/
theorem rows5_succ (k : Fin 16) : (pb_k0_t1 𝒱 c bd i arg1 harg1 arg2 harg2 arg3 harg3 arg4 harg4 arg5 harg5 arg6 harg6 arg7 harg7 arg8 harg8 arg9 harg9 v18 v26 X_arg1 X_arg2 X_arg3 X_arg9 (k.val + 1)).2
    = ⟨Rect.unit (s := S64x64x128) (k0_off32 k) S4x64x128.size (k0_off32_inb k), k0_pay20 (trip_k0_t1.sl.r_10 arg3 arg9 X_arg3 X_arg9 k) (trip_k0_t1.sl.r_11 arg1 X_arg1 k) (trip_k0_t1.sl.r_12 arg2 X_arg2 k)⟩
      :: (pb_k0_t1 𝒱 c bd i arg1 harg1 arg2 harg2 arg3 harg3 arg4 harg4 arg5 harg5 arg6 harg6 arg7 harg7 arg8 harg8 arg9 harg9 v18 v26 X_arg1 X_arg2 X_arg3 X_arg9 k.val).2 := by
  refine (congrArg Prod.snd (pb_k0_t1_succ 𝒱 c bd i arg1 harg1 arg2 harg2 arg3 harg3 arg4 harg4 arg5 harg5 arg6 harg6 arg7 harg7 arg8 harg8 arg9 harg9 v18 v26 X_arg1 X_arg2 X_arg3 X_arg9 k)).trans ?_
  unfold tripL_k0_t1 trip_k0_t1
  rfl

include hP hW in
/-- The first output after all its blocks. -/
theorem rows4 (i' a : Fin 64) (b : Fin 128) :
    (View.canon (pb_k0_t1 𝒱 c bd i arg1 harg1 arg2 harg2 arg3 harg3 arg4 harg4 arg5 harg5 arg6 harg6 arg7 harg7 arg8 harg8 arg9 harg9 v18 v26 X_arg1 X_arg2 X_arg3 X_arg9 (Scf.trips k0_t1_loop.lb k0_t1_loop.ub k0_t1_loop.st)).1 (ix3 i' a b) : EReal)
      = (∑ q : Fin 31, sh (f i' b) (a.val + 31 - q) * w q b) * Ideal.logistic (arg2.view.read (Elt Ideal) X_arg2 (ix3 i' a b)) := by
  obtain ⟨iv, hi⟩ := i'
  obtain ⟨k, hk, r, hr, h⟩ : ∃ k, k < 16 ∧ ∃ r, r < 4 ∧ iv = 4 * k + r := ⟨iv / 4, by omega, iv % 4, by omega, by omega⟩
  subst h
  refine (canon_rows (fun n => (pb_k0_t1 𝒱 c bd i arg1 harg1 arg2 harg2 arg3 harg3 arg4 harg4 arg5 harg5 arg6 harg6 arg7 harg7 arg8 harg8 arg9 harg9 v18 v26 X_arg1 X_arg2 X_arg3 X_arg9 n).1) (fun k => k0_off32 k) off31 (fun k => k0_off32_inb k) _ (rows4_succ _ _ _ _ _ _ _ _ _ _ _ _ _ _ _ _ _ _ _ _ _ _ _ _ _ _ _ _) ⟨k, hk⟩ ⟨r, hr⟩ a b).trans ?_
  exact val_at _ _ _ _ _ _ f w hP hW k hk ⟨r, hr⟩ a b

include hP hW in
/-- The second output after all its blocks. -/
theorem rows5 (i' a : Fin 64) (b : Fin 128) :
    (View.canon (pb_k0_t1 𝒱 c bd i arg1 harg1 arg2 harg2 arg3 harg3 arg4 harg4 arg5 harg5 arg6 harg6 arg7 harg7 arg8 harg8 arg9 harg9 v18 v26 X_arg1 X_arg2 X_arg3 X_arg9 (Scf.trips k0_t1_loop.lb k0_t1_loop.ub k0_t1_loop.st)).2 (ix3 i' a b) : EReal)
      = (∑ q : Fin 31, sh (f i' b) (a.val + 31 - q) * w q b) * arg1.view.read (Elt Ideal) X_arg1 (ix3 i' a b)
        * Ideal.logistic (arg2.view.read (Elt Ideal) X_arg2 (ix3 i' a b)) * (1 - Ideal.logistic (arg2.view.read (Elt Ideal) X_arg2 (ix3 i' a b))) := by
  obtain ⟨iv, hi⟩ := i'
  obtain ⟨k, hk, r, hr, h⟩ : ∃ k, k < 16 ∧ ∃ r, r < 4 ∧ iv = 4 * k + r := ⟨iv / 4, by omega, iv % 4, by omega, by omega⟩
  subst h
  refine (canon_rows (fun n => (pb_k0_t1 𝒱 c bd i arg1 harg1 arg2 harg2 arg3 harg3 arg4 harg4 arg5 harg5 arg6 harg6 arg7 harg7 arg8 harg8 arg9 harg9 v18 v26 X_arg1 X_arg2 X_arg3 X_arg9 n).2) (fun k => k0_off32 k) off31 (fun k => k0_off32_inb k) _ (rows5_succ _ _ _ _ _ _ _ _ _ _ _ _ _ _ _ _ _ _ _ _ _ _ _ _ _ _ _ _) ⟨k, hk⟩ ⟨r, hr⟩ a b).trans ?_
  exact gate_at _ _ _ _ _ _ _ _ f w hP hW k hk ⟨r, hr⟩ a b
end

/-! ## What one point of the grid leaves -/

/-- The columns of a point are columns of the array. -/
theorem bd (t : Fin cfg0.N) (b : Fin 128) : t.val * 128 + b.val < 1024 := by
  have h : t.val < 8 := lt_of_lt_of_eq t.isLt N_0
  omega

/-- A point's column of the whole array. -/
def col (t : Fin cfg0.N) (b : Fin 128) : Fin 1024 := ⟨t.val * 128 + b.val, bd t b⟩

/-- The borders are zero, and the casts to the same shape change nothing. -/
theorem zero17 (x : S64x16x128.Idx) : (k0_pay17 (F := Ideal) x : EReal) = 0 := by pointwise [k0_pay17]
theorem zero18 (x : S64x16x128.Idx) : (k0_pay18 (F := Ideal) x : EReal) = 0 := by pointwise [k0_pay18]
theorem zero13 (x : S64x16x128.Idx) : (k0_pay13 (F := Ideal) x : EReal) = 0 := by pointwise [k0_pay13]
theorem zero14 (x : S64x16x128.Idx) : (k0_pay14 (F := Ideal) x : EReal) = 0 := by pointwise [k0_pay14]
theorem same19 (x : FVec Ideal S64x64x128 .f32) (j : S64x64x128.Idx) : (k0_pay19 (F := Ideal) (k0_pay16 x) j : EReal) = x j := by pointwise [k0_pay19, k0_pay16]
theorem gated15 (x y : FVec Ideal S64x64x128 .f32) (j : S64x64x128.Idx) : (k0_pay15 (F := Ideal) x y j : EReal) = x j * Ideal.logistic (y j) := by pointwise [k0_pay15]

/-- The block of the cotangent is the reference's. -/
theorem ct_blk (c : Dev nD) (t : Fin cfg0.N) (i p : Fin 64) (b : Fin 128) : (iblk m c 3 t (ix3 i p b) : EReal) = ct (A2 m c) i (col t b) p :=
  (blk3 m c t i p b (bd t b)).trans (ct_at (A2 m c) i p (col t b)).symm

/-- A whole array loaded at an index. -/
theorem whole_read {mr : Memref sig .tc .vmem S64x64x128 .f32} (h : mr.IsWhole) (X : S64x64x128.Idx → EReal) (inb : ∀ a, (![0, 0, 0] : Fin 3 → ℕ) a + S64x64x128.size a ≤ S64x64x128.size a)
    (i q : Fin 64) (b : Fin 128) : (View.readAt (Elt Ideal) mr.view (Rect.unit (s := S64x64x128) ![0, 0, 0] S64x64x128.size inb).toLoadRect (h.unread X) (ix3 i q b) : EReal) = X (ix3 i q b) :=
  (View.ld_unit_apply_of (mr.view.read (Elt Ideal) (h.unread X)) _ _ inb (ix3 i q b) (ix3 i q b) (fun x => by
    match x with
    | ⟨0, _⟩ => exact (Nat.zero_add _).symm
    | ⟨1, _⟩ => exact (Nat.zero_add _).symm
    | ⟨2, _⟩ => exact (Nat.zero_add _).symm)).trans (congrFun (Memref.IsWhole.read_unread (Val := Elt Ideal) h X) _)

/-- The gated value made of the two loaded blocks is the reference's. -/
theorem gv_read (c : Dev nD) (t : Fin cfg0.N) (inb inb') (i p : Fin 64) (b : Fin 128) :
    (k0_pay15 (F := Ideal) (View.readAt (Elt Ideal) (ms0_0 t).view (Rect.unit (s := S64x64x128) ![0, 0, 0] S64x64x128.size inb).toLoadRect ((hs0_0 t).unread (X0_0 m c t)))
      (View.readAt (Elt Ideal) (ms0_1 t).view (Rect.unit (s := S64x64x128) ![0, 0, 0] S64x64x128.size inb').toLoadRect ((hs0_1 t).unread (X0_1 m c t))) (ix3 i p b) : EReal)
      = gv (A0 m c) i (col t b) p := by
  refine (gated15 _ _ _).trans ?_
  rw [whole_read (hs0_0 t), whole_read (hs0_1 t), gv_at]
  exact congrArg₂ (· * ·) (blk0 m c t i p b (bd t b)) ((congrArg Ideal.logistic (blk1 m c t i p b (bd t b))).trans rfl)

/-- The block of the weights is the reference's. -/
theorem wt_blk (c : Dev nD) (t : Fin cfg0.N) (q : Fin 31) (b : Fin 128) : (iblk m c 2 t (ix2 q b) : EReal) = wt (A1 m c) (col t b) q.val := by
  rw [blk2 m c t q b (by have := bd t b; omega)]
  unfold wt
  exact congrArg (fun z => A1 m c (ix2 z _)) (Fin.ext (Nat.mod_eq_of_lt q.isLt).symm)

/-- The gate as the loop reads it. -/
theorem gt_read (c : Dev nD) (t : Fin cfg0.N) (i a : Fin 64) (b : Fin 128) :
    (Ideal.logistic ((ms0_1 t).view.read (Elt Ideal) ((hs0_1 t).unread (X0_1 m c t)) (ix3 i a b)) : EReal) = gt (A0 m c) i a (col t b) := by
  rw [show ((ms0_1 t).view.read (Elt Ideal) ((hs0_1 t).unread (X0_1 m c t)) (ix3 i a b) : EReal) = A0 m c (ix2 ⟨i.val * 64 + a.val, by omega⟩ ⟨10304 + (col t b).val, by have := bd t b; show 10304 + (t.val * 128 + b.val) < 12352; omega⟩) from
    (congrFun (Memref.IsWhole.read_unread _ _) _).trans (blk1 m c t i a b (bd t b))]
  rfl

/-- The value as the loop reads it. -/
theorem vl_read (c : Dev nD) (t : Fin cfg0.N) (i a : Fin 64) (b : Fin 128) :
    ((ms0_0 t).view.read (Elt Ideal) ((hs0_0 t).unread (X0_0 m c t)) (ix3 i a b) : EReal) = vl (A0 m c) i a (col t b) :=
  (congrFun (Memref.IsWhole.read_unread _ _) _).trans (blk0 m c t i a b (bd t b))

/-- The first result at a point of the grid. -/
theorem out4_at (c : Dev nD) (t : Fin cfg0.N) (i a : Fin 64) (b : Fin 128) : ((outsAt0 m c t).1 (ix3 i a b) : EReal)
    = (∑ q : Fin 31, sh (ct (A2 m c) i (col t b)) (a.val + 31 - q) * wt (A1 m c) (col t b) q) * gt (A0 m c) i a (col t b) := by
  unfold outsAt0; frame_open
  dsimp only
  rw [View.read_writes_junk_eq_canon]
  refine (rows4 _ _ _ _ _ _ _ _ _ _ _ _ _ _ _ _ _ _ _ _ _ _ _ _ _ _ _ _ (fun i b => ct (A2 m c) i (col t b)) (fun q b => wt (A1 m c) (col t b) q) ?_ ?_ i a b).trans ?_
  · intro i p b
    refine (congrFun (View.read_writes_junk_eq_canon _ _) _).trans ?_
    refine (bordered_at _ _ _ zero18 zero17 _ _ _ i p b).trans ?_
    exact congrArg (fun f => sh f p.val) (funext fun q => (same19 _ _).trans ((whole_read (hs0_3 t) _ _ i q b).trans (ct_blk m c t i q b)))
  · intro q b
    exact (congrFun (Memref.IsWhole.read_unread _ _) _).trans (wt_blk m c t q b)
  · exact congrArg (fun g => (∑ q : Fin 31, sh (ct (A2 m c) i (col t b)) (a.val + 31 - q) * wt (A1 m c) (col t b) q) * g) (gt_read m c t i a b)

/-- The second result at a point of the grid. -/
theorem out5_at (c : Dev nD) (t : Fin cfg0.N) (i a : Fin 64) (b : Fin 128) : ((outsAt0 m c t).2.1 (ix3 i a b) : EReal)
    = (vl (A0 m c) i a (col t b) * (∑ q : Fin 31, sh (ct (A2 m c) i (col t b)) (a.val + 31 - q) * wt (A1 m c) (col t b) q))
      * (gt (A0 m c) i a (col t b) * (1 - gt (A0 m c) i a (col t b))) := by
  unfold outsAt0; frame_open
  dsimp only
  rw [View.read_writes_junk_eq_canon]
  refine (rows5 _ _ _ _ _ _ _ _ _ _ _ _ _ _ _ _ _ _ _ _ _ _ _ _ _ _ _ _ (fun i b => ct (A2 m c) i (col t b)) (fun q b => wt (A1 m c) (col t b) q) ?_ ?_ i a b).trans ?_
  · intro i p b
    refine (congrFun (View.read_writes_junk_eq_canon _ _) _).trans ?_
    refine (bordered_at _ _ _ zero18 zero17 _ _ _ i p b).trans ?_
    exact congrArg (fun f => sh f p.val) (funext fun q => (same19 _ _).trans ((whole_read (hs0_3 t) _ _ i q b).trans (ct_blk m c t i q b)))
  · intro q b
    exact (congrFun (Memref.IsWhole.read_unread _ _) _).trans (wt_blk m c t q b)
  · rw [gt_read, vl_read, mul_assoc, mul_comm (∑ q : Fin 31, _) _]

/-! ## The weights' gradient -/

/-- One row written over others. -/
theorem row_cons (k : ℕ) (w : FVec Ideal S1x128 .f32) (L : List (View.Piece (Elt Ideal) S31x128 .f32)) (inb : ∀ a, (![k, 0] : Fin 2 → ℕ) a + S1x128.size a ≤ S31x128.size a)
    (q : Fin 31) (b : Fin 128) (X : EReal) (h : q.val = k → (w (ix2 0 b) : EReal) = X) (h' : q.val ≠ k → (View.canon (Val := Elt Ideal) (s := S31x128) (e := .f32) L (ix2 q b) : EReal) = X) :
    (View.canon (Val := Elt Ideal) (s := S31x128) (e := .f32) (⟨Rect.unit (s := S31x128) ![k, 0] S1x128.size inb, w⟩ :: L) (ix2 q b) : EReal) = X := by
  by_cases hk : q.val = k
  · have e : (Rect.unit (s := S31x128) ![k, 0] S1x128.size inb).emb (ix2 0 b) = ix2 q b :=
      Rect.emb_eq_of_coords _ _ _ (fun x => by
        match x with
        | ⟨0, _⟩ => show q.val = k + 1 * 0; omega
        | ⟨1, _⟩ => show b.val = 0 + 1 * b.val; omega)
    rw [← e]
    exact (View.canon_cons_emb _ _ _ _).trans (h hk)
  · rw [View.canon_cons_of_not_mem _ _ (Rect.not_mem_set_of_axis _ _ 0 k 1 rfl rfl rfl (by show q.val < k ∨ k + 1 ≤ q.val; omega))]
    exact h' hk

/-- The loops start from zero. -/
theorem zero_init (a : Fin 64) (b : Fin 128) : (k0_pay21 (F := Ideal) (ix2 a b) : EReal) = 0 := by pointwise [k0_pay21]

/-- A loop's sum is the reference's correlation. -/
theorem corr_at (c : Dev nD) (t : Fin cfg0.N) (q : Fin 31) (b : Fin 128) (k k' : ℕ) (h : q.val = k) (hk : k' = k + 1) (D : S64x64x128.Idx → EReal) (Y : S64x96x128.Idx → EReal)
    (hD : ∀ i a, D (ix3 i a b) = ct (A2 m c) i (col t b) a) (hY : ∀ i p, Y (ix3 i p b) = sh (gv (A0 m c) i (col t b)) p.val) (hb : ∀ a : Fin 64, k' + a.val < 96) :
    (∑ a : Fin 64, ∑ i : Fin 64, D (ix3 i a b) * Y (ix3 i ⟨k' + a.val, hb a⟩ b)) = corr (A0 m c) (A2 m c) (col t b) q.val := by
  rw [Finset.sum_comm]
  unfold corr
  refine Finset.sum_congr rfl fun i _ => Finset.sum_congr rfl fun a _ => ?_
  rw [hD, hY, mul_comm]
  exact congrArg (fun p => sh (gv (A0 m c) i (col t b)) p * ct (A2 m c) i (col t b) a) (by show k' + a.val = a.val + q.val + 1; omega)

/-- The cotangent as a loop reads it. -/
theorem dy_read (c : Dev nD) (t : Fin cfg0.N) (b : Fin 128) (i a : Fin 64) :
    ((ms0_3 t).view.read (Elt Ideal) ((hs0_3 t).unread (iblk m c 3 t)) (ix3 i a b) : EReal) = ct (A2 m c) i (col t b) a :=
  (congrFun (Memref.IsWhole.read_unread _ _) _).trans (ct_blk m c t i a b)

/-- The gated value as a loop reads it, from the scratch array it was written to. -/
theorem gv_scr (c : Dev nD) (t : Fin cfg0.N) (inb inb' inb1 inb2 inb3) (b : Fin 128) (i : Fin 64) (p : Fin 96) :
    (scM0_0.view.read (Elt Ideal) (scM0_0.view.writes (Elt Ideal) scM0_0.view.junk
      [⟨Rect.unit (s := S64x96x128) ![0, 16, 0] S64x64x128.size inb1, k0_pay15 (F := Ideal) (View.readAt (Elt Ideal) (ms0_0 t).view (Rect.unit (s := S64x64x128) ![0, 0, 0] S64x64x128.size inb).toLoadRect ((hs0_0 t).unread (X0_0 m c t)))
          (View.readAt (Elt Ideal) (ms0_1 t).view (Rect.unit (s := S64x64x128) ![0, 0, 0] S64x64x128.size inb').toLoadRect ((hs0_1 t).unread (X0_1 m c t)))⟩,
        ⟨Rect.unit (s := S64x96x128) ![0, 80, 0] S64x16x128.size inb2, k0_pay14 (F := Ideal)⟩, ⟨Rect.unit (s := S64x96x128) ![0, 0, 0] S64x16x128.size inb3, k0_pay13 (F := Ideal)⟩]) (ix3 i p b) : EReal)
      = sh (gv (A0 m c) i (col t b)) p.val := by
  refine (congrFun (View.read_writes_junk_eq_canon _ _) _).trans ?_
  refine (bordered_at _ _ _ zero14 zero13 _ _ _ i p b).trans ?_
  exact congrArg (fun f => sh f p.val) (funext fun q => gv_read m c t _ _ i q b)

set_option maxHeartbeats 2000000 in
/-- The third result at a point of the grid. -/
theorem out6_at (c : Dev nD) (t : Fin cfg0.N) (q : Fin 31) (b : Fin 128) : ((outsAt0 m c t).2.2 (ix2 q b) : EReal) = corr (A0 m c) (A2 m c) (col t b) q.val := by
  unfold outsAt0; frame_open
  dsimp only
  rw [View.read_writes_junk_eq_canon]
  have hq := q.isLt
  refine row_cons 30 _ _ _ q b _ (fun h => ?_) (fun n30 => ?_)
  · exact (loop30 _ _ _ _ _ _ _ _ _ _ _ _ _ _ _ _ _ _ _ _ _ _ _ _ _ (fun a b => zero_init a b) b).trans (corr_at m c t q b 30 31 h rfl _ _ (dy_read m c t b) (gv_scr m c t _ _ _ _ _ b) _)
  refine row_cons 29 _ _ _ q b _ (fun h => ?_) (fun n29 => ?_)
  · exact (loop29 _ _ _ _ _ _ _ _ _ _ _ _ _ _ _ _ _ _ _ _ _ _ _ _ _ (fun a b => zero_init a b) b).trans (corr_at m c t q b 29 30 h rfl _ _ (dy_read m c t b) (gv_scr m c t _ _ _ _ _ b) _)
  refine row_cons 28 _ _ _ q b _ (fun h => ?_) (fun n28 => ?_)
  · exact (loop28 _ _ _ _ _ _ _ _ _ _ _ _ _ _ _ _ _ _ _ _ _ _ _ _ _ (fun a b => zero_init a b) b).trans (corr_at m c t q b 28 29 h rfl _ _ (dy_read m c t b) (gv_scr m c t _ _ _ _ _ b) _)
  refine row_cons 27 _ _ _ q b _ (fun h => ?_) (fun n27 => ?_)
  · exact (loop27 _ _ _ _ _ _ _ _ _ _ _ _ _ _ _ _ _ _ _ _ _ _ _ _ _ (fun a b => zero_init a b) b).trans (corr_at m c t q b 27 28 h rfl _ _ (dy_read m c t b) (gv_scr m c t _ _ _ _ _ b) _)
  refine row_cons 26 _ _ _ q b _ (fun h => ?_) (fun n26 => ?_)
  · exact (loop26 _ _ _ _ _ _ _ _ _ _ _ _ _ _ _ _ _ _ _ _ _ _ _ _ _ (fun a b => zero_init a b) _ b).trans (corr_at m c t q b 26 27 h rfl _ _ (dy_read m c t b) (gv_scr m c t _ _ _ _ _ b) _)
  refine row_cons 25 _ _ _ q b _ (fun h => ?_) (fun n25 => ?_)
  · exact (loop25 _ _ _ _ _ _ _ _ _ _ _ _ _ _ _ _ _ _ _ _ _ _ _ _ _ (fun a b => zero_init a b) _ b).trans (corr_at m c t q b 25 26 h rfl _ _ (dy_read m c t b) (gv_scr m c t _ _ _ _ _ b) _)
  refine row_cons 24 _ _ _ q b _ (fun h => ?_) (fun n24 => ?_)
  · exact (loop24 _ _ _ _ _ _ _ _ _ _ _ _ _ _ _ _ _ _ _ _ _ _ _ _ _ (fun a b => zero_init a b) _ b).trans (corr_at m c t q b 24 25 h rfl _ _ (dy_read m c t b) (gv_scr m c t _ _ _ _ _ b) _)
  refine row_cons 23 _ _ _ q b _ (fun h => ?_) (fun n23 => ?_)
  · exact (loop23 _ _ _ _ _ _ _ _ _ _ _ _ _ _ _ _ _ _ _ _ _ _ _ _ _ (fun a b => zero_init a b) _ b).trans (corr_at m c t q b 23 24 h rfl _ _ (dy_read m c t b) (gv_scr m c t _ _ _ _ _ b) _)
  refine row_cons 22 _ _ _ q b _ (fun h => ?_) (fun n22 => ?_)
  · exact (loop22 _ _ _ _ _ _ _ _ _ _ _ _ _ _ _ _ _ _ _ _ _ _ _ _ _ (fun a b => zero_init a b) _ b).trans (corr_at m c t q b 22 23 h rfl _ _ (dy_read m c t b) (gv_scr m c t _ _ _ _ _ b) _)
  refine row_cons 21 _ _ _ q b _ (fun h => ?_) (fun n21 => ?_)
  · exact (loop21 _ _ _ _ _ _ _ _ _ _ _ _ _ _ _ _ _ _ _ _ _ _ _ _ _ (fun a b => zero_init a b) _ b).trans (corr_at m c t q b 21 22 h rfl _ _ (dy_read m c t b) (gv_scr m c t _ _ _ _ _ b) _)
  refine row_cons 20 _ _ _ q b _ (fun h => ?_) (fun n20 => ?_)
  · exact (loop20 _ _ _ _ _ _ _ _ _ _ _ _ _ _ _ _ _ _ _ _ _ _ _ _ _ (fun a b => zero_init a b) _ b).trans (corr_at m c t q b 20 21 h rfl _ _ (dy_read m c t b) (gv_scr m c t _ _ _ _ _ b) _)
  refine row_cons 19 _ _ _ q b _ (fun h => ?_) (fun n19 => ?_)
  · exact (loop19 _ _ _ _ _ _ _ _ _ _ _ _ _ _ _ _ _ _ _ _ _ _ _ _ _ (fun a b => zero_init a b) _ b).trans (corr_at m c t q b 19 20 h rfl _ _ (dy_read m c t b) (gv_scr m c t _ _ _ _ _ b) _)
  refine row_cons 18 _ _ _ q b _ (fun h => ?_) (fun n18 => ?_)
  · exact (loop18 _ _ _ _ _ _ _ _ _ _ _ _ _ _ _ _ _ _ _ _ _ _ _ _ _ (fun a b => zero_init a b) _ b).trans (corr_at m c t q b 18 19 h rfl _ _ (dy_read m c t b) (gv_scr m c t _ _ _ _ _ b) _)
  refine row_cons 17 _ _ _ q b _ (fun h => ?_) (fun n17 => ?_)
  · exact (loop17 _ _ _ _ _ _ _ _ _ _ _ _ _ _ _ _ _ _ _ _ _ _ _ _ _ (fun a b => zero_init a b) _ b).trans (corr_at m c t q b 17 18 h rfl _ _ (dy_read m c t b) (gv_scr m c t _ _ _ _ _ b) _)
  refine row_cons 16 _ _ _ q b _ (fun h => ?_) (fun n16 => ?_)
  · exact (loop16 _ _ _ _ _ _ _ _ _ _ _ _ _ _ _ _ _ _ _ _ _ _ _ _ _ (fun a b => zero_init a b) _ b).trans (corr_at m c t q b 16 17 h rfl _ _ (dy_read m c t b) (gv_scr m c t _ _ _ _ _ b) _)
  refine row_cons 15 _ _ _ q b _ (fun h => ?_) (fun n15 => ?_)
  · exact (loop15 _ _ _ _ _ _ _ _ _ _ _ _ _ _ _ _ _ _ _ _ _ _ _ _ _ (fun a b => zero_init a b) _ b).trans (corr_at m c t q b 15 16 h rfl _ _ (dy_read m c t b) (gv_scr m c t _ _ _ _ _ b) _)
  refine row_cons 14 _ _ _ q b _ (fun h => ?_) (fun n14 => ?_)
  · exact (loop14 _ _ _ _ _ _ _ _ _ _ _ _ _ _ _ _ _ _ _ _ _ _ _ _ _ (fun a b => zero_init a b) _ b).trans (corr_at m c t q b 14 15 h rfl _ _ (dy_read m c t b) (gv_scr m c t _ _ _ _ _ b) _)
  refine row_cons 13 _ _ _ q b _ (fun h => ?_) (fun n13 => ?_)
  · exact (loop13 _ _ _ _ _ _ _ _ _ _ _ _ _ _ _ _ _ _ _ _ _ _ _ _ _ (fun a b => zero_init a b) _ b).trans (corr_at m c t q b 13 14 h rfl _ _ (dy_read m c t b) (gv_scr m c t _ _ _ _ _ b) _)
  refine row_cons 12 _ _ _ q b _ (fun h => ?_) (fun n12 => ?_)
  · exact (loop12 _ _ _ _ _ _ _ _ _ _ _ _ _ _ _ _ _ _ _ _ _ _ _ _ _ (fun a b => zero_init a b) _ b).trans (corr_at m c t q b 12 13 h rfl _ _ (dy_read m c t b) (gv_scr m c t _ _ _ _ _ b) _)
  refine row_cons 11 _ _ _ q b _ (fun h => ?_) (fun n11 => ?_)
  · exact (loop11 _ _ _ _ _ _ _ _ _ _ _ _ _ _ _ _ _ _ _ _ _ _ _ _ _ (fun a b => zero_init a b) _ b).trans (corr_at m c t q b 11 12 h rfl _ _ (dy_read m c t b) (gv_scr m c t _ _ _ _ _ b) _)
  refine row_cons 10 _ _ _ q b _ (fun h => ?_) (fun n10 => ?_)
  · exact (loop10 _ _ _ _ _ _ _ _ _ _ _ _ _ _ _ _ _ _ _ _ _ _ _ _ _ (fun a b => zero_init a b) _ b).trans (corr_at m c t q b 10 11 h rfl _ _ (dy_read m c t b) (gv_scr m c t _ _ _ _ _ b) _)
  refine row_cons 9 _ _ _ q b _ (fun h => ?_) (fun n9 => ?_)
  · exact (loop9 _ _ _ _ _ _ _ _ _ _ _ _ _ _ _ _ _ _ _ _ _ _ _ _ _ (fun a b => zero_init a b) _ b).trans (corr_at m c t q b 9 10 h rfl _ _ (dy_read m c t b) (gv_scr m c t _ _ _ _ _ b) _)
  refine row_cons 8 _ _ _ q b _ (fun h => ?_) (fun n8 => ?_)
  · exact (loop8 _ _ _ _ _ _ _ _ _ _ _ _ _ _ _ _ _ _ _ _ _ _ _ _ _ (fun a b => zero_init a b) _ b).trans (corr_at m c t q b 8 9 h rfl _ _ (dy_read m c t b) (gv_scr m c t _ _ _ _ _ b) _)
  refine row_cons 7 _ _ _ q b _ (fun h => ?_) (fun n7 => ?_)
  · exact (loop7 _ _ _ _ _ _ _ _ _ _ _ _ _ _ _ _ _ _ _ _ _ _ _ _ _ (fun a b => zero_init a b) _ b).trans (corr_at m c t q b 7 8 h rfl _ _ (dy_read m c t b) (gv_scr m c t _ _ _ _ _ b) _)
  refine row_cons 6 _ _ _ q b _ (fun h => ?_) (fun n6 => ?_)
  · exact (loop6 _ _ _ _ _ _ _ _ _ _ _ _ _ _ _ _ _ _ _ _ _ _ _ _ _ (fun a b => zero_init a b) _ b).trans (corr_at m c t q b 6 7 h rfl _ _ (dy_read m c t b) (gv_scr m c t _ _ _ _ _ b) _)
  refine row_cons 5 _ _ _ q b _ (fun h => ?_) (fun n5 => ?_)
  · exact (loop5 _ _ _ _ _ _ _ _ _ _ _ _ _ _ _ _ _ _ _ _ _ _ _ _ _ (fun a b => zero_init a b) _ b).trans (corr_at m c t q b 5 6 h rfl _ _ (dy_read m c t b) (gv_scr m c t _ _ _ _ _ b) _)
  refine row_cons 4 _ _ _ q b _ (fun h => ?_) (fun n4 => ?_)
  · exact (loop4 _ _ _ _ _ _ _ _ _ _ _ _ _ _ _ _ _ _ _ _ _ _ _ _ _ (fun a b => zero_init a b) _ b).trans (corr_at m c t q b 4 5 h rfl _ _ (dy_read m c t b) (gv_scr m c t _ _ _ _ _ b) _)
  refine row_cons 3 _ _ _ q b _ (fun h => ?_) (fun n3 => ?_)
  · exact (loop3 _ _ _ _ _ _ _ _ _ _ _ _ _ _ _ _ _ _ _ _ _ _ _ _ _ (fun a b => zero_init a b) _ b).trans (corr_at m c t q b 3 4 h rfl _ _ (dy_read m c t b) (gv_scr m c t _ _ _ _ _ b) _)
  refine row_cons 2 _ _ _ q b _ (fun h => ?_) (fun n2 => ?_)
  · exact (loop2 _ _ _ _ _ _ _ _ _ _ _ _ _ _ _ _ _ _ _ _ _ _ _ _ _ (fun a b => zero_init a b) _ _ b).trans (corr_at m c t q b 2 3 h rfl _ _ (dy_read m c t b) (gv_scr m c t _ _ _ _ _ b) _)
  refine row_cons 1 _ _ _ q b _ (fun h => ?_) (fun n1 => ?_)
  · exact (loop1 _ _ _ _ _ _ _ _ _ _ _ _ _ _ _ _ _ _ _ _ _ _ _ _ _ (fun a b => zero_init a b) _ _ b).trans (corr_at m c t q b 1 2 h rfl _ _ (dy_read m c t b) (gv_scr m c t _ _ _ _ _ b) _)
  refine row_cons 0 _ _ _ q b _ (fun h => ?_) (fun n0 => ?_)
  · exact (loop0 _ _ _ _ _ _ _ _ _ _ _ _ _ _ _ _ _ _ _ _ _ _ _ _ _ (fun a b => zero_init a b) _ _ b).trans (corr_at m c t q b 0 1 h rfl _ _ (dy_read m c t b) (gv_scr m c t _ _ _ _ _ b) _)
  omega

/-- The array of the value's gradient. -/
theorem final4 (c : Dev nD) : (dats m 0 c).arrAt 4 (cfgs 0).N = val_main_v583 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨i, a, b, rfl⟩ : ∃ (i a : Fin 64) (b : Fin 128), y = (ix3 i a b : S64x64x128.Idx) := ⟨y 0, y 1, y 2, by blk_ext⟩
  have e : ((cfg0.win 4).blk t).view.emb (ix3 i a b : S64x64x128.Idx) = (ix3 i a (col t b) : S64x64x1024.Idx) := by
    blk_ext [idx t, col]
  blk_simp
  rw [after0_4, e]
  exact (out4_at m c t i a b).trans (v583_at (A0 m c) (A1 m c) (A2 m c) i a (col t b)).symm

/-- The array of the gate's gradient. -/
theorem final5 (c : Dev nD) : (dats m 0 c).arrAt 5 (cfgs 0).N = val_main_v584 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨i, a, b, rfl⟩ : ∃ (i a : Fin 64) (b : Fin 128), y = (ix3 i a b : S64x64x128.Idx) := ⟨y 0, y 1, y 2, by blk_ext⟩
  have e : ((cfg0.win 5).blk t).view.emb (ix3 i a b : S64x64x128.Idx) = (ix3 i a (col t b) : S64x64x1024.Idx) := by
    blk_ext [idx t, col]
  blk_simp
  rw [after0_5, e]
  exact (out5_at m c t i a b).trans (v584_at (A0 m c) (A1 m c) (A2 m c) i a (col t b)).symm

/-- The array of the weights' gradient. -/
theorem final6 (c : Dev nD) : (dats m 0 c).arrAt 6 (cfgs 0).N = val_main_v574 (F := Ideal) (m ((c : Thread nD τ).loc main_arg0)) (m ((c : Thread nD τ).loc main_arg2)) := by
  refine (dats m 0 c).arrAt_eq_of_covers 6 _ (by decide +kernel) fun t _ y => ?_
  obtain ⟨q, b, rfl⟩ : ∃ (q : Fin 31) (b : Fin 128), y = (ix2 q b : S31x128.Idx) := ⟨y 0, y 1, by blk_ext⟩
  have e : ((cfg0.win 6).blk t).view.emb (ix2 q b : S31x128.Idx) = (ix2 q (col t b) : S31x1024.Idx) := by
    blk_ext [idx t, col]
  blk_simp
  rw [after0_6, e]
  exact (out6_at m c t q b).trans (dw_at (A0 m c) (A2 m c) q (col t b)).symm

end Cert.KernelIdeal.Final
end
-- ==== Proof.Mlp2BwdX.lean ====
/-
  The gradient that reaches the MLP's hidden layer, and the gradient of its first bias: the product of the cotangent
  with the second weight, times twice the rectified activation, and its column sums accumulated over the row blocks.
-/
module

public import proofs.«01_k».proof.Proof.Gen.Mlp2BwdXIdeal.Value
public import proofs.«01_k».proof.Proof.Gen.Mlp2BwdXRefIdeal.Run
public import proofs.«01_k».proof.Proof.Gen.Mlp2BwdXRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mlp2BwdXIdeal.Final

open Cert.Mlp2BwdXIdeal Cert.Mlp2BwdXIdeal.Gen

variable (m : (ℓ : Loc nD τ sig) → Buf (Elt Ideal) ℓ) (ρ : Dev nD → PrngReg)

open Cert.Mlp2BwdXRefIdeal.Read

/-- The reference's two results over the kernel's five arguments. -/
abbrev REF0 (u : FVec Ideal S4096x4096 .f32) (w1 : FVec Ideal S4096x16384 .f32) (b : FVec Ideal S16384 .f32)
    (w2 : FVec Ideal S16384x4096 .f32) (dy : FVec Ideal S4096x4096 .f32) : FVec Ideal S4096x16384 .bf16 :=
  val_main_v19 (F := Ideal) u w1 b w2 dy
abbrev REF1 (u : FVec Ideal S4096x4096 .f32) (w1 : FVec Ideal S4096x16384 .f32) (b : FVec Ideal S16384 .f32)
    (w2 : FVec Ideal S16384x4096 .f32) (dy : FVec Ideal S4096x4096 .f32) : FVec Ideal S1x16384 .f32 :=
  val_main_v20 (F := Ideal) u w1 b w2 dy

/-- The hidden activation after the rectifier, as the reference computes it. -/
abbrev HID (u : FVec Ideal S4096x4096 .f32) (w : FVec Ideal S4096x16384 .f32) (b : FVec Ideal S16384 .f32) :
    S4096x16384.Idx → EReal :=
  val_main_v4 (F := Ideal) u w b

/-- The windows' block indices at a point. -/
theorem idx : ∀ t : Fin cfg0.N, win0_0.index t = ![t.val % 4, 0] ∧ win0_1.index t = ![t.val / 4, 0]
    ∧ win0_2.index t = ![t.val % 4, t.val / 4] ∧ win0_3.index t = ![t.val % 4, t.val / 4] ∧ win0_4.index t = ![0, t.val / 4] :=
  (by decide +kernel : ∀ t : Fin grid0.N, _)

/-- The arrays the windows read: the cotangent, the second weight and the hidden activation, each rounded (the identity
    on the extended reals). -/
theorem entry0 (c : Dev nD) : (V m c main_v6 : S4096x4096.Idx → EReal) = (m ((c : Thread nD τ).loc main_arg4) : S4096x4096.Idx → EReal) := by
  entry_read; rfl
theorem entry1 (c : Dev nD) : (V m c main_v7 : S16384x4096.Idx → EReal) = (m ((c : Thread nD τ).loc main_arg3) : S16384x4096.Idx → EReal) := by
  entry_read; rfl
theorem entry2 (c : Dev nD) : (V m c main_v5 : S4096x16384.Idx → EReal)
    = HID (m ((c : Thread nD τ).loc main_arg0)) (m ((c : Thread nD τ).loc main_arg1)) (m ((c : Thread nD τ).loc main_arg2)) := by
  entry_read; rfl

/-- The inputs' blocks at a point. -/
theorem blk0 (c : Dev nD) (t : Fin cfg0.N) (a : Fin 1024) (k : Fin 4096) (h : t.val % 4 * 1024 + a.val < 4096) :
    (iblk m c 0 t (ix2 a k) : EReal) = (m ((c : Thread nD τ).loc main_arg4) : S4096x4096.Idx → EReal) (ix2 ⟨t.val % 4 * 1024 + a.val, h⟩ k) := by
  rw [← entry0 m c]
  blk_ext [iblk, idx t]
theorem blk1 (c : Dev nD) (t : Fin cfg0.N) (b : Fin 1024) (k : Fin 4096) (h : t.val / 4 * 1024 + b.val < 16384) :
    (iblk m c 1 t (ix2 b k) : EReal) = (m ((c : Thread nD τ).loc main_arg3) : S16384x4096.Idx → EReal) (ix2 ⟨t.val / 4 * 1024 + b.val, h⟩ k) := by
  rw [← entry1 m c]
  blk_ext [iblk, idx t]
theorem blk2 (c : Dev nD) (t : Fin cfg0.N) (a b : Fin 1024) (h : t.val % 4 * 1024 + a.val < 4096) (h' : t.val / 4 * 1024 + b.val < 16384) :
    (iblk m c 2 t (ix2 a b) : EReal) = HID (m ((c : Thread nD τ).loc main_arg0)) (m ((c : Thread nD τ).loc main_arg1))
      (m ((c : Thread nD τ).loc main_arg2)) (ix2 ⟨t.val % 4 * 1024 + a.val, h⟩ ⟨t.val / 4 * 1024 + b.val, h'⟩) := by
  rw [← entry2 m c]
  blk_ext [iblk, idx t]

/-- The factor of the square's derivative. -/
abbrev TWO : EReal := Ideal.ofBits FTy.f32 0x40000000#32

/-- The gradient that reaches the hidden layer, at an index, as the kernel writes it: where the rectifier is closed its
    value is zero, and so is the product. -/
abbrev DH (u : FVec Ideal S4096x4096 .f32) (w1 : FVec Ideal S4096x16384 .f32) (b : FVec Ideal S16384 .f32)
    (w2 : FVec Ideal S16384x4096 .f32) (dy : FVec Ideal S4096x4096 .f32) (j : S4096x16384.Idx) : EReal :=
  (∑ k : Fin 4096, (dy (ix2 (j 0) k) : EReal) * (w2 (ix2 (j 1) k) : EReal)) * (TWO * HID u w1 b j)

/-- Choosing zero where the rectifier is closed changes nothing: the product is zero there. -/
theorem gate (p z two : EReal) :
    Scalar.select (Ideal.cmp .ogt p (Ideal.ofBits .f32 0x00000000#32)) (z * (two * max p (Ideal.ofBits .f32 0x00000000#32)))
      (Ideal.ofBits .f32 0x00000000#32) = z * (two * max p (Ideal.ofBits .f32 0x00000000#32)) := by
  rw [Ideal.ofBits_zero_f32]
  by_cases h : p ≤ 0
  · rw [max_eq_right h, mul_zero, mul_zero]
    exact ite_self _
  · have e : Ideal.cmp .ogt p 0 = 1 := by simp [Ideal.cmp, lt_of_not_ge h]
    rw [e]; rfl

theorem ref15 (u w1 b w2 dy) (j : S4096x16384.Idx) : (val_main_v15 (F := Ideal) u w1 b w2 dy j : EReal) = DH u w1 b w2 dy j := by
  rw [val_main_v15_apply, val_main_v13_apply, val_main_v12_apply, val_main_v10_apply, val_main_v9_apply, val_main_cst_1_apply,
    val_main_v6_apply, val_main_v5_apply, val_main_cst_apply, val_main_v14_apply, val_main_cst_2_apply, val_main_v4_apply]
  refine (gate _ _ _).trans (congrArg₂ (· * ·) (Fin.sum_fin_congr fun k => ?_) rfl)
  congr 2
  · funext a; apply Fin.ext
    match a with
    | ⟨0, _⟩ => rfl
    | ⟨1, _⟩ => rfl
  · funext a; apply Fin.ext
    match a with
    | ⟨0, _⟩ => rfl
    | ⟨1, _⟩ => rfl

/-- What the product times the activation is, at an index of a point's block. -/
theorem pay1_at (x : Vec Ideal S1024x4096 .bf16) (w : Vec Ideal S1024x4096 .bf16) (r : Vec Ideal S1024x1024 .bf16) (y : S1024x1024.Idx) :
    (k0_pay1 (F := Ideal) x w r y : EReal)
      = (∑ k : Fin 4096, (x (ix2 (y 0) k) : EReal) * (w (ix2 (y 1) k) : EReal)) * (TWO * (r y : EReal)) := by
  pointwise [k0_pay1]

/-- A point's block of the gradient. -/
theorem point (c : Dev nD) (t : Fin cfg0.N) (y : S1024x1024.Idx) (j : S4096x16384.Idx)
    (h0 : (j 0).val = t.val % 4 * 1024 + (y 0).val) (h1 : (j 1).val = t.val / 4 * 1024 + (y 1).val) :
    (k0_pay1 (F := Ideal) (iblk m c 0 t) (iblk m c 1 t) (iblk m c 2 t) y : EReal)
      = val_main_v15 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) j := by
  have ht : t.val < 64 := lt_of_lt_of_eq t.isLt N_0
  have hy0 : (y 0).val < 1024 := (y 0).isLt
  have hy1 : (y 1).val < 1024 := (y 1).isLt
  rw [ref15, pay1_at]
  have b2 := blk2 m c t (y 0) (y 1) (by omega) (by omega)
  refine congrArg₂ (· * ·) (Fin.sum_fin_congr fun k => congrArg₂ (· * ·) ((blk0 m c t (y 0) k (by omega)).trans ?_)
    ((blk1 m c t (y 1) k (by omega)).trans ?_)) (congrArg (TWO * ·) ?_)
  · blk_ext
  · blk_ext
  · refine Eq.trans ?_ (b2.trans ?_)
    · blk_ext
    · blk_ext

/-- The column sums of a point's block. -/
theorem pay3_at (x : Vec Ideal S1024x4096 .bf16) (w : Vec Ideal S1024x4096 .bf16) (r : Vec Ideal S1024x1024 .bf16) (y : S1x1024.Idx) :
    (k0_pay3 (F := Ideal) x w r y : EReal) = ∑ i : Fin 1024, (k0_pay1 (F := Ideal) x w r (ix2 i (y 1)) : EReal) := by
  pointwise [k0_pay3]

/-- The reference's column sums. -/
theorem ref20 (u w1 b w2 dy) (j : S1x16384.Idx) :
    REF1 u w1 b w2 dy j = ∑ i : Fin 4096, (val_main_v15 (F := Ideal) u w1 b w2 dy (ix2 i (j 1)) : EReal) := by
  rw [REF1, val_main_v20_apply, val_main_v18_apply]
  simp only [val_main_v17_apply, val_main_v16_apply, val_main_cst_3_apply, val_main_cst_4_apply]
  show Ideal.ofBits .f32 0x00000000#32 + _ = _
  rw [Ideal.ofBits_zero_f32, zero_add, Fin.sum_univ_one]
  show Ideal.ofBits .f32 0x00000000#32 + _ = _
  rw [Ideal.ofBits_zero_f32, zero_add]
  refine Fin.sum_fin_congr fun k => congrArg _ ?_
  funext a; apply Fin.ext
  match a with
  | ⟨0, _⟩ => rfl
  | ⟨1, _⟩ =>
    have h0 : (j 0).val < 1 := (j 0).isLt
    have h1 : (j 1).val < 16384 := (j 1).isLt
    dsimp [idx_main_v16, idx_main_v17, idx_main_v18, idx_main_v20]
    omega

/-- The array of the gradient. -/
theorem final3 (c : Dev nD) : (dats m 0 c).arrAt 3 (cfgs 0).N = REF0 (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 3 _ (by decide +kernel) fun t _ y => ?_
  have ht : t.val < 64 := lt_of_lt_of_eq t.isLt N_0
  have hy0 : (y 0).val < 1024 := (y 0).isLt
  have hy1 : (y 1).val < 1024 := (y 1).isLt
  blk_simp
  rw [after0_3]
  have e : (outsAt0 m c t.val t.isLt).1 = k0_pay2 (F := Ideal) (iblk m c 0 t) (iblk m c 1 t) (iblk m c 2 t) := by
    by_cases h : t.val % 4 = 0
    · rw [outsAt0_A m c t h (by omega)]; frame_out
    · rw [outsAt0_B m c t h (by omega)]; frame_out
  rw [e]
  refine Eq.trans ?_ (point m c t y _ ?_ ?_)
  · rfl
  · blk_simp [idx t]
  · blk_simp [idx t]

/-- The array of the column sums. -/
theorem final4 (c : Dev nD) : (dats m 0 c).arrAt 4 (cfgs 0).N = REF1 (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 4 _ (by decide +kernel) fun t hf y => ?_
  blk_simp
  have hf3 : t.val % 4 = 3 := (flush0_4 t).mp hf
  have ht : t.val < 64 := lt_of_lt_of_eq t.isLt N_0
  rw [after0_4, Pipeline.eq_sum_fin_of_reset_step_apply_of_flush (fun n h => ((outsAt0 m c n h).2 : S1x1024.Idx → EReal)) 4 (fun _ => 0)
    (fun t y => (k0_pay3 (F := Ideal) (iblk m c 0 t) (iblk m c 1 t) (iblk m c 2 t) y : EReal))
    (fun t h j => by rw [outsAt0_A m c t h (by omega), zero_add]; frame_out)
    (fun t h j => by rw [outsAt0_B m c t h (by omega)]; frame_out; pointwise [k0_pay4]) t hf3 _, zero_add, ref20]
  simp only [pay3_at]
  refine Fin.sum_mul_add_congr fun s k hl => ?_
  have hs := s.isLt
  have hy1 : (y 1).val < 1024 := (y 1).isLt
  refine point m c ⟨_, Pipeline.run_point_lt_of_flush t hf3 s⟩ _ _ ?_ ?_
  · show s.val * 1024 + k.val = (4 * (t.val / 4) + s.val) % 4 * 1024 + k.val
    omega
  · blk_simp [idx t]
    show t.val / 4 * 1024 + (y 1).val = (4 * (t.val / 4) + s.val) / 4 * 1024 + (y 1).val
    omega

end Cert.Mlp2BwdXIdeal.Final
end
-- ==== Proof.Mlp2BwdW.lean ====
/-
  The gradient of the MLP's second weight: the array the pipelined product of the squared hidden activation and
  the cotangent leaves, equal to the reference's contraction over the tokens.
-/
module

public import proofs.«01_k».proof.Proof.Gen.Mlp2BwdWIdeal.Value
public import proofs.«01_k».proof.Proof.Gen.Mlp2BwdWRefIdeal.Run
public import proofs.«01_k».proof.Proof.Gen.Mlp2BwdWRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mlp2BwdWIdeal.Final

open Cert.Mlp2BwdWIdeal Cert.Mlp2BwdWIdeal.Gen

variable (m : (ℓ : Loc nD τ sig) → Buf (Elt Ideal) ℓ) (ρ : Dev nD → PrngReg)

/-- The reference's result over the kernel's four arguments. -/
abbrev REF (u : FVec Ideal S4096x4096 .f32) (w : FVec Ideal S4096x16384 .f32) (b : FVec Ideal S16384 .f32)
    (dy : FVec Ideal S4096x4096 .f32) : FVec Ideal S16384x4096 .f32 :=
  Cert.Mlp2BwdWRefIdeal.Read.val_main_v9 (F := Ideal) u w b dy

/-- The hidden activation after the rectifier, as the reference computes it. -/
abbrev HID (u : FVec Ideal S4096x4096 .f32) (w : FVec Ideal S4096x16384 .f32) (b : FVec Ideal S16384 .f32) :
    S4096x16384.Idx → EReal :=
  Cert.Mlp2BwdWRefIdeal.Read.val_main_v5 (F := Ideal) u w b

/-- The windows' block indices at a point. -/
theorem idx : ∀ t : Fin cfg0.N, win0_0.index t = ![0, t.val % 16] ∧ win0_1.index t = ![0, t.val / 16]
    ∧ win0_2.index t = ![t.val % 16, t.val / 16] :=
  (by decide +kernel : ∀ t : Fin grid0.N, _)

/-- The first window's array: the hidden activation, rounded (the identity on the extended reals). -/
theorem entry0 (c : Dev nD) : (V m c main_v5 : S4096x16384.Idx → EReal)
    = HID (m ((c : Thread nD τ).loc main_arg0)) (m ((c : Thread nD τ).loc main_arg1)) (m ((c : Thread nD τ).loc main_arg2)) := by
  entry_read; rfl

/-- The second window's array: the cotangent, rounded. -/
theorem entry1 (c : Dev nD) : (V m c main_v6 : S4096x4096.Idx → EReal) = (m ((c : Thread nD τ).loc main_arg3) : S4096x4096.Idx → EReal) := by
  entry_read; rfl

/-- The first input's block at a point. -/
theorem blk0 (c : Dev nD) (t : Fin cfg0.N) (k : Fin 4096) (a : Fin 1024) (h : t.val % 16 * 1024 + a.val < 16384) :
    (iblk m c 0 t (ix2 k a) : EReal) = HID (m ((c : Thread nD τ).loc main_arg0)) (m ((c : Thread nD τ).loc main_arg1))
      (m ((c : Thread nD τ).loc main_arg2)) (ix2 k ⟨t.val % 16 * 1024 + a.val, h⟩) := by
  rw [← entry0 m c]
  blk_ext [iblk, idx t]

/-- The second input's block at a point. -/
theorem blk1 (c : Dev nD) (t : Fin cfg0.N) (k : Fin 4096) (b : Fin 1024) (h : t.val / 16 * 1024 + b.val < 4096) :
    (iblk m c 1 t (ix2 k b) : EReal) = (m ((c : Thread nD τ).loc main_arg3) : S4096x4096.Idx → EReal) (ix2 k ⟨t.val / 16 * 1024 + b.val, h⟩) := by
  rw [← entry1 m c]
  blk_ext [iblk, idx t]

/-- The reference's result at an index: the contraction over the tokens. -/
theorem ref_at (u w b dy) (j : S16384x4096.Idx) :
    REF u w b dy j = ∑ k : Fin 4096, (HID u w b (ix2 k (j 0)) * HID u w b (ix2 k (j 0))) * (dy (ix2 k (j 1)) : EReal) := by
  rw [REF, Cert.Mlp2BwdWRefIdeal.Read.val_main_v9_apply, Cert.Mlp2BwdWRefIdeal.Read.val_main_v8_apply]
  refine Fin.sum_fin_congr fun k => ?_
  rw [mul_comm, Cert.Mlp2BwdWRefIdeal.Read.val_main_v6_apply]
  have e0 : Cert.Mlp2BwdWRefIdeal.Read.ridx_main_v8 (Cert.Mlp2BwdWRefIdeal.Read.idx_main_v9 j) k = ix2 k (j 0) := by
    funext a; apply Fin.ext
    match a with
    | ⟨0, _⟩ => rfl
    | ⟨1, _⟩ => rfl
  have e1 : Cert.Mlp2BwdWRefIdeal.Read.lidx_main_v8 (Cert.Mlp2BwdWRefIdeal.Read.idx_main_v9 j) k = ix2 k (j 1) := by
    funext a; apply Fin.ext
    match a with
    | ⟨0, _⟩ => rfl
    | ⟨1, _⟩ => rfl
  rw [e0, e1]
  rfl

/-- What a point stores, at an index of its block, is the reference's result at the index's place in the array. -/
theorem point (c : Dev nD) (t : Fin cfg0.N) (y : S1024x1024.Idx) :
    k0_pay1 (F := Ideal) (iblk m c 0 t) (iblk m c 1 t) y
      = REF (m ((c : Thread nD τ).loc main_arg0)) (m ((c : Thread nD τ).loc main_arg1)) (m ((c : Thread nD τ).loc main_arg2))
          (m ((c : Thread nD τ).loc main_arg3)) (((cfg0.win 2).blk t).view.emb y) := by
  rw [ref_at]
  pointwise [k0_pay1]
  have ht : t.val < 64 := lt_of_lt_of_eq t.isLt N_0
  have h0 : (y 0).val < 1024 := (y 0).isLt
  have h1 : (y 1).val < 1024 := (y 1).isLt
  refine Fin.sum_fin_congr fun k => ?_
  have e0 := (blk0 m c t k (y 0) (by omega))
  refine congrArg₂ (· * ·) (congrArg₂ (· * ·) (e0.trans ?_) (e0.trans ?_)) ((blk1 m c t k (y 1) (by omega)).trans ?_)
  · blk_ext [idx t]
  · blk_ext [idx t]
  · blk_ext [idx t]

/-- The array the product leaves. -/
theorem final (c : Dev nD) : (dats m 0 c).arrAt 2 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 2 _ (by decide +kernel) fun t _ y => ?_
  blk_simp
  rw [after0_2]; unfold outsAt0; frame_out
  exact point m c t y

end Cert.Mlp2BwdWIdeal.Final
end
-- ==== Proof.Mlp1BwdX.lean ====
/-
  The gradient that reaches the MLP's input: each output block is the sum over the four shards of the first weight
  of a product; the four partial products add up to the reference's one contraction.
-/
module

public import proofs.«01_k».proof.Proof.Gen.Mlp1BwdXIdeal.Value
public import proofs.«01_k».proof.Proof.Gen.Mlp1BwdXRefIdeal.Run
public import proofs.«01_k».proof.Proof.Gen.Mlp1BwdXRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mlp1BwdXIdeal.Final

open Cert.Mlp1BwdXIdeal Cert.Mlp1BwdXIdeal.Gen

variable (m : (ℓ : Loc nD τ sig) → Buf (Elt Ideal) ℓ) (ρ : Dev nD → PrngReg)

/-- The reference's result over the kernel's two arguments. -/
abbrev REF (w : FVec Ideal S4096x16384 .f32) (dh : FVec Ideal S4096x16384 .f32) : FVec Ideal S4096x4096 .f32 :=
  Cert.Mlp1BwdXRefIdeal.Read.val_main_v2 (F := Ideal) w dh

/-- The windows' block indices at a point. -/
theorem idx : ∀ t : Fin cfg0.N, win0_0.index t = ![t.val / 4 % 4, t.val % 4] ∧ win0_1.index t = ![t.val % 4, t.val / 16, 0]
    ∧ win0_2.index t = ![t.val / 4 % 4, t.val / 16] :=
  (by decide +kernel : ∀ t : Fin grid0.N, _)

/-- The first window's array: the cotangent, rounded (the identity on the extended reals). -/
theorem entry0 (c : Dev nD) : (V m c main_v0 : S4096x16384.Idx → EReal) = (m ((c : Thread nD τ).loc main_arg1) : S4096x16384.Idx → EReal) := by
  unfold V; after_results <;> rfl

/-- The second window's array: the weight, rounded and cut into four shards of columns. -/
theorem entry1 (c : Dev nD) (a : Fin 4) (r : Fin 4096) (k : Fin 4096) :
    (V m c main_v3 (ix3 a r k) : EReal) = (m ((c : Thread nD τ).loc main_arg0) : S4096x16384.Idx → EReal)
      (ix2 r ⟨a.val * 4096 + k.val, by have := a.isLt; have := k.isLt; show _ < 16384; omega⟩) := by
  unfold V; after_results
  pointwise
  blk_ext

/-- The first input's block at a point. -/
theorem blk0 (c : Dev nD) (t : Fin cfg0.N) (a : Fin 1024) (k : Fin 4096) (h : t.val / 4 % 4 * 1024 + a.val < 4096)
    (hk : t.val % 4 * 4096 + k.val < 16384) :
    (iblk m c 0 t (ix2 a k) : EReal) = (m ((c : Thread nD τ).loc main_arg1) : S4096x16384.Idx → EReal)
      (ix2 ⟨t.val / 4 % 4 * 1024 + a.val, h⟩ ⟨t.val % 4 * 4096 + k.val, hk⟩) := by
  rw [← entry0 m c]
  blk_ext [iblk, idx t]

/-- The second input's block at a point. -/
theorem blk1 (c : Dev nD) (t : Fin cfg0.N) (b : Fin 1024) (k : Fin 4096) (h : t.val / 16 * 1024 + b.val < 4096)
    (hk : t.val % 4 * 4096 + k.val < 16384) :
    (iblk m c 1 t (ix3 0 b k) : EReal) = (m ((c : Thread nD τ).loc main_arg0) : S4096x16384.Idx → EReal)
      (ix2 ⟨t.val / 16 * 1024 + b.val, h⟩ ⟨t.val % 4 * 4096 + k.val, hk⟩) := by
  refine Eq.trans ?_ (entry1 m c ⟨t.val % 4, Nat.mod_lt _ (by decide)⟩ ⟨t.val / 16 * 1024 + b.val, h⟩ k)
  blk_ext [iblk, idx t]

/-- The reference's result at an index: the contraction over the hidden features. -/
theorem ref_at (w dh) (j : S4096x4096.Idx) :
    REF w dh j = ∑ k : Fin 16384, (dh (ix2 (j 0) k) : EReal) * (w (ix2 (j 1) k) : EReal) := by
  rw [REF, Cert.Mlp1BwdXRefIdeal.Read.val_main_v2_apply]
  refine Fin.sum_fin_congr fun k => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- A point's partial product, at an index. -/
theorem part_at (x : Vec Ideal S1024x4096 .bf16) (w : Vec Ideal S1x1024x4096 .bf16) (y : S1024x1024.Idx) :
    (k0_pay1 (F := Ideal) x w y : EReal) = ∑ k : Fin 4096, (x (ix2 (y 0) k) : EReal) * (w (ix3 0 (y 1) k) : EReal) := by
  pointwise [k0_pay1]

/-- What a run keeps as it goes: the scratch, and at the run's last point the output block. -/
def kept (c : Dev nD) (n : ℕ) (h : n < cfg0.N) : S1024x1024.Idx → EReal :=
  if n % 4 = 3 then (outsAt0 m c n h).1 else (outsAt0 m c n h).2

/-- The first point of a run keeps its partial product. -/
theorem kept_first (c : Dev nD) (t : Fin cfg0.N) (h : t.val % 4 = 0) (y : S1024x1024.Idx) :
    kept m c t.val t.isLt y = 0 + (k0_pay1 (F := Ideal) (iblk m c 0 t) (iblk m c 1 t) y : EReal) := by
  rw [kept, if_neg (by omega), outsAt0_A m c t h (by omega) (by omega), zero_add]
  frame_out
  pointwise [k0_pay2]

/-- Every other point adds its partial product to what the run kept. -/
theorem kept_next (c : Dev nD) (t : Fin cfg0.N) (h : ¬t.val % 4 = 0) (y : S1024x1024.Idx) :
    kept m c t.val t.isLt y = kept m c (t.val - 1) (Nat.lt_of_le_of_lt (Nat.sub_le _ _) t.isLt) y
      + (k0_pay1 (F := Ideal) (iblk m c 0 t) (iblk m c 1 t) y : EReal) := by
  rw [kept, kept, if_neg (show ¬(t.val - 1) % 4 = 3 by omega)]
  by_cases h3 : t.val % 4 = 3
  · rw [if_pos h3, outsAt0_C m c t h (by omega) h3]
    frame_out
    pointwise [k0_pay4]
    exact congrArg (· + (k0_pay1 (F := Ideal) (iblk m c 0 t) (iblk m c 1 t) y : EReal)) (congrFun (read_unread_whole (Val := Elt Ideal) cc0_scratch0 _ (outsAt0 m c (t.val - 1) _).2) y)
  · rw [if_neg h3, outsAt0_B m c t h (by omega) h3]
    frame_out
    pointwise [k0_pay3]
    exact congrArg (· + (k0_pay1 (F := Ideal) (iblk m c 0 t) (iblk m c 1 t) y : EReal)) (congrFun (read_unread_whole (Val := Elt Ideal) cc0_scratch0 _ (outsAt0 m c (t.val - 1) _).2) y)

/-- The array the product leaves. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hf3 : t.val % 4 = 3 := (flush0_2 t).mp hf
  have hy0 : (y 0).val < 1024 := (y 0).isLt
  have hy1 : (y 1).val < 1024 := (y 1).isLt
  have ht : t.val < 64 := lt_of_lt_of_eq t.isLt N_0
  rw [after0_2]
  have e : (outsAt0 m c t.val t.isLt).1 = kept m c t.val t.isLt := by rw [kept, if_pos hf3]
  rw [e, Pipeline.eq_sum_fin_of_reset_step_apply_of_flush (fun n h => kept m c n h) 4 (fun _ => 0)
    (fun t y => (k0_pay1 (F := Ideal) (iblk m c 0 t) (iblk m c 1 t) y : EReal))
    (kept_first m c) (kept_next m c) t hf3 _, zero_add, ref_at]
  simp only [part_at]
  refine Fin.sum_mul_add_congr fun s k hl => ?_
  have hs := s.isLt
  have hp := Pipeline.run_point_lt_of_flush t hf3 s
  refine congrArg₂ (· * ·) ((blk0 m c ⟨_, hp⟩ (y 0) k (by dsimp only; omega) (by dsimp only; omega)).trans ?_)
    ((blk1 m c ⟨_, hp⟩ (y 1) k (by dsimp only; omega) (by dsimp only; omega)).trans ?_)
  · blk_ext [idx t]
  · blk_ext [idx t]

end Cert.Mlp1BwdXIdeal.Final
end
-- ==== Proof.Mlp1BwdW.lean ====
/-
  The gradient of the MLP's first weight: the array the pipelined product leaves, equal to the reference's
  contraction, reshaped and transposed into the four shards.
-/
module

public import proofs.«01_k».proof.Proof.Gen.Mlp1BwdWIdeal.Value
public import proofs.«01_k».proof.Proof.Gen.Mlp1BwdWRefIdeal.Run
public import proofs.«01_k».proof.Proof.Gen.Mlp1BwdWRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mlp1BwdWIdeal.Final

open Cert.Mlp1BwdWIdeal Cert.Mlp1BwdWIdeal.Gen

variable (m : (ℓ : Loc nD τ sig) → Buf (Elt Ideal) ℓ) (ρ : Dev nD → PrngReg)

/-- The reference's result over the kernel's two arguments. -/
abbrev REF (u : FVec Ideal S4096x4096 .f32) (dh : FVec Ideal S4096x16384 .f32) : FVec Ideal S4x4096x4096 .f32 :=
  Cert.Mlp1BwdWRefIdeal.Read.val_main_v5 (F := Ideal) u dh

/-- The windows' block indices at a point. -/
theorem idx : ∀ t : Fin cfg0.N, win0_0.index t = ![0, t.val % 4] ∧ win0_1.index t = ![0, t.val / 4]
    ∧ win0_2.index t = ![t.val / 16, t.val % 4, t.val / 4 % 4] :=
  (by decide +kernel : ∀ t : Fin grid0.N, _)

/-- The first window's array: the activations, rounded (the identity on the extended reals). -/
theorem entry0 (c : Dev nD) : (V m c main_v0 : S4096x4096.Idx → EReal) = (m ((c : Thread nD τ).loc main_arg0) : S4096x4096.Idx → EReal) := by
  unfold V; after_results <;> rfl

/-- The second window's array: the cotangent, rounded. -/
theorem entry1 (c : Dev nD) : (V m c main_v1 : S4096x16384.Idx → EReal) = (m ((c : Thread nD τ).loc main_arg1) : S4096x16384.Idx → EReal) := by
  unfold V; after_results <;> rfl

/-- The first input's block at a point. -/
theorem blk0 (c : Dev nD) (t : Fin cfg0.N) (k : Fin 4096) (a : Fin 1024) (h : t.val % 4 * 1024 + a.val < 4096) :
    (iblk m c 0 t (ix2 k a) : EReal) = (m ((c : Thread nD τ).loc main_arg0) : S4096x4096.Idx → EReal) (ix2 k ⟨t.val % 4 * 1024 + a.val, h⟩) := by
  rw [← entry0 m c]
  blk_ext [iblk, idx t]

/-- The second input's block at a point. -/
theorem blk1 (c : Dev nD) (t : Fin cfg0.N) (k : Fin 4096) (b : Fin 1024) (h : t.val / 4 * 1024 + b.val < 16384) :
    (iblk m c 1 t (ix2 k b) : EReal) = (m ((c : Thread nD τ).loc main_arg1) : S4096x16384.Idx → EReal) (ix2 k ⟨t.val / 4 * 1024 + b.val, h⟩) := by
  rw [← entry1 m c]
  blk_ext [iblk, idx t]

/-- The reference's result at an index: the contraction over the tokens. -/
theorem ref_at (u : FVec Ideal S4096x4096 .f32) (dh : FVec Ideal S4096x16384 .f32) (j : S4x4096x4096.Idx) :
    REF u dh j = ∑ k : Fin 4096, u (ix2 k (j 1)) * dh (ix2 k ⟨(j 0).val * 4096 + (j 2).val, by
      have h0 : (j 0).val < 4 := (j 0).isLt; have h2 : (j 2).val < 4096 := (j 2).isLt; show _ < 16384; omega⟩) := by
  rw [REF, Cert.Mlp1BwdWRefIdeal.Read.val_main_v5_apply, Cert.Mlp1BwdWRefIdeal.Read.val_main_v4_apply,
    Cert.Mlp1BwdWRefIdeal.Read.val_main_v3_apply, Cert.Mlp1BwdWRefIdeal.Read.val_main_v2_apply]
  refine Fin.sum_fin_congr fun k => ?_
  rw [mul_comm]
  have h0 : (j 0).val < 4 := (j 0).isLt
  have h1 : (j 1).val < 4096 := (j 1).isLt
  have h2 : (j 2).val < 4096 := (j 2).isLt
  congr 2
  · funext a; apply Fin.ext
    match a with
    | ⟨0, _⟩ => rfl
    | ⟨1, _⟩ => show (((j 1).val * 4 + (j 0).val) * 4096 + (j 2).val) / 16384 = (j 1).val; omega
  · funext a; apply Fin.ext
    match a with
    | ⟨0, _⟩ => rfl
    | ⟨1, _⟩ => show (((j 1).val * 4 + (j 0).val) * 4096 + (j 2).val) % 16384 = (j 0).val * 4096 + (j 2).val; omega

/-- What a point stores, at an index of its block, is the reference's result at the index's place in the array. -/
theorem point (c : Dev nD) (t : Fin cfg0.N) (y : S1x1024x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  rw [ref_at]
  pointwise [k0_pay1]
  have ht : t.val < 64 := lt_of_lt_of_eq t.isLt N_0
  have h1 : (y 1).val < 1024 := (y 1).isLt
  have h2 : (y 2).val < 1024 := (y 2).isLt
  refine Fin.sum_fin_congr fun k => ?_
  refine congrArg₂ (· * ·) ((blk0 m c t k (y 1) (by omega)).trans ?_) ((blk1 m c t k (y 2) (by omega)).trans ?_)
  · blk_ext [idx t]
  · blk_ext [idx t]

/-- The array the product leaves. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.Mlp1BwdWIdeal.Final
end
-- ==== Proof.Packed.lean ====
/-
  The input projection's column order. The kernel lays the 12352 columns out as the first 8192, then the last 4096,
  then the 64 in between, then 448 columns of zeros. `packed f` is a family over the 12352 columns in that order.
-/
module

public import Idealize.ShloMosaic.Lib.Pipeline.ValueKit

@[expose] public section

noncomputable section

namespace Cert.Packed

/-- A family over the columns, read at a place of the kernel's order. -/
def packed (f : Fin 12352 → EReal) (r : Fin 12800) : EReal :=
  if h : r.val < 8192 then f ⟨r.val, by omega⟩
  else if h : r.val < 12288 then f ⟨r.val + 64, by omega⟩
  else if h : r.val < 12352 then f ⟨r.val - 4096, by omega⟩
  else 0

/-- A value is the packed family at a place if it is so in each of the four pieces. -/
theorem eq_packed (f : Fin 12352 → EReal) (r : Fin 12800) (v : EReal)
    (h1 : ∀ h : r.val < 8192, v = f ⟨r.val, by omega⟩)
    (h2 : ∀ (g : ¬r.val < 8192) (h : r.val < 12288), v = f ⟨r.val + 64, by omega⟩)
    (h3 : ∀ (g : ¬r.val < 12288) (h : r.val < 12352), v = f ⟨r.val - 4096, by omega⟩)
    (h4 : ¬r.val < 12352 → v = 0) : v = packed f r := by
  unfold packed; split_ifs with g1 g2 g3
  exacts [h1 g1, h2 g1 g2, h3 g2 g3, h4 g3]

/-- Two packed families multiplied place by place: the zeros meet zeros. -/
theorem packed_mul (f g : Fin 12352 → EReal) (r : Fin 12800) :
    packed f r * packed g r = packed (fun q => f q * g q) r := by
  unfold packed; split_ifs <;> simp

/-- A contraction whose left factors are packed is the packed contraction. -/
theorem sum_packed_mul {n : ℕ} (f : Fin n → Fin 12352 → EReal) (g : Fin n → EReal) (r : Fin 12800) :
    ∑ s, packed (f s) r * g s = packed (fun q => ∑ s, f s q * g s) r := by
  unfold packed; split_ifs <;> simp

/-- A contraction whose right factors are packed is the packed contraction. -/
theorem sum_mul_packed {n : ℕ} (f : Fin n → Fin 12352 → EReal) (g : Fin n → EReal) (r : Fin 12800) :
    ∑ s, g s * packed (f s) r = packed (fun q => ∑ s, g s * f s q) r := by
  unfold packed; split_ifs <;> simp

/-- The sum over the kernel's order is the sum over the columns: the pieces change place, and the tail adds zeros. -/
theorem sum_packed (h : Fin 12352 → EReal) : ∑ r, packed h r = ∑ q, h q := by
  let H : ℕ → EReal := fun n => if hn : n < 12352 then h ⟨n, hn⟩ else 0
  have hH : ∀ (n : ℕ) (hn : n < 12352), H n = h ⟨n, hn⟩ := fun n hn => dif_pos hn
  have eH : ∑ q, h q = ∑ n ∈ Finset.range (8192 + 64 + 4096), H n := by
    rw [Finset.sum_range (n := 8192 + 64 + 4096)]
    exact Finset.sum_congr rfl fun q _ => (hH q.val q.isLt).symm
  let G : ℕ → EReal := fun n => if n < 8192 then H n else if n < 12288 then H (n + 64) else if n < 12352 then H (n - 4096) else 0
  have eG : ∑ r, packed h r = ∑ n ∈ Finset.range (8192 + 4096 + 64 + 448), G n := by
    rw [Finset.sum_range (n := 8192 + 4096 + 64 + 448)]
    refine Finset.sum_congr rfl fun r _ => ?_
    have hr := r.isLt
    simp only [packed, G]
    split_ifs with h1 h2 h3
    · exact (hH _ (show r.val < 12352 by omega)).symm
    · exact (hH _ (show r.val + 64 < 12352 by omega)).symm
    · exact (hH _ (show r.val - 4096 < 12352 by omega)).symm
    · rfl
  rw [eH, eG, Finset.sum_range_add, Finset.sum_range_add, Finset.sum_range_add, Finset.sum_range_add, Finset.sum_range_add]
  have g0 : ∑ n ∈ Finset.range 8192, G n = ∑ n ∈ Finset.range 8192, H n :=
    Finset.sum_congr rfl fun n hn => if_pos (Finset.mem_range.mp hn)
  have g1 : ∑ n ∈ Finset.range 4096, G (8192 + n) = ∑ n ∈ Finset.range 4096, H (8192 + 64 + n) :=
    Finset.sum_congr rfl fun n hn => by
      have := Finset.mem_range.mp hn
      simp only [G]
      rw [if_neg (by omega), if_pos (by omega)]
      exact congrArg H (by omega)
  have g2 : ∑ n ∈ Finset.range 64, G (8192 + 4096 + n) = ∑ n ∈ Finset.range 64, H (8192 + n) :=
    Finset.sum_congr rfl fun n hn => by
      have := Finset.mem_range.mp hn
      simp only [G]
      rw [if_neg (by omega), if_neg (by omega), if_pos (by omega)]
      exact congrArg H (by omega)
  have g3 : ∑ n ∈ Finset.range 448, G (8192 + 4096 + 64 + n) = 0 :=
    Finset.sum_eq_zero fun n hn => by
      have := Finset.mem_range.mp hn
      simp only [G]
      rw [if_neg (by omega), if_neg (by omega), if_neg (by omega)]
  rw [g0, g1, g2, g3, add_zero]
  exact add_right_comm _ _ _

/-- The contraction of two packed families. -/
theorem sum_packed_mul_packed (f g : Fin 12352 → EReal) :
    ∑ r, packed f r * packed g r = ∑ q, f q * g q :=
  (Finset.sum_congr rfl fun r _ => packed_mul f g r).trans (sum_packed _)

end Cert.Packed
end
-- ==== Proof.InBwdX.lean ====
/-
  The gradient of the input projection by its input: the array the pipelined product leaves, equal to the reference's
  contraction over the projected columns; the kernel contracts them in the packed order, with a tail of zeros.
-/
module

public import proofs.«01_k».proof.Proof.Gen.InBwdXIdeal.Value
public import proofs.«01_k».proof.Proof.Gen.InBwdXRefIdeal.Run
public import proofs.«01_k».proof.Proof.Gen.InBwdXRefIdeal.Read
public import Idealize.ShloMosaic.Lib.Pipeline.ValueKit
public import Idealize.ShloMosaic.Lib.Claim
public import proofs.«01_k».proof.Proof.Packed
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InBwdXIdeal.Final

open Cert.InBwdXIdeal Cert.InBwdXIdeal.Gen Cert.Packed

variable (m : (ℓ : Loc nD τ sig) → Buf (Elt Ideal) ℓ) (ρ : Dev nD → PrngReg)

/-- The reference's result over the kernel's two arguments. -/
abbrev REF (w : FVec Ideal S4096x12352 .f32) (d : FVec Ideal S4352x12352 .f32) : FVec Ideal S4352x4096 .f32 :=
  Cert.InBwdXRefIdeal.Read.val_main_v2 (F := Ideal) w d

/-- The windows' block indices at a point. -/
theorem idx : ∀ t : Fin cfg0.N, win0_0.index t = ![t.val / 5 % 4, t.val % 5] ∧ win0_1.index t = ![t.val % 5, t.val / 20]
    ∧ win0_2.index t = ![0, t.val / 20] ∧ win0_3.index t = ![t.val / 5 % 4, t.val / 20] :=
  (by decide +kernel : ∀ t : Fin grid0.N, _)

/-- The transposed weight's rows packed by slicing and joining. -/
def pkr (x : S4096x12352.Idx → EReal) : S12800x4096.Idx → EReal :=
  concatenate S12800x4096 0 [⟨S8192x4096, extractStridedSlice S8192x4096 ![0, 0] (transpose S12352x4096 [1, 0] x transposes_S4096x12352_S12352x4096_1_0) slices_S12352x4096_S8192x4096_0_0⟩,
    ⟨S4096x4096, extractStridedSlice S4096x4096 ![8256, 0] (transpose S12352x4096 [1, 0] x transposes_S4096x12352_S12352x4096_1_0) slices_S12352x4096_S4096x4096_8256_0⟩,
    ⟨S64x4096, extractStridedSlice S64x4096 ![8192, 0] (transpose S12352x4096 [1, 0] x transposes_S4096x12352_S12352x4096_1_0) slices_S12352x4096_S64x4096_8192_0⟩,
    ⟨S448x4096, broadcastInDim S448x4096 ![] bcast_S_S448x4096 (constant (F := Ideal) S_ .bf16 0x0000#16)⟩]
    concatenates_S8192x4096_S4096x4096_S64x4096_S448x4096_S12800x4096_d0

/-- The packed rows at an index. -/
theorem pkr_at (x : S4096x12352.Idx → EReal) (r : Fin 12800) (s : Fin 4096) : pkr x (ix2 r s) = packed (fun q => x (ix2 s q)) r := by
  unfold pkr
  pointwise
  have hr := r.isLt
  refine eq_packed _ _ _ (fun h => ?_) (fun g h => ?_) (fun g h => ?_) (fun g => ?_)
  · rw [dif_pos h]; blk_ext
  · rw [dif_neg g, dif_pos (by omega)]; blk_ext
  · rw [dif_neg (by omega), dif_neg (by omega), dif_pos (by omega)]; blk_ext
  · rw [dif_neg (by omega), dif_neg (by omega), dif_neg (by omega)]

/-- The columns packed by slicing and joining. -/
def pkc (x : S4352x12352.Idx → EReal) : S4352x12800.Idx → EReal :=
  concatenate S4352x12800 1 [⟨S4352x8192, extractStridedSlice S4352x8192 ![0, 0] x slices_S4352x12352_S4352x8192_0_0⟩,
    ⟨S4352x4096, extractStridedSlice S4352x4096 ![0, 8256] x slices_S4352x12352_S4352x4096_0_8256⟩,
    ⟨S4352x64, extractStridedSlice S4352x64 ![0, 8192] x slices_S4352x12352_S4352x64_0_8192⟩,
    ⟨S4352x448, broadcastInDim S4352x448 ![] bcast_S_S4352x448 (constant (F := Ideal) S_ .bf16 0x0000#16)⟩]
    concatenates_S4352x8192_S4352x4096_S4352x64_S4352x448_S4352x12800_d1

/-- The packed columns at an index. -/
theorem pkc_at (x : S4352x12352.Idx → EReal) (s : Fin 4352) (r : Fin 12800) : pkc x (ix2 s r) = packed (fun q => x (ix2 s q)) r := by
  unfold pkc
  pointwise
  have hr := r.isLt
  refine eq_packed _ _ _ (fun h => ?_) (fun g h => ?_) (fun g h => ?_) (fun g => ?_)
  · rw [dif_pos h]; blk_ext
  · rw [dif_neg g, dif_pos (by omega)]; blk_ext
  · rw [dif_neg (by omega), dif_neg (by omega), dif_pos (by omega)]; blk_ext
  · rw [dif_neg (by omega), dif_neg (by omega), dif_neg (by omega)]

/-- The first window's array: the cotangent, rounded (the identity on the extended reals), its columns packed. -/
theorem entry0_fun (c : Dev nD) : (V m c main_v12 : S4352x12800.Idx → EReal) = pkc (m ((c : Thread nD τ).loc main_arg1)) := rfl

/-- The first window's array at an index. -/
theorem entry0 (c : Dev nD) (s : Fin 4352) (r : Fin 12800) : (V m c main_v12 (ix2 s r) : EReal)
    = packed (fun q => (m ((c : Thread nD τ).loc main_arg1) : S4352x12352.Idx → EReal) (ix2 s q)) r :=
  (congrFun (entry0_fun m c) (ix2 s r)).trans (pkc_at _ s r)

/-- The second window's array: the weight transposed, rounded, its rows packed. -/
theorem entry1_fun (c : Dev nD) : (V m c main_v6 : S12800x4096.Idx → EReal) = pkr (m ((c : Thread nD τ).loc main_arg0)) := rfl

/-- The second window's array at an index. -/
theorem entry1 (c : Dev nD) (r : Fin 12800) (s : Fin 4096) : (V m c main_v6 (ix2 r s) : EReal)
    = packed (fun q => (m ((c : Thread nD τ).loc main_arg0) : S4096x12352.Idx → EReal) (ix2 s q)) r :=
  (congrFun (entry1_fun m c) (ix2 r s)).trans (pkr_at _ r s)

/-- The bias row is zero. -/
theorem entry2 (c : Dev nD) (j : S1x4096.Idx) : (V m c main_v13 j : EReal) = (0 : EReal) := by
  unfold V; after_results
  exact Ideal.ofBits_zero_f32

/-- The bias row's block is zero. -/
theorem blk2 (c : Dev nD) (t : Fin cfg0.N) (j : S1x1024.Idx) : (iblk m c 2 t j : EReal) = (0 : EReal) :=
  entry2 m c _

/-- The first input's block at a point. -/
theorem blk0 (c : Dev nD) (t : Fin cfg0.N) (a : Fin 1088) (k : Fin 2560) (h : t.val / 5 % 4 * 1088 + a.val < 4352)
    (hk : t.val % 5 * 2560 + k.val < 12800) :
    (iblk m c 0 t (ix2 a k) : EReal)
      = packed (fun q => (m ((c : Thread nD τ).loc main_arg1) : S4352x12352.Idx → EReal) (ix2 ⟨t.val / 5 % 4 * 1088 + a.val, h⟩ q))
        ⟨t.val % 5 * 2560 + k.val, hk⟩ := by
  rw [← entry0 m c]
  blk_ext [iblk, idx t]

/-- The second input's block at a point. -/
theorem blk1 (c : Dev nD) (t : Fin cfg0.N) (b : Fin 1024) (k : Fin 2560) (h : t.val / 20 * 1024 + b.val < 4096)
    (hk : t.val % 5 * 2560 + k.val < 12800) :
    (iblk m c 1 t (ix2 k b) : EReal)
      = packed (fun q => (m ((c : Thread nD τ).loc main_arg0) : S4096x12352.Idx → EReal) (ix2 ⟨t.val / 20 * 1024 + b.val, h⟩ q))
        ⟨t.val % 5 * 2560 + k.val, hk⟩ := by
  rw [← entry1 m c]
  blk_ext [iblk, idx t]

/-- The reference's result at an index. -/
theorem ref_at (w d) (j : S4352x4096.Idx) : (REF w d j : EReal)
    = ∑ q : Fin 12352, (d (ix2 (j 0) q) : EReal) * (w (ix2 (j 1) q) : EReal) := by
  rw [REF, Cert.InBwdXRefIdeal.Read.val_main_v2_apply]
  refine Fin.sum_fin_congr fun s => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- A point's partial product, at an index. -/
theorem part_at (x : Vec Ideal S1088x2560 .bf16) (w : Vec Ideal S2560x1024 .bf16) (y : S1088x1024.Idx) :
    (k0_pay1 (F := Ideal) x w y : EReal) = ∑ k : Fin 2560, (x (ix2 (y 0) k) : EReal) * (w (ix2 k (y 1)) : EReal) := by
  pointwise [k0_pay1]

/-- What a run keeps as it goes: the scratch, and at the run's last point the output block. -/
def kept (c : Dev nD) (n : ℕ) (h : n < cfg0.N) : S1088x1024.Idx → EReal :=
  if n % 5 = 4 then (outsAt0 m c n h).1 else (outsAt0 m c n h).2

/-- The first point of a run keeps its partial product. -/
theorem kept_first (c : Dev nD) (t : Fin cfg0.N) (h : t.val % 5 = 0) (y : S1088x1024.Idx) :
    kept m c t.val t.isLt y = 0 + (k0_pay1 (F := Ideal) (iblk m c 0 t) (iblk m c 1 t) y : EReal) := by
  rw [kept, if_neg (by omega), outsAt0_A m c t h (by omega) (by omega), zero_add]
  frame_out
  pointwise [k0_pay2]

/-- Every other point adds its partial product (the last one the zero bias too). -/
theorem kept_next (c : Dev nD) (t : Fin cfg0.N) (h : ¬t.val % 5 = 0) (y : S1088x1024.Idx) :
    kept m c t.val t.isLt y = kept m c (t.val - 1) (Nat.lt_of_le_of_lt (Nat.sub_le _ _) t.isLt) y
      + (k0_pay1 (F := Ideal) (iblk m c 0 t) (iblk m c 1 t) y : EReal) := by
  rw [kept, kept, if_neg (show ¬(t.val - 1) % 5 = 4 by omega)]
  by_cases h3 : t.val % 5 = 4
  · rw [if_pos h3, outsAt0_C m c t h (by omega) h3]
    frame_out
    pointwise [k0_pay4]
    refine (congrArg₂ (fun a b : EReal => a + b) (congrArg (· + (k0_pay1 (F := Ideal) (iblk m c 0 t) (iblk m c 1 t) y : EReal)) (congrFun (read_unread_whole (Val := Elt Ideal) cc0_scratch0 _ (outsAt0 m c (t.val - 1) _).2) y)) (blk2 m c t _)).trans (add_zero _)
  · rw [if_neg h3, outsAt0_B m c t h (by omega) h3]
    frame_out
    pointwise [k0_pay3]
    exact congrArg (· + (k0_pay1 (F := Ideal) (iblk m c 0 t) (iblk m c 1 t) y : EReal)) (congrFun (read_unread_whole (Val := Elt Ideal) cc0_scratch0 _ (outsAt0 m c (t.val - 1) _).2) y)

/-- The array the product leaves. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  blk_simp
  have hf3 : t.val % 5 = 4 := (flush0_3 t).mp hf
  have hy0 : (y 0).val < 1088 := (y 0).isLt
  have hy1 : (y 1).val < 1024 := (y 1).isLt
  have ht : t.val < 80 := lt_of_lt_of_eq t.isLt N_0
  rw [after0_3]
  have e : ((cfg0.win 3).blk t).view.emb y = (ix2 ⟨t.val / 5 % 4 * 1088 + (y 0).val, by omega⟩ ⟨t.val / 20 * 1024 + (y 1).val, by omega⟩ : S4352x4096.Idx) := by
    blk_ext [idx t]
  have ek : ∀ y, ((outsAt0 m c t.val t.isLt).1 y : EReal) = kept m c t.val t.isLt y := by
    intro y; rw [kept, if_pos hf3]
  rw [e]
  refine (ek _).trans (Eq.trans ?_ (ref_at _ _ _).symm)
  rw [Pipeline.eq_sum_fin_of_reset_step_apply_of_flush (fun n h => kept m c n h) 5 (fun _ => 0)
    (fun t y => (k0_pay1 (F := Ideal) (iblk m c 0 t) (iblk m c 1 t) y : EReal))
    (kept_first m c) (kept_next m c) t hf3 _, zero_add]
  refine Eq.trans ?_ (sum_packed_mul_packed
    (fun q => (m ((c : Thread nD τ).loc main_arg1) : S4352x12352.Idx → EReal) (ix2 ⟨t.val / 5 % 4 * 1088 + (y 0).val, by omega⟩ q))
    (fun q => (m ((c : Thread nD τ).loc main_arg0) : S4096x12352.Idx → EReal) (ix2 ⟨t.val / 20 * 1024 + (y 1).val, by omega⟩ q)))
  simp only [part_at]
  refine Fin.sum_mul_add_congr fun s k hl => ?_
  have hs := s.isLt
  have hp := Pipeline.run_point_lt_of_flush t hf3 s
  refine congrArg₂ (fun a b : EReal => a * b) ((blk0 m c ⟨_, hp⟩ (y 0) k (by dsimp only; omega) (by dsimp only; omega)).trans ?_)
    ((blk1 m c ⟨_, hp⟩ (y 1) k (by dsimp only; omega) (by dsimp only; omega)).trans ?_)
  · refine congrArg₂ packed (funext fun q => congrArg _ (congrArg₂ ix2 (Fin.ext ?_) rfl)) (Fin.ext ?_) <;> dsimp only <;> omega
  · refine congrArg₂ packed (funext fun q => congrArg _ (congrArg₂ ix2 (Fin.ext ?_) rfl)) (Fin.ext ?_) <;> dsimp only <;> omega

end Cert.InBwdXIdeal.Final
end
-- ==== Proof.InBwdW.lean ====
/-
  The gradient of the input projection by its weight: the array the pipelined product leaves, equal to the reference's
  contraction over the tokens, its rows in the packed order.
-/
module

public import proofs.«01_k».proof.Proof.Gen.InBwdWIdeal.Value
public import proofs.«01_k».proof.Proof.Gen.InBwdWRefIdeal.Run
public import proofs.«01_k».proof.Proof.Gen.InBwdWRefIdeal.Read
public import Idealize.ShloMosaic.Lib.Pipeline.ValueKit
public import Idealize.ShloMosaic.Lib.Claim
public import proofs.«01_k».proof.Proof.Packed

@[expose] public section

set_option maxRecDepth 16384

noncomputable section

open Idealize.ShloMosaic Idealize.ShloMosaic.TcCoe Idealize.SL.Sem
open Idealize.ShloMosaic.Pipeline (Dat)

namespace Cert.InBwdWIdeal.Final

open Cert.InBwdWIdeal Cert.InBwdWIdeal.Gen Cert.Packed

variable (m : (ℓ : Loc nD τ sig) → Buf (Elt Ideal) ℓ) (ρ : Dev nD → PrngReg)

/-- The reference's result over the kernel's two arguments. -/
abbrev REF (x : FVec Ideal S4352x4096 .f32) (d : FVec Ideal S4352x12352 .f32) : FVec Ideal S12800x4096 .f32 :=
  Cert.InBwdWRefIdeal.Read.val_main_v9 (F := Ideal) x d

/-- The windows' block indices at a point. -/
theorem idx : ∀ t : Fin cfg0.N, win0_0.index t = ![0, t.val % 20] ∧ win0_1.index t = ![0, t.val / 20]
    ∧ win0_2.index t = ![t.val % 20, t.val / 20] :=
  (by decide +kernel : ∀ t : Fin grid0.N, _)

/-- The columns packed by slicing and joining. -/
def pkc (x : S4352x12352.Idx → EReal) : S4352x12800.Idx → EReal :=
  concatenate S4352x12800 1 [⟨S4352x8192, extractStridedSlice S4352x8192 ![0, 0] x slices_S4352x12352_S4352x8192_0_0⟩,
    ⟨S4352x4096, extractStridedSlice S4352x4096 ![0, 8256] x slices_S4352x12352_S4352x4096_0_8256⟩,
    ⟨S4352x64, extractStridedSlice S4352x64 ![0, 8192] x slices_S4352x12352_S4352x64_0_8192⟩,
    ⟨S4352x448, broadcastInDim S4352x448 ![] bcast_S_S4352x448 (constant (F := Ideal) S_ .bf16 0x0000#16)⟩]
    concatenates_S4352x8192_S4352x4096_S4352x64_S4352x448_S4352x12800_d1

/-- The packed columns at an index. -/
theorem pkc_at (x : S4352x12352.Idx → EReal) (s : Fin 4352) (r : Fin 12800) : pkc x (ix2 s r) = packed (fun q => x (ix2 s q)) r := by
  unfold pkc
  pointwise
  have hr := r.isLt
  refine eq_packed _ _ _ (fun h => ?_) (fun g h => ?_) (fun g h => ?_) (fun g => ?_)
  · rw [dif_pos h]; blk_ext
  · rw [dif_neg g, dif_pos (by omega)]; blk_ext
  · rw [dif_neg (by omega), dif_neg (by omega), dif_pos (by omega)]; blk_ext
  · rw [dif_neg (by omega), dif_neg (by omega), dif_neg (by omega)]

/-- The first window's array: the cotangent, rounded, its columns packed by slicing and joining. -/
theorem entry0_fun (c : Dev nD) : (V m c main_v5 : S4352x12800.Idx → EReal) = pkc (m ((c : Thread nD τ).loc main_arg1)) := rfl

/-- The first window's array: the cotangent, rounded (the identity on the extended reals), its columns packed. -/
theorem entry0 (c : Dev nD) (s : Fin 4352) (r : Fin 12800) : (V m c main_v5 (ix2 s r) : EReal)
    = packed (fun q => (m ((c : Thread nD τ).loc main_arg1) : S4352x12352.Idx → EReal) (ix2 s q)) r := by
  refine (congrFun (entry0_fun m c) (ix2 s r)).trans ?_
  exact pkc_at _ s r

/-- The second window's array: the input, rounded. -/
theorem entry1 (c : Dev nD) : (V m c main_v6 : S4352x4096.Idx → EReal) = (m ((c : Thread nD τ).loc main_arg0) : S4352x4096.Idx → EReal) := by
  unfold V; after_results <;> rfl

/-- The first input's block at a point. -/
theorem blk0 (c : Dev nD) (t : Fin cfg0.N) (a : Fin 640) (k : Fin 4352) (h : t.val % 20 * 640 + a.val < 12800) :
    (iblk m c 0 t (ix2 k a) : EReal)
      = packed (fun q => (m ((c : Thread nD τ).loc main_arg1) : S4352x12352.Idx → EReal) (ix2 k q)) ⟨t.val % 20 * 640 + a.val, h⟩ := by
  rw [← entry0 m c]
  blk_ext [iblk, idx t]

/-- The second input's block at a point. -/
theorem blk1 (c : Dev nD) (t : Fin cfg0.N) (b : Fin 1024) (k : Fin 4352) (h : t.val / 20 * 1024 + b.val < 4096) :
    (iblk m c 1 t (ix2 k b) : EReal) = (m ((c : Thread nD τ).loc main_arg0) : S4352x4096.Idx → EReal) (ix2 k ⟨t.val / 20 * 1024 + b.val, h⟩) := by
  rw [← entry1 m c]
  blk_ext [iblk, idx t]

/-- The reference's product at an index. -/
theorem dot_at (x d) (r : Fin 12352) (k : Fin 4096) : (Cert.InBwdWRefIdeal.Read.val_main_v4 (F := Ideal) x d (ix2 r k) : EReal)
    = ∑ s : Fin 4352, (d (ix2 s r) : EReal) * (x (ix2 s k) : EReal) := by
  rw [Cert.InBwdWRefIdeal.Read.val_main_v4_apply, Cert.InBwdWRefIdeal.Read.val_main_v3_apply, Cert.InBwdWRefIdeal.Read.val_main_v2_apply]
  refine Fin.sum_fin_congr fun s => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- The second slice's index. -/
theorem idx6 (a : Fin 4096) (b : Fin 4096) (h : a.val + 8256 < 12352) :
    Cert.InBwdWRefIdeal.Read.idx_main_v6 (ix2 a b) = ix2 ⟨a.val + 8256, h⟩ b := by
  funext k; apply Fin.ext
  match k with
  | ⟨0, _⟩ => exact Nat.add_comm _ _
  | ⟨1, _⟩ => rfl

/-- The third slice's index. -/
theorem idx7 (a : Fin 64) (b : Fin 4096) (h : a.val + 8192 < 12352) :
    Cert.InBwdWRefIdeal.Read.idx_main_v7 (ix2 a b) = ix2 ⟨a.val + 8192, h⟩ b := by
  funext k; apply Fin.ext
  match k with
  | ⟨0, _⟩ => exact Nat.add_comm _ _
  | ⟨1, _⟩ => rfl

/-- The second piece of the reference's result. -/
theorem at6 (x d) (a : Fin 4096) (b : Fin 4096) (q : Fin 12352) (h : q.val = a.val + 8256) :
    (Cert.InBwdWRefIdeal.Read.val_main_v6 (F := Ideal) x d (ix2 a b) : EReal) = ∑ s : Fin 4352, (d (ix2 s q) : EReal) * (x (ix2 s b) : EReal) := by
  rw [Cert.InBwdWRefIdeal.Read.val_main_v6_apply, idx6 a b (by have := a.isLt; omega),
    show (⟨a.val + 8256, by have := a.isLt; omega⟩ : Fin 12352) = q from Fin.ext h.symm]
  exact dot_at x d q b

/-- The third piece of the reference's result. -/
theorem at7 (x d) (a : Fin 64) (b : Fin 4096) (q : Fin 12352) (h : q.val = a.val + 8192) :
    (Cert.InBwdWRefIdeal.Read.val_main_v7 (F := Ideal) x d (ix2 a b) : EReal) = ∑ s : Fin 4352, (d (ix2 s q) : EReal) * (x (ix2 s b) : EReal) := by
  rw [Cert.InBwdWRefIdeal.Read.val_main_v7_apply, idx7 a b (by have := a.isLt; omega),
    show (⟨a.val + 8192, by have := a.isLt; omega⟩ : Fin 12352) = q from Fin.ext h.symm]
  exact dot_at x d q b

/-- The reference's result at an index: the product's rows, packed. -/
theorem ref_at (x d) (j : S12800x4096.Idx) : (REF x d j : EReal)
    = packed (fun q => ∑ s : Fin 4352, (d (ix2 s q) : EReal) * (x (ix2 s (j 1)) : EReal)) (j 0) := by
  rw [REF]
  unfold Cert.InBwdWRefIdeal.Read.val_main_v9
  pointwise
  have hr : (j 0).val < 12800 := (j 0).isLt
  refine eq_packed _ _ _ (fun h => ?_) (fun g h => ?_) (fun g h => ?_) (fun g => ?_)
  · rw [dif_pos h, Cert.InBwdWRefIdeal.Read.val_main_v5_apply]
    refine Eq.trans (congrArg _ ?_) (dot_at x d ⟨(j 0).val, by omega⟩ (j 1))
    funext a; apply Fin.ext
    match a with
    | ⟨0, _⟩ => rfl
    | ⟨1, _⟩ => rfl
  · rw [dif_neg g, dif_pos (by omega)]
    refine at6 x d _ _ _ ?_
    dsimp only
    omega
  · rw [dif_neg (by omega), dif_neg (by omega), dif_pos (by omega)]
    refine at7 x d _ _ _ ?_
    dsimp only
    omega
  · rw [dif_neg (by omega), dif_neg (by omega), dif_neg (by omega), Cert.InBwdWRefIdeal.Read.val_main_v8_apply]
    exact Ideal.ofBits_zero_f32

/-- What a point stores, at an index of its block, is the reference's result at the index's place in the array. -/
theorem point (c : Dev nD) (t : Fin cfg0.N) (y : S640x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  have ht : t.val < 80 := lt_of_lt_of_eq t.isLt N_0
  have h0 : (y 0).val < 640 := (y 0).isLt
  have h1 : (y 1).val < 1024 := (y 1).isLt
  have e : ((cfg0.win 2).blk t).view.emb y = (ix2 ⟨t.val % 20 * 640 + (y 0).val, by omega⟩ ⟨t.val / 20 * 1024 + (y 1).val, by omega⟩ : S12800x4096.Idx) := by
    blk_ext [idx t]
  rw [e]
  refine Eq.trans ?_ (ref_at _ _ _).symm
  pointwise [k0_pay1]
  refine (Fin.sum_fin_congr fun k => congrArg₂ (fun a b : EReal => a * b) (blk0 m c t (y 0) k (by omega)) (blk1 m c t (y 1) k (by omega))).trans ?_
  refine (sum_packed_mul (fun k q => (m ((c : Thread nD τ).loc main_arg1) : S4352x12352.Idx → EReal) (ix2 k q))
    (fun k => (m ((c : Thread nD τ).loc main_arg0) : S4352x4096.Idx → EReal) (ix2 k ⟨t.val / 20 * 1024 + (y 1).val, by omega⟩)) _).trans ?_
  rfl

/-- The array the product leaves. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.InBwdWIdeal.Final
end
-- ==== Proof.OutBwdX.lean ====
/-
  The gradient of the output projection by its input: the array the pipelined product leaves, equal to the
  reference's contraction over the output features.
-/
module

public import proofs.«01_k».proof.Proof.Gen.OutBwdXIdeal.Value
public import proofs.«01_k».proof.Proof.Gen.OutBwdXRefIdeal.Run
public import proofs.«01_k».proof.Proof.Gen.OutBwdXRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutBwdXIdeal.Final

open Cert.OutBwdXIdeal Cert.OutBwdXIdeal.Gen

variable (m : (ℓ : Loc nD τ sig) → Buf (Elt Ideal) ℓ) (ρ : Dev nD → PrngReg)

/-- The reference's result over the kernel's two arguments. -/
abbrev REF (x y : FVec Ideal S4096x4096 .f32) : FVec Ideal S4096x4096 .f32 :=
  Cert.OutBwdXRefIdeal.Read.val_main_v2 (F := Ideal) x y

/-- The windows' block indices at a point. -/
theorem idx : ∀ t : Fin cfg0.N, win0_0.index t = ![t.val % 4, 0] ∧ win0_1.index t = ![t.val / 4, 0]
    ∧ win0_2.index t = ![t.val % 4, t.val / 4] :=
  (by decide +kernel : ∀ t : Fin grid0.N, _)

/-- The first window's array: the cotangent, rounded (the identity on the extended reals). -/
theorem entry0 (c : Dev nD) : (V m c main_v0 : S4096x4096.Idx → EReal) = (m ((c : Thread nD τ).loc main_arg1) : S4096x4096.Idx → EReal) := by
  unfold V; after_results <;> rfl

/-- The second window's array: the weight, rounded. -/
theorem entry1 (c : Dev nD) : (V m c main_v1 : S4096x4096.Idx → EReal) = (m ((c : Thread nD τ).loc main_arg0) : S4096x4096.Idx → EReal) := by
  unfold V; after_results <;> rfl

/-- The first input's block at a point. -/
theorem blk0 (c : Dev nD) (t : Fin cfg0.N) (a : Fin 1024) (k : Fin 4096) (h : t.val % 4 * 1024 + a.val < 4096) :
    (iblk m c 0 t (ix2 a k) : EReal) = (m ((c : Thread nD τ).loc main_arg1) : S4096x4096.Idx → EReal) (ix2 ⟨t.val % 4 * 1024 + a.val, h⟩ k) := by
  rw [← entry0 m c]
  blk_ext [iblk, idx t]

/-- The second input's block at a point. -/
theorem blk1 (c : Dev nD) (t : Fin cfg0.N) (a : Fin 1024) (k : Fin 4096) (h : t.val / 4 * 1024 + a.val < 4096) :
    (iblk m c 1 t (ix2 a k) : EReal) = (m ((c : Thread nD τ).loc main_arg0) : S4096x4096.Idx → EReal) (ix2 ⟨t.val / 4 * 1024 + a.val, h⟩ k) := by
  rw [← entry1 m c]
  blk_ext [iblk, idx t]

/-- The reference's result at an index. -/
theorem ref_at (x y : FVec Ideal S4096x4096 .f32) (j : S4096x4096.Idx) :
    REF x y j = ∑ k : Fin 4096, (y (ix2 (j 0) k) : EReal) * (x (ix2 (j 1) k) : EReal) := by
  rw [REF, Cert.OutBwdXRefIdeal.Read.val_main_v2_apply]
  refine Fin.sum_fin_congr fun k => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- What a point stores, at an index of its block, is the reference's result at the index's place in the array. -/
theorem point (c : Dev nD) (t : Fin cfg0.N) (y : S1024x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  rw [ref_at]
  pointwise [k0_pay1]
  have ht : t.val < 16 := lt_of_lt_of_eq t.isLt N_0
  have h0 : (y 0).val < 1024 := (y 0).isLt
  have h1 : (y 1).val < 1024 := (y 1).isLt
  refine Fin.sum_fin_congr fun k => ?_
  refine congrArg₂ (· * ·) ((blk0 m c t (y 0) k (by omega)).trans ?_) ((blk1 m c t (y 1) k (by omega)).trans ?_)
  · blk_ext [idx t]
  · blk_ext [idx t]

/-- The array the product leaves. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.OutBwdXIdeal.Final
end
-- ==== Proof.OutBwdW.lean ====
/-
  The gradient of the output projection by its weight: the array the pipelined product leaves, equal to the
  reference's contraction over the tokens.
-/
module

public import proofs.«01_k».proof.Proof.Gen.OutBwdWIdeal.Value
public import proofs.«01_k».proof.Proof.Gen.OutBwdWRefIdeal.Run
public import proofs.«01_k».proof.Proof.Gen.OutBwdWRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutBwdWIdeal.Final

open Cert.OutBwdWIdeal Cert.OutBwdWIdeal.Gen

variable (m : (ℓ : Loc nD τ sig) → Buf (Elt Ideal) ℓ) (ρ : Dev nD → PrngReg)

/-- The reference's result over the kernel's two arguments. -/
abbrev REF (x y : FVec Ideal S4096x4096 .f32) : FVec Ideal S4096x4096 .f32 :=
  Cert.OutBwdWRefIdeal.Read.val_main_v3 (F := Ideal) x y

/-- The windows' block indices at a point. -/
theorem idx : ∀ t : Fin cfg0.N, win0_0.index t = ![0, t.val % 4] ∧ win0_1.index t = ![0, t.val / 4]
    ∧ win0_2.index t = ![t.val % 4, t.val / 4] :=
  (by decide +kernel : ∀ t : Fin grid0.N, _)

/-- The first window's array: the input, rounded (the identity on the extended reals). -/
theorem entry0 (c : Dev nD) : (V m c main_v0 : S4096x4096.Idx → EReal) = (m ((c : Thread nD τ).loc main_arg0) : S4096x4096.Idx → EReal) := by
  unfold V; after_results <;> rfl

/-- The second window's array: the cotangent, rounded. -/
theorem entry1 (c : Dev nD) : (V m c main_v1 : S4096x4096.Idx → EReal) = (m ((c : Thread nD τ).loc main_arg1) : S4096x4096.Idx → EReal) := by
  unfold V; after_results <;> rfl

/-- The first input's block at a point. -/
theorem blk0 (c : Dev nD) (t : Fin cfg0.N) (a : Fin 1024) (k : Fin 4096) (h : t.val % 4 * 1024 + a.val < 4096) :
    (iblk m c 0 t (ix2 k a) : EReal) = (m ((c : Thread nD τ).loc main_arg0) : S4096x4096.Idx → EReal) (ix2 k ⟨t.val % 4 * 1024 + a.val, h⟩) := by
  rw [← entry0 m c]
  blk_ext [iblk, idx t]

/-- The second input's block at a point. -/
theorem blk1 (c : Dev nD) (t : Fin cfg0.N) (a : Fin 1024) (k : Fin 4096) (h : t.val / 4 * 1024 + a.val < 4096) :
    (iblk m c 1 t (ix2 k a) : EReal) = (m ((c : Thread nD τ).loc main_arg1) : S4096x4096.Idx → EReal) (ix2 k ⟨t.val / 4 * 1024 + a.val, h⟩) := by
  rw [← entry1 m c]
  blk_ext [iblk, idx t]

/-- The reference's result at an index. -/
theorem ref_at (x y : FVec Ideal S4096x4096 .f32) (j : S4096x4096.Idx) :
    REF x y j = ∑ k : Fin 4096, (x (ix2 k (j 0)) : EReal) * (y (ix2 k (j 1)) : EReal) := by
  rw [REF, Cert.OutBwdWRefIdeal.Read.val_main_v3_apply, Cert.OutBwdWRefIdeal.Read.val_main_v2_apply]
  refine Fin.sum_fin_congr fun k => ?_
  rw [mul_comm]
  congr 2
  · funext a; apply Fin.ext
    match a with
    | ⟨0, _⟩ => rfl
    | ⟨1, _⟩ => rfl
  · funext a; apply Fin.ext
    match a with
    | ⟨0, _⟩ => rfl
    | ⟨1, _⟩ => rfl

/-- What a point stores, at an index of its block, is the reference's result at the index's place in the array. -/
theorem point (c : Dev nD) (t : Fin cfg0.N) (y : S1024x1024.Idx) :
    k0_pay1 (F := Ideal) (iblk m c 0 t) (iblk m c 1 t) y
      = REF (m ((c : Thread nD τ).loc main_arg0)) (m ((c : Thread nD τ).loc main_arg1)) (((cfg0.win 2).blk t).view.emb y) := by
  rw [ref_at]
  pointwise [k0_pay1]
  have ht : t.val < 16 := lt_of_lt_of_eq t.isLt N_0
  have h0 : (y 0).val < 1024 := (y 0).isLt
  have h1 : (y 1).val < 1024 := (y 1).isLt
  refine Fin.sum_fin_congr fun k => ?_
  refine congrArg₂ (· * ·) ((blk0 m c t (y 0) k (by omega)).trans ?_) ((blk1 m c t (y 1) k (by omega)).trans ?_)
  · blk_ext [idx t]
  · blk_ext [idx t]

/-- The array the product leaves. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.OutBwdWIdeal.Final
end
-- ==== Proof.InProj.lean ====
/-
  The input projection: the array the pipelined product leaves, equal to the reference's product with its columns in the
  packed order.
-/
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Claim
public import proofs.«01_k».proof.Proof.Packed
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Final

open Cert.InProjIdeal Cert.InProjIdeal.Gen Cert.Packed

variable (m : (ℓ : Loc nD τ sig) → Buf (Elt Ideal) ℓ) (ρ : Dev nD → PrngReg)

/-- The reference's result over the kernel's two arguments. -/
abbrev REF (x : FVec Ideal S4352x4096 .f32) (w : FVec Ideal S4096x12352 .f32) : FVec Ideal S4352x12800 .f32 :=
  Cert.InProjRefIdeal.Read.val_main_v5 (F := Ideal) x w

/-- The windows' block indices at a point. -/
theorem idx : ∀ t : Fin cfg0.N, win0_0.index t = ![t.val / 2 % 4, t.val % 2] ∧ win0_1.index t = ![t.val / 8, t.val % 2]
    ∧ win0_2.index t = ![0, t.val / 8] ∧ win0_3.index t = ![t.val / 2 % 4, t.val / 8] :=
  (by decide +kernel : ∀ t : Fin grid0.N, _)

/-- The transposed weight's rows packed by slicing and joining. -/
def pkr (x : S4096x12352.Idx → EReal) : S12800x4096.Idx → EReal :=
  concatenate S12800x4096 0 [⟨S8192x4096, extractStridedSlice S8192x4096 ![0, 0] (transpose S12352x4096 [1, 0] x transposes_S4096x12352_S12352x4096_1_0) slices_S12352x4096_S8192x4096_0_0⟩,
    ⟨S4096x4096, extractStridedSlice S4096x4096 ![8256, 0] (transpose S12352x4096 [1, 0] x transposes_S4096x12352_S12352x4096_1_0) slices_S12352x4096_S4096x4096_8256_0⟩,
    ⟨S64x4096, extractStridedSlice S64x4096 ![8192, 0] (transpose S12352x4096 [1, 0] x transposes_S4096x12352_S12352x4096_1_0) slices_S12352x4096_S64x4096_8192_0⟩,
    ⟨S448x4096, broadcastInDim S448x4096 ![] bcast_S_S448x4096 (constant (F := Ideal) S_ .bf16 0x0000#16)⟩]
    concatenates_S8192x4096_S4096x4096_S64x4096_S448x4096_S12800x4096_d0

/-- The packed rows at an index. -/
theorem pkr_at (x : S4096x12352.Idx → EReal) (r : Fin 12800) (s : Fin 4096) : pkr x (ix2 r s) = packed (fun q => x (ix2 s q)) r := by
  unfold pkr
  pointwise
  have hr := r.isLt
  refine eq_packed _ _ _ (fun h => ?_) (fun g h => ?_) (fun g h => ?_) (fun g => ?_)
  · rw [dif_pos h]; blk_ext
  · rw [dif_neg g, dif_pos (by omega)]; blk_ext
  · rw [dif_neg (by omega), dif_neg (by omega), dif_pos (by omega)]; blk_ext
  · rw [dif_neg (by omega), dif_neg (by omega), dif_neg (by omega)]

/-- The first window's array: the input, rounded (the identity on the extended reals). -/
theorem entry0 (c : Dev nD) : (V m c main_v7 : S4352x4096.Idx → EReal) = (m ((c : Thread nD τ).loc main_arg0) : S4352x4096.Idx → EReal) := by
  unfold V; after_results <;> rfl

/-- The second window's array: the weight transposed, rounded, its rows packed by slicing and joining. -/
theorem entry1_fun (c : Dev nD) : (V m c main_v6 : S12800x4096.Idx → EReal) = pkr (m ((c : Thread nD τ).loc main_arg1)) := rfl

/-- The second window's array at an index. -/
theorem entry1 (c : Dev nD) (r : Fin 12800) (s : Fin 4096) : (V m c main_v6 (ix2 r s) : EReal)
    = packed (fun q => (m ((c : Thread nD τ).loc main_arg1) : S4096x12352.Idx → EReal) (ix2 s q)) r :=
  (congrFun (entry1_fun m c) (ix2 r s)).trans (pkr_at _ r s)

/-- The bias row is zero. -/
theorem entry2 (c : Dev nD) (j : S1x12800.Idx) : (V m c main_v8 j : EReal) = (0 : EReal) := by
  unfold V; after_results
  exact Ideal.ofBits_zero_f32

/-- The bias row's block is zero. -/
theorem blk2 (c : Dev nD) (t : Fin cfg0.N) (j : S1x1280.Idx) : (iblk m c 2 t j : EReal) = (0 : EReal) :=
  entry2 m c _

/-- The first input's block at a point. -/
theorem blk0 (c : Dev nD) (t : Fin cfg0.N) (a : Fin 1088) (k : Fin 2048) (h : t.val / 2 % 4 * 1088 + a.val < 4352)
    (hk : t.val % 2 * 2048 + k.val < 4096) :
    (iblk m c 0 t (ix2 a k) : EReal) = (m ((c : Thread nD τ).loc main_arg0) : S4352x4096.Idx → EReal)
      (ix2 ⟨t.val / 2 % 4 * 1088 + a.val, h⟩ ⟨t.val % 2 * 2048 + k.val, hk⟩) := by
  rw [← entry0 m c]
  blk_ext [iblk, idx t]

/-- The second input's block at a point. -/
theorem blk1 (c : Dev nD) (t : Fin cfg0.N) (b : Fin 1280) (k : Fin 2048) (h : t.val / 8 * 1280 + b.val < 12800)
    (hk : t.val % 2 * 2048 + k.val < 4096) :
    (iblk m c 1 t (ix2 b k) : EReal)
      = packed (fun q => (m ((c : Thread nD τ).loc main_arg1) : S4096x12352.Idx → EReal) (ix2 ⟨t.val % 2 * 2048 + k.val, hk⟩ q))
        ⟨t.val / 8 * 1280 + b.val, h⟩ := by
  rw [← entry1 m c]
  blk_ext [iblk, idx t]

/-- The reference's product at an index. -/
theorem dot_at (x w) (s : Fin 4352) (r : Fin 12352) : (Cert.InProjRefIdeal.Read.val_main_v0 (F := Ideal) x w (ix2 s r) : EReal)
    = ∑ k : Fin 4096, (x (ix2 s k) : EReal) * (w (ix2 k r) : EReal) := by
  rw [Cert.InProjRefIdeal.Read.val_main_v0_apply]
  refine Fin.sum_fin_congr fun s => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- The first slice's index. -/
theorem idx1 (a : Fin 4352) (b : Fin 8192) (h : b.val + 0 < 12352) :
    Cert.InProjRefIdeal.Read.idx_main_v1 (ix2 a b) = ix2 a ⟨b.val + 0, h⟩ := by
  funext k; apply Fin.ext
  match k with
  | ⟨0, _⟩ => rfl
  | ⟨1, _⟩ => rfl

/-- The first piece of the reference's result. -/
theorem at1 (x w) (a : Fin 4352) (b : Fin 8192) (q : Fin 12352) (h : q.val = b.val + 0) :
    (Cert.InProjRefIdeal.Read.val_main_v1 (F := Ideal) x w (ix2 a b) : EReal) = ∑ k : Fin 4096, (x (ix2 a k) : EReal) * (w (ix2 k q) : EReal) := by
  rw [Cert.InProjRefIdeal.Read.val_main_v1_apply, idx1 a b (by have := b.isLt; omega),
    show (⟨b.val + 0, by have := b.isLt; omega⟩ : Fin 12352) = q from Fin.ext h.symm]
  exact dot_at x w a q

/-- The second slice's index. -/
theorem idx2 (a : Fin 4352) (b : Fin 4096) (h : b.val + 8256 < 12352) :
    Cert.InProjRefIdeal.Read.idx_main_v2 (ix2 a b) = ix2 a ⟨b.val + 8256, h⟩ := by
  funext k; apply Fin.ext
  match k with
  | ⟨0, _⟩ => rfl
  | ⟨1, _⟩ => exact Nat.add_comm _ _

/-- The second piece of the reference's result. -/
theorem at2 (x w) (a : Fin 4352) (b : Fin 4096) (q : Fin 12352) (h : q.val = b.val + 8256) :
    (Cert.InProjRefIdeal.Read.val_main_v2 (F := Ideal) x w (ix2 a b) : EReal) = ∑ k : Fin 4096, (x (ix2 a k) : EReal) * (w (ix2 k q) : EReal) := by
  rw [Cert.InProjRefIdeal.Read.val_main_v2_apply, idx2 a b (by have := b.isLt; omega),
    show (⟨b.val + 8256, by have := b.isLt; omega⟩ : Fin 12352) = q from Fin.ext h.symm]
  exact dot_at x w a q

/-- The third slice's index. -/
theorem idx3 (a : Fin 4352) (b : Fin 64) (h : b.val + 8192 < 12352) :
    Cert.InProjRefIdeal.Read.idx_main_v3 (ix2 a b) = ix2 a ⟨b.val + 8192, h⟩ := by
  funext k; apply Fin.ext
  match k with
  | ⟨0, _⟩ => rfl
  | ⟨1, _⟩ => exact Nat.add_comm _ _

/-- The third piece of the reference's result. -/
theorem at3 (x w) (a : Fin 4352) (b : Fin 64) (q : Fin 12352) (h : q.val = b.val + 8192) :
    (Cert.InProjRefIdeal.Read.val_main_v3 (F := Ideal) x w (ix2 a b) : EReal) = ∑ k : Fin 4096, (x (ix2 a k) : EReal) * (w (ix2 k q) : EReal) := by
  rw [Cert.InProjRefIdeal.Read.val_main_v3_apply, idx3 a b (by have := b.isLt; omega),
    show (⟨b.val + 8192, by have := b.isLt; omega⟩ : Fin 12352) = q from Fin.ext h.symm]
  exact dot_at x w a q

/-- The reference's result at an index: the product's columns, packed. -/
theorem ref_at (x w) (j : S4352x12800.Idx) : (REF x w j : EReal)
    = packed (fun q => ∑ k : Fin 4096, (x (ix2 (j 0) k) : EReal) * (w (ix2 k q) : EReal)) (j 1) := by
  rw [REF]
  unfold Cert.InProjRefIdeal.Read.val_main_v5
  pointwise
  have hr : (j 1).val < 12800 := (j 1).isLt
  refine eq_packed _ _ _ (fun h => ?_) (fun g h => ?_) (fun g h => ?_) (fun g => ?_)
  · rw [dif_pos h]
    exact at1 x w _ _ _ rfl
  · rw [dif_neg g, dif_pos (by omega)]
    refine at2 x w _ _ _ ?_
    dsimp only
    omega
  · rw [dif_neg (by omega), dif_neg (by omega), dif_pos (by omega)]
    refine at3 x w _ _ _ ?_
    dsimp only
    omega
  · rw [dif_neg (by omega), dif_neg (by omega), dif_neg (by omega), Cert.InProjRefIdeal.Read.val_main_v4_apply]
    exact Ideal.ofBits_zero_f32

/-- A point's partial product, at an index. -/
theorem part_at (x : Vec Ideal S1088x2048 .bf16) (w : Vec Ideal S1280x2048 .bf16) (y : S1088x1280.Idx) :
    (k0_pay1 (F := Ideal) x w y : EReal) = ∑ k : Fin 2048, (x (ix2 (y 0) k) : EReal) * (w (ix2 (y 1) k) : EReal) := by
  pointwise [k0_pay1]

/-- What a run keeps as it goes: the scratch, and at the run's last point the output block. -/
def kept (c : Dev nD) (n : ℕ) (h : n < cfg0.N) : S1088x1280.Idx → EReal :=
  if n % 2 = 1 then (outsAt0 m c n h).1 else (outsAt0 m c n h).2

/-- The first point of a run keeps its partial product. -/
theorem kept_first (c : Dev nD) (t : Fin cfg0.N) (h : t.val % 2 = 0) (y : S1088x1280.Idx) :
    kept m c t.val t.isLt y = 0 + (k0_pay1 (F := Ideal) (iblk m c 0 t) (iblk m c 1 t) y : EReal) := by
  rw [kept, if_neg (by omega), outsAt0_A m c t h (by omega), zero_add]
  frame_out
  pointwise [k0_pay2]

/-- Every other point adds its partial product (the last one the zero bias too). -/
theorem kept_next (c : Dev nD) (t : Fin cfg0.N) (h : ¬t.val % 2 = 0) (y : S1088x1280.Idx) :
    kept m c t.val t.isLt y = kept m c (t.val - 1) (Nat.lt_of_le_of_lt (Nat.sub_le _ _) t.isLt) y
      + (k0_pay1 (F := Ideal) (iblk m c 0 t) (iblk m c 1 t) y : EReal) := by
  rw [kept, kept, if_neg (show ¬(t.val - 1) % 2 = 1 by omega)]
  rw [if_pos (by omega), outsAt0_B m c t h (by omega)]
  frame_out
  pointwise [k0_pay4]
  refine (congrArg₂ (fun a b : EReal => a + b) (congrArg (· + (k0_pay1 (F := Ideal) (iblk m c 0 t) (iblk m c 1 t) y : EReal)) (congrFun (read_unread_whole (Val := Elt Ideal) cc0_scratch0 _ (outsAt0 m c (t.val - 1) _).2) y)) (blk2 m c t _)).trans (add_zero _)

/-- The array the product leaves. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t hf y => ?_
  blk_simp
  have hf3 : t.val % 2 = 1 := (flush0_3 t).mp hf
  have hy0 : (y 0).val < 1088 := (y 0).isLt
  have hy1 : (y 1).val < 1280 := (y 1).isLt
  have ht : t.val < 80 := lt_of_lt_of_eq t.isLt N_0
  rw [after0_3]
  have e : ((cfg0.win 3).blk t).view.emb y = (ix2 ⟨t.val / 2 % 4 * 1088 + (y 0).val, by omega⟩ ⟨t.val / 8 * 1280 + (y 1).val, by omega⟩ : S4352x12800.Idx) := by
    blk_ext [idx t]
  have ek : ∀ y, ((outsAt0 m c t.val t.isLt).1 y : EReal) = kept m c t.val t.isLt y := by
    intro y; rw [kept, if_pos hf3]
  rw [e]
  refine (ek _).trans (Eq.trans ?_ (ref_at _ _ _).symm)
  rw [Pipeline.eq_sum_fin_of_reset_step_apply_of_flush (fun n h => kept m c n h) 2 (fun _ => 0)
    (fun t y => (k0_pay1 (F := Ideal) (iblk m c 0 t) (iblk m c 1 t) y : EReal))
    (kept_first m c) (kept_next m c) t hf3 _, zero_add]
  refine Eq.trans ?_ (sum_mul_packed (fun k q => (m ((c : Thread nD τ).loc main_arg1) : S4096x12352.Idx → EReal) (ix2 k q))
    (fun k => (m ((c : Thread nD τ).loc main_arg0) : S4352x4096.Idx → EReal) (ix2 ⟨t.val / 2 % 4 * 1088 + (y 0).val, by omega⟩ k)) _)
  simp only [part_at]
  refine Fin.sum_mul_add_congr fun s k hl => ?_
  have hs := s.isLt
  have hp := Pipeline.run_point_lt_of_flush t hf3 s
  refine congrArg₂ (fun a b : EReal => a * b) ((blk0 m c ⟨_, hp⟩ (y 0) k (by dsimp only; omega) (by dsimp only; omega)).trans ?_)
    ((blk1 m c ⟨_, hp⟩ (y 1) k (by dsimp only; omega) (by dsimp only; omega)).trans ?_)
  · refine congrArg _ (congrArg₂ ix2 (Fin.ext ?_) (Fin.ext ?_)) <;> dsimp only <;> omega
  · refine congrArg₂ packed (funext fun q => congrArg _ (congrArg₂ ix2 (Fin.ext ?_) rfl)) (Fin.ext ?_)
    · dsimp only; omega
    · show _ = t.val / 8 * 1280 + (y 1).val
      dsimp only; omega

end Cert.InProjIdeal.Final
end
-- ==== Proof.OutProj.lean ====
/-
  The output projection: the array the pipelined product leaves, equal to the reference's product.
-/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Final

open Cert.OutProjIdeal Cert.OutProjIdeal.Gen

variable (m : (ℓ : Loc nD τ sig) → Buf (Elt Ideal) ℓ) (ρ : Dev nD → PrngReg)

/-- The reference's result over the kernel's two arguments. -/
abbrev REF (x y : FVec Ideal S4096x4096 .f32) : FVec Ideal S4096x4096 .f32 :=
  Cert.OutProjRefIdeal.Read.val_main_v0 (F := Ideal) x y

/-- The windows' block indices at a point. -/
theorem idx : ∀ t : Fin cfg0.N, win0_0.index t = ![t.val % 4, 0] ∧ win0_1.index t = ![0, t.val / 4] ∧ win0_2.index t = ![0, t.val / 4]
    ∧ win0_3.index t = ![t.val % 4, t.val / 4] :=
  (by decide +kernel : ∀ t : Fin grid0.N, _)

/-- The first window's array: the input, rounded (the identity on the extended reals). -/
theorem entry0 (c : Dev nD) : (V m c main_v0 : S4096x4096.Idx → EReal) = (m ((c : Thread nD τ).loc main_arg0) : S4096x4096.Idx → EReal) := by
  unfold V; after_results <;> rfl

/-- The second window's array: the weight, rounded. -/
theorem entry1 (c : Dev nD) : (V m c main_v1 : S4096x4096.Idx → EReal) = (m ((c : Thread nD τ).loc main_arg1) : S4096x4096.Idx → EReal) := by
  unfold V; after_results <;> rfl

/-- The bias row is zero. -/
theorem entry2 (c : Dev nD) (j : S1x4096.Idx) : (V m c main_v2 j : EReal) = (0 : EReal) := by
  unfold V; after_results
  exact Ideal.ofBits_zero_f32

/-- The bias row's block is zero. -/
theorem blk2 (c : Dev nD) (t : Fin cfg0.N) (j : S1x1024.Idx) : (iblk m c 2 t j : EReal) = (0 : EReal) :=
  entry2 m c _

/-- The first input's block at a point. -/
theorem blk0 (c : Dev nD) (t : Fin cfg0.N) (a : Fin 1024) (k : Fin 4096) (h : t.val % 4 * 1024 + a.val < 4096) :
    (iblk m c 0 t (ix2 a k) : EReal) = (m ((c : Thread nD τ).loc main_arg0) : S4096x4096.Idx → EReal) (ix2 ⟨t.val % 4 * 1024 + a.val, h⟩ k) := by
  rw [← entry0 m c]
  blk_ext [iblk, idx t]

/-- The second input's block at a point. -/
theorem blk1 (c : Dev nD) (t : Fin cfg0.N) (a : Fin 1024) (k : Fin 4096) (h : t.val / 4 * 1024 + a.val < 4096) :
    (iblk m c 1 t (ix2 k a) : EReal) = (m ((c : Thread nD τ).loc main_arg1) : S4096x4096.Idx → EReal) (ix2 k ⟨t.val / 4 * 1024 + a.val, h⟩) := by
  rw [← entry1 m c]
  blk_ext [iblk, idx t]

/-- The reference's result at an index. -/
theorem ref_at (x y : FVec Ideal S4096x4096 .f32) (j : S4096x4096.Idx) :
    REF x y j = ∑ k : Fin 4096, (x (ix2 (j 0) k) : EReal) * (y (ix2 k (j 1)) : EReal) := by
  rw [REF, Cert.OutProjRefIdeal.Read.val_main_v0_apply]
  refine Fin.sum_fin_congr fun k => ?_
  congr 2
  · funext a; apply Fin.ext
    match a with
    | ⟨0, _⟩ => rfl
    | ⟨1, _⟩ => rfl
  · funext a; apply Fin.ext
    match a with
    | ⟨0, _⟩ => rfl
    | ⟨1, _⟩ => rfl

/-- What a point stores, at an index of its block, is the reference's result at the index's place in the array. -/
theorem point (c : Dev nD) (t : Fin cfg0.N) (y : S1024x1024.Idx) :
    k0_pay1 (F := Ideal) (iblk m c 0 t) (iblk m c 1 t) (iblk m c 2 t) y
      = REF (m ((c : Thread nD τ).loc main_arg0)) (m ((c : Thread nD τ).loc main_arg1)) (((cfg0.win 3).blk t).view.emb y) := by
  rw [ref_at]
  pointwise [k0_pay1]
  have ht : t.val < 16 := lt_of_lt_of_eq t.isLt N_0
  have h0 : (y 0).val < 1024 := (y 0).isLt
  have h1 : (y 1).val < 1024 := (y 1).isLt
  rw [blk2, add_zero]
  refine Fin.sum_fin_congr fun k => ?_
  refine congrArg₂ (· * ·) ((blk0 m c t (y 0) k (by omega)).trans ?_) ((blk1 m c t (y 1) k (by omega)).trans ?_)
  · blk_ext [idx t]
  · blk_ext [idx t]

/-- The array the product leaves. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; unfold outsAt0; frame_out
  exact point m c t y

end Cert.OutProjIdeal.Final
end
-- ==== Proof.Mlp1.lean ====
/-
  The MLP's first product with its bias and rectifier: the array the pipelined product leaves, equal to the reference.
-/
module

public import proofs.«01_k».proof.Proof.Gen.Mlp1Ideal.Value
public import proofs.«01_k».proof.Proof.Gen.Mlp1RefIdeal.Run
public import proofs.«01_k».proof.Proof.Gen.Mlp1RefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mlp1Ideal.Final

open Cert.Mlp1Ideal Cert.Mlp1Ideal.Gen

variable (m : (ℓ : Loc nD τ sig) → Buf (Elt Ideal) ℓ) (ρ : Dev nD → PrngReg)

/-- The reference's result over the kernel's three arguments. -/
abbrev REF (u : FVec Ideal S4096x4096 .f32) (w : FVec Ideal S4096x16384 .f32) (b : FVec Ideal S16384 .f32) : FVec Ideal S4096x16384 .bf16 :=
  Cert.Mlp1RefIdeal.Read.val_main_v5 (F := Ideal) u w b

/-- The windows' block indices at a point. -/
theorem idx : ∀ t : Fin cfg0.N, win0_0.index t = ![t.val % 4, 0] ∧ win0_1.index t = ![t.val / 16, 0, t.val / 4 % 4]
    ∧ win0_2.index t = ![0, t.val / 4] ∧ win0_3.index t = ![t.val % 4, t.val / 4] :=
  (by decide +kernel : ∀ t : Fin grid0.N, _)

/-- The first window's array: the activations, rounded (the identity on the extended reals). -/
theorem entry0 (c : Dev nD) : (V m c main_v0 : S4096x4096.Idx → EReal) = (m ((c : Thread nD τ).loc main_arg0) : S4096x4096.Idx → EReal) := by
  unfold V; after_results <;> rfl

/-- The second window's array: the weight, rounded and cut into four shards of columns. -/
theorem entry1 (c : Dev nD) (a : Fin 4) (r : Fin 4096) (k : Fin 4096) :
    (V m c main_v3 (ix3 a r k) : EReal) = (m ((c : Thread nD τ).loc main_arg1) : S4096x16384.Idx → EReal)
      (ix2 r ⟨a.val * 4096 + k.val, by have := a.isLt; have := k.isLt; show _ < 16384; omega⟩) := by
  unfold V; after_results
  pointwise
  blk_ext

/-- The third window's array: the bias as a row. -/
theorem entry2 (c : Dev nD) (k : Fin 16384) :
    (V m c main_v4 (ix2 0 k) : EReal) = (m ((c : Thread nD τ).loc main_arg2) : S16384.Idx → EReal) (ix1 k) := by
  unfold V; after_results
  pointwise
  blk_ext

/-- The first input's block at a point. -/
theorem blk0 (c : Dev nD) (t : Fin cfg0.N) (a : Fin 1024) (k : Fin 4096) (h : t.val % 4 * 1024 + a.val < 4096) :
    (iblk m c 0 t (ix2 a k) : EReal) = (m ((c : Thread nD τ).loc main_arg0) : S4096x4096.Idx → EReal) (ix2 ⟨t.val % 4 * 1024 + a.val, h⟩ k) := by
  rw [← entry0 m c]
  blk_ext [iblk, idx t]

/-- The second input's block at a point. -/
theorem blk1 (c : Dev nD) (t : Fin cfg0.N) (b : Fin 1024) (k : Fin 4096) (h : t.val / 4 * 1024 + b.val < 16384) :
    (iblk m c 1 t (ix3 0 k b) : EReal) = (m ((c : Thread nD τ).loc main_arg1) : S4096x16384.Idx → EReal)
      (ix2 k ⟨t.val / 4 * 1024 + b.val, h⟩) := by
  have ht : t.val < 64 := lt_of_lt_of_eq t.isLt N_0
  have hb := b.isLt
  refine Eq.trans ?_ ((entry1 m c ⟨t.val / 16, by omega⟩ k ⟨t.val / 4 % 4 * 1024 + b.val, by omega⟩).trans ?_)
  · blk_ext [iblk, idx t]
  · blk_ext

/-- The bias row's block at a point. -/
theorem blk2 (c : Dev nD) (t : Fin cfg0.N) (b : Fin 1024) (h : t.val / 4 * 1024 + b.val < 16384) :
    (iblk m c 2 t (ix2 0 b) : EReal) = (m ((c : Thread nD τ).loc main_arg2) : S16384.Idx → EReal) (ix1 ⟨t.val / 4 * 1024 + b.val, h⟩) := by
  rw [← entry2 m c]
  blk_ext [iblk, idx t]

/-- The reference's result at an index. -/
theorem ref_at (u w b) (j : S4096x16384.Idx) :
    REF u w b j = max ((∑ k : Fin 4096, (u (ix2 (j 0) k) : EReal) * (w (ix2 k (j 1)) : EReal)) + b (ix1 (j 1))) (0 : EReal) := by
  rw [REF, Cert.Mlp1RefIdeal.Read.val_main_v5_apply, Cert.Mlp1RefIdeal.Read.val_main_v4_apply, Cert.Mlp1RefIdeal.Read.val_main_v3_apply,
    Cert.Mlp1RefIdeal.Read.val_main_v0_apply, Cert.Mlp1RefIdeal.Read.val_main_v2_apply, Cert.Mlp1RefIdeal.Read.val_main_v1_apply,
    Cert.Mlp1RefIdeal.Read.val_main_call0_v0_apply, Cert.Mlp1RefIdeal.Read.val_main_call0_cst_apply]
  refine congrArg₂ max (congrArg₂ (· + ·) (Fin.sum_fin_congr fun k => ?_) (congrArg b ?_)) Ideal.ofBits_zero_f32
  · congr 2
    · funext a; apply Fin.ext
      match a with
      | ⟨0, _⟩ => rfl
      | ⟨1, _⟩ => rfl
    · funext a; apply Fin.ext
      match a with
      | ⟨0, _⟩ => rfl
      | ⟨1, _⟩ => rfl
  · funext a; apply Fin.ext
    match a with
    | ⟨0, _⟩ => rfl

/-- What a point stores, at an index of its block, is the reference's result at the index's place in the array. -/
theorem point (c : Dev nD) (t : Fin cfg0.N) (y : S1024x1024.Idx) :
    (k0_pay1 (F := Ideal) (iblk m c 0 t) (iblk m c 1 t) (iblk m c 2 t) y : EReal)
      = REF (m ((c : Thread nD τ).loc main_arg0)) (m ((c : Thread nD τ).loc main_arg1)) (m ((c : Thread nD τ).loc main_arg2)) (((cfg0.win 3).blk t).view.emb y) := by
  rw [ref_at]
  pointwise [k0_pay1]
  have ht : t.val < 64 := lt_of_lt_of_eq t.isLt N_0
  have h0 : (y 0).val < 1024 := (y 0).isLt
  have h1 : (y 1).val < 1024 := (y 1).isLt
  refine congrArg₂ max (congrArg₂ (· + ·) (Fin.sum_fin_congr fun k => ?_) ((blk2 m c t (y 1) (by omega)).trans ?_)) rfl
  · refine congrArg₂ (· * ·) ((blk0 m c t (y 0) k (by omega)).trans ?_) ((blk1 m c t (y 1) k (by omega)).trans ?_)
    · blk_ext [idx t]
    · blk_ext [idx t]
  · blk_ext [idx t]

/-- The array the product leaves. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact point m c t y

end Cert.Mlp1Ideal.Final
end
-- ==== Proof.Mlp2.lean ====
/-
  The MLP's second product, of the squared rectified hidden features, with its bias: the array the pipelined product
  leaves, equal to the reference.
-/
module

public import proofs.«01_k».proof.Proof.Gen.Mlp2Ideal.Value
public import proofs.«01_k».proof.Proof.Gen.Mlp2RefIdeal.Run
public import proofs.«01_k».proof.Proof.Gen.Mlp2RefIdeal.Read
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mlp2Ideal.Final

open Cert.Mlp2Ideal Cert.Mlp2Ideal.Gen

variable (m : (ℓ : Loc nD τ sig) → Buf (Elt Ideal) ℓ) (ρ : Dev nD → PrngReg)

/-- The reference's result over the kernel's five arguments. -/
abbrev REF (u : FVec Ideal S4096x4096 .f32) (w1 : FVec Ideal S4096x16384 .f32) (b1 : FVec Ideal S16384 .f32)
    (w2 : FVec Ideal S16384x4096 .f32) (b2 : FVec Ideal S4096 .f32) : FVec Ideal S4096x4096 .f32 :=
  Cert.Mlp2RefIdeal.Read.val_main_v9 (F := Ideal) u w1 b1 w2 b2

/-- The hidden activation after the rectifier, as the reference computes it. -/
abbrev HID (u : FVec Ideal S4096x4096 .f32) (w : FVec Ideal S4096x16384 .f32) (b : FVec Ideal S16384 .f32) :
    S4096x16384.Idx → EReal :=
  Cert.Mlp2RefIdeal.Read.val_main_v4 (F := Ideal) u w b

/-- The windows' block indices at a point. -/
theorem idx : ∀ t : Fin cfg0.N, win0_0.index t = ![t.val / 4 % 4, t.val % 4] ∧ win0_1.index t = ![t.val % 4, t.val / 16]
    ∧ win0_2.index t = ![0, t.val / 16] ∧ win0_3.index t = ![t.val / 4 % 4, t.val / 16] :=
  (by decide +kernel : ∀ t : Fin grid0.N, _)

/-- The first window's array: the hidden activation, rounded (the identity on the extended reals). -/
theorem entry0 (c : Dev nD) : (V m c main_v5 : S4096x16384.Idx → EReal) = HID (m ((c : Thread nD τ).loc main_arg0)) (m ((c : Thread nD τ).loc main_arg1)) (m ((c : Thread nD τ).loc main_arg2)) := by
  entry_read; rfl

/-- The second window's array: the second weight, rounded. -/
theorem entry1 (c : Dev nD) : (V m c main_v6 : S16384x4096.Idx → EReal) = (m ((c : Thread nD τ).loc main_arg3) : S16384x4096.Idx → EReal) := by
  entry_read; rfl

/-- The third window's array: the bias, cast to a row. -/
theorem entry2_row (c : Dev nD) : (V m c main_v7 : S1x4096.Idx → EReal)
    = shapeCast S1x4096 (m ((c : Thread nD τ).loc main_arg4) : S4096.Idx → EReal) shapeCasts_S4096_S1x4096 := rfl

/-- A vector cast to a row, at an index. -/
theorem row_at (b : S4096.Idx → EReal) (k : Fin 4096) : shapeCast S1x4096 b shapeCasts_S4096_S1x4096 (ix2 0 k) = b (ix1 k) := by
  pointwise
  blk_ext

/-- The bias row at an index. -/
theorem entry2 (c : Dev nD) (k : Fin 4096) :
    (V m c main_v7 (ix2 0 k) : EReal) = (m ((c : Thread nD τ).loc main_arg4) : S4096.Idx → EReal) (ix1 k) :=
  (congrFun (entry2_row m c) (ix2 0 k)).trans (row_at _ k)

/-- The first input's block at a point. -/
theorem blk0 (c : Dev nD) (t : Fin cfg0.N) (a : Fin 1024) (k : Fin 4096) (h : t.val / 4 % 4 * 1024 + a.val < 4096)
    (hk : t.val % 4 * 4096 + k.val < 16384) :
    (iblk m c 0 t (ix2 a k) : EReal) = HID (m ((c : Thread nD τ).loc main_arg0)) (m ((c : Thread nD τ).loc main_arg1)) (m ((c : Thread nD τ).loc main_arg2))
      (ix2 ⟨t.val / 4 % 4 * 1024 + a.val, h⟩ ⟨t.val % 4 * 4096 + k.val, hk⟩) := by
  rw [← entry0 m c]
  blk_ext [iblk, idx t]

/-- The second input's block at a point. -/
theorem blk1 (c : Dev nD) (t : Fin cfg0.N) (b : Fin 1024) (k : Fin 4096) (h : t.val / 16 * 1024 + b.val < 4096)
    (hk : t.val % 4 * 4096 + k.val < 16384) :
    (iblk m c 1 t (ix2 k b) : EReal) = (m ((c : Thread nD τ).loc main_arg3) : S16384x4096.Idx → EReal)
      (ix2 ⟨t.val % 4 * 4096 + k.val, hk⟩ ⟨t.val / 16 * 1024 + b.val, h⟩) := by
  rw [← entry1 m c]
  blk_ext [iblk, idx t]

/-- The bias row's block at a point. -/
theorem blk2 (c : Dev nD) (t : Fin cfg0.N) (b : Fin 1024) (h : t.val / 16 * 1024 + b.val < 4096) :
    (iblk m c 2 t (ix2 0 b) : EReal) = (m ((c : Thread nD τ).loc main_arg4) : S4096.Idx → EReal) (ix1 ⟨t.val / 16 * 1024 + b.val, h⟩) := by
  rw [← entry2 m c]
  blk_ext [iblk, idx t]

/-- The reference's result at an index: the contraction over the hidden features, and the bias. -/
theorem ref_at (u w1 b1 w2 b2) (j : S4096x4096.Idx) :
    REF u w1 b1 w2 b2 j = (∑ k : Fin 16384, (HID u w1 b1 (ix2 (j 0) k) * HID u w1 b1 (ix2 (j 0) k)) * (w2 (ix2 k (j 1)) : EReal))
      + b2 (ix1 (j 1)) := by
  rw [REF, Cert.Mlp2RefIdeal.Read.val_main_v9_apply, Cert.Mlp2RefIdeal.Read.val_main_v6_apply,
    Cert.Mlp2RefIdeal.Read.val_main_v8_apply, Cert.Mlp2RefIdeal.Read.val_main_v7_apply]
  refine congrArg₂ (· + ·) (Fin.sum_fin_congr fun k => ?_) (congrArg b2 ?_)
  · rw [Cert.Mlp2RefIdeal.Read.val_main_v5_apply]
    have e0 : Cert.Mlp2RefIdeal.Read.lidx_main_v6 j k = ix2 (j 0) k := by
      funext a; apply Fin.ext
      match a with
      | ⟨0, _⟩ => rfl
      | ⟨1, _⟩ => rfl
    have e1 : Cert.Mlp2RefIdeal.Read.ridx_main_v6 j k = ix2 k (j 1) := by
      funext a; apply Fin.ext
      match a with
      | ⟨0, _⟩ => rfl
      | ⟨1, _⟩ => rfl
    rw [e0, e1]
    rfl
  · funext a; apply Fin.ext
    match a with
    | ⟨0, _⟩ => rfl

/-- A point's partial product, at an index. -/
theorem part_at (x : Vec Ideal S1024x4096 .bf16) (w : Vec Ideal S4096x1024 .bf16) (y : S1024x1024.Idx) :
    (k0_pay1 (F := Ideal) x w y : EReal) = ∑ k : Fin 4096, ((x (ix2 (y 0) k) : EReal) * (x (ix2 (y 0) k) : EReal)) * (w (ix2 k (y 1)) : EReal) := by
  pointwise [k0_pay1]

/-- What a run keeps as it goes: the scratch, until at the run's last point the sum goes to the output block. -/
def kept (c : Dev nD) (n : ℕ) (h : n < cfg0.N) : S1024x1024.Idx → EReal := (outsAt0 m c n h).2

/-- The first point of a run keeps its partial product. -/
theorem kept_first (c : Dev nD) (t : Fin cfg0.N) (h : t.val % 4 = 0) (y : S1024x1024.Idx) :
    kept m c t.val t.isLt y = (k0_pay1 (F := Ideal) (iblk m c 0 t) (iblk m c 1 t) y : EReal) := by
  rw [kept, outsAt0_A m c t h (by omega) (by omega)]
  frame_out
  pointwise [k0_pay2]

/-- A middle point adds its partial product to what the run kept. -/
theorem kept_next (c : Dev nD) (t : Fin cfg0.N) (h : ¬t.val % 4 = 0) (h3 : ¬t.val % 4 = 3) (y : S1024x1024.Idx) :
    kept m c t.val t.isLt y = kept m c (t.val - 1) (Nat.lt_of_le_of_lt (Nat.sub_le _ _) t.isLt) y
      + (k0_pay1 (F := Ideal) (iblk m c 0 t) (iblk m c 1 t) y : EReal) := by
  rw [kept, kept, outsAt0_B m c t h (by omega) h3]
  frame_out
  pointwise [k0_pay3]
  exact congrArg (· + (k0_pay1 (F := Ideal) (iblk m c 0 t) (iblk m c 1 t) y : EReal)) (congrFun (read_unread_whole (Val := Elt Ideal) cc0_scratch0 _ (outsAt0 m c (t.val - 1) _).2) y)

/-- The last point of a run stores what the run kept, its own partial product and the bias. -/
theorem kept_last (c : Dev nD) (t : Fin cfg0.N) (h3 : t.val % 4 = 3) (y : S1024x1024.Idx) :
    ((outsAt0 m c t.val t.isLt).1 y : EReal) = (kept m c (t.val - 1) (Nat.lt_of_le_of_lt (Nat.sub_le _ _) t.isLt) y
      + (k0_pay1 (F := Ideal) (iblk m c 0 t) (iblk m c 1 t) y : EReal)) + (iblk m c 2 t (ix2 0 (y 1)) : EReal) := by
  rw [kept, outsAt0_C m c t (by omega) (by omega) h3]
  frame_out
  pointwise [k0_pay4]
  refine congrArg₂ (· + ·) ?_ rfl
  exact congrArg (· + (k0_pay1 (F := Ideal) (iblk m c 0 t) (iblk m c 1 t) y : EReal)) (congrFun (read_unread_whole (Val := Elt Ideal) cc0_scratch0 _ (outsAt0 m c (t.val - 1) _).2) y)

/-- The sum a run has reached at a point of it: what is kept there, or at the run's last point what is stored less the bias. -/
def reached (c : Dev nD) (n : ℕ) (h : n < cfg0.N) : S1024x1024.Idx → EReal := fun y =>
  if n % 4 = 3 then kept m c (n - 1) (Nat.lt_of_le_of_lt (Nat.sub_le _ _) h) y
      + (k0_pay1 (F := Ideal) (iblk m c 0 ⟨n, h⟩) (iblk m c 1 ⟨n, h⟩) y : EReal)
  else kept m c n h y

/-- The first point of a run. -/
theorem reached_first (c : Dev nD) (t : Fin cfg0.N) (h : t.val % 4 = 0) (y : S1024x1024.Idx) :
    reached m c t.val t.isLt y = 0 + (k0_pay1 (F := Ideal) (iblk m c 0 t) (iblk m c 1 t) y : EReal) := by
  rw [reached, if_neg (by omega), kept_first m c t h, zero_add]

/-- Every other point adds its partial product. -/
theorem reached_next (c : Dev nD) (t : Fin cfg0.N) (h : ¬t.val % 4 = 0) (y : S1024x1024.Idx) :
    reached m c t.val t.isLt y = reached m c (t.val - 1) (Nat.lt_of_le_of_lt (Nat.sub_le _ _) t.isLt) y
      + (k0_pay1 (F := Ideal) (iblk m c 0 t) (iblk m c 1 t) y : EReal) := by
  rw [reached, reached, if_neg (show ¬(t.val - 1) % 4 = 3 by omega)]
  by_cases h3 : t.val % 4 = 3
  · rw [if_pos h3]
  · rw [if_neg h3, kept_next m c t h h3]

/-- The array the product leaves. -/
theorem final (c : Dev nD) : (dats m 0 c).arrAt 3 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t hf y => ?_
  blk_simp
  have hf3 : t.val % 4 = 3 := (flush0_3 t).mp hf
  have hy0 : (y 0).val < 1024 := (y 0).isLt
  have hy1 : (y 1).val < 1024 := (y 1).isLt
  have ht : t.val < 64 := lt_of_lt_of_eq t.isLt N_0
  rw [after0_3]
  have e : ∀ y, ((outsAt0 m c t.val t.isLt).1 y : EReal) = reached m c t.val t.isLt y + (iblk m c 2 t (ix2 0 (y 1)) : EReal) := by
    intro y; rw [reached, if_pos hf3, kept_last m c t hf3]
  rw [ref_at]
  refine (e _).trans (congrArg₂ (· + ·) ?_ ((blk2 m c t (y 1) (by omega)).trans (by blk_ext [idx t])))
  rw [Pipeline.eq_sum_fin_of_reset_step_apply_of_flush (fun n h => reached m c n h) 4 (fun _ => 0)
    (fun t y => (k0_pay1 (F := Ideal) (iblk m c 0 t) (iblk m c 1 t) y : EReal))
    (reached_first m c) (reached_next m c) t hf3 _, zero_add]
  simp only [part_at]
  refine Fin.sum_mul_add_congr fun s k hl => ?_
  have hs := s.isLt
  have hp := Pipeline.run_point_lt_of_flush t hf3 s
  have e0 := blk0 m c ⟨_, hp⟩ (y 0) k (by dsimp only; omega) (by dsimp only; omega)
  refine congrArg₂ (· * ·) (congrArg₂ (· * ·) (e0.trans ?_) (e0.trans ?_))
    ((blk1 m c ⟨_, hp⟩ (y 1) k (by dsimp only; omega) (by dsimp only; omega)).trans ?_)
  · blk_ext [idx t]
  · blk_ext [idx t]
  · blk_ext [idx t]

end Cert.Mlp2Ideal.Final
end
-- ==== Proof.Adam.lean ====
/-
  One step of the optimiser on one element, on the extended reals: the two running means and the weight's increment.
-/
module

public import Idealize.ShloMosaic.Lib.Pipeline.ValueKit

@[expose] public section

noncomputable section

open Idealize.ShloMosaic

namespace Cert.Adam

/-- The running mean of the gradient: nine tenths of the old one and a tenth of the gradient. -/
def mean (g m : EReal) : EReal := Ideal.ofBits FTy.f32 0x3F666666#32 * m + Ideal.ofBits FTy.f32 0x3DCCCCCD#32 * g

/-- The running mean of the gradient's square. -/
def square (g v : EReal) : EReal := Ideal.ofBits FTy.f32 0x3F7FBE77#32 * v + Ideal.ofBits FTy.f32 0x3A83126F#32 * (g * g)

/-- The increment of the weight: minus the rate times the corrected mean over the root of the corrected square (plus a small
    constant), plus the decay of the weight. -/
def delta (w g m v : EReal) : EReal :=
  Ideal.ofBits FTy.f32 0xBA83126F#32 * (Ideal.div (Ideal.div (mean g m) (Ideal.ofBits FTy.f32 0x3F26BD02#32))
      (Ideal.sqrt (Ideal.div (square g v) (Ideal.ofBits FTy.f32 0x3C231ACC#32)) + Ideal.ofBits FTy.f32 0x322BCC77#32)
    + Ideal.ofBits FTy.f32 0x3C23D70A#32 * w)

end Cert.Adam
end
-- ==== Proof.AdamMod.lean ====
/-
  The optimiser step of the modulation weight: the three arrays the pipelined kernel leaves, equal to the reference step of
  every element.
-/
module

public import proofs.«01_k».proof.Proof.Gen.AdamModIdeal.Value
public import proofs.«01_k».proof.Proof.Gen.AdamModRefIdeal.Run
public import proofs.«01_k».proof.Proof.Gen.AdamModRefIdeal.Read
public import proofs.«01_k».proof.Proof.Adam
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamModIdeal.Final

open Cert.AdamModIdeal Cert.AdamModIdeal.Gen

variable (m : (ℓ : Loc nD τ sig) → Buf (Elt Ideal) ℓ) (ρ : Dev nD → PrngReg)

/-- Every window's block at a point is the point's rows. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

/-- The gradient's window reads the gradient with a leading axis of one. -/
theorem entry1 (c : Dev nD) (a : Fin 4096) (b : Fin 6144) :
    (V m c main_v0 (ix3 0 a b) : EReal) = (m ((c : Thread nD τ).loc main_arg1) : S4096x6144.Idx → EReal) (ix2 a b) := by
  unfold V; after_results
  pointwise
  blk_ext

/-- The gradient's block at a point. -/
theorem blk1 (c : Dev nD) (t : Fin cfg0.N) (a : Fin 64) (b : Fin 6144) (h : t.val * 64 + a.val < 4096) :
    (iblk m c 1 t (ix3 0 a b) : EReal) = (m ((c : Thread nD τ).loc main_arg1) : S4096x6144.Idx → EReal) (ix2 ⟨t.val * 64 + a.val, h⟩ b) := by
  rw [← entry1 m c]
  blk_ext [iblk, idx t]

/-- The weight's block at a point. -/
theorem blk0 (c : Dev nD) (t : Fin cfg0.N) (a : Fin 64) (b : Fin 6144) (h : t.val * 64 + a.val < 4096) :
    (iblk m c 0 t (ix3 0 a b) : EReal) = (m ((c : Thread nD τ).loc main_arg0) : S1x4096x6144.Idx → EReal) (ix3 0 ⟨t.val * 64 + a.val, h⟩ b) := by
  blk_ext [iblk, idx t, V]

/-- The running mean's block at a point. -/
theorem blk2 (c : Dev nD) (t : Fin cfg0.N) (a : Fin 64) (b : Fin 6144) (h : t.val * 64 + a.val < 4096) :
    (iblk m c 2 t (ix3 0 a b) : EReal) = (m ((c : Thread nD τ).loc main_arg2) : S1x4096x6144.Idx → EReal) (ix3 0 ⟨t.val * 64 + a.val, h⟩ b) := by
  blk_ext [iblk, idx t, V]

/-- The running square's block at a point. -/
theorem blk3 (c : Dev nD) (t : Fin cfg0.N) (a : Fin 64) (b : Fin 6144) (h : t.val * 64 + a.val < 4096) :
    (iblk m c 3 t (ix3 0 a b) : EReal) = (m ((c : Thread nD τ).loc main_arg3) : S1x4096x6144.Idx → EReal) (ix3 0 ⟨t.val * 64 + a.val, h⟩ b) := by
  blk_ext [iblk, idx t, V]

/-- The reference's increment at an index. -/
theorem ref4 (w : FVec Ideal S1x4096x6144 .f32) (g : FVec Ideal S4096x6144 .f32) (n : FVec Ideal S1x4096x6144 .f32) (v : FVec Ideal S1x4096x6144 .f32) (j : S1x4096x6144.Idx) :
    (Cert.AdamModRefIdeal.Read.val_main_v24 (F := Ideal) w g n v j : EReal) = Cert.Adam.delta (w j : EReal) (g (ix2 (j 1) (j 2)) : EReal) (n j : EReal) (v j : EReal) := by
  have e : Cert.AdamModRefIdeal.Read.idx_main_v0 j = (ix2 (j 1) (j 2) : S4096x6144.Idx) := by blk_ext
  simp only [Cert.AdamModRefIdeal.Read.val_main_v0_apply, Cert.AdamModRefIdeal.Read.val_main_cst_apply, Cert.AdamModRefIdeal.Read.val_main_v1_apply, Cert.AdamModRefIdeal.Read.val_main_v2_apply, Cert.AdamModRefIdeal.Read.val_main_cst_0_apply, Cert.AdamModRefIdeal.Read.val_main_v3_apply, Cert.AdamModRefIdeal.Read.val_main_v4_apply, Cert.AdamModRefIdeal.Read.val_main_v5_apply, Cert.AdamModRefIdeal.Read.val_main_cst_1_apply, Cert.AdamModRefIdeal.Read.val_main_v6_apply, Cert.AdamModRefIdeal.Read.val_main_v7_apply, Cert.AdamModRefIdeal.Read.val_main_v8_apply, Cert.AdamModRefIdeal.Read.val_main_cst_2_apply, Cert.AdamModRefIdeal.Read.val_main_v9_apply, Cert.AdamModRefIdeal.Read.val_main_v10_apply, Cert.AdamModRefIdeal.Read.val_main_v11_apply, Cert.AdamModRefIdeal.Read.val_main_cst_3_apply, Cert.AdamModRefIdeal.Read.val_main_v12_apply, Cert.AdamModRefIdeal.Read.val_main_v13_apply, Cert.AdamModRefIdeal.Read.val_main_cst_4_apply, Cert.AdamModRefIdeal.Read.val_main_v14_apply, Cert.AdamModRefIdeal.Read.val_main_v15_apply, Cert.AdamModRefIdeal.Read.val_main_v16_apply, Cert.AdamModRefIdeal.Read.val_main_cst_5_apply, Cert.AdamModRefIdeal.Read.val_main_v17_apply, Cert.AdamModRefIdeal.Read.val_main_v18_apply, Cert.AdamModRefIdeal.Read.val_main_v19_apply, Cert.AdamModRefIdeal.Read.val_main_cst_6_apply, Cert.AdamModRefIdeal.Read.val_main_v20_apply, Cert.AdamModRefIdeal.Read.val_main_v21_apply, Cert.AdamModRefIdeal.Read.val_main_v22_apply, Cert.AdamModRefIdeal.Read.val_main_cst_7_apply, Cert.AdamModRefIdeal.Read.val_main_v23_apply, Cert.AdamModRefIdeal.Read.val_main_v24_apply, e]
  rfl

/-- What a point stores of the increment is the reference's at the index's place in the array. -/
theorem point4 (c : Dev nD) (t : Fin cfg0.N) (y : S1x64x6144.Idx) :
    ((k0_pay6 (iblk m c 1 t) (iblk m c 0 t) (iblk m c 2 t) (iblk m c 3 t) : FVec Ideal S1x64x6144 .f32) y : EReal)
      = Cert.AdamModRefIdeal.Read.val_main_v24 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 64 := lt_of_lt_of_eq t.isLt N_0
  have h1 : (y 1).val < 64 := (y 1).isLt
  have hb : t.val * 64 + (y 1).val < 4096 := by omega
  have e : ((cfg0.win 4).blk t).view.emb y = (ix3 0 ⟨t.val * 64 + (y 1).val, hb⟩ (y 2) : S1x4096x6144.Idx) := by blk_ext [idx t]
  rw [e, ref4]
  have ey : y = (ix3 0 (y 1) (y 2) : S1x64x6144.Idx) := by blk_ext
  pointwise [k0_pay6, k0_pay4, k0_pay5, k0_pay3]
  rw [← blk0 m c t (y 1) (y 2) hb, ← blk1 m c t (y 1) (y 2) hb, ← blk2 m c t (y 1) (y 2) hb, ← blk3 m c t (y 1) (y 2) hb, ← ey]
  rfl

/-- The array of the increment. -/
theorem final4 (c : Dev nD) : (dats m 0 c).arrAt 4 (cfgs 0).N
    = Cert.AdamModRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

/-- The reference's new running mean at an index. -/
theorem ref5 (g : FVec Ideal S4096x6144 .f32) (n : FVec Ideal S1x4096x6144 .f32) (j : S1x4096x6144.Idx) :
    (Cert.AdamModRefIdeal.Read.val_main_v5 (F := Ideal) g n j : EReal) = Cert.Adam.mean (g (ix2 (j 1) (j 2)) : EReal) (n j : EReal) := by
  have e : Cert.AdamModRefIdeal.Read.idx_main_v0 j = (ix2 (j 1) (j 2) : S4096x6144.Idx) := by blk_ext
  simp only [Cert.AdamModRefIdeal.Read.val_main_v0_apply, Cert.AdamModRefIdeal.Read.val_main_cst_apply, Cert.AdamModRefIdeal.Read.val_main_v1_apply, Cert.AdamModRefIdeal.Read.val_main_v2_apply, Cert.AdamModRefIdeal.Read.val_main_cst_0_apply, Cert.AdamModRefIdeal.Read.val_main_v3_apply, Cert.AdamModRefIdeal.Read.val_main_v4_apply, Cert.AdamModRefIdeal.Read.val_main_v5_apply, Cert.AdamModRefIdeal.Read.val_main_cst_1_apply, Cert.AdamModRefIdeal.Read.val_main_v6_apply, Cert.AdamModRefIdeal.Read.val_main_v7_apply, Cert.AdamModRefIdeal.Read.val_main_v8_apply, Cert.AdamModRefIdeal.Read.val_main_cst_2_apply, Cert.AdamModRefIdeal.Read.val_main_v9_apply, Cert.AdamModRefIdeal.Read.val_main_v10_apply, Cert.AdamModRefIdeal.Read.val_main_v11_apply, Cert.AdamModRefIdeal.Read.val_main_cst_3_apply, Cert.AdamModRefIdeal.Read.val_main_v12_apply, Cert.AdamModRefIdeal.Read.val_main_v13_apply, Cert.AdamModRefIdeal.Read.val_main_cst_4_apply, Cert.AdamModRefIdeal.Read.val_main_v14_apply, Cert.AdamModRefIdeal.Read.val_main_v15_apply, Cert.AdamModRefIdeal.Read.val_main_v16_apply, Cert.AdamModRefIdeal.Read.val_main_cst_5_apply, Cert.AdamModRefIdeal.Read.val_main_v17_apply, Cert.AdamModRefIdeal.Read.val_main_v18_apply, Cert.AdamModRefIdeal.Read.val_main_v19_apply, Cert.AdamModRefIdeal.Read.val_main_cst_6_apply, Cert.AdamModRefIdeal.Read.val_main_v20_apply, Cert.AdamModRefIdeal.Read.val_main_v21_apply, Cert.AdamModRefIdeal.Read.val_main_v22_apply, Cert.AdamModRefIdeal.Read.val_main_cst_7_apply, Cert.AdamModRefIdeal.Read.val_main_v23_apply, Cert.AdamModRefIdeal.Read.val_main_v24_apply, e]
  rfl

/-- What a point stores of the new running mean is the reference's at the index's place in the array. -/
theorem point5 (c : Dev nD) (t : Fin cfg0.N) (y : S1x64x6144.Idx) :
    ((k0_pay1 (k0_pay4 (iblk m c 1 t) (iblk m c 2 t)) : FVec Ideal S1x64x6144 .f32) y : EReal)
      = Cert.AdamModRefIdeal.Read.val_main_v5 (F := Ideal) (m ((c : Thread nD τ).loc main_arg1)) (m ((c : Thread nD τ).loc main_arg2)) (((cfg0.win 5).blk t).view.emb y) := by
  have ht : t.val < 64 := lt_of_lt_of_eq t.isLt N_0
  have h1 : (y 1).val < 64 := (y 1).isLt
  have hb : t.val * 64 + (y 1).val < 4096 := by omega
  have e : ((cfg0.win 5).blk t).view.emb y = (ix3 0 ⟨t.val * 64 + (y 1).val, hb⟩ (y 2) : S1x4096x6144.Idx) := by blk_ext [idx t]
  rw [e, ref5]
  have ey : y = (ix3 0 (y 1) (y 2) : S1x64x6144.Idx) := by blk_ext
  pointwise [k0_pay1, k0_pay4, k0_pay3]
  rw [← blk1 m c t (y 1) (y 2) hb, ← blk2 m c t (y 1) (y 2) hb, ← ey]
  rfl

/-- The array of the new running mean. -/
theorem final5 (c : Dev nD) : (dats m 0 c).arrAt 5 (cfgs 0).N
    = Cert.AdamModRefIdeal.Read.val_main_v5 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

/-- The reference's new running square at an index. -/
theorem ref6 (g : FVec Ideal S4096x6144 .f32) (v : FVec Ideal S1x4096x6144 .f32) (j : S1x4096x6144.Idx) :
    (Cert.AdamModRefIdeal.Read.val_main_v11 (F := Ideal) g v j : EReal) = Cert.Adam.square (g (ix2 (j 1) (j 2)) : EReal) (v j : EReal) := by
  have e : Cert.AdamModRefIdeal.Read.idx_main_v0 j = (ix2 (j 1) (j 2) : S4096x6144.Idx) := by blk_ext
  simp only [Cert.AdamModRefIdeal.Read.val_main_v0_apply, Cert.AdamModRefIdeal.Read.val_main_cst_apply, Cert.AdamModRefIdeal.Read.val_main_v1_apply, Cert.AdamModRefIdeal.Read.val_main_v2_apply, Cert.AdamModRefIdeal.Read.val_main_cst_0_apply, Cert.AdamModRefIdeal.Read.val_main_v3_apply, Cert.AdamModRefIdeal.Read.val_main_v4_apply, Cert.AdamModRefIdeal.Read.val_main_v5_apply, Cert.AdamModRefIdeal.Read.val_main_cst_1_apply, Cert.AdamModRefIdeal.Read.val_main_v6_apply, Cert.AdamModRefIdeal.Read.val_main_v7_apply, Cert.AdamModRefIdeal.Read.val_main_v8_apply, Cert.AdamModRefIdeal.Read.val_main_cst_2_apply, Cert.AdamModRefIdeal.Read.val_main_v9_apply, Cert.AdamModRefIdeal.Read.val_main_v10_apply, Cert.AdamModRefIdeal.Read.val_main_v11_apply, Cert.AdamModRefIdeal.Read.val_main_cst_3_apply, Cert.AdamModRefIdeal.Read.val_main_v12_apply, Cert.AdamModRefIdeal.Read.val_main_v13_apply, Cert.AdamModRefIdeal.Read.val_main_cst_4_apply, Cert.AdamModRefIdeal.Read.val_main_v14_apply, Cert.AdamModRefIdeal.Read.val_main_v15_apply, Cert.AdamModRefIdeal.Read.val_main_v16_apply, Cert.AdamModRefIdeal.Read.val_main_cst_5_apply, Cert.AdamModRefIdeal.Read.val_main_v17_apply, Cert.AdamModRefIdeal.Read.val_main_v18_apply, Cert.AdamModRefIdeal.Read.val_main_v19_apply, Cert.AdamModRefIdeal.Read.val_main_cst_6_apply, Cert.AdamModRefIdeal.Read.val_main_v20_apply, Cert.AdamModRefIdeal.Read.val_main_v21_apply, Cert.AdamModRefIdeal.Read.val_main_v22_apply, Cert.AdamModRefIdeal.Read.val_main_cst_7_apply, Cert.AdamModRefIdeal.Read.val_main_v23_apply, Cert.AdamModRefIdeal.Read.val_main_v24_apply, e]
  rfl

/-- What a point stores of the new running square is the reference's at the index's place in the array. -/
theorem point6 (c : Dev nD) (t : Fin cfg0.N) (y : S1x64x6144.Idx) :
    ((k0_pay2 (k0_pay5 (iblk m c 1 t) (iblk m c 3 t)) : FVec Ideal S1x64x6144 .f32) y : EReal)
      = Cert.AdamModRefIdeal.Read.val_main_v11 (F := Ideal) (m ((c : Thread nD τ).loc main_arg1)) (m ((c : Thread nD τ).loc main_arg3)) (((cfg0.win 6).blk t).view.emb y) := by
  have ht : t.val < 64 := lt_of_lt_of_eq t.isLt N_0
  have h1 : (y 1).val < 64 := (y 1).isLt
  have hb : t.val * 64 + (y 1).val < 4096 := by omega
  have e : ((cfg0.win 6).blk t).view.emb y = (ix3 0 ⟨t.val * 64 + (y 1).val, hb⟩ (y 2) : S1x4096x6144.Idx) := by blk_ext [idx t]
  rw [e, ref6]
  have ey : y = (ix3 0 (y 1) (y 2) : S1x64x6144.Idx) := by blk_ext
  pointwise [k0_pay2, k0_pay5, k0_pay3]
  rw [← blk1 m c t (y 1) (y 2) hb, ← blk3 m c t (y 1) (y 2) hb, ← ey]
  rfl

/-- The array of the new running square. -/
theorem final6 (c : Dev nD) : (dats m 0 c).arrAt 6 (cfgs 0).N
    = Cert.AdamModRefIdeal.Read.val_main_v11 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  exact point6 m c t y

end Cert.AdamModIdeal.Final
end
-- ==== Proof.AdamMlp.lean ====
/-
  The optimiser step of a matrix of the two-layer perceptron: the four arrays the pipelined kernel leaves, equal to the
  reference step of every element.
-/
module

public import proofs.«01_k».proof.Proof.Gen.AdamMlpIdeal.Value
public import proofs.«01_k».proof.Proof.Gen.AdamMlpRefIdeal.Run
public import proofs.«01_k».proof.Proof.Gen.AdamMlpRefIdeal.Read
public import proofs.«01_k».proof.Proof.Adam
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamMlpIdeal.Final

open Cert.AdamMlpIdeal Cert.AdamMlpIdeal.Gen

variable (m : (ℓ : Loc nD τ sig) → Buf (Elt Ideal) ℓ) (ρ : Dev nD → PrngReg)

/-- Every window's block at a point is the point's rows. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The gradient's window reads the gradient with a leading axis of one. -/
theorem entry1 (c : Dev nD) (a : Fin 4096) (b : Fin 4096) :
    (V m c main_v0 (ix3 0 a b) : EReal) = (m ((c : Thread nD τ).loc main_arg1) : S4096x4096.Idx → EReal) (ix2 a b) := by
  unfold V; after_results
  pointwise
  blk_ext

/-- The gradient's block at a point. -/
theorem blk1 (c : Dev nD) (t : Fin cfg0.N) (a : Fin 128) (b : Fin 4096) (h : t.val * 128 + a.val < 4096) :
    (iblk m c 1 t (ix3 0 a b) : EReal) = (m ((c : Thread nD τ).loc main_arg1) : S4096x4096.Idx → EReal) (ix2 ⟨t.val * 128 + a.val, h⟩ b) := by
  rw [← entry1 m c]
  blk_ext [iblk, idx t]

/-- The weight's block at a point. -/
theorem blk0 (c : Dev nD) (t : Fin cfg0.N) (a : Fin 128) (b : Fin 4096) (h : t.val * 128 + a.val < 4096) :
    (iblk m c 0 t (ix3 0 a b) : EReal) = (m ((c : Thread nD τ).loc main_arg0) : S1x4096x4096.Idx → EReal) (ix3 0 ⟨t.val * 128 + a.val, h⟩ b) := by
  blk_ext [iblk, idx t, V]

/-- The running mean's block at a point. -/
theorem blk2 (c : Dev nD) (t : Fin cfg0.N) (a : Fin 128) (b : Fin 4096) (h : t.val * 128 + a.val < 4096) :
    (iblk m c 2 t (ix3 0 a b) : EReal) = (m ((c : Thread nD τ).loc main_arg2) : S1x4096x4096.Idx → EReal) (ix3 0 ⟨t.val * 128 + a.val, h⟩ b) := by
  blk_ext [iblk, idx t, V]

/-- The running square's block at a point. -/
theorem blk3 (c : Dev nD) (t : Fin cfg0.N) (a : Fin 128) (b : Fin 4096) (h : t.val * 128 + a.val < 4096) :
    (iblk m c 3 t (ix3 0 a b) : EReal) = (m ((c : Thread nD τ).loc main_arg3) : S1x4096x4096.Idx → EReal) (ix3 0 ⟨t.val * 128 + a.val, h⟩ b) := by
  blk_ext [iblk, idx t, V]

/-- The reference's increment at an index. -/
theorem ref4 (w : FVec Ideal S1x4096x4096 .f32) (g : FVec Ideal S4096x4096 .f32) (n : FVec Ideal S1x4096x4096 .f32) (v : FVec Ideal S1x4096x4096 .f32) (j : S1x4096x4096.Idx) :
    (Cert.AdamMlpRefIdeal.Read.val_main_v24 (F := Ideal) w g n v j : EReal) = Cert.Adam.delta (w j : EReal) (g (ix2 (j 1) (j 2)) : EReal) (n j : EReal) (v j : EReal) := by
  have e : Cert.AdamMlpRefIdeal.Read.idx_main_v0 j = (ix2 (j 1) (j 2) : S4096x4096.Idx) := by blk_ext
  simp only [Cert.AdamMlpRefIdeal.Read.val_main_v0_apply, Cert.AdamMlpRefIdeal.Read.val_main_cst_apply, Cert.AdamMlpRefIdeal.Read.val_main_v1_apply, Cert.AdamMlpRefIdeal.Read.val_main_v2_apply, Cert.AdamMlpRefIdeal.Read.val_main_cst_0_apply, Cert.AdamMlpRefIdeal.Read.val_main_v3_apply, Cert.AdamMlpRefIdeal.Read.val_main_v4_apply, Cert.AdamMlpRefIdeal.Read.val_main_v5_apply, Cert.AdamMlpRefIdeal.Read.val_main_cst_1_apply, Cert.AdamMlpRefIdeal.Read.val_main_v6_apply, Cert.AdamMlpRefIdeal.Read.val_main_v7_apply, Cert.AdamMlpRefIdeal.Read.val_main_v8_apply, Cert.AdamMlpRefIdeal.Read.val_main_cst_2_apply, Cert.AdamMlpRefIdeal.Read.val_main_v9_apply, Cert.AdamMlpRefIdeal.Read.val_main_v10_apply, Cert.AdamMlpRefIdeal.Read.val_main_v11_apply, Cert.AdamMlpRefIdeal.Read.val_main_cst_3_apply, Cert.AdamMlpRefIdeal.Read.val_main_v12_apply, Cert.AdamMlpRefIdeal.Read.val_main_v13_apply, Cert.AdamMlpRefIdeal.Read.val_main_cst_4_apply, Cert.AdamMlpRefIdeal.Read.val_main_v14_apply, Cert.AdamMlpRefIdeal.Read.val_main_v15_apply, Cert.AdamMlpRefIdeal.Read.val_main_v16_apply, Cert.AdamMlpRefIdeal.Read.val_main_cst_5_apply, Cert.AdamMlpRefIdeal.Read.val_main_v17_apply, Cert.AdamMlpRefIdeal.Read.val_main_v18_apply, Cert.AdamMlpRefIdeal.Read.val_main_v19_apply, Cert.AdamMlpRefIdeal.Read.val_main_cst_6_apply, Cert.AdamMlpRefIdeal.Read.val_main_v20_apply, Cert.AdamMlpRefIdeal.Read.val_main_v21_apply, Cert.AdamMlpRefIdeal.Read.val_main_v22_apply, Cert.AdamMlpRefIdeal.Read.val_main_cst_7_apply, Cert.AdamMlpRefIdeal.Read.val_main_v23_apply, Cert.AdamMlpRefIdeal.Read.val_main_v24_apply, Cert.AdamMlpRefIdeal.Read.val_main_v25_apply, e]
  rfl

/-- What a point stores of the increment is the reference's at the index's place in the array. -/
theorem point4 (c : Dev nD) (t : Fin cfg0.N) (y : S1x128x4096.Idx) :
    ((k0_pay7 (iblk m c 1 t) (iblk m c 0 t) (iblk m c 2 t) (iblk m c 3 t) : FVec Ideal S1x128x4096 .f32) y : EReal)
      = Cert.AdamMlpRefIdeal.Read.val_main_v24 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 32 := lt_of_lt_of_eq t.isLt N_0
  have h1 : (y 1).val < 128 := (y 1).isLt
  have hb : t.val * 128 + (y 1).val < 4096 := by omega
  have e : ((cfg0.win 4).blk t).view.emb y = (ix3 0 ⟨t.val * 128 + (y 1).val, hb⟩ (y 2) : S1x4096x4096.Idx) := by blk_ext [idx t]
  rw [e, ref4]
  have ey : y = (ix3 0 (y 1) (y 2) : S1x128x4096.Idx) := by blk_ext
  pointwise [k0_pay7, k0_pay5, k0_pay6, k0_pay4]
  rw [← blk0 m c t (y 1) (y 2) hb, ← blk1 m c t (y 1) (y 2) hb, ← blk2 m c t (y 1) (y 2) hb, ← blk3 m c t (y 1) (y 2) hb, ← ey]
  rfl

/-- The array of the increment. -/
theorem final4 (c : Dev nD) : (dats m 0 c).arrAt 4 (cfgs 0).N
    = Cert.AdamMlpRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

/-- The reference's new running mean at an index. -/
theorem ref5 (g : FVec Ideal S4096x4096 .f32) (n : FVec Ideal S1x4096x4096 .f32) (j : S1x4096x4096.Idx) :
    (Cert.AdamMlpRefIdeal.Read.val_main_v5 (F := Ideal) g n j : EReal) = Cert.Adam.mean (g (ix2 (j 1) (j 2)) : EReal) (n j : EReal) := by
  have e : Cert.AdamMlpRefIdeal.Read.idx_main_v0 j = (ix2 (j 1) (j 2) : S4096x4096.Idx) := by blk_ext
  simp only [Cert.AdamMlpRefIdeal.Read.val_main_v0_apply, Cert.AdamMlpRefIdeal.Read.val_main_cst_apply, Cert.AdamMlpRefIdeal.Read.val_main_v1_apply, Cert.AdamMlpRefIdeal.Read.val_main_v2_apply, Cert.AdamMlpRefIdeal.Read.val_main_cst_0_apply, Cert.AdamMlpRefIdeal.Read.val_main_v3_apply, Cert.AdamMlpRefIdeal.Read.val_main_v4_apply, Cert.AdamMlpRefIdeal.Read.val_main_v5_apply, Cert.AdamMlpRefIdeal.Read.val_main_cst_1_apply, Cert.AdamMlpRefIdeal.Read.val_main_v6_apply, Cert.AdamMlpRefIdeal.Read.val_main_v7_apply, Cert.AdamMlpRefIdeal.Read.val_main_v8_apply, Cert.AdamMlpRefIdeal.Read.val_main_cst_2_apply, Cert.AdamMlpRefIdeal.Read.val_main_v9_apply, Cert.AdamMlpRefIdeal.Read.val_main_v10_apply, Cert.AdamMlpRefIdeal.Read.val_main_v11_apply, Cert.AdamMlpRefIdeal.Read.val_main_cst_3_apply, Cert.AdamMlpRefIdeal.Read.val_main_v12_apply, Cert.AdamMlpRefIdeal.Read.val_main_v13_apply, Cert.AdamMlpRefIdeal.Read.val_main_cst_4_apply, Cert.AdamMlpRefIdeal.Read.val_main_v14_apply, Cert.AdamMlpRefIdeal.Read.val_main_v15_apply, Cert.AdamMlpRefIdeal.Read.val_main_v16_apply, Cert.AdamMlpRefIdeal.Read.val_main_cst_5_apply, Cert.AdamMlpRefIdeal.Read.val_main_v17_apply, Cert.AdamMlpRefIdeal.Read.val_main_v18_apply, Cert.AdamMlpRefIdeal.Read.val_main_v19_apply, Cert.AdamMlpRefIdeal.Read.val_main_cst_6_apply, Cert.AdamMlpRefIdeal.Read.val_main_v20_apply, Cert.AdamMlpRefIdeal.Read.val_main_v21_apply, Cert.AdamMlpRefIdeal.Read.val_main_v22_apply, Cert.AdamMlpRefIdeal.Read.val_main_cst_7_apply, Cert.AdamMlpRefIdeal.Read.val_main_v23_apply, Cert.AdamMlpRefIdeal.Read.val_main_v24_apply, Cert.AdamMlpRefIdeal.Read.val_main_v25_apply, e]
  rfl

/-- What a point stores of the new running mean is the reference's at the index's place in the array. -/
theorem point5 (c : Dev nD) (t : Fin cfg0.N) (y : S1x128x4096.Idx) :
    ((k0_pay1 (k0_pay5 (iblk m c 1 t) (iblk m c 2 t)) : FVec Ideal S1x128x4096 .f32) y : EReal)
      = Cert.AdamMlpRefIdeal.Read.val_main_v5 (F := Ideal) (m ((c : Thread nD τ).loc main_arg1)) (m ((c : Thread nD τ).loc main_arg2)) (((cfg0.win 5).blk t).view.emb y) := by
  have ht : t.val < 32 := lt_of_lt_of_eq t.isLt N_0
  have h1 : (y 1).val < 128 := (y 1).isLt
  have hb : t.val * 128 + (y 1).val < 4096 := by omega
  have e : ((cfg0.win 5).blk t).view.emb y = (ix3 0 ⟨t.val * 128 + (y 1).val, hb⟩ (y 2) : S1x4096x4096.Idx) := by blk_ext [idx t]
  rw [e, ref5]
  have ey : y = (ix3 0 (y 1) (y 2) : S1x128x4096.Idx) := by blk_ext
  pointwise [k0_pay1, k0_pay5, k0_pay4]
  rw [← blk1 m c t (y 1) (y 2) hb, ← blk2 m c t (y 1) (y 2) hb, ← ey]
  rfl

/-- The array of the new running mean. -/
theorem final5 (c : Dev nD) : (dats m 0 c).arrAt 5 (cfgs 0).N
    = Cert.AdamMlpRefIdeal.Read.val_main_v5 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

/-- The reference's new running square at an index. -/
theorem ref6 (g : FVec Ideal S4096x4096 .f32) (v : FVec Ideal S1x4096x4096 .f32) (j : S1x4096x4096.Idx) :
    (Cert.AdamMlpRefIdeal.Read.val_main_v11 (F := Ideal) g v j : EReal) = Cert.Adam.square (g (ix2 (j 1) (j 2)) : EReal) (v j : EReal) := by
  have e : Cert.AdamMlpRefIdeal.Read.idx_main_v0 j = (ix2 (j 1) (j 2) : S4096x4096.Idx) := by blk_ext
  simp only [Cert.AdamMlpRefIdeal.Read.val_main_v0_apply, Cert.AdamMlpRefIdeal.Read.val_main_cst_apply, Cert.AdamMlpRefIdeal.Read.val_main_v1_apply, Cert.AdamMlpRefIdeal.Read.val_main_v2_apply, Cert.AdamMlpRefIdeal.Read.val_main_cst_0_apply, Cert.AdamMlpRefIdeal.Read.val_main_v3_apply, Cert.AdamMlpRefIdeal.Read.val_main_v4_apply, Cert.AdamMlpRefIdeal.Read.val_main_v5_apply, Cert.AdamMlpRefIdeal.Read.val_main_cst_1_apply, Cert.AdamMlpRefIdeal.Read.val_main_v6_apply, Cert.AdamMlpRefIdeal.Read.val_main_v7_apply, Cert.AdamMlpRefIdeal.Read.val_main_v8_apply, Cert.AdamMlpRefIdeal.Read.val_main_cst_2_apply, Cert.AdamMlpRefIdeal.Read.val_main_v9_apply, Cert.AdamMlpRefIdeal.Read.val_main_v10_apply, Cert.AdamMlpRefIdeal.Read.val_main_v11_apply, Cert.AdamMlpRefIdeal.Read.val_main_cst_3_apply, Cert.AdamMlpRefIdeal.Read.val_main_v12_apply, Cert.AdamMlpRefIdeal.Read.val_main_v13_apply, Cert.AdamMlpRefIdeal.Read.val_main_cst_4_apply, Cert.AdamMlpRefIdeal.Read.val_main_v14_apply, Cert.AdamMlpRefIdeal.Read.val_main_v15_apply, Cert.AdamMlpRefIdeal.Read.val_main_v16_apply, Cert.AdamMlpRefIdeal.Read.val_main_cst_5_apply, Cert.AdamMlpRefIdeal.Read.val_main_v17_apply, Cert.AdamMlpRefIdeal.Read.val_main_v18_apply, Cert.AdamMlpRefIdeal.Read.val_main_v19_apply, Cert.AdamMlpRefIdeal.Read.val_main_cst_6_apply, Cert.AdamMlpRefIdeal.Read.val_main_v20_apply, Cert.AdamMlpRefIdeal.Read.val_main_v21_apply, Cert.AdamMlpRefIdeal.Read.val_main_v22_apply, Cert.AdamMlpRefIdeal.Read.val_main_cst_7_apply, Cert.AdamMlpRefIdeal.Read.val_main_v23_apply, Cert.AdamMlpRefIdeal.Read.val_main_v24_apply, Cert.AdamMlpRefIdeal.Read.val_main_v25_apply, e]
  rfl

/-- What a point stores of the new running square is the reference's at the index's place in the array. -/
theorem point6 (c : Dev nD) (t : Fin cfg0.N) (y : S1x128x4096.Idx) :
    ((k0_pay2 (k0_pay6 (iblk m c 1 t) (iblk m c 3 t)) : FVec Ideal S1x128x4096 .f32) y : EReal)
      = Cert.AdamMlpRefIdeal.Read.val_main_v11 (F := Ideal) (m ((c : Thread nD τ).loc main_arg1)) (m ((c : Thread nD τ).loc main_arg3)) (((cfg0.win 6).blk t).view.emb y) := by
  have ht : t.val < 32 := lt_of_lt_of_eq t.isLt N_0
  have h1 : (y 1).val < 128 := (y 1).isLt
  have hb : t.val * 128 + (y 1).val < 4096 := by omega
  have e : ((cfg0.win 6).blk t).view.emb y = (ix3 0 ⟨t.val * 128 + (y 1).val, hb⟩ (y 2) : S1x4096x4096.Idx) := by blk_ext [idx t]
  rw [e, ref6]
  have ey : y = (ix3 0 (y 1) (y 2) : S1x128x4096.Idx) := by blk_ext
  pointwise [k0_pay2, k0_pay6, k0_pay4]
  rw [← blk1 m c t (y 1) (y 2) hb, ← blk3 m c t (y 1) (y 2) hb, ← ey]
  rfl

/-- The array of the new running square. -/
theorem final6 (c : Dev nD) : (dats m 0 c).arrAt 6 (cfgs 0).N
    = Cert.AdamMlpRefIdeal.Read.val_main_v11 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  exact point6 m c t y

/-- The reference's gradient handed on at an index. -/
theorem ref7 (g : FVec Ideal S4096x4096 .f32) (j : S1x4096x4096.Idx) :
    (Cert.AdamMlpRefIdeal.Read.val_main_v25 (F := Ideal) g j : EReal) = (g (ix2 (j 1) (j 2)) : EReal) := by
  have e : Cert.AdamMlpRefIdeal.Read.idx_main_v25 j = (ix2 (j 1) (j 2) : S4096x4096.Idx) := by blk_ext
  simp only [Cert.AdamMlpRefIdeal.Read.val_main_v0_apply, Cert.AdamMlpRefIdeal.Read.val_main_cst_apply, Cert.AdamMlpRefIdeal.Read.val_main_v1_apply, Cert.AdamMlpRefIdeal.Read.val_main_v2_apply, Cert.AdamMlpRefIdeal.Read.val_main_cst_0_apply, Cert.AdamMlpRefIdeal.Read.val_main_v3_apply, Cert.AdamMlpRefIdeal.Read.val_main_v4_apply, Cert.AdamMlpRefIdeal.Read.val_main_v5_apply, Cert.AdamMlpRefIdeal.Read.val_main_cst_1_apply, Cert.AdamMlpRefIdeal.Read.val_main_v6_apply, Cert.AdamMlpRefIdeal.Read.val_main_v7_apply, Cert.AdamMlpRefIdeal.Read.val_main_v8_apply, Cert.AdamMlpRefIdeal.Read.val_main_cst_2_apply, Cert.AdamMlpRefIdeal.Read.val_main_v9_apply, Cert.AdamMlpRefIdeal.Read.val_main_v10_apply, Cert.AdamMlpRefIdeal.Read.val_main_v11_apply, Cert.AdamMlpRefIdeal.Read.val_main_cst_3_apply, Cert.AdamMlpRefIdeal.Read.val_main_v12_apply, Cert.AdamMlpRefIdeal.Read.val_main_v13_apply, Cert.AdamMlpRefIdeal.Read.val_main_cst_4_apply, Cert.AdamMlpRefIdeal.Read.val_main_v14_apply, Cert.AdamMlpRefIdeal.Read.val_main_v15_apply, Cert.AdamMlpRefIdeal.Read.val_main_v16_apply, Cert.AdamMlpRefIdeal.Read.val_main_cst_5_apply, Cert.AdamMlpRefIdeal.Read.val_main_v17_apply, Cert.AdamMlpRefIdeal.Read.val_main_v18_apply, Cert.AdamMlpRefIdeal.Read.val_main_v19_apply, Cert.AdamMlpRefIdeal.Read.val_main_cst_6_apply, Cert.AdamMlpRefIdeal.Read.val_main_v20_apply, Cert.AdamMlpRefIdeal.Read.val_main_v21_apply, Cert.AdamMlpRefIdeal.Read.val_main_v22_apply, Cert.AdamMlpRefIdeal.Read.val_main_cst_7_apply, Cert.AdamMlpRefIdeal.Read.val_main_v23_apply, Cert.AdamMlpRefIdeal.Read.val_main_v24_apply, Cert.AdamMlpRefIdeal.Read.val_main_v25_apply, e]

/-- What a point stores of the gradient handed on is the reference's at the index's place in the array. -/
theorem point7 (c : Dev nD) (t : Fin cfg0.N) (y : S1x128x4096.Idx) :
    ((k0_pay3 (k0_pay4 (iblk m c 1 t)) : FVec Ideal S1x128x4096 .f32) y : EReal)
      = Cert.AdamMlpRefIdeal.Read.val_main_v25 (F := Ideal) (m ((c : Thread nD τ).loc main_arg1)) (((cfg0.win 7).blk t).view.emb y) := by
  have ht : t.val < 32 := lt_of_lt_of_eq t.isLt N_0
  have h1 : (y 1).val < 128 := (y 1).isLt
  have hb : t.val * 128 + (y 1).val < 4096 := by omega
  have e : ((cfg0.win 7).blk t).view.emb y = (ix3 0 ⟨t.val * 128 + (y 1).val, hb⟩ (y 2) : S1x4096x4096.Idx) := by blk_ext [idx t]
  rw [e, ref7]
  have ey : y = (ix3 0 (y 1) (y 2) : S1x128x4096.Idx) := by blk_ext
  pointwise [k0_pay3, k0_pay4]
  rw [← blk1 m c t (y 1) (y 2) hb, ← ey]

/-- The array of the gradient handed on. -/
theorem final7 (c : Dev nD) : (dats m 0 c).arrAt 7 (cfgs 0).N
    = Cert.AdamMlpRefIdeal.Read.val_main_v25 (F := Ideal) (m ((c : Thread nD τ).loc main_arg1)) := by
  refine (dats m 0 c).arrAt_eq_of_covers 7 _ (by decide +kernel) fun t _ y => ?_
  blk_simp
  rw [after0_7]; frame_out
  exact point7 m c t y

end Cert.AdamMlpIdeal.Final
end
-- ==== Proof.AdamIn.lean ====
/-
  The optimiser step of the input projection, whose matrix, running means and gradient the kernel takes transposed: the four
  arrays the pipelined kernel leaves, equal to the transposed reference step of every element.
-/
module

public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Adam
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamInIdeal.Final

open Cert.AdamInIdeal Cert.AdamInIdeal.Gen

variable (m : (ℓ : Loc nD τ sig) → Buf (Elt Ideal) ℓ) (ρ : Dev nD → PrngReg)

/-- Every window's block at a point is the point's columns. -/
theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

/-- The weight's window reads the weight transposed. -/
theorem entry0 (c : Dev nD) (a : Fin 3088) (b : Fin 4096) :
    (V m c main_v1 (ix2 a b) : EReal) = (m ((c : Thread nD τ).loc main_arg0) : S1x4096x3088.Idx → EReal) (ix3 0 b a) := by
  unfold V; after_results
  pointwise
  blk_ext

/-- The weight's block at a point. -/
theorem blk0 (c : Dev nD) (t : Fin cfg0.N) (a : Fin 3088) (b : Fin 128) (h : t.val * 128 + b.val < 4096) :
    (iblk m c 0 t (ix2 a b) : EReal) = (m ((c : Thread nD τ).loc main_arg0) : S1x4096x3088.Idx → EReal) (ix3 0 ⟨t.val * 128 + b.val, h⟩ a) := by
  rw [← entry0 m c]
  blk_ext [iblk, idx t]

/-- The running mean's window reads the running mean transposed. -/
theorem entry2 (c : Dev nD) (a : Fin 3088) (b : Fin 4096) :
    (V m c main_v3 (ix2 a b) : EReal) = (m ((c : Thread nD τ).loc main_arg2) : S1x4096x3088.Idx → EReal) (ix3 0 b a) := by
  unfold V; after_results
  pointwise
  blk_ext

/-- The running mean's block at a point. -/
theorem blk2 (c : Dev nD) (t : Fin cfg0.N) (a : Fin 3088) (b : Fin 128) (h : t.val * 128 + b.val < 4096) :
    (iblk m c 2 t (ix2 a b) : EReal) = (m ((c : Thread nD τ).loc main_arg2) : S1x4096x3088.Idx → EReal) (ix3 0 ⟨t.val * 128 + b.val, h⟩ a) := by
  rw [← entry2 m c]
  blk_ext [iblk, idx t]

/-- The running square's window reads the running square transposed. -/
theorem entry3 (c : Dev nD) (a : Fin 3088) (b : Fin 4096) :
    (V m c main_v5 (ix2 a b) : EReal) = (m ((c : Thread nD τ).loc main_arg3) : S1x4096x3088.Idx → EReal) (ix3 0 b a) := by
  unfold V; after_results
  pointwise
  blk_ext

/-- The running square's block at a point. -/
theorem blk3 (c : Dev nD) (t : Fin cfg0.N) (a : Fin 3088) (b : Fin 128) (h : t.val * 128 + b.val < 4096) :
    (iblk m c 3 t (ix2 a b) : EReal) = (m ((c : Thread nD τ).loc main_arg3) : S1x4096x3088.Idx → EReal) (ix3 0 ⟨t.val * 128 + b.val, h⟩ a) := by
  rw [← entry3 m c]
  blk_ext [iblk, idx t]

/-- The gradient's block at a point. -/
theorem blk1 (c : Dev nD) (t : Fin cfg0.N) (a : Fin 3088) (b : Fin 128) (h : t.val * 128 + b.val < 4096) :
    (iblk m c 1 t (ix2 a b) : EReal) = (m ((c : Thread nD τ).loc main_arg1) : S3088x4096.Idx → EReal) (ix2 a ⟨t.val * 128 + b.val, h⟩) := by
  blk_ext [iblk, idx t, V]

/-- The reference's increment at an index. -/
theorem ref4 (w : FVec Ideal S1x4096x3088 .f32) (g : FVec Ideal S3088x4096 .f32) (n : FVec Ideal S1x4096x3088 .f32) (v : FVec Ideal S1x4096x3088 .f32) (j : S3088x4096.Idx) :
    (Cert.AdamInRefIdeal.Read.val_main_v27 (F := Ideal) w g n v j : EReal) = Cert.Adam.delta (w (ix3 0 (j 1) (j 0)) : EReal) (g j : EReal) (n (ix3 0 (j 1) (j 0)) : EReal) (v (ix3 0 (j 1) (j 0)) : EReal) := by
  have e : Cert.AdamInRefIdeal.Read.idx_main_v26 (Cert.AdamInRefIdeal.Read.idx_main_v27 j) = (ix3 0 (j 1) (j 0) : S1x4096x3088.Idx) := by blk_ext
  have e1 : Cert.AdamInRefIdeal.Read.idx_main_v0 (Cert.AdamInRefIdeal.Read.idx_main_v1 (ix3 0 (j 1) (j 0) : S1x4096x3088.Idx)) = j := by blk_ext
  simp only [Cert.AdamInRefIdeal.Read.val_main_v0_apply, Cert.AdamInRefIdeal.Read.val_main_v1_apply, Cert.AdamInRefIdeal.Read.val_main_cst_apply, Cert.AdamInRefIdeal.Read.val_main_v2_apply, Cert.AdamInRefIdeal.Read.val_main_v3_apply, Cert.AdamInRefIdeal.Read.val_main_cst_0_apply, Cert.AdamInRefIdeal.Read.val_main_v4_apply, Cert.AdamInRefIdeal.Read.val_main_v5_apply, Cert.AdamInRefIdeal.Read.val_main_v6_apply, Cert.AdamInRefIdeal.Read.val_main_cst_1_apply, Cert.AdamInRefIdeal.Read.val_main_v7_apply, Cert.AdamInRefIdeal.Read.val_main_v8_apply, Cert.AdamInRefIdeal.Read.val_main_v9_apply, Cert.AdamInRefIdeal.Read.val_main_cst_2_apply, Cert.AdamInRefIdeal.Read.val_main_v10_apply, Cert.AdamInRefIdeal.Read.val_main_v11_apply, Cert.AdamInRefIdeal.Read.val_main_v12_apply, Cert.AdamInRefIdeal.Read.val_main_cst_3_apply, Cert.AdamInRefIdeal.Read.val_main_v13_apply, Cert.AdamInRefIdeal.Read.val_main_v14_apply, Cert.AdamInRefIdeal.Read.val_main_cst_4_apply, Cert.AdamInRefIdeal.Read.val_main_v15_apply, Cert.AdamInRefIdeal.Read.val_main_v16_apply, Cert.AdamInRefIdeal.Read.val_main_v17_apply, Cert.AdamInRefIdeal.Read.val_main_cst_5_apply, Cert.AdamInRefIdeal.Read.val_main_v18_apply, Cert.AdamInRefIdeal.Read.val_main_v19_apply, Cert.AdamInRefIdeal.Read.val_main_v20_apply, Cert.AdamInRefIdeal.Read.val_main_cst_6_apply, Cert.AdamInRefIdeal.Read.val_main_v21_apply, Cert.AdamInRefIdeal.Read.val_main_v22_apply, Cert.AdamInRefIdeal.Read.val_main_v23_apply, Cert.AdamInRefIdeal.Read.val_main_cst_7_apply, Cert.AdamInRefIdeal.Read.val_main_v24_apply, Cert.AdamInRefIdeal.Read.val_main_v25_apply, Cert.AdamInRefIdeal.Read.val_main_v26_apply, Cert.AdamInRefIdeal.Read.val_main_v27_apply, Cert.AdamInRefIdeal.Read.val_main_v28_apply, Cert.AdamInRefIdeal.Read.val_main_v29_apply, Cert.AdamInRefIdeal.Read.val_main_v30_apply, Cert.AdamInRefIdeal.Read.val_main_v31_apply, e, e1]
  rfl

/-- What a point stores of the increment is the reference's at the index's place in the array. -/
theorem point4 (c : Dev nD) (t : Fin cfg0.N) (y : S3088x128.Idx) :
    ((k0_pay3 (iblk m c 1 t) (iblk m c 0 t) (iblk m c 2 t) (iblk m c 3 t) : FVec Ideal S3088x128 .f32) y : EReal)
      = Cert.AdamInRefIdeal.Read.val_main_v27 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 32 := lt_of_lt_of_eq t.isLt N_0
  have h1 : (y 1).val < 128 := (y 1).isLt
  have hb : t.val * 128 + (y 1).val < 4096 := by omega
  have e : ((cfg0.win 4).blk t).view.emb y = (ix2 (y 0) ⟨t.val * 128 + (y 1).val, hb⟩ : S3088x4096.Idx) := by blk_ext [idx t]
  have ey : y = (ix2 (y 0) (y 1) : S3088x128.Idx) := by blk_ext
  rw [e, ref4]
  pointwise [k0_pay3, k0_pay1, k0_pay2]
  rw [← blk0 m c t (y 0) (y 1) hb, ← blk1 m c t (y 0) (y 1) hb, ← blk2 m c t (y 0) (y 1) hb, ← blk3 m c t (y 0) (y 1) hb, ← ey]
  rfl

/-- The array of the increment. -/
theorem final4 (c : Dev nD) : (dats m 0 c).arrAt 4 (cfgs 0).N
    = Cert.AdamInRefIdeal.Read.val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

/-- The reference's new running mean at an index. -/
theorem ref5 (g : FVec Ideal S3088x4096 .f32) (n : FVec Ideal S1x4096x3088 .f32) (j : S3088x4096.Idx) :
    (Cert.AdamInRefIdeal.Read.val_main_v29 (F := Ideal) g n j : EReal) = Cert.Adam.mean (g j : EReal) (n (ix3 0 (j 1) (j 0)) : EReal) := by
  have e : Cert.AdamInRefIdeal.Read.idx_main_v28 (Cert.AdamInRefIdeal.Read.idx_main_v29 j) = (ix3 0 (j 1) (j 0) : S1x4096x3088.Idx) := by blk_ext
  have e1 : Cert.AdamInRefIdeal.Read.idx_main_v0 (Cert.AdamInRefIdeal.Read.idx_main_v1 (ix3 0 (j 1) (j 0) : S1x4096x3088.Idx)) = j := by blk_ext
  simp only [Cert.AdamInRefIdeal.Read.val_main_v0_apply, Cert.AdamInRefIdeal.Read.val_main_v1_apply, Cert.AdamInRefIdeal.Read.val_main_cst_apply, Cert.AdamInRefIdeal.Read.val_main_v2_apply, Cert.AdamInRefIdeal.Read.val_main_v3_apply, Cert.AdamInRefIdeal.Read.val_main_cst_0_apply, Cert.AdamInRefIdeal.Read.val_main_v4_apply, Cert.AdamInRefIdeal.Read.val_main_v5_apply, Cert.AdamInRefIdeal.Read.val_main_v6_apply, Cert.AdamInRefIdeal.Read.val_main_cst_1_apply, Cert.AdamInRefIdeal.Read.val_main_v7_apply, Cert.AdamInRefIdeal.Read.val_main_v8_apply, Cert.AdamInRefIdeal.Read.val_main_v9_apply, Cert.AdamInRefIdeal.Read.val_main_cst_2_apply, Cert.AdamInRefIdeal.Read.val_main_v10_apply, Cert.AdamInRefIdeal.Read.val_main_v11_apply, Cert.AdamInRefIdeal.Read.val_main_v12_apply, Cert.AdamInRefIdeal.Read.val_main_cst_3_apply, Cert.AdamInRefIdeal.Read.val_main_v13_apply, Cert.AdamInRefIdeal.Read.val_main_v14_apply, Cert.AdamInRefIdeal.Read.val_main_cst_4_apply, Cert.AdamInRefIdeal.Read.val_main_v15_apply, Cert.AdamInRefIdeal.Read.val_main_v16_apply, Cert.AdamInRefIdeal.Read.val_main_v17_apply, Cert.AdamInRefIdeal.Read.val_main_cst_5_apply, Cert.AdamInRefIdeal.Read.val_main_v18_apply, Cert.AdamInRefIdeal.Read.val_main_v19_apply, Cert.AdamInRefIdeal.Read.val_main_v20_apply, Cert.AdamInRefIdeal.Read.val_main_cst_6_apply, Cert.AdamInRefIdeal.Read.val_main_v21_apply, Cert.AdamInRefIdeal.Read.val_main_v22_apply, Cert.AdamInRefIdeal.Read.val_main_v23_apply, Cert.AdamInRefIdeal.Read.val_main_cst_7_apply, Cert.AdamInRefIdeal.Read.val_main_v24_apply, Cert.AdamInRefIdeal.Read.val_main_v25_apply, Cert.AdamInRefIdeal.Read.val_main_v26_apply, Cert.AdamInRefIdeal.Read.val_main_v27_apply, Cert.AdamInRefIdeal.Read.val_main_v28_apply, Cert.AdamInRefIdeal.Read.val_main_v29_apply, Cert.AdamInRefIdeal.Read.val_main_v30_apply, Cert.AdamInRefIdeal.Read.val_main_v31_apply, e, e1]
  rfl

/-- What a point stores of the new running mean is the reference's at the index's place in the array. -/
theorem point5 (c : Dev nD) (t : Fin cfg0.N) (y : S3088x128.Idx) :
    ((k0_pay1 (iblk m c 1 t) (iblk m c 2 t) : FVec Ideal S3088x128 .f32) y : EReal)
      = Cert.AdamInRefIdeal.Read.val_main_v29 (F := Ideal) (m ((c : Thread nD τ).loc main_arg1)) (m ((c : Thread nD τ).loc main_arg2)) (((cfg0.win 5).blk t).view.emb y) := by
  have ht : t.val < 32 := lt_of_lt_of_eq t.isLt N_0
  have h1 : (y 1).val < 128 := (y 1).isLt
  have hb : t.val * 128 + (y 1).val < 4096 := by omega
  have e : ((cfg0.win 5).blk t).view.emb y = (ix2 (y 0) ⟨t.val * 128 + (y 1).val, hb⟩ : S3088x4096.Idx) := by blk_ext [idx t]
  have ey : y = (ix2 (y 0) (y 1) : S3088x128.Idx) := by blk_ext
  rw [e, ref5]
  pointwise [k0_pay1]
  rw [← blk1 m c t (y 0) (y 1) hb, ← blk2 m c t (y 0) (y 1) hb, ← ey]
  rfl

/-- The array of the new running mean. -/
theorem final5 (c : Dev nD) : (dats m 0 c).arrAt 5 (cfgs 0).N
    = Cert.AdamInRefIdeal.Read.val_main_v29 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

/-- The reference's new running square at an index. -/
theorem ref6 (g : FVec Ideal S3088x4096 .f32) (v : FVec Ideal S1x4096x3088 .f32) (j : S3088x4096.Idx) :
    (Cert.AdamInRefIdeal.Read.val_main_v31 (F := Ideal) g v j : EReal) = Cert.Adam.square (g j : EReal) (v (ix3 0 (j 1) (j 0)) : EReal) := by
  have e : Cert.AdamInRefIdeal.Read.idx_main_v30 (Cert.AdamInRefIdeal.Read.idx_main_v31 j) = (ix3 0 (j 1) (j 0) : S1x4096x3088.Idx) := by blk_ext
  have e1 : Cert.AdamInRefIdeal.Read.idx_main_v0 (Cert.AdamInRefIdeal.Read.idx_main_v1 (ix3 0 (j 1) (j 0) : S1x4096x3088.Idx)) = j := by blk_ext
  simp only [Cert.AdamInRefIdeal.Read.val_main_v0_apply, Cert.AdamInRefIdeal.Read.val_main_v1_apply, Cert.AdamInRefIdeal.Read.val_main_cst_apply, Cert.AdamInRefIdeal.Read.val_main_v2_apply, Cert.AdamInRefIdeal.Read.val_main_v3_apply, Cert.AdamInRefIdeal.Read.val_main_cst_0_apply, Cert.AdamInRefIdeal.Read.val_main_v4_apply, Cert.AdamInRefIdeal.Read.val_main_v5_apply, Cert.AdamInRefIdeal.Read.val_main_v6_apply, Cert.AdamInRefIdeal.Read.val_main_cst_1_apply, Cert.AdamInRefIdeal.Read.val_main_v7_apply, Cert.AdamInRefIdeal.Read.val_main_v8_apply, Cert.AdamInRefIdeal.Read.val_main_v9_apply, Cert.AdamInRefIdeal.Read.val_main_cst_2_apply, Cert.AdamInRefIdeal.Read.val_main_v10_apply, Cert.AdamInRefIdeal.Read.val_main_v11_apply, Cert.AdamInRefIdeal.Read.val_main_v12_apply, Cert.AdamInRefIdeal.Read.val_main_cst_3_apply, Cert.AdamInRefIdeal.Read.val_main_v13_apply, Cert.AdamInRefIdeal.Read.val_main_v14_apply, Cert.AdamInRefIdeal.Read.val_main_cst_4_apply, Cert.AdamInRefIdeal.Read.val_main_v15_apply, Cert.AdamInRefIdeal.Read.val_main_v16_apply, Cert.AdamInRefIdeal.Read.val_main_v17_apply, Cert.AdamInRefIdeal.Read.val_main_cst_5_apply, Cert.AdamInRefIdeal.Read.val_main_v18_apply, Cert.AdamInRefIdeal.Read.val_main_v19_apply, Cert.AdamInRefIdeal.Read.val_main_v20_apply, Cert.AdamInRefIdeal.Read.val_main_cst_6_apply, Cert.AdamInRefIdeal.Read.val_main_v21_apply, Cert.AdamInRefIdeal.Read.val_main_v22_apply, Cert.AdamInRefIdeal.Read.val_main_v23_apply, Cert.AdamInRefIdeal.Read.val_main_cst_7_apply, Cert.AdamInRefIdeal.Read.val_main_v24_apply, Cert.AdamInRefIdeal.Read.val_main_v25_apply, Cert.AdamInRefIdeal.Read.val_main_v26_apply, Cert.AdamInRefIdeal.Read.val_main_v27_apply, Cert.AdamInRefIdeal.Read.val_main_v28_apply, Cert.AdamInRefIdeal.Read.val_main_v29_apply, Cert.AdamInRefIdeal.Read.val_main_v30_apply, Cert.AdamInRefIdeal.Read.val_main_v31_apply, e, e1]
  rfl

/-- What a point stores of the new running square is the reference's at the index's place in the array. -/
theorem point6 (c : Dev nD) (t : Fin cfg0.N) (y : S3088x128.Idx) :
    ((k0_pay2 (iblk m c 1 t) (iblk m c 3 t) : FVec Ideal S3088x128 .f32) y : EReal)
      = Cert.AdamInRefIdeal.Read.val_main_v31 (F := Ideal) (m ((c : Thread nD τ).loc main_arg1)) (m ((c : Thread nD τ).loc main_arg3)) (((cfg0.win 6).blk t).view.emb y) := by
  have ht : t.val < 32 := lt_of_lt_of_eq t.isLt N_0
  have h1 : (y 1).val < 128 := (y 1).isLt
  have hb : t.val * 128 + (y 1).val < 4096 := by omega
  have e : ((cfg0.win 6).blk t).view.emb y = (ix2 (y 0) ⟨t.val * 128 + (y 1).val, hb⟩ : S3088x4096.Idx) := by blk_ext [idx t]
  have ey : y = (ix2 (y 0) (y 1) : S3088x128.Idx) := by blk_ext
  rw [e, ref6]
  pointwise [k0_pay2]
  rw [← blk1 m c t (y 0) (y 1) hb, ← blk3 m c t (y 0) (y 1) hb, ← ey]
  rfl

/-- The array of the new running square. -/
theorem final6 (c : Dev nD) : (dats m 0 c).arrAt 6 (cfgs 0).N
    = Cert.AdamInRefIdeal.Read.val_main_v31 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  exact point6 m c t y

/-- The array of the gradient handed on. -/
theorem final7 (c : Dev nD) : (dats m 0 c).arrAt 7 (cfgs 0).N = (m ((c : Thread nD τ).loc main_arg1)) := by
  refine (dats m 0 c).arrAt_eq_of_covers 7 _ (by decide +kernel) fun t _ y => ?_
  blk_simp
  rw [after0_7]; frame_out
  blk_ext [iblk, idx t, V]

end Cert.AdamInIdeal.Final
end
-- ==== Proof.AdamOut.lean ====
/-
  The optimiser step of the output projection: the four arrays the pipelined kernel leaves, equal to the reference step of
  every element.
-/
module

public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Adam
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamOutIdeal.Final

open Cert.AdamOutIdeal Cert.AdamOutIdeal.Gen

variable (m : (ℓ : Loc nD τ sig) → Buf (Elt Ideal) ℓ) (ρ : Dev nD → PrngReg)

/-- Every window's block at a point is the point's rows. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The gradient's window reads the gradient with a leading axis of one. -/
theorem entry1 (c : Dev nD) (a : Fin 1024) (b : Fin 4096) :
    (V m c main_v0 (ix3 0 a b) : EReal) = (m ((c : Thread nD τ).loc main_arg1) : S1024x4096.Idx → EReal) (ix2 a b) := by
  unfold V; after_results
  pointwise
  blk_ext

/-- The gradient's block at a point. -/
theorem blk1 (c : Dev nD) (t : Fin cfg0.N) (a : Fin 128) (b : Fin 4096) (h : t.val * 128 + a.val < 1024) :
    (iblk m c 1 t (ix3 0 a b) : EReal) = (m ((c : Thread nD τ).loc main_arg1) : S1024x4096.Idx → EReal) (ix2 ⟨t.val * 128 + a.val, h⟩ b) := by
  rw [← entry1 m c]
  blk_ext [iblk, idx t]

/-- The weight's block at a point. -/
theorem blk0 (c : Dev nD) (t : Fin cfg0.N) (a : Fin 128) (b : Fin 4096) (h : t.val * 128 + a.val < 1024) :
    (iblk m c 0 t (ix3 0 a b) : EReal) = (m ((c : Thread nD τ).loc main_arg0) : S1x1024x4096.Idx → EReal) (ix3 0 ⟨t.val * 128 + a.val, h⟩ b) := by
  blk_ext [iblk, idx t, V]

/-- The running mean's block at a point. -/
theorem blk2 (c : Dev nD) (t : Fin cfg0.N) (a : Fin 128) (b : Fin 4096) (h : t.val * 128 + a.val < 1024) :
    (iblk m c 2 t (ix3 0 a b) : EReal) = (m ((c : Thread nD τ).loc main_arg2) : S1x1024x4096.Idx → EReal) (ix3 0 ⟨t.val * 128 + a.val, h⟩ b) := by
  blk_ext [iblk, idx t, V]

/-- The running square's block at a point. -/
theorem blk3 (c : Dev nD) (t : Fin cfg0.N) (a : Fin 128) (b : Fin 4096) (h : t.val * 128 + a.val < 1024) :
    (iblk m c 3 t (ix3 0 a b) : EReal) = (m ((c : Thread nD τ).loc main_arg3) : S1x1024x4096.Idx → EReal) (ix3 0 ⟨t.val * 128 + a.val, h⟩ b) := by
  blk_ext [iblk, idx t, V]

/-- The reference's increment at an index. -/
theorem ref4 (w : FVec Ideal S1x1024x4096 .f32) (g : FVec Ideal S1024x4096 .f32) (n : FVec Ideal S1x1024x4096 .f32) (v : FVec Ideal S1x1024x4096 .f32) (j : S1x1024x4096.Idx) :
    (Cert.AdamOutRefIdeal.Read.val_main_v24 (F := Ideal) w g n v j : EReal) = Cert.Adam.delta (w j : EReal) (g (ix2 (j 1) (j 2)) : EReal) (n j : EReal) (v j : EReal) := by
  have e : Cert.AdamOutRefIdeal.Read.idx_main_v0 j = (ix2 (j 1) (j 2) : S1024x4096.Idx) := by blk_ext
  simp only [Cert.AdamOutRefIdeal.Read.val_main_v0_apply, Cert.AdamOutRefIdeal.Read.val_main_cst_apply, Cert.AdamOutRefIdeal.Read.val_main_v1_apply, Cert.AdamOutRefIdeal.Read.val_main_v2_apply, Cert.AdamOutRefIdeal.Read.val_main_cst_0_apply, Cert.AdamOutRefIdeal.Read.val_main_v3_apply, Cert.AdamOutRefIdeal.Read.val_main_v4_apply, Cert.AdamOutRefIdeal.Read.val_main_v5_apply, Cert.AdamOutRefIdeal.Read.val_main_cst_1_apply, Cert.AdamOutRefIdeal.Read.val_main_v6_apply, Cert.AdamOutRefIdeal.Read.val_main_v7_apply, Cert.AdamOutRefIdeal.Read.val_main_v8_apply, Cert.AdamOutRefIdeal.Read.val_main_cst_2_apply, Cert.AdamOutRefIdeal.Read.val_main_v9_apply, Cert.AdamOutRefIdeal.Read.val_main_v10_apply, Cert.AdamOutRefIdeal.Read.val_main_v11_apply, Cert.AdamOutRefIdeal.Read.val_main_cst_3_apply, Cert.AdamOutRefIdeal.Read.val_main_v12_apply, Cert.AdamOutRefIdeal.Read.val_main_v13_apply, Cert.AdamOutRefIdeal.Read.val_main_cst_4_apply, Cert.AdamOutRefIdeal.Read.val_main_v14_apply, Cert.AdamOutRefIdeal.Read.val_main_v15_apply, Cert.AdamOutRefIdeal.Read.val_main_v16_apply, Cert.AdamOutRefIdeal.Read.val_main_cst_5_apply, Cert.AdamOutRefIdeal.Read.val_main_v17_apply, Cert.AdamOutRefIdeal.Read.val_main_v18_apply, Cert.AdamOutRefIdeal.Read.val_main_v19_apply, Cert.AdamOutRefIdeal.Read.val_main_cst_6_apply, Cert.AdamOutRefIdeal.Read.val_main_v20_apply, Cert.AdamOutRefIdeal.Read.val_main_v21_apply, Cert.AdamOutRefIdeal.Read.val_main_v22_apply, Cert.AdamOutRefIdeal.Read.val_main_cst_7_apply, Cert.AdamOutRefIdeal.Read.val_main_v23_apply, Cert.AdamOutRefIdeal.Read.val_main_v24_apply, Cert.AdamOutRefIdeal.Read.val_main_v25_apply, e]
  rfl

/-- What a point stores of the increment is the reference's at the index's place in the array. -/
theorem point4 (c : Dev nD) (t : Fin cfg0.N) (y : S1x128x4096.Idx) :
    ((k0_pay7 (iblk m c 1 t) (iblk m c 0 t) (iblk m c 2 t) (iblk m c 3 t) : FVec Ideal S1x128x4096 .f32) y : EReal)
      = Cert.AdamOutRefIdeal.Read.val_main_v24 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 8 := lt_of_lt_of_eq t.isLt N_0
  have h1 : (y 1).val < 128 := (y 1).isLt
  have hb : t.val * 128 + (y 1).val < 1024 := by omega
  have e : ((cfg0.win 4).blk t).view.emb y = (ix3 0 ⟨t.val * 128 + (y 1).val, hb⟩ (y 2) : S1x1024x4096.Idx) := by blk_ext [idx t]
  rw [e, ref4]
  have ey : y = (ix3 0 (y 1) (y 2) : S1x128x4096.Idx) := by blk_ext
  pointwise [k0_pay7, k0_pay5, k0_pay6, k0_pay4]
  rw [← blk0 m c t (y 1) (y 2) hb, ← blk1 m c t (y 1) (y 2) hb, ← blk2 m c t (y 1) (y 2) hb, ← blk3 m c t (y 1) (y 2) hb, ← ey]
  rfl

/-- The array of the increment. -/
theorem final4 (c : Dev nD) : (dats m 0 c).arrAt 4 (cfgs 0).N
    = Cert.AdamOutRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

/-- The reference's new running mean at an index. -/
theorem ref5 (g : FVec Ideal S1024x4096 .f32) (n : FVec Ideal S1x1024x4096 .f32) (j : S1x1024x4096.Idx) :
    (Cert.AdamOutRefIdeal.Read.val_main_v5 (F := Ideal) g n j : EReal) = Cert.Adam.mean (g (ix2 (j 1) (j 2)) : EReal) (n j : EReal) := by
  have e : Cert.AdamOutRefIdeal.Read.idx_main_v0 j = (ix2 (j 1) (j 2) : S1024x4096.Idx) := by blk_ext
  simp only [Cert.AdamOutRefIdeal.Read.val_main_v0_apply, Cert.AdamOutRefIdeal.Read.val_main_cst_apply, Cert.AdamOutRefIdeal.Read.val_main_v1_apply, Cert.AdamOutRefIdeal.Read.val_main_v2_apply, Cert.AdamOutRefIdeal.Read.val_main_cst_0_apply, Cert.AdamOutRefIdeal.Read.val_main_v3_apply, Cert.AdamOutRefIdeal.Read.val_main_v4_apply, Cert.AdamOutRefIdeal.Read.val_main_v5_apply, Cert.AdamOutRefIdeal.Read.val_main_cst_1_apply, Cert.AdamOutRefIdeal.Read.val_main_v6_apply, Cert.AdamOutRefIdeal.Read.val_main_v7_apply, Cert.AdamOutRefIdeal.Read.val_main_v8_apply, Cert.AdamOutRefIdeal.Read.val_main_cst_2_apply, Cert.AdamOutRefIdeal.Read.val_main_v9_apply, Cert.AdamOutRefIdeal.Read.val_main_v10_apply, Cert.AdamOutRefIdeal.Read.val_main_v11_apply, Cert.AdamOutRefIdeal.Read.val_main_cst_3_apply, Cert.AdamOutRefIdeal.Read.val_main_v12_apply, Cert.AdamOutRefIdeal.Read.val_main_v13_apply, Cert.AdamOutRefIdeal.Read.val_main_cst_4_apply, Cert.AdamOutRefIdeal.Read.val_main_v14_apply, Cert.AdamOutRefIdeal.Read.val_main_v15_apply, Cert.AdamOutRefIdeal.Read.val_main_v16_apply, Cert.AdamOutRefIdeal.Read.val_main_cst_5_apply, Cert.AdamOutRefIdeal.Read.val_main_v17_apply, Cert.AdamOutRefIdeal.Read.val_main_v18_apply, Cert.AdamOutRefIdeal.Read.val_main_v19_apply, Cert.AdamOutRefIdeal.Read.val_main_cst_6_apply, Cert.AdamOutRefIdeal.Read.val_main_v20_apply, Cert.AdamOutRefIdeal.Read.val_main_v21_apply, Cert.AdamOutRefIdeal.Read.val_main_v22_apply, Cert.AdamOutRefIdeal.Read.val_main_cst_7_apply, Cert.AdamOutRefIdeal.Read.val_main_v23_apply, Cert.AdamOutRefIdeal.Read.val_main_v24_apply, Cert.AdamOutRefIdeal.Read.val_main_v25_apply, e]
  rfl

/-- What a point stores of the new running mean is the reference's at the index's place in the array. -/
theorem point5 (c : Dev nD) (t : Fin cfg0.N) (y : S1x128x4096.Idx) :
    ((k0_pay1 (k0_pay5 (iblk m c 1 t) (iblk m c 2 t)) : FVec Ideal S1x128x4096 .f32) y : EReal)
      = Cert.AdamOutRefIdeal.Read.val_main_v5 (F := Ideal) (m ((c : Thread nD τ).loc main_arg1)) (m ((c : Thread nD τ).loc main_arg2)) (((cfg0.win 5).blk t).view.emb y) := by
  have ht : t.val < 8 := lt_of_lt_of_eq t.isLt N_0
  have h1 : (y 1).val < 128 := (y 1).isLt
  have hb : t.val * 128 + (y 1).val < 1024 := by omega
  have e : ((cfg0.win 5).blk t).view.emb y = (ix3 0 ⟨t.val * 128 + (y 1).val, hb⟩ (y 2) : S1x1024x4096.Idx) := by blk_ext [idx t]
  rw [e, ref5]
  have ey : y = (ix3 0 (y 1) (y 2) : S1x128x4096.Idx) := by blk_ext
  pointwise [k0_pay1, k0_pay5, k0_pay4]
  rw [← blk1 m c t (y 1) (y 2) hb, ← blk2 m c t (y 1) (y 2) hb, ← ey]
  rfl

/-- The array of the new running mean. -/
theorem final5 (c : Dev nD) : (dats m 0 c).arrAt 5 (cfgs 0).N
    = Cert.AdamOutRefIdeal.Read.val_main_v5 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

/-- The reference's new running square at an index. -/
theorem ref6 (g : FVec Ideal S1024x4096 .f32) (v : FVec Ideal S1x1024x4096 .f32) (j : S1x1024x4096.Idx) :
    (Cert.AdamOutRefIdeal.Read.val_main_v11 (F := Ideal) g v j : EReal) = Cert.Adam.square (g (ix2 (j 1) (j 2)) : EReal) (v j : EReal) := by
  have e : Cert.AdamOutRefIdeal.Read.idx_main_v0 j = (ix2 (j 1) (j 2) : S1024x4096.Idx) := by blk_ext
  simp only [Cert.AdamOutRefIdeal.Read.val_main_v0_apply, Cert.AdamOutRefIdeal.Read.val_main_cst_apply, Cert.AdamOutRefIdeal.Read.val_main_v1_apply, Cert.AdamOutRefIdeal.Read.val_main_v2_apply, Cert.AdamOutRefIdeal.Read.val_main_cst_0_apply, Cert.AdamOutRefIdeal.Read.val_main_v3_apply, Cert.AdamOutRefIdeal.Read.val_main_v4_apply, Cert.AdamOutRefIdeal.Read.val_main_v5_apply, Cert.AdamOutRefIdeal.Read.val_main_cst_1_apply, Cert.AdamOutRefIdeal.Read.val_main_v6_apply, Cert.AdamOutRefIdeal.Read.val_main_v7_apply, Cert.AdamOutRefIdeal.Read.val_main_v8_apply, Cert.AdamOutRefIdeal.Read.val_main_cst_2_apply, Cert.AdamOutRefIdeal.Read.val_main_v9_apply, Cert.AdamOutRefIdeal.Read.val_main_v10_apply, Cert.AdamOutRefIdeal.Read.val_main_v11_apply, Cert.AdamOutRefIdeal.Read.val_main_cst_3_apply, Cert.AdamOutRefIdeal.Read.val_main_v12_apply, Cert.AdamOutRefIdeal.Read.val_main_v13_apply, Cert.AdamOutRefIdeal.Read.val_main_cst_4_apply, Cert.AdamOutRefIdeal.Read.val_main_v14_apply, Cert.AdamOutRefIdeal.Read.val_main_v15_apply, Cert.AdamOutRefIdeal.Read.val_main_v16_apply, Cert.AdamOutRefIdeal.Read.val_main_cst_5_apply, Cert.AdamOutRefIdeal.Read.val_main_v17_apply, Cert.AdamOutRefIdeal.Read.val_main_v18_apply, Cert.AdamOutRefIdeal.Read.val_main_v19_apply, Cert.AdamOutRefIdeal.Read.val_main_cst_6_apply, Cert.AdamOutRefIdeal.Read.val_main_v20_apply, Cert.AdamOutRefIdeal.Read.val_main_v21_apply, Cert.AdamOutRefIdeal.Read.val_main_v22_apply, Cert.AdamOutRefIdeal.Read.val_main_cst_7_apply, Cert.AdamOutRefIdeal.Read.val_main_v23_apply, Cert.AdamOutRefIdeal.Read.val_main_v24_apply, Cert.AdamOutRefIdeal.Read.val_main_v25_apply, e]
  rfl

/-- What a point stores of the new running square is the reference's at the index's place in the array. -/
theorem point6 (c : Dev nD) (t : Fin cfg0.N) (y : S1x128x4096.Idx) :
    ((k0_pay2 (k0_pay6 (iblk m c 1 t) (iblk m c 3 t)) : FVec Ideal S1x128x4096 .f32) y : EReal)
      = Cert.AdamOutRefIdeal.Read.val_main_v11 (F := Ideal) (m ((c : Thread nD τ).loc main_arg1)) (m ((c : Thread nD τ).loc main_arg3)) (((cfg0.win 6).blk t).view.emb y) := by
  have ht : t.val < 8 := lt_of_lt_of_eq t.isLt N_0
  have h1 : (y 1).val < 128 := (y 1).isLt
  have hb : t.val * 128 + (y 1).val < 1024 := by omega
  have e : ((cfg0.win 6).blk t).view.emb y = (ix3 0 ⟨t.val * 128 + (y 1).val, hb⟩ (y 2) : S1x1024x4096.Idx) := by blk_ext [idx t]
  rw [e, ref6]
  have ey : y = (ix3 0 (y 1) (y 2) : S1x128x4096.Idx) := by blk_ext
  pointwise [k0_pay2, k0_pay6, k0_pay4]
  rw [← blk1 m c t (y 1) (y 2) hb, ← blk3 m c t (y 1) (y 2) hb, ← ey]
  rfl

/-- The array of the new running square. -/
theorem final6 (c : Dev nD) : (dats m 0 c).arrAt 6 (cfgs 0).N
    = Cert.AdamOutRefIdeal.Read.val_main_v11 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  exact point6 m c t y

/-- The reference's gradient handed on at an index. -/
theorem ref7 (g : FVec Ideal S1024x4096 .f32) (j : S1x1024x4096.Idx) :
    (Cert.AdamOutRefIdeal.Read.val_main_v25 (F := Ideal) g j : EReal) = (g (ix2 (j 1) (j 2)) : EReal) := by
  have e : Cert.AdamOutRefIdeal.Read.idx_main_v25 j = (ix2 (j 1) (j 2) : S1024x4096.Idx) := by blk_ext
  simp only [Cert.AdamOutRefIdeal.Read.val_main_v0_apply, Cert.AdamOutRefIdeal.Read.val_main_cst_apply, Cert.AdamOutRefIdeal.Read.val_main_v1_apply, Cert.AdamOutRefIdeal.Read.val_main_v2_apply, Cert.AdamOutRefIdeal.Read.val_main_cst_0_apply, Cert.AdamOutRefIdeal.Read.val_main_v3_apply, Cert.AdamOutRefIdeal.Read.val_main_v4_apply, Cert.AdamOutRefIdeal.Read.val_main_v5_apply, Cert.AdamOutRefIdeal.Read.val_main_cst_1_apply, Cert.AdamOutRefIdeal.Read.val_main_v6_apply, Cert.AdamOutRefIdeal.Read.val_main_v7_apply, Cert.AdamOutRefIdeal.Read.val_main_v8_apply, Cert.AdamOutRefIdeal.Read.val_main_cst_2_apply, Cert.AdamOutRefIdeal.Read.val_main_v9_apply, Cert.AdamOutRefIdeal.Read.val_main_v10_apply, Cert.AdamOutRefIdeal.Read.val_main_v11_apply, Cert.AdamOutRefIdeal.Read.val_main_cst_3_apply, Cert.AdamOutRefIdeal.Read.val_main_v12_apply, Cert.AdamOutRefIdeal.Read.val_main_v13_apply, Cert.AdamOutRefIdeal.Read.val_main_cst_4_apply, Cert.AdamOutRefIdeal.Read.val_main_v14_apply, Cert.AdamOutRefIdeal.Read.val_main_v15_apply, Cert.AdamOutRefIdeal.Read.val_main_v16_apply, Cert.AdamOutRefIdeal.Read.val_main_cst_5_apply, Cert.AdamOutRefIdeal.Read.val_main_v17_apply, Cert.AdamOutRefIdeal.Read.val_main_v18_apply, Cert.AdamOutRefIdeal.Read.val_main_v19_apply, Cert.AdamOutRefIdeal.Read.val_main_cst_6_apply, Cert.AdamOutRefIdeal.Read.val_main_v20_apply, Cert.AdamOutRefIdeal.Read.val_main_v21_apply, Cert.AdamOutRefIdeal.Read.val_main_v22_apply, Cert.AdamOutRefIdeal.Read.val_main_cst_7_apply, Cert.AdamOutRefIdeal.Read.val_main_v23_apply, Cert.AdamOutRefIdeal.Read.val_main_v24_apply, Cert.AdamOutRefIdeal.Read.val_main_v25_apply, e]

/-- What a point stores of the gradient handed on is the reference's at the index's place in the array. -/
theorem point7 (c : Dev nD) (t : Fin cfg0.N) (y : S1x128x4096.Idx) :
    ((k0_pay3 (k0_pay4 (iblk m c 1 t)) : FVec Ideal S1x128x4096 .f32) y : EReal)
      = Cert.AdamOutRefIdeal.Read.val_main_v25 (F := Ideal) (m ((c : Thread nD τ).loc main_arg1)) (((cfg0.win 7).blk t).view.emb y) := by
  have ht : t.val < 8 := lt_of_lt_of_eq t.isLt N_0
  have h1 : (y 1).val < 128 := (y 1).isLt
  have hb : t.val * 128 + (y 1).val < 1024 := by omega
  have e : ((cfg0.win 7).blk t).view.emb y = (ix3 0 ⟨t.val * 128 + (y 1).val, hb⟩ (y 2) : S1x1024x4096.Idx) := by blk_ext [idx t]
  rw [e, ref7]
  have ey : y = (ix3 0 (y 1) (y 2) : S1x128x4096.Idx) := by blk_ext
  pointwise [k0_pay3, k0_pay4]
  rw [← blk1 m c t (y 1) (y 2) hb, ← ey]

/-- The array of the gradient handed on. -/
theorem final7 (c : Dev nD) : (dats m 0 c).arrAt 7 (cfgs 0).N
    = Cert.AdamOutRefIdeal.Read.val_main_v25 (F := Ideal) (m ((c : Thread nD τ).loc main_arg1)) := by
  refine (dats m 0 c).arrAt_eq_of_covers 7 _ (by decide +kernel) fun t _ y => ?_
  blk_simp
  rw [after0_7]; frame_out
  exact point7 m c t y

end Cert.AdamOutIdeal.Final
end
-- ==== Proof.Joined.lean ====
/-
  A function applied to every element of the arrays that are laid one after the other is the function applied to every
  element of the array they form.
-/
module

public import Idealize.ShloMosaic.Lib.Pipeline.ValueKit

@[expose] public section

open Idealize.ShloMosaic

namespace Cert.Joined

/-- Where a position falls depends on the lengths alone. -/
theorem locate_congr {ns ns' : List Nat} (e : ns' = ns) {c : Nat} (h' : c < ns'.sum) (h : c < ns.sum) :
    (locate ns' c h').1.val = (locate ns c h).1.val ∧ (locate ns' c h').2.val = (locate ns c h).2.val := by
  subst e
  exact ⟨rfl, rfl⟩

/-- An element of an array whose elements are images is the image of the element at the same place. -/
theorem image_at {α β : Type} (f : α → β) (p : (s : Shape) × (s.Idx → α)) (p' : (s : Shape) × (s.Idx → β))
    (e : p' = ⟨p.1, fun i => f (p.2 i)⟩) (i' : p'.1.Idx) (i : p.1.Idx)
    (hi : ∀ (b' : Fin p'.1.rank) (b : Fin p.1.rank), b'.val = b.val → (i' b').val = (i b).val) : p'.2 i' = f (p.2 i) := by
  subst e
  show f (p.2 i') = f (p.2 i)
  have : i' = i := funext fun b => Fin.ext (hi b b rfl)
  rw [this]

/-- The joined array of images is the image of the joined array. -/
theorem concatenate_map {α β : Type} (f : α → β) (t : Shape) (a : Fin t.rank) (L : List ((s : Shape) × (s.Idx → α)))
    (h : Shape.Concatenates (L.map (·.1)) t a)
    (h' : Shape.Concatenates ((L.map fun p => (⟨p.1, fun i => f (p.2 i)⟩ : (s : Shape) × (s.Idx → β))).map (·.1)) t a)
    (j : t.Idx) :
    concatenate t a (L.map fun p => (⟨p.1, fun i => f (p.2 i)⟩ : (s : Shape) × (s.Idx → β))) h' j
      = f (concatenate t a L h j) := by
  have hs : ((L.map fun p => (⟨p.1, fun i => f (p.2 i)⟩ : (s : Shape) × (s.Idx → β))).map (·.1)) = L.map (·.1) := by
    rw [List.map_map]; rfl
  have hn := congrArg (List.map fun s : Shape => if h : s.rank = t.rank then s.size (a.cast h.symm) else 0) hs
  have hl := locate_congr hn (c := (j a).val) (by rw [h'.2.2]; exact (j a).isLt) (by rw [h.2.2]; exact (j a).isLt)
  unfold concatenate
  dsimp only
  refine image_at f _ _ ?_ _ _ fun b' b hb => ?_
  · rw [List.getElem_map]
    exact congrArg (fun p : (s : Shape) × (s.Idx → α) => (⟨p.1, fun i => f (p.2 i)⟩ : (s : Shape) × (s.Idx → β)))
      (getElem_congr_idx hl.1)
  · split
    · rename_i e
      split
      · exact hl.2
      · rename_i e'
        exact absurd (Fin.ext (show b.val = a.val from hb.symm.trans (congrArg Fin.val e : b'.val = a.val))) e'
    · rename_i e
      split
      · rename_i e'
        exact absurd (Fin.ext (show b'.val = a.val from hb.trans (congrArg Fin.val e' : b.val = a.val))) e
      · show (j _).val = (j _).val
        congr 2
        all_goals exact Fin.ext hb

end Cert.Joined
-- ==== Proof.Literals.lean ====
/-
  The values of the floating-point literals that the programs divide or multiply by.
-/
module

public import Idealize.ShloMosaic.PureOps.Ideal.Laws

@[expose] public section

noncomputable section

open Idealize.ShloMosaic

namespace Cert.Literals

/-- The optimiser's two bias corrections and its epsilon are not zero. -/
theorem c1_ne : Ideal.ofBits FTy.f32 0x3F26BD02#32 ≠ 0 := by simp [Ideal.ofBits, Ideal.ieee, -EReal.coe_mul]
theorem c2_ne : Ideal.ofBits FTy.f32 0x3C231ACC#32 ≠ 0 := by simp [Ideal.ofBits, Ideal.ieee, -EReal.coe_mul]
theorem c3_ne : Ideal.ofBits FTy.f32 0x322BCC77#32 ≠ 0 := by simp [Ideal.ofBits, Ideal.ieee, -EReal.coe_mul]

/-- Two, one, a half, 4096 and the half of a 4096th. -/
theorem two : Ideal.ofBits FTy.f32 0x40000000#32 = ((2 : ℝ) : EReal) := by
  simp [Ideal.ofBits, Ideal.ieee, -EReal.coe_mul]
  norm_num
theorem one : Ideal.ofBits FTy.f32 0x3F800000#32 = ((1 : ℝ) : EReal) := by
  simp [Ideal.ofBits, Ideal.ieee, -EReal.coe_mul]
  norm_num
theorem half : Ideal.ofBits FTy.f32 0x3F000000#32 = ((1 / 2 : ℝ) : EReal) := by
  simp [Ideal.ofBits, Ideal.ieee, -EReal.coe_mul]
  norm_num
theorem n4096 : Ideal.ofBits FTy.f32 0x45800000#32 = ((4096 : ℝ) : EReal) := by
  simp [Ideal.ofBits, Ideal.ieee, -EReal.coe_mul]
  norm_num
theorem half_4096th : Ideal.ofBits FTy.f32 0x39000000#32 = ((1 / 8192 : ℝ) : EReal) := by
  simp [Ideal.ofBits, Ideal.ieee, -EReal.coe_mul]
  norm_num

/-- A division by 4096 is a product with a 4096th. -/
theorem div_4096 (x : EReal) : Ideal.div x (Ideal.ofBits FTy.f32 0x45800000#32) = ((1 / 4096 : ℝ) : EReal) * x := by
  rw [n4096, Ideal.div, if_neg (by norm_num), mul_comm, ← EReal.coe_inv]
  norm_num

/-- A sum of an extended real with itself is twice it. -/
theorem add_self (x : EReal) : x + x = ((2 : ℝ) : EReal) * x := by
  induction x with
  | bot => simp [EReal.coe_mul_bot_of_pos]
  | top => simp [EReal.coe_mul_top_of_pos]
  | coe x => rw [← EReal.coe_add, ← EReal.coe_mul]; congr 1; ring

/-- A nonnegative finite factor goes into a sum. -/
theorem mul_sum {ι : Type} (r : ℝ) (hr : 0 ≤ r) (s : Finset ι) (f : ι → EReal) :
    ((r : ℝ) : EReal) * ∑ i ∈ s, f i = ∑ i ∈ s, ((r : ℝ) : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

end Cert.Literals

end
-- ==== Proof.AdamSmall.lean ====
/-
  The optimiser step of the twenty small weights.  The kernel lays each of the four arrays of every weight one after the
  other and steps the four slabs at once; the reference steps each weight and lays the results one after the other.  Laying
  out the four arrays of every weight as ONE array of quadruples (`quads`) gives both: a slab is a component of it, and a
  result is the step of every quadruple.  The filling is quadruples of zeros, whose step is zero.
-/
module

public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Adam
public import proofs.«01_k».proof.Proof.Joined
public import proofs.«01_k».proof.Proof.Literals
public import Idealize.ShloMosaic.Lib.Pipeline.ValueKit
public import Idealize.ShloMosaic.Lib.KernelVsHost
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamSmallIdeal.Final

open Cert.AdamSmallIdeal Cert.AdamSmallIdeal.Gen
open Cert.Literals (c1_ne c2_ne c3_ne)

/-- An element of every one of the four arrays: weight, gradient, running mean, running square. -/
abbrev Quad := Fin 4 → EReal

/-- The first sixteen weights, flat. -/
def big (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) : List ((s : Shape) × (s.Idx → Quad)) :=
  [⟨S4096, fun i k => x0 k i⟩, ⟨S4096, fun i k => x1 k i⟩, ⟨S4096, fun i k => x2 k i⟩, ⟨S24576, fun i k => shapeCast S24576 (x3 k) shapeCasts_S1x24576_S24576 i⟩, ⟨S10752, fun i k => shapeCast S10752 (x4 k) shapeCasts_S1x7x1536_S10752 i⟩, ⟨S16, fun i k => shapeCast S16 (x5 k) shapeCasts_S1x16_S16 i⟩, ⟨S16, fun i k => shapeCast S16 (x6 k) shapeCasts_S1x16_S16 i⟩, ⟨S16, fun i k => shapeCast S16 (x7 k) shapeCasts_S1x16_S16 i⟩, ⟨S16, fun i k => shapeCast S16 (x8 k) shapeCasts_S1x16_S16 i⟩, ⟨S128, fun i k => shapeCast S128 (x9 k) shapeCasts_S1x128_S128 i⟩, ⟨S15872, fun i k => shapeCast S15872 (x10 k) shapeCasts_S1x31x512_S15872 i⟩, ⟨S2048, fun i k => shapeCast S2048 (x11 k) shapeCasts_S1x2048_S2048 i⟩, ⟨S2048, fun i k => shapeCast S2048 (x12 k) shapeCasts_S1x2048_S2048 i⟩, ⟨S2048, fun i k => shapeCast S2048 (x13 k) shapeCasts_S1x2048_S2048 i⟩, ⟨S4096, fun i k => shapeCast S4096 (x14 k) shapeCasts_S1x4096_S4096 i⟩, ⟨S4096, fun i k => shapeCast S4096 (x15 k) shapeCasts_S1x4096_S4096 i⟩]

/-- The last four weights, flat. -/
def small (x16 : Fin 4 → S1x16384.Idx → EReal) (x17 : Fin 4 → S1x4096.Idx → EReal) (x18 : Fin 4 → S1x4096.Idx → EReal) (x19 : Fin 4 → S1x4096.Idx → EReal) : List ((s : Shape) × (s.Idx → Quad)) :=
  [⟨S16384, fun i k => shapeCast S16384 (x16 k) shapeCasts_S1x16384_S16384 i⟩, ⟨S4096, fun i k => shapeCast S4096 (x17 k) shapeCasts_S1x4096_S4096 i⟩, ⟨S4096, fun i k => shapeCast S4096 (x18 k) shapeCasts_S1x4096_S4096 i⟩, ⟨S4096, fun i k => shapeCast S4096 (x19 k) shapeCasts_S1x4096_S4096 i⟩]

/-- The last four weights and the filling. -/
def filled (x16 : Fin 4 → S1x16384.Idx → EReal) (x17 : Fin 4 → S1x4096.Idx → EReal) (x18 : Fin 4 → S1x4096.Idx → EReal) (x19 : Fin 4 → S1x4096.Idx → EReal) : List ((s : Shape) × (s.Idx → Quad)) :=
  [⟨S16384, fun i k => shapeCast S16384 (x16 k) shapeCasts_S1x16384_S16384 i⟩, ⟨S4096, fun i k => shapeCast S4096 (x17 k) shapeCasts_S1x4096_S4096 i⟩, ⟨S4096, fun i k => shapeCast S4096 (x18 k) shapeCasts_S1x4096_S4096 i⟩, ⟨S4096, fun i k => shapeCast S4096 (x19 k) shapeCasts_S1x4096_S4096 i⟩, ⟨Cert.AdamSmallRefIdeal.S832, fun _ _ => (0 : EReal)⟩]

/-- The joined first sixteen. -/
def bigJ (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) : S78016.Idx → Quad := concatenate S78016 0 (big x0 x1 x2 x3 x4 x5 x6 x7 x8 x9 x10 x11 x12 x13 x14 x15) concatenates_S4096_S4096_S4096_S24576_S10752_S16_S16_S16_S16_S128_S15872_S2048_S2048_S2048_S4096_S4096_S78016_d0

/-- The joined last four. -/
def smallJ (x16 : Fin 4 → S1x16384.Idx → EReal) (x17 : Fin 4 → S1x4096.Idx → EReal) (x18 : Fin 4 → S1x4096.Idx → EReal) (x19 : Fin 4 → S1x4096.Idx → EReal) : S28672.Idx → Quad := concatenate S28672 0 (small x16 x17 x18 x19) concatenates_S16384_S4096_S4096_S4096_S28672_d0

/-- The joined last four with the filling. -/
def filledJ (x16 : Fin 4 → S1x16384.Idx → EReal) (x17 : Fin 4 → S1x4096.Idx → EReal) (x18 : Fin 4 → S1x4096.Idx → EReal) (x19 : Fin 4 → S1x4096.Idx → EReal) : Cert.AdamSmallRefIdeal.S29504.Idx → Quad := concatenate Cert.AdamSmallRefIdeal.S29504 0 (filled x16 x17 x18 x19) Cert.AdamSmallRefIdeal.Facts₀.concatenates_S16384_S4096_S4096_S4096_S832_S29504_d0

/-- All quadruples, in order. -/
def quads (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) (x16 : Fin 4 → S1x16384.Idx → EReal) (x17 : Fin 4 → S1x4096.Idx → EReal) (x18 : Fin 4 → S1x4096.Idx → EReal) (x19 : Fin 4 → S1x4096.Idx → EReal) : S107520.Idx → Quad :=
  concatenate S107520 0 [⟨S78016, bigJ x0 x1 x2 x3 x4 x5 x6 x7 x8 x9 x10 x11 x12 x13 x14 x15⟩, ⟨Cert.AdamSmallRefIdeal.S29504, filledJ x16 x17 x18 x19⟩] Cert.AdamSmallRefIdeal.Facts₀.concatenates_S78016_S29504_S107520_d0

/-- The filling starts after the last four. -/
theorem tail_at {α : Type} (a : S16384.Idx → α) (b c d : S4096.Idx → α) (z : Cert.AdamSmallRefIdeal.S832.Idx → α) (r : Fin 29504) :
    concatenate Cert.AdamSmallRefIdeal.S29504 0 [⟨S16384, a⟩, ⟨S4096, b⟩, ⟨S4096, c⟩, ⟨S4096, d⟩, ⟨Cert.AdamSmallRefIdeal.S832, z⟩] Cert.AdamSmallRefIdeal.Facts₀.concatenates_S16384_S4096_S4096_S4096_S832_S29504_d0 (ix1 r)
      = if h : r.val < 28672 then concatenate S28672 0 [⟨S16384, a⟩, ⟨S4096, b⟩, ⟨S4096, c⟩, ⟨S4096, d⟩] concatenates_S16384_S4096_S4096_S4096_S28672_d0 (ix1 ⟨r.val, h⟩)
        else z (ix1 ⟨r.val - 28672, by omega⟩) := by
  pointwise
  by_cases h : r.val < 28672
  · rw [dif_pos h]
    by_cases h0 : r.val < 16384
    · rw [dif_pos h0, dif_pos h0]
    rw [dif_neg h0, dif_neg h0]
    by_cases h1 : r.val - 16384 < 4096
    · rw [dif_pos h1, dif_pos h1]
    rw [dif_neg h1, dif_neg h1]
    by_cases h2 : r.val - 16384 - 4096 < 4096
    · rw [dif_pos h2, dif_pos h2]
    rw [dif_neg h2, dif_neg h2, dif_pos (by omega)]
  · rw [dif_neg h, dif_neg (by omega), dif_neg (by omega), dif_neg (by omega), dif_neg (by omega)]
    blk_ext

/-- The kernel's slab of one array, filled with zeros at the end. -/
def padded (a : S78016.Idx → EReal) (b : S28672.Idx → EReal) (z : S_.Idx → EReal) : S107520.Idx → EReal :=
  pad S107520 ![0] ![832] ![0] (concatenate S106688 0 [⟨S78016, a⟩, ⟨S28672, b⟩] concatenates_S78016_S28672_S106688_d0) z pads_S106688_S107520_08320 h_S_

/-- The kernel's filled slab at a position. -/
theorem padded_at (a : S78016.Idx → EReal) (b : S28672.Idx → EReal) (z : S_.Idx → EReal) (hz : ∀ i, z i = 0) (r : Fin 107520) :
    padded a b z (ix1 r) = if h : r.val < 78016 then a (ix1 ⟨r.val, h⟩)
      else if h' : r.val < 106688 then b (ix1 ⟨r.val - 78016, by omega⟩) else 0 := by
  unfold padded
  by_cases h' : r.val < 106688
  · refine (pad_apply_of_inside _ _ _ _ z _ _ _ (ix1 (⟨r.val, h'⟩ : Fin 106688)) (fun a => by
      have ha : a = 0 := Subsingleton.elim _ _
      subst ha
      show r.val = 0 + r.val * (0 + 1); omega)).trans ?_
    pointwise
    by_cases h : r.val < 78016
    · rw [dif_pos h, dif_pos h]
    · rw [dif_neg h, dif_neg h, dif_pos h']
  · rw [dif_neg (by omega), dif_neg h']
    refine (pad_apply_of_not_inside _ _ _ _ z _ _ _ (0 : Fin 1) (fun hin => ?_)).trans (hz _)
    have e : (r.val - 0) / (0 + 1) < 106688 := hin.2.2
    omega

/-- The step's result step on a quadruple. -/
def step (p : Quad) : EReal := Cert.Adam.delta (p 0) (p 1) (p 2) (p 3)

/-- The step's result mean on a quadruple. -/
def mean (p : Quad) : EReal := Cert.Adam.mean (p 1) (p 2)

/-- The step's result square on a quadruple. -/
def square (p : Quad) : EReal := Cert.Adam.square (p 1) (p 3)

/-- The filling value, an integer zero. -/
theorem zero_int : ((((0#32 : BitVec 32).toInt : ℝ) : EReal)) = 0 := by simp

/-- The step of a quadruple of zeros is zero. -/
theorem mean_zero : mean (fun _ => 0) = 0 := by simp [mean, Cert.Adam.mean]
theorem square_zero : square (fun _ => 0) = 0 := by simp [square, Cert.Adam.square]
theorem step_zero : step (fun _ => 0) = 0 := by
  have hm := mean_zero
  have hs := square_zero
  unfold mean at hm; unfold square at hs
  have h0 : Ideal.sqrt 0 = 0 := by
    show Ideal.sqrt ((0 : ℝ) : EReal) = 0
    rw [Ideal.sqrt_coe]; simp
  unfold step Cert.Adam.delta
  rw [hm, hs, Ideal.zero_div c1_ne, Ideal.zero_div c2_ne, h0, zero_add, Ideal.zero_div c3_ne, mul_zero, add_zero, mul_zero]

/-- The reference's joined results of the first sixteen weights. -/
theorem step_big (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) :
    Cert.AdamSmallRefIdeal.Read.val_main_v498 (F := Ideal) (x0 0) (x1 0) (x2 0) (x3 0) (x4 0) (x5 0) (x6 0) (x7 0) (x8 0) (x9 0) (x10 0) (x11 0) (x12 0) (x13 0) (x14 0) (x15 0) (x0 1) (x1 1) (x2 1) (x3 1) (x4 1) (x5 1) (x6 1) (x7 1) (x8 1) (x9 1) (x10 1) (x11 1) (x12 1) (x13 1) (x14 1) (x15 1) (x0 2) (x1 2) (x2 2) (x3 2) (x4 2) (x5 2) (x6 2) (x7 2) (x8 2) (x9 2) (x10 2) (x11 2) (x12 2) (x13 2) (x14 2) (x15 2) (x0 3) (x1 3) (x2 3) (x3 3) (x4 3) (x5 3) (x6 3) (x7 3) (x8 3) (x9 3) (x10 3) (x11 3) (x12 3) (x13 3) (x14 3) (x15 3) = fun j => step (bigJ x0 x1 x2 x3 x4 x5 x6 x7 x8 x9 x10 x11 x12 x13 x14 x15 j) := by
  funext j
  refine Eq.trans ?_ (Cert.Joined.concatenate_map step S78016 0 (big x0 x1 x2 x3 x4 x5 x6 x7 x8 x9 x10 x11 x12 x13 x14 x15) concatenates_S4096_S4096_S4096_S24576_S10752_S16_S16_S16_S16_S128_S15872_S2048_S2048_S2048_S4096_S4096_S78016_d0 concatenates_S4096_S4096_S4096_S24576_S10752_S16_S16_S16_S16_S128_S15872_S2048_S2048_S2048_S4096_S4096_S78016_d0 j)
  rfl

/-- The reference's joined results of the last four weights, and the filling. -/
theorem step_filled (x16 : Fin 4 → S1x16384.Idx → EReal) (x17 : Fin 4 → S1x4096.Idx → EReal) (x18 : Fin 4 → S1x4096.Idx → EReal) (x19 : Fin 4 → S1x4096.Idx → EReal) :
    Cert.AdamSmallRefIdeal.Read.val_main_v499 (F := Ideal) (x16 0) (x17 0) (x18 0) (x19 0) (x16 1) (x17 1) (x18 1) (x19 1) (x16 2) (x17 2) (x18 2) (x19 2) (x16 3) (x17 3) (x18 3) (x19 3) = fun j => step (filledJ x16 x17 x18 x19 j) := by
  funext j
  have hz : (Cert.AdamSmallRefIdeal.Read.val_main_v497 (F := Ideal) : Cert.AdamSmallRefIdeal.S832.Idx → EReal) = fun _ => step (fun _ => 0) := by
    rw [step_zero]; funext i; exact Ideal.ofBits_zero_f32
  refine Eq.trans ?_ (Cert.Joined.concatenate_map step Cert.AdamSmallRefIdeal.S29504 0 (filled x16 x17 x18 x19) Cert.AdamSmallRefIdeal.Facts₀.concatenates_S16384_S4096_S4096_S4096_S832_S29504_d0 Cert.AdamSmallRefIdeal.Facts₀.concatenates_S16384_S4096_S4096_S4096_S832_S29504_d0 j)
  unfold Cert.AdamSmallRefIdeal.Read.val_main_v499
  rw [hz]
  rfl

/-- The reference's result is the step of every quadruple. -/
theorem step_ref (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) (x16 : Fin 4 → S1x16384.Idx → EReal) (x17 : Fin 4 → S1x4096.Idx → EReal) (x18 : Fin 4 → S1x4096.Idx → EReal) (x19 : Fin 4 → S1x4096.Idx → EReal) :
    Cert.AdamSmallRefIdeal.Read.val_main_v501 (F := Ideal) (x0 0) (x1 0) (x2 0) (x3 0) (x4 0) (x5 0) (x6 0) (x7 0) (x8 0) (x9 0) (x10 0) (x11 0) (x12 0) (x13 0) (x14 0) (x15 0) (x16 0) (x17 0) (x18 0) (x19 0) (x0 1) (x1 1) (x2 1) (x3 1) (x4 1) (x5 1) (x6 1) (x7 1) (x8 1) (x9 1) (x10 1) (x11 1) (x12 1) (x13 1) (x14 1) (x15 1) (x16 1) (x17 1) (x18 1) (x19 1) (x0 2) (x1 2) (x2 2) (x3 2) (x4 2) (x5 2) (x6 2) (x7 2) (x8 2) (x9 2) (x10 2) (x11 2) (x12 2) (x13 2) (x14 2) (x15 2) (x16 2) (x17 2) (x18 2) (x19 2) (x0 3) (x1 3) (x2 3) (x3 3) (x4 3) (x5 3) (x6 3) (x7 3) (x8 3) (x9 3) (x10 3) (x11 3) (x12 3) (x13 3) (x14 3) (x15 3) (x16 3) (x17 3) (x18 3) (x19 3)
      = shapeCast S8x13440 (fun j => step (quads x0 x1 x2 x3 x4 x5 x6 x7 x8 x9 x10 x11 x12 x13 x14 x15 x16 x17 x18 x19 j)) shapeCasts_S107520_S8x13440 := by
  unfold Cert.AdamSmallRefIdeal.Read.val_main_v501 Cert.AdamSmallRefIdeal.Read.val_main_v500
  rw [step_big, step_filled]
  refine congrArg (fun x => shapeCast S8x13440 x shapeCasts_S107520_S8x13440) (funext fun j => ?_)
  exact Cert.Joined.concatenate_map step S107520 0 [⟨S78016, bigJ x0 x1 x2 x3 x4 x5 x6 x7 x8 x9 x10 x11 x12 x13 x14 x15⟩, ⟨Cert.AdamSmallRefIdeal.S29504, filledJ x16 x17 x18 x19⟩] Cert.AdamSmallRefIdeal.Facts₀.concatenates_S78016_S29504_S107520_d0 Cert.AdamSmallRefIdeal.Facts₀.concatenates_S78016_S29504_S107520_d0 j

/-- The reference's joined results of the first sixteen weights. -/
theorem mean_big (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) :
    Cert.AdamSmallRefIdeal.Read.val_main_v520 (F := Ideal) (x0 1) (x1 1) (x2 1) (x3 1) (x4 1) (x5 1) (x6 1) (x7 1) (x8 1) (x9 1) (x10 1) (x11 1) (x12 1) (x13 1) (x14 1) (x15 1) (x0 2) (x1 2) (x2 2) (x3 2) (x4 2) (x5 2) (x6 2) (x7 2) (x8 2) (x9 2) (x10 2) (x11 2) (x12 2) (x13 2) (x14 2) (x15 2) = fun j => mean (bigJ x0 x1 x2 x3 x4 x5 x6 x7 x8 x9 x10 x11 x12 x13 x14 x15 j) := by
  funext j
  refine Eq.trans ?_ (Cert.Joined.concatenate_map mean S78016 0 (big x0 x1 x2 x3 x4 x5 x6 x7 x8 x9 x10 x11 x12 x13 x14 x15) concatenates_S4096_S4096_S4096_S24576_S10752_S16_S16_S16_S16_S128_S15872_S2048_S2048_S2048_S4096_S4096_S78016_d0 concatenates_S4096_S4096_S4096_S24576_S10752_S16_S16_S16_S16_S128_S15872_S2048_S2048_S2048_S4096_S4096_S78016_d0 j)
  rfl

/-- The reference's joined results of the last four weights, and the filling. -/
theorem mean_filled (x16 : Fin 4 → S1x16384.Idx → EReal) (x17 : Fin 4 → S1x4096.Idx → EReal) (x18 : Fin 4 → S1x4096.Idx → EReal) (x19 : Fin 4 → S1x4096.Idx → EReal) :
    Cert.AdamSmallRefIdeal.Read.val_main_v521 (F := Ideal) (x16 1) (x17 1) (x18 1) (x19 1) (x16 2) (x17 2) (x18 2) (x19 2) = fun j => mean (filledJ x16 x17 x18 x19 j) := by
  funext j
  have hz : (Cert.AdamSmallRefIdeal.Read.val_main_v519 (F := Ideal) : Cert.AdamSmallRefIdeal.S832.Idx → EReal) = fun _ => mean (fun _ => 0) := by
    rw [mean_zero]; funext i; exact Ideal.ofBits_zero_f32
  refine Eq.trans ?_ (Cert.Joined.concatenate_map mean Cert.AdamSmallRefIdeal.S29504 0 (filled x16 x17 x18 x19) Cert.AdamSmallRefIdeal.Facts₀.concatenates_S16384_S4096_S4096_S4096_S832_S29504_d0 Cert.AdamSmallRefIdeal.Facts₀.concatenates_S16384_S4096_S4096_S4096_S832_S29504_d0 j)
  unfold Cert.AdamSmallRefIdeal.Read.val_main_v521
  rw [hz]
  rfl

/-- The reference's result is the step of every quadruple. -/
theorem mean_ref (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) (x16 : Fin 4 → S1x16384.Idx → EReal) (x17 : Fin 4 → S1x4096.Idx → EReal) (x18 : Fin 4 → S1x4096.Idx → EReal) (x19 : Fin 4 → S1x4096.Idx → EReal) :
    Cert.AdamSmallRefIdeal.Read.val_main_v523 (F := Ideal) (x0 1) (x1 1) (x2 1) (x3 1) (x4 1) (x5 1) (x6 1) (x7 1) (x8 1) (x9 1) (x10 1) (x11 1) (x12 1) (x13 1) (x14 1) (x15 1) (x16 1) (x17 1) (x18 1) (x19 1) (x0 2) (x1 2) (x2 2) (x3 2) (x4 2) (x5 2) (x6 2) (x7 2) (x8 2) (x9 2) (x10 2) (x11 2) (x12 2) (x13 2) (x14 2) (x15 2) (x16 2) (x17 2) (x18 2) (x19 2)
      = shapeCast S8x13440 (fun j => mean (quads x0 x1 x2 x3 x4 x5 x6 x7 x8 x9 x10 x11 x12 x13 x14 x15 x16 x17 x18 x19 j)) shapeCasts_S107520_S8x13440 := by
  unfold Cert.AdamSmallRefIdeal.Read.val_main_v523 Cert.AdamSmallRefIdeal.Read.val_main_v522
  rw [mean_big, mean_filled]
  refine congrArg (fun x => shapeCast S8x13440 x shapeCasts_S107520_S8x13440) (funext fun j => ?_)
  exact Cert.Joined.concatenate_map mean S107520 0 [⟨S78016, bigJ x0 x1 x2 x3 x4 x5 x6 x7 x8 x9 x10 x11 x12 x13 x14 x15⟩, ⟨Cert.AdamSmallRefIdeal.S29504, filledJ x16 x17 x18 x19⟩] Cert.AdamSmallRefIdeal.Facts₀.concatenates_S78016_S29504_S107520_d0 Cert.AdamSmallRefIdeal.Facts₀.concatenates_S78016_S29504_S107520_d0 j

/-- The reference's joined results of the first sixteen weights. -/
theorem square_big (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) :
    Cert.AdamSmallRefIdeal.Read.val_main_v542 (F := Ideal) (x0 1) (x1 1) (x2 1) (x3 1) (x4 1) (x5 1) (x6 1) (x7 1) (x8 1) (x9 1) (x10 1) (x11 1) (x12 1) (x13 1) (x14 1) (x15 1) (x0 3) (x1 3) (x2 3) (x3 3) (x4 3) (x5 3) (x6 3) (x7 3) (x8 3) (x9 3) (x10 3) (x11 3) (x12 3) (x13 3) (x14 3) (x15 3) = fun j => square (bigJ x0 x1 x2 x3 x4 x5 x6 x7 x8 x9 x10 x11 x12 x13 x14 x15 j) := by
  funext j
  refine Eq.trans ?_ (Cert.Joined.concatenate_map square S78016 0 (big x0 x1 x2 x3 x4 x5 x6 x7 x8 x9 x10 x11 x12 x13 x14 x15) concatenates_S4096_S4096_S4096_S24576_S10752_S16_S16_S16_S16_S128_S15872_S2048_S2048_S2048_S4096_S4096_S78016_d0 concatenates_S4096_S4096_S4096_S24576_S10752_S16_S16_S16_S16_S128_S15872_S2048_S2048_S2048_S4096_S4096_S78016_d0 j)
  rfl

/-- The reference's joined results of the last four weights, and the filling. -/
theorem square_filled (x16 : Fin 4 → S1x16384.Idx → EReal) (x17 : Fin 4 → S1x4096.Idx → EReal) (x18 : Fin 4 → S1x4096.Idx → EReal) (x19 : Fin 4 → S1x4096.Idx → EReal) :
    Cert.AdamSmallRefIdeal.Read.val_main_v543 (F := Ideal) (x16 1) (x17 1) (x18 1) (x19 1) (x16 3) (x17 3) (x18 3) (x19 3) = fun j => square (filledJ x16 x17 x18 x19 j) := by
  funext j
  have hz : (Cert.AdamSmallRefIdeal.Read.val_main_v541 (F := Ideal) : Cert.AdamSmallRefIdeal.S832.Idx → EReal) = fun _ => square (fun _ => 0) := by
    rw [square_zero]; funext i; exact Ideal.ofBits_zero_f32
  refine Eq.trans ?_ (Cert.Joined.concatenate_map square Cert.AdamSmallRefIdeal.S29504 0 (filled x16 x17 x18 x19) Cert.AdamSmallRefIdeal.Facts₀.concatenates_S16384_S4096_S4096_S4096_S832_S29504_d0 Cert.AdamSmallRefIdeal.Facts₀.concatenates_S16384_S4096_S4096_S4096_S832_S29504_d0 j)
  unfold Cert.AdamSmallRefIdeal.Read.val_main_v543
  rw [hz]
  rfl

/-- The reference's result is the step of every quadruple. -/
theorem square_ref (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) (x16 : Fin 4 → S1x16384.Idx → EReal) (x17 : Fin 4 → S1x4096.Idx → EReal) (x18 : Fin 4 → S1x4096.Idx → EReal) (x19 : Fin 4 → S1x4096.Idx → EReal) :
    Cert.AdamSmallRefIdeal.Read.val_main_v545 (F := Ideal) (x0 1) (x1 1) (x2 1) (x3 1) (x4 1) (x5 1) (x6 1) (x7 1) (x8 1) (x9 1) (x10 1) (x11 1) (x12 1) (x13 1) (x14 1) (x15 1) (x16 1) (x17 1) (x18 1) (x19 1) (x0 3) (x1 3) (x2 3) (x3 3) (x4 3) (x5 3) (x6 3) (x7 3) (x8 3) (x9 3) (x10 3) (x11 3) (x12 3) (x13 3) (x14 3) (x15 3) (x16 3) (x17 3) (x18 3) (x19 3)
      = shapeCast S8x13440 (fun j => square (quads x0 x1 x2 x3 x4 x5 x6 x7 x8 x9 x10 x11 x12 x13 x14 x15 x16 x17 x18 x19 j)) shapeCasts_S107520_S8x13440 := by
  unfold Cert.AdamSmallRefIdeal.Read.val_main_v545 Cert.AdamSmallRefIdeal.Read.val_main_v544
  rw [square_big, square_filled]
  refine congrArg (fun x => shapeCast S8x13440 x shapeCasts_S107520_S8x13440) (funext fun j => ?_)
  exact Cert.Joined.concatenate_map square S107520 0 [⟨S78016, bigJ x0 x1 x2 x3 x4 x5 x6 x7 x8 x9 x10 x11 x12 x13 x14 x15⟩, ⟨Cert.AdamSmallRefIdeal.S29504, filledJ x16 x17 x18 x19⟩] Cert.AdamSmallRefIdeal.Facts₀.concatenates_S78016_S29504_S107520_d0 Cert.AdamSmallRefIdeal.Facts₀.concatenates_S78016_S29504_S107520_d0 j

/-- A component of the joined first sixteen. -/
theorem bigJ_comp (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) (k : Fin 4) :
    (fun i => bigJ x0 x1 x2 x3 x4 x5 x6 x7 x8 x9 x10 x11 x12 x13 x14 x15 i k) = concatenate S78016 0 [⟨S4096, x0 k⟩, ⟨S4096, x1 k⟩, ⟨S4096, x2 k⟩, ⟨S24576, shapeCast S24576 (x3 k) shapeCasts_S1x24576_S24576⟩, ⟨S10752, shapeCast S10752 (x4 k) shapeCasts_S1x7x1536_S10752⟩, ⟨S16, shapeCast S16 (x5 k) shapeCasts_S1x16_S16⟩, ⟨S16, shapeCast S16 (x6 k) shapeCasts_S1x16_S16⟩, ⟨S16, shapeCast S16 (x7 k) shapeCasts_S1x16_S16⟩, ⟨S16, shapeCast S16 (x8 k) shapeCasts_S1x16_S16⟩, ⟨S128, shapeCast S128 (x9 k) shapeCasts_S1x128_S128⟩, ⟨S15872, shapeCast S15872 (x10 k) shapeCasts_S1x31x512_S15872⟩, ⟨S2048, shapeCast S2048 (x11 k) shapeCasts_S1x2048_S2048⟩, ⟨S2048, shapeCast S2048 (x12 k) shapeCasts_S1x2048_S2048⟩, ⟨S2048, shapeCast S2048 (x13 k) shapeCasts_S1x2048_S2048⟩, ⟨S4096, shapeCast S4096 (x14 k) shapeCasts_S1x4096_S4096⟩, ⟨S4096, shapeCast S4096 (x15 k) shapeCasts_S1x4096_S4096⟩] concatenates_S4096_S4096_S4096_S24576_S10752_S16_S16_S16_S16_S128_S15872_S2048_S2048_S2048_S4096_S4096_S78016_d0 :=
  funext fun j => (Cert.Joined.concatenate_map (fun p : Quad => p k) S78016 0 (big x0 x1 x2 x3 x4 x5 x6 x7 x8 x9 x10 x11 x12 x13 x14 x15) concatenates_S4096_S4096_S4096_S24576_S10752_S16_S16_S16_S16_S128_S15872_S2048_S2048_S2048_S4096_S4096_S78016_d0 concatenates_S4096_S4096_S4096_S24576_S10752_S16_S16_S16_S16_S128_S15872_S2048_S2048_S2048_S4096_S4096_S78016_d0 j).symm

/-- A component of the joined last four. -/
theorem smallJ_comp (x16 : Fin 4 → S1x16384.Idx → EReal) (x17 : Fin 4 → S1x4096.Idx → EReal) (x18 : Fin 4 → S1x4096.Idx → EReal) (x19 : Fin 4 → S1x4096.Idx → EReal) (k : Fin 4) :
    (fun i => smallJ x16 x17 x18 x19 i k) = concatenate S28672 0 [⟨S16384, shapeCast S16384 (x16 k) shapeCasts_S1x16384_S16384⟩, ⟨S4096, shapeCast S4096 (x17 k) shapeCasts_S1x4096_S4096⟩, ⟨S4096, shapeCast S4096 (x18 k) shapeCasts_S1x4096_S4096⟩, ⟨S4096, shapeCast S4096 (x19 k) shapeCasts_S1x4096_S4096⟩] concatenates_S16384_S4096_S4096_S4096_S28672_d0 :=
  funext fun j => (Cert.Joined.concatenate_map (fun p : Quad => p k) S28672 0 (small x16 x17 x18 x19) concatenates_S16384_S4096_S4096_S4096_S28672_d0 concatenates_S16384_S4096_S4096_S4096_S28672_d0 j).symm

/-- A component of the quadruples is the kernel's filled slab of that array. -/
theorem slab (x0 : Fin 4 → S4096.Idx → EReal) (x1 : Fin 4 → S4096.Idx → EReal) (x2 : Fin 4 → S4096.Idx → EReal) (x3 : Fin 4 → S1x24576.Idx → EReal) (x4 : Fin 4 → S1x7x1536.Idx → EReal) (x5 : Fin 4 → S1x16.Idx → EReal) (x6 : Fin 4 → S1x16.Idx → EReal) (x7 : Fin 4 → S1x16.Idx → EReal) (x8 : Fin 4 → S1x16.Idx → EReal) (x9 : Fin 4 → S1x128.Idx → EReal) (x10 : Fin 4 → S1x31x512.Idx → EReal) (x11 : Fin 4 → S1x2048.Idx → EReal) (x12 : Fin 4 → S1x2048.Idx → EReal) (x13 : Fin 4 → S1x2048.Idx → EReal) (x14 : Fin 4 → S1x4096.Idx → EReal) (x15 : Fin 4 → S1x4096.Idx → EReal) (x16 : Fin 4 → S1x16384.Idx → EReal) (x17 : Fin 4 → S1x4096.Idx → EReal) (x18 : Fin 4 → S1x4096.Idx → EReal) (x19 : Fin 4 → S1x4096.Idx → EReal) (k : Fin 4) (z : S_.Idx → EReal) (hz : ∀ i, z i = 0) (j : S107520.Idx) :
    padded (fun i => bigJ x0 x1 x2 x3 x4 x5 x6 x7 x8 x9 x10 x11 x12 x13 x14 x15 i k) (fun i => smallJ x16 x17 x18 x19 i k) z j = quads x0 x1 x2 x3 x4 x5 x6 x7 x8 x9 x10 x11 x12 x13 x14 x15 x16 x17 x18 x19 j k := by
  obtain ⟨r, e⟩ : ∃ r : Fin 107520, j = (ix1 r : S107520.Idx) := ⟨j 0, by blk_ext⟩
  have hr := r.isLt
  rw [e, padded_at _ _ _ hz]
  have hq : quads x0 x1 x2 x3 x4 x5 x6 x7 x8 x9 x10 x11 x12 x13 x14 x15 x16 x17 x18 x19 (ix1 r) = if h : r.val < 78016 then bigJ x0 x1 x2 x3 x4 x5 x6 x7 x8 x9 x10 x11 x12 x13 x14 x15 (ix1 ⟨r.val, h⟩)
      else filledJ x16 x17 x18 x19 (ix1 ⟨r.val - 78016, by omega⟩) := by
    unfold quads
    generalize bigJ x0 x1 x2 x3 x4 x5 x6 x7 x8 x9 x10 x11 x12 x13 x14 x15 = P
    generalize filledJ x16 x17 x18 x19 = Q
    pointwise
  rw [hq]
  by_cases h : r.val < 78016
  · rw [dif_pos h, dif_pos h]
  rw [dif_neg h, dif_neg h]
  have ht := tail_at (fun i k => shapeCast S16384 (x16 k) shapeCasts_S1x16384_S16384 i) (fun i k => shapeCast S4096 (x17 k) shapeCasts_S1x4096_S4096 i)
    (fun i k => shapeCast S4096 (x18 k) shapeCasts_S1x4096_S4096 i) (fun i k => shapeCast S4096 (x19 k) shapeCasts_S1x4096_S4096 i) (fun _ (_ : Fin 4) => (0 : EReal))
    ⟨r.val - 78016, by omega⟩
  refine Eq.trans ?_ (congrFun ht.symm k)
  by_cases h' : r.val < 106688
  · rw [dif_pos h', dif_pos (show r.val - 78016 < 28672 by omega)]
    rfl
  · rw [dif_neg h', dif_neg (show ¬ r.val - 78016 < 28672 by omega)]

variable (m : (ℓ : Loc nD τ sig) → Buf (Elt Ideal) ℓ) (ρ : Dev nD → PrngReg)

/-- The four arrays of weight 0. -/
def w0 (c : Dev nD) (k : Fin 4) : S4096.Idx → EReal := (![m ((c : Thread nD τ).loc main_arg0), m ((c : Thread nD τ).loc main_arg20), m ((c : Thread nD τ).loc main_arg40), m ((c : Thread nD τ).loc main_arg60)] : Fin 4 → S4096.Idx → EReal) k

/-- The four arrays of weight 1. -/
def w1 (c : Dev nD) (k : Fin 4) : S4096.Idx → EReal := (![m ((c : Thread nD τ).loc main_arg1), m ((c : Thread nD τ).loc main_arg21), m ((c : Thread nD τ).loc main_arg41), m ((c : Thread nD τ).loc main_arg61)] : Fin 4 → S4096.Idx → EReal) k

/-- The four arrays of weight 2. -/
def w2 (c : Dev nD) (k : Fin 4) : S4096.Idx → EReal := (![m ((c : Thread nD τ).loc main_arg2), m ((c : Thread nD τ).loc main_arg22), m ((c : Thread nD τ).loc main_arg42), m ((c : Thread nD τ).loc main_arg62)] : Fin 4 → S4096.Idx → EReal) k

/-- The four arrays of weight 3. -/
def w3 (c : Dev nD) (k : Fin 4) : S1x24576.Idx → EReal := (![m ((c : Thread nD τ).loc main_arg3), m ((c : Thread nD τ).loc main_arg23), m ((c : Thread nD τ).loc main_arg43), m ((c : Thread nD τ).loc main_arg63)] : Fin 4 → S1x24576.Idx → EReal) k

/-- The four arrays of weight 4. -/
def w4 (c : Dev nD) (k : Fin 4) : S1x7x1536.Idx → EReal := (![m ((c : Thread nD τ).loc main_arg4), m ((c : Thread nD τ).loc main_arg24), m ((c : Thread nD τ).loc main_arg44), m ((c : Thread nD τ).loc main_arg64)] : Fin 4 → S1x7x1536.Idx → EReal) k

/-- The four arrays of weight 5. -/
def w5 (c : Dev nD) (k : Fin 4) : S1x16.Idx → EReal := (![m ((c : Thread nD τ).loc main_arg5), m ((c : Thread nD τ).loc main_arg25), m ((c : Thread nD τ).loc main_arg45), m ((c : Thread nD τ).loc main_arg65)] : Fin 4 → S1x16.Idx → EReal) k

/-- The four arrays of weight 6. -/
def w6 (c : Dev nD) (k : Fin 4) : S1x16.Idx → EReal := (![m ((c : Thread nD τ).loc main_arg6), m ((c : Thread nD τ).loc main_arg26), m ((c : Thread nD τ).loc main_arg46), m ((c : Thread nD τ).loc main_arg66)] : Fin 4 → S1x16.Idx → EReal) k

/-- The four arrays of weight 7. -/
def w7 (c : Dev nD) (k : Fin 4) : S1x16.Idx → EReal := (![m ((c : Thread nD τ).loc main_arg7), m ((c : Thread nD τ).loc main_arg27), m ((c : Thread nD τ).loc main_arg47), m ((c : Thread nD τ).loc main_arg67)] : Fin 4 → S1x16.Idx → EReal) k

/-- The four arrays of weight 8. -/
def w8 (c : Dev nD) (k : Fin 4) : S1x16.Idx → EReal := (![m ((c : Thread nD τ).loc main_arg8), m ((c : Thread nD τ).loc main_arg28), m ((c : Thread nD τ).loc main_arg48), m ((c : Thread nD τ).loc main_arg68)] : Fin 4 → S1x16.Idx → EReal) k

/-- The four arrays of weight 9. -/
def w9 (c : Dev nD) (k : Fin 4) : S1x128.Idx → EReal := (![m ((c : Thread nD τ).loc main_arg9), m ((c : Thread nD τ).loc main_arg29), m ((c : Thread nD τ).loc main_arg49), m ((c : Thread nD τ).loc main_arg69)] : Fin 4 → S1x128.Idx → EReal) k

/-- The four arrays of weight 10. -/
def w10 (c : Dev nD) (k : Fin 4) : S1x31x512.Idx → EReal := (![m ((c : Thread nD τ).loc main_arg10), m ((c : Thread nD τ).loc main_arg30), m ((c : Thread nD τ).loc main_arg50), m ((c : Thread nD τ).loc main_arg70)] : Fin 4 → S1x31x512.Idx → EReal) k

/-- The four arrays of weight 11. -/
def w11 (c : Dev nD) (k : Fin 4) : S1x2048.Idx → EReal := (![m ((c : Thread nD τ).loc main_arg11), m ((c : Thread nD τ).loc main_arg31), m ((c : Thread nD τ).loc main_arg51), m ((c : Thread nD τ).loc main_arg71)] : Fin 4 → S1x2048.Idx → EReal) k

/-- The four arrays of weight 12. -/
def w12 (c : Dev nD) (k : Fin 4) : S1x2048.Idx → EReal := (![m ((c : Thread nD τ).loc main_arg12), m ((c : Thread nD τ).loc main_arg32), m ((c : Thread nD τ).loc main_arg52), m ((c : Thread nD τ).loc main_arg72)] : Fin 4 → S1x2048.Idx → EReal) k

/-- The four arrays of weight 13. -/
def w13 (c : Dev nD) (k : Fin 4) : S1x2048.Idx → EReal := (![m ((c : Thread nD τ).loc main_arg13), m ((c : Thread nD τ).loc main_arg33), m ((c : Thread nD τ).loc main_arg53), m ((c : Thread nD τ).loc main_arg73)] : Fin 4 → S1x2048.Idx → EReal) k

/-- The four arrays of weight 14. -/
def w14 (c : Dev nD) (k : Fin 4) : S1x4096.Idx → EReal := (![m ((c : Thread nD τ).loc main_arg14), m ((c : Thread nD τ).loc main_arg34), m ((c : Thread nD τ).loc main_arg54), m ((c : Thread nD τ).loc main_arg74)] : Fin 4 → S1x4096.Idx → EReal) k

/-- The four arrays of weight 15. -/
def w15 (c : Dev nD) (k : Fin 4) : S1x4096.Idx → EReal := (![m ((c : Thread nD τ).loc main_arg15), m ((c : Thread nD τ).loc main_arg35), m ((c : Thread nD τ).loc main_arg55), m ((c : Thread nD τ).loc main_arg75)] : Fin 4 → S1x4096.Idx → EReal) k

/-- The four arrays of weight 16. -/
def w16 (c : Dev nD) (k : Fin 4) : S1x16384.Idx → EReal := (![m ((c : Thread nD τ).loc main_arg16), m ((c : Thread nD τ).loc main_arg36), m ((c : Thread nD τ).loc main_arg56), m ((c : Thread nD τ).loc main_arg76)] : Fin 4 → S1x16384.Idx → EReal) k

/-- The four arrays of weight 17. -/
def w17 (c : Dev nD) (k : Fin 4) : S1x4096.Idx → EReal := (![m ((c : Thread nD τ).loc main_arg17), m ((c : Thread nD τ).loc main_arg37), m ((c : Thread nD τ).loc main_arg57), m ((c : Thread nD τ).loc main_arg77)] : Fin 4 → S1x4096.Idx → EReal) k

/-- The four arrays of weight 18. -/
def w18 (c : Dev nD) (k : Fin 4) : S1x4096.Idx → EReal := (![m ((c : Thread nD τ).loc main_arg18), m ((c : Thread nD τ).loc main_arg38), m ((c : Thread nD τ).loc main_arg58), m ((c : Thread nD τ).loc main_arg78)] : Fin 4 → S1x4096.Idx → EReal) k

/-- The four arrays of weight 19. -/
def w19 (c : Dev nD) (k : Fin 4) : S1x4096.Idx → EReal := (![m ((c : Thread nD τ).loc main_arg19), m ((c : Thread nD τ).loc main_arg39), m ((c : Thread nD τ).loc main_arg59), m ((c : Thread nD τ).loc main_arg79)] : Fin 4 → S1x4096.Idx → EReal) k

/-- The arguments of the kernel, by weight. -/
def args (c : Dev nD) : S107520.Idx → Quad :=
  quads (w0 m c) (w1 m c) (w2 m c) (w3 m c) (w4 m c) (w5 m c) (w6 m c) (w7 m c) (w8 m c) (w9 m c) (w10 m c) (w11 m c) (w12 m c) (w13 m c) (w14 m c) (w15 m c) (w16 m c) (w17 m c) (w18 m c) (w19 m c)

set_option maxHeartbeats 4000000 in
/-- The slab of window 0 at the kernel's entry. -/
theorem entry0 (c : Dev nD) : (V m c main_v21 : S8x13440.Idx → EReal)
    = shapeCast S8x13440 (fun j => args m c j 0) shapeCasts_S107520_S8x13440 := by
  refine Eq.trans ?_ (congrArg (fun x => shapeCast S8x13440 x shapeCasts_S107520_S8x13440)
    (funext fun j => slab (w0 m c) (w1 m c) (w2 m c) (w3 m c) (w4 m c) (w5 m c) (w6 m c) (w7 m c) (w8 m c) (w9 m c) (w10 m c) (w11 m c) (w12 m c) (w13 m c) (w14 m c) (w15 m c) (w16 m c) (w17 m c) (w18 m c) (w19 m c) 0
      (fun _ => ((((0#32 : BitVec 32).toInt : ℝ) : EReal))) (fun _ => zero_int) j))
  rw [bigJ_comp, smallJ_comp]
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  all_goals rfl

set_option maxHeartbeats 4000000 in
/-- The slab of window 1 at the kernel's entry. -/
theorem entry1 (c : Dev nD) : (V m c main_v43 : S8x13440.Idx → EReal)
    = shapeCast S8x13440 (fun j => args m c j 1) shapeCasts_S107520_S8x13440 := by
  refine Eq.trans ?_ (congrArg (fun x => shapeCast S8x13440 x shapeCasts_S107520_S8x13440)
    (funext fun j => slab (w0 m c) (w1 m c) (w2 m c) (w3 m c) (w4 m c) (w5 m c) (w6 m c) (w7 m c) (w8 m c) (w9 m c) (w10 m c) (w11 m c) (w12 m c) (w13 m c) (w14 m c) (w15 m c) (w16 m c) (w17 m c) (w18 m c) (w19 m c) 1
      (fun _ => ((((0#32 : BitVec 32).toInt : ℝ) : EReal))) (fun _ => zero_int) j))
  rw [bigJ_comp, smallJ_comp]
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  all_goals rfl

set_option maxHeartbeats 4000000 in
/-- The slab of window 2 at the kernel's entry. -/
theorem entry2 (c : Dev nD) : (V m c main_v65 : S8x13440.Idx → EReal)
    = shapeCast S8x13440 (fun j => args m c j 2) shapeCasts_S107520_S8x13440 := by
  refine Eq.trans ?_ (congrArg (fun x => shapeCast S8x13440 x shapeCasts_S107520_S8x13440)
    (funext fun j => slab (w0 m c) (w1 m c) (w2 m c) (w3 m c) (w4 m c) (w5 m c) (w6 m c) (w7 m c) (w8 m c) (w9 m c) (w10 m c) (w11 m c) (w12 m c) (w13 m c) (w14 m c) (w15 m c) (w16 m c) (w17 m c) (w18 m c) (w19 m c) 2
      (fun _ => ((((0#32 : BitVec 32).toInt : ℝ) : EReal))) (fun _ => zero_int) j))
  rw [bigJ_comp, smallJ_comp]
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  all_goals rfl

set_option maxHeartbeats 4000000 in
/-- The slab of window 3 at the kernel's entry. -/
theorem entry3 (c : Dev nD) : (V m c main_v87 : S8x13440.Idx → EReal)
    = shapeCast S8x13440 (fun j => args m c j 3) shapeCasts_S107520_S8x13440 := by
  refine Eq.trans ?_ (congrArg (fun x => shapeCast S8x13440 x shapeCasts_S107520_S8x13440)
    (funext fun j => slab (w0 m c) (w1 m c) (w2 m c) (w3 m c) (w4 m c) (w5 m c) (w6 m c) (w7 m c) (w8 m c) (w9 m c) (w10 m c) (w11 m c) (w12 m c) (w13 m c) (w14 m c) (w15 m c) (w16 m c) (w17 m c) (w18 m c) (w19 m c) 3
      (fun _ => ((((0#32 : BitVec 32).toInt : ℝ) : EReal))) (fun _ => zero_int) j))
  rw [bigJ_comp, smallJ_comp]
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  all_goals rfl

/-- Every window is its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The block of window 0 is the slab. -/
theorem blk0 (c : Dev nD) (t : Fin cfg0.N) (y : S8x13440.Idx) :
    (iblk m c 0 t y : EReal) = shapeCast S8x13440 (fun j => args m c j 0) shapeCasts_S107520_S8x13440 y := by
  rw [← entry0 m c]
  blk_ext [iblk, idx t]

/-- The block of window 1 is the slab. -/
theorem blk1 (c : Dev nD) (t : Fin cfg0.N) (y : S8x13440.Idx) :
    (iblk m c 1 t y : EReal) = shapeCast S8x13440 (fun j => args m c j 1) shapeCasts_S107520_S8x13440 y := by
  rw [← entry1 m c]
  blk_ext [iblk, idx t]

/-- The block of window 2 is the slab. -/
theorem blk2 (c : Dev nD) (t : Fin cfg0.N) (y : S8x13440.Idx) :
    (iblk m c 2 t y : EReal) = shapeCast S8x13440 (fun j => args m c j 2) shapeCasts_S107520_S8x13440 y := by
  rw [← entry2 m c]
  blk_ext [iblk, idx t]

/-- The block of window 3 is the slab. -/
theorem blk3 (c : Dev nD) (t : Fin cfg0.N) (y : S8x13440.Idx) :
    (iblk m c 3 t y : EReal) = shapeCast S8x13440 (fun j => args m c j 3) shapeCasts_S107520_S8x13440 y := by
  rw [← entry3 m c]
  blk_ext [iblk, idx t]

/-- What the kernel stores, at an element. -/
theorem mean_at (g a : S8x13440.Idx → EReal) (y : S8x13440.Idx) : (k0_pay2 (F := Ideal) g a y : EReal) = Cert.Adam.mean (g y) (a y) := by
  have e : (y : S8x13440.Idx) = (ix2 (y 0) (y 1) : S8x13440.Idx) := by blk_ext
  rw [e]; pointwise [k0_pay2, k0_pay1]; rfl
/-- The stored square at an element. -/
theorem square_at (g a : S8x13440.Idx → EReal) (y : S8x13440.Idx) : (k0_pay3 (F := Ideal) g a y : EReal) = Cert.Adam.square (g y) (a y) := by
  have e : (y : S8x13440.Idx) = (ix2 (y 0) (y 1) : S8x13440.Idx) := by blk_ext
  rw [e]; pointwise [k0_pay3, k0_pay1]; rfl
/-- The stored increment at an element. -/
theorem step_at (g w a b : S8x13440.Idx → EReal) (y : S8x13440.Idx) : (k0_pay4 (F := Ideal) g w a b y : EReal) = Cert.Adam.delta (w y) (g y) (a y) (b y) := by
  have e : (y : S8x13440.Idx) = (ix2 (y 0) (y 1) : S8x13440.Idx) := by blk_ext
  rw [e]; pointwise [k0_pay4, k0_pay3, k0_pay2, k0_pay1]; rfl

/-- The kernel's result step is the reference's. -/
theorem final4 (c : Dev nD) : (dats m 0 c).arrAt 4 (cfgs 0).N = Cert.AdamSmallRefIdeal.Read.val_main_v501 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67)) (m ((c : Thread nD τ).loc main_arg68)) (m ((c : Thread nD τ).loc main_arg69)) (m ((c : Thread nD τ).loc main_arg70)) (m ((c : Thread nD τ).loc main_arg71)) (m ((c : Thread nD τ).loc main_arg72)) (m ((c : Thread nD τ).loc main_arg73)) (m ((c : Thread nD τ).loc main_arg74)) (m ((c : Thread nD τ).loc main_arg75)) (m ((c : Thread nD τ).loc main_arg76)) (m ((c : Thread nD τ).loc main_arg77)) (m ((c : Thread nD τ).loc main_arg78)) (m ((c : Thread nD τ).loc main_arg79)) := by
  refine Eq.trans ?_ (step_ref (w0 m c) (w1 m c) (w2 m c) (w3 m c) (w4 m c) (w5 m c) (w6 m c) (w7 m c) (w8 m c) (w9 m c) (w10 m c) (w11 m c) (w12 m c) (w13 m c) (w14 m c) (w15 m c) (w16 m c) (w17 m c) (w18 m c) (w19 m c)).symm
  refine (dats m 0 c).arrAt_eq_of_covers 4 _ (by decide +kernel) fun t hf y => ?_
  blk_simp
  rw [after0_4]; frame_out
  have e : ((cfg0.win 4).blk t).view.emb y = (y : S8x13440.Idx) := by blk_ext [idx t]
  rw [e]
  exact (step_at _ _ _ _ y).trans (by rw [blk0, blk1, blk2, blk3]; rfl)

/-- The kernel's result mean is the reference's. -/
theorem final5 (c : Dev nD) : (dats m 0 c).arrAt 5 (cfgs 0).N = Cert.AdamSmallRefIdeal.Read.val_main_v523 (F := Ideal) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) (m ((c : Thread nD τ).loc main_arg54)) (m ((c : Thread nD τ).loc main_arg55)) (m ((c : Thread nD τ).loc main_arg56)) (m ((c : Thread nD τ).loc main_arg57)) (m ((c : Thread nD τ).loc main_arg58)) (m ((c : Thread nD τ).loc main_arg59)) := by
  refine Eq.trans ?_ (mean_ref (w0 m c) (w1 m c) (w2 m c) (w3 m c) (w4 m c) (w5 m c) (w6 m c) (w7 m c) (w8 m c) (w9 m c) (w10 m c) (w11 m c) (w12 m c) (w13 m c) (w14 m c) (w15 m c) (w16 m c) (w17 m c) (w18 m c) (w19 m c)).symm
  refine (dats m 0 c).arrAt_eq_of_covers 5 _ (by decide +kernel) fun t hf y => ?_
  blk_simp
  rw [after0_5]; frame_out
  have e : ((cfg0.win 5).blk t).view.emb y = (y : S8x13440.Idx) := by blk_ext [idx t]
  rw [e]
  exact (mean_at _ _ y).trans (by rw [blk1, blk2]; rfl)

/-- The kernel's result square is the reference's. -/
theorem final6 (c : Dev nD) : (dats m 0 c).arrAt 6 (cfgs 0).N = Cert.AdamSmallRefIdeal.Read.val_main_v545 (F := Ideal) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) (m ((c : Thread nD τ).loc main_arg60)) (m ((c : Thread nD τ).loc main_arg61)) (m ((c : Thread nD τ).loc main_arg62)) (m ((c : Thread nD τ).loc main_arg63)) (m ((c : Thread nD τ).loc main_arg64)) (m ((c : Thread nD τ).loc main_arg65)) (m ((c : Thread nD τ).loc main_arg66)) (m ((c : Thread nD τ).loc main_arg67)) (m ((c : Thread nD τ).loc main_arg68)) (m ((c : Thread nD τ).loc main_arg69)) (m ((c : Thread nD τ).loc main_arg70)) (m ((c : Thread nD τ).loc main_arg71)) (m ((c : Thread nD τ).loc main_arg72)) (m ((c : Thread nD τ).loc main_arg73)) (m ((c : Thread nD τ).loc main_arg74)) (m ((c : Thread nD τ).loc main_arg75)) (m ((c : Thread nD τ).loc main_arg76)) (m ((c : Thread nD τ).loc main_arg77)) (m ((c : Thread nD τ).loc main_arg78)) (m ((c : Thread nD τ).loc main_arg79)) := by
  refine Eq.trans ?_ (square_ref (w0 m c) (w1 m c) (w2 m c) (w3 m c) (w4 m c) (w5 m c) (w6 m c) (w7 m c) (w8 m c) (w9 m c) (w10 m c) (w11 m c) (w12 m c) (w13 m c) (w14 m c) (w15 m c) (w16 m c) (w17 m c) (w18 m c) (w19 m c)).symm
  refine (dats m 0 c).arrAt_eq_of_covers 6 _ (by decide +kernel) fun t hf y => ?_
  blk_simp
  rw [after0_6]; frame_out
  have e : ((cfg0.win 6).blk t).view.emb y = (y : S8x13440.Idx) := by blk_ext [idx t]
  rw [e]
  exact (square_at _ _ y).trans (by rw [blk1, blk3]; rfl)

end Cert.AdamSmallIdeal.Final
end
-- ==== Proof.SumSmall.lean ====
/-
  The sum of the small gradients over the devices: eight pieces of eight rows, added one after the other, against the sum
  of the eight pieces.
-/
module

public import proofs.«01_k».proof.Proof.Gen.SumSmallIdeal.Value
public import proofs.«01_k».proof.Proof.Gen.SumSmallRefIdeal.Run
public import proofs.«01_k».proof.Proof.Gen.SumSmallRefIdeal.Read
public import Idealize.ShloMosaic.Lib.Pipeline.ValueKit
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SumSmallIdeal.Final

open Cert.SumSmallIdeal Cert.SumSmallIdeal.Gen Cert.SumSmallRefIdeal.Read

/-- The kernel's sum at an index. -/
theorem pay_at (x : Vec Ideal S64x20352 .f32) (a : Fin 8) (b : Fin 20352) :
    ((Value.G1 (F := Ideal) x : S8x20352.Idx → EReal) (ix2 a b) : EReal)
      = ∑ s : Fin 8, (x (ix2 (⟨s.val * 8 + a.val, by omega⟩ : Fin 64) b) : EReal) := by
  have e : ∀ (o : Nat) (h : o + a.val < 64) (h' : o / 8 * 8 + a.val < 64), o = o / 8 * 8 →
      (x (ix2 (⟨o + a.val, h⟩ : Fin 64) b) : EReal) = x (ix2 (⟨o / 8 * 8 + a.val, h'⟩ : Fin 64) b) := by
    intro o h h' ho; congr 2; apply Fin.ext; show o + a.val = o / 8 * 8 + a.val; omega
  have ha := a.isLt
  simp only [Fin.sum_univ_eight]
  unfold Value.G1
  pointwise [k0_pay1, r0_0, r0_1, r0_2, r0_3, r0_4, r0_5, r0_6, r0_7]

/-- The two programs' results are the same. -/
theorem sum_eq (x : Vec Ideal S64x20352 .f32) :
    (Value.G1 (F := Ideal) x : S8x20352.Idx → EReal) = val_main_v1 (F := Ideal) x := by
  funext y
  obtain ⟨a, b, rfl⟩ : ∃ (a : Fin 8) (b : Fin 20352), y = (ix2 a b : S8x20352.Idx) := ⟨y 0, y 1, by blk_ext⟩
  rw [pay_at, val_main_v1_apply]
  show _ = Ideal.ofBits .f32 0x00000000#32 + _
  rw [Ideal.ofBits_zero_f32, zero_add]
  refine Fin.sum_fin_congr fun s => ?_
  rw [val_main_v0_apply]
  congr 1
  funext i; apply Fin.ext
  have ha := a.isLt
  have hb := b.isLt
  match i with
  | ⟨0, _⟩ => show s.val * 8 + a.val = ((s.val * 8 + a.val) * 20352 + b.val) / 20352; omega
  | ⟨1, _⟩ => show b.val = ((s.val * 8 + a.val) * 20352 + b.val) % 20352; omega

variable (m : (ℓ : Loc nD τ sig) → Buf (Elt Ideal) ℓ)

/-- The array of the sums. -/
theorem final (c : Dev nD) : (dats m 0 c).arrAt 1 (cfgs 0).N = val_main_v1 (F := Ideal) (m ((c : Thread nD τ).loc main_arg0)) :=
  (Value.final1 m c).trans (sum_eq _)

end Cert.SumSmallIdeal.Final
end
-- ==== Proof.DmodPrep.lean ====
/-
  The modulation's gradients of all the devices, prepared for the product with the modulation weight: eight rows of the
  examples, one row of the context, summed over the devices, and the sum of the nine, which is the bias's gradient.
-/
module

public import proofs.«01_k».proof.Proof.Gen.DmodPrepIdeal.Value
public import proofs.«01_k».proof.Proof.Gen.DmodPrepRefIdeal.Run
public import proofs.«01_k».proof.Proof.Gen.DmodPrepRefIdeal.Read
public import Idealize.ShloMosaic.Lib.Pipeline.ValueKit
public import Idealize.ShloMosaic.Lib.WritesUnit
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DmodPrepIdeal.Final

open Cert.DmodPrepIdeal Cert.DmodPrepIdeal.Gen

variable (m : (ℓ : Loc nD τ sig) → Buf (Elt Ideal) ℓ) (ρ : Dev nD → PrngReg)

open Cert.DmodPrepRefIdeal.Read

/-- The windows' block indices at a point. -/
theorem idx : ∀ t : Fin cfg0.N, win0_0.index t = ![0, t.val] ∧ win0_1.index t = ![0, t.val] ∧ win0_2.index t = ![0, t.val] :=
  (by decide +kernel : ∀ t : Fin grid0.N, _)

/-- The input's block at a point. -/
theorem blk0 (c : Dev nD) (t : Fin cfg0.N) (a : Fin 64) (k : Fin 2048) (h : t.val * 2048 + k.val < 24576) :
    (iblk m c 0 t (ix2 a k) : EReal) = (m ((c : Thread nD τ).loc main_arg0) : S64x24576.Idx → EReal) (ix2 a ⟨t.val * 2048 + k.val, h⟩) := by
  blk_ext [iblk, idx t, V]

/-- The context's row and the examples' total, of one column of the devices' rows, and the sixteen rows prepared of it. -/
def ctx (f : Fin 64 → EReal) : EReal := ∑ s : Fin 8, f ⟨s.val * 8 + 1, by omega⟩
def tot (f : Fin 64 → EReal) : EReal := ∑ s : Fin 8, f ⟨s.val * 8, by omega⟩
def rows (f : Fin 64 → EReal) (r : Fin 16) : EReal := if h : r.val < 8 then f ⟨r.val * 8, by omega⟩ else if r.val = 8 then ctx f else 0

/-- The reference's example rows, context row and sums. -/
theorem ref6 (x : FVec Ideal S64x24576 .f32) (s : Fin 8) (j : Fin 24576) :
    (val_main_v6 (F := Ideal) x (ix2 s j) : EReal) = x (ix2 (⟨s.val * 8, by omega⟩ : Fin 64) j) := by
  have hj := j.isLt
  rw [val_main_v6_apply, val_main_v5_apply, val_main_v0_apply]
  congr 1
  funext i; apply Fin.ext
  match i with
  | ⟨0, _⟩ => show ((((s.val * 24576 + j.val) / 24576) * 8 + 0) * 24576 + (s.val * 24576 + j.val) % 24576) / 24576 = s.val * 8; omega
  | ⟨1, _⟩ => show ((((s.val * 24576 + j.val) / 24576) * 8 + 0) * 24576 + (s.val * 24576 + j.val) % 24576) % 24576 = j.val; omega
theorem ref2 (x : FVec Ideal S64x24576 .f32) (s : Fin 8) (j : Fin 24576) :
    (val_main_v2 (F := Ideal) x (ix2 s j) : EReal) = x (ix2 (⟨s.val * 8 + 1, by omega⟩ : Fin 64) j) := by
  have hj := j.isLt
  rw [val_main_v2_apply, val_main_v1_apply, val_main_v0_apply]
  congr 1
  funext i; apply Fin.ext
  match i with
  | ⟨0, _⟩ => show ((((s.val * 24576 + j.val) / 24576) * 8 + (1 + 0)) * 24576 + (s.val * 24576 + j.val) % 24576) / 24576 = s.val * 8 + 1; omega
  | ⟨1, _⟩ => show ((((s.val * 24576 + j.val) / 24576) * 8 + (1 + 0)) * 24576 + (s.val * 24576 + j.val) % 24576) % 24576 = j.val; omega
theorem ref4 (x : FVec Ideal S64x24576 .f32) (j : Fin 24576) :
    (val_main_v4 (F := Ideal) x (ix2 0 j) : EReal) = ctx fun a => x (ix2 a j) := by
  rw [val_main_v4_apply, val_main_v3_apply]
  show Ideal.ofBits .f32 0x00000000#32 + _ = _
  rw [Ideal.ofBits_zero_f32, zero_add]
  exact Fin.sum_fin_congr fun k => (congrArg (val_main_v2 (F := Ideal) x) (by blk_ext)).trans (ref2 x k j)
theorem ref12 (x : FVec Ideal S64x24576 .f32) (j : Fin 24576) :
    (val_main_v12 (F := Ideal) x (ix2 0 j) : EReal) = tot fun a => x (ix2 a j) := by
  rw [val_main_v12_apply, val_main_v11_apply]
  show Ideal.ofBits .f32 0x00000000#32 + _ = _
  rw [Ideal.ofBits_zero_f32, zero_add]
  exact Fin.sum_fin_congr fun k => (congrArg (val_main_v6 (F := Ideal) x) (by blk_ext)).trans (ref6 x k j)

/-- The reference's two results at an index. -/
theorem ref13 (x : FVec Ideal S64x24576 .f32) (j : Fin 24576) :
    (val_main_v13 (F := Ideal) x (ix2 0 j) : EReal) = tot (fun a => x (ix2 a j)) + ctx (fun a => x (ix2 a j)) := by
  rw [val_main_v13_apply, ref4, ref12]
  rfl
theorem ref8 (x : FVec Ideal S64x24576 .f32) (r : Fin 16) (j : Fin 24576) :
    (val_main_v8 (F := Ideal) x (ix2 r j) : EReal) = rows (fun a => x (ix2 a j)) r := by
  unfold val_main_v8
  pointwise
  have hr := r.isLt
  rw [rows]
  by_cases h : r.val < 8
  · rw [dif_pos h, dif_pos h]
    exact ref6 x ⟨r.val, h⟩ j
  · rw [dif_neg h, dif_neg h]
    by_cases h8 : r.val = 8
    · rw [if_pos h8, dif_pos (by omega)]
      refine Eq.trans ?_ (ref4 x j)
      congr 1
      blk_ext
    · rw [if_neg h8, dif_neg (by omega)]
      pointwise [val_main_v7, val_main_cst_0]

/-- The payloads at an index: the context's row, and the nine rows' sum. -/
theorem ctx_at (x : Vec Ideal S64x2048 .f32) (b : Fin 2048) :
    (k0_pay5 (F := Ideal) (k0_pay4 (View.ld x (Rect.unit ![1, 0] ![1, 2048] inb_S64x2048_S1x2048_1_0))
      (View.ld x (Rect.unit ![9, 0] ![1, 2048] inb_S64x2048_S1x2048_9_0)) (View.ld x (Rect.unit ![17, 0] ![1, 2048] inb_S64x2048_S1x2048_17_0))
      (View.ld x (Rect.unit ![25, 0] ![1, 2048] inb_S64x2048_S1x2048_25_0)) (View.ld x (Rect.unit ![33, 0] ![1, 2048] inb_S64x2048_S1x2048_33_0)))
      (View.ld x (Rect.unit ![41, 0] ![1, 2048] inb_S64x2048_S1x2048_41_0)) (View.ld x (Rect.unit ![49, 0] ![1, 2048] inb_S64x2048_S1x2048_49_0))
      (View.ld x (Rect.unit ![57, 0] ![1, 2048] inb_S64x2048_S1x2048_57_0)) (ix2 0 b) : EReal) = ctx fun a => x (ix2 a b) := by
  simp only [ctx, Fin.sum_univ_eight]
  pointwise [k0_pay5, k0_pay4]
theorem tot_at (x : Vec Ideal S64x2048 .f32) (b : Fin 2048) :
    (k0_pay6 (F := Ideal) (k0_pay3 (View.ld x (Rect.unit ![0, 0] ![1, 2048] inb_S64x2048_S1x2048_0_0))
      (View.ld x (Rect.unit ![8, 0] ![1, 2048] inb_S64x2048_S1x2048_8_0)) (View.ld x (Rect.unit ![16, 0] ![1, 2048] inb_S64x2048_S1x2048_16_0))
      (View.ld x (Rect.unit ![24, 0] ![1, 2048] inb_S64x2048_S1x2048_24_0))) (View.ld x (Rect.unit ![32, 0] ![1, 2048] inb_S64x2048_S1x2048_32_0))
      (View.ld x (Rect.unit ![40, 0] ![1, 2048] inb_S64x2048_S1x2048_40_0)) (View.ld x (Rect.unit ![48, 0] ![1, 2048] inb_S64x2048_S1x2048_48_0))
      (View.ld x (Rect.unit ![56, 0] ![1, 2048] inb_S64x2048_S1x2048_56_0)) (ix2 0 b) : EReal) = tot fun a => x (ix2 a b) := by
  simp only [tot, Fin.sum_univ_eight]
  pointwise [k0_pay6, k0_pay3]

/-- A stored example row at an index. -/
theorem example_row (v : Vec Ideal S64x2048 .f32) (r : Fin 16) (b : Fin 2048) (o q : ℕ) (inb)
    (x : (Rect.unit (s := S64x2048) ![q, 0] ![1, 2048] inb).shape.Idx)
    (h0 : ((ix2 r b : S16x2048.Idx) 0).val = o + (x 0).val) (h1 : ((ix2 r b : S16x2048.Idx) 1).val = (x 1).val) (ho : o < 8 ∧ q = o * 8) :
    (View.ld v (Rect.unit (s := S64x2048) ![q, 0] ![1, 2048] inb) x : EReal) = rows (fun a => v (ix2 a b)) r := by
  have h0' : r.val = o + (x 0).val := h0
  have h1' : b.val = (x 1).val := h1
  have hx : (x 0).val < 1 := (x 0).isLt
  rw [rows, dif_pos (by omega)]
  show v ((Rect.unit (s := S64x2048) ![q, 0] ![1, 2048] inb).emb x) = _
  congr 1
  funext a; apply Fin.ext
  match a with
  | ⟨0, _⟩ => show q + 1 * (x 0).val = r.val * 8; omega
  | ⟨1, _⟩ => show 0 + 1 * (x 1).val = b.val; omega

/-- A column of a point's block. -/
theorem col (c : Dev nD) (t : Fin cfg0.N) (b : Fin 2048) (h : t.val * 2048 + b.val < 24576) :
    (fun a : Fin 64 => (iblk m c 0 t (ix2 a b) : EReal))
      = fun a => (m ((c : Thread nD τ).loc main_arg0) : S64x24576.Idx → EReal) (ix2 a ⟨t.val * 2048 + b.val, h⟩) :=
  funext fun a => blk0 m c t a b h

/-- The array of the sixteen rows. -/
theorem final1 (c : Dev nD) : (dats m 0 c).arrAt 1 (cfgs 0).N = val_main_v8 (F := Ideal) (m ((c : Thread nD τ).loc main_arg0)) := by
  refine (dats m 0 c).arrAt_eq_of_covers 1 _ (by decide +kernel) fun t _ y => ?_
  have ht : t.val < 12 := lt_of_lt_of_eq t.isLt N_0
  obtain ⟨r, b, rfl⟩ : ∃ (r : Fin 16) (b : Fin 2048), y = (ix2 r b : S16x2048.Idx) := ⟨y 0, y 1, by blk_ext⟩
  have hb := b.isLt
  have hr := r.isLt
  have e : ((cfg0.win 1).blk t).view.emb (ix2 r b : S16x2048.Idx) = (ix2 r ⟨t.val * 2048 + b.val, by omega⟩ : S16x24576.Idx) := by
    blk_ext [idx t]
  blk_simp
  rw [after0_1, e, ref8, ← col m c t b (by omega)]
  unfold outsAt0
  frame_out
  canon_tiles x h using View.cover_of_tiledBy _ ![1, 2048] (by sl_kernel_rfl) _
  · have h0' : r.val = 9 + (x 0).val := h0
    rw [rows, dif_neg (by omega), if_neg (by omega)]
    exact Ideal.ofBits_zero_f32
  · have h0' : r.val = 8 + (x 0).val := h0
    rw [rows, dif_neg (by omega), if_pos (by omega), ← ctx_at]
    congr 1
    funext a; apply Fin.ext
    match a with
    | ⟨0, _⟩ => show (x 0).val = 0; omega
    | ⟨1, _⟩ => exact h1.symm
  · exact example_row _ r b 7 56 _ x h0 h1 (by omega)
  · exact example_row _ r b 6 48 _ x h0 h1 (by omega)
  · exact example_row _ r b 5 40 _ x h0 h1 (by omega)
  · exact example_row _ r b 4 32 _ x h0 h1 (by omega)
  · exact example_row _ r b 3 24 _ x h0 h1 (by omega)
  · exact example_row _ r b 2 16 _ x h0 h1 (by omega)
  · exact example_row _ r b 1 8 _ x h0 h1 (by omega)
  · exact example_row _ r b 0 0 _ x (h0.trans (Nat.zero_add _).symm) h1 (by omega)

/-- The array of the bias's gradient. -/
theorem final2 (c : Dev nD) : (dats m 0 c).arrAt 2 (cfgs 0).N = val_main_v13 (F := Ideal) (m ((c : Thread nD τ).loc main_arg0)) := by
  refine (dats m 0 c).arrAt_eq_of_covers 2 _ (by decide +kernel) fun t _ y => ?_
  have ht : t.val < 12 := lt_of_lt_of_eq t.isLt N_0
  obtain ⟨b, rfl⟩ : ∃ (b : Fin 2048), y = (ix2 0 b : S1x2048.Idx) := ⟨y 1, by blk_ext⟩
  have hb := b.isLt
  have e : ((cfg0.win 2).blk t).view.emb (ix2 0 b : S1x2048.Idx) = (ix2 0 ⟨t.val * 2048 + b.val, by omega⟩ : S1x24576.Idx) := by
    blk_ext [idx t]
  blk_simp
  rw [after0_2, e, ref13, ← col m c t b (by omega)]
  unfold outsAt0
  frame_out
  refine Eq.trans ?_ (congrArg₂ (fun a b : EReal => a + b) (tot_at _ _) (ctx_at _ _))
  pointwise [k0_pay2]

end Cert.DmodPrepIdeal.Final
end
-- ==== Proof.ModBwdW.lean ====
/-
  The gradient of the modulation's weight: the transposed gated rows times the modulation's gradients.
-/
module

public import proofs.«01_k».proof.Proof.Gen.ModBwdWIdeal.Value
public import proofs.«01_k».proof.Proof.Gen.ModBwdWRefIdeal.Run
public import proofs.«01_k».proof.Proof.Gen.ModBwdWRefIdeal.Read
public import Idealize.ShloMosaic.Lib.Pipeline.ValueKit
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModBwdWIdeal.Final

open Cert.ModBwdWIdeal Cert.ModBwdWIdeal.Gen

variable (m : (ℓ : Loc nD τ sig) → Buf (Elt Ideal) ℓ) (ρ : Dev nD → PrngReg)

open Cert.ModBwdWRefIdeal.Read

/-- The reference's result over the kernel's two arguments. -/
abbrev REF (s : FVec Ideal S16x4096 .f32) (d : FVec Ideal S16x6144 .f32) : FVec Ideal S4096x6144 .f32 :=
  val_main_v4 (F := Ideal) s d

/-- The windows' block indices at a point. -/
theorem idx : ∀ t : Fin cfg0.N, win0_0.index t = ![0, t.val % 8] ∧ win0_1.index t = ![0, t.val / 8]
    ∧ win0_2.index t = ![t.val % 8, t.val / 8] :=
  (by decide +kernel : ∀ t : Fin grid0.N, _)

/-- The inputs' blocks at a point. -/
theorem blk0 (c : Dev nD) (t : Fin cfg0.N) (k : Fin 16) (a : Fin 512) (h : t.val % 8 * 512 + a.val < 4096) :
    (iblk m c 0 t (ix2 k a) : EReal) = (m ((c : Thread nD τ).loc main_arg0) : S16x4096.Idx → EReal) (ix2 k ⟨t.val % 8 * 512 + a.val, h⟩) := by
  blk_ext [iblk, idx t, V]
theorem blk1 (c : Dev nD) (t : Fin cfg0.N) (k : Fin 16) (b : Fin 1024) (h : t.val / 8 * 1024 + b.val < 6144) :
    (iblk m c 1 t (ix2 k b) : EReal) = (m ((c : Thread nD τ).loc main_arg1) : S16x6144.Idx → EReal) (ix2 k ⟨t.val / 8 * 1024 + b.val, h⟩) := by
  blk_ext [iblk, idx t, V]

/-- What a point's product is, at an index. -/
theorem pay1_at (x : Vec Ideal S16x512 .f32) (w : Vec Ideal S16x1024 .f32) (y : S512x1024.Idx) :
    (k0_pay1 (F := Ideal) x w y : EReal)
      = ∑ k : Fin 16, ((x (ix2 k (y 0)) : EReal) * Ideal.logistic (x (ix2 k (y 0)))) * (w (ix2 k (y 1)) : EReal) := by
  pointwise [k0_pay1]

/-- The reference's result at an index. -/
theorem ref_at (s d) (a : Fin 4096) (b : Fin 6144) : (REF s d (ix2 a b) : EReal)
    = ∑ k : Fin 16, ((s (ix2 k a) : EReal) * Ideal.logistic (s (ix2 k a))) * (d (ix2 k b) : EReal) := by
  rw [REF, val_main_v4_apply, val_main_v3_apply]
  refine Fin.sum_fin_congr fun k => ?_
  rw [mul_comm]
  refine congrArg₂ (fun a b : EReal => a * b) ?_ ?_
  · have e : ridx_main_v3 (idx_main_v4 (ix2 a b)) k = (ix2 k a : S16x4096.Idx) := by blk_ext
    rw [e, val_main_v1_apply, val_main_call0_v5_apply, val_main_call0_v4_apply, val_main_call0_v3_apply, val_main_call0_v2_apply,
      val_main_call0_v1_apply, val_main_call0_v0_apply, val_main_call0_cst_apply, val_main_call0_cst_0_apply]
    show (s (ix2 k a) : EReal) * Ideal.div (Ideal.ofBits .f32 0x3F800000#32) (Ideal.ofBits .f32 0x3F800000#32 + Ideal.exp (-(s (ix2 k a)))) = _
    rw [Ideal.ofBits_one_f32]
    rfl
  · congr 1
    blk_ext

/-- The array the products leave. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  have ht : t.val < 48 := lt_of_lt_of_eq t.isLt N_0
  have hy0 : (y 0).val < 512 := (y 0).isLt
  have hy1 : (y 1).val < 1024 := (y 1).isLt
  have e : ((cfg0.win 2).blk t).view.emb y = (ix2 ⟨t.val % 8 * 512 + (y 0).val, by omega⟩ ⟨t.val / 8 * 1024 + (y 1).val, by omega⟩ : S4096x6144.Idx) := by
    blk_ext [idx t]
  blk_simp
  rw [after0_2, e]
  unfold outsAt0
  frame_out
  refine (pay1_at _ _ _).trans (Eq.trans ?_ (ref_at _ _ _ _).symm)
  refine Fin.sum_fin_congr fun k => ?_
  have e0 := blk0 m c t k (y 0) (by omega)
  have e1 := blk1 m c t k (y 1) (by omega)
  rw [← e0, ← e1]

end Cert.ModBwdWIdeal.Final
end
-- ==== Proof.ModBwdC.lean ====
/-
  The gradient that reaches the rows the modulation is computed from: the modulation's gradients times the transposed
  weight, summed over six blocks of columns.
-/
module

public import proofs.«01_k».proof.Proof.Gen.ModBwdCIdeal.Value
public import proofs.«01_k».proof.Proof.Gen.ModBwdCRefIdeal.Run
public import proofs.«01_k».proof.Proof.Gen.ModBwdCRefIdeal.Read
public import Idealize.ShloMosaic.Lib.Pipeline.ValueKit
public import Idealize.ShloMosaic.Lib.Pipeline.ReadBack
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModBwdCIdeal.Final

open Cert.ModBwdCIdeal Cert.ModBwdCIdeal.Gen

variable (m : (ℓ : Loc nD τ sig) → Buf (Elt Ideal) ℓ) (ρ : Dev nD → PrngReg)

open Cert.ModBwdCRefIdeal.Read

/-- The reference's result over the kernel's two arguments. -/
abbrev REF (d : FVec Ideal S16x6144 .f32) (w : FVec Ideal S1x4096x6144 .f32) : FVec Ideal S16x4096 .f32 :=
  val_main_v3 (F := Ideal) d w

/-- The windows' block indices at a point. -/
theorem idx : ∀ t : Fin cfg0.N, win0_0.index t = ![0, t.val % 6] ∧ win0_1.index t = ![t.val / 6, t.val % 6]
    ∧ win0_2.index t = ![0, t.val / 6] :=
  (by decide +kernel : ∀ t : Fin grid0.N, _)

/-- The weight without its leading axis. -/
theorem entry1 (c : Dev nD) (a : Fin 4096) (b : Fin 6144) : (V m c main_v0 (ix2 a b) : EReal)
    = (m ((c : Thread nD τ).loc main_arg1) : S1x4096x6144.Idx → EReal) (ix3 0 a b) := by
  entry_read
  pointwise

/-- The inputs' blocks at a point. -/
theorem blk0 (c : Dev nD) (t : Fin cfg0.N) (a : Fin 16) (k : Fin 1024) (h : t.val % 6 * 1024 + k.val < 6144) :
    (iblk m c 0 t (ix2 a k) : EReal) = (m ((c : Thread nD τ).loc main_arg0) : S16x6144.Idx → EReal) (ix2 a ⟨t.val % 6 * 1024 + k.val, h⟩) := by
  rw [← V_main_arg0 m c]
  blk_ext [iblk, idx t]
theorem blk1 (c : Dev nD) (t : Fin cfg0.N) (b k : Fin 1024) (h : t.val / 6 * 1024 + b.val < 4096) (hk : t.val % 6 * 1024 + k.val < 6144) :
    (iblk m c 1 t (ix2 b k) : EReal)
      = (m ((c : Thread nD τ).loc main_arg1) : S1x4096x6144.Idx → EReal) (ix3 0 ⟨t.val / 6 * 1024 + b.val, h⟩ ⟨t.val % 6 * 1024 + k.val, hk⟩) := by
  rw [← entry1 m c]
  blk_ext [iblk, idx t]

/-- The reference's result at an index. -/
theorem ref_at (d w) (a : Fin 16) (b : Fin 4096) : (REF d w (ix2 a b) : EReal)
    = ∑ k : Fin 6144, (d (ix2 a k) : EReal) * (w (ix3 0 b k) : EReal) := by
  rw [REF]
  pointwise [val_main_v3, val_main_v1]

/-- A point's partial product, at an index. -/
theorem part_at (x : Vec Ideal S16x1024 .f32) (w : Vec Ideal S1024x1024 .f32) (y : S16x1024.Idx) :
    (k0_pay1 (F := Ideal) x w y : EReal) = ∑ k : Fin 1024, (x (ix2 (y 0) k) : EReal) * (w (ix2 (y 1) k) : EReal) := by
  pointwise [k0_pay1]

/-- What a run keeps as it goes: the scratch, and at the run's last point the output block. -/
def kept (c : Dev nD) (n : ℕ) (h : n < cfg0.N) : S16x1024.Idx → EReal :=
  if n % 6 = 5 then (outsAt0 m c n h).1 else (outsAt0 m c n h).2

/-- The first point of a run keeps its partial product. -/
theorem kept_first (c : Dev nD) (t : Fin cfg0.N) (h : t.val % 6 = 0) (y : S16x1024.Idx) :
    kept m c t.val t.isLt y = 0 + (k0_pay1 (F := Ideal) (iblk m c 0 t) (iblk m c 1 t) y : EReal) := by
  rw [kept, if_neg (by omega), outsAt0_A m c t h (by omega) (by omega), zero_add]
  frame_out
  pointwise [k0_pay2]

/-- Every other point adds its partial product. -/
theorem kept_next (c : Dev nD) (t : Fin cfg0.N) (h : ¬t.val % 6 = 0) (y : S16x1024.Idx) :
    kept m c t.val t.isLt y = kept m c (t.val - 1) (Nat.lt_of_le_of_lt (Nat.sub_le _ _) t.isLt) y
      + (k0_pay1 (F := Ideal) (iblk m c 0 t) (iblk m c 1 t) y : EReal) := by
  rw [kept, kept, if_neg (show ¬(t.val - 1) % 6 = 5 by omega)]
  by_cases h3 : t.val % 6 = 5
  · rw [if_pos h3, outsAt0_C m c t h (by omega) h3]
    frame_out
    pointwise [k0_pay4]
    exact congrArg (· + (k0_pay1 (F := Ideal) (iblk m c 0 t) (iblk m c 1 t) y : EReal)) (congrFun (read_unread_whole (Val := Elt Ideal) cc0_scratch0 _ (outsAt0 m c (t.val - 1) _).2) y)
  · rw [if_neg h3, outsAt0_B m c t h (by omega) h3]
    frame_out
    pointwise [k0_pay3]
    exact congrArg (· + (k0_pay1 (F := Ideal) (iblk m c 0 t) (iblk m c 1 t) y : EReal)) (congrFun (read_unread_whole (Val := Elt Ideal) cc0_scratch0 _ (outsAt0 m c (t.val - 1) _).2) y)

/-- The array the product leaves. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have hf3 : t.val % 6 = 5 := (flush0_2 t).mp hf
  have hy0 : (y 0).val < 16 := (y 0).isLt
  have hy1 : (y 1).val < 1024 := (y 1).isLt
  have ht : t.val < 24 := lt_of_lt_of_eq t.isLt N_0
  rw [after0_2]
  have e : ((cfg0.win 2).blk t).view.emb y = (ix2 (⟨(y 0).val, by omega⟩ : Fin 16) ⟨t.val / 6 * 1024 + (y 1).val, by omega⟩ : S16x4096.Idx) := by
    blk_ext [idx t]
  have ek : ∀ y, ((outsAt0 m c t.val t.isLt).1 y : EReal) = kept m c t.val t.isLt y := by
    intro y; rw [kept, if_pos hf3]
  rw [e]
  refine (ek _).trans (Eq.trans ?_ (ref_at _ _ _ _).symm)
  rw [Pipeline.eq_sum_fin_of_reset_step_apply_of_flush (fun n h => kept m c n h) 6 (fun _ => 0)
    (fun t y => (k0_pay1 (F := Ideal) (iblk m c 0 t) (iblk m c 1 t) y : EReal))
    (kept_first m c) (kept_next m c) t hf3 _, zero_add]
  simp only [part_at]
  refine Fin.sum_mul_add_congr fun s k hl => ?_
  have hs := s.isLt
  have hp := Pipeline.run_point_lt_of_flush t hf3 s
  refine congrArg₂ (fun a b : EReal => a * b) ((blk0 m c ⟨_, hp⟩ (y 0) k (by dsimp only; omega)).trans ?_)
    ((blk1 m c ⟨_, hp⟩ (y 1) k (by dsimp only; omega) (by dsimp only; omega)).trans ?_)
  · refine congrArg _ (congrArg₂ ix2 (Fin.ext ?_) (Fin.ext ?_)) <;> dsimp only <;> omega
  · refine congrArg _ (congrArg₂ (ix3 _) (Fin.ext ?_) (Fin.ext ?_)) <;> dsimp only <;> omega

end Cert.ModBwdCIdeal.Final
end
-- ==== Proof.Norm.lean ====
/-
  The layer norm of one row of 4096 numbers and its gradient, in the form in which both the kernels and the references
  leave them.
-/
module

public import proofs.«01_k».proof.Proof.Literals

@[expose] public section

noncomputable section

open Idealize.ShloMosaic

namespace Cert.Norm

/-- A row. -/
abbrev ROW := Fin 4096 → EReal

/-- The literals: the length of a row, the epsilon, minus a half, and two. -/
abbrev N : EReal := Ideal.ofBits FTy.f32 0x45800000#32
abbrev EPS : EReal := Ideal.ofBits FTy.f32 0x3727C5AC#32
abbrev HALF : EReal := Ideal.ofBits FTy.f32 0xBF000000#32
abbrev TWO : EReal := Ideal.ofBits FTy.f32 0x40000000#32

/-- The row less its mean. -/
def cen (z : ROW) (j : Fin 4096) : EReal := z j - Ideal.div (∑ k, z k) N

/-- The variance, with the epsilon. -/
def var (z : ROW) : EReal := Ideal.div (∑ k, cen z k * cen z k) N + EPS

/-- One over the deviation. -/
def inv (z : ROW) : EReal := Ideal.rsqrt (var z)

/-- The normalised row. -/
def nrm (z : ROW) (j : Fin 4096) : EReal := cen z j * inv z

/-- The derivative of one over the deviation by the variance. -/
def slope (z : ROW) : EReal := HALF * Ideal.div (inv z) (var z)

/-- What reaches the square's mean from the cotangent `d` of the normalised row. -/
def spread (z d : ROW) : EReal := Ideal.div ((∑ k, cen z k * d k) * slope z) N

/-- The gradient by the centred row. -/
def part (z d : ROW) (j : Fin 4096) : EReal := d j * inv z + spread z d * (TWO * cen z j)

/-- The gradient by the row. -/
def back (z d : ROW) (j : Fin 4096) : EReal := part z d j + Ideal.div (∑ k, -part z d k) N

/-- A kernel adds the square's two factors one by one. -/
theorem part_eq (z d : ROW) (j : Fin 4096) :
    d j * inv z + cen z j * spread z d + spread z d * cen z j = part z d j := by
  rw [part, add_assoc, mul_comm (cen z j) (spread z d), Literals.add_self, TWO, Literals.two, mul_left_comm]

/-- The gradient by the row, as a kernel adds it. -/
theorem back_eq (z d : ROW) (j : Fin 4096) :
    d j * inv z + cen z j * spread z d + spread z d * cen z j
      + Ideal.div (∑ k, (0 - (d k * inv z + cen z k * spread z d + spread z d * cen z k))) N = back z d j := by
  simp only [part_eq, zero_sub, back]

end Cert.Norm

end
-- ==== Proof.GradX.lean ====
/-
  The gradient that reaches the input rows, through the layer norm before the modulation, and the gradients of the
  norm's scale and offset and of the modulation's scale and shift, summed over blocks of 128 rows.
-/
module

public import proofs.«01_k».proof.Proof.Gen.GradXIdeal.Value
public import proofs.«01_k».proof.Proof.Gen.GradXRefIdeal.Run
public import proofs.«01_k».proof.Proof.Gen.GradXRefIdeal.Read
public import Idealize.ShloMosaic.Lib.Pipeline.ValueKit
public import proofs.«01_k».proof.Proof.Norm
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradXIdeal.Final

open Cert.GradXIdeal Cert.GradXIdeal.Gen

variable (m : (ℓ : Loc nD τ sig) → Buf (Elt Ideal) ℓ) (ρ : Dev nD → PrngReg)

open Cert.GradXRefIdeal.Read

open Cert.Norm (ROW cen var inv nrm slope spread part back)

/-- The cotangent of the normalised and scaled row: what reaches it past the modulation, and through the modulation. -/
def cot (d e s : ROW) (j : Fin 4096) : EReal := d j + e j * ((1 : EReal) + s j)

/-- The cotangent of the row. -/
def dx (z d e g s : ROW) (j : Fin 4096) : EReal := back z (fun k => cot d e s k * g k) j

/-- The windows' block indices at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![0, 0] ∧ win0_9.index t = ![0, 0] ∧ win0_10.index t = ![0, 0] ∧ win0_11.index t = ![0, 0] :=
  (by decide +kernel : ∀ t : Fin grid0.N, _)

/-- The arrays that the host part reshapes. -/
theorem entry0 (c : Dev nD) (a b : Fin 4096) : (V m c main_v0 (ix2 a b) : EReal)
    = (m ((c : Thread nD τ).loc main_arg0) : S1x4096x4096.Idx → EReal) (ix3 0 a b) := by
  entry_read
  pointwise
theorem entry3 (c : Dev nD) (b : Fin 4096) : (V m c main_v1 (ix2 0 b) : EReal)
    = (m ((c : Thread nD τ).loc main_arg3) : S4096.Idx → EReal) (ix1 b) := by
  entry_read
  pointwise
theorem entry4 (c : Dev nD) (b : Fin 4096) : (V m c main_v2 (ix2 0 b) : EReal)
    = (m ((c : Thread nD τ).loc main_arg4) : S4096.Idx → EReal) (ix1 b) := by
  entry_read
  pointwise

/-- The inputs' rows at a point. -/
theorem row0 (c : Dev nD) (t : Fin cfg0.N) (a : Fin 128) (h : t.val * 128 + a.val < 4096) : (fun k : Fin 4096 => (iblk m c 0 t (ix2 a k) : EReal))
    = fun k => (m ((c : Thread nD τ).loc main_arg0) : S1x4096x4096.Idx → EReal) (ix3 0 ⟨t.val * 128 + a.val, h⟩ k) := by
  funext k
  rw [← entry0 m c]
  blk_ext [iblk, idx t]
theorem row1 (c : Dev nD) (t : Fin cfg0.N) (a : Fin 128) (h : t.val * 128 + a.val < 4352) : (fun k : Fin 4096 => (iblk m c 1 t (ix2 a k) : EReal))
    = fun k => (m ((c : Thread nD τ).loc main_arg1) : S4352x4096.Idx → EReal) (ix2 ⟨t.val * 128 + a.val, h⟩ k) := by
  funext k
  rw [← V_main_arg1 m c]
  blk_ext [iblk, idx t]
theorem row2 (c : Dev nD) (t : Fin cfg0.N) (a : Fin 128) (h : t.val * 128 + a.val < 4096) : (fun k : Fin 4096 => (iblk m c 2 t (ix2 a k) : EReal))
    = fun k => (m ((c : Thread nD τ).loc main_arg2) : S4096x4096.Idx → EReal) (ix2 ⟨t.val * 128 + a.val, h⟩ k) := by
  funext k
  rw [← V_main_arg2 m c]
  blk_ext [iblk, idx t]
theorem row3 (c : Dev nD) (t : Fin cfg0.N) : (fun k : Fin 4096 => (iblk m c 3 t (ix2 0 k) : EReal))
    = fun k => (m ((c : Thread nD τ).loc main_arg3) : S4096.Idx → EReal) (ix1 k) := by
  funext k
  rw [← entry3 m c]
  blk_ext [iblk, idx t]
theorem row4 (c : Dev nD) (t : Fin cfg0.N) : (fun k : Fin 4096 => (iblk m c 4 t (ix2 0 k) : EReal))
    = fun k => (m ((c : Thread nD τ).loc main_arg4) : S4096.Idx → EReal) (ix1 k) := by
  funext k
  rw [← entry4 m c]
  blk_ext [iblk, idx t]
theorem row6 (c : Dev nD) (t : Fin cfg0.N) : (fun k : Fin 4096 => (iblk m c 6 t (ix2 0 k) : EReal))
    = fun k => (m ((c : Thread nD τ).loc main_arg6) : S1x4096.Idx → EReal) (ix2 0 k) := by
  funext k
  rw [← V_main_arg6 m c]
  blk_ext [iblk, idx t]

/-- The kernel's norm of a block's row, at an index. -/
theorem pay6_at (x : Vec Ideal S128x4096 .f32) (a : Fin 128) (b : Fin 4096) :
    (k0_pay6 (F := Ideal) x (ix2 a b) : EReal) = cen (fun k => x (ix2 a k)) b := by
  pointwise [k0_pay6]
  try rfl
theorem pay7_at (x : Vec Ideal S128x4096 .f32) (a : Fin 128) :
    (k0_pay7 (F := Ideal) x (ix2 a 0) : EReal) = var (fun k => x (ix2 a k)) := by
  pointwise [k0_pay7]
  simp only [pay6_at]
  rfl
theorem pay8_at (x : Vec Ideal S128x4096 .f32) (a : Fin 128) :
    (k0_pay8 (F := Ideal) x (ix2 a 0) : EReal) = inv (fun k => x (ix2 a k)) := by
  pointwise [k0_pay8]
  rw [pay7_at]
  rfl
theorem pay9_at (x : Vec Ideal S128x4096 .f32) (a : Fin 128) :
    (k0_pay9 (F := Ideal) x (ix2 a 0) : EReal) = slope (fun k => x (ix2 a k)) := by
  pointwise [k0_pay9]
  rw [pay7_at, pay8_at]
  rfl
theorem pay10_at (x : Vec Ideal S128x4096 .f32) (a : Fin 128) (b : Fin 4096) :
    (k0_pay10 (F := Ideal) x (ix2 a b) : EReal) = nrm (fun k => x (ix2 a k)) b := by
  pointwise [k0_pay10]
  rw [pay6_at, pay8_at]
  rfl

/-- The kernel's cotangent of the normalised and scaled row. -/
theorem pay16_at (d e : Vec Ideal S128x4096 .f32) (s : Vec Ideal S1x4096 .f32) (a : Fin 128) (b : Fin 4096) :
    (k0_pay16 (F := Ideal) d (k0_pay11 s) (k0_pay12 e) (ix2 a b) : EReal)
      = cot (fun k => d (ix2 a k)) (fun k => e (ix2 a k)) (fun k => s (ix2 0 k)) b := by
  pointwise [k0_pay16, k0_pay11, k0_pay12]
  try rfl
theorem pay17_at (d e : Vec Ideal S128x4096 .f32) (s : Vec Ideal S1x4096 .f32) (a : Fin 128) (b : Fin 4096) :
    (k0_pay17 (F := Ideal) d (k0_pay11 s) (k0_pay12 e) (ix2 a b) : EReal)
      = cot (fun k => d (ix2 a k)) (fun k => e (ix2 a k)) (fun k => s (ix2 0 k)) b := by
  refine Eq.trans ?_ (pay16_at d e s a b)
  pointwise [k0_pay17]

/-- The kernel's cotangent of the row. -/
theorem pay20_at (x d e : Vec Ideal S128x4096 .f32) (g s : Vec Ideal S1x4096 .f32) (a : Fin 128) (b : Fin 4096) :
    (k0_pay20 (F := Ideal) d (k0_pay5 g) (k0_pay6 x) (k0_pay8 x) (k0_pay9 x) (k0_pay11 s) (k0_pay12 e) (ix2 a b) : EReal)
      = dx (fun k => x (ix2 a k)) (fun k => d (ix2 a k)) (fun k => e (ix2 a k)) (fun k => g (ix2 0 k)) (fun k => s (ix2 0 k)) b := by
  rw [dx, ← Cert.Norm.back_eq]
  have h5 : ∀ k : Fin 4096, (k0_pay5 (F := Ideal) g (ix2 0 k) : EReal) = g (ix2 0 k) := fun k => by pointwise [k0_pay5]
  pointwise [k0_pay20]
  simp only [Fin.sum_univ_one, pay6_at, pay8_at, pay9_at, pay17_at, h5, Ideal.ofBits_zero_f32, spread]

/-- The kernel's rows that are summed over a block: the scale's gradient, the offset's, the modulation's. -/
theorem pay19_at (x d e : Vec Ideal S128x4096 .f32) (s : Vec Ideal S1x4096 .f32) (b : Fin 4096) :
    (k0_pay19 (F := Ideal) d (k0_pay10 x) (k0_pay11 s) (k0_pay12 e) (ix2 0 b) : EReal)
      = ∑ a : Fin 128, nrm (fun k => x (ix2 a k)) b * cot (fun k => d (ix2 a k)) (fun k => e (ix2 a k)) (fun k => s (ix2 0 k)) b := by
  pointwise [k0_pay19]
  simp only [pay10_at, pay17_at]
theorem pay18_at (d e : Vec Ideal S128x4096 .f32) (s : Vec Ideal S1x4096 .f32) (b : Fin 4096) :
    (k0_pay18 (F := Ideal) d (k0_pay11 s) (k0_pay12 e) (ix2 0 b) : EReal)
      = ∑ a : Fin 128, cot (fun k => d (ix2 a k)) (fun k => e (ix2 a k)) (fun k => s (ix2 0 k)) b := by
  pointwise [k0_pay18]
  simp only [pay16_at]
theorem pay13_at (e : Vec Ideal S128x4096 .f32) (b : Fin 4096) :
    (k0_pay13 (F := Ideal) e (ix2 0 b) : EReal) = ∑ a : Fin 128, (e (ix2 a b) : EReal) := by
  pointwise [k0_pay13]
theorem pay15_at (x e : Vec Ideal S128x4096 .f32) (g o : Vec Ideal S1x4096 .f32) (b : Fin 4096) :
    (k0_pay15 (F := Ideal) (k0_pay14 x e g o) (ix2 0 b) : EReal)
      = ∑ a : Fin 128, (nrm (fun k => x (ix2 a k)) b * (g (ix2 0 b) : EReal) + (o (ix2 0 b) : EReal)) * (e (ix2 a b) : EReal) := by
  pointwise [k0_pay15, k0_pay14, k0_pay12, k0_pay5]
  simp only [pay10_at]

/-- The reference's norm at an index. -/
theorem ref6 (x : FVec Ideal S1x4096x4096 .f32) (i j : Fin 4096) :
    (val_main_v6 (F := Ideal) x (ix2 i j) : EReal) = cen (fun k => x (ix3 0 i k)) j := by
  pointwise [val_main_v6, val_main_v5, val_main_v4, val_main_v3, val_main_v2, val_main_v1, val_main_v0, val_main_cst, val_main_cst_0]
  try rfl
theorem ref9 (x : FVec Ideal S1x4096x4096 .f32) (i j : Fin 4096) :
    (val_main_v9 (F := Ideal) x (ix2 i j) : EReal) = Cert.Norm.TWO * cen (fun k => x (ix3 0 i k)) j := by
  pointwise [val_main_v9, val_main_v8, val_main_cst_1]
  rw [ref6]
theorem ref15 (x : FVec Ideal S1x4096x4096 .f32) (i : Fin 4096) :
    (val_main_v15 (F := Ideal) x (ix2 i 0) : EReal) = var (fun k => x (ix3 0 i k)) := by
  pointwise [val_main_v15, val_main_v14, val_main_v13, val_main_v12, val_main_v11, val_main_v10, val_main_v7, val_main_cst_2, val_main_cst_3, val_main_cst_4]
  simp only [ref6]
  rfl
theorem ref16 (x : FVec Ideal S1x4096x4096 .f32) (i : Fin 4096) :
    (val_main_v16 (F := Ideal) x (ix2 i 0) : EReal) = inv (fun k => x (ix3 0 i k)) := by
  pointwise [val_main_v16]
  rw [ref15]
  rfl
theorem ref19 (x : FVec Ideal S1x4096x4096 .f32) (i : Fin 4096) :
    (val_main_v19 (F := Ideal) x (ix2 i 0) : EReal) = slope (fun k => x (ix3 0 i k)) := by
  pointwise [val_main_v19, val_main_v18, val_main_v17, val_main_cst_5]
  rw [ref15, ref16]
  rfl
theorem ref21 (x : FVec Ideal S1x4096x4096 .f32) (i j : Fin 4096) :
    (val_main_v21 (F := Ideal) x (ix2 i j) : EReal) = nrm (fun k => x (ix3 0 i k)) j := by
  pointwise [val_main_v21, val_main_v20]
  rw [ref6, ref16]
  rfl

/-- The rows of the reference's arguments. -/
abbrev lat (e : FVec Ideal S4352x4096 .f32) (i : Fin 4096) : ROW := fun k => e (ix2 (⟨i.val, by omega⟩ : Fin 4352) k)

/-- The reference's cotangents at an index. -/
theorem ref43 (e : FVec Ideal S4352x4096 .f32) (d : FVec Ideal S4096x4096 .f32) (s : FVec Ideal S1x4096 .f32) (i j : Fin 4096) :
    (val_main_v43 (F := Ideal) e d s (ix2 i j) : EReal) = cot (fun k => d (ix2 i k)) (lat e i) (fun k => s (ix2 0 k)) j := by
  pointwise [val_main_v43, val_main_v42, val_main_v41, val_main_v40, val_main_v34, val_main_v29, val_main_v28, val_main_cst_6]
  try rfl
theorem ref42 (e : FVec Ideal S4352x4096 .f32) (d : FVec Ideal S4096x4096 .f32) (s : FVec Ideal S1x4096 .f32) (i j : Fin 4096) :
    (val_main_v42 (F := Ideal) e d s (ix2 i j) : EReal) = cot (fun k => d (ix2 i k)) (lat e i) (fun k => s (ix2 0 k)) j := by
  pointwise [val_main_v42, val_main_v41, val_main_v40, val_main_v34, val_main_v29, val_main_v28, val_main_cst_6]
  try rfl
theorem ref51 (e : FVec Ideal S4352x4096 .f32) (d : FVec Ideal S4096x4096 .f32) (g : FVec Ideal S4096 .f32) (s : FVec Ideal S1x4096 .f32) (i j : Fin 4096) :
    (val_main_v51 (F := Ideal) e d g s (ix2 i j) : EReal) = cot (fun k => d (ix2 i k)) (lat e i) (fun k => s (ix2 0 k)) j * (g (ix1 j) : EReal) := by
  pointwise [val_main_v51, val_main_v50, val_main_v22]
  rw [ref43]
theorem ref64 (x : FVec Ideal S1x4096x4096 .f32) (e : FVec Ideal S4352x4096 .f32) (d : FVec Ideal S4096x4096 .f32) (g : FVec Ideal S4096 .f32) (s : FVec Ideal S1x4096 .f32) (i j : Fin 4096) :
    (val_main_v64 (F := Ideal) x e d g s (ix2 i j) : EReal)
      = part (fun k => x (ix3 0 i k)) (fun k => cot (fun k => d (ix2 i k)) (lat e i) (fun k => s (ix2 0 k)) k * g (ix1 k)) j := by
  pointwise [val_main_v64, val_main_v63, val_main_v62, val_main_v61, val_main_v60, val_main_v59, val_main_v58, val_main_v57, val_main_v56, val_main_v55,
    val_main_v54, val_main_v53, val_main_cst_13, val_main_cst_14, val_main_cst_15]
  simp only [Fin.sum_univ_one, ref6, ref9, ref16, ref19, ref51]
  rfl
theorem ref72 (x : FVec Ideal S1x4096x4096 .f32) (e : FVec Ideal S4352x4096 .f32) (d : FVec Ideal S4096x4096 .f32) (g : FVec Ideal S4096 .f32) (s : FVec Ideal S1x4096 .f32) (i j : Fin 4096) :
    (val_main_v72 (F := Ideal) x e d g s (ix2 i j) : EReal)
      = dx (fun k => x (ix3 0 i k)) (fun k => d (ix2 i k)) (lat e i) (fun k => g (ix1 k)) (fun k => s (ix2 0 k)) j := by
  pointwise [val_main_v72, val_main_v71, val_main_v70, val_main_v69, val_main_v68, val_main_v67, val_main_v66, val_main_v65,
    val_main_cst_16, val_main_cst_17, val_main_cst_18]
  simp only [Fin.sum_univ_one, ref64]
  rfl

/-- The reference's sums over the rows. -/
theorem ref73 (x : FVec Ideal S1x4096x4096 .f32) (e : FVec Ideal S4352x4096 .f32) (d : FVec Ideal S4096x4096 .f32) (s : FVec Ideal S1x4096 .f32) (j : Fin 4096) :
    (val_main_v73 (F := Ideal) x e d s (ix2 0 j) : EReal)
      = ∑ i : Fin 4096, nrm (fun k => x (ix3 0 i k)) j * cot (fun k => d (ix2 i k)) (lat e i) (fun k => s (ix2 0 k)) j := by
  pointwise [val_main_v73, val_main_v52, val_main_v49, val_main_v48, val_main_v47, val_main_cst_11, val_main_cst_12]
  simp only [Fin.sum_univ_one, ref21, ref43]
theorem ref74 (e : FVec Ideal S4352x4096 .f32) (d : FVec Ideal S4096x4096 .f32) (s : FVec Ideal S1x4096 .f32) (j : Fin 4096) :
    (val_main_v74 (F := Ideal) e d s (ix2 0 j) : EReal)
      = ∑ i : Fin 4096, cot (fun k => d (ix2 i k)) (lat e i) (fun k => s (ix2 0 k)) j := by
  pointwise [val_main_v74, val_main_v46, val_main_v45, val_main_v44, val_main_cst_9, val_main_cst_10]
  simp only [Fin.sum_univ_one, ref42]
theorem ref36 (e : FVec Ideal S4352x4096 .f32) (j : Fin 4096) :
    (val_main_v36 (F := Ideal) e (ix2 0 j) : EReal) = ∑ i : Fin 4096, lat e i j := by
  pointwise [val_main_v36, val_main_v35, val_main_v34, val_main_cst_7]
theorem ref39 (x : FVec Ideal S1x4096x4096 .f32) (e : FVec Ideal S4352x4096 .f32) (g o : FVec Ideal S4096 .f32) (j : Fin 4096) :
    (val_main_v39 (F := Ideal) x e g o (ix2 0 j) : EReal)
      = ∑ i : Fin 4096, (nrm (fun k => x (ix3 0 i k)) j * (g (ix1 j) : EReal) + (o (ix1 j) : EReal)) * lat e i j := by
  pointwise [val_main_v39, val_main_v38, val_main_v37, val_main_v27, val_main_v26, val_main_v25, val_main_v24, val_main_v23, val_main_v22, val_main_v34, val_main_cst_8]
  simp only [ref21]

/-- The array of the rows' cotangent. -/
theorem final7 (c : Dev nD) : (dats m 0 c).arrAt 7 (cfgs 0).N = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 7 _ (by decide +kernel) fun t _ y => ?_
  have ht : t.val < 32 := lt_of_lt_of_eq t.isLt N_0
  obtain ⟨a, b, rfl⟩ : ∃ (a : Fin 128) (b : Fin 4096), y = (ix2 a b : S128x4096.Idx) := ⟨y 0, y 1, by blk_ext⟩
  have ha := a.isLt
  have e : ((cfg0.win 7).blk t).view.emb (ix2 a b : S128x4096.Idx) = (ix2 (⟨t.val * 128 + a.val, by omega⟩ : Fin 4096) b : S4096x4096.Idx) := by
    blk_ext [idx t]
  blk_simp
  rw [after0_7, e, ref72, ← row0 m c t a (by omega), ← row2 m c t a (by omega), ← row3 m c t, ← row6 m c t]
  show _ = dx _ _ (fun k => _) _ _ _
  rw [← row1 m c t a (by omega), ← pay20_at]
  by_cases h : t.val % 32 = 0
  · rw [outsAt0_A m c t h (by omega) h (by omega) h (by omega) h (by omega)]; frame_out
  · rw [outsAt0_B m c t h (by omega) h (by omega) h (by omega) h (by omega)]; frame_out

/-- The array of the scale's gradient. -/
theorem final8 (c : Dev nD) : (dats m 0 c).arrAt 8 (cfgs 0).N = val_main_v73 (F := Ideal) (m ((c : Thread nD τ).loc main_arg0)) (m ((c : Thread nD τ).loc main_arg1)) (m ((c : Thread nD τ).loc main_arg2)) (m ((c : Thread nD τ).loc main_arg6)) := by
  refine (dats m 0 c).arrAt_eq_of_covers 8 _ (by decide +kernel) fun t hf y => ?_
  obtain ⟨b, rfl⟩ : ∃ (b : Fin 4096), y = (ix2 0 b : S1x4096.Idx) := ⟨y 1, by blk_ext⟩
  have e : ((cfg0.win 8).blk t).view.emb (ix2 0 b : S1x4096.Idx) = (ix2 0 b : S1x4096.Idx) := by
    blk_ext [idx t]
  blk_simp
  have hf3 : t.val % 32 = 31 := (flush0_8 t).mp hf
  have ht : t.val < 32 := lt_of_lt_of_eq t.isLt N_0
  rw [after0_8, e, Pipeline.eq_sum_fin_of_reset_step_apply_of_flush (fun n h => ((outsAt0 m c n h).2.1 : S1x4096.Idx → EReal)) 32 (fun _ => 0)
    (fun t y => (k0_pay19 (F := Ideal) (iblk m c 2 t) (k0_pay10 (iblk m c 0 t)) (k0_pay11 (iblk m c 6 t)) (k0_pay12 (iblk m c 1 t)) y : EReal))
    (fun t h j => by rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega), zero_add]; frame_out)
    (fun t h j => by rw [outsAt0_B m c t h (by omega) h (by omega) h (by omega) h (by omega)]; frame_out; pointwise [k0_pay1]) t hf3 _, zero_add, ref73]
  simp only [pay19_at]
  refine Fin.sum_mul_add_congr fun q a hl => ?_
  have hq := q.isLt
  have hp := Pipeline.run_point_lt_of_flush t hf3 q
  have eq : (⟨q.val * 128 + a.val, hl⟩ : Fin 4096) = ⟨(32 * (t.val / 32) + q.val) * 128 + a.val, by omega⟩ := Fin.ext (by show q.val * 128 + a.val = (32 * (t.val / 32) + q.val) * 128 + a.val; omega)
  rw [eq]
  have r0 := row0 m c ⟨_, hp⟩ a (by dsimp only; omega)
  have r2 := row2 m c ⟨_, hp⟩ a (by dsimp only; omega)
  have r1 := row1 m c ⟨_, hp⟩ a (by dsimp only; omega)
  have r6 := row6 m c ⟨_, hp⟩
  rw [r0, r2, r1, r6]

/-- The array of the offset's gradient. -/
theorem final9 (c : Dev nD) : (dats m 0 c).arrAt 9 (cfgs 0).N = val_main_v74 (F := Ideal) (m ((c : Thread nD τ).loc main_arg1)) (m ((c : Thread nD τ).loc main_arg2)) (m ((c : Thread nD τ).loc main_arg6)) := by
  refine (dats m 0 c).arrAt_eq_of_covers 9 _ (by decide +kernel) fun t hf y => ?_
  obtain ⟨b, rfl⟩ : ∃ (b : Fin 4096), y = (ix2 0 b : S1x4096.Idx) := ⟨y 1, by blk_ext⟩
  have e : ((cfg0.win 9).blk t).view.emb (ix2 0 b : S1x4096.Idx) = (ix2 0 b : S1x4096.Idx) := by
    blk_ext [idx t]
  blk_simp
  have hf3 : t.val % 32 = 31 := (flush0_9 t).mp hf
  have ht : t.val < 32 := lt_of_lt_of_eq t.isLt N_0
  rw [after0_9, e, Pipeline.eq_sum_fin_of_reset_step_apply_of_flush (fun n h => ((outsAt0 m c n h).2.2.1 : S1x4096.Idx → EReal)) 32 (fun _ => 0)
    (fun t y => (k0_pay18 (F := Ideal) (iblk m c 2 t) (k0_pay11 (iblk m c 6 t)) (k0_pay12 (iblk m c 1 t)) y : EReal))
    (fun t h j => by rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega), zero_add]; frame_out)
    (fun t h j => by rw [outsAt0_B m c t h (by omega) h (by omega) h (by omega) h (by omega)]; frame_out; pointwise [k0_pay2]) t hf3 _, zero_add, ref74]
  simp only [pay18_at]
  refine Fin.sum_mul_add_congr fun q a hl => ?_
  have hq := q.isLt
  have hp := Pipeline.run_point_lt_of_flush t hf3 q
  have eq : (⟨q.val * 128 + a.val, hl⟩ : Fin 4096) = ⟨(32 * (t.val / 32) + q.val) * 128 + a.val, by omega⟩ := Fin.ext (by show q.val * 128 + a.val = (32 * (t.val / 32) + q.val) * 128 + a.val; omega)
  rw [eq]
  have r2 := row2 m c ⟨_, hp⟩ a (by dsimp only; omega)
  have r1 := row1 m c ⟨_, hp⟩ a (by dsimp only; omega)
  have r6 := row6 m c ⟨_, hp⟩
  rw [r2, r1, r6]

/-- The array of the shift's gradient. -/
theorem final10 (c : Dev nD) : (dats m 0 c).arrAt 10 (cfgs 0).N = val_main_v36 (F := Ideal) (m ((c : Thread nD τ).loc main_arg1)) := by
  refine (dats m 0 c).arrAt_eq_of_covers 10 _ (by decide +kernel) fun t hf y => ?_
  obtain ⟨b, rfl⟩ : ∃ (b : Fin 4096), y = (ix2 0 b : S1x4096.Idx) := ⟨y 1, by blk_ext⟩
  have e : ((cfg0.win 10).blk t).view.emb (ix2 0 b : S1x4096.Idx) = (ix2 0 b : S1x4096.Idx) := by
    blk_ext [idx t]
  blk_simp
  have hf3 : t.val % 32 = 31 := (flush0_10 t).mp hf
  have ht : t.val < 32 := lt_of_lt_of_eq t.isLt N_0
  rw [after0_10, e, Pipeline.eq_sum_fin_of_reset_step_apply_of_flush (fun n h => ((outsAt0 m c n h).2.2.2.1 : S1x4096.Idx → EReal)) 32 (fun _ => 0)
    (fun t y => (k0_pay13 (F := Ideal) (iblk m c 1 t) y : EReal))
    (fun t h j => by rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega), zero_add]; frame_out)
    (fun t h j => by rw [outsAt0_B m c t h (by omega) h (by omega) h (by omega) h (by omega)]; frame_out; pointwise [k0_pay3]) t hf3 _, zero_add, ref36]
  simp only [pay13_at]
  refine Fin.sum_mul_add_congr fun q a hl => ?_
  have hq := q.isLt
  have hp := Pipeline.run_point_lt_of_flush t hf3 q
  have eq : (⟨q.val * 128 + a.val, hl⟩ : Fin 4096) = ⟨(32 * (t.val / 32) + q.val) * 128 + a.val, by omega⟩ := Fin.ext (by show q.val * 128 + a.val = (32 * (t.val / 32) + q.val) * 128 + a.val; omega)
  rw [eq]
  have r1 := row1 m c ⟨_, hp⟩ a (by dsimp only; omega)
  exact congrFun r1 b

/-- The array of the modulation scale's gradient. -/
theorem final11 (c : Dev nD) : (dats m 0 c).arrAt 11 (cfgs 0).N = val_main_v39 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 11 _ (by decide +kernel) fun t hf y => ?_
  obtain ⟨b, rfl⟩ : ∃ (b : Fin 4096), y = (ix2 0 b : S1x4096.Idx) := ⟨y 1, by blk_ext⟩
  have e : ((cfg0.win 11).blk t).view.emb (ix2 0 b : S1x4096.Idx) = (ix2 0 b : S1x4096.Idx) := by
    blk_ext [idx t]
  blk_simp
  have hf3 : t.val % 32 = 31 := (flush0_11 t).mp hf
  have ht : t.val < 32 := lt_of_lt_of_eq t.isLt N_0
  rw [after0_11, e, Pipeline.eq_sum_fin_of_reset_step_apply_of_flush (fun n h => ((outsAt0 m c n h).2.2.2.2 : S1x4096.Idx → EReal)) 32 (fun _ => 0)
    (fun t y => (k0_pay15 (F := Ideal) (k0_pay14 (iblk m c 0 t) (iblk m c 1 t) (iblk m c 3 t) (iblk m c 4 t)) y : EReal))
    (fun t h j => by rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega), zero_add]; frame_out)
    (fun t h j => by rw [outsAt0_B m c t h (by omega) h (by omega) h (by omega) h (by omega)]; frame_out; pointwise [k0_pay4]) t hf3 _, zero_add, ref39]
  simp only [pay15_at]
  refine Fin.sum_mul_add_congr fun q a hl => ?_
  have hq := q.isLt
  have hp := Pipeline.run_point_lt_of_flush t hf3 q
  have eq : (⟨q.val * 128 + a.val, hl⟩ : Fin 4096) = ⟨(32 * (t.val / 32) + q.val) * 128 + a.val, by omega⟩ := Fin.ext (by show q.val * 128 + a.val = (32 * (t.val / 32) + q.val) * 128 + a.val; omega)
  rw [eq]
  have r0 := row0 m c ⟨_, hp⟩ a (by dsimp only; omega)
  have r1 := row1 m c ⟨_, hp⟩ a (by dsimp only; omega)
  have r3 := row3 m c ⟨_, hp⟩
  have r4 := row4 m c ⟨_, hp⟩
  rw [r0, congrFun r1 b, congrFun r3 b, congrFun r4 b]

end Cert.GradXIdeal.Final
end
-- ==== Proof.LossBwd.lean ====
/-
  The loss of the squared error after the second residual layer norm, summed over blocks of 128 rows, and its gradients: by
  the residual, by the branch, and by the gate and the norm's scale and offset.
-/
module

public import proofs.«01_k».proof.Proof.Gen.LossBwdIdeal.Value
public import proofs.«01_k».proof.Proof.Gen.LossBwdRefIdeal.Run
public import proofs.«01_k».proof.Proof.Gen.LossBwdRefIdeal.Read
public import Idealize.ShloMosaic.Lib.Pipeline.ValueKit
public import proofs.«01_k».proof.Proof.Norm
public import Idealize.ShloMosaic.Lib.IdealHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossBwdIdeal.Final

open Cert.LossBwdIdeal Cert.LossBwdIdeal.Gen

variable (m : (ℓ : Loc nD τ sig) → Buf (Elt Ideal) ℓ) (ρ : Dev nD → PrngReg)

open Cert.LossBwdRefIdeal.Read

open Cert.Norm (ROW cen var inv nrm slope spread part back)

/-- The residual branch's scale. -/
abbrev ALPHA : EReal := Ideal.ofBits FTy.f32 0x3F9837F0#32

/-- The row that is normalised: the residual and the gated branch. -/
def mix (x y u : ROW) (j : Fin 4096) : EReal := ALPHA * x j + u j * y j

/-- The normalised and scaled row less the target. -/
def err (z t g b : ROW) (j : Fin 4096) : EReal := nrm z j * g j + b j - t j

/-- The loss's gradient by the normalised and scaled row. -/
def cot (z t g b : ROW) (j : Fin 4096) : EReal := ((1 / 8192 : ℝ) : EReal) * (Cert.Norm.TWO * err z t g b j)

/-- The loss's gradient by the row that is normalised. -/
def dz (z t g b : ROW) (j : Fin 4096) : EReal := back z (fun k => cot z t g b k * g k) j

/-- The windows' block indices at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ win0_10.index t = ![0, 0] ∧ win0_11.index t = ![0, 0]
    ∧ win0_12.index t = ![0, 0] :=
  (by decide +kernel : ∀ t : Fin grid0.N, _)

/-- The target, reshaped by the host part. -/
theorem entry2 (c : Dev nD) (a b : Fin 4096) : (V m c main_v0 (ix2 a b) : EReal)
    = (m ((c : Thread nD τ).loc main_arg2) : S1x4096x4096.Idx → EReal) (ix3 0 a b) := by
  entry_read
  pointwise

/-- The inputs' rows at a point. -/
theorem row0 (c : Dev nD) (t : Fin cfg0.N) (a : Fin 128) (h : t.val * 128 + a.val < 4096) : (fun k : Fin 4096 => (iblk m c 0 t (ix2 a k) : EReal))
    = fun k => (m ((c : Thread nD τ).loc main_arg0) : S4096x4096.Idx → EReal) (ix2 ⟨t.val * 128 + a.val, h⟩ k) := by
  funext k
  rw [← V_main_arg0 m c]
  blk_ext [iblk, idx t]
theorem row1 (c : Dev nD) (t : Fin cfg0.N) (a : Fin 128) (h : t.val * 128 + a.val < 4096) : (fun k : Fin 4096 => (iblk m c 1 t (ix2 a k) : EReal))
    = fun k => (m ((c : Thread nD τ).loc main_arg1) : S4096x4096.Idx → EReal) (ix2 ⟨t.val * 128 + a.val, h⟩ k) := by
  funext k
  rw [← V_main_arg1 m c]
  blk_ext [iblk, idx t]
theorem row2 (c : Dev nD) (t : Fin cfg0.N) (a : Fin 128) (h : t.val * 128 + a.val < 4096) : (fun k : Fin 4096 => (iblk m c 2 t (ix2 a k) : EReal))
    = fun k => (m ((c : Thread nD τ).loc main_arg2) : S1x4096x4096.Idx → EReal) (ix3 0 ⟨t.val * 128 + a.val, h⟩ k) := by
  funext k
  rw [← entry2 m c]
  blk_ext [iblk, idx t]
theorem row3 (c : Dev nD) (t : Fin cfg0.N) : (fun k : Fin 4096 => (iblk m c 3 t (ix2 0 k) : EReal))
    = fun k => (m ((c : Thread nD τ).loc main_arg3) : S1x4096.Idx → EReal) (ix2 0 k) := by
  funext k
  rw [← V_main_arg3 m c]
  blk_ext [iblk, idx t]
theorem row4 (c : Dev nD) (t : Fin cfg0.N) : (fun k : Fin 4096 => (iblk m c 4 t (ix2 0 k) : EReal))
    = fun k => (m ((c : Thread nD τ).loc main_arg4) : S1x4096.Idx → EReal) (ix2 0 k) := by
  funext k
  rw [← V_main_arg4 m c]
  blk_ext [iblk, idx t]
theorem row5 (c : Dev nD) (t : Fin cfg0.N) : (fun k : Fin 4096 => (iblk m c 5 t (ix2 0 k) : EReal))
    = fun k => (m ((c : Thread nD τ).loc main_arg5) : S1x4096.Idx → EReal) (ix2 0 k) := by
  funext k
  rw [← V_main_arg5 m c]
  blk_ext [iblk, idx t]

/-- The kernel's norm of a block's row, at an index. -/
theorem pay2_at (x y : Vec Ideal S128x4096 .f32) (u : Vec Ideal S1x4096 .f32) (i : Fin 128) (j : Fin 4096) :
    (k0_pay2 (F := Ideal) x y u (ix2 i j) : EReal) = cen (mix (fun k => x (ix2 i k)) (fun k => y (ix2 i k)) (fun k => u (ix2 0 k))) j := by
  pointwise [k0_pay2]
  try rfl
theorem pay3_at (x y : Vec Ideal S128x4096 .f32) (u : Vec Ideal S1x4096 .f32) (i : Fin 128) :
    (k0_pay3 (F := Ideal) x y u (ix2 i 0) : EReal) = var (mix (fun k => x (ix2 i k)) (fun k => y (ix2 i k)) (fun k => u (ix2 0 k))) := by
  pointwise [k0_pay3]
  simp only [pay2_at]
  rfl
theorem pay4_at (x y : Vec Ideal S128x4096 .f32) (u : Vec Ideal S1x4096 .f32) (i : Fin 128) :
    (k0_pay4 (F := Ideal) x y u (ix2 i 0) : EReal) = inv (mix (fun k => x (ix2 i k)) (fun k => y (ix2 i k)) (fun k => u (ix2 0 k))) := by
  pointwise [k0_pay4]
  rw [pay3_at]
  rfl
theorem pay5_at (x y : Vec Ideal S128x4096 .f32) (u : Vec Ideal S1x4096 .f32) (i : Fin 128) :
    (k0_pay5 (F := Ideal) x y u (ix2 i 0) : EReal) = slope (mix (fun k => x (ix2 i k)) (fun k => y (ix2 i k)) (fun k => u (ix2 0 k))) := by
  pointwise [k0_pay5]
  rw [pay3_at, pay4_at]
  rfl
theorem pay6_at (x y : Vec Ideal S128x4096 .f32) (u : Vec Ideal S1x4096 .f32) (i : Fin 128) (j : Fin 4096) :
    (k0_pay6 (F := Ideal) x y u (ix2 i j) : EReal) = nrm (mix (fun k => x (ix2 i k)) (fun k => y (ix2 i k)) (fun k => u (ix2 0 k))) j := by
  pointwise [k0_pay6]
  rw [pay2_at, pay4_at]
  rfl
theorem pay7_at (x y : Vec Ideal S128x4096 .f32) (t : Vec Ideal S128x4096 .f32) (u g b : Vec Ideal S1x4096 .f32) (i : Fin 128) (j : Fin 4096) :
    (k0_pay7 (F := Ideal) x y t u g b (ix2 i j) : EReal) = err (mix (fun k => x (ix2 i k)) (fun k => y (ix2 i k)) (fun k => u (ix2 0 k))) (fun k => t (ix2 i k)) (fun k => g (ix2 0 k)) (fun k => b (ix2 0 k)) j := by
  pointwise [k0_pay7]
  rw [pay6_at]
  rfl
theorem pay11_at (x y : Vec Ideal S128x4096 .f32) (t : Vec Ideal S128x4096 .f32) (u g b : Vec Ideal S1x4096 .f32) (i : Fin 128) (j : Fin 4096) :
    (k0_pay11 (F := Ideal) (k0_pay9 x y t u g b) (ix2 i j) : EReal) = cot (mix (fun k => x (ix2 i k)) (fun k => y (ix2 i k)) (fun k => u (ix2 0 k))) (fun k => t (ix2 i k)) (fun k => g (ix2 0 k)) (fun k => b (ix2 0 k)) j := by
  pointwise [k0_pay11, k0_pay9]
  rw [pay7_at, Cert.Literals.half_4096th]
  try rw [mul_one]
  rfl
theorem pay14_at (x y : Vec Ideal S128x4096 .f32) (t : Vec Ideal S128x4096 .f32) (u g b : Vec Ideal S1x4096 .f32) (i : Fin 128) (j : Fin 4096) :
    (k0_pay14 (F := Ideal) g (k0_pay2 x y u) (k0_pay4 x y u) (k0_pay5 x y u) (k0_pay9 x y t u g b) (ix2 i j) : EReal) = dz (mix (fun k => x (ix2 i k)) (fun k => y (ix2 i k)) (fun k => u (ix2 0 k))) (fun k => t (ix2 i k)) (fun k => g (ix2 0 k)) (fun k => b (ix2 0 k)) j := by
  rw [dz, ← Cert.Norm.back_eq]
  pointwise [k0_pay14]
  simp only [Fin.sum_univ_one, pay2_at, pay4_at, pay5_at, pay11_at, Ideal.ofBits_zero_f32, spread]

/-- What the kernel stores of a block: the two branches' gradients. -/
theorem pay17_at (x y : Vec Ideal S128x4096 .f32) (t : Vec Ideal S128x4096 .f32) (u g b : Vec Ideal S1x4096 .f32) (i : Fin 128) (j : Fin 4096) :
    (k0_pay17 (F := Ideal) (k0_pay14 g (k0_pay2 x y u) (k0_pay4 x y u) (k0_pay5 x y u) (k0_pay9 x y t u g b)) (Scalar.ofBits .f32 0x3F9837F0#32) (ix2 i j) : EReal)
      = ALPHA * dz (mix (fun k => x (ix2 i k)) (fun k => y (ix2 i k)) (fun k => u (ix2 0 k))) (fun k => t (ix2 i k)) (fun k => g (ix2 0 k)) (fun k => b (ix2 0 k)) j := by
  pointwise [k0_pay17]
  rw [pay14_at]
theorem pay15_at (x y : Vec Ideal S128x4096 .f32) (t : Vec Ideal S128x4096 .f32) (u g b : Vec Ideal S1x4096 .f32) (i : Fin 128) (j : Fin 4096) :
    (k0_pay15 (F := Ideal) u g (k0_pay2 x y u) (k0_pay4 x y u) (k0_pay5 x y u) (k0_pay9 x y t u g b) (ix2 i j) : EReal)
      = (u (ix2 0 j) : EReal) * dz (mix (fun k => x (ix2 i k)) (fun k => y (ix2 i k)) (fun k => u (ix2 0 k))) (fun k => t (ix2 i k)) (fun k => g (ix2 0 k)) (fun k => b (ix2 0 k)) j := by
  pointwise [k0_pay15]
  rw [pay14_at]
theorem pay19_at (x y : Vec Ideal S128x4096 .f32) (t : Vec Ideal S128x4096 .f32) (u g b : Vec Ideal S1x4096 .f32) (i : Fin 128) (j : Fin 4096) :
    (k0_pay19 (F := Ideal) (k0_pay15 u g (k0_pay2 x y u) (k0_pay4 x y u) (k0_pay5 x y u) (k0_pay9 x y t u g b)) (ix2 i j) : EReal)
      = (u (ix2 0 j) : EReal) * dz (mix (fun k => x (ix2 i k)) (fun k => y (ix2 i k)) (fun k => u (ix2 0 k))) (fun k => t (ix2 i k)) (fun k => g (ix2 0 k)) (fun k => b (ix2 0 k)) j := by
  rw [← pay15_at]
  pointwise [k0_pay19]

/-- The kernel's sums over a block: the loss, and the gradients of the gate, the norm's scale and offset and the branch. -/
theorem pay20_at (x y : Vec Ideal S128x4096 .f32) (t : Vec Ideal S128x4096 .f32) (u g b : Vec Ideal S1x4096 .f32) (j : Fin 128) :
    (k0_pay20 (F := Ideal) (k0_pay10 (k0_pay8 x y t u g b)) (ix2 0 j) : EReal)
      = ((1 / 8192 : ℝ) : EReal) * ∑ i : Fin 128, ∑ k : Fin 4096, err (mix (fun k => x (ix2 i k)) (fun k => y (ix2 i k)) (fun k => u (ix2 0 k))) (fun k => t (ix2 i k)) (fun k => g (ix2 0 k)) (fun k => b (ix2 0 k)) k * err (mix (fun k => x (ix2 i k)) (fun k => y (ix2 i k)) (fun k => u (ix2 0 k))) (fun k => t (ix2 i k)) (fun k => g (ix2 0 k)) (fun k => b (ix2 0 k)) k := by
  pointwise [k0_pay20, k0_pay10, k0_pay8]
  simp only [pay7_at, Cert.Literals.half_4096th]
theorem pay16_at (x y : Vec Ideal S128x4096 .f32) (t : Vec Ideal S128x4096 .f32) (u g b : Vec Ideal S1x4096 .f32) (j : Fin 4096) :
    (k0_pay16 (F := Ideal) y g (k0_pay2 x y u) (k0_pay4 x y u) (k0_pay5 x y u) (k0_pay9 x y t u g b) (ix2 0 j) : EReal)
      = ∑ i : Fin 128, dz (mix (fun k => x (ix2 i k)) (fun k => y (ix2 i k)) (fun k => u (ix2 0 k))) (fun k => t (ix2 i k)) (fun k => g (ix2 0 k)) (fun k => b (ix2 0 k)) j * (y (ix2 i j) : EReal) := by
  pointwise [k0_pay16]
  simp only [pay14_at]
theorem pay13_at (x y : Vec Ideal S128x4096 .f32) (t : Vec Ideal S128x4096 .f32) (u g b : Vec Ideal S1x4096 .f32) (j : Fin 4096) :
    (k0_pay13 (F := Ideal) (k0_pay6 x y u) (k0_pay9 x y t u g b) (ix2 0 j) : EReal)
      = ∑ i : Fin 128, nrm (mix (fun k => x (ix2 i k)) (fun k => y (ix2 i k)) (fun k => u (ix2 0 k))) j * cot (mix (fun k => x (ix2 i k)) (fun k => y (ix2 i k)) (fun k => u (ix2 0 k))) (fun k => t (ix2 i k)) (fun k => g (ix2 0 k)) (fun k => b (ix2 0 k)) j := by
  pointwise [k0_pay13]
  simp only [pay6_at, pay11_at]
theorem pay12_at (x y : Vec Ideal S128x4096 .f32) (t : Vec Ideal S128x4096 .f32) (u g b : Vec Ideal S1x4096 .f32) (j : Fin 4096) :
    (k0_pay12 (F := Ideal) (k0_pay9 x y t u g b) (ix2 0 j) : EReal) = ∑ i : Fin 128, cot (mix (fun k => x (ix2 i k)) (fun k => y (ix2 i k)) (fun k => u (ix2 0 k))) (fun k => t (ix2 i k)) (fun k => g (ix2 0 k)) (fun k => b (ix2 0 k)) j := by
  pointwise [k0_pay12]
  simp only [pay11_at]
theorem pay18_at (x y : Vec Ideal S128x4096 .f32) (t : Vec Ideal S128x4096 .f32) (u g b : Vec Ideal S1x4096 .f32) (j : Fin 4096) :
    (k0_pay18 (F := Ideal) (k0_pay15 u g (k0_pay2 x y u) (k0_pay4 x y u) (k0_pay5 x y u) (k0_pay9 x y t u g b)) (ix2 0 j) : EReal)
      = ∑ i : Fin 128, (u (ix2 0 j) : EReal) * dz (mix (fun k => x (ix2 i k)) (fun k => y (ix2 i k)) (fun k => u (ix2 0 k))) (fun k => t (ix2 i k)) (fun k => g (ix2 0 k)) (fun k => b (ix2 0 k)) j := by
  pointwise [k0_pay18]
  simp only [pay15_at]

/-- The reference's norm at an index. -/
theorem ref12 (x y : FVec Ideal S4096x4096 .f32) (u : FVec Ideal S1x4096 .f32) (i j : Fin 4096) :
    (val_main_v12 (F := Ideal) x y u (ix2 i j) : EReal) = cen (mix (fun k => x (ix2 i k)) (fun k => y (ix2 i k)) (fun k => u (ix2 0 k))) j := by
  pointwise [val_main_v12, val_main_v11, val_main_v10, val_main_v9, val_main_v8, val_main_v7, val_main_v6, val_main_v5, val_main_v4, val_main_v3,
    val_main_v2, val_main_cst, val_main_cst_0, val_main_cst_1]
  try rfl
theorem ref15 (x y : FVec Ideal S4096x4096 .f32) (u : FVec Ideal S1x4096 .f32) (i j : Fin 4096) :
    (val_main_v15 (F := Ideal) x y u (ix2 i j) : EReal) = Cert.Norm.TWO * cen (mix (fun k => x (ix2 i k)) (fun k => y (ix2 i k)) (fun k => u (ix2 0 k))) j := by
  pointwise [val_main_v15, val_main_v14, val_main_cst_2]
  rw [ref12]
theorem ref21 (x y : FVec Ideal S4096x4096 .f32) (u : FVec Ideal S1x4096 .f32) (i : Fin 4096) :
    (val_main_v21 (F := Ideal) x y u (ix2 i 0) : EReal) = var (mix (fun k => x (ix2 i k)) (fun k => y (ix2 i k)) (fun k => u (ix2 0 k))) := by
  pointwise [val_main_v21, val_main_v20, val_main_v19, val_main_v18, val_main_v17, val_main_v16, val_main_v13, val_main_cst_3, val_main_cst_4, val_main_cst_5]
  simp only [ref12]
  rfl
theorem ref22 (x y : FVec Ideal S4096x4096 .f32) (u : FVec Ideal S1x4096 .f32) (i : Fin 4096) :
    (val_main_v22 (F := Ideal) x y u (ix2 i 0) : EReal) = inv (mix (fun k => x (ix2 i k)) (fun k => y (ix2 i k)) (fun k => u (ix2 0 k))) := by
  pointwise [val_main_v22]
  rw [ref21]
  rfl
theorem ref25 (x y : FVec Ideal S4096x4096 .f32) (u : FVec Ideal S1x4096 .f32) (i : Fin 4096) :
    (val_main_v25 (F := Ideal) x y u (ix2 i 0) : EReal) = slope (mix (fun k => x (ix2 i k)) (fun k => y (ix2 i k)) (fun k => u (ix2 0 k))) := by
  pointwise [val_main_v25, val_main_v24, val_main_v23, val_main_cst_6]
  rw [ref21, ref22]
  rfl
theorem ref27 (x y : FVec Ideal S4096x4096 .f32) (u : FVec Ideal S1x4096 .f32) (i j : Fin 4096) :
    (val_main_v27 (F := Ideal) x y u (ix2 i j) : EReal) = nrm (mix (fun k => x (ix2 i k)) (fun k => y (ix2 i k)) (fun k => u (ix2 0 k))) j := by
  pointwise [val_main_v27, val_main_v26]
  rw [ref12, ref22]
  rfl

/-- The reference's error, cotangent and gradient at an index. -/
theorem ref35 (x y : FVec Ideal S4096x4096 .f32) (t : FVec Ideal S1x4096x4096 .f32) (u g b : FVec Ideal S1x4096 .f32) (i j : Fin 4096) :
    (val_main_v35 (F := Ideal) x y t u g b (ix2 i j) : EReal) = err (mix (fun k => x (ix2 i k)) (fun k => y (ix2 i k)) (fun k => u (ix2 0 k))) (fun k => t (ix3 0 i k)) (fun k => g (ix2 0 k)) (fun k => b (ix2 0 k)) j := by
  pointwise [val_main_v35, val_main_v34, val_main_v33, val_main_v32, val_main_v31, val_main_v30, val_main_v29, val_main_v28, val_main_v1, val_main_v0]
  rw [ref27]
  rfl
theorem ref49 (x y : FVec Ideal S4096x4096 .f32) (t : FVec Ideal S1x4096x4096 .f32) (u g b : FVec Ideal S1x4096 .f32) (i j : Fin 4096) :
    (val_main_v49 (F := Ideal) x y t u g b (ix2 i j) : EReal) = cot (mix (fun k => x (ix2 i k)) (fun k => y (ix2 i k)) (fun k => u (ix2 0 k))) (fun k => t (ix3 0 i k)) (fun k => g (ix2 0 k)) (fun k => b (ix2 0 k)) j := by
  pointwise [val_main_v49, val_main_v48, val_main_v47, val_main_v46, val_main_v45, val_main_v44, val_main_v38, val_main_v37, val_main_cst_7,
    val_main_cst_12, val_main_cst_13, val_main_cst_14]
  rw [ref35, Cert.Literals.div_4096, Cert.Literals.half]
  try rw [mul_one]
  rw [← EReal.coe_mul, cot]
  norm_num
theorem ref57 (x y : FVec Ideal S4096x4096 .f32) (t : FVec Ideal S1x4096x4096 .f32) (u g b : FVec Ideal S1x4096 .f32) (i j : Fin 4096) :
    (val_main_v57 (F := Ideal) x y t u g b (ix2 i j) : EReal) = cot (mix (fun k => x (ix2 i k)) (fun k => y (ix2 i k)) (fun k => u (ix2 0 k))) (fun k => t (ix3 0 i k)) (fun k => g (ix2 0 k)) (fun k => b (ix2 0 k)) j * (g (ix2 0 j) : EReal) := by
  pointwise [val_main_v57, val_main_v56, val_main_v28, val_main_v0]
  rw [ref49]
theorem ref70 (x y : FVec Ideal S4096x4096 .f32) (t : FVec Ideal S1x4096x4096 .f32) (u g b : FVec Ideal S1x4096 .f32) (i j : Fin 4096) :
    (val_main_v70 (F := Ideal) x y t u g b (ix2 i j) : EReal)
      = part (mix (fun k => x (ix2 i k)) (fun k => y (ix2 i k)) (fun k => u (ix2 0 k))) (fun k => cot (mix (fun k => x (ix2 i k)) (fun k => y (ix2 i k)) (fun k => u (ix2 0 k))) (fun k => t (ix3 0 i k)) (fun k => g (ix2 0 k)) (fun k => b (ix2 0 k)) k * (g (ix2 0 k) : EReal)) j := by
  pointwise [val_main_v70, val_main_v69, val_main_v68, val_main_v67, val_main_v66, val_main_v65, val_main_v64, val_main_v63, val_main_v62, val_main_v61,
    val_main_v60, val_main_v59, val_main_cst_19, val_main_cst_20, val_main_cst_21]
  simp only [Fin.sum_univ_one, ref12, ref15, ref22, ref25, ref57]
  rfl
theorem ref78 (x y : FVec Ideal S4096x4096 .f32) (t : FVec Ideal S1x4096x4096 .f32) (u g b : FVec Ideal S1x4096 .f32) (i j : Fin 4096) :
    (val_main_v78 (F := Ideal) x y t u g b (ix2 i j) : EReal) = dz (mix (fun k => x (ix2 i k)) (fun k => y (ix2 i k)) (fun k => u (ix2 0 k))) (fun k => t (ix3 0 i k)) (fun k => g (ix2 0 k)) (fun k => b (ix2 0 k)) j := by
  pointwise [val_main_v78, val_main_v77, val_main_v76, val_main_v75, val_main_v74, val_main_v73, val_main_v72, val_main_v71,
    val_main_cst_22, val_main_cst_23, val_main_cst_24]
  simp only [Fin.sum_univ_one, ref70]
  rfl

/-- The reference's results at an index. -/
theorem ref85 (x y : FVec Ideal S4096x4096 .f32) (t : FVec Ideal S1x4096x4096 .f32) (u g b : FVec Ideal S1x4096 .f32) (i j : Fin 4096) :
    (val_main_v85 (F := Ideal) x y t u g b (ix2 i j) : EReal) = ALPHA * dz (mix (fun k => x (ix2 i k)) (fun k => y (ix2 i k)) (fun k => u (ix2 0 k))) (fun k => t (ix3 0 i k)) (fun k => g (ix2 0 k)) (fun k => b (ix2 0 k)) j := by
  pointwise [val_main_v85, val_main_v84, val_main_cst_26]
  rw [ref78]
theorem ref80 (x y : FVec Ideal S4096x4096 .f32) (t : FVec Ideal S1x4096x4096 .f32) (u g b : FVec Ideal S1x4096 .f32) (i j : Fin 4096) :
    (val_main_v80 (F := Ideal) x y t u g b (ix2 i j) : EReal) = (u (ix2 0 j) : EReal) * dz (mix (fun k => x (ix2 i k)) (fun k => y (ix2 i k)) (fun k => u (ix2 0 k))) (fun k => t (ix3 0 i k)) (fun k => g (ix2 0 k)) (fun k => b (ix2 0 k)) j := by
  pointwise [val_main_v80, val_main_v79]
  rw [ref78]
theorem ref86 (x y : FVec Ideal S4096x4096 .f32) (t : FVec Ideal S1x4096x4096 .f32) (u g b : FVec Ideal S1x4096 .f32) (i j : Fin 4096) :
    (val_main_v86 (F := Ideal) x y t u g b (ix2 i j) : EReal) = (u (ix2 0 j) : EReal) * dz (mix (fun k => x (ix2 i k)) (fun k => y (ix2 i k)) (fun k => u (ix2 0 k))) (fun k => t (ix3 0 i k)) (fun k => g (ix2 0 k)) (fun k => b (ix2 0 k)) j := by
  rw [← ref80]
  pointwise [val_main_v86]
theorem ref87 (x y : FVec Ideal S4096x4096 .f32) (t : FVec Ideal S1x4096x4096 .f32) (u g b : FVec Ideal S1x4096 .f32) (j : Fin 128) :
    (val_main_v87 (F := Ideal) x y t u g b (ix2 0 j) : EReal)
      = ∑ i : Fin 4096, ((1 / 8192 : ℝ) : EReal) * ∑ k : Fin 4096, err (mix (fun k => x (ix2 i k)) (fun k => y (ix2 i k)) (fun k => u (ix2 0 k))) (fun k => t (ix3 0 i k)) (fun k => g (ix2 0 k)) (fun k => b (ix2 0 k)) k * err (mix (fun k => x (ix2 i k)) (fun k => y (ix2 i k)) (fun k => u (ix2 0 k))) (fun k => t (ix3 0 i k)) (fun k => g (ix2 0 k)) (fun k => b (ix2 0 k)) k := by
  pointwise [val_main_v87, val_main_v43, val_main_v42, val_main_v41, val_main_v40, val_main_v39, val_main_v36, val_main_cst_8, val_main_cst_9, val_main_cst_10, val_main_cst_11]
  simp only [ref35, Cert.Literals.div_4096, Cert.Literals.half]
  rw [Cert.Literals.mul_sum _ (by norm_num)]
  refine Finset.sum_congr rfl fun i _ => ?_
  rw [← mul_assoc, ← EReal.coe_mul]
  norm_num
theorem ref83 (x y : FVec Ideal S4096x4096 .f32) (t : FVec Ideal S1x4096x4096 .f32) (u g b : FVec Ideal S1x4096 .f32) (j : Fin 4096) :
    (val_main_v83 (F := Ideal) x y t u g b (ix2 0 j) : EReal) = ∑ i : Fin 4096, dz (mix (fun k => x (ix2 i k)) (fun k => y (ix2 i k)) (fun k => u (ix2 0 k))) (fun k => t (ix3 0 i k)) (fun k => g (ix2 0 k)) (fun k => b (ix2 0 k)) j * (y (ix2 i j) : EReal) := by
  pointwise [val_main_v83, val_main_v82, val_main_v81, val_main_cst_25]
  simp only [ref78]
theorem ref88 (x y : FVec Ideal S4096x4096 .f32) (t : FVec Ideal S1x4096x4096 .f32) (u g b : FVec Ideal S1x4096 .f32) (j : Fin 4096) :
    (val_main_v88 (F := Ideal) x y t u g b (ix2 0 j) : EReal) = ∑ i : Fin 4096, nrm (mix (fun k => x (ix2 i k)) (fun k => y (ix2 i k)) (fun k => u (ix2 0 k))) j * cot (mix (fun k => x (ix2 i k)) (fun k => y (ix2 i k)) (fun k => u (ix2 0 k))) (fun k => t (ix3 0 i k)) (fun k => g (ix2 0 k)) (fun k => b (ix2 0 k)) j := by
  pointwise [val_main_v88, val_main_v58, val_main_v55, val_main_v54, val_main_v53, val_main_cst_17, val_main_cst_18]
  simp only [Fin.sum_univ_one, ref27, ref49]
theorem ref89 (x y : FVec Ideal S4096x4096 .f32) (t : FVec Ideal S1x4096x4096 .f32) (u g b : FVec Ideal S1x4096 .f32) (j : Fin 4096) :
    (val_main_v89 (F := Ideal) x y t u g b (ix2 0 j) : EReal) = ∑ i : Fin 4096, cot (mix (fun k => x (ix2 i k)) (fun k => y (ix2 i k)) (fun k => u (ix2 0 k))) (fun k => t (ix3 0 i k)) (fun k => g (ix2 0 k)) (fun k => b (ix2 0 k)) j := by
  pointwise [val_main_v89, val_main_v52, val_main_v51, val_main_v50, val_main_cst_15, val_main_cst_16]
  simp only [Fin.sum_univ_one, ref49]
theorem ref91 (x y : FVec Ideal S4096x4096 .f32) (t : FVec Ideal S1x4096x4096 .f32) (u g b : FVec Ideal S1x4096 .f32) (j : Fin 4096) :
    (val_main_v91 (F := Ideal) x y t u g b (ix2 0 j) : EReal) = ∑ i : Fin 4096, (u (ix2 0 j) : EReal) * dz (mix (fun k => x (ix2 i k)) (fun k => y (ix2 i k)) (fun k => u (ix2 0 k))) (fun k => t (ix3 0 i k)) (fun k => g (ix2 0 k)) (fun k => b (ix2 0 k)) j := by
  pointwise [val_main_v91, val_main_v90, val_main_cst_27]
  simp only [ref80]

/-- The array of the residual's gradient. -/
theorem final6 (c : Dev nD) : (dats m 0 c).arrAt 6 (cfgs 0).N = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht : t.val < 32 := lt_of_lt_of_eq t.isLt N_0
  obtain ⟨a, b, rfl⟩ : ∃ (a : Fin 128) (b : Fin 4096), y = (ix2 a b : S128x4096.Idx) := ⟨y 0, y 1, by blk_ext⟩
  have ha := a.isLt
  have e : ((cfg0.win 6).blk t).view.emb (ix2 a b : S128x4096.Idx) = (ix2 (⟨t.val * 128 + a.val, by omega⟩ : Fin 4096) b : S4096x4096.Idx) := by
    blk_ext [idx t]
  blk_simp
  rw [after0_6, e, ref85, ← row0 m c t a (by omega), ← row1 m c t a (by omega), ← row2 m c t a (by omega), ← row3 m c t, ← row4 m c t, ← row5 m c t,
    ← pay17_at]
  by_cases h : t.val % 32 = 0
  · rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega) h (by have := lt_of_lt_of_eq t.isLt N_0; omega)]; frame_out
  · rw [outsAt0_B m c t h (by omega) h (by omega) h (by omega) h (by omega) h (by omega)]; frame_out

/-- The array of the branch's gradient. -/
theorem final7 (c : Dev nD) : (dats m 0 c).arrAt 7 (cfgs 0).N = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  have ht : t.val < 32 := lt_of_lt_of_eq t.isLt N_0
  obtain ⟨a, b, rfl⟩ : ∃ (a : Fin 128) (b : Fin 4096), y = (ix2 a b : S128x4096.Idx) := ⟨y 0, y 1, by blk_ext⟩
  have ha := a.isLt
  have e : ((cfg0.win 7).blk t).view.emb (ix2 a b : S128x4096.Idx) = (ix2 (⟨t.val * 128 + a.val, by omega⟩ : Fin 4096) b : S4096x4096.Idx) := by
    blk_ext [idx t]
  blk_simp
  rw [after0_7, e, ref86, ← congrFun (row3 m c t) b, ← row0 m c t a (by omega), ← row1 m c t a (by omega), ← row2 m c t a (by omega), ← row3 m c t, ← row4 m c t, ← row5 m c t,
    ← pay19_at]
  by_cases h : t.val % 32 = 0
  · rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega) h (by have := lt_of_lt_of_eq t.isLt N_0; omega)]; frame_out
  · rw [outsAt0_B m c t h (by omega) h (by omega) h (by omega) h (by omega) h (by omega)]; frame_out

/-- The array of the loss. -/
theorem final8 (c : Dev nD) : (dats m 0 c).arrAt 8 (cfgs 0).N = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  obtain ⟨b, rfl⟩ : ∃ (b : Fin 128), y = (ix2 0 b : S1x128.Idx) := ⟨y 1, by blk_ext⟩
  have e : ((cfg0.win 8).blk t).view.emb (ix2 0 b : S1x128.Idx) = (ix2 0 b : S1x128.Idx) := by
    blk_ext [idx t]
  blk_simp
  have hf3 : t.val % 32 = 31 := (flush0_8 t).mp hf
  have ht : t.val < 32 := lt_of_lt_of_eq t.isLt N_0
  rw [after0_8, e, Pipeline.eq_sum_fin_of_reset_step_apply_of_flush (fun n h => ((outsAt0 m c n h).2.2.1 : S1x128.Idx → EReal)) 32 (fun _ => 0)
    (fun t y => (k0_pay20 (F := Ideal) (k0_pay10 (k0_pay8 (iblk m c 0 t) (iblk m c 1 t) (iblk m c 2 t) (iblk m c 3 t) (iblk m c 4 t) (iblk m c 5 t))) y : EReal))
    (fun t h j => by rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega) h (by have := lt_of_lt_of_eq t.isLt N_0; omega), zero_add]; frame_out)
    (fun t h j => by rw [outsAt0_B m c t h (by omega) h (by omega) h (by omega) h (by omega) h (by omega)]; frame_out; pointwise [k0_pay21]) t hf3 _, zero_add, ref87]
  simp only [pay20_at, Cert.Literals.mul_sum _ (show (0 : ℝ) ≤ 1 / 8192 by norm_num) (Finset.univ (α := Fin 128))]
  refine Fin.sum_mul_add_congr fun q a hl => ?_
  have hq := q.isLt
  have hp := Pipeline.run_point_lt_of_flush t hf3 q
  have eq : (⟨q.val * 128 + a.val, hl⟩ : Fin 4096) = ⟨(32 * (t.val / 32) + q.val) * 128 + a.val, by omega⟩ := Fin.ext (by show q.val * 128 + a.val = (32 * (t.val / 32) + q.val) * 128 + a.val; omega)
  rw [eq]
  have r0 := row0 m c ⟨_, hp⟩ a (by dsimp only; omega)
  have r1 := row1 m c ⟨_, hp⟩ a (by dsimp only; omega)
  have r2 := row2 m c ⟨_, hp⟩ a (by dsimp only; omega)
  have r3 := row3 m c ⟨_, hp⟩
  have r4 := row4 m c ⟨_, hp⟩
  have r5 := row5 m c ⟨_, hp⟩
  rw [r0, r1, r2, r3, r4, r5]

/-- The array of the gate's gradient. -/
theorem final9 (c : Dev nD) : (dats m 0 c).arrAt 9 (cfgs 0).N = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  obtain ⟨b, rfl⟩ : ∃ (b : Fin 4096), y = (ix2 0 b : S1x4096.Idx) := ⟨y 1, by blk_ext⟩
  have e : ((cfg0.win 9).blk t).view.emb (ix2 0 b : S1x4096.Idx) = (ix2 0 b : S1x4096.Idx) := by
    blk_ext [idx t]
  blk_simp
  have hf3 : t.val % 32 = 31 := (flush0_9 t).mp hf
  have ht : t.val < 32 := lt_of_lt_of_eq t.isLt N_0
  rw [after0_9, e, Pipeline.eq_sum_fin_of_reset_step_apply_of_flush (fun n h => ((outsAt0 m c n h).2.2.2.1 : S1x4096.Idx → EReal)) 32 (fun _ => 0)
    (fun t y => (k0_pay16 (F := Ideal) (iblk m c 1 t) (iblk m c 4 t) (k0_pay2 (iblk m c 0 t) (iblk m c 1 t) (iblk m c 3 t)) (k0_pay4 (iblk m c 0 t) (iblk m c 1 t) (iblk m c 3 t)) (k0_pay5 (iblk m c 0 t) (iblk m c 1 t) (iblk m c 3 t)) (k0_pay9 (iblk m c 0 t) (iblk m c 1 t) (iblk m c 2 t) (iblk m c 3 t) (iblk m c 4 t) (iblk m c 5 t)) y : EReal))
    (fun t h j => by rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega) h (by have := lt_of_lt_of_eq t.isLt N_0; omega), zero_add]; frame_out)
    (fun t h j => by rw [outsAt0_B m c t h (by omega) h (by omega) h (by omega) h (by omega) h (by omega)]; frame_out; pointwise [k0_pay22]) t hf3 _, zero_add, ref83]
  simp only [pay16_at]
  refine Fin.sum_mul_add_congr fun q a hl => ?_
  have hq := q.isLt
  have hp := Pipeline.run_point_lt_of_flush t hf3 q
  have eq : (⟨q.val * 128 + a.val, hl⟩ : Fin 4096) = ⟨(32 * (t.val / 32) + q.val) * 128 + a.val, by omega⟩ := Fin.ext (by show q.val * 128 + a.val = (32 * (t.val / 32) + q.val) * 128 + a.val; omega)
  rw [eq]
  have r0 := row0 m c ⟨_, hp⟩ a (by dsimp only; omega)
  have r1 := row1 m c ⟨_, hp⟩ a (by dsimp only; omega)
  have r2 := row2 m c ⟨_, hp⟩ a (by dsimp only; omega)
  have r3 := row3 m c ⟨_, hp⟩
  have r4 := row4 m c ⟨_, hp⟩
  have r5 := row5 m c ⟨_, hp⟩
  rw [congrFun r1 b, r0, r1, r2, r3, r4, r5]

/-- The array of the scale's gradient. -/
theorem final10 (c : Dev nD) : (dats m 0 c).arrAt 10 (cfgs 0).N = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨b, rfl⟩ : ∃ (b : Fin 4096), y = (ix2 0 b : S1x4096.Idx) := ⟨y 1, by blk_ext⟩
  have e : ((cfg0.win 10).blk t).view.emb (ix2 0 b : S1x4096.Idx) = (ix2 0 b : S1x4096.Idx) := by
    blk_ext [idx t]
  blk_simp
  have hf3 : t.val % 32 = 31 := (flush0_10 t).mp hf
  have ht : t.val < 32 := lt_of_lt_of_eq t.isLt N_0
  rw [after0_10, e, Pipeline.eq_sum_fin_of_reset_step_apply_of_flush (fun n h => ((outsAt0 m c n h).2.2.2.2.1 : S1x4096.Idx → EReal)) 32 (fun _ => 0)
    (fun t y => (k0_pay13 (F := Ideal) (k0_pay6 (iblk m c 0 t) (iblk m c 1 t) (iblk m c 3 t)) (k0_pay9 (iblk m c 0 t) (iblk m c 1 t) (iblk m c 2 t) (iblk m c 3 t) (iblk m c 4 t) (iblk m c 5 t)) y : EReal))
    (fun t h j => by rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega) h (by have := lt_of_lt_of_eq t.isLt N_0; omega), zero_add]; frame_out)
    (fun t h j => by rw [outsAt0_B m c t h (by omega) h (by omega) h (by omega) h (by omega) h (by omega)]; frame_out; pointwise [k0_pay23]) t hf3 _, zero_add, ref88]
  simp only [pay13_at]
  refine Fin.sum_mul_add_congr fun q a hl => ?_
  have hq := q.isLt
  have hp := Pipeline.run_point_lt_of_flush t hf3 q
  have eq : (⟨q.val * 128 + a.val, hl⟩ : Fin 4096) = ⟨(32 * (t.val / 32) + q.val) * 128 + a.val, by omega⟩ := Fin.ext (by show q.val * 128 + a.val = (32 * (t.val / 32) + q.val) * 128 + a.val; omega)
  rw [eq]
  have r0 := row0 m c ⟨_, hp⟩ a (by dsimp only; omega)
  have r1 := row1 m c ⟨_, hp⟩ a (by dsimp only; omega)
  have r2 := row2 m c ⟨_, hp⟩ a (by dsimp only; omega)
  have r3 := row3 m c ⟨_, hp⟩
  have r4 := row4 m c ⟨_, hp⟩
  have r5 := row5 m c ⟨_, hp⟩
  rw [r0, r1, r2, r3, r4, r5]

/-- The array of the offset's gradient. -/
theorem final11 (c : Dev nD) : (dats m 0 c).arrAt 11 (cfgs 0).N = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  obtain ⟨b, rfl⟩ : ∃ (b : Fin 4096), y = (ix2 0 b : S1x4096.Idx) := ⟨y 1, by blk_ext⟩
  have e : ((cfg0.win 11).blk t).view.emb (ix2 0 b : S1x4096.Idx) = (ix2 0 b : S1x4096.Idx) := by
    blk_ext [idx t]
  blk_simp
  have hf3 : t.val % 32 = 31 := (flush0_11 t).mp hf
  have ht : t.val < 32 := lt_of_lt_of_eq t.isLt N_0
  rw [after0_11, e, Pipeline.eq_sum_fin_of_reset_step_apply_of_flush (fun n h => ((outsAt0 m c n h).2.2.2.2.2.1 : S1x4096.Idx → EReal)) 32 (fun _ => 0)
    (fun t y => (k0_pay12 (F := Ideal) (k0_pay9 (iblk m c 0 t) (iblk m c 1 t) (iblk m c 2 t) (iblk m c 3 t) (iblk m c 4 t) (iblk m c 5 t)) y : EReal))
    (fun t h j => by rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega) h (by have := lt_of_lt_of_eq t.isLt N_0; omega), zero_add]; frame_out)
    (fun t h j => by rw [outsAt0_B m c t h (by omega) h (by omega) h (by omega) h (by omega) h (by omega)]; frame_out; pointwise [k0_pay24]) t hf3 _, zero_add, ref89]
  simp only [pay12_at]
  refine Fin.sum_mul_add_congr fun q a hl => ?_
  have hq := q.isLt
  have hp := Pipeline.run_point_lt_of_flush t hf3 q
  have eq : (⟨q.val * 128 + a.val, hl⟩ : Fin 4096) = ⟨(32 * (t.val / 32) + q.val) * 128 + a.val, by omega⟩ := Fin.ext (by show q.val * 128 + a.val = (32 * (t.val / 32) + q.val) * 128 + a.val; omega)
  rw [eq]
  have r0 := row0 m c ⟨_, hp⟩ a (by dsimp only; omega)
  have r1 := row1 m c ⟨_, hp⟩ a (by dsimp only; omega)
  have r2 := row2 m c ⟨_, hp⟩ a (by dsimp only; omega)
  have r3 := row3 m c ⟨_, hp⟩
  have r4 := row4 m c ⟨_, hp⟩
  have r5 := row5 m c ⟨_, hp⟩
  rw [r0, r1, r2, r3, r4, r5]

/-- The array of the branch's gradient, summed over the rows. -/
theorem final12 (c : Dev nD) : (dats m 0 c).arrAt 12 (cfgs 0).N = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  obtain ⟨b, rfl⟩ : ∃ (b : Fin 4096), y = (ix2 0 b : S1x4096.Idx) := ⟨y 1, by blk_ext⟩
  have e : ((cfg0.win 12).blk t).view.emb (ix2 0 b : S1x4096.Idx) = (ix2 0 b : S1x4096.Idx) := by
    blk_ext [idx t]
  blk_simp
  have hf3 : t.val % 32 = 31 := (flush0_12 t).mp hf
  have ht : t.val < 32 := lt_of_lt_of_eq t.isLt N_0
  rw [after0_12, e, Pipeline.eq_sum_fin_of_reset_step_apply_of_flush (fun n h => ((outsAt0 m c n h).2.2.2.2.2.2 : S1x4096.Idx → EReal)) 32 (fun _ => 0)
    (fun t y => (k0_pay18 (F := Ideal) (k0_pay15 (iblk m c 3 t) (iblk m c 4 t) (k0_pay2 (iblk m c 0 t) (iblk m c 1 t) (iblk m c 3 t)) (k0_pay4 (iblk m c 0 t) (iblk m c 1 t) (iblk m c 3 t)) (k0_pay5 (iblk m c 0 t) (iblk m c 1 t) (iblk m c 3 t)) (k0_pay9 (iblk m c 0 t) (iblk m c 1 t) (iblk m c 2 t) (iblk m c 3 t) (iblk m c 4 t) (iblk m c 5 t))) y : EReal))
    (fun t h j => by rw [outsAt0_A m c t h (by have := lt_of_lt_of_eq t.isLt N_0; omega) h (by have := lt_of_lt_of_eq t.isLt N_0; omega) h (by have := lt_of_lt_of_eq t.isLt N_0; omega) h (by have := lt_of_lt_of_eq t.isLt N_0; omega) h (by have := lt_of_lt_of_eq t.isLt N_0; omega), zero_add]; frame_out)
    (fun t h j => by rw [outsAt0_B m c t h (by omega) h (by omega) h (by omega) h (by omega) h (by omega)]; frame_out; pointwise [k0_pay1]) t hf3 _, zero_add, ref91]
  simp only [pay18_at]
  refine Fin.sum_mul_add_congr fun q a hl => ?_
  have hq := q.isLt
  have hp := Pipeline.run_point_lt_of_flush t hf3 q
  have eq : (⟨q.val * 128 + a.val, hl⟩ : Fin 4096) = ⟨(32 * (t.val / 32) + q.val) * 128 + a.val, by omega⟩ := Fin.ext (by show q.val * 128 + a.val = (32 * (t.val / 32) + q.val) * 128 + a.val; omega)
  rw [eq]
  have r0 := row0 m c ⟨_, hp⟩ a (by dsimp only; omega)
  have r1 := row1 m c ⟨_, hp⟩ a (by dsimp only; omega)
  have r2 := row2 m c ⟨_, hp⟩ a (by dsimp only; omega)
  have r3 := row3 m c ⟨_, hp⟩
  have r4 := row4 m c ⟨_, hp⟩
  have r5 := row5 m c ⟨_, hp⟩
  rw [congrFun r3 b, r0, r1, r2, r3, r4, r5]

end Cert.LossBwdIdeal.Final
end
-- ==== Proof.lean ====
module

public import proofs.«01_k».proof.Defs
public import proofs.«01_k».proof.Proof.Gen.Kernel.Frame
public import proofs.«01_k».proof.Proof.Gen.KernelIdeal.Value
public import proofs.«01_k».proof.Proof.Gen.KernelRefIdeal.Run
public import proofs.«01_k».proof.Proof.Gen.KernelRefIdeal.Read
public import proofs.«01_k».proof.Proof.Gen.Mlp2BwdX.Frame
public import proofs.«01_k».proof.Proof.Gen.Mlp2BwdXIdeal.Value
public import proofs.«01_k».proof.Proof.Gen.Mlp2BwdXRefIdeal.Run
public import proofs.«01_k».proof.Proof.Gen.Mlp2BwdXRefIdeal.Read
public import proofs.«01_k».proof.Proof.Gen.Mlp2BwdW.Frame
public import proofs.«01_k».proof.Proof.Gen.Mlp2BwdWIdeal.Value
public import proofs.«01_k».proof.Proof.Gen.Mlp2BwdWRefIdeal.Run
public import proofs.«01_k».proof.Proof.Gen.Mlp2BwdWRefIdeal.Read
public import proofs.«01_k».proof.Proof.Gen.Mlp1BwdX.Frame
public import proofs.«01_k».proof.Proof.Gen.Mlp1BwdXIdeal.Value
public import proofs.«01_k».proof.Proof.Gen.Mlp1BwdXRefIdeal.Run
public import proofs.«01_k».proof.Proof.Gen.Mlp1BwdXRefIdeal.Read
public import proofs.«01_k».proof.Proof.Gen.Mlp1BwdW.Frame
public import proofs.«01_k».proof.Proof.Gen.Mlp1BwdWIdeal.Value
public import proofs.«01_k».proof.Proof.Gen.Mlp1BwdWRefIdeal.Run
public import proofs.«01_k».proof.Proof.Gen.Mlp1BwdWRefIdeal.Read
public import proofs.«01_k».proof.Proof.Gen.InBwdX.Frame
public import proofs.«01_k».proof.Proof.Gen.InBwdXIdeal.Value
public import proofs.«01_k».proof.Proof.Gen.InBwdXRefIdeal.Run
public import proofs.«01_k».proof.Proof.Gen.InBwdXRefIdeal.Read
public import proofs.«01_k».proof.Proof.Gen.InBwdW.Frame
public import proofs.«01_k».proof.Proof.Gen.InBwdWIdeal.Value
public import proofs.«01_k».proof.Proof.Gen.InBwdWRefIdeal.Run
public import proofs.«01_k».proof.Proof.Gen.InBwdWRefIdeal.Read
public import proofs.«01_k».proof.Proof.Gen.OutBwdX.Frame
public import proofs.«01_k».proof.Proof.Gen.OutBwdXIdeal.Value
public import proofs.«01_k».proof.Proof.Gen.OutBwdXRefIdeal.Run
public import proofs.«01_k».proof.Proof.Gen.OutBwdXRefIdeal.Read
public import proofs.«01_k».proof.Proof.Gen.OutBwdW.Frame
public import proofs.«01_k».proof.Proof.Gen.OutBwdWIdeal.Value
public import proofs.«01_k».proof.Proof.Gen.OutBwdWRefIdeal.Run
public import proofs.«01_k».proof.Proof.Gen.OutBwdWRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.Mlp1.Frame
public import proofs.«01_k».proof.Proof.Gen.Mlp1Ideal.Value
public import proofs.«01_k».proof.Proof.Gen.Mlp1RefIdeal.Run
public import proofs.«01_k».proof.Proof.Gen.Mlp1RefIdeal.Read
public import proofs.«01_k».proof.Proof.Gen.Mlp2.Frame
public import proofs.«01_k».proof.Proof.Gen.Mlp2Ideal.Value
public import proofs.«01_k».proof.Proof.Gen.Mlp2RefIdeal.Run
public import proofs.«01_k».proof.Proof.Gen.Mlp2RefIdeal.Read
public import proofs.«01_k».proof.Proof.Gen.AdamMod.Frame
public import proofs.«01_k».proof.Proof.Gen.AdamModIdeal.Value
public import proofs.«01_k».proof.Proof.Gen.AdamModRefIdeal.Run
public import proofs.«01_k».proof.Proof.Gen.AdamModRefIdeal.Read
public import proofs.«01_k».proof.Proof.Gen.AdamMlp.Frame
public import proofs.«01_k».proof.Proof.Gen.AdamMlpIdeal.Value
public import proofs.«01_k».proof.Proof.Gen.AdamMlpRefIdeal.Run
public import proofs.«01_k».proof.Proof.Gen.AdamMlpRefIdeal.Read
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.DmodPrep.Frame
public import proofs.«01_k».proof.Proof.Gen.DmodPrepIdeal.Value
public import proofs.«01_k».proof.Proof.Gen.DmodPrepRefIdeal.Run
public import proofs.«01_k».proof.Proof.Gen.DmodPrepRefIdeal.Read
public import proofs.«01_k».proof.Proof.Gen.ModBwdW.Frame
public import proofs.«01_k».proof.Proof.Gen.ModBwdWIdeal.Value
public import proofs.«01_k».proof.Proof.Gen.ModBwdWRefIdeal.Run
public import proofs.«01_k».proof.Proof.Gen.ModBwdWRefIdeal.Read
public import proofs.«01_k».proof.Proof.Gen.ModBwdC.Frame
public import proofs.«01_k».proof.Proof.Gen.ModBwdCIdeal.Value
public import proofs.«01_k».proof.Proof.Gen.ModBwdCRefIdeal.Run
public import proofs.«01_k».proof.Proof.Gen.ModBwdCRefIdeal.Read
public import proofs.«01_k».proof.Proof.Gen.GradX.Frame
public import proofs.«01_k».proof.Proof.Gen.GradXIdeal.Value
public import proofs.«01_k».proof.Proof.Gen.GradXRefIdeal.Run
public import proofs.«01_k».proof.Proof.Gen.GradXRefIdeal.Read
public import proofs.«01_k».proof.Proof.Gen.LossBwd.Frame
public import proofs.«01_k».proof.Proof.Gen.LossBwdIdeal.Value
public import proofs.«01_k».proof.Proof.Gen.LossBwdRefIdeal.Run
public import proofs.«01_k».proof.Proof.Gen.LossBwdRefIdeal.Read
public import proofs.«01_k».proof.Proof.Kernel
public import proofs.«01_k».proof.Proof.Mlp2BwdX
public import proofs.«01_k».proof.Proof.Mlp2BwdW
public import proofs.«01_k».proof.Proof.Mlp1BwdX
public import proofs.«01_k».proof.Proof.Mlp1BwdW
public import proofs.«01_k».proof.Proof.InBwdX
public import proofs.«01_k».proof.Proof.InBwdW
public import proofs.«01_k».proof.Proof.OutBwdX
public import proofs.«01_k».proof.Proof.OutBwdW
public import proofs.«01_k».proof.Proof.InProj
public import proofs.«01_k».proof.Proof.OutProj
public import proofs.«01_k».proof.Proof.Mlp1
public import proofs.«01_k».proof.Proof.Mlp2
public import proofs.«01_k».proof.Proof.AdamMod
public import proofs.«01_k».proof.Proof.AdamMlp
public import proofs.«01_k».proof.Proof.AdamIn
public import proofs.«01_k».proof.Proof.AdamOut
public import proofs.«01_k».proof.Proof.AdamSmall
public import proofs.«01_k».proof.Proof.SumSmall
public import proofs.«01_k».proof.Proof.DmodPrep
public import proofs.«01_k».proof.Proof.ModBwdW
public import proofs.«01_k».proof.Proof.ModBwdC
public import proofs.«01_k».proof.Proof.GradX
public import proofs.«01_k».proof.Proof.LossBwd
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference of `Kernel` ends, with its arguments as they were and every semaphore at zero. -/
theorem frame_Kernel : Cert.quiescent_KernelRefIdeal := by
  intro m ρ _
  refine (θ_run Cert.KernelRefIdeal.defs _ _).mono (fun r h => ⟨fun c => ?_, Idealize.ShloMosaic.sem_eq_zero_of_no_sems (by decide) r.2⟩)
    (Cert.KernelRefIdeal.Value.run (F := Ideal) m ρ)
  have hc := h c
  simp only [hc, and_self]

set_option maxHeartbeats 4000000 in
/-- The kernel of `Kernel` and its reference leave the same results. -/
theorem value_Kernel : Cert.algebraic_KernelIdeal_KernelRefIdeal := by
  intro m g m' g' hpre hagree
  refine ⟨fun c => (Cert.KernelIdeal.Gen.dats m 0 c).arrAt 4 Cert.KernelIdeal.cfg0.N, fun c => (Cert.KernelIdeal.Gen.dats m 0 c).arrAt 5 Cert.KernelIdeal.cfg0.N, fun c => (Cert.KernelIdeal.Gen.dats m 0 c).arrAt 6 Cert.KernelIdeal.cfg0.N,
    Cert.KernelIdeal.Value.run_blocks m g,
    (θ_run Cert.KernelRefIdeal.defs _ _).mono (fun r h c => ⟨(h c).1.trans (((Cert.KernelRefIdeal.Read.val_main_v583_eq (F := Ideal) _).trans (by
        show Cert.KernelRefIdeal.Read.val_main_v583 (F := Ideal) (m' ((c.tc : Thread Cert.KernelRefIdeal.nD Cert.KernelRefIdeal.τ).loc Cert.KernelRefIdeal.main_arg0)) (m' ((c.tc : Thread Cert.KernelRefIdeal.nD Cert.KernelRefIdeal.τ).loc Cert.KernelRefIdeal.main_arg1)) (m' ((c.tc : Thread Cert.KernelRefIdeal.nD Cert.KernelRefIdeal.τ).loc Cert.KernelRefIdeal.main_arg2)) = _
        rw [(hagree c).1, (hagree c).2.1, (hagree c).2.2])).trans (Cert.KernelIdeal.Final.final4 m c).symm),
      (h c).2.1.trans (((Cert.KernelRefIdeal.Read.val_main_v584_eq (F := Ideal) _).trans (by
        show Cert.KernelRefIdeal.Read.val_main_v584 (F := Ideal) (m' ((c.tc : Thread Cert.KernelRefIdeal.nD Cert.KernelRefIdeal.τ).loc Cert.KernelRefIdeal.main_arg0)) (m' ((c.tc : Thread Cert.KernelRefIdeal.nD Cert.KernelRefIdeal.τ).loc Cert.KernelRefIdeal.main_arg1)) (m' ((c.tc : Thread Cert.KernelRefIdeal.nD Cert.KernelRefIdeal.τ).loc Cert.KernelRefIdeal.main_arg2)) = _
        rw [(hagree c).1, (hagree c).2.1, (hagree c).2.2])).trans (Cert.KernelIdeal.Final.final5 m c).symm),
      (h c).2.2.1.trans (((Cert.KernelRefIdeal.Read.val_main_v574_eq (F := Ideal) _).trans (by
        show Cert.KernelRefIdeal.Read.val_main_v574 (F := Ideal) (m' ((c.tc : Thread Cert.KernelRefIdeal.nD Cert.KernelRefIdeal.τ).loc Cert.KernelRefIdeal.main_arg0)) (m' ((c.tc : Thread Cert.KernelRefIdeal.nD Cert.KernelRefIdeal.τ).loc Cert.KernelRefIdeal.main_arg2)) = _
        rw [(hagree c).1, (hagree c).2.2])).trans (Cert.KernelIdeal.Final.final6 m c).symm),
      (h c).2.2.2⟩)
      (Cert.KernelRefIdeal.Value.run (F := Ideal) m' g')⟩

/-- The reference of `Mlp2BwdX` ends, with its arguments as they were and every semaphore at zero. -/
theorem frame_Mlp2BwdX : Cert.quiescent_Mlp2BwdXRefIdeal := by
  intro m ρ _
  refine (θ_run Cert.Mlp2BwdXRefIdeal.defs _ _).mono (fun r h => ⟨fun c => ?_, Idealize.ShloMosaic.sem_eq_zero_of_no_sems (by decide) r.2⟩)
    (Cert.Mlp2BwdXRefIdeal.Value.run (F := Ideal) m ρ)
  have hc := h c
  simp only [hc, and_self]

/-- The kernel of `Mlp2BwdX` and its reference leave the same results. -/
theorem value_Mlp2BwdX : Cert.algebraic_Mlp2BwdXIdeal_Mlp2BwdXRefIdeal := by
  intro m g m' g' hpre hagree
  refine ⟨fun c => (Cert.Mlp2BwdXIdeal.Gen.dats m 0 c).arrAt 3 Cert.Mlp2BwdXIdeal.cfg0.N, fun c => (Cert.Mlp2BwdXIdeal.Gen.dats m 0 c).arrAt 4 Cert.Mlp2BwdXIdeal.cfg0.N,
    Cert.Mlp2BwdXIdeal.Value.run_blocks m g,
    (θ_run Cert.Mlp2BwdXRefIdeal.defs _ _).mono (fun r h c => ⟨(h c).1.trans (by
        rw [(hagree c).1, (hagree c).2.1, (hagree c).2.2.1, (hagree c).2.2.2.1, (hagree c).2.2.2.2]
        exact (Cert.Mlp2BwdXRefIdeal.Read.val_main_v19_eq _ _ _ _ _).trans (Cert.Mlp2BwdXIdeal.Final.final3 m c).symm),
      (h c).2.1.trans (by
        rw [(hagree c).1, (hagree c).2.1, (hagree c).2.2.1, (hagree c).2.2.2.1, (hagree c).2.2.2.2]
        exact (Cert.Mlp2BwdXRefIdeal.Read.val_main_v20_eq _ _ _ _ _).trans (Cert.Mlp2BwdXIdeal.Final.final4 m c).symm),
      (h c).2.2⟩)
      (Cert.Mlp2BwdXRefIdeal.Value.run (F := Ideal) m' g')⟩

/-- The reference of `Mlp2BwdW` ends, with its arguments as they were and every semaphore at zero. -/
theorem frame_Mlp2BwdW : Cert.quiescent_Mlp2BwdWRefIdeal := by
  intro m ρ _
  refine (θ_run Cert.Mlp2BwdWRefIdeal.defs _ _).mono (fun r h => ⟨fun c => ?_, Idealize.ShloMosaic.sem_eq_zero_of_no_sems (by decide) r.2⟩)
    (Cert.Mlp2BwdWRefIdeal.Value.run (F := Ideal) m ρ)
  have hc := h c
  simp only [hc, and_self]

/-- The kernel of `Mlp2BwdW` and its reference leave the same results. -/
theorem value_Mlp2BwdW : Cert.algebraic_Mlp2BwdWIdeal_Mlp2BwdWRefIdeal := by
  intro m g m' g' hpre hagree
  refine ⟨fun c => (Cert.Mlp2BwdWIdeal.Gen.dats m 0 c).arrAt 2 Cert.Mlp2BwdWIdeal.cfg0.N,
    Cert.Mlp2BwdWIdeal.Value.run_blocks m g,
    (θ_run Cert.Mlp2BwdWRefIdeal.defs _ _).mono (fun r h c => ⟨(h c).1.trans (by
        rw [(hagree c).1, (hagree c).2.1, (hagree c).2.2.1, (hagree c).2.2.2]
        exact (Cert.Mlp2BwdWRefIdeal.Read.val_main_v9_eq _ _ _ _).trans (Cert.Mlp2BwdWIdeal.Final.final m c).symm),
      (h c).2⟩)
      (Cert.Mlp2BwdWRefIdeal.Value.run (F := Ideal) m' g')⟩

/-- The reference of `Mlp1BwdX` ends, with its arguments as they were and every semaphore at zero. -/
theorem frame_Mlp1BwdX : Cert.quiescent_Mlp1BwdXRefIdeal := by
  intro m ρ _
  refine (θ_run Cert.Mlp1BwdXRefIdeal.defs _ _).mono (fun r h => ⟨fun c => ?_, Idealize.ShloMosaic.sem_eq_zero_of_no_sems (by decide) r.2⟩)
    (Cert.Mlp1BwdXRefIdeal.Value.run (F := Ideal) m ρ)
  have hc := h c
  simp only [hc, and_self]

/-- The kernel of `Mlp1BwdX` and its reference leave the same results. -/
theorem value_Mlp1BwdX : Cert.algebraic_Mlp1BwdXIdeal_Mlp1BwdXRefIdeal := by
  intro m g m' g' hpre hagree
  refine ⟨fun c => (Cert.Mlp1BwdXIdeal.Gen.dats m 0 c).arrAt 2 Cert.Mlp1BwdXIdeal.cfg0.N,
    Cert.Mlp1BwdXIdeal.Value.run_blocks m g,
    (θ_run Cert.Mlp1BwdXRefIdeal.defs _ _).mono (fun r h c => ⟨(h c).1.trans (by
        rw [(hagree c).1, (hagree c).2]
        exact (Cert.Mlp1BwdXRefIdeal.Read.val_main_v2_eq _ _).trans (Cert.Mlp1BwdXIdeal.Final.final m c).symm),
      (h c).2⟩)
      (Cert.Mlp1BwdXRefIdeal.Value.run (F := Ideal) m' g')⟩

/-- The reference of `Mlp1BwdW` ends, with its arguments as they were and every semaphore at zero. -/
theorem frame_Mlp1BwdW : Cert.quiescent_Mlp1BwdWRefIdeal := by
  intro m ρ _
  refine (θ_run Cert.Mlp1BwdWRefIdeal.defs _ _).mono (fun r h => ⟨fun c => ?_, Idealize.ShloMosaic.sem_eq_zero_of_no_sems (by decide) r.2⟩)
    (Cert.Mlp1BwdWRefIdeal.Value.run (F := Ideal) m ρ)
  have hc := h c
  simp only [hc, and_self]

/-- The kernel of `Mlp1BwdW` and its reference leave the same results. -/
theorem value_Mlp1BwdW : Cert.algebraic_Mlp1BwdWIdeal_Mlp1BwdWRefIdeal := by
  intro m g m' g' hpre hagree
  refine ⟨fun c => (Cert.Mlp1BwdWIdeal.Gen.dats m 0 c).arrAt 2 Cert.Mlp1BwdWIdeal.cfg0.N,
    Cert.Mlp1BwdWIdeal.Value.run_blocks m g,
    (θ_run Cert.Mlp1BwdWRefIdeal.defs _ _).mono (fun r h c => ⟨(h c).1.trans (by
        rw [(hagree c).1, (hagree c).2]
        exact (Cert.Mlp1BwdWRefIdeal.Read.val_main_v5_eq _ _).trans (Cert.Mlp1BwdWIdeal.Final.final m c).symm),
      (h c).2⟩)
      (Cert.Mlp1BwdWRefIdeal.Value.run (F := Ideal) m' g')⟩

/-- The reference of `InBwdX` ends, with its arguments as they were and every semaphore at zero. -/
theorem frame_InBwdX : Cert.quiescent_InBwdXRefIdeal := by
  intro m ρ _
  refine (θ_run Cert.InBwdXRefIdeal.defs _ _).mono (fun r h => ⟨fun c => ?_, Idealize.ShloMosaic.sem_eq_zero_of_no_sems (by decide) r.2⟩)
    (Cert.InBwdXRefIdeal.Value.run (F := Ideal) m ρ)
  have hc := h c
  simp only [hc, and_self]

/-- The kernel of `InBwdX` and its reference leave the same results. -/
theorem value_InBwdX : Cert.algebraic_InBwdXIdeal_InBwdXRefIdeal := by
  intro m g m' g' hpre hagree
  refine ⟨fun c => (Cert.InBwdXIdeal.Gen.dats m 0 c).arrAt 3 Cert.InBwdXIdeal.cfg0.N,
    Cert.InBwdXIdeal.Value.run_blocks m g,
    (θ_run Cert.InBwdXRefIdeal.defs _ _).mono (fun r h c => ⟨(h c).1.trans (by
        rw [(hagree c).1, (hagree c).2]
        exact (Cert.InBwdXRefIdeal.Read.val_main_v2_eq _ _).trans (Cert.InBwdXIdeal.Final.final m c).symm),
      (h c).2⟩)
      (Cert.InBwdXRefIdeal.Value.run (F := Ideal) m' g')⟩

/-- The reference of `InBwdW` ends, with its arguments as they were and every semaphore at zero. -/
theorem frame_InBwdW : Cert.quiescent_InBwdWRefIdeal := by
  intro m ρ _
  refine (θ_run Cert.InBwdWRefIdeal.defs _ _).mono (fun r h => ⟨fun c => ?_, Idealize.ShloMosaic.sem_eq_zero_of_no_sems (by decide) r.2⟩)
    (Cert.InBwdWRefIdeal.Value.run (F := Ideal) m ρ)
  have hc := h c
  simp only [hc, and_self]

/-- The kernel of `InBwdW` and its reference leave the same results. -/
theorem value_InBwdW : Cert.algebraic_InBwdWIdeal_InBwdWRefIdeal := by
  intro m g m' g' hpre hagree
  refine ⟨fun c => (Cert.InBwdWIdeal.Gen.dats m 0 c).arrAt 2 Cert.InBwdWIdeal.cfg0.N,
    Cert.InBwdWIdeal.Value.run_blocks m g,
    (θ_run Cert.InBwdWRefIdeal.defs _ _).mono (fun r h c => ⟨(h c).1.trans (by
        rw [(hagree c).1, (hagree c).2]
        exact (Cert.InBwdWRefIdeal.Read.val_main_v9_eq _ _).trans (Cert.InBwdWIdeal.Final.final m c).symm),
      (h c).2⟩)
      (Cert.InBwdWRefIdeal.Value.run (F := Ideal) m' g')⟩

/-- The reference of `OutBwdX` ends, with its arguments as they were and every semaphore at zero. -/
theorem frame_OutBwdX : Cert.quiescent_OutBwdXRefIdeal := by
  intro m ρ _
  refine (θ_run Cert.OutBwdXRefIdeal.defs _ _).mono (fun r h => ⟨fun c => ?_, Idealize.ShloMosaic.sem_eq_zero_of_no_sems (by decide) r.2⟩)
    (Cert.OutBwdXRefIdeal.Value.run (F := Ideal) m ρ)
  have hc := h c
  simp only [hc, and_self]

/-- The kernel of `OutBwdX` and its reference leave the same results. -/
theorem value_OutBwdX : Cert.algebraic_OutBwdXIdeal_OutBwdXRefIdeal := by
  intro m g m' g' hpre hagree
  refine ⟨fun c => (Cert.OutBwdXIdeal.Gen.dats m 0 c).arrAt 2 Cert.OutBwdXIdeal.cfg0.N,
    Cert.OutBwdXIdeal.Value.run_blocks m g,
    (θ_run Cert.OutBwdXRefIdeal.defs _ _).mono (fun r h c => ⟨(h c).1.trans (by
        rw [(hagree c).1, (hagree c).2]
        exact (Cert.OutBwdXRefIdeal.Read.val_main_v2_eq _ _).trans (Cert.OutBwdXIdeal.Final.final m c).symm),
      (h c).2⟩)
      (Cert.OutBwdXRefIdeal.Value.run (F := Ideal) m' g')⟩

/-- The reference of `OutBwdW` ends, with its arguments as they were and every semaphore at zero. -/
theorem frame_OutBwdW : Cert.quiescent_OutBwdWRefIdeal := by
  intro m ρ _
  refine (θ_run Cert.OutBwdWRefIdeal.defs _ _).mono (fun r h => ⟨fun c => ?_, Idealize.ShloMosaic.sem_eq_zero_of_no_sems (by decide) r.2⟩)
    (Cert.OutBwdWRefIdeal.Value.run (F := Ideal) m ρ)
  have hc := h c
  simp only [hc, and_self]

/-- The kernel of `OutBwdW` and its reference leave the same results. -/
theorem value_OutBwdW : Cert.algebraic_OutBwdWIdeal_OutBwdWRefIdeal := by
  intro m g m' g' hpre hagree
  refine ⟨fun c => (Cert.OutBwdWIdeal.Gen.dats m 0 c).arrAt 2 Cert.OutBwdWIdeal.cfg0.N,
    Cert.OutBwdWIdeal.Value.run_blocks m g,
    (θ_run Cert.OutBwdWRefIdeal.defs _ _).mono (fun r h c => ⟨(h c).1.trans (by
        rw [(hagree c).1, (hagree c).2]
        exact (Cert.OutBwdWRefIdeal.Read.val_main_v3_eq _ _).trans (Cert.OutBwdWIdeal.Final.final m c).symm),
      (h c).2⟩)
      (Cert.OutBwdWRefIdeal.Value.run (F := Ideal) m' g')⟩

/-- The reference of `InProj` ends, with its arguments as they were and every semaphore at zero. -/
theorem frame_InProj : Cert.quiescent_InProjRefIdeal := by
  intro m ρ _
  refine (θ_run Cert.InProjRefIdeal.defs _ _).mono (fun r h => ⟨fun c => ?_, Idealize.ShloMosaic.sem_eq_zero_of_no_sems (by decide) r.2⟩)
    (Cert.InProjRefIdeal.Value.run (F := Ideal) m ρ)
  have hc := h c
  simp only [hc, and_self]

/-- The kernel of `InProj` and its reference leave the same results. -/
theorem value_InProj : Cert.algebraic_InProjIdeal_InProjRefIdeal := by
  intro m g m' g' hpre hagree
  refine ⟨fun c => (Cert.InProjIdeal.Gen.dats m 0 c).arrAt 3 Cert.InProjIdeal.cfg0.N,
    Cert.InProjIdeal.Value.run_blocks m g,
    (θ_run Cert.InProjRefIdeal.defs _ _).mono (fun r h c => ⟨(h c).1.trans (by
        rw [(hagree c).1, (hagree c).2]
        exact (Cert.InProjRefIdeal.Read.val_main_v5_eq _ _).trans (Cert.InProjIdeal.Final.final m c).symm),
      (h c).2⟩)
      (Cert.InProjRefIdeal.Value.run (F := Ideal) m' g')⟩

/-- The reference of `OutProj` ends, with its arguments as they were and every semaphore at zero. -/
theorem frame_OutProj : Cert.quiescent_OutProjRefIdeal := by
  intro m ρ _
  refine (θ_run Cert.OutProjRefIdeal.defs _ _).mono (fun r h => ⟨fun c => ?_, Idealize.ShloMosaic.sem_eq_zero_of_no_sems (by decide) r.2⟩)
    (Cert.OutProjRefIdeal.Value.run (F := Ideal) m ρ)
  have hc := h c
  simp only [hc, and_self]

/-- The kernel of `OutProj` and its reference leave the same results. -/
theorem value_OutProj : Cert.algebraic_OutProjIdeal_OutProjRefIdeal := by
  intro m g m' g' hpre hagree
  refine ⟨fun c => (Cert.OutProjIdeal.Gen.dats m 0 c).arrAt 3 Cert.OutProjIdeal.cfg0.N,
    Cert.OutProjIdeal.Value.run_blocks m g,
    (θ_run Cert.OutProjRefIdeal.defs _ _).mono (fun r h c => ⟨(h c).1.trans (by
        rw [(hagree c).1, (hagree c).2]
        exact (Cert.OutProjRefIdeal.Read.val_main_v0_eq _ _).trans (Cert.OutProjIdeal.Final.final m c).symm),
      (h c).2⟩)
      (Cert.OutProjRefIdeal.Value.run (F := Ideal) m' g')⟩

/-- The reference of `Mlp1` ends, with its arguments as they were and every semaphore at zero. -/
theorem frame_Mlp1 : Cert.quiescent_Mlp1RefIdeal := by
  intro m ρ _
  refine (θ_run Cert.Mlp1RefIdeal.defs _ _).mono (fun r h => ⟨fun c => ?_, Idealize.ShloMosaic.sem_eq_zero_of_no_sems (by decide) r.2⟩)
    (Cert.Mlp1RefIdeal.Value.run (F := Ideal) m ρ)
  have hc := h c
  simp only [hc, and_self]

/-- The kernel of `Mlp1` and its reference leave the same results. -/
theorem value_Mlp1 : Cert.algebraic_Mlp1Ideal_Mlp1RefIdeal := by
  intro m g m' g' hpre hagree
  refine ⟨fun c => (Cert.Mlp1Ideal.Gen.dats m 0 c).arrAt 3 Cert.Mlp1Ideal.cfg0.N,
    Cert.Mlp1Ideal.Value.run_blocks m g,
    (θ_run Cert.Mlp1RefIdeal.defs _ _).mono (fun r h c => ⟨(h c).1.trans (by
        rw [(hagree c).1, (hagree c).2.1, (hagree c).2.2]
        exact (Cert.Mlp1RefIdeal.Read.val_main_v5_eq _ _ _).trans (Cert.Mlp1Ideal.Final.final m c).symm),
      (h c).2⟩)
      (Cert.Mlp1RefIdeal.Value.run (F := Ideal) m' g')⟩

/-- The reference of `Mlp2` ends, with its arguments as they were and every semaphore at zero. -/
theorem frame_Mlp2 : Cert.quiescent_Mlp2RefIdeal := by
  intro m ρ _
  refine (θ_run Cert.Mlp2RefIdeal.defs _ _).mono (fun r h => ⟨fun c => ?_, Idealize.ShloMosaic.sem_eq_zero_of_no_sems (by decide) r.2⟩)
    (Cert.Mlp2RefIdeal.Value.run (F := Ideal) m ρ)
  have hc := h c
  simp only [hc, and_self]

/-- The kernel of `Mlp2` and its reference leave the same results. -/
theorem value_Mlp2 : Cert.algebraic_Mlp2Ideal_Mlp2RefIdeal := by
  intro m g m' g' hpre hagree
  refine ⟨fun c => (Cert.Mlp2Ideal.Gen.dats m 0 c).arrAt 3 Cert.Mlp2Ideal.cfg0.N,
    Cert.Mlp2Ideal.Value.run_blocks m g,
    (θ_run Cert.Mlp2RefIdeal.defs _ _).mono (fun r h c => ⟨(h c).1.trans (by
        rw [(hagree c).1, (hagree c).2.1, (hagree c).2.2.1, (hagree c).2.2.2.1, (hagree c).2.2.2.2]
        exact (Cert.Mlp2RefIdeal.Read.val_main_v9_eq _ _ _ _ _).trans (Cert.Mlp2Ideal.Final.final m c).symm),
      (h c).2⟩)
      (Cert.Mlp2RefIdeal.Value.run (F := Ideal) m' g')⟩

/-- The reference of `AdamMod` ends, with its arguments as they were and every semaphore at zero. -/
theorem frame_AdamMod : Cert.quiescent_AdamModRefIdeal := by
  intro m ρ _
  refine (θ_run Cert.AdamModRefIdeal.defs _ _).mono (fun r h => ⟨fun c => ?_, Idealize.ShloMosaic.sem_eq_zero_of_no_sems (by decide) r.2⟩)
    (Cert.AdamModRefIdeal.Value.run (F := Ideal) m ρ)
  have hc := h c
  simp only [hc, and_self]

/-- The kernel of `AdamMod` and its reference leave the same results. -/
theorem value_AdamMod : Cert.algebraic_AdamModIdeal_AdamModRefIdeal := by
  intro m g m' g' hpre hagree
  refine ⟨fun c => (Cert.AdamModIdeal.Gen.dats m 0 c).arrAt 4 Cert.AdamModIdeal.cfg0.N, fun c => (Cert.AdamModIdeal.Gen.dats m 0 c).arrAt 5 Cert.AdamModIdeal.cfg0.N, fun c => (Cert.AdamModIdeal.Gen.dats m 0 c).arrAt 6 Cert.AdamModIdeal.cfg0.N,
    Cert.AdamModIdeal.Value.run_blocks m g,
    (θ_run Cert.AdamModRefIdeal.defs _ _).mono (fun r h c => ⟨(h c).1.trans (by
        rw [(hagree c).1, (hagree c).2.1, (hagree c).2.2.1, (hagree c).2.2.2]
        exact (Cert.AdamModRefIdeal.Read.val_main_v24_eq _ _ _ _).trans (Cert.AdamModIdeal.Final.final4 m c).symm),
      (h c).2.1.trans (by
        rw [(hagree c).2.1, (hagree c).2.2.1]
        exact (Cert.AdamModRefIdeal.Read.val_main_v5_eq _ _).trans (Cert.AdamModIdeal.Final.final5 m c).symm),
      (h c).2.2.1.trans (by
        rw [(hagree c).2.1, (hagree c).2.2.2]
        exact (Cert.AdamModRefIdeal.Read.val_main_v11_eq _ _).trans (Cert.AdamModIdeal.Final.final6 m c).symm),
      (h c).2.2.2⟩)
      (Cert.AdamModRefIdeal.Value.run (F := Ideal) m' g')⟩

/-- The reference of `AdamMlp` ends, with its arguments as they were and every semaphore at zero. -/
theorem frame_AdamMlp : Cert.quiescent_AdamMlpRefIdeal := by
  intro m ρ _
  refine (θ_run Cert.AdamMlpRefIdeal.defs _ _).mono (fun r h => ⟨fun c => ?_, Idealize.ShloMosaic.sem_eq_zero_of_no_sems (by decide) r.2⟩)
    (Cert.AdamMlpRefIdeal.Value.run (F := Ideal) m ρ)
  have hc := h c
  simp only [hc, and_self]

/-- The kernel of `AdamMlp` and its reference leave the same results. -/
theorem value_AdamMlp : Cert.algebraic_AdamMlpIdeal_AdamMlpRefIdeal := by
  intro m g m' g' hpre hagree
  refine ⟨fun c => (Cert.AdamMlpIdeal.Gen.dats m 0 c).arrAt 4 Cert.AdamMlpIdeal.cfg0.N, fun c => (Cert.AdamMlpIdeal.Gen.dats m 0 c).arrAt 5 Cert.AdamMlpIdeal.cfg0.N, fun c => (Cert.AdamMlpIdeal.Gen.dats m 0 c).arrAt 6 Cert.AdamMlpIdeal.cfg0.N, fun c => (Cert.AdamMlpIdeal.Gen.dats m 0 c).arrAt 7 Cert.AdamMlpIdeal.cfg0.N,
    Cert.AdamMlpIdeal.Value.run_blocks m g,
    (θ_run Cert.AdamMlpRefIdeal.defs _ _).mono (fun r h c => ⟨(h c).1.trans (by
        rw [(hagree c).1, (hagree c).2.1, (hagree c).2.2.1, (hagree c).2.2.2]
        exact (Cert.AdamMlpRefIdeal.Read.val_main_v24_eq _ _ _ _).trans (Cert.AdamMlpIdeal.Final.final4 m c).symm),
      (h c).2.1.trans (by
        rw [(hagree c).2.1, (hagree c).2.2.1]
        exact (Cert.AdamMlpRefIdeal.Read.val_main_v5_eq _ _).trans (Cert.AdamMlpIdeal.Final.final5 m c).symm),
      (h c).2.2.1.trans (by
        rw [(hagree c).2.1, (hagree c).2.2.2]
        exact (Cert.AdamMlpRefIdeal.Read.val_main_v11_eq _ _).trans (Cert.AdamMlpIdeal.Final.final6 m c).symm),
      (h c).2.2.2.1.trans (by
        rw [(hagree c).2.1]
        exact (Cert.AdamMlpRefIdeal.Read.val_main_v25_eq _).trans (Cert.AdamMlpIdeal.Final.final7 m c).symm),
      (h c).2.2.2.2⟩)
      (Cert.AdamMlpRefIdeal.Value.run (F := Ideal) m' g')⟩

/-- The reference of `AdamIn` ends, with its arguments as they were and every semaphore at zero. -/
theorem frame_AdamIn : Cert.quiescent_AdamInRefIdeal := by
  intro m ρ _
  refine (θ_run Cert.AdamInRefIdeal.defs _ _).mono (fun r h => ⟨fun c => ?_, Idealize.ShloMosaic.sem_eq_zero_of_no_sems (by decide) r.2⟩)
    (Cert.AdamInRefIdeal.Value.run (F := Ideal) m ρ)
  have hc := h c
  simp only [hc, and_self]

/-- The kernel of `AdamIn` and its reference leave the same results. -/
theorem value_AdamIn : Cert.algebraic_AdamInIdeal_AdamInRefIdeal := by
  intro m g m' g' hpre hagree
  refine ⟨fun c => (Cert.AdamInIdeal.Gen.dats m 0 c).arrAt 4 Cert.AdamInIdeal.cfg0.N, fun c => (Cert.AdamInIdeal.Gen.dats m 0 c).arrAt 5 Cert.AdamInIdeal.cfg0.N, fun c => (Cert.AdamInIdeal.Gen.dats m 0 c).arrAt 6 Cert.AdamInIdeal.cfg0.N, fun c => (Cert.AdamInIdeal.Gen.dats m 0 c).arrAt 7 Cert.AdamInIdeal.cfg0.N,
    Cert.AdamInIdeal.Value.run_blocks m g,
    (θ_run Cert.AdamInRefIdeal.defs _ _).mono (fun r h c => ⟨(h c).1.trans (by
        rw [(hagree c).1, (hagree c).2.1, (hagree c).2.2.1, (hagree c).2.2.2]
        exact (Cert.AdamInRefIdeal.Read.val_main_v27_eq _ _ _ _).trans (Cert.AdamInIdeal.Final.final4 m c).symm),
      (h c).2.1.trans (by
        rw [(hagree c).2.1, (hagree c).2.2.1]
        exact (Cert.AdamInRefIdeal.Read.val_main_v29_eq _ _).trans (Cert.AdamInIdeal.Final.final5 m c).symm),
      (h c).2.2.1.trans (by
        rw [(hagree c).2.1, (hagree c).2.2.2]
        exact (Cert.AdamInRefIdeal.Read.val_main_v31_eq _ _).trans (Cert.AdamInIdeal.Final.final6 m c).symm),
      (h c).2.2.2.1.trans (by
        rw [(hagree c).2.1]
        exact (Cert.AdamInIdeal.Final.final7 m c).symm),
      (h c).2.2.2.2⟩)
      (Cert.AdamInRefIdeal.Value.run (F := Ideal) m' g')⟩

/-- The reference of `AdamOut` ends, with its arguments as they were and every semaphore at zero. -/
theorem frame_AdamOut : Cert.quiescent_AdamOutRefIdeal := by
  intro m ρ _
  refine (θ_run Cert.AdamOutRefIdeal.defs _ _).mono (fun r h => ⟨fun c => ?_, Idealize.ShloMosaic.sem_eq_zero_of_no_sems (by decide) r.2⟩)
    (Cert.AdamOutRefIdeal.Value.run (F := Ideal) m ρ)
  have hc := h c
  simp only [hc, and_self]

/-- The kernel of `AdamOut` and its reference leave the same results. -/
theorem value_AdamOut : Cert.algebraic_AdamOutIdeal_AdamOutRefIdeal := by
  intro m g m' g' hpre hagree
  refine ⟨fun c => (Cert.AdamOutIdeal.Gen.dats m 0 c).arrAt 4 Cert.AdamOutIdeal.cfg0.N, fun c => (Cert.AdamOutIdeal.Gen.dats m 0 c).arrAt 5 Cert.AdamOutIdeal.cfg0.N, fun c => (Cert.AdamOutIdeal.Gen.dats m 0 c).arrAt 6 Cert.AdamOutIdeal.cfg0.N, fun c => (Cert.AdamOutIdeal.Gen.dats m 0 c).arrAt 7 Cert.AdamOutIdeal.cfg0.N,
    Cert.AdamOutIdeal.Value.run_blocks m g,
    (θ_run Cert.AdamOutRefIdeal.defs _ _).mono (fun r h c => ⟨(h c).1.trans (by
        rw [(hagree c).1, (hagree c).2.1, (hagree c).2.2.1, (hagree c).2.2.2]
        exact (Cert.AdamOutRefIdeal.Read.val_main_v24_eq _ _ _ _).trans (Cert.AdamOutIdeal.Final.final4 m c).symm),
      (h c).2.1.trans (by
        rw [(hagree c).2.1, (hagree c).2.2.1]
        exact (Cert.AdamOutRefIdeal.Read.val_main_v5_eq _ _).trans (Cert.AdamOutIdeal.Final.final5 m c).symm),
      (h c).2.2.1.trans (by
        rw [(hagree c).2.1, (hagree c).2.2.2]
        exact (Cert.AdamOutRefIdeal.Read.val_main_v11_eq _ _).trans (Cert.AdamOutIdeal.Final.final6 m c).symm),
      (h c).2.2.2.1.trans (by
        rw [(hagree c).2.1]
        exact (Cert.AdamOutRefIdeal.Read.val_main_v25_eq _).trans (Cert.AdamOutIdeal.Final.final7 m c).symm),
      (h c).2.2.2.2⟩)
      (Cert.AdamOutRefIdeal.Value.run (F := Ideal) m' g')⟩

/-- The reference of `AdamSmall` ends, with its arguments as they were and every semaphore at zero. -/
theorem frame_AdamSmall : Cert.quiescent_AdamSmallRefIdeal := by
  intro m ρ _
  refine (θ_run Cert.AdamSmallRefIdeal.defs _ _).mono (fun r h => ⟨fun c => ?_, Idealize.ShloMosaic.sem_eq_zero_of_no_sems (by decide) r.2⟩)
    (Cert.AdamSmallRefIdeal.Value.run (F := Ideal) m ρ)
  have hc := h c
  simp only [hc, and_self]

set_option maxHeartbeats 4000000 in
/-- The kernel of `AdamSmall` and its reference leave the same results. -/
theorem value_AdamSmall : Cert.algebraic_AdamSmallIdeal_AdamSmallRefIdeal := by
  intro m g m' g' hpre hagree
  refine ⟨fun c => (Cert.AdamSmallIdeal.Gen.dats m 0 c).arrAt 4 Cert.AdamSmallIdeal.cfg0.N, fun c => (Cert.AdamSmallIdeal.Gen.dats m 0 c).arrAt 5 Cert.AdamSmallIdeal.cfg0.N, fun c => (Cert.AdamSmallIdeal.Gen.dats m 0 c).arrAt 6 Cert.AdamSmallIdeal.cfg0.N,
    Cert.AdamSmallIdeal.Value.run_blocks m g,
    (θ_run Cert.AdamSmallRefIdeal.defs _ _).mono (fun r h c => ⟨(h c).1.trans (((Cert.AdamSmallRefIdeal.Read.val_main_v501_eq (F := Ideal) _).trans (by
        show Cert.AdamSmallRefIdeal.Read.val_main_v501 (F := Ideal) (m' ((c.tc : Thread Cert.AdamSmallRefIdeal.nD Cert.AdamSmallRefIdeal.τ).loc Cert.AdamSmallRefIdeal.main_arg0)) (m' ((c.tc : Thread Cert.AdamSmallRefIdeal.nD Cert.AdamSmallRefIdeal.τ).loc Cert.AdamSmallRefIdeal.main_arg1)) (m' ((c.tc : Thread Cert.AdamSmallRefIdeal.nD Cert.AdamSmallRefIdeal.τ).loc Cert.AdamSmallRefIdeal.main_arg2)) (m' ((c.tc : Thread Cert.AdamSmallRefIdeal.nD Cert.AdamSmallRefIdeal.τ).loc Cert.AdamSmallRefIdeal.main_arg3)) (m' ((c.tc : Thread Cert.AdamSmallRefIdeal.nD Cert.AdamSmallRefIdeal.τ).loc Cert.AdamSmallRefIdeal.main_arg4)) (m' ((c.tc : Thread Cert.AdamSmallRefIdeal.nD Cert.AdamSmallRefIdeal.τ).loc Cert.AdamSmallRefIdeal.main_arg5)) (m' ((c.tc : Thread Cert.AdamSmallRefIdeal.nD Cert.AdamSmallRefIdeal.τ).loc Cert.AdamSmallRefIdeal.main_arg6)) (m' ((c.tc : Thread Cert.AdamSmallRefIdeal.nD Cert.AdamSmallRefIdeal.τ).loc Cert.AdamSmallRefIdeal.main_arg7)) (m' ((c.tc : Thread Cert.AdamSmallRefIdeal.nD Cert.AdamSmallRefIdeal.τ).loc Cert.AdamSmallRefIdeal.main_arg8)) (m' ((c.tc : Thread Cert.AdamSmallRefIdeal.nD Cert.AdamSmallRefIdeal.τ).loc Cert.AdamSmallRefIdeal.main_arg9)) (m' ((c.tc : Thread Cert.AdamSmallRefIdeal.nD Cert.AdamSmallRefIdeal.τ).loc Cert.AdamSmallRefIdeal.main_arg10)) (m' ((c.tc : Thread Cert.AdamSmallRefIdeal.nD Cert.AdamSmallRefIdeal.τ).loc Cert.AdamSmallRefIdeal.main_arg11)) (m' ((c.tc : Thread Cert.AdamSmallRefIdeal.nD Cert.AdamSmallRefIdeal.τ).loc Cert.AdamSmallRefIdeal.main_arg12)) (m' ((c.tc : Thread Cert.AdamSmallRefIdeal.nD Cert.AdamSmallRefIdeal.τ).loc Cert.AdamSmallRefIdeal.main_arg13)) (m' ((c.tc : Thread Cert.AdamSmallRefIdeal.nD Cert.AdamSmallRefIdeal.τ).loc Cert.AdamSmallRefIdeal.main_arg14)) (m' ((c.tc : Thread Cert.AdamSmallRefIdeal.nD Cert.AdamSmallRefIdeal.τ).loc Cert.AdamSmallRefIdeal.main_arg15)) (m' ((c.tc : Thread Cert.AdamSmallRefIdeal.nD Cert.AdamSmallRefIdeal.τ).loc Cert.AdamSmallRefIdeal.main_arg16)) (m' ((c.tc : Thread Cert.AdamSmallRefIdeal.nD Cert.AdamSmallRefIdeal.τ).loc Cert.AdamSmallRefIdeal.main_arg17)) (m' ((c.tc : Thread Cert.AdamSmallRefIdeal.nD Cert.AdamSmallRefIdeal.τ).loc Cert.AdamSmallRefIdeal.main_arg18)) (m' ((c.tc : Thread Cert.AdamSmallRefIdeal.nD Cert.AdamSmallRefIdeal.τ).loc Cert.AdamSmallRefIdeal.main_arg19)) (m' ((c.tc : Thread Cert.AdamSmallRefIdeal.nD Cert.AdamSmallRefIdeal.τ).loc Cert.AdamSmallRefIdeal.main_arg20)) (m' ((c.tc : Thread Cert.AdamSmallRefIdeal.nD Cert.AdamSmallRefIdeal.τ).loc Cert.AdamSmallRefIdeal.main_arg21)) (m' ((c.tc : Thread Cert.AdamSmallRefIdeal.nD Cert.AdamSmallRefIdeal.τ).loc Cert.AdamSmallRefIdeal.main_arg22)) (m' ((c.tc : Thread Cert.AdamSmallRefIdeal.nD Cert.AdamSmallRefIdeal.τ).loc Cert.AdamSmallRefIdeal.main_arg23)) (m' ((c.tc : Thread Cert.AdamSmallRefIdeal.nD Cert.AdamSmallRefIdeal.τ).loc Cert.AdamSmallRefIdeal.main_arg24)) (m' ((c.tc : Thread Cert.AdamSmallRefIdeal.nD Cert.AdamSmallRefIdeal.τ).loc Cert.AdamSmallRefIdeal.main_arg25)) (m' ((c.tc : Thread Cert.AdamSmallRefIdeal.nD Cert.AdamSmallRefIdeal.τ).loc Cert.AdamSmallRefIdeal.main_arg26)) (m' ((c.tc : Thread Cert.AdamSmallRefIdeal.nD Cert.AdamSmallRefIdeal.τ).loc Cert.AdamSmallRefIdeal.main_arg27)) (m' ((c.tc : Thread Cert.AdamSmallRefIdeal.nD Cert.AdamSmallRefIdeal.τ).loc Cert.AdamSmallRefIdeal.main_arg28)) (m' ((c.tc : Thread Cert.AdamSmallRefIdeal.nD Cert.AdamSmallRefIdeal.τ).loc Cert.AdamSmallRefIdeal.main_arg29)) (m' ((c.tc : Thread Cert.AdamSmallRefIdeal.nD Cert.AdamSmallRefIdeal.τ).loc Cert.AdamSmallRefIdeal.main_arg30)) (m' ((c.tc : Thread Cert.AdamSmallRefIdeal.nD Cert.AdamSmallRefIdeal.τ).loc Cert.AdamSmallRefIdeal.main_arg31)) (m' ((c.tc : Thread Cert.AdamSmallRefIdeal.nD Cert.AdamSmallRefIdeal.τ).loc Cert.AdamSmallRefIdeal.main_arg32)) (m' ((c.tc : Thread Cert.AdamSmallRefIdeal.nD Cert.AdamSmallRefIdeal.τ).loc Cert.AdamSmallRefIdeal.main_arg33)) (m' ((c.tc : Thread Cert.AdamSmallRefIdeal.nD Cert.AdamSmallRefIdeal.τ).loc Cert.AdamSmallRefIdeal.main_arg34)) (m' ((c.tc : Thread Cert.AdamSmallRefIdeal.nD Cert.AdamSmallRefIdeal.τ).loc Cert.AdamSmallRefIdeal.main_arg35)) (m' ((c.tc : Thread Cert.AdamSmallRefIdeal.nD Cert.AdamSmallRefIdeal.τ).loc Cert.AdamSmallRefIdeal.main_arg36)) (m' ((c.tc : Thread Cert.AdamSmallRefIdeal.nD Cert.AdamSmallRefIdeal.τ).loc Cert.AdamSmallRefIdeal.main_arg37)) (m' ((c.tc : Thread Cert.AdamSmallRefIdeal.nD Cert.AdamSmallRefIdeal.τ).loc Cert.AdamSmallRefIdeal.main_arg38)) (m' ((c.tc : Thread Cert.AdamSmallRefIdeal.nD Cert.AdamSmallRefIdeal.τ).loc Cert.AdamSmallRefIdeal.main_arg39)) (m' ((c.tc : Thread Cert.AdamSmallRefIdeal.nD Cert.AdamSmallRefIdeal.τ).loc Cert.AdamSmallRefIdeal.main_arg40)) (m' ((c.tc : Thread Cert.AdamSmallRefIdeal.nD Cert.AdamSmallRefIdeal.τ).loc Cert.AdamSmallRefIdeal.main_arg41)) (m' ((c.tc : Thread Cert.AdamSmallRefIdeal.nD Cert.AdamSmallRefIdeal.τ).loc Cert.AdamSmallRefIdeal.main_arg42)) (m' ((c.tc : Thread Cert.AdamSmallRefIdeal.nD Cert.AdamSmallRefIdeal.τ).loc Cert.AdamSmallRefIdeal.main_arg43)) (m' ((c.tc : Thread Cert.AdamSmallRefIdeal.nD Cert.AdamSmallRefIdeal.τ).loc Cert.AdamSmallRefIdeal.main_arg44)) (m' ((c.tc : Thread Cert.AdamSmallRefIdeal.nD Cert.AdamSmallRefIdeal.τ).loc Cert.AdamSmallRefIdeal.main_arg45)) (m' ((c.tc : Thread Cert.AdamSmallRefIdeal.nD Cert.AdamSmallRefIdeal.τ).loc Cert.AdamSmallRefIdeal.main_arg46)) (m' ((c.tc : Thread Cert.AdamSmallRefIdeal.nD Cert.AdamSmallRefIdeal.τ).loc Cert.AdamSmallRefIdeal.main_arg47)) (m' ((c.tc : Thread Cert.AdamSmallRefIdeal.nD Cert.AdamSmallRefIdeal.τ).loc Cert.AdamSmallRefIdeal.main_arg48)) (m' ((c.tc : Thread Cert.AdamSmallRefIdeal.nD Cert.AdamSmallRefIdeal.τ).loc Cert.AdamSmallRefIdeal.main_arg49)) (m' ((c.tc : Thread Cert.AdamSmallRefIdeal.nD Cert.AdamSmallRefIdeal.τ).loc Cert.AdamSmallRefIdeal.main_arg50)) (m' ((c.tc : Thread Cert.AdamSmallRefIdeal.nD Cert.AdamSmallRefIdeal.τ).loc Cert.AdamSmallRefIdeal.main_arg51)) (m' ((c.tc : Thread Cert.AdamSmallRefIdeal.nD Cert.AdamSmallRefIdeal.τ).loc Cert.AdamSmallRefIdeal.main_arg52)) (m' ((c.tc : Thread Cert.AdamSmallRefIdeal.nD Cert.AdamSmallRefIdeal.τ).loc Cert.AdamSmallRefIdeal.main_arg53)) (m' ((c.tc : Thread Cert.AdamSmallRefIdeal.nD Cert.AdamSmallRefIdeal.τ).loc Cert.AdamSmallRefIdeal.main_arg54)) (m' ((c.tc : Thread Cert.AdamSmallRefIdeal.nD Cert.AdamSmallRefIdeal.τ).loc Cert.AdamSmallRefIdeal.main_arg55)) (m' ((c.tc : Thread Cert.AdamSmallRefIdeal.nD Cert.AdamSmallRefIdeal.τ).loc Cert.AdamSmallRefIdeal.main_arg56)) (m' ((c.tc : Thread Cert.AdamSmallRefIdeal.nD Cert.AdamSmallRefIdeal.τ).loc Cert.AdamSmallRefIdeal.main_arg57)) (m' ((c.tc : Thread Cert.AdamSmallRefIdeal.nD Cert.AdamSmallRefIdeal.τ).loc Cert.AdamSmallRefIdeal.main_arg58)) (m' ((c.tc : Thread Cert.AdamSmallRefIdeal.nD Cert.AdamSmallRefIdeal.τ).loc Cert.AdamSmallRefIdeal.main_arg59)) (m' ((c.tc : Thread Cert.AdamSmallRefIdeal.nD Cert.AdamSmallRefIdeal.τ).loc Cert.AdamSmallRefIdeal.main_arg60)) (m' ((c.tc : Thread Cert.AdamSmallRefIdeal.nD Cert.AdamSmallRefIdeal.τ).loc Cert.AdamSmallRefIdeal.main_arg61)) (m' ((c.tc : Thread Cert.AdamSmallRefIdeal.nD Cert.AdamSmallRefIdeal.τ).loc Cert.AdamSmallRefIdeal.main_arg62)) (m' ((c.tc : Thread Cert.AdamSmallRefIdeal.nD Cert.AdamSmallRefIdeal.τ).loc Cert.AdamSmallRefIdeal.main_arg63)) (m' ((c.tc : Thread Cert.AdamSmallRefIdeal.nD Cert.AdamSmallRefIdeal.τ).loc Cert.AdamSmallRefIdeal.main_arg64)) (m' ((c.tc : Thread Cert.AdamSmallRefIdeal.nD Cert.AdamSmallRefIdeal.τ).loc Cert.AdamSmallRefIdeal.main_arg65)) (m' ((c.tc : Thread Cert.AdamSmallRefIdeal.nD Cert.AdamSmallRefIdeal.τ).loc Cert.AdamSmallRefIdeal.main_arg66)) (m' ((c.tc : Thread Cert.AdamSmallRefIdeal.nD Cert.AdamSmallRefIdeal.τ).loc Cert.AdamSmallRefIdeal.main_arg67)) (m' ((c.tc : Thread Cert.AdamSmallRefIdeal.nD Cert.AdamSmallRefIdeal.τ).loc Cert.AdamSmallRefIdeal.main_arg68)) (m' ((c.tc : Thread Cert.AdamSmallRefIdeal.nD Cert.AdamSmallRefIdeal.τ).loc Cert.AdamSmallRefIdeal.main_arg69)) (m' ((c.tc : Thread Cert.AdamSmallRefIdeal.nD Cert.AdamSmallRefIdeal.τ).loc Cert.AdamSmallRefIdeal.main_arg70)) (m' ((c.tc : Thread Cert.AdamSmallRefIdeal.nD Cert.AdamSmallRefIdeal.τ).loc Cert.AdamSmallRefIdeal.main_arg71)) (m' ((c.tc : Thread Cert.AdamSmallRefIdeal.nD Cert.AdamSmallRefIdeal.τ).loc Cert.AdamSmallRefIdeal.main_arg72)) (m' ((c.tc : Thread Cert.AdamSmallRefIdeal.nD Cert.AdamSmallRefIdeal.τ).loc Cert.AdamSmallRefIdeal.main_arg73)) (m' ((c.tc : Thread Cert.AdamSmallRefIdeal.nD Cert.AdamSmallRefIdeal.τ).loc Cert.AdamSmallRefIdeal.main_arg74)) (m' ((c.tc : Thread Cert.AdamSmallRefIdeal.nD Cert.AdamSmallRefIdeal.τ).loc Cert.AdamSmallRefIdeal.main_arg75)) (m' ((c.tc : Thread Cert.AdamSmallRefIdeal.nD Cert.AdamSmallRefIdeal.τ).loc Cert.AdamSmallRefIdeal.main_arg76)) (m' ((c.tc : Thread Cert.AdamSmallRefIdeal.nD Cert.AdamSmallRefIdeal.τ).loc Cert.AdamSmallRefIdeal.main_arg77)) (m' ((c.tc : Thread Cert.AdamSmallRefIdeal.nD Cert.AdamSmallRefIdeal.τ).loc Cert.AdamSmallRefIdeal.main_arg78)) (m' ((c.tc : Thread Cert.AdamSmallRefIdeal.nD Cert.AdamSmallRefIdeal.τ).loc Cert.AdamSmallRefIdeal.main_arg79)) = _
        rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2])).trans (Cert.AdamSmallIdeal.Final.final4 m c).symm),
      (h c).2.1.trans (((Cert.AdamSmallRefIdeal.Read.val_main_v523_eq (F := Ideal) _).trans (by
        show Cert.AdamSmallRefIdeal.Read.val_main_v523 (F := Ideal) (m' ((c.tc : Thread Cert.AdamSmallRefIdeal.nD Cert.AdamSmallRefIdeal.τ).loc Cert.AdamSmallRefIdeal.main_arg20)) (m' ((c.tc : Thread Cert.AdamSmallRefIdeal.nD Cert.AdamSmallRefIdeal.τ).loc Cert.AdamSmallRefIdeal.main_arg21)) (m' ((c.tc : Thread Cert.AdamSmallRefIdeal.nD Cert.AdamSmallRefIdeal.τ).loc Cert.AdamSmallRefIdeal.main_arg22)) (m' ((c.tc : Thread Cert.AdamSmallRefIdeal.nD Cert.AdamSmallRefIdeal.τ).loc Cert.AdamSmallRefIdeal.main_arg23)) (m' ((c.tc : Thread Cert.AdamSmallRefIdeal.nD Cert.AdamSmallRefIdeal.τ).loc Cert.AdamSmallRefIdeal.main_arg24)) (m' ((c.tc : Thread Cert.AdamSmallRefIdeal.nD Cert.AdamSmallRefIdeal.τ).loc Cert.AdamSmallRefIdeal.main_arg25)) (m' ((c.tc : Thread Cert.AdamSmallRefIdeal.nD Cert.AdamSmallRefIdeal.τ).loc Cert.AdamSmallRefIdeal.main_arg26)) (m' ((c.tc : Thread Cert.AdamSmallRefIdeal.nD Cert.AdamSmallRefIdeal.τ).loc Cert.AdamSmallRefIdeal.main_arg27)) (m' ((c.tc : Thread Cert.AdamSmallRefIdeal.nD Cert.AdamSmallRefIdeal.τ).loc Cert.AdamSmallRefIdeal.main_arg28)) (m' ((c.tc : Thread Cert.AdamSmallRefIdeal.nD Cert.AdamSmallRefIdeal.τ).loc Cert.AdamSmallRefIdeal.main_arg29)) (m' ((c.tc : Thread Cert.AdamSmallRefIdeal.nD Cert.AdamSmallRefIdeal.τ).loc Cert.AdamSmallRefIdeal.main_arg30)) (m' ((c.tc : Thread Cert.AdamSmallRefIdeal.nD Cert.AdamSmallRefIdeal.τ).loc Cert.AdamSmallRefIdeal.main_arg31)) (m' ((c.tc : Thread Cert.AdamSmallRefIdeal.nD Cert.AdamSmallRefIdeal.τ).loc Cert.AdamSmallRefIdeal.main_arg32)) (m' ((c.tc : Thread Cert.AdamSmallRefIdeal.nD Cert.AdamSmallRefIdeal.τ).loc Cert.AdamSmallRefIdeal.main_arg33)) (m' ((c.tc : Thread Cert.AdamSmallRefIdeal.nD Cert.AdamSmallRefIdeal.τ).loc Cert.AdamSmallRefIdeal.main_arg34)) (m' ((c.tc : Thread Cert.AdamSmallRefIdeal.nD Cert.AdamSmallRefIdeal.τ).loc Cert.AdamSmallRefIdeal.main_arg35)) (m' ((c.tc : Thread Cert.AdamSmallRefIdeal.nD Cert.AdamSmallRefIdeal.τ).loc Cert.AdamSmallRefIdeal.main_arg36)) (m' ((c.tc : Thread Cert.AdamSmallRefIdeal.nD Cert.AdamSmallRefIdeal.τ).loc Cert.AdamSmallRefIdeal.main_arg37)) (m' ((c.tc : Thread Cert.AdamSmallRefIdeal.nD Cert.AdamSmallRefIdeal.τ).loc Cert.AdamSmallRefIdeal.main_arg38)) (m' ((c.tc : Thread Cert.AdamSmallRefIdeal.nD Cert.AdamSmallRefIdeal.τ).loc Cert.AdamSmallRefIdeal.main_arg39)) (m' ((c.tc : Thread Cert.AdamSmallRefIdeal.nD Cert.AdamSmallRefIdeal.τ).loc Cert.AdamSmallRefIdeal.main_arg40)) (m' ((c.tc : Thread Cert.AdamSmallRefIdeal.nD Cert.AdamSmallRefIdeal.τ).loc Cert.AdamSmallRefIdeal.main_arg41)) (m' ((c.tc : Thread Cert.AdamSmallRefIdeal.nD Cert.AdamSmallRefIdeal.τ).loc Cert.AdamSmallRefIdeal.main_arg42)) (m' ((c.tc : Thread Cert.AdamSmallRefIdeal.nD Cert.AdamSmallRefIdeal.τ).loc Cert.AdamSmallRefIdeal.main_arg43)) (m' ((c.tc : Thread Cert.AdamSmallRefIdeal.nD Cert.AdamSmallRefIdeal.τ).loc Cert.AdamSmallRefIdeal.main_arg44)) (m' ((c.tc : Thread Cert.AdamSmallRefIdeal.nD Cert.AdamSmallRefIdeal.τ).loc Cert.AdamSmallRefIdeal.main_arg45)) (m' ((c.tc : Thread Cert.AdamSmallRefIdeal.nD Cert.AdamSmallRefIdeal.τ).loc Cert.AdamSmallRefIdeal.main_arg46)) (m' ((c.tc : Thread Cert.AdamSmallRefIdeal.nD Cert.AdamSmallRefIdeal.τ).loc Cert.AdamSmallRefIdeal.main_arg47)) (m' ((c.tc : Thread Cert.AdamSmallRefIdeal.nD Cert.AdamSmallRefIdeal.τ).loc Cert.AdamSmallRefIdeal.main_arg48)) (m' ((c.tc : Thread Cert.AdamSmallRefIdeal.nD Cert.AdamSmallRefIdeal.τ).loc Cert.AdamSmallRefIdeal.main_arg49)) (m' ((c.tc : Thread Cert.AdamSmallRefIdeal.nD Cert.AdamSmallRefIdeal.τ).loc Cert.AdamSmallRefIdeal.main_arg50)) (m' ((c.tc : Thread Cert.AdamSmallRefIdeal.nD Cert.AdamSmallRefIdeal.τ).loc Cert.AdamSmallRefIdeal.main_arg51)) (m' ((c.tc : Thread Cert.AdamSmallRefIdeal.nD Cert.AdamSmallRefIdeal.τ).loc Cert.AdamSmallRefIdeal.main_arg52)) (m' ((c.tc : Thread Cert.AdamSmallRefIdeal.nD Cert.AdamSmallRefIdeal.τ).loc Cert.AdamSmallRefIdeal.main_arg53)) (m' ((c.tc : Thread Cert.AdamSmallRefIdeal.nD Cert.AdamSmallRefIdeal.τ).loc Cert.AdamSmallRefIdeal.main_arg54)) (m' ((c.tc : Thread Cert.AdamSmallRefIdeal.nD Cert.AdamSmallRefIdeal.τ).loc Cert.AdamSmallRefIdeal.main_arg55)) (m' ((c.tc : Thread Cert.AdamSmallRefIdeal.nD Cert.AdamSmallRefIdeal.τ).loc Cert.AdamSmallRefIdeal.main_arg56)) (m' ((c.tc : Thread Cert.AdamSmallRefIdeal.nD Cert.AdamSmallRefIdeal.τ).loc Cert.AdamSmallRefIdeal.main_arg57)) (m' ((c.tc : Thread Cert.AdamSmallRefIdeal.nD Cert.AdamSmallRefIdeal.τ).loc Cert.AdamSmallRefIdeal.main_arg58)) (m' ((c.tc : Thread Cert.AdamSmallRefIdeal.nD Cert.AdamSmallRefIdeal.τ).loc Cert.AdamSmallRefIdeal.main_arg59)) = _
        rw [(hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.1])).trans (Cert.AdamSmallIdeal.Final.final5 m c).symm),
      (h c).2.2.1.trans (((Cert.AdamSmallRefIdeal.Read.val_main_v545_eq (F := Ideal) _).trans (by
        show Cert.AdamSmallRefIdeal.Read.val_main_v545 (F := Ideal) (m' ((c.tc : Thread Cert.AdamSmallRefIdeal.nD Cert.AdamSmallRefIdeal.τ).loc Cert.AdamSmallRefIdeal.main_arg20)) (m' ((c.tc : Thread Cert.AdamSmallRefIdeal.nD Cert.AdamSmallRefIdeal.τ).loc Cert.AdamSmallRefIdeal.main_arg21)) (m' ((c.tc : Thread Cert.AdamSmallRefIdeal.nD Cert.AdamSmallRefIdeal.τ).loc Cert.AdamSmallRefIdeal.main_arg22)) (m' ((c.tc : Thread Cert.AdamSmallRefIdeal.nD Cert.AdamSmallRefIdeal.τ).loc Cert.AdamSmallRefIdeal.main_arg23)) (m' ((c.tc : Thread Cert.AdamSmallRefIdeal.nD Cert.AdamSmallRefIdeal.τ).loc Cert.AdamSmallRefIdeal.main_arg24)) (m' ((c.tc : Thread Cert.AdamSmallRefIdeal.nD Cert.AdamSmallRefIdeal.τ).loc Cert.AdamSmallRefIdeal.main_arg25)) (m' ((c.tc : Thread Cert.AdamSmallRefIdeal.nD Cert.AdamSmallRefIdeal.τ).loc Cert.AdamSmallRefIdeal.main_arg26)) (m' ((c.tc : Thread Cert.AdamSmallRefIdeal.nD Cert.AdamSmallRefIdeal.τ).loc Cert.AdamSmallRefIdeal.main_arg27)) (m' ((c.tc : Thread Cert.AdamSmallRefIdeal.nD Cert.AdamSmallRefIdeal.τ).loc Cert.AdamSmallRefIdeal.main_arg28)) (m' ((c.tc : Thread Cert.AdamSmallRefIdeal.nD Cert.AdamSmallRefIdeal.τ).loc Cert.AdamSmallRefIdeal.main_arg29)) (m' ((c.tc : Thread Cert.AdamSmallRefIdeal.nD Cert.AdamSmallRefIdeal.τ).loc Cert.AdamSmallRefIdeal.main_arg30)) (m' ((c.tc : Thread Cert.AdamSmallRefIdeal.nD Cert.AdamSmallRefIdeal.τ).loc Cert.AdamSmallRefIdeal.main_arg31)) (m' ((c.tc : Thread Cert.AdamSmallRefIdeal.nD Cert.AdamSmallRefIdeal.τ).loc Cert.AdamSmallRefIdeal.main_arg32)) (m' ((c.tc : Thread Cert.AdamSmallRefIdeal.nD Cert.AdamSmallRefIdeal.τ).loc Cert.AdamSmallRefIdeal.main_arg33)) (m' ((c.tc : Thread Cert.AdamSmallRefIdeal.nD Cert.AdamSmallRefIdeal.τ).loc Cert.AdamSmallRefIdeal.main_arg34)) (m' ((c.tc : Thread Cert.AdamSmallRefIdeal.nD Cert.AdamSmallRefIdeal.τ).loc Cert.AdamSmallRefIdeal.main_arg35)) (m' ((c.tc : Thread Cert.AdamSmallRefIdeal.nD Cert.AdamSmallRefIdeal.τ).loc Cert.AdamSmallRefIdeal.main_arg36)) (m' ((c.tc : Thread Cert.AdamSmallRefIdeal.nD Cert.AdamSmallRefIdeal.τ).loc Cert.AdamSmallRefIdeal.main_arg37)) (m' ((c.tc : Thread Cert.AdamSmallRefIdeal.nD Cert.AdamSmallRefIdeal.τ).loc Cert.AdamSmallRefIdeal.main_arg38)) (m' ((c.tc : Thread Cert.AdamSmallRefIdeal.nD Cert.AdamSmallRefIdeal.τ).loc Cert.AdamSmallRefIdeal.main_arg39)) (m' ((c.tc : Thread Cert.AdamSmallRefIdeal.nD Cert.AdamSmallRefIdeal.τ).loc Cert.AdamSmallRefIdeal.main_arg60)) (m' ((c.tc : Thread Cert.AdamSmallRefIdeal.nD Cert.AdamSmallRefIdeal.τ).loc Cert.AdamSmallRefIdeal.main_arg61)) (m' ((c.tc : Thread Cert.AdamSmallRefIdeal.nD Cert.AdamSmallRefIdeal.τ).loc Cert.AdamSmallRefIdeal.main_arg62)) (m' ((c.tc : Thread Cert.AdamSmallRefIdeal.nD Cert.AdamSmallRefIdeal.τ).loc Cert.AdamSmallRefIdeal.main_arg63)) (m' ((c.tc : Thread Cert.AdamSmallRefIdeal.nD Cert.AdamSmallRefIdeal.τ).loc Cert.AdamSmallRefIdeal.main_arg64)) (m' ((c.tc : Thread Cert.AdamSmallRefIdeal.nD Cert.AdamSmallRefIdeal.τ).loc Cert.AdamSmallRefIdeal.main_arg65)) (m' ((c.tc : Thread Cert.AdamSmallRefIdeal.nD Cert.AdamSmallRefIdeal.τ).loc Cert.AdamSmallRefIdeal.main_arg66)) (m' ((c.tc : Thread Cert.AdamSmallRefIdeal.nD Cert.AdamSmallRefIdeal.τ).loc Cert.AdamSmallRefIdeal.main_arg67)) (m' ((c.tc : Thread Cert.AdamSmallRefIdeal.nD Cert.AdamSmallRefIdeal.τ).loc Cert.AdamSmallRefIdeal.main_arg68)) (m' ((c.tc : Thread Cert.AdamSmallRefIdeal.nD Cert.AdamSmallRefIdeal.τ).loc Cert.AdamSmallRefIdeal.main_arg69)) (m' ((c.tc : Thread Cert.AdamSmallRefIdeal.nD Cert.AdamSmallRefIdeal.τ).loc Cert.AdamSmallRefIdeal.main_arg70)) (m' ((c.tc : Thread Cert.AdamSmallRefIdeal.nD Cert.AdamSmallRefIdeal.τ).loc Cert.AdamSmallRefIdeal.main_arg71)) (m' ((c.tc : Thread Cert.AdamSmallRefIdeal.nD Cert.AdamSmallRefIdeal.τ).loc Cert.AdamSmallRefIdeal.main_arg72)) (m' ((c.tc : Thread Cert.AdamSmallRefIdeal.nD Cert.AdamSmallRefIdeal.τ).loc Cert.AdamSmallRefIdeal.main_arg73)) (m' ((c.tc : Thread Cert.AdamSmallRefIdeal.nD Cert.AdamSmallRefIdeal.τ).loc Cert.AdamSmallRefIdeal.main_arg74)) (m' ((c.tc : Thread Cert.AdamSmallRefIdeal.nD Cert.AdamSmallRefIdeal.τ).loc Cert.AdamSmallRefIdeal.main_arg75)) (m' ((c.tc : Thread Cert.AdamSmallRefIdeal.nD Cert.AdamSmallRefIdeal.τ).loc Cert.AdamSmallRefIdeal.main_arg76)) (m' ((c.tc : Thread Cert.AdamSmallRefIdeal.nD Cert.AdamSmallRefIdeal.τ).loc Cert.AdamSmallRefIdeal.main_arg77)) (m' ((c.tc : Thread Cert.AdamSmallRefIdeal.nD Cert.AdamSmallRefIdeal.τ).loc Cert.AdamSmallRefIdeal.main_arg78)) (m' ((c.tc : Thread Cert.AdamSmallRefIdeal.nD Cert.AdamSmallRefIdeal.τ).loc Cert.AdamSmallRefIdeal.main_arg79)) = _
        rw [(hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2])).trans (Cert.AdamSmallIdeal.Final.final6 m c).symm),
      (h c).2.2.2⟩)
      (Cert.AdamSmallRefIdeal.Value.run (F := Ideal) m' g')⟩

/-- The reference of `SumSmall` ends, with its arguments as they were and every semaphore at zero. -/
theorem frame_SumSmall : Cert.quiescent_SumSmallRefIdeal := by
  intro m ρ _
  refine (θ_run Cert.SumSmallRefIdeal.defs _ _).mono (fun r h => ⟨fun c => ?_, Idealize.ShloMosaic.sem_eq_zero_of_no_sems (by decide) r.2⟩)
    (Cert.SumSmallRefIdeal.Value.run (F := Ideal) m ρ)
  have hc := h c
  simp only [hc, and_self]

/-- The kernel of `SumSmall` and its reference leave the same results. -/
theorem value_SumSmall : Cert.algebraic_SumSmallIdeal_SumSmallRefIdeal := by
  intro m g m' g' hpre hagree
  refine ⟨fun c => (Cert.SumSmallIdeal.Gen.dats m 0 c).arrAt 1 Cert.SumSmallIdeal.cfg0.N,
    Cert.SumSmallIdeal.Value.run_blocks m g,
    (θ_run Cert.SumSmallRefIdeal.defs _ _).mono (fun r h c => ⟨(h c).1.trans (by
        rw [(hagree c)]
        exact (Cert.SumSmallRefIdeal.Read.val_main_v1_eq _).trans (Cert.SumSmallIdeal.Final.final m c).symm),
      (h c).2⟩)
      (Cert.SumSmallRefIdeal.Value.run (F := Ideal) m' g')⟩

/-- The reference of `DmodPrep` ends, with its arguments as they were and every semaphore at zero. -/
theorem frame_DmodPrep : Cert.quiescent_DmodPrepRefIdeal := by
  intro m ρ _
  refine (θ_run Cert.DmodPrepRefIdeal.defs _ _).mono (fun r h => ⟨fun c => ?_, Idealize.ShloMosaic.sem_eq_zero_of_no_sems (by decide) r.2⟩)
    (Cert.DmodPrepRefIdeal.Value.run (F := Ideal) m ρ)
  have hc := h c
  simp only [hc, and_self]

/-- The kernel of `DmodPrep` and its reference leave the same results. -/
theorem value_DmodPrep : Cert.algebraic_DmodPrepIdeal_DmodPrepRefIdeal := by
  intro m g m' g' hpre hagree
  refine ⟨fun c => (Cert.DmodPrepIdeal.Gen.dats m 0 c).arrAt 1 Cert.DmodPrepIdeal.cfg0.N, fun c => (Cert.DmodPrepIdeal.Gen.dats m 0 c).arrAt 2 Cert.DmodPrepIdeal.cfg0.N,
    Cert.DmodPrepIdeal.Value.run_blocks m g,
    (θ_run Cert.DmodPrepRefIdeal.defs _ _).mono (fun r h c => ⟨(h c).1.trans (by
        rw [(hagree c)]
        exact (Cert.DmodPrepRefIdeal.Read.val_main_v8_eq _).trans (Cert.DmodPrepIdeal.Final.final1 m c).symm),
      (h c).2.1.trans (by
        rw [(hagree c)]
        exact (Cert.DmodPrepRefIdeal.Read.val_main_v13_eq _).trans (Cert.DmodPrepIdeal.Final.final2 m c).symm),
      (h c).2.2⟩)
      (Cert.DmodPrepRefIdeal.Value.run (F := Ideal) m' g')⟩

/-- The reference of `ModBwdW` ends, with its arguments as they were and every semaphore at zero. -/
theorem frame_ModBwdW : Cert.quiescent_ModBwdWRefIdeal := by
  intro m ρ _
  refine (θ_run Cert.ModBwdWRefIdeal.defs _ _).mono (fun r h => ⟨fun c => ?_, Idealize.ShloMosaic.sem_eq_zero_of_no_sems (by decide) r.2⟩)
    (Cert.ModBwdWRefIdeal.Value.run (F := Ideal) m ρ)
  have hc := h c
  simp only [hc, and_self]

/-- The kernel of `ModBwdW` and its reference leave the same results. -/
theorem value_ModBwdW : Cert.algebraic_ModBwdWIdeal_ModBwdWRefIdeal := by
  intro m g m' g' hpre hagree
  refine ⟨fun c => (Cert.ModBwdWIdeal.Gen.dats m 0 c).arrAt 2 Cert.ModBwdWIdeal.cfg0.N,
    Cert.ModBwdWIdeal.Value.run_blocks m g,
    (θ_run Cert.ModBwdWRefIdeal.defs _ _).mono (fun r h c => ⟨(h c).1.trans (by
        rw [(hagree c).1, (hagree c).2]
        exact (Cert.ModBwdWRefIdeal.Read.val_main_v4_eq _ _).trans (Cert.ModBwdWIdeal.Final.final m c).symm),
      (h c).2⟩)
      (Cert.ModBwdWRefIdeal.Value.run (F := Ideal) m' g')⟩

/-- The reference of `ModBwdC` ends, with its arguments as they were and every semaphore at zero. -/
theorem frame_ModBwdC : Cert.quiescent_ModBwdCRefIdeal := by
  intro m ρ _
  refine (θ_run Cert.ModBwdCRefIdeal.defs _ _).mono (fun r h => ⟨fun c => ?_, Idealize.ShloMosaic.sem_eq_zero_of_no_sems (by decide) r.2⟩)
    (Cert.ModBwdCRefIdeal.Value.run (F := Ideal) m ρ)
  have hc := h c
  simp only [hc, and_self]

/-- The kernel of `ModBwdC` and its reference leave the same results. -/
theorem value_ModBwdC : Cert.algebraic_ModBwdCIdeal_ModBwdCRefIdeal := by
  intro m g m' g' hpre hagree
  refine ⟨fun c => (Cert.ModBwdCIdeal.Gen.dats m 0 c).arrAt 2 Cert.ModBwdCIdeal.cfg0.N,
    Cert.ModBwdCIdeal.Value.run_blocks m g,
    (θ_run Cert.ModBwdCRefIdeal.defs _ _).mono (fun r h c => ⟨(h c).1.trans (by
        rw [(hagree c).1, (hagree c).2]
        exact (Cert.ModBwdCRefIdeal.Read.val_main_v3_eq _ _).trans (Cert.ModBwdCIdeal.Final.final m c).symm),
      (h c).2⟩)
      (Cert.ModBwdCRefIdeal.Value.run (F := Ideal) m' g')⟩

/-- The reference of `GradX` ends, with its arguments as they were and every semaphore at zero. -/
theorem frame_GradX : Cert.quiescent_GradXRefIdeal := by
  intro m ρ _
  refine (θ_run Cert.GradXRefIdeal.defs _ _).mono (fun r h => ⟨fun c => ?_, Idealize.ShloMosaic.sem_eq_zero_of_no_sems (by decide) r.2⟩)
    (Cert.GradXRefIdeal.Value.run (F := Ideal) m ρ)
  have hc := h c
  simp only [hc, and_self]

set_option maxHeartbeats 4000000 in
/-- The kernel of `GradX` and its reference leave the same results. -/
theorem value_GradX : Cert.algebraic_GradXIdeal_GradXRefIdeal := by
  intro m g m' g' hpre hagree
  refine ⟨fun c => (Cert.GradXIdeal.Gen.dats m 0 c).arrAt 7 Cert.GradXIdeal.cfg0.N, fun c => (Cert.GradXIdeal.Gen.dats m 0 c).arrAt 8 Cert.GradXIdeal.cfg0.N, fun c => (Cert.GradXIdeal.Gen.dats m 0 c).arrAt 9 Cert.GradXIdeal.cfg0.N, fun c => (Cert.GradXIdeal.Gen.dats m 0 c).arrAt 10 Cert.GradXIdeal.cfg0.N, fun c => (Cert.GradXIdeal.Gen.dats m 0 c).arrAt 11 Cert.GradXIdeal.cfg0.N,
    Cert.GradXIdeal.Value.run_blocks m g,
    (θ_run Cert.GradXRefIdeal.defs _ _).mono (fun r h c => ⟨(h c).1.trans (((Cert.GradXRefIdeal.Read.val_main_v72_eq (F := Ideal) m' c).trans (by
        show Cert.GradXRefIdeal.Read.val_main_v72 (F := Ideal) (m' ((c.tc : Thread Cert.GradXRefIdeal.nD Cert.GradXRefIdeal.τ).loc Cert.GradXRefIdeal.main_arg0)) (m' ((c.tc : Thread Cert.GradXRefIdeal.nD Cert.GradXRefIdeal.τ).loc Cert.GradXRefIdeal.main_arg1)) (m' ((c.tc : Thread Cert.GradXRefIdeal.nD Cert.GradXRefIdeal.τ).loc Cert.GradXRefIdeal.main_arg2)) (m' ((c.tc : Thread Cert.GradXRefIdeal.nD Cert.GradXRefIdeal.τ).loc Cert.GradXRefIdeal.main_arg3)) (m' ((c.tc : Thread Cert.GradXRefIdeal.nD Cert.GradXRefIdeal.τ).loc Cert.GradXRefIdeal.main_arg6)) = _
        rw [(hagree c).1, (hagree c).2.1, (hagree c).2.2.1, (hagree c).2.2.2.1, (hagree c).2.2.2.2.2.2])).trans (Cert.GradXIdeal.Final.final7 m c).symm),
      (h c).2.1.trans (by
        rw [(hagree c).1, (hagree c).2.1, (hagree c).2.2.1, (hagree c).2.2.2.2.2.2]
        exact (Cert.GradXRefIdeal.Read.val_main_v73_eq _ _ _ _).trans (Cert.GradXIdeal.Final.final8 m c).symm),
      (h c).2.2.1.trans (by
        rw [(hagree c).2.1, (hagree c).2.2.1, (hagree c).2.2.2.2.2.2]
        exact (Cert.GradXRefIdeal.Read.val_main_v74_eq _ _ _).trans (Cert.GradXIdeal.Final.final9 m c).symm),
      (h c).2.2.2.1.trans (by
        rw [(hagree c).2.1]
        exact (Cert.GradXRefIdeal.Read.val_main_v36_eq _).trans (Cert.GradXIdeal.Final.final10 m c).symm),
      (h c).2.2.2.2.1.trans (by
        rw [(hagree c).1, (hagree c).2.1, (hagree c).2.2.2.1, (hagree c).2.2.2.2.1]
        exact (Cert.GradXRefIdeal.Read.val_main_v39_eq _ _ _ _).trans (Cert.GradXIdeal.Final.final11 m c).symm),
      (h c).2.2.2.2.2⟩)
      (Cert.GradXRefIdeal.Value.run (F := Ideal) m' g')⟩

/-- The reference of `LossBwd` ends, with its arguments as they were and every semaphore at zero. -/
theorem frame_LossBwd : Cert.quiescent_LossBwdRefIdeal := by
  intro m ρ _
  refine (θ_run Cert.LossBwdRefIdeal.defs _ _).mono (fun r h => ⟨fun c => ?_, Idealize.ShloMosaic.sem_eq_zero_of_no_sems (by decide) r.2⟩)
    (Cert.LossBwdRefIdeal.Value.run (F := Ideal) m ρ)
  have hc := h c
  simp only [hc, and_self]

set_option maxHeartbeats 4000000 in
/-- The kernel of `LossBwd` and its reference leave the same results. -/
theorem value_LossBwd : Cert.algebraic_LossBwdIdeal_LossBwdRefIdeal := by
  intro m g m' g' hpre hagree
  refine ⟨fun c => (Cert.LossBwdIdeal.Gen.dats m 0 c).arrAt 6 Cert.LossBwdIdeal.cfg0.N, fun c => (Cert.LossBwdIdeal.Gen.dats m 0 c).arrAt 7 Cert.LossBwdIdeal.cfg0.N, fun c => (Cert.LossBwdIdeal.Gen.dats m 0 c).arrAt 8 Cert.LossBwdIdeal.cfg0.N, fun c => (Cert.LossBwdIdeal.Gen.dats m 0 c).arrAt 9 Cert.LossBwdIdeal.cfg0.N, fun c => (Cert.LossBwdIdeal.Gen.dats m 0 c).arrAt 10 Cert.LossBwdIdeal.cfg0.N, fun c => (Cert.LossBwdIdeal.Gen.dats m 0 c).arrAt 11 Cert.LossBwdIdeal.cfg0.N, fun c => (Cert.LossBwdIdeal.Gen.dats m 0 c).arrAt 12 Cert.LossBwdIdeal.cfg0.N,
    Cert.LossBwdIdeal.Value.run_blocks m g,
    (θ_run Cert.LossBwdRefIdeal.defs _ _).mono (fun r h c => ⟨(h c).1.trans (((Cert.LossBwdRefIdeal.Read.val_main_v85_eq (F := Ideal) m' c).trans (by
        show Cert.LossBwdRefIdeal.Read.val_main_v85 (F := Ideal) (m' ((c.tc : Thread Cert.LossBwdRefIdeal.nD Cert.LossBwdRefIdeal.τ).loc Cert.LossBwdRefIdeal.main_arg0)) (m' ((c.tc : Thread Cert.LossBwdRefIdeal.nD Cert.LossBwdRefIdeal.τ).loc Cert.LossBwdRefIdeal.main_arg1)) (m' ((c.tc : Thread Cert.LossBwdRefIdeal.nD Cert.LossBwdRefIdeal.τ).loc Cert.LossBwdRefIdeal.main_arg2)) (m' ((c.tc : Thread Cert.LossBwdRefIdeal.nD Cert.LossBwdRefIdeal.τ).loc Cert.LossBwdRefIdeal.main_arg3)) (m' ((c.tc : Thread Cert.LossBwdRefIdeal.nD Cert.LossBwdRefIdeal.τ).loc Cert.LossBwdRefIdeal.main_arg4)) (m' ((c.tc : Thread Cert.LossBwdRefIdeal.nD Cert.LossBwdRefIdeal.τ).loc Cert.LossBwdRefIdeal.main_arg5)) = _
        rw [(hagree c).1, (hagree c).2.1, (hagree c).2.2.1, (hagree c).2.2.2.1, (hagree c).2.2.2.2.1, (hagree c).2.2.2.2.2])).trans (Cert.LossBwdIdeal.Final.final6 m c).symm),
      (h c).2.1.trans (((Cert.LossBwdRefIdeal.Read.val_main_v86_eq (F := Ideal) m' c).trans (by
        show Cert.LossBwdRefIdeal.Read.val_main_v86 (F := Ideal) (m' ((c.tc : Thread Cert.LossBwdRefIdeal.nD Cert.LossBwdRefIdeal.τ).loc Cert.LossBwdRefIdeal.main_arg0)) (m' ((c.tc : Thread Cert.LossBwdRefIdeal.nD Cert.LossBwdRefIdeal.τ).loc Cert.LossBwdRefIdeal.main_arg1)) (m' ((c.tc : Thread Cert.LossBwdRefIdeal.nD Cert.LossBwdRefIdeal.τ).loc Cert.LossBwdRefIdeal.main_arg2)) (m' ((c.tc : Thread Cert.LossBwdRefIdeal.nD Cert.LossBwdRefIdeal.τ).loc Cert.LossBwdRefIdeal.main_arg3)) (m' ((c.tc : Thread Cert.LossBwdRefIdeal.nD Cert.LossBwdRefIdeal.τ).loc Cert.LossBwdRefIdeal.main_arg4)) (m' ((c.tc : Thread Cert.LossBwdRefIdeal.nD Cert.LossBwdRefIdeal.τ).loc Cert.LossBwdRefIdeal.main_arg5)) = _
        rw [(hagree c).1, (hagree c).2.1, (hagree c).2.2.1, (hagree c).2.2.2.1, (hagree c).2.2.2.2.1, (hagree c).2.2.2.2.2])).trans (Cert.LossBwdIdeal.Final.final7 m c).symm),
      (h c).2.2.1.trans (((Cert.LossBwdRefIdeal.Read.val_main_v87_eq (F := Ideal) m' c).trans (by
        show Cert.LossBwdRefIdeal.Read.val_main_v87 (F := Ideal) (m' ((c.tc : Thread Cert.LossBwdRefIdeal.nD Cert.LossBwdRefIdeal.τ).loc Cert.LossBwdRefIdeal.main_arg0)) (m' ((c.tc : Thread Cert.LossBwdRefIdeal.nD Cert.LossBwdRefIdeal.τ).loc Cert.LossBwdRefIdeal.main_arg1)) (m' ((c.tc : Thread Cert.LossBwdRefIdeal.nD Cert.LossBwdRefIdeal.τ).loc Cert.LossBwdRefIdeal.main_arg2)) (m' ((c.tc : Thread Cert.LossBwdRefIdeal.nD Cert.LossBwdRefIdeal.τ).loc Cert.LossBwdRefIdeal.main_arg3)) (m' ((c.tc : Thread Cert.LossBwdRefIdeal.nD Cert.LossBwdRefIdeal.τ).loc Cert.LossBwdRefIdeal.main_arg4)) (m' ((c.tc : Thread Cert.LossBwdRefIdeal.nD Cert.LossBwdRefIdeal.τ).loc Cert.LossBwdRefIdeal.main_arg5)) = _
        rw [(hagree c).1, (hagree c).2.1, (hagree c).2.2.1, (hagree c).2.2.2.1, (hagree c).2.2.2.2.1, (hagree c).2.2.2.2.2])).trans (Cert.LossBwdIdeal.Final.final8 m c).symm),
      (h c).2.2.2.1.trans (((Cert.LossBwdRefIdeal.Read.val_main_v83_eq (F := Ideal) m' c).trans (by
        show Cert.LossBwdRefIdeal.Read.val_main_v83 (F := Ideal) (m' ((c.tc : Thread Cert.LossBwdRefIdeal.nD Cert.LossBwdRefIdeal.τ).loc Cert.LossBwdRefIdeal.main_arg0)) (m' ((c.tc : Thread Cert.LossBwdRefIdeal.nD Cert.LossBwdRefIdeal.τ).loc Cert.LossBwdRefIdeal.main_arg1)) (m' ((c.tc : Thread Cert.LossBwdRefIdeal.nD Cert.LossBwdRefIdeal.τ).loc Cert.LossBwdRefIdeal.main_arg2)) (m' ((c.tc : Thread Cert.LossBwdRefIdeal.nD Cert.LossBwdRefIdeal.τ).loc Cert.LossBwdRefIdeal.main_arg3)) (m' ((c.tc : Thread Cert.LossBwdRefIdeal.nD Cert.LossBwdRefIdeal.τ).loc Cert.LossBwdRefIdeal.main_arg4)) (m' ((c.tc : Thread Cert.LossBwdRefIdeal.nD Cert.LossBwdRefIdeal.τ).loc Cert.LossBwdRefIdeal.main_arg5)) = _
        rw [(hagree c).1, (hagree c).2.1, (hagree c).2.2.1, (hagree c).2.2.2.1, (hagree c).2.2.2.2.1, (hagree c).2.2.2.2.2])).trans (Cert.LossBwdIdeal.Final.final9 m c).symm),
      (h c).2.2.2.2.1.trans (((Cert.LossBwdRefIdeal.Read.val_main_v88_eq (F := Ideal) m' c).trans (by
        show Cert.LossBwdRefIdeal.Read.val_main_v88 (F := Ideal) (m' ((c.tc : Thread Cert.LossBwdRefIdeal.nD Cert.LossBwdRefIdeal.τ).loc Cert.LossBwdRefIdeal.main_arg0)) (m' ((c.tc : Thread Cert.LossBwdRefIdeal.nD Cert.LossBwdRefIdeal.τ).loc Cert.LossBwdRefIdeal.main_arg1)) (m' ((c.tc : Thread Cert.LossBwdRefIdeal.nD Cert.LossBwdRefIdeal.τ).loc Cert.LossBwdRefIdeal.main_arg2)) (m' ((c.tc : Thread Cert.LossBwdRefIdeal.nD Cert.LossBwdRefIdeal.τ).loc Cert.LossBwdRefIdeal.main_arg3)) (m' ((c.tc : Thread Cert.LossBwdRefIdeal.nD Cert.LossBwdRefIdeal.τ).loc Cert.LossBwdRefIdeal.main_arg4)) (m' ((c.tc : Thread Cert.LossBwdRefIdeal.nD Cert.LossBwdRefIdeal.τ).loc Cert.LossBwdRefIdeal.main_arg5)) = _
        rw [(hagree c).1, (hagree c).2.1, (hagree c).2.2.1, (hagree c).2.2.2.1, (hagree c).2.2.2.2.1, (hagree c).2.2.2.2.2])).trans (Cert.LossBwdIdeal.Final.final10 m c).symm),
      (h c).2.2.2.2.2.1.trans (((Cert.LossBwdRefIdeal.Read.val_main_v89_eq (F := Ideal) m' c).trans (by
        show Cert.LossBwdRefIdeal.Read.val_main_v89 (F := Ideal) (m' ((c.tc : Thread Cert.LossBwdRefIdeal.nD Cert.LossBwdRefIdeal.τ).loc Cert.LossBwdRefIdeal.main_arg0)) (m' ((c.tc : Thread Cert.LossBwdRefIdeal.nD Cert.LossBwdRefIdeal.τ).loc Cert.LossBwdRefIdeal.main_arg1)) (m' ((c.tc : Thread Cert.LossBwdRefIdeal.nD Cert.LossBwdRefIdeal.τ).loc Cert.LossBwdRefIdeal.main_arg2)) (m' ((c.tc : Thread Cert.LossBwdRefIdeal.nD Cert.LossBwdRefIdeal.τ).loc Cert.LossBwdRefIdeal.main_arg3)) (m' ((c.tc : Thread Cert.LossBwdRefIdeal.nD Cert.LossBwdRefIdeal.τ).loc Cert.LossBwdRefIdeal.main_arg4)) (m' ((c.tc : Thread Cert.LossBwdRefIdeal.nD Cert.LossBwdRefIdeal.τ).loc Cert.LossBwdRefIdeal.main_arg5)) = _
        rw [(hagree c).1, (hagree c).2.1, (hagree c).2.2.1, (hagree c).2.2.2.1, (hagree c).2.2.2.2.1, (hagree c).2.2.2.2.2])).trans (Cert.LossBwdIdeal.Final.final11 m c).symm),
      (h c).2.2.2.2.2.2.1.trans (((Cert.LossBwdRefIdeal.Read.val_main_v91_eq (F := Ideal) m' c).trans (by
        show Cert.LossBwdRefIdeal.Read.val_main_v91 (F := Ideal) (m' ((c.tc : Thread Cert.LossBwdRefIdeal.nD Cert.LossBwdRefIdeal.τ).loc Cert.LossBwdRefIdeal.main_arg0)) (m' ((c.tc : Thread Cert.LossBwdRefIdeal.nD Cert.LossBwdRefIdeal.τ).loc Cert.LossBwdRefIdeal.main_arg1)) (m' ((c.tc : Thread Cert.LossBwdRefIdeal.nD Cert.LossBwdRefIdeal.τ).loc Cert.LossBwdRefIdeal.main_arg2)) (m' ((c.tc : Thread Cert.LossBwdRefIdeal.nD Cert.LossBwdRefIdeal.τ).loc Cert.LossBwdRefIdeal.main_arg3)) (m' ((c.tc : Thread Cert.LossBwdRefIdeal.nD Cert.LossBwdRefIdeal.τ).loc Cert.LossBwdRefIdeal.main_arg4)) (m' ((c.tc : Thread Cert.LossBwdRefIdeal.nD Cert.LossBwdRefIdeal.τ).loc Cert.LossBwdRefIdeal.main_arg5)) = _
        rw [(hagree c).1, (hagree c).2.1, (hagree c).2.2.1, (hagree c).2.2.2.1, (hagree c).2.2.2.2.1, (hagree c).2.2.2.2.2])).trans (Cert.LossBwdIdeal.Final.final12 m c).symm),
      (h c).2.2.2.2.2.2.2⟩)
      (Cert.LossBwdRefIdeal.Value.run (F := Ideal) m' g')⟩

theorem claim : Cert.Claim :=
  ⟨Cert.Kernel.Gen.facts,
   Cert.KernelIdeal.Gen.facts,
   Cert.KernelRefIdeal.Gen.facts,
   Cert.Mlp2BwdX.Gen.facts,
   Cert.Mlp2BwdXIdeal.Gen.facts,
   Cert.Mlp2BwdXRefIdeal.Gen.facts,
   Cert.Mlp2BwdW.Gen.facts,
   Cert.Mlp2BwdWIdeal.Gen.facts,
   Cert.Mlp2BwdWRefIdeal.Gen.facts,
   Cert.Mlp1BwdX.Gen.facts,
   Cert.Mlp1BwdXIdeal.Gen.facts,
   Cert.Mlp1BwdXRefIdeal.Gen.facts,
   Cert.Mlp1BwdW.Gen.facts,
   Cert.Mlp1BwdWIdeal.Gen.facts,
   Cert.Mlp1BwdWRefIdeal.Gen.facts,
   Cert.InBwdX.Gen.facts,
   Cert.InBwdXIdeal.Gen.facts,
   Cert.InBwdXRefIdeal.Gen.facts,
   Cert.InBwdW.Gen.facts,
   Cert.InBwdWIdeal.Gen.facts,
   Cert.InBwdWRefIdeal.Gen.facts,
   Cert.OutBwdX.Gen.facts,
   Cert.OutBwdXIdeal.Gen.facts,
   Cert.OutBwdXRefIdeal.Gen.facts,
   Cert.OutBwdW.Gen.facts,
   Cert.OutBwdWIdeal.Gen.facts,
   Cert.OutBwdWRefIdeal.Gen.facts,
   Cert.InProj.Gen.facts,
   Cert.InProjIdeal.Gen.facts,
   Cert.InProjRefIdeal.Gen.facts,
   Cert.OutProj.Gen.facts,
   Cert.OutProjIdeal.Gen.facts,
   Cert.OutProjRefIdeal.Gen.facts,
   Cert.Mlp1.Gen.facts,
   Cert.Mlp1Ideal.Gen.facts,
   Cert.Mlp1RefIdeal.Gen.facts,
   Cert.Mlp2.Gen.facts,
   Cert.Mlp2Ideal.Gen.facts,
   Cert.Mlp2RefIdeal.Gen.facts,
   Cert.AdamMod.Gen.facts,
   Cert.AdamModIdeal.Gen.facts,
   Cert.AdamModRefIdeal.Gen.facts,
   Cert.AdamMlp.Gen.facts,
   Cert.AdamMlpIdeal.Gen.facts,
   Cert.AdamMlpRefIdeal.Gen.facts,
   Cert.AdamIn.Gen.facts,
   Cert.AdamInIdeal.Gen.facts,
   Cert.AdamInRefIdeal.Gen.facts,
   Cert.AdamOut.Gen.facts,
   Cert.AdamOutIdeal.Gen.facts,
   Cert.AdamOutRefIdeal.Gen.facts,
   Cert.AdamSmall.Gen.facts,
   Cert.AdamSmallIdeal.Gen.facts,
   Cert.AdamSmallRefIdeal.Gen.facts,
   Cert.SumSmall.Gen.facts,
   Cert.SumSmallIdeal.Gen.facts,
   Cert.SumSmallRefIdeal.Gen.facts,
   Cert.DmodPrep.Gen.facts,
   Cert.DmodPrepIdeal.Gen.facts,
   Cert.DmodPrepRefIdeal.Gen.facts,
   Cert.ModBwdW.Gen.facts,
   Cert.ModBwdWIdeal.Gen.facts,
   Cert.ModBwdWRefIdeal.Gen.facts,
   Cert.ModBwdC.Gen.facts,
   Cert.ModBwdCIdeal.Gen.facts,
   Cert.ModBwdCRefIdeal.Gen.facts,
   Cert.GradX.Gen.facts,
   Cert.GradXIdeal.Gen.facts,
   Cert.GradXRefIdeal.Gen.facts,
   Cert.LossBwd.Gen.facts,
   Cert.LossBwdIdeal.Gen.facts,
   Cert.LossBwdRefIdeal.Gen.facts,
   fun m ρ _ => Cert.Kernel.Gen.frame m ρ,
   fun m ρ _ => Cert.KernelIdeal.Gen.frame m ρ,
   frame_Kernel,
   fun m ρ _ => Cert.Mlp2BwdX.Gen.frame m ρ,
   fun m ρ _ => Cert.Mlp2BwdXIdeal.Gen.frame m ρ,
   frame_Mlp2BwdX,
   fun m ρ _ => Cert.Mlp2BwdW.Gen.frame m ρ,
   fun m ρ _ => Cert.Mlp2BwdWIdeal.Gen.frame m ρ,
   frame_Mlp2BwdW,
   fun m ρ _ => Cert.Mlp1BwdX.Gen.frame m ρ,
   fun m ρ _ => Cert.Mlp1BwdXIdeal.Gen.frame m ρ,
   frame_Mlp1BwdX,
   fun m ρ _ => Cert.Mlp1BwdW.Gen.frame m ρ,
   fun m ρ _ => Cert.Mlp1BwdWIdeal.Gen.frame m ρ,
   frame_Mlp1BwdW,
   fun m ρ _ => Cert.InBwdX.Gen.frame m ρ,
   fun m ρ _ => Cert.InBwdXIdeal.Gen.frame m ρ,
   frame_InBwdX,
   fun m ρ _ => Cert.InBwdW.Gen.frame m ρ,
   fun m ρ _ => Cert.InBwdWIdeal.Gen.frame m ρ,
   frame_InBwdW,
   fun m ρ _ => Cert.OutBwdX.Gen.frame m ρ,
   fun m ρ _ => Cert.OutBwdXIdeal.Gen.frame m ρ,
   frame_OutBwdX,
   fun m ρ _ => Cert.OutBwdW.Gen.frame m ρ,
   fun m ρ _ => Cert.OutBwdWIdeal.Gen.frame m ρ,
   frame_OutBwdW,
   fun m ρ _ => Cert.InProj.Gen.frame m ρ,
   fun m ρ _ => Cert.InProjIdeal.Gen.frame m ρ,
   frame_InProj,
   fun m ρ _ => Cert.OutProj.Gen.frame m ρ,
   fun m ρ _ => Cert.OutProjIdeal.Gen.frame m ρ,
   frame_OutProj,
   fun m ρ _ => Cert.Mlp1.Gen.frame m ρ,
   fun m ρ _ => Cert.Mlp1Ideal.Gen.frame m ρ,
   frame_Mlp1,
   fun m ρ _ => Cert.Mlp2.Gen.frame m ρ,
   fun m ρ _ => Cert.Mlp2Ideal.Gen.frame m ρ,
   frame_Mlp2,
   fun m ρ _ => Cert.AdamMod.Gen.frame m ρ,
   fun m ρ _ => Cert.AdamModIdeal.Gen.frame m ρ,
   frame_AdamMod,
   fun m ρ _ => Cert.AdamMlp.Gen.frame m ρ,
   fun m ρ _ => Cert.AdamMlpIdeal.Gen.frame m ρ,
   frame_AdamMlp,
   fun m ρ _ => Cert.AdamIn.Gen.frame m ρ,
   fun m ρ _ => Cert.AdamInIdeal.Gen.frame m ρ,
   frame_AdamIn,
   fun m ρ _ => Cert.AdamOut.Gen.frame m ρ,
   fun m ρ _ => Cert.AdamOutIdeal.Gen.frame m ρ,
   frame_AdamOut,
   fun m ρ _ => Cert.AdamSmall.Gen.frame m ρ,
   fun m ρ _ => Cert.AdamSmallIdeal.Gen.frame m ρ,
   frame_AdamSmall,
   fun m ρ _ => Cert.SumSmall.Gen.frame m ρ,
   fun m ρ _ => Cert.SumSmallIdeal.Gen.frame m ρ,
   frame_SumSmall,
   fun m ρ _ => Cert.DmodPrep.Gen.frame m ρ,
   fun m ρ _ => Cert.DmodPrepIdeal.Gen.frame m ρ,
   frame_DmodPrep,
   fun m ρ _ => Cert.ModBwdW.Gen.frame m ρ,
   fun m ρ _ => Cert.ModBwdWIdeal.Gen.frame m ρ,
   frame_ModBwdW,
   fun m ρ _ => Cert.ModBwdC.Gen.frame m ρ,
   fun m ρ _ => Cert.ModBwdCIdeal.Gen.frame m ρ,
   frame_ModBwdC,
   fun m ρ _ => Cert.GradX.Gen.frame m ρ,
   fun m ρ _ => Cert.GradXIdeal.Gen.frame m ρ,
   frame_GradX,
   fun m ρ _ => Cert.LossBwd.Gen.frame m ρ,
   fun m ρ _ => Cert.LossBwdIdeal.Gen.frame m ρ,
   frame_LossBwd,
   trivial,
   value_Kernel,
   trivial,
   value_Mlp2BwdX,
   trivial,
   value_Mlp2BwdW,
   trivial,
   value_Mlp1BwdX,
   trivial,
   value_Mlp1BwdW,
   trivial,
   value_InBwdX,
   trivial,
   value_InBwdW,
   trivial,
   value_OutBwdX,
   trivial,
   value_OutBwdW,
   trivial,
   value_InProj,
   trivial,
   value_OutProj,
   trivial,
   value_Mlp1,
   trivial,
   value_Mlp2,
   trivial,
   value_AdamMod,
   trivial,
   value_AdamMlp,
   trivial,
   value_AdamIn,
   trivial,
   value_AdamOut,
   trivial,
   value_AdamSmall,
   trivial,
   value_SumSmall,
   trivial,
   value_DmodPrep,
   trivial,
   value_ModBwdW,
   trivial,
   value_ModBwdC,
   trivial,
   value_GradX,
   trivial,
   value_LossBwd⟩

end Cert.Proof

end
